-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_weights [hPre_finite_weights : Cert.Pre_finite_weights.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_weights.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 = (fun _ => 1#1)
    ∧ (Cert.Pre_finite_weights.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_weights [hPre_finite_weights : Cert.Pre_finite_weights.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_weights.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).1 = (fun _ => 1#1)
    ∧ (Cert.Pre_finite_weights.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_weights0 [hPre_finite_weights0 : Cert.Pre_finite_weights0.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_weights0.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).1 = (fun _ => 1#1)
    ∧ (Cert.Pre_finite_weights0.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_weights0 [hPre_finite_weights0 : Cert.Pre_finite_weights0.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_weights0.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).1 = (fun _ => 1#1)
    ∧ (Cert.Pre_finite_weights0.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_heads [hPre_finite_heads : Cert.Pre_finite_heads.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_heads.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).1 = (fun _ => 1#1)
    ∧ (Cert.Pre_finite_heads.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).2.1 = (fun _ => 1#1)
    ∧ (Cert.Pre_finite_heads.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).2.2.1 = (fun _ => 1#1)
    ∧ (Cert.Pre_finite_heads.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_heads [hPre_finite_heads : Cert.Pre_finite_heads.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_heads.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).1 = (fun _ => 1#1)
    ∧ (Cert.Pre_finite_heads.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).2.1 = (fun _ => 1#1)
    ∧ (Cert.Pre_finite_heads.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).2.2.1 = (fun _ => 1#1)
    ∧ (Cert.Pre_finite_heads.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite_weights [hKernel2Ideal : Cert.Kernel2Ideal.Facts] [hPre_finite_weights : Cert.Pre_finite_weights.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_weights m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite_weights [hReference2Ideal : Cert.Reference2Ideal.Facts] [hPre_finite_weights : Cert.Pre_finite_weights.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_weights m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Kernel3Ideal_pre_finite_weights0 [hKernel3Ideal : Cert.Kernel3Ideal.Facts] [hPre_finite_weights0 : Cert.Pre_finite_weights0.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_weights0 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_finite_weights0 [hReference3Ideal : Cert.Reference3Ideal.Facts] [hPre_finite_weights0 : Cert.Pre_finite_weights0.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_weights0 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Kernel4Ideal_pre_finite_heads [hKernel4Ideal : Cert.Kernel4Ideal.Facts] [hPre_finite_heads : Cert.Pre_finite_heads.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_heads m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4Ideal_pre_finite_heads [hReference4Ideal : Cert.Reference4Ideal.Facts] [hPre_finite_heads : Cert.Pre_finite_heads.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_heads m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Kernel2_Kernel2Ideal : Prop :=
  True

def algebraic_Kernel2Ideal_Reference2Ideal_pre_finite_weights [hKernel2Ideal : Cert.Kernel2Ideal.Facts] [hReference2Ideal : Cert.Reference2Ideal.Facts] [hPre_finite_weights : Cert.Pre_finite_weights.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_weights m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v30)) (v1 : (c : Dev Cert.Kernel2Ideal.nD) → Buf (Elt Ideal) ((c.tc : Thread Cert.Kernel2Ideal.nD Cert.Kernel2Ideal.τ).loc Cert.Kernel2Ideal.main_v32)) (v2 : (c : Dev Cert.Kernel2Ideal.nD) → Buf (Elt Ideal) ((c.tc : Thread Cert.Kernel2Ideal.nD Cert.Kernel2Ideal.τ).loc Cert.Kernel2Ideal.main_v34)) (v3 : (c : Dev Cert.Kernel2Ideal.nD) → Buf (Elt Ideal) ((c.tc : Thread Cert.Kernel2Ideal.nD Cert.Kernel2Ideal.τ).loc Cert.Kernel2Ideal.main_v35)) (v4 : (c : Dev Cert.Kernel2Ideal.nD) → Buf (Elt Ideal) ((c.tc : Thread Cert.Kernel2Ideal.nD Cert.Kernel2Ideal.τ).loc Cert.Kernel2Ideal.main_v36)) (v5 : (c : Dev Cert.Kernel2Ideal.nD) → Buf (Elt Ideal) ((c.tc : Thread Cert.Kernel2Ideal.nD Cert.Kernel2Ideal.τ).loc Cert.Kernel2Ideal.main_v26)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v30) = v0 c
          ∧ r.2.mem ((c.tc : Thread Cert.Kernel2Ideal.nD Cert.Kernel2Ideal.τ).loc Cert.Kernel2Ideal.main_v32) = v1 c
          ∧ r.2.mem ((c.tc : Thread Cert.Kernel2Ideal.nD Cert.Kernel2Ideal.τ).loc Cert.Kernel2Ideal.main_v34) = v2 c
          ∧ r.2.mem ((c.tc : Thread Cert.Kernel2Ideal.nD Cert.Kernel2Ideal.τ).loc Cert.Kernel2Ideal.main_v35) = v3 c
          ∧ r.2.mem ((c.tc : Thread Cert.Kernel2Ideal.nD Cert.Kernel2Ideal.τ).loc Cert.Kernel2Ideal.main_v36) = v4 c
          ∧ r.2.mem ((c.tc : Thread Cert.Kernel2Ideal.nD Cert.Kernel2Ideal.τ).loc Cert.Kernel2Ideal.main_v26) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v35) = v0 c
          ∧ r.2.mem ((c.tc : Thread Cert.Reference2Ideal.nD Cert.Reference2Ideal.τ).loc Cert.Reference2Ideal.main_v36) = v1 c
          ∧ r.2.mem ((c.tc : Thread Cert.Reference2Ideal.nD Cert.Reference2Ideal.τ).loc Cert.Reference2Ideal.main_v40) = v2 c
          ∧ r.2.mem ((c.tc : Thread Cert.Reference2Ideal.nD Cert.Reference2Ideal.τ).loc Cert.Reference2Ideal.main_v72) = v3 c
          ∧ r.2.mem ((c.tc : Thread Cert.Reference2Ideal.nD Cert.Reference2Ideal.τ).loc Cert.Reference2Ideal.main_v73) = v4 c
          ∧ r.2.mem ((c.tc : Thread Cert.Reference2Ideal.nD Cert.Reference2Ideal.τ).loc Cert.Reference2Ideal.main_v77) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal_pre_finite_weights0 [hKernel3Ideal : Cert.Kernel3Ideal.Facts] [hReference3Ideal : Cert.Reference3Ideal.Facts] [hPre_finite_weights0 : Cert.Pre_finite_weights0.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_weights0 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v40)) (v1 : (c : Dev Cert.Kernel3Ideal.nD) → Buf (Elt Ideal) ((c.tc : Thread Cert.Kernel3Ideal.nD Cert.Kernel3Ideal.τ).loc Cert.Kernel3Ideal.main_v42)) (v2 : (c : Dev Cert.Kernel3Ideal.nD) → Buf (Elt Ideal) ((c.tc : Thread Cert.Kernel3Ideal.nD Cert.Kernel3Ideal.τ).loc Cert.Kernel3Ideal.main_v44)) (v3 : (c : Dev Cert.Kernel3Ideal.nD) → Buf (Elt Ideal) ((c.tc : Thread Cert.Kernel3Ideal.nD Cert.Kernel3Ideal.τ).loc Cert.Kernel3Ideal.main_v46)) (v4 : (c : Dev Cert.Kernel3Ideal.nD) → Buf (Elt Ideal) ((c.tc : Thread Cert.Kernel3Ideal.nD Cert.Kernel3Ideal.τ).loc Cert.Kernel3Ideal.main_v48)) (v5 : (c : Dev Cert.Kernel3Ideal.nD) → Buf (Elt Ideal) ((c.tc : Thread Cert.Kernel3Ideal.nD Cert.Kernel3Ideal.τ).loc Cert.Kernel3Ideal.main_v49)) (v6 : (c : Dev Cert.Kernel3Ideal.nD) → Buf (Elt Ideal) ((c.tc : Thread Cert.Kernel3Ideal.nD Cert.Kernel3Ideal.τ).loc Cert.Kernel3Ideal.main_v50)) (v7 : (c : Dev Cert.Kernel3Ideal.nD) → Buf (Elt Ideal) ((c.tc : Thread Cert.Kernel3Ideal.nD Cert.Kernel3Ideal.τ).loc Cert.Kernel3Ideal.main_v51)) (v8 : (c : Dev Cert.Kernel3Ideal.nD) → Buf (Elt Ideal) ((c.tc : Thread Cert.Kernel3Ideal.nD Cert.Kernel3Ideal.τ).loc Cert.Kernel3Ideal.main_v52)) (v9 : (c : Dev Cert.Kernel3Ideal.nD) → Buf (Elt Ideal) ((c.tc : Thread Cert.Kernel3Ideal.nD Cert.Kernel3Ideal.τ).loc Cert.Kernel3Ideal.main_v53)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v40) = v0 c
          ∧ r.2.mem ((c.tc : Thread Cert.Kernel3Ideal.nD Cert.Kernel3Ideal.τ).loc Cert.Kernel3Ideal.main_v42) = v1 c
          ∧ r.2.mem ((c.tc : Thread Cert.Kernel3Ideal.nD Cert.Kernel3Ideal.τ).loc Cert.Kernel3Ideal.main_v44) = v2 c
          ∧ r.2.mem ((c.tc : Thread Cert.Kernel3Ideal.nD Cert.Kernel3Ideal.τ).loc Cert.Kernel3Ideal.main_v46) = v3 c
          ∧ r.2.mem ((c.tc : Thread Cert.Kernel3Ideal.nD Cert.Kernel3Ideal.τ).loc Cert.Kernel3Ideal.main_v48) = v4 c
          ∧ r.2.mem ((c.tc : Thread Cert.Kernel3Ideal.nD Cert.Kernel3Ideal.τ).loc Cert.Kernel3Ideal.main_v49) = v5 c
          ∧ r.2.mem ((c.tc : Thread Cert.Kernel3Ideal.nD Cert.Kernel3Ideal.τ).loc Cert.Kernel3Ideal.main_v50) = v6 c
          ∧ r.2.mem ((c.tc : Thread Cert.Kernel3Ideal.nD Cert.Kernel3Ideal.τ).loc Cert.Kernel3Ideal.main_v51) = v7 c
          ∧ r.2.mem ((c.tc : Thread Cert.Kernel3Ideal.nD Cert.Kernel3Ideal.τ).loc Cert.Kernel3Ideal.main_v52) = v8 c
          ∧ r.2.mem ((c.tc : Thread Cert.Kernel3Ideal.nD Cert.Kernel3Ideal.τ).loc Cert.Kernel3Ideal.main_v53) = v9 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v40) = v0 c
          ∧ r.2.mem ((c.tc : Thread Cert.Reference3Ideal.nD Cert.Reference3Ideal.τ).loc Cert.Reference3Ideal.main_v41) = v1 c
          ∧ r.2.mem ((c.tc : Thread Cert.Reference3Ideal.nD Cert.Reference3Ideal.τ).loc Cert.Reference3Ideal.main_v54) = v2 c
          ∧ r.2.mem ((c.tc : Thread Cert.Reference3Ideal.nD Cert.Reference3Ideal.τ).loc Cert.Reference3Ideal.main_v23) = v3 c
          ∧ r.2.mem ((c.tc : Thread Cert.Reference3Ideal.nD Cert.Reference3Ideal.τ).loc Cert.Reference3Ideal.main_v25) = v4 c
          ∧ r.2.mem ((c.tc : Thread Cert.Reference3Ideal.nD Cert.Reference3Ideal.τ).loc Cert.Reference3Ideal.main_v91) = v5 c
          ∧ r.2.mem ((c.tc : Thread Cert.Reference3Ideal.nD Cert.Reference3Ideal.τ).loc Cert.Reference3Ideal.main_v92) = v6 c
          ∧ r.2.mem ((c.tc : Thread Cert.Reference3Ideal.nD Cert.Reference3Ideal.τ).loc Cert.Reference3Ideal.main_v105) = v7 c
          ∧ r.2.mem ((c.tc : Thread Cert.Reference3Ideal.nD Cert.Reference3Ideal.τ).loc Cert.Reference3Ideal.main_v74) = v8 c
          ∧ r.2.mem ((c.tc : Thread Cert.Reference3Ideal.nD Cert.Reference3Ideal.τ).loc Cert.Reference3Ideal.main_v76) = v9 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  IdealRules.named_const.Statement Cert.Kernel4Ideal.κ "mask" .f32 0xF149F2CA#32 ⊥

def algebraic_Kernel4Ideal_Reference4Ideal_pre_finite_heads [hKernel4Ideal : Cert.Kernel4Ideal.Facts] [hReference4Ideal : Cert.Reference4Ideal.Facts] [hPre_finite_heads : Cert.Pre_finite_heads.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_heads m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v12)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v12) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v33) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_inputs : Cert.Pre_finite_inputs.Facts) (hPre_finite_weights : Cert.Pre_finite_weights.Facts) (hPre_finite_weights0 : Cert.Pre_finite_weights0.Facts) (hPre_finite_heads : Cert.Pre_finite_heads.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Kernel2Ideal_pre_finite_weights (hKernel2Ideal := hKernel2Ideal) (hPre_finite_weights := hPre_finite_weights)
    ∧ quiescent_Reference2Ideal (hReference2Ideal := hReference2Ideal)
    ∧ quiescent_Reference2Ideal_pre_finite_weights (hReference2Ideal := hReference2Ideal) (hPre_finite_weights := hPre_finite_weights)
    ∧ quiescent_Kernel3 (hKernel3 := hKernel3)
    ∧ quiescent_Kernel3Ideal (hKernel3Ideal := hKernel3Ideal)
    ∧ quiescent_Kernel3Ideal_pre_finite_weights0 (hKernel3Ideal := hKernel3Ideal) (hPre_finite_weights0 := hPre_finite_weights0)
    ∧ quiescent_Reference3Ideal (hReference3Ideal := hReference3Ideal)
    ∧ quiescent_Reference3Ideal_pre_finite_weights0 (hReference3Ideal := hReference3Ideal) (hPre_finite_weights0 := hPre_finite_weights0)
    ∧ quiescent_Kernel4 (hKernel4 := hKernel4)
    ∧ quiescent_Kernel4Ideal (hKernel4Ideal := hKernel4Ideal)
    ∧ quiescent_Kernel4Ideal_pre_finite_heads (hKernel4Ideal := hKernel4Ideal) (hPre_finite_heads := hPre_finite_heads)
    ∧ quiescent_Reference4Ideal (hReference4Ideal := hReference4Ideal)
    ∧ quiescent_Reference4Ideal_pre_finite_heads (hReference4Ideal := hReference4Ideal) (hPre_finite_heads := hPre_finite_heads)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal_pre_finite_weights (hKernel2Ideal := hKernel2Ideal) (hReference2Ideal := hReference2Ideal) (hPre_finite_weights := hPre_finite_weights)
    ∧ preserves_Kernel3_Kernel3Ideal
    ∧ algebraic_Kernel3Ideal_Reference3Ideal_pre_finite_weights0 (hKernel3Ideal := hKernel3Ideal) (hReference3Ideal := hReference3Ideal) (hPre_finite_weights0 := hPre_finite_weights0)
    ∧ preserves_Kernel4_Kernel4Ideal
    ∧ algebraic_Kernel4Ideal_Reference4Ideal_pre_finite_heads (hKernel4Ideal := hKernel4Ideal) (hReference4Ideal := hReference4Ideal) (hPre_finite_heads := hPre_finite_heads)
-- ==== Pre_finite_heads.lean ====
abbrev S8x2048x16x64 : Shape := ⟨4, ![8, 2048, 16, 64]⟩
abbrev S8x2048x16 : Shape := ⟨3, ![8, 2048, 16]⟩
abbrev S_ : Shape := ⟨0, ![]⟩

class Facts : Prop where
  bcast_S_S8x2048x16x64 : S_.BroadcastsInDim S8x2048x16x64 (![] : Fin 0 → Fin S8x2048x16x64.rank)
  bcast_S_S8x2048x16 : S_.BroadcastsInDim S8x2048x16 (![] : Fin 0 → Fin S8x2048x16.rank)

variable [Facts]

def fn {F : FTy → Type} [FloatOps F] (main_arg0 : FVec F S8x2048x16x64 .f32) (main_arg1 : FVec F S8x2048x16x64 .f32) (main_arg2 : FVec F S8x2048x16x64 .f32) (main_arg3 : FVec F S8x2048x16 .f32) : IVec S8x2048x16x64 1 × IVec S8x2048x16x64 1 × IVec S8x2048x16x64 1 × IVec S8x2048x16 1 :=
  let main_v0 : FVec F S8x2048x16x64 .f32 := Host.absf main_arg0
  let main_cst : FVec F S_ .f32 := constant S_ .f32 0x7F800000#32
  let main_v1 : FVec F S8x2048x16x64 .f32 := broadcastInDim S8x2048x16x64 ![] bcast_S_S8x2048x16x64 main_cst
  let main_v2 : IVec S8x2048x16x64 1 := cmpf .olt main_v0 main_v1
  let main_v3 : FVec F S8x2048x16x64 .f32 := Host.absf main_arg1
  let main_cst_0 : FVec F S_ .f32 := constant S_ .f32 0x7F800000#32
  let main_v4 : FVec F S8x2048x16x64 .f32 := broadcastInDim S8x2048x16x64 ![] bcast_S_S8x2048x16x64 main_cst_0
  let main_v5 : IVec S8x2048x16x64 1 := cmpf .olt main_v3 main_v4
  let main_v6 : FVec F S8x2048x16x64 .f32 := Host.absf main_arg2
  let main_cst_1 : FVec F S_ .f32 := constant S_ .f32 0x7F800000#32
  let main_v7 : FVec F S8x2048x16x64 .f32 := broadcastInDim S8x2048x16x64 ![] bcast_S_S8x2048x16x64 main_cst_1
  let main_v8 : IVec S8x2048x16x64 1 := cmpf .olt main_v6 main_v7
  let main_v9 : FVec F S8x2048x16 .f32 := Host.absf main_arg3
  let main_cst_2 : FVec F S_ .f32 := constant S_ .f32 0x7F800000#32
  let main_v10 : FVec F S8x2048x16 .f32 := broadcastInDim S8x2048x16 ![] bcast_S_S8x2048x16 main_cst_2
  let main_v11 : IVec S8x2048x16 1 := cmpf .olt main_v9 main_v10
  (main_v2, main_v5, main_v8, main_v11)
-- ==== Pre_finite_inputs.lean ====
abbrev S16896x1024 : Shape := ⟨2, ![16896, 1024]⟩
abbrev S16384x1024 : Shape := ⟨2, ![16384, 1024]⟩
abbrev S512x1024 : Shape := ⟨2, ![512, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S4x8x1024x256 : Shape := ⟨4, ![4, 8, 1024, 256]⟩
abbrev S4x8x256x1024 : Shape := ⟨4, ![4, 8, 256, 1024]⟩
abbrev S_ : Shape := ⟨0, ![]⟩

class Facts : Prop where
  bcast_S_S1024 : S_.BroadcastsInDim S1024 (![] : Fin 0 → Fin S1024.rank)
  bcast_S_S1024x4 : S_.BroadcastsInDim S1024x4 (![] : Fin 0 → Fin S1024x4.rank)
  bcast_S_S4 : S_.BroadcastsInDim S4 (![] : Fin 0 → Fin S4.rank)
  bcast_S_S1024x32 : S_.BroadcastsInDim S1024x32 (![] : Fin 0 → Fin S1024x32.rank)
  bcast_S_S32 : S_.BroadcastsInDim S32 (![] : Fin 0 → Fin S32.rank)

variable [Facts]

def fn {F : FTy → Type} [FloatOps F] (main_arg0 : FVec F S16896x1024 .f32) (main_arg1 : FVec F S16384x1024 .bf16) (main_arg2 : FVec F S512x1024 .f32) (main_arg3 : FVec F S1024x1024 .f32) (main_arg4 : FVec F S1024 .f32) (main_arg5 : FVec F S1024x4 .f32) (main_arg6 : FVec F S4 .f32) (main_arg7 : FVec F S1024x32 .f32) (main_arg8 : FVec F S32 .f32) (main_arg9 : FVec F S4x8x1024x256 .f32) (main_arg10 : FVec F S4x8x1024x256 .f32) (main_arg11 : FVec F S4x8x256x1024 .f32) : IVec S1024 1 × IVec S1024x4 1 × IVec S4 1 × IVec S1024x32 1 × IVec S32 1 :=
  let main_v0 : FVec F S1024 .f32 := Host.absf main_arg4
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x4 .f32 := Host.absf main_arg5
  let main_cst_0 : FVec F S_ .f32 := constant S_ .f32 0x7F800000#32
  let main_v4 : FVec F S1024x4 .f32 := broadcastInDim S1024x4 ![] bcast_S_S1024x4 main_cst_0
  let main_v5 : IVec S1024x4 1 := cmpf .olt main_v3 main_v4
  let main_v6 : FVec F S4 .f32 := Host.absf main_arg6
  let main_cst_1 : FVec F S_ .f32 := constant S_ .f32 0x7F800000#32
  let main_v7 : FVec F S4 .f32 := broadcastInDim S4 ![] bcast_S_S4 main_cst_1
  let main_v8 : IVec S4 1 := cmpf .olt main_v6 main_v7
  let main_v9 : FVec F S1024x32 .f32 := Host.absf main_arg7
  let main_cst_2 : FVec F S_ .f32 := constant S_ .f32 0x7F800000#32
  let main_v10 : FVec F S1024x32 .f32 := broadcastInDim S1024x32 ![] bcast_S_S1024x32 main_cst_2
  let main_v11 : IVec S1024x32 1 := cmpf .olt main_v9 main_v10
  let main_v12 : FVec F S32 .f32 := Host.absf main_arg8
  let main_cst_3 : FVec F S_ .f32 := constant S_ .f32 0x7F800000#32
  let main_v13 : FVec F S32 .f32 := broadcastInDim S32 ![] bcast_S_S32 main_cst_3
  let main_v14 : IVec S32 1 := cmpf .olt main_v12 main_v13
  (main_v2, main_v5, main_v8, main_v11, main_v14)
-- ==== Pre_finite_weights.lean ====
abbrev S16896x1024 : Shape := ⟨2, ![16896, 1024]⟩
abbrev S1024 : Shape := ⟨1, ![1024]⟩
abbrev S1024x3088 : Shape := ⟨2, ![1024, 3088]⟩
abbrev S16 : Shape := ⟨1, ![16]⟩
abbrev S64 : Shape := ⟨1, ![64]⟩
abbrev S_ : Shape := ⟨0, ![]⟩

class Facts : Prop where
  bcast_S_S1024 : S_.BroadcastsInDim S1024 (![] : Fin 0 → Fin S1024.rank)
  bcast_S_S1024x3088 : S_.BroadcastsInDim S1024x3088 (![] : Fin 0 → Fin S1024x3088.rank)

variable [Facts]

def fn {F : FTy → Type} [FloatOps F] (main_arg0 : FVec F S16896x1024 .f32) (main_arg1 : FVec F S1024 .f32) (main_arg2 : FVec F S1024x3088 .f32) (main_arg3 : FVec F S16 .f32) (main_arg4 : FVec F S64 .f32) (main_arg5 : FVec F S64 .f32) : IVec S1024 1 × IVec S1024x3088 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x3088 .f32 := Host.absf main_arg2
  let main_cst_0 : FVec F S_ .f32 := constant S_ .f32 0x7F800000#32
  let main_v4 : FVec F S1024x3088 .f32 := broadcastInDim S1024x3088 ![] bcast_S_S1024x3088 main_cst_0
  let main_v5 : IVec S1024x3088 1 := cmpf .olt main_v3 main_v4
  (main_v2, main_v5)
-- ==== Pre_finite_weights0.lean ====
abbrev S16896x1024 : Shape := ⟨2, ![16896, 1024]⟩
abbrev S1024 : Shape := ⟨1, ![1024]⟩
abbrev S1024x2760 : Shape := ⟨2, ![1024, 2760]⟩
abbrev S64 : Shape := ⟨1, ![64]⟩
abbrev S_ : Shape := ⟨0, ![]⟩

class Facts : Prop where
  bcast_S_S1024 : S_.BroadcastsInDim S1024 (![] : Fin 0 → Fin S1024.rank)
  bcast_S_S1024x2760 : S_.BroadcastsInDim S1024x2760 (![] : Fin 0 → Fin S1024x2760.rank)

variable [Facts]

def fn {F : FTy → Type} [FloatOps F] (main_arg0 : FVec F S16896x1024 .f32) (main_arg1 : FVec F S1024 .f32) (main_arg2 : FVec F S1024x2760 .f32) (main_arg3 : FVec F S64 .f32) (main_arg4 : FVec F S64 .f32) (main_arg5 : FVec F S64 .f32) (main_arg6 : FVec F S64 .f32) : IVec S1024 1 × IVec S1024x2760 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x2760 .f32 := Host.absf main_arg2
  let main_cst_0 : FVec F S_ .f32 := constant S_ .f32 0x7F800000#32
  let main_v4 : FVec F S1024x2760 .f32 := broadcastInDim S1024x2760 ![] bcast_S_S1024x2760 main_cst_0
  let main_v5 : IVec S1024x2760 1 := cmpf .olt main_v3 main_v4
  (main_v2, main_v5)
-- ==== Kernel.lean ====
abbrev S16896x1024 : Shape := ⟨2, ![16896, 1024]⟩
abbrev S16384x1024 : Shape := ⟨2, ![16384, 1024]⟩
abbrev S512x1024 : Shape := ⟨2, ![512, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S4x8x1024x256 : Shape := ⟨4, ![4, 8, 1024, 256]⟩
abbrev S4x8x256x1024 : Shape := ⟨4, ![4, 8, 256, 1024]⟩
abbrev S_ : Shape := ⟨0, ![]⟩
abbrev S1024x92 : Shape := ⟨2, ![1024, 92]⟩
abbrev S1024x128 : Shape := ⟨2, ![1024, 128]⟩
abbrev S92 : Shape := ⟨1, ![92]⟩
abbrev S128 : Shape := ⟨1, ![128]⟩
abbrev S1x128 : Shape := ⟨2, ![1, 128]⟩
abbrev S1x1024 : Shape := ⟨2, ![1, 1024]⟩
abbrev S16896x128 : Shape := ⟨2, ![16896, 128]⟩
abbrev S512x128 : Shape := ⟨2, ![512, 128]⟩
abbrev S512 : Shape := ⟨1, ![512]⟩
abbrev S512x1 : Shape := ⟨2, ![512, 1]⟩
abbrev S32x1024x256 : Shape := ⟨3, ![32, 1024, 256]⟩
abbrev S32x1024x512 : Shape := ⟨3, ![32, 1024, 512]⟩
abbrev S32x256x1024 : Shape := ⟨3, ![32, 256, 1024]⟩
abbrev S1536x1024 : Shape := ⟨2, ![1536, 1024]⟩
abbrev S1536x128 : Shape := ⟨2, ![1536, 128]⟩
abbrev S4x1024x512 : Shape := ⟨3, ![4, 1024, 512]⟩
abbrev S4x256x1024 : Shape := ⟨3, ![4, 256, 1024]⟩
abbrev S1x1024x512 : Shape := ⟨3, ![1, 1024, 512]⟩
abbrev S1024x512 : Shape := ⟨2, ![1024, 512]⟩
abbrev S1536x512 : Shape := ⟨2, ![1536, 512]⟩
abbrev S1536x256 : Shape := ⟨2, ![1536, 256]⟩
abbrev S1536x1 : Shape := ⟨2, ![1536, 1]⟩
abbrev S1x256x1024 : Shape := ⟨3, ![1, 256, 1024]⟩
abbrev S256x1024 : Shape := ⟨2, ![256, 1024]⟩

abbrev nBuf : Space → Nat
  | .hbm => 36
  | .vmem => 26
  | .smem => 0
  | _ => 0

abbrev bufTy : (tb : Table) → Fin (tcTables nBuf tb) → BufTy
  | .hbm, ⟨0, _⟩ => ⟨S16896x1024, .f32⟩
  | .hbm, ⟨1, _⟩ => ⟨S16384x1024, .bf16⟩
  | .hbm, ⟨2, _⟩ => ⟨S512x1024, .f32⟩
  | .hbm, ⟨3, _⟩ => ⟨S1024x1024, .f32⟩
  | .hbm, ⟨4, _⟩ => ⟨S1024, .f32⟩
  | .hbm, ⟨5, _⟩ => ⟨S1024x4, .f32⟩
  | .hbm, ⟨6, _⟩ => ⟨S4, .f32⟩
  | .hbm, ⟨7, _⟩ => ⟨S1024x32, .f32⟩
  | .hbm, ⟨8, _⟩ => ⟨S32, .f32⟩
  | .hbm, ⟨9, _⟩ => ⟨S4x8x1024x256, .f32⟩
  | .hbm, ⟨10, _⟩ => ⟨S4x8x1024x256, .f32⟩
  | .hbm, ⟨11, _⟩ => ⟨S4x8x256x1024, .f32⟩
  | .hbm, ⟨12, _⟩ => ⟨S_, .f32⟩
  | .hbm, ⟨13, _⟩ => ⟨S1024x92, .f32⟩
  | .hbm, ⟨14, _⟩ => ⟨S1024x128, .f32⟩
  | .hbm, ⟨15, _⟩ => ⟨S1024x128, .bf16⟩
  | .hbm, ⟨16, _⟩ => ⟨S1024x128, .f32⟩
  | .hbm, ⟨17, _⟩ => ⟨S1024x128, .f32⟩
  | .hbm, ⟨18, _⟩ => ⟨S1024x128, .bf16⟩
  | .hbm, ⟨19, _⟩ => ⟨S_, .f32⟩
  | .hbm, ⟨20, _⟩ => ⟨S92, .f32⟩
  | .hbm, ⟨21, _⟩ => ⟨S128, .f32⟩
  | .hbm, ⟨22, _⟩ => ⟨S1x128, .f32⟩
  | .hbm, ⟨23, _⟩ => ⟨S1x1024, .f32⟩
  | .hbm, ⟨24, _⟩ => ⟨S512x1024, .bf16⟩
  | .hbm, ⟨25, _⟩ => ⟨S1024x1024, .bf16⟩
  | .hbm, ⟨26, _⟩ => ⟨S16896x1024, .f32⟩
  | .hbm, ⟨27, _⟩ => ⟨S16896x1024, .bf16⟩
  | .hbm, ⟨28, _⟩ => ⟨S16896x128, .f32⟩
  | .hbm, ⟨29, _⟩ => ⟨S32x1024x256, .f32⟩
  | .hbm, ⟨30, _⟩ => ⟨S32x1024x256, .f32⟩
  | .hbm, ⟨31, _⟩ => ⟨S32x1024x512, .f32⟩
  | .hbm, ⟨32, _⟩ => ⟨S32x1024x512, .bf16⟩
  | .hbm, ⟨33, _⟩ => ⟨S32x256x1024, .f32⟩
  | .hbm, ⟨34, _⟩ => ⟨S32x256x1024, .bf16⟩
  | .hbm, ⟨35, _⟩ => ⟨S16896x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x1024, .bf16⟩
  | .local _ .vmem, ⟨7, _⟩ => ⟨S1x1024, .f32⟩
  | .local _ .vmem, ⟨8, _⟩ => ⟨S1024x128, .bf16⟩
  | .local _ .vmem, ⟨9, _⟩ => ⟨S1024x128, .bf16⟩
  | .local _ .vmem, ⟨10, _⟩ => ⟨S1x128, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S512x128, .f32⟩
  | .local _ .vmem, ⟨16, _⟩ => ⟨S512x128, .f32⟩
  | .local _ .vmem, ⟨17, _⟩ => ⟨S1536x1024, .f32⟩
  | .local _ .vmem, ⟨18, _⟩ => ⟨S1536x1024, .bf16⟩
  | .local _ .vmem, ⟨19, _⟩ => ⟨S1536x128, .f32⟩
  | .local _ .vmem, ⟨20, _⟩ => ⟨S4x1024x512, .bf16⟩
  | .local _ .vmem, ⟨21, _⟩ => ⟨S4x1024x512, .bf16⟩
  | .local _ .vmem, ⟨22, _⟩ => ⟨S4x256x1024, .bf16⟩
  | .local _ .vmem, ⟨23, _⟩ => ⟨S4x256x1024, .bf16⟩
  | .local _ .vmem, ⟨24, _⟩ => ⟨S1536x1024, .f32⟩
  | .local _ .vmem, ⟨25, _⟩ => ⟨S1536x1024, .f32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12_0 : Ref sig .tc := ⟨.hbm, 26, rfl⟩
abbrev main_v12_1 : Ref sig .tc := ⟨.hbm, 27, rfl⟩
abbrev main_v12_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc1_stg0_0 : Ref sig .tc := ⟨.vmem, 17, rfl⟩
abbrev cc1_stg1_0 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc1_sem0_0 : DmaSem sig := 17
abbrev cc1_sem1_0 : DmaSem sig := 18
abbrev cc1_sem2_0 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c32_i32 : BitVec 32 := 32#32
  let v0 : BitVec 1 := Scalar.cmpi .slt arg0 c32_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c32_i32 : BitVec 32 := 32#32
  let v0 : BitVec 1 := Scalar.cmpi .slt arg0 c32_i32
  let v_true : BitVec 1 := 1#1
  let v3 : BitVec 1 := Scalar.xori v0 v_true
  let v4 : BitVec 32 := Scalar.extui v3
  let c0_i32_0 : BitVec 32 := 0#32
  let v5 : BitVec 1 := Scalar.cmpi .ne v4 c0_i32_0
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨2, ![11, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 1 → Memref sig .tc .vmem S1536x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 1 → Memref sig .tc .vmem S1536x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 1 → Memref sig .tc .vmem S1536x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, false]

abbrev stage1_3 : Fin 2 → Memref sig .tc .vmem S4x1024x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S4x256x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S1536x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]
-- ==== ReferenceIdeal.lean ====
abbrev S16896x1024 : Shape := ⟨2, ![16896, 1024]⟩
abbrev S16384x1024 : Shape := ⟨2, ![16384, 1024]⟩
abbrev S512x1024 : Shape := ⟨2, ![512, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S4x8x1024x256 : Shape := ⟨4, ![4, 8, 1024, 256]⟩
abbrev S4x8x256x1024 : Shape := ⟨4, ![4, 8, 256, 1024]⟩
abbrev S_ : Shape := ⟨0, ![]⟩
abbrev S16896 : Shape := ⟨1, ![16896]⟩
abbrev S16896x1 : Shape := ⟨2, ![16896, 1]⟩
abbrev S1x1024 : Shape := ⟨2, ![1, 1024]⟩
abbrev S16896x4 : Shape := ⟨2, ![16896, 4]⟩
abbrev S1x4 : Shape := ⟨2, ![1, 4]⟩
abbrev S16896x1x1 : Shape := ⟨3, ![16896, 1, 1]⟩
abbrev S1 : Shape := ⟨1, ![1]⟩
abbrev S1x1x1 : Shape := ⟨3, ![1, 1, 1]⟩
abbrev S16896x32 : Shape := ⟨2, ![16896, 32]⟩
abbrev S1x32 : Shape := ⟨2, ![1, 32]⟩
abbrev S16896x4x8 : Shape := ⟨3, ![16896, 4, 8]⟩
abbrev S16896x1x8 : Shape := ⟨3, ![16896, 1, 8]⟩
abbrev S16896x8 : Shape := ⟨2, ![16896, 8]⟩
abbrev S16896x2 : Shape := ⟨2, ![16896, 2]⟩
abbrev S16896x2x1 : Shape := ⟨3, ![16896, 2, 1]⟩
abbrev S1x1x8 : Shape := ⟨3, ![1, 1, 8]⟩
abbrev S16896x2x8 : Shape := ⟨3, ![16896, 2, 8]⟩
abbrev S16896x4x1 : Shape := ⟨3, ![16896, 4, 1]⟩
abbrev S1x8x1024x256 : Shape := ⟨4, ![1, 8, 1024, 256]⟩
abbrev S8x1024x256 : Shape := ⟨3, ![8, 1024, 256]⟩
abbrev S16896x8x256 : Shape := ⟨3, ![16896, 8, 256]⟩
abbrev S16896x8x1 : Shape := ⟨3, ![16896, 8, 1]⟩
abbrev S1x8x256x1024 : Shape := ⟨4, ![1, 8, 256, 1024]⟩
abbrev S8x256x1024 : Shape := ⟨3, ![8, 256, 1024]⟩

abbrev nBuf : Space → Nat
  | .hbm => 250
  | .vmem => 0
  | .smem => 0
  | _ => 0

abbrev hbmTy0_0 (i : Nat) : BufTy := match i % 128 with
  | 0 => ⟨S16896x1024, .f32⟩
  | 1 => ⟨S16384x1024, .bf16⟩
  | 2 => ⟨S512x1024, .f32⟩
  | 3 => ⟨S1024x1024, .f32⟩
  | 4 => ⟨S1024, .f32⟩
  | 5 => ⟨S1024x4, .f32⟩
  | 6 => ⟨S4, .f32⟩
  | 7 => ⟨S1024x32, .f32⟩
  | 8 => ⟨S32, .f32⟩
  | 9 => ⟨S4x8x1024x256, .f32⟩
  | 10 => ⟨S4x8x1024x256, .f32⟩
  | 11 => ⟨S4x8x256x1024, .f32⟩
  | 12 => ⟨S16384x1024, .f32⟩
  | 13 => ⟨S16896x1024, .f32⟩
  | 14 => ⟨S16896x1024, .f32⟩
  | 15 => ⟨S16896x1024, .f32⟩
  | 16 => ⟨S16896x1024, .f32⟩
  | 17 => ⟨S_, .f32⟩
  | 18 => ⟨S16896, .f32⟩
  | 19 => ⟨S16896x1, .f32⟩
  | 20 => ⟨S_, .f32⟩
  | 21 => ⟨S16896x1, .f32⟩
  | 22 => ⟨S16896x1, .f32⟩
  | 23 => ⟨S_, .f32⟩
  | 24 => ⟨S16896x1, .f32⟩
  | 25 => ⟨S16896x1, .f32⟩
  | 26 => ⟨S16896x1, .f32⟩
  | 27 => ⟨S16896x1024, .f32⟩
  | 28 => ⟨S16896x1024, .f32⟩
  | 29 => ⟨S1x1024, .f32⟩
  | 30 => ⟨S16896x1024, .f32⟩
  | 31 => ⟨S16896x1024, .f32⟩
  | 32 => ⟨S16896x4, .f32⟩
  | 33 => ⟨S1x4, .f32⟩
  | 34 => ⟨S16896x4, .f32⟩
  | 35 => ⟨S16896x4, .f32⟩
  | 36 => ⟨S_, .f32⟩
  | 37 => ⟨S16896, .f32⟩
  | 38 => ⟨S_, .f32⟩
  | 39 => ⟨S16896, .f32⟩
  | 40 => ⟨S16896, .f32⟩
  | 41 => ⟨S16896x1, .f32⟩
  | 42 => ⟨S16896x4, .f32⟩
  | 43 => ⟨S16896x4, .f32⟩
  | 44 => ⟨S16896x4, .f32⟩
  | 45 => ⟨S_, .f32⟩
  | 46 => ⟨S16896, .f32⟩
  | 47 => ⟨S16896x1, .f32⟩
  | 48 => ⟨S16896x4, .f32⟩
  | 49 => ⟨S16896x4, .f32⟩
  | 50 => ⟨S16896x4, .i32⟩
  | 51 => ⟨S_, .f32⟩
  | 52 => ⟨S_, .i32⟩
  | 53 => ⟨S16896, .f32⟩
  | 54 => ⟨S16896, .i32⟩
  | 55 => ⟨S16896x1, .i32⟩
  | 56 => ⟨S_, .i32⟩
  | 57 => ⟨S16896x1, .i32⟩
  | 58 => ⟨S16896x1, .i1⟩
  | 59 => ⟨S_, .i32⟩
  | 60 => ⟨S16896x1, .i32⟩
  | 61 => ⟨S16896x1, .i32⟩
  | 62 => ⟨S16896x1, .i32⟩
  | 63 => ⟨S16896x1x1, .i32⟩
  | 64 => ⟨S1, .i32⟩
  | 65 => ⟨S_, .i32⟩
  | 66 => ⟨S16896x1x1, .i32⟩
  | 67 => ⟨S16896x1x1, .i1⟩
  | 68 => ⟨S1x1x1, .i32⟩
  | 69 => ⟨S16896x1x1, .i32⟩
  | 70 => ⟨S16896x1x1, .i1⟩
  | 71 => ⟨S16896x1x1, .i1⟩
  | 72 => ⟨S_, .i1⟩
  | 73 => ⟨S16896x1, .i1⟩
  | 74 => ⟨S16896x1, .f32⟩
  | 75 => ⟨S_, .f32⟩
  | 76 => ⟨S16896x1, .f32⟩
  | 77 => ⟨S16896x1, .f32⟩
  | 78 => ⟨S16896x32, .f32⟩
  | 79 => ⟨S1x32, .f32⟩
  | 80 => ⟨S16896x32, .f32⟩
  | 81 => ⟨S16896x32, .f32⟩
  | 82 => ⟨S16896x4x8, .f32⟩
  | 83 => ⟨S16896x1x1, .i32⟩
  | 84 => ⟨S_, .i32⟩
  | 85 => ⟨S16896x1x1, .i32⟩
  | 86 => ⟨S16896x1x1, .i1⟩
  | 87 => ⟨S_, .i32⟩
  | 88 => ⟨S16896x1x1, .i32⟩
  | 89 => ⟨S16896x1x1, .i32⟩
  | 90 => ⟨S16896x1x1, .i32⟩
  | 91 => ⟨S1, .i32⟩
  | 92 => ⟨S_, .i32⟩
  | 93 => ⟨S16896x1x1, .i32⟩
  | 94 => ⟨S16896x1x1, .i1⟩
  | 95 => ⟨S1x1x1, .i32⟩
  | 96 => ⟨S16896x1x1, .i32⟩
  | 97 => ⟨S16896x1x1, .i1⟩
  | 98 => ⟨S16896x1x1, .i1⟩
  | 99 => ⟨S_, .i1⟩
  | 100 => ⟨S16896x1, .i1⟩
  | 101 => ⟨S16896x1x8, .f32⟩
  | 102 => ⟨S16896x1x8, .i1⟩
  | 103 => ⟨S_, .f32⟩
  | 104 => ⟨S16896x1x8, .f32⟩
  | 105 => ⟨S16896x1x8, .f32⟩
  | 106 => ⟨S16896x8, .f32⟩
  | 107 => ⟨S16896x2, .f32⟩
  | 108 => ⟨S16896x2, .i32⟩
  | 109 => ⟨S_, .f32⟩
  | 110 => ⟨S16896, .f32⟩
  | 111 => ⟨S_, .f32⟩
  | 112 => ⟨S16896, .f32⟩
  | 113 => ⟨S16896, .f32⟩
  | 114 => ⟨S16896x1, .f32⟩
  | 115 => ⟨S16896x2, .f32⟩
  | 116 => ⟨S16896x2, .f32⟩
  | 117 => ⟨S16896x2, .f32⟩
  | 118 => ⟨S_, .f32⟩
  | 119 => ⟨S16896, .f32⟩
  | 120 => ⟨S16896x1, .f32⟩
  | 121 => ⟨S16896x2, .f32⟩
  | 122 => ⟨S16896x2, .f32⟩
  | 123 => ⟨S16896x2x1, .i32⟩
  | 124 => ⟨S1x1x8, .i32⟩
  | 125 => ⟨S16896x2x8, .i32⟩
  | 126 => ⟨S16896x2x8, .i32⟩
  | 127 => ⟨S16896x2x8, .i1⟩
  | _ => ⟨S16896x1024, .f32⟩

abbrev hbmTy0_1 (i : Nat) : BufTy := match i % 128 with
  | 0 => ⟨S16896x2x8, .f32⟩
  | 1 => ⟨S16896x2x1, .f32⟩
  | 2 => ⟨S16896x2x8, .f32⟩
  | 3 => ⟨S16896x2x8, .f32⟩
  | 4 => ⟨S_, .f32⟩
  | 5 => ⟨S16896x8, .f32⟩
  | 6 => ⟨S16896x1, .i32⟩
  | 7 => ⟨S1x4, .i32⟩
  | 8 => ⟨S16896x4, .i32⟩
  | 9 => ⟨S16896x4, .i32⟩
  | 10 => ⟨S16896x4, .i1⟩
  | 11 => ⟨S16896x4, .f32⟩
  | 12 => ⟨S16896x4x1, .f32⟩
  | 13 => ⟨S16896x8, .f32⟩
  | 14 => ⟨S16896x8, .f32⟩
  | 15 => ⟨S16896x1x8, .f32⟩
  | 16 => ⟨S16896x4x8, .f32⟩
  | 17 => ⟨S16896x4x8, .f32⟩
  | 18 => ⟨S16896x4x8, .f32⟩
  | 19 => ⟨S_, .f32⟩
  | 20 => ⟨S16896x1024, .f32⟩
  | 21 => ⟨S1x8x1024x256, .f32⟩
  | 22 => ⟨S8x1024x256, .f32⟩
  | 23 => ⟨S16896x8x256, .f32⟩
  | 24 => ⟨S1x8x1024x256, .f32⟩
  | 25 => ⟨S8x1024x256, .f32⟩
  | 26 => ⟨S16896x8x256, .f32⟩
  | 27 => ⟨S16896x8x256, .f32⟩
  | 28 => ⟨S16896x8x256, .f32⟩
  | 29 => ⟨S_, .f32⟩
  | 30 => ⟨S16896x8x256, .f32⟩
  | 31 => ⟨S16896x8x256, .f32⟩
  | 32 => ⟨S_, .f32⟩
  | 33 => ⟨S16896x8x256, .f32⟩
  | 34 => ⟨S16896x8x256, .f32⟩
  | 35 => ⟨S16896x8x256, .f32⟩
  | 36 => ⟨S16896x8x256, .f32⟩
  | 37 => ⟨S16896x1x8, .f32⟩
  | 38 => ⟨S16896x8, .f32⟩
  | 39 => ⟨S16896x8x1, .f32⟩
  | 40 => ⟨S16896x8x256, .f32⟩
  | 41 => ⟨S16896x8x256, .f32⟩
  | 42 => ⟨S1x8x256x1024, .f32⟩
  | 43 => ⟨S8x256x1024, .f32⟩
  | 44 => ⟨S16896x1024, .f32⟩
  | 45 => ⟨S16896x1024, .f32⟩
  | 46 => ⟨S1x8x1024x256, .f32⟩
  | 47 => ⟨S8x1024x256, .f32⟩
  | 48 => ⟨S16896x8x256, .f32⟩
  | 49 => ⟨S1x8x1024x256, .f32⟩
  | 50 => ⟨S8x1024x256, .f32⟩
  | 51 => ⟨S16896x8x256, .f32⟩
  | 52 => ⟨S16896x8x256, .f32⟩
  | 53 => ⟨S16896x8x256, .f32⟩
  | 54 => ⟨S_, .f32⟩
  | 55 => ⟨S16896x8x256, .f32⟩
  | 56 => ⟨S16896x8x256, .f32⟩
  | 57 => ⟨S_, .f32⟩
  | 58 => ⟨S16896x8x256, .f32⟩
  | 59 => ⟨S16896x8x256, .f32⟩
  | 60 => ⟨S16896x8x256, .f32⟩
  | 61 => ⟨S16896x8x256, .f32⟩
  | 62 => ⟨S16896x1x8, .f32⟩
  | 63 => ⟨S16896x8, .f32⟩
  | 64 => ⟨S16896x8x1, .f32⟩
  | 65 => ⟨S16896x8x256, .f32⟩
  | 66 => ⟨S16896x8x256, .f32⟩
  | 67 => ⟨S1x8x256x1024, .f32⟩
  | 68 => ⟨S8x256x1024, .f32⟩
  | 69 => ⟨S16896x1024, .f32⟩
  | 70 => ⟨S16896x1024, .f32⟩
  | 71 => ⟨S1x8x1024x256, .f32⟩
  | 72 => ⟨S8x1024x256, .f32⟩
  | 73 => ⟨S16896x8x256, .f32⟩
  | 74 => ⟨S1x8x1024x256, .f32⟩
  | 75 => ⟨S8x1024x256, .f32⟩
  | 76 => ⟨S16896x8x256, .f32⟩
  | 77 => ⟨S16896x8x256, .f32⟩
  | 78 => ⟨S16896x8x256, .f32⟩
  | 79 => ⟨S_, .f32⟩
  | 80 => ⟨S16896x8x256, .f32⟩
  | 81 => ⟨S16896x8x256, .f32⟩
  | 82 => ⟨S_, .f32⟩
  | 83 => ⟨S16896x8x256, .f32⟩
  | 84 => ⟨S16896x8x256, .f32⟩
  | 85 => ⟨S16896x8x256, .f32⟩
  | 86 => ⟨S16896x8x256, .f32⟩
  | 87 => ⟨S16896x1x8, .f32⟩
  | 88 => ⟨S16896x8, .f32⟩
  | 89 => ⟨S16896x8x1, .f32⟩
  | 90 => ⟨S16896x8x256, .f32⟩
  | 91 => ⟨S16896x8x256, .f32⟩
  | 92 => ⟨S1x8x256x1024, .f32⟩
  | 93 => ⟨S8x256x1024, .f32⟩
  | 94 => ⟨S16896x1024, .f32⟩
  | 95 => ⟨S16896x1024, .f32⟩
  | 96 => ⟨S1x8x1024x256, .f32⟩
  | 97 => ⟨S8x1024x256, .f32⟩
  | 98 => ⟨S16896x8x256, .f32⟩
  | 99 => ⟨S1x8x1024x256, .f32⟩
  | 100 => ⟨S8x1024x256, .f32⟩
  | 101 => ⟨S16896x8x256, .f32⟩
  | 102 => ⟨S16896x8x256, .f32⟩
  | 103 => ⟨S16896x8x256, .f32⟩
  | 104 => ⟨S_, .f32⟩
  | 105 => ⟨S16896x8x256, .f32⟩
  | 106 => ⟨S16896x8x256, .f32⟩
  | 107 => ⟨S_, .f32⟩
  | 108 => ⟨S16896x8x256, .f32⟩
  | 109 => ⟨S16896x8x256, .f32⟩
  | 110 => ⟨S16896x8x256, .f32⟩
  | 111 => ⟨S16896x8x256, .f32⟩
  | 112 => ⟨S16896x1x8, .f32⟩
  | 113 => ⟨S16896x8, .f32⟩
  | 114 => ⟨S16896x8x1, .f32⟩
  | 115 => ⟨S16896x8x256, .f32⟩
  | 116 => ⟨S16896x8x256, .f32⟩
  | 117 => ⟨S1x8x256x1024, .f32⟩
  | 118 => ⟨S8x256x1024, .f32⟩
  | 119 => ⟨S16896x1024, .f32⟩
  | 120 => ⟨S16896x1024, .f32⟩
  | 121 => ⟨S16896x1024, .f32⟩
  | _ => ⟨S16896x1024, .f32⟩

abbrev hbmTy (i : Nat) : BufTy := match i / 128 with
  | 0 => hbmTy0_0 i
  | 1 => hbmTy0_1 i
  | _ => ⟨S16896x1024, .f32⟩

abbrev bufTy : (tb : Table) → Fin (tcTables nBuf tb) → BufTy
  | .hbm, ⟨i, _⟩ => hbmTy i
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_cst_3 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_call0_v0 : Ref sig .tc := ⟨.hbm, 50, rfl⟩
abbrev main_call0_cst : Ref sig .tc := ⟨.hbm, 51, rfl⟩
abbrev main_call0_c : Ref sig .tc := ⟨.hbm, 52, rfl⟩
abbrev main_call0_v1_0 : Ref sig .tc := ⟨.hbm, 53, rfl⟩
abbrev main_v32 : Ref sig .tc := ⟨.hbm, 54, rfl⟩
abbrev main_v33 : Ref sig .tc := ⟨.hbm, 55, rfl⟩
abbrev main_call1_c : Ref sig .tc := ⟨.hbm, 56, rfl⟩
abbrev main_call1_v0 : Ref sig .tc := ⟨.hbm, 57, rfl⟩
abbrev main_call1_v1 : Ref sig .tc := ⟨.hbm, 58, rfl⟩
abbrev main_call1_c_0 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_call1_v5 : Ref sig .tc := ⟨.hbm, 63, rfl⟩
abbrev main_call1_c_1 : Ref sig .tc := ⟨.hbm, 64, rfl⟩
abbrev main_call1_c_2 : Ref sig .tc := ⟨.hbm, 65, rfl⟩
abbrev main_call1_v6 : Ref sig .tc := ⟨.hbm, 66, rfl⟩
abbrev main_call1_v7 : Ref sig .tc := ⟨.hbm, 67, rfl⟩
abbrev main_call1_v8 : Ref sig .tc := ⟨.hbm, 68, rfl⟩
abbrev main_call1_v9 : Ref sig .tc := ⟨.hbm, 69, rfl⟩
abbrev main_call1_v10 : Ref sig .tc := ⟨.hbm, 70, rfl⟩
abbrev main_call1_v11 : Ref sig .tc := ⟨.hbm, 71, rfl⟩
abbrev main_call1_c_3 : Ref sig .tc := ⟨.hbm, 72, rfl⟩
abbrev main_call1_v12 : Ref sig .tc := ⟨.hbm, 73, rfl⟩
abbrev main_call1_v13 : Ref sig .tc := ⟨.hbm, 74, rfl⟩
abbrev main_call1_cst : Ref sig .tc := ⟨.hbm, 75, rfl⟩
abbrev main_call1_v14 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_call2_c : Ref sig .tc := ⟨.hbm, 84, rfl⟩
abbrev main_call2_v0 : Ref sig .tc := ⟨.hbm, 85, rfl⟩
abbrev main_call2_v1 : Ref sig .tc := ⟨.hbm, 86, rfl⟩
abbrev main_call2_c_0 : Ref sig .tc := ⟨.hbm, 87, rfl⟩
abbrev main_call2_v2 : Ref sig .tc := ⟨.hbm, 88, rfl⟩
abbrev main_call2_v3 : Ref sig .tc := ⟨.hbm, 89, rfl⟩
abbrev main_call2_v4 : Ref sig .tc := ⟨.hbm, 90, rfl⟩
abbrev main_call2_c_1 : Ref sig .tc := ⟨.hbm, 91, rfl⟩
abbrev main_call2_c_2 : Ref sig .tc := ⟨.hbm, 92, rfl⟩
abbrev main_call2_v5 : Ref sig .tc := ⟨.hbm, 93, rfl⟩
abbrev main_call2_v6 : Ref sig .tc := ⟨.hbm, 94, rfl⟩
abbrev main_call2_v7 : Ref sig .tc := ⟨.hbm, 95, rfl⟩
abbrev main_call2_v8 : Ref sig .tc := ⟨.hbm, 96, rfl⟩
abbrev main_call2_v9 : Ref sig .tc := ⟨.hbm, 97, rfl⟩
abbrev main_call2_v10 : Ref sig .tc := ⟨.hbm, 98, rfl⟩
abbrev main_call2_c_3 : Ref sig .tc := ⟨.hbm, 99, rfl⟩
abbrev main_call2_v11 : Ref sig .tc := ⟨.hbm, 100, rfl⟩
abbrev main_call2_v12 : Ref sig .tc := ⟨.hbm, 101, rfl⟩
abbrev main_call2_v13 : Ref sig .tc := ⟨.hbm, 102, rfl⟩
abbrev main_call2_cst : Ref sig .tc := ⟨.hbm, 103, rfl⟩
abbrev main_call2_v14 : Ref sig .tc := ⟨.hbm, 104, rfl⟩
abbrev main_v41 : Ref sig .tc := ⟨.hbm, 105, rfl⟩
abbrev main_v42 : Ref sig .tc := ⟨.hbm, 106, rfl⟩
abbrev main_values : Ref sig .tc := ⟨.hbm, 107, rfl⟩
abbrev main_indices : Ref sig .tc := ⟨.hbm, 108, rfl⟩
abbrev main_cst_5 : Ref sig .tc := ⟨.hbm, 109, rfl⟩
abbrev main_v43 : Ref sig .tc := ⟨.hbm, 110, rfl⟩
abbrev main_cst_6 : Ref sig .tc := ⟨.hbm, 111, rfl⟩
abbrev main_v44 : Ref sig .tc := ⟨.hbm, 112, rfl⟩
abbrev main_v45 : Ref sig .tc := ⟨.hbm, 113, rfl⟩
abbrev main_v46 : Ref sig .tc := ⟨.hbm, 114, rfl⟩
abbrev main_v47 : Ref sig .tc := ⟨.hbm, 115, rfl⟩
abbrev main_v48 : Ref sig .tc := ⟨.hbm, 116, rfl⟩
abbrev main_v49 : Ref sig .tc := ⟨.hbm, 117, rfl⟩
abbrev main_cst_7 : Ref sig .tc := ⟨.hbm, 118, rfl⟩
abbrev main_v50 : Ref sig .tc := ⟨.hbm, 119, rfl⟩
abbrev main_v51 : Ref sig .tc := ⟨.hbm, 120, rfl⟩
abbrev main_v52 : Ref sig .tc := ⟨.hbm, 121, rfl⟩
abbrev main_v53 : Ref sig .tc := ⟨.hbm, 122, rfl⟩
abbrev main_call3_v0 : Ref sig .tc := ⟨.hbm, 123, rfl⟩
abbrev main_call3_v1 : Ref sig .tc := ⟨.hbm, 124, rfl⟩
abbrev main_call3_v2 : Ref sig .tc := ⟨.hbm, 125, rfl⟩
abbrev main_call3_v3 : Ref sig .tc := ⟨.hbm, 126, rfl⟩
abbrev main_call3_v4 : Ref sig .tc := ⟨.hbm, 127, rfl⟩
abbrev main_v54 : Ref sig .tc := ⟨.hbm, 128, rfl⟩
abbrev main_v55 : Ref sig .tc := ⟨.hbm, 129, rfl⟩
abbrev main_v56 : Ref sig .tc := ⟨.hbm, 130, rfl⟩
abbrev main_v57 : Ref sig .tc := ⟨.hbm, 131, rfl⟩
abbrev main_cst_8 : Ref sig .tc := ⟨.hbm, 132, rfl⟩
abbrev main_v58 : Ref sig .tc := ⟨.hbm, 133, rfl⟩
abbrev main_call4_v0 : Ref sig .tc := ⟨.hbm, 134, rfl⟩
abbrev main_call4_v1 : Ref sig .tc := ⟨.hbm, 135, rfl⟩
abbrev main_call4_v2 : Ref sig .tc := ⟨.hbm, 136, rfl⟩
abbrev main_call4_v3 : Ref sig .tc := ⟨.hbm, 137, rfl⟩
abbrev main_call4_v4 : Ref sig .tc := ⟨.hbm, 138, rfl⟩
abbrev main_v59 : Ref sig .tc := ⟨.hbm, 139, rfl⟩
abbrev main_v60 : Ref sig .tc := ⟨.hbm, 140, rfl⟩
abbrev main_v61 : Ref sig .tc := ⟨.hbm, 141, rfl⟩
abbrev main_v62 : Ref sig .tc := ⟨.hbm, 142, rfl⟩
abbrev main_v63 : Ref sig .tc := ⟨.hbm, 143, rfl⟩
abbrev main_v64 : Ref sig .tc := ⟨.hbm, 144, rfl⟩
abbrev main_v65 : Ref sig .tc := ⟨.hbm, 145, rfl⟩
abbrev main_v66 : Ref sig .tc := ⟨.hbm, 146, rfl⟩
abbrev main_cst_9 : Ref sig .tc := ⟨.hbm, 147, rfl⟩
abbrev main_v67 : Ref sig .tc := ⟨.hbm, 148, rfl⟩
abbrev main_v68 : Ref sig .tc := ⟨.hbm, 149, rfl⟩
abbrev main_v69 : Ref sig .tc := ⟨.hbm, 150, rfl⟩
abbrev main_v70 : Ref sig .tc := ⟨.hbm, 151, rfl⟩
abbrev main_v71 : Ref sig .tc := ⟨.hbm, 152, rfl⟩
abbrev main_v72 : Ref sig .tc := ⟨.hbm, 153, rfl⟩
abbrev main_v73 : Ref sig .tc := ⟨.hbm, 154, rfl⟩
abbrev main_call5_v0 : Ref sig .tc := ⟨.hbm, 155, rfl⟩
abbrev main_call5_v1 : Ref sig .tc := ⟨.hbm, 156, rfl⟩
abbrev main_call5_cst : Ref sig .tc := ⟨.hbm, 157, rfl⟩
abbrev main_call5_v2 : Ref sig .tc := ⟨.hbm, 158, rfl⟩
abbrev main_call5_v3 : Ref sig .tc := ⟨.hbm, 159, rfl⟩
abbrev main_call5_cst_0 : Ref sig .tc := ⟨.hbm, 160, rfl⟩
abbrev main_call5_v4 : Ref sig .tc := ⟨.hbm, 161, rfl⟩
abbrev main_call5_v5 : Ref sig .tc := ⟨.hbm, 162, rfl⟩
abbrev main_v74 : Ref sig .tc := ⟨.hbm, 163, rfl⟩
abbrev main_v75 : Ref sig .tc := ⟨.hbm, 164, rfl⟩
abbrev main_v76 : Ref sig .tc := ⟨.hbm, 165, rfl⟩
abbrev main_v77 : Ref sig .tc := ⟨.hbm, 166, rfl⟩
abbrev main_v78 : Ref sig .tc := ⟨.hbm, 167, rfl⟩
abbrev main_v79 : Ref sig .tc := ⟨.hbm, 168, rfl⟩
abbrev main_v80 : Ref sig .tc := ⟨.hbm, 169, rfl⟩
abbrev main_v81 : Ref sig .tc := ⟨.hbm, 170, rfl⟩
abbrev main_v82 : Ref sig .tc := ⟨.hbm, 171, rfl⟩
abbrev main_v83 : Ref sig .tc := ⟨.hbm, 172, rfl⟩
abbrev main_v84 : Ref sig .tc := ⟨.hbm, 173, rfl⟩
abbrev main_v85 : Ref sig .tc := ⟨.hbm, 174, rfl⟩
abbrev main_v86 : Ref sig .tc := ⟨.hbm, 175, rfl⟩
abbrev main_v87 : Ref sig .tc := ⟨.hbm, 176, rfl⟩
abbrev main_v88 : Ref sig .tc := ⟨.hbm, 177, rfl⟩
abbrev main_v89 : Ref sig .tc := ⟨.hbm, 178, rfl⟩
abbrev main_v90 : Ref sig .tc := ⟨.hbm, 179, rfl⟩
abbrev main_call6_v0 : Ref sig .tc := ⟨.hbm, 180, rfl⟩
abbrev main_call6_v1 : Ref sig .tc := ⟨.hbm, 181, rfl⟩
abbrev main_call6_cst : Ref sig .tc := ⟨.hbm, 182, rfl⟩
abbrev main_call6_v2 : Ref sig .tc := ⟨.hbm, 183, rfl⟩
abbrev main_call6_v3 : Ref sig .tc := ⟨.hbm, 184, rfl⟩
abbrev main_call6_cst_0 : Ref sig .tc := ⟨.hbm, 185, rfl⟩
abbrev main_call6_v4 : Ref sig .tc := ⟨.hbm, 186, rfl⟩
abbrev main_call6_v5 : Ref sig .tc := ⟨.hbm, 187, rfl⟩
abbrev main_v91 : Ref sig .tc := ⟨.hbm, 188, rfl⟩
abbrev main_v92 : Ref sig .tc := ⟨.hbm, 189, rfl⟩
abbrev main_v93 : Ref sig .tc := ⟨.hbm, 190, rfl⟩
abbrev main_v94 : Ref sig .tc := ⟨.hbm, 191, rfl⟩
abbrev main_v95 : Ref sig .tc := ⟨.hbm, 192, rfl⟩
abbrev main_v96 : Ref sig .tc := ⟨.hbm, 193, rfl⟩
abbrev main_v97 : Ref sig .tc := ⟨.hbm, 194, rfl⟩
abbrev main_v98 : Ref sig .tc := ⟨.hbm, 195, rfl⟩
abbrev main_v99 : Ref sig .tc := ⟨.hbm, 196, rfl⟩
abbrev main_v100 : Ref sig .tc := ⟨.hbm, 197, rfl⟩
abbrev main_v101 : Ref sig .tc := ⟨.hbm, 198, rfl⟩
abbrev main_v102 : Ref sig .tc := ⟨.hbm, 199, rfl⟩
abbrev main_v103 : Ref sig .tc := ⟨.hbm, 200, rfl⟩
abbrev main_v104 : Ref sig .tc := ⟨.hbm, 201, rfl⟩
abbrev main_v105 : Ref sig .tc := ⟨.hbm, 202, rfl⟩
abbrev main_v106 : Ref sig .tc := ⟨.hbm, 203, rfl⟩
abbrev main_v107 : Ref sig .tc := ⟨.hbm, 204, rfl⟩
abbrev main_call7_v0 : Ref sig .tc := ⟨.hbm, 205, rfl⟩
abbrev main_call7_v1 : Ref sig .tc := ⟨.hbm, 206, rfl⟩
abbrev main_call7_cst : Ref sig .tc := ⟨.hbm, 207, rfl⟩
abbrev main_call7_v2 : Ref sig .tc := ⟨.hbm, 208, rfl⟩
abbrev main_call7_v3 : Ref sig .tc := ⟨.hbm, 209, rfl⟩
abbrev main_call7_cst_0 : Ref sig .tc := ⟨.hbm, 210, rfl⟩
abbrev main_call7_v4 : Ref sig .tc := ⟨.hbm, 211, rfl⟩
abbrev main_call7_v5 : Ref sig .tc := ⟨.hbm, 212, rfl⟩
abbrev main_v108 : Ref sig .tc := ⟨.hbm, 213, rfl⟩
abbrev main_v109 : Ref sig .tc := ⟨.hbm, 214, rfl⟩
abbrev main_v110 : Ref sig .tc := ⟨.hbm, 215, rfl⟩
abbrev main_v111 : Ref sig .tc := ⟨.hbm, 216, rfl⟩
abbrev main_v112 : Ref sig .tc := ⟨.hbm, 217, rfl⟩
abbrev main_v113 : Ref sig .tc := ⟨.hbm, 218, rfl⟩
abbrev main_v114 : Ref sig .tc := ⟨.hbm, 219, rfl⟩
abbrev main_v115 : Ref sig .tc := ⟨.hbm, 220, rfl⟩
abbrev main_v116 : Ref sig .tc := ⟨.hbm, 221, rfl⟩
abbrev main_v117 : Ref sig .tc := ⟨.hbm, 222, rfl⟩
abbrev main_v118 : Ref sig .tc := ⟨.hbm, 223, rfl⟩
abbrev main_v119 : Ref sig .tc := ⟨.hbm, 224, rfl⟩
abbrev main_v120 : Ref sig .tc := ⟨.hbm, 225, rfl⟩
abbrev main_v121 : Ref sig .tc := ⟨.hbm, 226, rfl⟩
abbrev main_v122 : Ref sig .tc := ⟨.hbm, 227, rfl⟩
abbrev main_v123 : Ref sig .tc := ⟨.hbm, 228, rfl⟩
abbrev main_v124 : Ref sig .tc := ⟨.hbm, 229, rfl⟩
abbrev main_call8_v0 : Ref sig .tc := ⟨.hbm, 230, rfl⟩
abbrev main_call8_v1 : Ref sig .tc := ⟨.hbm, 231, rfl⟩
abbrev main_call8_cst : Ref sig .tc := ⟨.hbm, 232, rfl⟩
abbrev main_call8_v2 : Ref sig .tc := ⟨.hbm, 233, rfl⟩
abbrev main_call8_v3 : Ref sig .tc := ⟨.hbm, 234, rfl⟩
abbrev main_call8_cst_0 : Ref sig .tc := ⟨.hbm, 235, rfl⟩
abbrev main_call8_v4 : Ref sig .tc := ⟨.hbm, 236, rfl⟩
abbrev main_call8_v5 : Ref sig .tc := ⟨.hbm, 237, rfl⟩
abbrev main_v125 : Ref sig .tc := ⟨.hbm, 238, rfl⟩
abbrev main_v126 : Ref sig .tc := ⟨.hbm, 239, rfl⟩
abbrev main_v127 : Ref sig .tc := ⟨.hbm, 240, rfl⟩
abbrev main_v128 : Ref sig .tc := ⟨.hbm, 241, rfl⟩
abbrev main_v129 : Ref sig .tc := ⟨.hbm, 242, rfl⟩
abbrev main_v130 : Ref sig .tc := ⟨.hbm, 243, rfl⟩
abbrev main_v131 : Ref sig .tc := ⟨.hbm, 244, rfl⟩
abbrev main_v132 : Ref sig .tc := ⟨.hbm, 245, rfl⟩
abbrev main_v133 : Ref sig .tc := ⟨.hbm, 246, rfl⟩
abbrev main_v134 : Ref sig .tc := ⟨.hbm, 247, rfl⟩
abbrev main_v135 : Ref sig .tc := ⟨.hbm, 248, rfl⟩
abbrev main_v136 : Ref sig .tc := ⟨.hbm, 249, rfl⟩

abbrev nD : Nat := 1
abbrev τ : Topo := Topo.v7x

variable {F : FTy → Type} [FloatOps F]
-- ==== Kernel2.lean ====
abbrev S16896x1024 : Shape := ⟨2, ![16896, 1024]⟩
abbrev S1024 : Shape := ⟨1, ![1024]⟩
abbrev S1024x3088 : Shape := ⟨2, ![1024, 3088]⟩
abbrev S16 : Shape := ⟨1, ![16]⟩
abbrev S64 : Shape := ⟨1, ![64]⟩
abbrev S_ : Shape := ⟨0, ![]⟩
abbrev S1024x112 : Shape := ⟨2, ![1024, 112]⟩
abbrev S1024x3200 : Shape := ⟨2, ![1024, 3200]⟩
abbrev S1x64 : Shape := ⟨2, ![1, 64]⟩
abbrev S16x64 : Shape := ⟨2, ![16, 64]⟩
abbrev S2048 : Shape := ⟨1, ![2048]⟩
abbrev S1x2048 : Shape := ⟨2, ![1, 2048]⟩
abbrev S112 : Shape := ⟨1, ![112]⟩
abbrev S128 : Shape := ⟨1, ![128]⟩
abbrev S1x128 : Shape := ⟨2, ![1, 128]⟩
abbrev S256x256 : Shape := ⟨2, ![256, 256]⟩
abbrev S1x1024 : Shape := ⟨2, ![1, 1024]⟩
abbrev S512x1024 : Shape := ⟨2, ![512, 1024]⟩
abbrev S8x1024x2048 : Shape := ⟨3, ![8, 1024, 2048]⟩
abbrev S16896x128 : Shape := ⟨2, ![16896, 128]⟩
abbrev S8x128x2048 : Shape := ⟨3, ![8, 128, 2048]⟩
abbrev S1x1024x512 : Shape := ⟨3, ![1, 1024, 512]⟩
abbrev S512x128 : Shape := ⟨2, ![512, 128]⟩
abbrev S1x128x512 : Shape := ⟨3, ![1, 128, 512]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S1x256 : Shape := ⟨2, ![1, 256]⟩
abbrev S256x512 : Shape := ⟨2, ![256, 512]⟩
abbrev S1x256x512 : Shape := ⟨3, ![1, 256, 512]⟩
abbrev S1024x128 : Shape := ⟨2, ![1024, 128]⟩
abbrev S128x512 : Shape := ⟨2, ![128, 512]⟩
abbrev S16896x16 : Shape := ⟨2, ![16896, 16]⟩
abbrev S512x16 : Shape := ⟨2, ![512, 16]⟩
abbrev S128x4x16 : Shape := ⟨3, ![128, 4, 16]⟩
abbrev S128x4x1024 : Shape := ⟨3, ![128, 4, 1024]⟩
abbrev S8x16x64x2048 : Shape := ⟨4, ![8, 16, 64, 2048]⟩
abbrev S8x2048x16x64 : Shape := ⟨4, ![8, 2048, 16, 64]⟩
abbrev S8x16x2048 : Shape := ⟨3, ![8, 16, 2048]⟩
abbrev S8x2048x16 : Shape := ⟨3, ![8, 2048, 16]⟩
abbrev S128x4x16x64 : Shape := ⟨4, ![128, 4, 16, 64]⟩

abbrev nBuf : Space → Nat
  | .hbm => 55
  | .vmem => 25
  | .smem => 0
  | _ => 0

abbrev bufTy : (tb : Table) → Fin (tcTables nBuf tb) → BufTy
  | .hbm, ⟨0, _⟩ => ⟨S16896x1024, .f32⟩
  | .hbm, ⟨1, _⟩ => ⟨S1024, .f32⟩
  | .hbm, ⟨2, _⟩ => ⟨S1024x3088, .f32⟩
  | .hbm, ⟨3, _⟩ => ⟨S16, .f32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S1024x112, .f32⟩
  | .hbm, ⟨8, _⟩ => ⟨S1024x3200, .f32⟩
  | .hbm, ⟨9, _⟩ => ⟨S1024x3200, .bf16⟩
  | .hbm, ⟨10, _⟩ => ⟨S1x64, .f32⟩
  | .hbm, ⟨11, _⟩ => ⟨S16x64, .f32⟩
  | .hbm, ⟨12, _⟩ => ⟨S1024, .f32⟩
  | .hbm, ⟨13, _⟩ => ⟨S1x64, .f32⟩
  | .hbm, ⟨14, _⟩ => ⟨S16x64, .f32⟩
  | .hbm, ⟨15, _⟩ => ⟨S1024, .f32⟩
  | .hbm, ⟨16, _⟩ => ⟨S2048, .f32⟩
  | .hbm, ⟨17, _⟩ => ⟨S1x2048, .f32⟩
  | .hbm, ⟨18, _⟩ => ⟨S_, .f32⟩
  | .hbm, ⟨19, _⟩ => ⟨S112, .f32⟩
  | .hbm, ⟨20, _⟩ => ⟨S128, .f32⟩
  | .hbm, ⟨21, _⟩ => ⟨S1x128, .f32⟩
  | .hbm, ⟨22, _⟩ => ⟨S256x256, .i32⟩
  | .hbm, ⟨23, _⟩ => ⟨S256x256, .i32⟩
  | .hbm, ⟨24, _⟩ => ⟨S_, .i32⟩
  | .hbm, ⟨25, _⟩ => ⟨S256x256, .i32⟩
  | .hbm, ⟨26, _⟩ => ⟨S256x256, .i32⟩
  | .hbm, ⟨27, _⟩ => ⟨S_, .i32⟩
  | .hbm, ⟨28, _⟩ => ⟨S256x256, .i32⟩
  | .hbm, ⟨29, _⟩ => ⟨S256x256, .i32⟩
  | .hbm, ⟨30, _⟩ => ⟨S256x256, .i1⟩
  | .hbm, ⟨31, _⟩ => ⟨S256x256, .bf16⟩
  | .hbm, ⟨32, _⟩ => ⟨S1x1024, .f32⟩
  | .hbm, ⟨33, _⟩ => ⟨S16896x1024, .bf16⟩
  | .hbm, ⟨34, _⟩ => ⟨S512x1024, .f32⟩
  | .hbm, ⟨35, _⟩ => ⟨S8x1024x2048, .f32⟩
  | .hbm, ⟨36, _⟩ => ⟨S8x1024x2048, .bf16⟩
  | .hbm, ⟨37, _⟩ => ⟨S512x1024, .f32⟩
  | .hbm, ⟨38, _⟩ => ⟨S8x1024x2048, .f32⟩
  | .hbm, ⟨39, _⟩ => ⟨S16896x1024, .bf16⟩
  | .hbm, ⟨40, _⟩ => ⟨S16896x128, .f32⟩
  | .hbm, ⟨41, _⟩ => ⟨S8x128x2048, .f32⟩
  | .hbm, ⟨42, _⟩ => ⟨S16896x16, .f32⟩
  | .hbm, ⟨43, _⟩ => ⟨S512x16, .f32⟩
  | .hbm, ⟨44, _⟩ => ⟨S128x4x16, .f32⟩
  | .hbm, ⟨45, _⟩ => ⟨S128x4x1024, .f32⟩
  | .hbm, ⟨46, _⟩ => ⟨S128x4x1024, .f32⟩
  | .hbm, ⟨47, _⟩ => ⟨S8x16x64x2048, .f32⟩
  | .hbm, ⟨48, _⟩ => ⟨S8x2048x16x64, .f32⟩
  | .hbm, ⟨49, _⟩ => ⟨S8x16x64x2048, .f32⟩
  | .hbm, ⟨50, _⟩ => ⟨S8x2048x16x64, .f32⟩
  | .hbm, ⟨51, _⟩ => ⟨S8x16x2048, .f32⟩
  | .hbm, ⟨52, _⟩ => ⟨S8x2048x16, .f32⟩
  | .hbm, ⟨53, _⟩ => ⟨S128x4x16x64, .f32⟩
  | .hbm, ⟨54, _⟩ => ⟨S128x4x16x64, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3200, .bf16⟩
  | .local _ .vmem, ⟨4, _⟩ => ⟨S1x2048, .f32⟩
  | .local _ .vmem, ⟨5, _⟩ => ⟨S1x128, .f32⟩
  | .local _ .vmem, ⟨6, _⟩ => ⟨S256x256, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .f32⟩
  | .local _ .vmem, ⟨10, _⟩ => ⟨S512x1024, .f32⟩
  | .local _ .vmem, ⟨11, _⟩ => ⟨S1x1024x512, .f32⟩
  | .local _ .vmem, ⟨12, _⟩ => ⟨S1x1024x512, .f32⟩
  | .local _ .vmem, ⟨13, _⟩ => ⟨S1x1024x512, .bf16⟩
  | .local _ .vmem, ⟨14, _⟩ => ⟨S1x1024x512, .bf16⟩
  | .local _ .vmem, ⟨15, _⟩ => ⟨S512x1024, .f32⟩
  | .local _ .vmem, ⟨16, _⟩ => ⟨S512x1024, .f32⟩
  | .local _ .vmem, ⟨17, _⟩ => ⟨S1x1024x512, .f32⟩
  | .local _ .vmem, ⟨18, _⟩ => ⟨S1x1024x512, .f32⟩
  | .local _ .vmem, ⟨19, _⟩ => ⟨S512x1024, .bf16⟩
  | .local _ .vmem, ⟨20, _⟩ => ⟨S512x1024, .bf16⟩
  | .local _ .vmem, ⟨21, _⟩ => ⟨S512x128, .f32⟩
  | .local _ .vmem, ⟨22, _⟩ => ⟨S512x128, .f32⟩
  | .local _ .vmem, ⟨23, _⟩ => ⟨S1x128x512, .f32⟩
  | .local _ .vmem, ⟨24, _⟩ => ⟨S1x128x512, .f32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_c_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23_0 : Ref sig .tc := ⟨.hbm, 33, rfl⟩
abbrev main_v23_1 : Ref sig .tc := ⟨.hbm, 34, rfl⟩
abbrev main_v23_2 : Ref sig .tc := ⟨.hbm, 35, rfl⟩
abbrev main_v23_3 : Ref sig .tc := ⟨.hbm, 36, rfl⟩
abbrev main_v23_4 : Ref sig .tc := ⟨.hbm, 37, rfl⟩
abbrev main_v23_5 : Ref sig .tc := ⟨.hbm, 38, rfl⟩
abbrev main_v23_6 : Ref sig .tc := ⟨.hbm, 39, rfl⟩
abbrev main_v23_7 : Ref sig .tc := ⟨.hbm, 40, rfl⟩
abbrev main_v23_8 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c32_i32 : BitVec 32 := 32#32
  let v0 : BitVec 1 := Scalar.cmpi .slt arg0 c32_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c32_i32 : BitVec 32 := 32#32
  let v0 : BitVec 1 := Scalar.cmpi .slt arg0 c32_i32
  let v_true : BitVec 1 := 1#1
  let v3 : BitVec 1 := Scalar.xori v0 v_true
  let v4 : BitVec 32 := Scalar.extui v3
  let c0_i32_0 : BitVec 32 := 0#32
  let v5 : BitVec 1 := Scalar.cmpi .ne v4 c0_i32_0
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 3 → Nat :=
  let arg0 : BitVec 32 := BitVec.ofNat 32 (i 0).val
  let c31_i32 : BitVec 32 := 31#32
  let v0 : BitVec 32 := Scalar.minsi arg0 c31_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32_4 : BitVec 32 := 4#32
  let c0_i32_5 : BitVec 32 := 0#32
  let v18 : BitVec 1 := Scalar.cmpi .eq c4_i32_4 c0_i32_5
  let c1_i32_6 : BitVec 32 := 1#32
  let v19 : BitVec 32 := Scalar.select v18 c1_i32_6 c4_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, c0_i32_10.toNat, v27.toNat]

def cc0_transform_9 (i : grid0.Coords) : Fin 3 → Nat :=
  let arg0 : BitVec 32 := BitVec.ofNat 32 (i 0).val
  let c31_i32 : BitVec 32 := 31#32
  let v0 : BitVec 32 := Scalar.minsi arg0 c31_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32_4 : BitVec 32 := 4#32
  let c0_i32_5 : BitVec 32 := 0#32
  let v18 : BitVec 1 := Scalar.cmpi .eq c4_i32_4 c0_i32_5
  let c1_i32_6 : BitVec 32 := 1#32
  let v19 : BitVec 32 := Scalar.select v18 c1_i32_6 c4_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, c0_i32_10.toNat, v27.toNat]

def cc0_transform_10 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_11 (i : grid0.Coords) : Fin 3 → Nat :=
  let arg0 : BitVec 32 := BitVec.ofNat 32 (i 0).val
  let c31_i32 : BitVec 32 := 31#32
  let v0 : BitVec 32 := Scalar.minsi arg0 c31_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32_4 : BitVec 32 := 4#32
  let c0_i32_5 : BitVec 32 := 0#32
  let v18 : BitVec 1 := Scalar.cmpi .eq c4_i32_4 c0_i32_5
  let c1_i32_6 : BitVec 32 := 1#32
  let v19 : BitVec 32 := Scalar.select v18 c1_i32_6 c4_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, c0_i32_10.toNat, v27.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c31_i32 : BitVec 32 := 31#32
  let v0 : BitVec 32 := Scalar.minsi arg0 c31_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32_4 : BitVec 32 := 4#32
  let c0_i32_5 : BitVec 32 := 0#32
  let v18 : BitVec 1 := Scalar.cmpi .eq c4_i32_4 c0_i32_5
  let c1_i32_6 : BitVec 32 := 1#32
  let v19 : BitVec 32 := Scalar.select v18 c1_i32_6 c4_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, c0_i32_10.toNat, v27.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1024x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x128x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference2Ideal.lean ====
abbrev S16896x1024 : Shape := ⟨2, ![16896, 1024]⟩
abbrev S1024 : Shape := ⟨1, ![1024]⟩
abbrev S1024x3088 : Shape := ⟨2, ![1024, 3088]⟩
abbrev S16 : Shape := ⟨1, ![16]⟩
abbrev S64 : Shape := ⟨1, ![64]⟩
abbrev S16384x1024 : Shape := ⟨2, ![16384, 1024]⟩
abbrev S8x2048x1024 : Shape := ⟨3, ![8, 2048, 1024]⟩
abbrev S512x1024 : Shape := ⟨2, ![512, 1024]⟩
abbrev S128x4x1024 : Shape := ⟨3, ![128, 4, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x3088 : Shape := ⟨3, ![8, 2048, 3088]⟩
abbrev S8x2048x16 : Shape := ⟨3, ![8, 2048, 16]⟩
abbrev S8x2048x16x64 : Shape := ⟨4, ![8, 2048, 16, 64]⟩
abbrev S8x2048x16x1 : Shape := ⟨4, ![8, 2048, 16, 1]⟩
abbrev S1x1x1x64 : Shape := ⟨4, ![1, 1, 1, 64]⟩
abbrev S1x1x16 : Shape := ⟨3, ![1, 1, 16]⟩
abbrev S128x4 : Shape := ⟨2, ![128, 4]⟩
abbrev S128x4x1 : Shape := ⟨3, ![128, 4, 1]⟩
abbrev S128x4x3088 : Shape := ⟨3, ![128, 4, 3088]⟩
abbrev S128x4x16 : Shape := ⟨3, ![128, 4, 16]⟩
abbrev S128x4x16x64 : Shape := ⟨4, ![128, 4, 16, 64]⟩
abbrev S128x4x16x1 : Shape := ⟨4, ![128, 4, 16, 1]⟩

abbrev nBuf : Space → Nat
  | .hbm => 126
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S1024, .f32⟩
  | .hbm, ⟨2, _⟩ => ⟨S1024x3088, .f32⟩
  | .hbm, ⟨3, _⟩ => ⟨S16, .f32⟩
  | .hbm, ⟨4, _⟩ => ⟨S64, .f32⟩
  | .hbm, ⟨5, _⟩ => ⟨S64, .f32⟩
  | .hbm, ⟨6, _⟩ => ⟨S16384x1024, .f32⟩
  | .hbm, ⟨7, _⟩ => ⟨S8x2048x1024, .f32⟩
  | .hbm, ⟨8, _⟩ => ⟨S512x1024, .f32⟩
  | .hbm, ⟨9, _⟩ => ⟨S128x4x1024, .f32⟩
  | .hbm, ⟨10, _⟩ => ⟨S8x2048x1024, .f32⟩
  | .hbm, ⟨11, _⟩ => ⟨S_, .f32⟩
  | .hbm, ⟨12, _⟩ => ⟨S8x2048, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S_, .f32⟩
  | .hbm, ⟨18, _⟩ => ⟨S8x2048x1, .f32⟩
  | .hbm, ⟨19, _⟩ => ⟨S8x2048x1, .f32⟩
  | .hbm, ⟨20, _⟩ => ⟨S8x2048x1, .f32⟩
  | .hbm, ⟨21, _⟩ => ⟨S8x2048x1024, .f32⟩
  | .hbm, ⟨22, _⟩ => ⟨S8x2048x1024, .f32⟩
  | .hbm, ⟨23, _⟩ => ⟨S1x1x1024, .f32⟩
  | .hbm, ⟨24, _⟩ => ⟨S8x2048x1024, .f32⟩
  | .hbm, ⟨25, _⟩ => ⟨S8x2048x1024, .f32⟩
  | .hbm, ⟨26, _⟩ => ⟨S8x2048x3088, .f32⟩
  | .hbm, ⟨27, _⟩ => ⟨S8x2048x1024, .f32⟩
  | .hbm, ⟨28, _⟩ => ⟨S8x2048x1024, .f32⟩
  | .hbm, ⟨29, _⟩ => ⟨S8x2048x1024, .f32⟩
  | .hbm, ⟨30, _⟩ => ⟨S8x2048x16, .f32⟩
  | .hbm, ⟨31, _⟩ => ⟨S8x2048x16x64, .f32⟩
  | .hbm, ⟨32, _⟩ => ⟨S8x2048x16x64, .f32⟩
  | .hbm, ⟨33, _⟩ => ⟨S_, .f32⟩
  | .hbm, ⟨34, _⟩ => ⟨S8x2048x16, .f32⟩
  | .hbm, ⟨35, _⟩ => ⟨S8x2048x16x1, .f32⟩
  | .hbm, ⟨36, _⟩ => ⟨S_, .f32⟩
  | .hbm, ⟨37, _⟩ => ⟨S8x2048x16x1, .f32⟩
  | .hbm, ⟨38, _⟩ => ⟨S8x2048x16x1, .f32⟩
  | .hbm, ⟨39, _⟩ => ⟨S_, .f32⟩
  | .hbm, ⟨40, _⟩ => ⟨S8x2048x16x1, .f32⟩
  | .hbm, ⟨41, _⟩ => ⟨S8x2048x16x1, .f32⟩
  | .hbm, ⟨42, _⟩ => ⟨S8x2048x16x1, .f32⟩
  | .hbm, ⟨43, _⟩ => ⟨S8x2048x16x64, .f32⟩
  | .hbm, ⟨44, _⟩ => ⟨S8x2048x16x64, .f32⟩
  | .hbm, ⟨45, _⟩ => ⟨S1x1x1x64, .f32⟩
  | .hbm, ⟨46, _⟩ => ⟨S8x2048x16x64, .f32⟩
  | .hbm, ⟨47, _⟩ => ⟨S8x2048x16x64, .f32⟩
  | .hbm, ⟨48, _⟩ => ⟨S8x2048x16x64, .f32⟩
  | .hbm, ⟨49, _⟩ => ⟨S1x1x16, .f32⟩
  | .hbm, ⟨50, _⟩ => ⟨S8x2048x16, .f32⟩
  | .hbm, ⟨51, _⟩ => ⟨S8x2048x16, .f32⟩
  | .hbm, ⟨52, _⟩ => ⟨S8x2048x16, .f32⟩
  | .hbm, ⟨53, _⟩ => ⟨S_, .f32⟩
  | .hbm, ⟨54, _⟩ => ⟨S8x2048x16, .f32⟩
  | .hbm, ⟨55, _⟩ => ⟨S8x2048x16, .f32⟩
  | .hbm, ⟨56, _⟩ => ⟨S8x2048x16, .f32⟩
  | .hbm, ⟨57, _⟩ => ⟨S8x2048x16, .f32⟩
  | .hbm, ⟨58, _⟩ => ⟨S8x2048x16, .i1⟩
  | .hbm, ⟨59, _⟩ => ⟨S8x2048x16, .f32⟩
  | .hbm, ⟨60, _⟩ => ⟨S8x2048x16, .f32⟩
  | .hbm, ⟨61, _⟩ => ⟨S8x2048x16, .f32⟩
  | .hbm, ⟨62, _⟩ => ⟨S8x2048x16, .f32⟩
  | .hbm, ⟨63, _⟩ => ⟨S8x2048x16, .f32⟩
  | .hbm, ⟨64, _⟩ => ⟨S8x2048x16, .f32⟩
  | .hbm, ⟨65, _⟩ => ⟨S8x2048x16, .f32⟩
  | .hbm, ⟨66, _⟩ => ⟨S8x2048x16, .f32⟩
  | .hbm, ⟨67, _⟩ => ⟨S8x2048x16, .f32⟩
  | .hbm, ⟨68, _⟩ => ⟨S128x4x1024, .f32⟩
  | .hbm, ⟨69, _⟩ => ⟨S_, .f32⟩
  | .hbm, ⟨70, _⟩ => ⟨S128x4, .f32⟩
  | .hbm, ⟨71, _⟩ => ⟨S128x4x1, .f32⟩
  | .hbm, ⟨72, _⟩ => ⟨S_, .f32⟩
  | .hbm, ⟨73, _⟩ => ⟨S128x4x1, .f32⟩
  | .hbm, ⟨74, _⟩ => ⟨S128x4x1, .f32⟩
  | .hbm, ⟨75, _⟩ => ⟨S_, .f32⟩
  | .hbm, ⟨76, _⟩ => ⟨S128x4x1, .f32⟩
  | .hbm, ⟨77, _⟩ => ⟨S128x4x1, .f32⟩
  | .hbm, ⟨78, _⟩ => ⟨S128x4x1, .f32⟩
  | .hbm, ⟨79, _⟩ => ⟨S128x4x1024, .f32⟩
  | .hbm, ⟨80, _⟩ => ⟨S128x4x1024, .f32⟩
  | .hbm, ⟨81, _⟩ => ⟨S1x1x1024, .f32⟩
  | .hbm, ⟨82, _⟩ => ⟨S128x4x1024, .f32⟩
  | .hbm, ⟨83, _⟩ => ⟨S128x4x1024, .f32⟩
  | .hbm, ⟨84, _⟩ => ⟨S128x4x3088, .f32⟩
  | .hbm, ⟨85, _⟩ => ⟨S128x4x1024, .f32⟩
  | .hbm, ⟨86, _⟩ => ⟨S128x4x1024, .f32⟩
  | .hbm, ⟨87, _⟩ => ⟨S128x4x1024, .f32⟩
  | .hbm, ⟨88, _⟩ => ⟨S128x4x16, .f32⟩
  | .hbm, ⟨89, _⟩ => ⟨S128x4x16x64, .f32⟩
  | .hbm, ⟨90, _⟩ => ⟨S128x4x16x64, .f32⟩
  | .hbm, ⟨91, _⟩ => ⟨S_, .f32⟩
  | .hbm, ⟨92, _⟩ => ⟨S128x4x16, .f32⟩
  | .hbm, ⟨93, _⟩ => ⟨S128x4x16x1, .f32⟩
  | .hbm, ⟨94, _⟩ => ⟨S_, .f32⟩
  | .hbm, ⟨95, _⟩ => ⟨S128x4x16x1, .f32⟩
  | .hbm, ⟨96, _⟩ => ⟨S128x4x16x1, .f32⟩
  | .hbm, ⟨97, _⟩ => ⟨S_, .f32⟩
  | .hbm, ⟨98, _⟩ => ⟨S128x4x16x1, .f32⟩
  | .hbm, ⟨99, _⟩ => ⟨S128x4x16x1, .f32⟩
  | .hbm, ⟨100, _⟩ => ⟨S128x4x16x1, .f32⟩
  | .hbm, ⟨101, _⟩ => ⟨S128x4x16x64, .f32⟩
  | .hbm, ⟨102, _⟩ => ⟨S128x4x16x64, .f32⟩
  | .hbm, ⟨103, _⟩ => ⟨S1x1x1x64, .f32⟩
  | .hbm, ⟨104, _⟩ => ⟨S128x4x16x64, .f32⟩
  | .hbm, ⟨105, _⟩ => ⟨S128x4x16x64, .f32⟩
  | .hbm, ⟨106, _⟩ => ⟨S128x4x16x64, .f32⟩
  | .hbm, ⟨107, _⟩ => ⟨S1x1x16, .f32⟩
  | .hbm, ⟨108, _⟩ => ⟨S128x4x16, .f32⟩
  | .hbm, ⟨109, _⟩ => ⟨S128x4x16, .f32⟩
  | .hbm, ⟨110, _⟩ => ⟨S128x4x16, .f32⟩
  | .hbm, ⟨111, _⟩ => ⟨S_, .f32⟩
  | .hbm, ⟨112, _⟩ => ⟨S128x4x16, .f32⟩
  | .hbm, ⟨113, _⟩ => ⟨S128x4x16, .f32⟩
  | .hbm, ⟨114, _⟩ => ⟨S128x4x16, .f32⟩
  | .hbm, ⟨115, _⟩ => ⟨S128x4x16, .f32⟩
  | .hbm, ⟨116, _⟩ => ⟨S128x4x16, .i1⟩
  | .hbm, ⟨117, _⟩ => ⟨S128x4x16, .f32⟩
  | .hbm, ⟨118, _⟩ => ⟨S128x4x16, .f32⟩
  | .hbm, ⟨119, _⟩ => ⟨S128x4x16, .f32⟩
  | .hbm, ⟨120, _⟩ => ⟨S128x4x16, .f32⟩
  | .hbm, ⟨121, _⟩ => ⟨S128x4x16, .f32⟩
  | .hbm, ⟨122, _⟩ => ⟨S128x4x16, .f32⟩
  | .hbm, ⟨123, _⟩ => ⟨S128x4x16, .f32⟩
  | .hbm, ⟨124, _⟩ => ⟨S128x4x16, .f32⟩
  | .hbm, ⟨125, _⟩ => ⟨S128x4x16, .f32⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_call0_v0 : Ref sig .tc := ⟨.hbm, 52, rfl⟩
abbrev main_call0_call0_cst : Ref sig .tc := ⟨.hbm, 53, rfl⟩
abbrev main_call0_call0_v0 : Ref sig .tc := ⟨.hbm, 54, rfl⟩
abbrev main_call0_call0_v1 : Ref sig .tc := ⟨.hbm, 55, rfl⟩
abbrev main_call0_call0_v2 : Ref sig .tc := ⟨.hbm, 56, rfl⟩
abbrev main_call0_call0_v3 : Ref sig .tc := ⟨.hbm, 57, rfl⟩
abbrev main_call0_call0_v4 : Ref sig .tc := ⟨.hbm, 58, rfl⟩
abbrev main_call0_call0_v5 : Ref sig .tc := ⟨.hbm, 59, rfl⟩
abbrev main_call0_call0_v6 : Ref sig .tc := ⟨.hbm, 60, rfl⟩
abbrev main_call0_call0_v7 : Ref sig .tc := ⟨.hbm, 61, rfl⟩
abbrev main_call0_call0_v8 : Ref sig .tc := ⟨.hbm, 62, rfl⟩
abbrev main_call0_call0_v9 : Ref sig .tc := ⟨.hbm, 63, rfl⟩
abbrev main_call0_call0_v10 : Ref sig .tc := ⟨.hbm, 64, rfl⟩
abbrev main_call0_call0_v11 : Ref sig .tc := ⟨.hbm, 65, rfl⟩
abbrev main_call0_v1 : Ref sig .tc := ⟨.hbm, 66, rfl⟩
abbrev main_v40 : Ref sig .tc := ⟨.hbm, 67, rfl⟩
abbrev main_v41 : Ref sig .tc := ⟨.hbm, 68, rfl⟩
abbrev main_cst_5 : Ref sig .tc := ⟨.hbm, 69, rfl⟩
abbrev main_v42 : Ref sig .tc := ⟨.hbm, 70, rfl⟩
abbrev main_v43 : Ref sig .tc := ⟨.hbm, 71, rfl⟩
abbrev main_cst_6 : Ref sig .tc := ⟨.hbm, 72, rfl⟩
abbrev main_v44 : Ref sig .tc := ⟨.hbm, 73, rfl⟩
abbrev main_v45 : Ref sig .tc := ⟨.hbm, 74, rfl⟩
abbrev main_cst_7 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_8 : Ref sig .tc := ⟨.hbm, 91, rfl⟩
abbrev main_v61 : Ref sig .tc := ⟨.hbm, 92, rfl⟩
abbrev main_v62 : Ref sig .tc := ⟨.hbm, 93, rfl⟩
abbrev main_cst_9 : Ref sig .tc := ⟨.hbm, 94, rfl⟩
abbrev main_v63 : Ref sig .tc := ⟨.hbm, 95, rfl⟩
abbrev main_v64 : Ref sig .tc := ⟨.hbm, 96, rfl⟩
abbrev main_cst_10 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_call1_v0 : Ref sig .tc := ⟨.hbm, 110, rfl⟩
abbrev main_call1_call0_cst : Ref sig .tc := ⟨.hbm, 111, rfl⟩
abbrev main_call1_call0_v0 : Ref sig .tc := ⟨.hbm, 112, rfl⟩
abbrev main_call1_call0_v1 : Ref sig .tc := ⟨.hbm, 113, rfl⟩
abbrev main_call1_call0_v2 : Ref sig .tc := ⟨.hbm, 114, rfl⟩
abbrev main_call1_call0_v3 : Ref sig .tc := ⟨.hbm, 115, rfl⟩
abbrev main_call1_call0_v4 : Ref sig .tc := ⟨.hbm, 116, rfl⟩
abbrev main_call1_call0_v5 : Ref sig .tc := ⟨.hbm, 117, rfl⟩
abbrev main_call1_call0_v6 : Ref sig .tc := ⟨.hbm, 118, rfl⟩
abbrev main_call1_call0_v7 : Ref sig .tc := ⟨.hbm, 119, rfl⟩
abbrev main_call1_call0_v8 : Ref sig .tc := ⟨.hbm, 120, rfl⟩
abbrev main_call1_call0_v9 : Ref sig .tc := ⟨.hbm, 121, rfl⟩
abbrev main_call1_call0_v10 : Ref sig .tc := ⟨.hbm, 122, rfl⟩
abbrev main_call1_call0_v11 : Ref sig .tc := ⟨.hbm, 123, rfl⟩
abbrev main_call1_v1 : Ref sig .tc := ⟨.hbm, 124, rfl⟩
abbrev main_v77 : Ref sig .tc := ⟨.hbm, 125, rfl⟩

abbrev nD : Nat := 1
abbrev τ : Topo := Topo.v7x

variable {F : FTy → Type} [FloatOps F]
-- ==== Kernel3.lean ====
abbrev S16896x1024 : Shape := ⟨2, ![16896, 1024]⟩
abbrev S1024 : Shape := ⟨1, ![1024]⟩
abbrev S1024x2760 : Shape := ⟨2, ![1024, 2760]⟩
abbrev S64 : Shape := ⟨1, ![64]⟩
abbrev S1024x512 : Shape := ⟨2, ![1024, 512]⟩
abbrev S1024x64 : Shape := ⟨2, ![1024, 64]⟩
abbrev S1024x8 : Shape := ⟨2, ![1024, 8]⟩
abbrev S_ : Shape := ⟨0, ![]⟩
abbrev S1024x56 : Shape := ⟨2, ![1024, 56]⟩
abbrev S1024x2816 : Shape := ⟨2, ![1024, 2816]⟩
abbrev S1x64 : Shape := ⟨2, ![1, 64]⟩
abbrev S8x64 : Shape := ⟨2, ![8, 64]⟩
abbrev S512 : Shape := ⟨1, ![512]⟩
abbrev S192 : Shape := ⟨1, ![192]⟩
abbrev S1792 : Shape := ⟨1, ![1792]⟩
abbrev S1x1792 : Shape := ⟨2, ![1, 1792]⟩
abbrev S256x256 : Shape := ⟨2, ![256, 256]⟩
abbrev S1x1024 : Shape := ⟨2, ![1, 1024]⟩
abbrev S16896x512 : Shape := ⟨2, ![16896, 512]⟩
abbrev S512x512 : Shape := ⟨2, ![512, 512]⟩
abbrev S8x512x2048 : Shape := ⟨3, ![8, 512, 2048]⟩
abbrev S16896x256 : Shape := ⟨2, ![16896, 256]⟩
abbrev S8x256x2048 : Shape := ⟨3, ![8, 256, 2048]⟩
abbrev S16896x128 : Shape := ⟨2, ![16896, 128]⟩
abbrev S512x1024 : Shape := ⟨2, ![512, 1024]⟩
abbrev S1x512x512 : Shape := ⟨3, ![1, 512, 512]⟩
abbrev S512x256 : Shape := ⟨2, ![512, 256]⟩
abbrev S1x256x512 : Shape := ⟨3, ![1, 256, 512]⟩
abbrev S512x128 : Shape := ⟨2, ![512, 128]⟩
abbrev S512x1 : Shape := ⟨2, ![512, 1]⟩
abbrev S1024x256 : Shape := ⟨2, ![1024, 256]⟩
abbrev S1x256 : Shape := ⟨2, ![1, 256]⟩
abbrev S256x512 : Shape := ⟨2, ![256, 512]⟩
abbrev S128x4x256 : Shape := ⟨3, ![128, 4, 256]⟩
abbrev S128x4x512 : Shape := ⟨3, ![128, 4, 512]⟩
abbrev S8x4x2x64x2048 : Shape := ⟨5, ![8, 4, 2, 64, 2048]⟩
abbrev S8x2048x4x2x64 : Shape := ⟨5, ![8, 2048, 4, 2, 64]⟩
abbrev S16384x512 : Shape := ⟨2, ![16384, 512]⟩
abbrev S8x2048x4x128 : Shape := ⟨4, ![8, 2048, 4, 128]⟩
abbrev S8x64x2048 : Shape := ⟨3, ![8, 64, 2048]⟩
abbrev S8x2048x64 : Shape := ⟨3, ![8, 2048, 64]⟩
abbrev S128x4x4x2x64 : Shape := ⟨5, ![128, 4, 4, 2, 64]⟩
abbrev S128x4x4x128 : Shape := ⟨4, ![128, 4, 4, 128]⟩
abbrev S128x4x64 : Shape := ⟨3, ![128, 4, 64]⟩

abbrev nBuf : Space → Nat
  | .hbm => 77
  | .vmem => 32
  | .smem => 0
  | _ => 0

abbrev bufTy : (tb : Table) → Fin (tcTables nBuf tb) → BufTy
  | .hbm, ⟨0, _⟩ => ⟨S16896x1024, .f32⟩
  | .hbm, ⟨1, _⟩ => ⟨S1024, .f32⟩
  | .hbm, ⟨2, _⟩ => ⟨S1024x2760, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S1024x64, .f32⟩
  | .hbm, ⟨12, _⟩ => ⟨S1024x64, .f32⟩
  | .hbm, ⟨13, _⟩ => ⟨S1024x512, .f32⟩
  | .hbm, ⟨14, _⟩ => ⟨S1024x64, .f32⟩
  | .hbm, ⟨15, _⟩ => ⟨S1024x8, .f32⟩
  | .hbm, ⟨16, _⟩ => ⟨S_, .f32⟩
  | .hbm, ⟨17, _⟩ => ⟨S1024x56, .f32⟩
  | .hbm, ⟨18, _⟩ => ⟨S1024x2816, .f32⟩
  | .hbm, ⟨19, _⟩ => ⟨S1024x2816, .bf16⟩
  | .hbm, ⟨20, _⟩ => ⟨S1x64, .f32⟩
  | .hbm, ⟨21, _⟩ => ⟨S8x64, .f32⟩
  | .hbm, ⟨22, _⟩ => ⟨S512, .f32⟩
  | .hbm, ⟨23, _⟩ => ⟨S1x64, .f32⟩
  | .hbm, ⟨24, _⟩ => ⟨S8x64, .f32⟩
  | .hbm, ⟨25, _⟩ => ⟨S512, .f32⟩
  | .hbm, ⟨26, _⟩ => ⟨S1x64, .f32⟩
  | .hbm, ⟨27, _⟩ => ⟨S8x64, .f32⟩
  | .hbm, ⟨28, _⟩ => ⟨S512, .f32⟩
  | .hbm, ⟨29, _⟩ => ⟨S_, .f32⟩
  | .hbm, ⟨30, _⟩ => ⟨S192, .f32⟩
  | .hbm, ⟨31, _⟩ => ⟨S1792, .f32⟩
  | .hbm, ⟨32, _⟩ => ⟨S1x1792, .f32⟩
  | .hbm, ⟨33, _⟩ => ⟨S256x256, .i32⟩
  | .hbm, ⟨34, _⟩ => ⟨S256x256, .i32⟩
  | .hbm, ⟨35, _⟩ => ⟨S_, .i32⟩
  | .hbm, ⟨36, _⟩ => ⟨S256x256, .i32⟩
  | .hbm, ⟨37, _⟩ => ⟨S256x256, .i32⟩
  | .hbm, ⟨38, _⟩ => ⟨S_, .i32⟩
  | .hbm, ⟨39, _⟩ => ⟨S256x256, .i32⟩
  | .hbm, ⟨40, _⟩ => ⟨S256x256, .i32⟩
  | .hbm, ⟨41, _⟩ => ⟨S256x256, .i1⟩
  | .hbm, ⟨42, _⟩ => ⟨S256x256, .bf16⟩
  | .hbm, ⟨43, _⟩ => ⟨S1x1024, .f32⟩
  | .hbm, ⟨44, _⟩ => ⟨S16896x512, .bf16⟩
  | .hbm, ⟨45, _⟩ => ⟨S512x512, .f32⟩
  | .hbm, ⟨46, _⟩ => ⟨S8x512x2048, .f32⟩
  | .hbm, ⟨47, _⟩ => ⟨S8x512x2048, .bf16⟩
  | .hbm, ⟨48, _⟩ => ⟨S16896x512, .bf16⟩
  | .hbm, ⟨49, _⟩ => ⟨S16896x256, .f32⟩
  | .hbm, ⟨50, _⟩ => ⟨S8x256x2048, .f32⟩
  | .hbm, ⟨51, _⟩ => ⟨S16896x128, .bf16⟩
  | .hbm, ⟨52, _⟩ => ⟨S16896x128, .bf16⟩
  | .hbm, ⟨53, _⟩ => ⟨S16896x128, .bf16⟩
  | .hbm, ⟨54, _⟩ => ⟨S16896x512, .f32⟩
  | .hbm, ⟨55, _⟩ => ⟨S16896x512, .bf16⟩
  | .hbm, ⟨56, _⟩ => ⟨S16896x512, .bf16⟩
  | .hbm, ⟨57, _⟩ => ⟨S512x256, .f32⟩
  | .hbm, ⟨58, _⟩ => ⟨S128x4x256, .f32⟩
  | .hbm, ⟨59, _⟩ => ⟨S128x4x512, .f32⟩
  | .hbm, ⟨60, _⟩ => ⟨S512x512, .f32⟩
  | .hbm, ⟨61, _⟩ => ⟨S128x4x512, .f32⟩
  | .hbm, ⟨62, _⟩ => ⟨S8x4x2x64x2048, .f32⟩
  | .hbm, ⟨63, _⟩ => ⟨S8x2048x4x2x64, .f32⟩
  | .hbm, ⟨64, _⟩ => ⟨S16384x512, .f32⟩
  | .hbm, ⟨65, _⟩ => ⟨S8x2048x4x128, .f32⟩
  | .hbm, ⟨66, _⟩ => ⟨S8x64x2048, .f32⟩
  | .hbm, ⟨67, _⟩ => ⟨S8x2048x64, .f32⟩
  | .hbm, ⟨68, _⟩ => ⟨S8x64x2048, .f32⟩
  | .hbm, ⟨69, _⟩ => ⟨S8x2048x64, .f32⟩
  | .hbm, ⟨70, _⟩ => ⟨S8x64x2048, .f32⟩
  | .hbm, ⟨71, _⟩ => ⟨S8x2048x64, .f32⟩
  | .hbm, ⟨72, _⟩ => ⟨S128x4x4x2x64, .f32⟩
  | .hbm, ⟨73, _⟩ => ⟨S128x4x4x128, .f32⟩
  | .hbm, ⟨74, _⟩ => ⟨S128x4x64, .f32⟩
  | .hbm, ⟨75, _⟩ => ⟨S128x4x64, .f32⟩
  | .hbm, ⟨76, _⟩ => ⟨S128x4x64, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1x1792, .f32⟩
  | .local _ .vmem, ⟨5, _⟩ => ⟨S256x256, .bf16⟩
  | .local _ .vmem, ⟨6, _⟩ => ⟨S512x512, .bf16⟩
  | .local _ .vmem, ⟨7, _⟩ => ⟨S512x512, .bf16⟩
  | .local _ .vmem, ⟨8, _⟩ => ⟨S512x512, .f32⟩
  | .local _ .vmem, ⟨9, _⟩ => ⟨S512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .bf16⟩
  | .local _ .vmem, ⟨13, _⟩ => ⟨S1x512x512, .bf16⟩
  | .local _ .vmem, ⟨14, _⟩ => ⟨S512x512, .bf16⟩
  | .local _ .vmem, ⟨15, _⟩ => ⟨S512x512, .bf16⟩
  | .local _ .vmem, ⟨16, _⟩ => ⟨S512x256, .f32⟩
  | .local _ .vmem, ⟨17, _⟩ => ⟨S512x256, .f32⟩
  | .local _ .vmem, ⟨18, _⟩ => ⟨S1x256x512, .f32⟩
  | .local _ .vmem, ⟨19, _⟩ => ⟨S1x256x512, .f32⟩
  | .local _ .vmem, ⟨20, _⟩ => ⟨S512x128, .bf16⟩
  | .local _ .vmem, ⟨21, _⟩ => ⟨S512x128, .bf16⟩
  | .local _ .vmem, ⟨22, _⟩ => ⟨S512x128, .bf16⟩
  | .local _ .vmem, ⟨23, _⟩ => ⟨S512x128, .bf16⟩
  | .local _ .vmem, ⟨24, _⟩ => ⟨S512x128, .bf16⟩
  | .local _ .vmem, ⟨25, _⟩ => ⟨S512x128, .bf16⟩
  | .local _ .vmem, ⟨26, _⟩ => ⟨S512x512, .f32⟩
  | .local _ .vmem, ⟨27, _⟩ => ⟨S512x512, .f32⟩
  | .local _ .vmem, ⟨28, _⟩ => ⟨S512x512, .bf16⟩
  | .local _ .vmem, ⟨29, _⟩ => ⟨S512x512, .bf16⟩
  | .local _ .vmem, ⟨30, _⟩ => ⟨S512x512, .bf16⟩
  | .local _ .vmem, ⟨31, _⟩ => ⟨S512x512, .bf16⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_0 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c : Ref sig .tc := ⟨.hbm, 35, rfl⟩
abbrev main_v26 : Ref sig .tc := ⟨.hbm, 36, rfl⟩
abbrev main_v27 : Ref sig .tc := ⟨.hbm, 37, rfl⟩
abbrev main_c_1 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33_0 : Ref sig .tc := ⟨.hbm, 44, rfl⟩
abbrev main_v33_1 : Ref sig .tc := ⟨.hbm, 45, rfl⟩
abbrev main_v33_2 : Ref sig .tc := ⟨.hbm, 46, rfl⟩
abbrev main_v33_3 : Ref sig .tc := ⟨.hbm, 47, rfl⟩
abbrev main_v33_4 : Ref sig .tc := ⟨.hbm, 48, rfl⟩
abbrev main_v33_5 : Ref sig .tc := ⟨.hbm, 49, rfl⟩
abbrev main_v33_6 : Ref sig .tc := ⟨.hbm, 50, rfl⟩
abbrev main_v33_7 : Ref sig .tc := ⟨.hbm, 51, rfl⟩
abbrev main_v33_8 : Ref sig .tc := ⟨.hbm, 52, rfl⟩
abbrev main_v33_9 : Ref sig .tc := ⟨.hbm, 53, rfl⟩
abbrev main_v33_10 : Ref sig .tc := ⟨.hbm, 54, rfl⟩
abbrev main_v33_11 : Ref sig .tc := ⟨.hbm, 55, rfl⟩
abbrev main_v33_12 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c32_i32 : BitVec 32 := 32#32
  let v0 : BitVec 1 := Scalar.cmpi .slt arg0 c32_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c32_i32 : BitVec 32 := 32#32
  let v0 : BitVec 1 := Scalar.cmpi .slt arg0 c32_i32
  let v_true : BitVec 1 := 1#1
  let v3 : BitVec 1 := Scalar.xori v0 v_true
  let v4 : BitVec 32 := Scalar.extui v3
  let c0_i32_0 : BitVec 32 := 0#32
  let v5 : BitVec 1 := Scalar.cmpi .ne v4 c0_i32_0
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 3 → Nat :=
  let arg0 : BitVec 32 := BitVec.ofNat 32 (i 0).val
  let c31_i32 : BitVec 32 := 31#32
  let v0 : BitVec 32 := Scalar.minsi arg0 c31_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32_4 : BitVec 32 := 4#32
  let c0_i32_5 : BitVec 32 := 0#32
  let v18 : BitVec 1 := Scalar.cmpi .eq c4_i32_4 c0_i32_5
  let c1_i32_6 : BitVec 32 := 1#32
  let v19 : BitVec 32 := Scalar.select v18 c1_i32_6 c4_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, c0_i32_10.toNat, v27.toNat]

def cc0_transform_8 (i : grid0.Coords) : Fin 3 → Nat :=
  let arg0 : BitVec 32 := BitVec.ofNat 32 (i 0).val
  let c31_i32 : BitVec 32 := 31#32
  let v0 : BitVec 32 := Scalar.minsi arg0 c31_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32_4 : BitVec 32 := 4#32
  let c0_i32_5 : BitVec 32 := 0#32
  let v18 : BitVec 1 := Scalar.cmpi .eq c4_i32_4 c0_i32_5
  let c1_i32_6 : BitVec 32 := 1#32
  let v19 : BitVec 32 := Scalar.select v18 c1_i32_6 c4_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, c0_i32_10.toNat, v27.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c31_i32 : BitVec 32 := 31#32
  let v0 : BitVec 32 := Scalar.minsi arg0 c31_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32_4 : BitVec 32 := 4#32
  let c0_i32_5 : BitVec 32 := 0#32
  let v18 : BitVec 1 := Scalar.cmpi .eq c4_i32_4 c0_i32_5
  let c1_i32_6 : BitVec 32 := 1#32
  let v19 : BitVec 32 := Scalar.select v18 c1_i32_6 c4_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, c0_i32_10.toNat, v27.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1792 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference3Ideal.lean ====
abbrev S16896x1024 : Shape := ⟨2, ![16896, 1024]⟩
abbrev S1024 : Shape := ⟨1, ![1024]⟩
abbrev S1024x2760 : Shape := ⟨2, ![1024, 2760]⟩
abbrev S64 : Shape := ⟨1, ![64]⟩
abbrev S16384x1024 : Shape := ⟨2, ![16384, 1024]⟩
abbrev S8x2048x1024 : Shape := ⟨3, ![8, 2048, 1024]⟩
abbrev S512x1024 : Shape := ⟨2, ![512, 1024]⟩
abbrev S128x4x1024 : Shape := ⟨3, ![128, 4, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2760 : Shape := ⟨3, ![8, 2048, 2760]⟩
abbrev S8x2048x512 : Shape := ⟨3, ![8, 2048, 512]⟩
abbrev S8x2048x64 : Shape := ⟨3, ![8, 2048, 64]⟩
abbrev S8x2048x8 : Shape := ⟨3, ![8, 2048, 8]⟩
abbrev S8x2048x4x2x64 : Shape := ⟨5, ![8, 2048, 4, 2, 64]⟩
abbrev S8x2048x4x2 : Shape := ⟨4, ![8, 2048, 4, 2]⟩
abbrev S8x2048x4x2x1 : Shape := ⟨5, ![8, 2048, 4, 2, 1]⟩
abbrev S1x1x1x1x64 : Shape := ⟨5, ![1, 1, 1, 1, 64]⟩
abbrev S8x2048x4x128 : Shape := ⟨4, ![8, 2048, 4, 128]⟩
abbrev S1x1x64 : Shape := ⟨3, ![1, 1, 64]⟩
abbrev S128x4 : Shape := ⟨2, ![128, 4]⟩
abbrev S128x4x1 : Shape := ⟨3, ![128, 4, 1]⟩
abbrev S128x4x2760 : Shape := ⟨3, ![128, 4, 2760]⟩
abbrev S128x4x512 : Shape := ⟨3, ![128, 4, 512]⟩
abbrev S128x4x64 : Shape := ⟨3, ![128, 4, 64]⟩
abbrev S128x4x8 : Shape := ⟨3, ![128, 4, 8]⟩
abbrev S128x4x4x2x64 : Shape := ⟨5, ![128, 4, 4, 2, 64]⟩
abbrev S128x4x4x2 : Shape := ⟨4, ![128, 4, 4, 2]⟩
abbrev S128x4x4x2x1 : Shape := ⟨5, ![128, 4, 4, 2, 1]⟩
abbrev S128x4x4x128 : Shape := ⟨4, ![128, 4, 4, 128]⟩

abbrev nBuf : Space → Nat
  | .hbm => 131
  | .vmem => 0
  | .smem => 0
  | _ => 0

abbrev hbmTy0_0 (i : Nat) : BufTy := match i % 128 with
  | 0 => ⟨S16896x1024, .f32⟩
  | 1 => ⟨S1024, .f32⟩
  | 2 => ⟨S1024x2760, .f32⟩
  | 3 => ⟨S64, .f32⟩
  | 4 => ⟨S64, .f32⟩
  | 5 => ⟨S64, .f32⟩
  | 6 => ⟨S64, .f32⟩
  | 7 => ⟨S16384x1024, .f32⟩
  | 8 => ⟨S8x2048x1024, .f32⟩
  | 9 => ⟨S512x1024, .f32⟩
  | 10 => ⟨S128x4x1024, .f32⟩
  | 11 => ⟨S8x2048x1024, .f32⟩
  | 12 => ⟨S_, .f32⟩
  | 13 => ⟨S8x2048, .f32⟩
  | 14 => ⟨S8x2048x1, .f32⟩
  | 15 => ⟨S_, .f32⟩
  | 16 => ⟨S8x2048x1, .f32⟩
  | 17 => ⟨S8x2048x1, .f32⟩
  | 18 => ⟨S_, .f32⟩
  | 19 => ⟨S8x2048x1, .f32⟩
  | 20 => ⟨S8x2048x1, .f32⟩
  | 21 => ⟨S8x2048x1, .f32⟩
  | 22 => ⟨S8x2048x1024, .f32⟩
  | 23 => ⟨S8x2048x1024, .f32⟩
  | 24 => ⟨S1x1x1024, .f32⟩
  | 25 => ⟨S8x2048x1024, .f32⟩
  | 26 => ⟨S8x2048x1024, .f32⟩
  | 27 => ⟨S8x2048x2760, .f32⟩
  | 28 => ⟨S8x2048x512, .f32⟩
  | 29 => ⟨S8x2048x512, .f32⟩
  | 30 => ⟨S8x2048x512, .f32⟩
  | 31 => ⟨S8x2048x512, .f32⟩
  | 32 => ⟨S8x2048x64, .f32⟩
  | 33 => ⟨S8x2048x64, .f32⟩
  | 34 => ⟨S8x2048x512, .f32⟩
  | 35 => ⟨S8x2048x64, .f32⟩
  | 36 => ⟨S8x2048x8, .f32⟩
  | 37 => ⟨S8x2048x4x2x64, .f32⟩
  | 38 => ⟨S8x2048x4x2x64, .f32⟩
  | 39 => ⟨S_, .f32⟩
  | 40 => ⟨S8x2048x4x2, .f32⟩
  | 41 => ⟨S8x2048x4x2x1, .f32⟩
  | 42 => ⟨S_, .f32⟩
  | 43 => ⟨S8x2048x4x2x1, .f32⟩
  | 44 => ⟨S8x2048x4x2x1, .f32⟩
  | 45 => ⟨S_, .f32⟩
  | 46 => ⟨S8x2048x4x2x1, .f32⟩
  | 47 => ⟨S8x2048x4x2x1, .f32⟩
  | 48 => ⟨S8x2048x4x2x1, .f32⟩
  | 49 => ⟨S8x2048x4x2x64, .f32⟩
  | 50 => ⟨S8x2048x4x2x64, .f32⟩
  | 51 => ⟨S1x1x1x1x64, .f32⟩
  | 52 => ⟨S8x2048x4x2x64, .f32⟩
  | 53 => ⟨S8x2048x4x2x64, .f32⟩
  | 54 => ⟨S8x2048x4x128, .f32⟩
  | 55 => ⟨S8x2048x64, .f32⟩
  | 56 => ⟨S_, .f32⟩
  | 57 => ⟨S8x2048, .f32⟩
  | 58 => ⟨S8x2048x1, .f32⟩
  | 59 => ⟨S_, .f32⟩
  | 60 => ⟨S8x2048x1, .f32⟩
  | 61 => ⟨S8x2048x1, .f32⟩
  | 62 => ⟨S_, .f32⟩
  | 63 => ⟨S8x2048x1, .f32⟩
  | 64 => ⟨S8x2048x1, .f32⟩
  | 65 => ⟨S8x2048x1, .f32⟩
  | 66 => ⟨S8x2048x64, .f32⟩
  | 67 => ⟨S8x2048x64, .f32⟩
  | 68 => ⟨S1x1x64, .f32⟩
  | 69 => ⟨S8x2048x64, .f32⟩
  | 70 => ⟨S8x2048x64, .f32⟩
  | 71 => ⟨S128x4x1024, .f32⟩
  | 72 => ⟨S_, .f32⟩
  | 73 => ⟨S128x4, .f32⟩
  | 74 => ⟨S128x4x1, .f32⟩
  | 75 => ⟨S_, .f32⟩
  | 76 => ⟨S128x4x1, .f32⟩
  | 77 => ⟨S128x4x1, .f32⟩
  | 78 => ⟨S_, .f32⟩
  | 79 => ⟨S128x4x1, .f32⟩
  | 80 => ⟨S128x4x1, .f32⟩
  | 81 => ⟨S128x4x1, .f32⟩
  | 82 => ⟨S128x4x1024, .f32⟩
  | 83 => ⟨S128x4x1024, .f32⟩
  | 84 => ⟨S1x1x1024, .f32⟩
  | 85 => ⟨S128x4x1024, .f32⟩
  | 86 => ⟨S128x4x1024, .f32⟩
  | 87 => ⟨S128x4x2760, .f32⟩
  | 88 => ⟨S128x4x512, .f32⟩
  | 89 => ⟨S128x4x512, .f32⟩
  | 90 => ⟨S128x4x512, .f32⟩
  | 91 => ⟨S128x4x512, .f32⟩
  | 92 => ⟨S128x4x64, .f32⟩
  | 93 => ⟨S128x4x64, .f32⟩
  | 94 => ⟨S128x4x512, .f32⟩
  | 95 => ⟨S128x4x64, .f32⟩
  | 96 => ⟨S128x4x8, .f32⟩
  | 97 => ⟨S128x4x4x2x64, .f32⟩
  | 98 => ⟨S128x4x4x2x64, .f32⟩
  | 99 => ⟨S_, .f32⟩
  | 100 => ⟨S128x4x4x2, .f32⟩
  | 101 => ⟨S128x4x4x2x1, .f32⟩
  | 102 => ⟨S_, .f32⟩
  | 103 => ⟨S128x4x4x2x1, .f32⟩
  | 104 => ⟨S128x4x4x2x1, .f32⟩
  | 105 => ⟨S_, .f32⟩
  | 106 => ⟨S128x4x4x2x1, .f32⟩
  | 107 => ⟨S128x4x4x2x1, .f32⟩
  | 108 => ⟨S128x4x4x2x1, .f32⟩
  | 109 => ⟨S128x4x4x2x64, .f32⟩
  | 110 => ⟨S128x4x4x2x64, .f32⟩
  | 111 => ⟨S1x1x1x1x64, .f32⟩
  | 112 => ⟨S128x4x4x2x64, .f32⟩
  | 113 => ⟨S128x4x4x2x64, .f32⟩
  | 114 => ⟨S128x4x4x128, .f32⟩
  | 115 => ⟨S128x4x64, .f32⟩
  | 116 => ⟨S_, .f32⟩
  | 117 => ⟨S128x4, .f32⟩
  | 118 => ⟨S128x4x1, .f32⟩
  | 119 => ⟨S_, .f32⟩
  | 120 => ⟨S128x4x1, .f32⟩
  | 121 => ⟨S128x4x1, .f32⟩
  | 122 => ⟨S_, .f32⟩
  | 123 => ⟨S128x4x1, .f32⟩
  | 124 => ⟨S128x4x1, .f32⟩
  | 125 => ⟨S128x4x1, .f32⟩
  | 126 => ⟨S128x4x64, .f32⟩
  | 127 => ⟨S128x4x64, .f32⟩
  | _ => ⟨S16896x1024, .f32⟩

abbrev hbmTy0_1 (i : Nat) : BufTy := match i % 128 with
  | 0 => ⟨S1x1x64, .f32⟩
  | 1 => ⟨S128x4x64, .f32⟩
  | 2 => ⟨S128x4x64, .f32⟩
  | _ => ⟨S16896x1024, .f32⟩

abbrev hbmTy (i : Nat) : BufTy := match i / 128 with
  | 0 => hbmTy0_0 i
  | 1 => hbmTy0_1 i
  | _ => ⟨S16896x1024, .f32⟩

abbrev bufTy : (tb : Table) → Fin (tcTables nBuf tb) → BufTy
  | .hbm, ⟨i, _⟩ => hbmTy i
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_5 : Ref sig .tc := ⟨.hbm, 56, rfl⟩
abbrev main_v43 : Ref sig .tc := ⟨.hbm, 57, rfl⟩
abbrev main_v44 : Ref sig .tc := ⟨.hbm, 58, rfl⟩
abbrev main_cst_6 : Ref sig .tc := ⟨.hbm, 59, rfl⟩
abbrev main_v45 : Ref sig .tc := ⟨.hbm, 60, rfl⟩
abbrev main_v46 : Ref sig .tc := ⟨.hbm, 61, rfl⟩
abbrev main_cst_7 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_8 : Ref sig .tc := ⟨.hbm, 72, rfl⟩
abbrev main_v56 : Ref sig .tc := ⟨.hbm, 73, rfl⟩
abbrev main_v57 : Ref sig .tc := ⟨.hbm, 74, rfl⟩
abbrev main_cst_9 : Ref sig .tc := ⟨.hbm, 75, rfl⟩
abbrev main_v58 : Ref sig .tc := ⟨.hbm, 76, rfl⟩
abbrev main_v59 : Ref sig .tc := ⟨.hbm, 77, rfl⟩
abbrev main_cst_10 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_cst_11 : Ref sig .tc := ⟨.hbm, 99, rfl⟩
abbrev main_v80 : Ref sig .tc := ⟨.hbm, 100, rfl⟩
abbrev main_v81 : Ref sig .tc := ⟨.hbm, 101, rfl⟩
abbrev main_cst_12 : Ref sig .tc := ⟨.hbm, 102, rfl⟩
abbrev main_v82 : Ref sig .tc := ⟨.hbm, 103, rfl⟩
abbrev main_v83 : Ref sig .tc := ⟨.hbm, 104, rfl⟩
abbrev main_cst_13 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_cst_14 : Ref sig .tc := ⟨.hbm, 116, rfl⟩
abbrev main_v94 : Ref sig .tc := ⟨.hbm, 117, rfl⟩
abbrev main_v95 : Ref sig .tc := ⟨.hbm, 118, rfl⟩
abbrev main_cst_15 : Ref sig .tc := ⟨.hbm, 119, rfl⟩
abbrev main_v96 : Ref sig .tc := ⟨.hbm, 120, rfl⟩
abbrev main_v97 : Ref sig .tc := ⟨.hbm, 121, rfl⟩
abbrev main_cst_16 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩

abbrev nD : Nat := 1
abbrev τ : Topo := Topo.v7x

variable {F : FTy → Type} [FloatOps F]
-- ==== Kernel4.lean ====
abbrev S8x2048x16x64 : Shape := ⟨4, ![8, 2048, 16, 64]⟩
abbrev S8x2048x16 : Shape := ⟨3, ![8, 2048, 16]⟩
abbrev S16384x1024 : Shape := ⟨2, ![16384, 1024]⟩
abbrev S_ : Shape := ⟨0, ![]⟩
abbrev S8x2048x1024 : Shape := ⟨3, ![8, 2048, 1024]⟩
abbrev S8x1024x2048 : Shape := ⟨3, ![8, 1024, 2048]⟩
abbrev S16384x16 : Shape := ⟨2, ![16384, 16]⟩
abbrev S8x2048x8x2 : Shape := ⟨4, ![8, 2048, 8, 2]⟩
abbrev S8x8x2x2048 : Shape := ⟨4, ![8, 8, 2, 2048]⟩
abbrev S512x128 : Shape := ⟨2, ![512, 128]⟩
abbrev S1x128x2048 : Shape := ⟨3, ![1, 128, 2048]⟩
abbrev S2048x128 : Shape := ⟨2, ![2048, 128]⟩
abbrev S512x16 : Shape := ⟨2, ![512, 16]⟩
abbrev S1x1x2x2048 : Shape := ⟨4, ![1, 1, 2, 2048]⟩
abbrev S1024x128 : Shape := ⟨2, ![1024, 128]⟩
abbrev S512 : Shape := ⟨1, ![512]⟩
abbrev S512x1 : Shape := ⟨2, ![512, 1]⟩
abbrev S1x128x1024 : Shape := ⟨3, ![1, 128, 1024]⟩
abbrev S128x1024 : Shape := ⟨2, ![128, 1024]⟩
abbrev S1024x1024 : Shape := ⟨2, ![1024, 1024]⟩
abbrev S1x1x2x1024 : Shape := ⟨4, ![1, 1, 2, 1024]⟩
abbrev S2x1024 : Shape := ⟨2, ![2, 1024]⟩
abbrev S1x1024 : Shape := ⟨2, ![1, 1024]⟩
abbrev S512x1024 : Shape := ⟨2, ![512, 1024]⟩
abbrev S1024 : Shape := ⟨1, ![1024]⟩
abbrev S1024x1 : Shape := ⟨2, ![1024, 1]⟩
abbrev S1x128x512 : Shape := ⟨3, ![1, 128, 512]⟩
abbrev S128x512 : Shape := ⟨2, ![128, 512]⟩
abbrev S1024x512 : Shape := ⟨2, ![1024, 512]⟩
abbrev S1x1x2x512 : Shape := ⟨4, ![1, 1, 2, 512]⟩
abbrev S2x512 : Shape := ⟨2, ![2, 512]⟩
abbrev S1x512 : Shape := ⟨2, ![1, 512]⟩
abbrev S512x512 : Shape := ⟨2, ![512, 512]⟩

abbrev nBuf : Space → Nat
  | .hbm => 18
  | .vmem => 15
  | .smem => 0
  | _ => 0

abbrev bufTy : (tb : Table) → Fin (tcTables nBuf tb) → BufTy
  | .hbm, ⟨0, _⟩ => ⟨S8x2048x16x64, .f32⟩
  | .hbm, ⟨1, _⟩ => ⟨S8x2048x16x64, .f32⟩
  | .hbm, ⟨2, _⟩ => ⟨S8x2048x16x64, .f32⟩
  | .hbm, ⟨3, _⟩ => ⟨S8x2048x16, .f32⟩
  | .hbm, ⟨4, _⟩ => ⟨S16384x1024, .f32⟩
  | .hbm, ⟨5, _⟩ => ⟨S_, .f32⟩
  | .hbm, ⟨6, _⟩ => ⟨S16384x1024, .f32⟩
  | .hbm, ⟨7, _⟩ => ⟨S16384x1024, .f32⟩
  | .hbm, ⟨8, _⟩ => ⟨S16384x1024, .bf16⟩
  | .hbm, ⟨9, _⟩ => ⟨S8x2048x1024, .f32⟩
  | .hbm, ⟨10, _⟩ => ⟨S8x1024x2048, .f32⟩
  | .hbm, ⟨11, _⟩ => ⟨S8x1024x2048, .bf16⟩
  | .hbm, ⟨12, _⟩ => ⟨S16384x1024, .f32⟩
  | .hbm, ⟨13, _⟩ => ⟨S16384x1024, .bf16⟩
  | .hbm, ⟨14, _⟩ => ⟨S16384x16, .f32⟩
  | .hbm, ⟨15, _⟩ => ⟨S8x2048x8x2, .f32⟩
  | .hbm, ⟨16, _⟩ => ⟨S8x8x2x2048, .f32⟩
  | .hbm, ⟨17, _⟩ => ⟨S16384x1024, .bf16⟩
  | .local _ .vmem, ⟨0, _⟩ => ⟨S512x128, .bf16⟩
  | .local _ .vmem, ⟨1, _⟩ => ⟨S512x128, .bf16⟩
  | .local _ .vmem, ⟨2, _⟩ => ⟨S1x128x2048, .bf16⟩
  | .local _ .vmem, ⟨3, _⟩ => ⟨S1x128x2048, .bf16⟩
  | .local _ .vmem, ⟨4, _⟩ => ⟨S2048x128, .bf16⟩
  | .local _ .vmem, ⟨5, _⟩ => ⟨S2048x128, .bf16⟩
  | .local _ .vmem, ⟨6, _⟩ => ⟨S512x16, .f32⟩
  | .local _ .vmem, ⟨7, _⟩ => ⟨S512x16, .f32⟩
  | .local _ .vmem, ⟨8, _⟩ => ⟨S1x1x2x2048, .f32⟩
  | .local _ .vmem, ⟨9, _⟩ => ⟨S1x1x2x2048, .f32⟩
  | .local _ .vmem, ⟨10, _⟩ => ⟨S512x128, .bf16⟩
  | .local _ .vmem, ⟨11, _⟩ => ⟨S512x128, .bf16⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | _, _ => ⟨S8x2048x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 8, 4], ![false, false, false]⟩

@[reducible] def k0_t1_loop (i : grid0.Coords) : Scf.Loop 32 :=
  let c0_i32_26 : BitVec 32 := 0#32
  let arg2 : BitVec 32 := BitVec.ofNat 32 (i 2).val
  let c0_i32_19 : BitVec 32 := 0#32
  let v48 : BitVec 1 := Scalar.cmpi .sgt arg2 c0_i32_19
  let v49 : BitVec 32 := Scalar.extui v48
  let c0_i32_20 : BitVec 32 := 0#32
  let v50 : BitVec 1 := Scalar.cmpi .slt arg2 c0_i32_20
  let v51 : BitVec 32 := Scalar.extui v50
  let v52 : BitVec 32 := Scalar.subi v49 v51
  let c2_i32_18 : BitVec 32 := 2#32
  let c0_i32_21 : BitVec 32 := 0#32
  let v53 : BitVec 1 := Scalar.cmpi .sgt c2_i32_18 c0_i32_21
  let v54 : BitVec 32 := Scalar.extui v53
  let c0_i32_22 : BitVec 32 := 0#32
  let v55 : BitVec 1 := Scalar.cmpi .slt c2_i32_18 c0_i32_22
  let v56 : BitVec 32 := Scalar.extui v55
  let v57 : BitVec 32 := Scalar.subi v54 v56
  let v58 : BitVec 1 := Scalar.cmpi .ne v52 v57
  let v59 : BitVec 32 := Scalar.remsi arg2 c2_i32_18
  let c0_i32_23 : BitVec 32 := 0#32
  let v60 : BitVec 1 := Scalar.cmpi .ne v59 c0_i32_23
  let v61 : BitVec 1 := Scalar.andi v58 v60
  let v47 : BitVec 32 := Scalar.divsi arg2 c2_i32_18
  let c1_i32_24 : BitVec 32 := 1#32
  let v62 : BitVec 32 := Scalar.subi v47 c1_i32_24
  let v63 : BitVec 32 := Scalar.select v61 v62 v47
  let v64 : BitVec 32 := Scalar.subi v63 c0_i32_26
  let c1_i32_27 : BitVec 32 := 1#32
  let v66 : BitVec 32 := Scalar.divsi v64 c1_i32_27
  let v67 : BitVec 32 := Scalar.muli v66 c1_i32_27
  let v68 : BitVec 32 := Scalar.addi c0_i32_26 v67
  let c1_i32_28 : BitVec 32 := 1#32
  ⟨c0_i32_26, v68, c1_i32_28⟩
def k0_mult1 (i : grid0.Coords) (k0_t1 : Fin (k0_t1_loop i).trips) : BitVec 32 :=
  let c0_i32_26 : BitVec 32 := 0#32
  let c1_i32_28 : BitVec 32 := 1#32
  let arg12 : BitVec 32 := Scf.iv c0_i32_26 c1_i32_28 k0_t1
  let c2_i32_73 : BitVec 32 := 2#32
  let v156 : BitVec 32 := Scalar.muli arg12 c2_i32_73
  let c512_i32_74 : BitVec 32 := 512#32
  let v157 : BitVec 32 := Scalar.muli v156 c512_i32_74
  v157
def k0_off1 (i : grid0.Coords) (k0_t1 : Fin (k0_t1_loop i).trips) : Fin 3 → Nat :=
  let c0_75 : Index := 0#32
  let c0_76 : Index := 0#32
  let c0_i32_26 : BitVec 32 := 0#32
  let c1_i32_28 : BitVec 32 := 1#32
  let arg12 : BitVec 32 := Scf.iv c0_i32_26 c1_i32_28 k0_t1
  let c2_i32_73 : BitVec 32 := 2#32
  let v156 : BitVec 32 := Scalar.muli arg12 c2_i32_73
  let c512_i32_74 : BitVec 32 := 512#32
  let v157 : BitVec 32 := Scalar.muli v156 c512_i32_74
  let v158 : BitVec 32 := v157
  let v159 : Index := Scalar.indexCast v158
  ![0, 0, v159.toNat]
def k0_off2 (i : grid0.Coords) (k0_t1 : Fin (k0_t1_loop i).trips) : Fin 4 → Nat :=
  let c0_78 : Index := 0#32
  let c0_79 : Index := 0#32
  let c0_80 : Index := 0#32
  let c0_i32_26 : BitVec 32 := 0#32
  let c1_i32_28 : BitVec 32 := 1#32
  let arg12 : BitVec 32 := Scf.iv c0_i32_26 c1_i32_28 k0_t1
  let c2_i32_73 : BitVec 32 := 2#32
  let v156 : BitVec 32 := Scalar.muli arg12 c2_i32_73
  let c512_i32_74 : BitVec 32 := 512#32
  let v157 : BitVec 32 := Scalar.muli v156 c512_i32_74
  let v158 : BitVec 32 := v157
  let v163 : Index := Scalar.indexCast v158
  ![0, 0, 0, v163.toNat]
def k0_off3 (i : grid0.Coords) (k0_t1 : Fin (k0_t1_loop i).trips) : Fin 2 → Nat :=
  let c0_i32_26 : BitVec 32 := 0#32
  let c1_i32_28 : BitVec 32 := 1#32
  let arg12 : BitVec 32 := Scf.iv c0_i32_26 c1_i32_28 k0_t1
  let c2_i32_73 : BitVec 32 := 2#32
  let v156 : BitVec 32 := Scalar.muli arg12 c2_i32_73
  let c512_i32_74 : BitVec 32 := 512#32
  let v157 : BitVec 32 := Scalar.muli v156 c512_i32_74
  let v158 : BitVec 32 := v157
  let v201 : Index := Scalar.indexCast v158
  let c0_93 : Index := 0#32
  ![v201.toNat, 0]
@[reducible] def k0_t2_loop (i : grid0.Coords) : Scf.Loop 32 :=
  let c0_i32_26 : BitVec 32 := 0#32
  let arg2 : BitVec 32 := BitVec.ofNat 32 (i 2).val
  let c0_i32_19 : BitVec 32 := 0#32
  let v48 : BitVec 1 := Scalar.cmpi .sgt arg2 c0_i32_19
  let v49 : BitVec 32 := Scalar.extui v48
  let c0_i32_20 : BitVec 32 := 0#32
  let v50 : BitVec 1 := Scalar.cmpi .slt arg2 c0_i32_20
  let v51 : BitVec 32 := Scalar.extui v50
  let v52 : BitVec 32 := Scalar.subi v49 v51
  let c2_i32_18 : BitVec 32 := 2#32
  let c0_i32_21 : BitVec 32 := 0#32
  let v53 : BitVec 1 := Scalar.cmpi .sgt c2_i32_18 c0_i32_21
  let v54 : BitVec 32 := Scalar.extui v53
  let c0_i32_22 : BitVec 32 := 0#32
  let v55 : BitVec 1 := Scalar.cmpi .slt c2_i32_18 c0_i32_22
  let v56 : BitVec 32 := Scalar.extui v55
  let v57 : BitVec 32 := Scalar.subi v54 v56
  let v58 : BitVec 1 := Scalar.cmpi .ne v52 v57
  let v59 : BitVec 32 := Scalar.remsi arg2 c2_i32_18
  let c0_i32_23 : BitVec 32 := 0#32
  let v60 : BitVec 1 := Scalar.cmpi .ne v59 c0_i32_23
  let v61 : BitVec 1 := Scalar.andi v58 v60
  let v47 : BitVec 32 := Scalar.divsi arg2 c2_i32_18
  let c1_i32_24 : BitVec 32 := 1#32
  let v62 : BitVec 32 := Scalar.subi v47 c1_i32_24
  let v63 : BitVec 32 := Scalar.select v61 v62 v47
  let v64 : BitVec 32 := Scalar.subi v63 c0_i32_26
  let c1_i32_27 : BitVec 32 := 1#32
  let v66 : BitVec 32 := Scalar.divsi v64 c1_i32_27
  let v67 : BitVec 32 := Scalar.muli v66 c1_i32_27
  let v68 : BitVec 32 := Scalar.addi c0_i32_26 v67
  let v65 : BitVec 32 := Scalar.addi c0_i32_26 v64
  let c1_i32_29 : BitVec 32 := 1#32
  ⟨v68, v65, c1_i32_29⟩
def k0_mult2 (i : grid0.Coords) (k0_t2 : Fin (k0_t2_loop i).trips) : BitVec 32 :=
  let c0_i32_26 : BitVec 32 := 0#32
  let arg2 : BitVec 32 := BitVec.ofNat 32 (i 2).val
  let c0_i32_19 : BitVec 32 := 0#32
  let v48 : BitVec 1 := Scalar.cmpi .sgt arg2 c0_i32_19
  let v49 : BitVec 32 := Scalar.extui v48
  let c0_i32_20 : BitVec 32 := 0#32
  let v50 : BitVec 1 := Scalar.cmpi .slt arg2 c0_i32_20
  let v51 : BitVec 32 := Scalar.extui v50
  let v52 : BitVec 32 := Scalar.subi v49 v51
  let c2_i32_18 : BitVec 32 := 2#32
  let c0_i32_21 : BitVec 32 := 0#32
  let v53 : BitVec 1 := Scalar.cmpi .sgt c2_i32_18 c0_i32_21
  let v54 : BitVec 32 := Scalar.extui v53
  let c0_i32_22 : BitVec 32 := 0#32
  let v55 : BitVec 1 := Scalar.cmpi .slt c2_i32_18 c0_i32_22
  let v56 : BitVec 32 := Scalar.extui v55
  let v57 : BitVec 32 := Scalar.subi v54 v56
  let v58 : BitVec 1 := Scalar.cmpi .ne v52 v57
  let v59 : BitVec 32 := Scalar.remsi arg2 c2_i32_18
  let c0_i32_23 : BitVec 32 := 0#32
  let v60 : BitVec 1 := Scalar.cmpi .ne v59 c0_i32_23
  let v61 : BitVec 1 := Scalar.andi v58 v60
  let v47 : BitVec 32 := Scalar.divsi arg2 c2_i32_18
  let c1_i32_24 : BitVec 32 := 1#32
  let v62 : BitVec 32 := Scalar.subi v47 c1_i32_24
  let v63 : BitVec 32 := Scalar.select v61 v62 v47
  let v64 : BitVec 32 := Scalar.subi v63 c0_i32_26
  let c1_i32_27 : BitVec 32 := 1#32
  let v66 : BitVec 32 := Scalar.divsi v64 c1_i32_27
  let v67 : BitVec 32 := Scalar.muli v66 c1_i32_27
  let v68 : BitVec 32 := Scalar.addi c0_i32_26 v67
  let c1_i32_29 : BitVec 32 := 1#32
  let arg12 : BitVec 32 := Scf.iv v68 c1_i32_29 k0_t2
  let c2_i32_73 : BitVec 32 := 2#32
  let v156 : BitVec 32 := Scalar.muli arg12 c2_i32_73
  let c512_i32_74 : BitVec 32 := 512#32
  let v157 : BitVec 32 := Scalar.muli v156 c512_i32_74
  v157
def k0_off4 (i : grid0.Coords) (k0_t2 : Fin (k0_t2_loop i).trips) : Fin 3 → Nat :=
  let c0_75 : Index := 0#32
  let c0_76 : Index := 0#32
  let c0_i32_26 : BitVec 32 := 0#32
  let arg2 : BitVec 32 := BitVec.ofNat 32 (i 2).val
  let c0_i32_19 : BitVec 32 := 0#32
  let v48 : BitVec 1 := Scalar.cmpi .sgt arg2 c0_i32_19
  let v49 : BitVec 32 := Scalar.extui v48
  let c0_i32_20 : BitVec 32 := 0#32
  let v50 : BitVec 1 := Scalar.cmpi .slt arg2 c0_i32_20
  let v51 : BitVec 32 := Scalar.extui v50
  let v52 : BitVec 32 := Scalar.subi v49 v51
  let c2_i32_18 : BitVec 32 := 2#32
  let c0_i32_21 : BitVec 32 := 0#32
  let v53 : BitVec 1 := Scalar.cmpi .sgt c2_i32_18 c0_i32_21
  let v54 : BitVec 32 := Scalar.extui v53
  let c0_i32_22 : BitVec 32 := 0#32
  let v55 : BitVec 1 := Scalar.cmpi .slt c2_i32_18 c0_i32_22
  let v56 : BitVec 32 := Scalar.extui v55
  let v57 : BitVec 32 := Scalar.subi v54 v56
  let v58 : BitVec 1 := Scalar.cmpi .ne v52 v57
  let v59 : BitVec 32 := Scalar.remsi arg2 c2_i32_18
  let c0_i32_23 : BitVec 32 := 0#32
  let v60 : BitVec 1 := Scalar.cmpi .ne v59 c0_i32_23
  let v61 : BitVec 1 := Scalar.andi v58 v60
  let v47 : BitVec 32 := Scalar.divsi arg2 c2_i32_18
  let c1_i32_24 : BitVec 32 := 1#32
  let v62 : BitVec 32 := Scalar.subi v47 c1_i32_24
  let v63 : BitVec 32 := Scalar.select v61 v62 v47
  let v64 : BitVec 32 := Scalar.subi v63 c0_i32_26
  let c1_i32_27 : BitVec 32 := 1#32
  let v66 : BitVec 32 := Scalar.divsi v64 c1_i32_27
  let v67 : BitVec 32 := Scalar.muli v66 c1_i32_27
  let v68 : BitVec 32 := Scalar.addi c0_i32_26 v67
  let c1_i32_29 : BitVec 32 := 1#32
  let arg12 : BitVec 32 := Scf.iv v68 c1_i32_29 k0_t2
  let c2_i32_73 : BitVec 32 := 2#32
  let v156 : BitVec 32 := Scalar.muli arg12 c2_i32_73
  let c512_i32_74 : BitVec 32 := 512#32
  let v157 : BitVec 32 := Scalar.muli v156 c512_i32_74
  let v158 : BitVec 32 := v157
  let v159 : Index := Scalar.indexCast v158
  ![0, 0, v159.toNat]
def k0_off5 (i : grid0.Coords) (k0_t2 : Fin (k0_t2_loop i).trips) : Fin 4 → Nat :=
  let c0_78 : Index := 0#32
  let c0_79 : Index := 0#32
  let c0_80 : Index := 0#32
  let c0_i32_26 : BitVec 32 := 0#32
  let arg2 : BitVec 32 := BitVec.ofNat 32 (i 2).val
  let c0_i32_19 : BitVec 32 := 0#32
  let v48 : BitVec 1 := Scalar.cmpi .sgt arg2 c0_i32_19
  let v49 : BitVec 32 := Scalar.extui v48
  let c0_i32_20 : BitVec 32 := 0#32
  let v50 : BitVec 1 := Scalar.cmpi .slt arg2 c0_i32_20
  let v51 : BitVec 32 := Scalar.extui v50
  let v52 : BitVec 32 := Scalar.subi v49 v51
  let c2_i32_18 : BitVec 32 := 2#32
  let c0_i32_21 : BitVec 32 := 0#32
  let v53 : BitVec 1 := Scalar.cmpi .sgt c2_i32_18 c0_i32_21
  let v54 : BitVec 32 := Scalar.extui v53
  let c0_i32_22 : BitVec 32 := 0#32
  let v55 : BitVec 1 := Scalar.cmpi .slt c2_i32_18 c0_i32_22
  let v56 : BitVec 32 := Scalar.extui v55
  let v57 : BitVec 32 := Scalar.subi v54 v56
  let v58 : BitVec 1 := Scalar.cmpi .ne v52 v57
  let v59 : BitVec 32 := Scalar.remsi arg2 c2_i32_18
  let c0_i32_23 : BitVec 32 := 0#32
  let v60 : BitVec 1 := Scalar.cmpi .ne v59 c0_i32_23
  let v61 : BitVec 1 := Scalar.andi v58 v60
  let v47 : BitVec 32 := Scalar.divsi arg2 c2_i32_18
  let c1_i32_24 : BitVec 32 := 1#32
  let v62 : BitVec 32 := Scalar.subi v47 c1_i32_24
  let v63 : BitVec 32 := Scalar.select v61 v62 v47
  let v64 : BitVec 32 := Scalar.subi v63 c0_i32_26
  let c1_i32_27 : BitVec 32 := 1#32
  let v66 : BitVec 32 := Scalar.divsi v64 c1_i32_27
  let v67 : BitVec 32 := Scalar.muli v66 c1_i32_27
  let v68 : BitVec 32 := Scalar.addi c0_i32_26 v67
  let c1_i32_29 : BitVec 32 := 1#32
  let arg12 : BitVec 32 := Scf.iv v68 c1_i32_29 k0_t2
  let c2_i32_73 : BitVec 32 := 2#32
  let v156 : BitVec 32 := Scalar.muli arg12 c2_i32_73
  let c512_i32_74 : BitVec 32 := 512#32
  let v157 : BitVec 32 := Scalar.muli v156 c512_i32_74
  let v158 : BitVec 32 := v157
  let v163 : Index := Scalar.indexCast v158
  ![0, 0, 0, v163.toNat]
def k0_off6 (i : grid0.Coords) (k0_t2 : Fin (k0_t2_loop i).trips) : Fin 2 → Nat :=
  let c0_i32_26 : BitVec 32 := 0#32
  let arg2 : BitVec 32 := BitVec.ofNat 32 (i 2).val
  let c0_i32_19 : BitVec 32 := 0#32
  let v48 : BitVec 1 := Scalar.cmpi .sgt arg2 c0_i32_19
  let v49 : BitVec 32 := Scalar.extui v48
  let c0_i32_20 : BitVec 32 := 0#32
  let v50 : BitVec 1 := Scalar.cmpi .slt arg2 c0_i32_20
  let v51 : BitVec 32 := Scalar.extui v50
  let v52 : BitVec 32 := Scalar.subi v49 v51
  let c2_i32_18 : BitVec 32 := 2#32
  let c0_i32_21 : BitVec 32 := 0#32
  let v53 : BitVec 1 := Scalar.cmpi .sgt c2_i32_18 c0_i32_21
  let v54 : BitVec 32 := Scalar.extui v53
  let c0_i32_22 : BitVec 32 := 0#32
  let v55 : BitVec 1 := Scalar.cmpi .slt c2_i32_18 c0_i32_22
  let v56 : BitVec 32 := Scalar.extui v55
  let v57 : BitVec 32 := Scalar.subi v54 v56
  let v58 : BitVec 1 := Scalar.cmpi .ne v52 v57
  let v59 : BitVec 32 := Scalar.remsi arg2 c2_i32_18
  let c0_i32_23 : BitVec 32 := 0#32
  let v60 : BitVec 1 := Scalar.cmpi .ne v59 c0_i32_23
  let v61 : BitVec 1 := Scalar.andi v58 v60
  let v47 : BitVec 32 := Scalar.divsi arg2 c2_i32_18
  let c1_i32_24 : BitVec 32 := 1#32
  let v62 : BitVec 32 := Scalar.subi v47 c1_i32_24
  let v63 : BitVec 32 := Scalar.select v61 v62 v47
  let v64 : BitVec 32 := Scalar.subi v63 c0_i32_26
  let c1_i32_27 : BitVec 32 := 1#32
  let v66 : BitVec 32 := Scalar.divsi v64 c1_i32_27
  let v67 : BitVec 32 := Scalar.muli v66 c1_i32_27
  let v68 : BitVec 32 := Scalar.addi c0_i32_26 v67
  let c1_i32_29 : BitVec 32 := 1#32
  let arg12 : BitVec 32 := Scf.iv v68 c1_i32_29 k0_t2
  let c2_i32_73 : BitVec 32 := 2#32
  let v156 : BitVec 32 := Scalar.muli arg12 c2_i32_73
  let c512_i32_74 : BitVec 32 := 512#32
  let v157 : BitVec 32 := Scalar.muli v156 c512_i32_74
  let v158 : BitVec 32 := v157
  let v201 : Index := Scalar.indexCast v158
  let c0_93 : Index := 0#32
  ![v201.toNat, 0]
def k0_cond1 (i : grid0.Coords) : BitVec 1 :=
  let arg2 : BitVec 32 := BitVec.ofNat 32 (i 2).val
  let c2_i32_30 : BitVec 32 := 2#32
  let c0_i32_31 : BitVec 32 := 0#32
  let v69 : BitVec 1 := Scalar.cmpi .eq c2_i32_30 c0_i32_31
  let c1_i32_32 : BitVec 32 := 1#32
  let v70 : BitVec 32 := Scalar.select v69 c1_i32_32 c2_i32_30
  let v71 : BitVec 32 := Scalar.remsi arg2 v70
  let c0_i32_34 : BitVec 32 := 0#32
  let v73 : BitVec 1 := Scalar.cmpi .slt v71 c0_i32_34
  let c0_i32_35 : BitVec 32 := 0#32
  let v74 : BitVec 1 := Scalar.cmpi .slt v70 c0_i32_35
  let v75 : BitVec 1 := Scalar.xori v73 v74
  let c0_i32_33 : BitVec 32 := 0#32
  let v72 : BitVec 1 := Scalar.cmpi .ne v71 c0_i32_33
  let v76 : BitVec 1 := Scalar.andi v75 v72
  let v77 : BitVec 32 := Scalar.addi v71 v70
  let v78 : BitVec 32 := Scalar.select v76 v77 v71
  let c1_i32_36 : BitVec 32 := 1#32
  let v79 : BitVec 1 := Scalar.cmpi .sge v78 c1_i32_36
  let v80 : BitVec 32 := Scalar.extui v79
  let c0_i32_37 : BitVec 32 := 0#32
  let v81 : BitVec 1 := Scalar.cmpi .ne v80 c0_i32_37
  v81

def k0_mult3 (i : grid0.Coords) : BitVec 32 :=
  let arg2 : BitVec 32 := BitVec.ofNat 32 (i 2).val
  let c2_i32_73 : BitVec 32 := 2#32
  let c0_i32_74 : BitVec 32 := 0#32
  let v156 : BitVec 1 := Scalar.cmpi .eq c2_i32_73 c0_i32_74
  let c1_i32_75 : BitVec 32 := 1#32
  let v157 : BitVec 32 := Scalar.select v156 c1_i32_75 c2_i32_73
  let v158 : BitVec 32 := Scalar.remsi arg2 v157
  let c0_i32_77 : BitVec 32 := 0#32
  let v160 : BitVec 1 := Scalar.cmpi .slt v158 c0_i32_77
  let c0_i32_78 : BitVec 32 := 0#32
  let v161 : BitVec 1 := Scalar.cmpi .slt v157 c0_i32_78
  let v162 : BitVec 1 := Scalar.xori v160 v161
  let c0_i32_76 : BitVec 32 := 0#32
  let v159 : BitVec 1 := Scalar.cmpi .ne v158 c0_i32_76
  let v163 : BitVec 1 := Scalar.andi v162 v159
  let v164 : BitVec 32 := Scalar.addi v158 v157
  let v165 : BitVec 32 := Scalar.select v163 v164 v158
  let v166 : BitVec 32 := Scalar.subi arg2 v165
  let c0_i32_79 : BitVec 32 := 0#32
  let v167 : BitVec 32 := Scalar.addi v166 c0_i32_79
  let c512_i32_80 : BitVec 32 := 512#32
  let v168 : BitVec 32 := Scalar.muli v167 c512_i32_80
  v168
def k0_off7 (i : grid0.Coords) : Fin 3 → Nat :=
  let c0_81 : Index := 0#32
  let c0_82 : Index := 0#32
  let arg2 : BitVec 32 := BitVec.ofNat 32 (i 2).val
  let c2_i32_73 : BitVec 32 := 2#32
  let c0_i32_74 : BitVec 32 := 0#32
  let v156 : BitVec 1 := Scalar.cmpi .eq c2_i32_73 c0_i32_74
  let c1_i32_75 : BitVec 32 := 1#32
  let v157 : BitVec 32 := Scalar.select v156 c1_i32_75 c2_i32_73
  let v158 : BitVec 32 := Scalar.remsi arg2 v157
  let c0_i32_77 : BitVec 32 := 0#32
  let v160 : BitVec 1 := Scalar.cmpi .slt v158 c0_i32_77
  let c0_i32_78 : BitVec 32 := 0#32
  let v161 : BitVec 1 := Scalar.cmpi .slt v157 c0_i32_78
  let v162 : BitVec 1 := Scalar.xori v160 v161
  let c0_i32_76 : BitVec 32 := 0#32
  let v159 : BitVec 1 := Scalar.cmpi .ne v158 c0_i32_76
  let v163 : BitVec 1 := Scalar.andi v162 v159
  let v164 : BitVec 32 := Scalar.addi v158 v157
  let v165 : BitVec 32 := Scalar.select v163 v164 v158
  let v166 : BitVec 32 := Scalar.subi arg2 v165
  let c0_i32_79 : BitVec 32 := 0#32
  let v167 : BitVec 32 := Scalar.addi v166 c0_i32_79
  let c512_i32_80 : BitVec 32 := 512#32
  let v168 : BitVec 32 := Scalar.muli v167 c512_i32_80
  let v169 : BitVec 32 := v168
  let v170 : Index := Scalar.indexCast v169
  ![0, 0, v170.toNat]
def k0_off8 (i : grid0.Coords) : Fin 4 → Nat :=
  let c0_84 : Index := 0#32
  let c0_85 : Index := 0#32
  let c0_86 : Index := 0#32
  let arg2 : BitVec 32 := BitVec.ofNat 32 (i 2).val
  let c2_i32_73 : BitVec 32 := 2#32
  let c0_i32_74 : BitVec 32 := 0#32
  let v156 : BitVec 1 := Scalar.cmpi .eq c2_i32_73 c0_i32_74
  let c1_i32_75 : BitVec 32 := 1#32
  let v157 : BitVec 32 := Scalar.select v156 c1_i32_75 c2_i32_73
  let v158 : BitVec 32 := Scalar.remsi arg2 v157
  let c0_i32_77 : BitVec 32 := 0#32
  let v160 : BitVec 1 := Scalar.cmpi .slt v158 c0_i32_77
  let c0_i32_78 : BitVec 32 := 0#32
  let v161 : BitVec 1 := Scalar.cmpi .slt v157 c0_i32_78
  let v162 : BitVec 1 := Scalar.xori v160 v161
  let c0_i32_76 : BitVec 32 := 0#32
  let v159 : BitVec 1 := Scalar.cmpi .ne v158 c0_i32_76
  let v163 : BitVec 1 := Scalar.andi v162 v159
  let v164 : BitVec 32 := Scalar.addi v158 v157
  let v165 : BitVec 32 := Scalar.select v163 v164 v158
  let v166 : BitVec 32 := Scalar.subi arg2 v165
  let c0_i32_79 : BitVec 32 := 0#32
  let v167 : BitVec 32 := Scalar.addi v166 c0_i32_79
  let c512_i32_80 : BitVec 32 := 512#32
  let v168 : BitVec 32 := Scalar.muli v167 c512_i32_80
  let v169 : BitVec 32 := v168
  let v174 : Index := Scalar.indexCast v169
  ![0, 0, 0, v174.toNat]
def k0_off9 (i : grid0.Coords) : Fin 2 → Nat :=
  let arg2 : BitVec 32 := BitVec.ofNat 32 (i 2).val
  let c2_i32_73 : BitVec 32 := 2#32
  let c0_i32_74 : BitVec 32 := 0#32
  let v156 : BitVec 1 := Scalar.cmpi .eq c2_i32_73 c0_i32_74
  let c1_i32_75 : BitVec 32 := 1#32
  let v157 : BitVec 32 := Scalar.select v156 c1_i32_75 c2_i32_73
  let v158 : BitVec 32 := Scalar.remsi arg2 v157
  let c0_i32_77 : BitVec 32 := 0#32
  let v160 : BitVec 1 := Scalar.cmpi .slt v158 c0_i32_77
  let c0_i32_78 : BitVec 32 := 0#32
  let v161 : BitVec 1 := Scalar.cmpi .slt v157 c0_i32_78
  let v162 : BitVec 1 := Scalar.xori v160 v161
  let c0_i32_76 : BitVec 32 := 0#32
  let v159 : BitVec 1 := Scalar.cmpi .ne v158 c0_i32_76
  let v163 : BitVec 1 := Scalar.andi v162 v159
  let v164 : BitVec 32 := Scalar.addi v158 v157
  let v165 : BitVec 32 := Scalar.select v163 v164 v158
  let v166 : BitVec 32 := Scalar.subi arg2 v165
  let c0_i32_79 : BitVec 32 := 0#32
  let v167 : BitVec 32 := Scalar.addi v166 c0_i32_79
  let c512_i32_80 : BitVec 32 := 512#32
  let v168 : BitVec 32 := Scalar.muli v167 c512_i32_80
  let v169 : BitVec 32 := v168
  let v212 : Index := Scalar.indexCast v169
  let c0_99 : Index := 0#32
  ![v212.toNat, 0]
def k0_mult4 (i : grid0.Coords) : BitVec 32 :=
  let arg2 : BitVec 32 := BitVec.ofNat 32 (i 2).val
  let c512_i32 : BitVec 32 := 512#32
  let v82 : BitVec 32 := Scalar.muli arg2 c512_i32
  v82
def k0_off10 (i : grid0.Coords) : Fin 3 → Nat :=
  let c0_38 : Index := 0#32
  let c0_39 : Index := 0#32
  let arg2 : BitVec 32 := BitVec.ofNat 32 (i 2).val
  let c512_i32 : BitVec 32 := 512#32
  let v82 : BitVec 32 := Scalar.muli arg2 c512_i32
  let v83 : BitVec 32 := v82
  let v84 : Index := Scalar.indexCast v83
  ![0, 0, v84.toNat]
def k0_off11 (i : grid0.Coords) : Fin 4 → Nat :=
  let c0_41 : Index := 0#32
  let c0_42 : Index := 0#32
  let c0_43 : Index := 0#32
  let arg2 : BitVec 32 := BitVec.ofNat 32 (i 2).val
  let c512_i32 : BitVec 32 := 512#32
  let v82 : BitVec 32 := Scalar.muli arg2 c512_i32
  let v83 : BitVec 32 := v82
  let v88 : Index := Scalar.indexCast v83
  ![0, 0, 0, v88.toNat]
def k0_off12 (i : grid0.Coords) : Fin 2 → Nat :=
  let arg2 : BitVec 32 := BitVec.ofNat 32 (i 2).val
  let c512_i32 : BitVec 32 := 512#32
  let v82 : BitVec 32 := Scalar.muli arg2 c512_i32
  let v83 : BitVec 32 := v82
  let v136 : Index := Scalar.indexCast v83
  let c0_59 : Index := 0#32
  ![v136.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let c0_i32_0 : BitVec 32 := 0#32
  ![v1.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1x2x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Kernel4Ideal.lean ====
variable {F : FTy → Type} [FloatOps F] [Named F]
def κ : String → Option EReal := fun
  | "mask" => some ⊥
  | _ => none
-- ==== Reference4Ideal.lean ====
abbrev S8x2048x16x64 : Shape := ⟨4, ![8, 2048, 16, 64]⟩
abbrev S8x2048x16 : Shape := ⟨3, ![8, 2048, 16]⟩
abbrev S2048 : Shape := ⟨1, ![2048]⟩
abbrev S8x16x2048x2048 : Shape := ⟨4, ![8, 16, 2048, 2048]⟩
abbrev S_ : Shape := ⟨0, ![]⟩
abbrev S8x16x2048 : Shape := ⟨3, ![8, 16, 2048]⟩
abbrev S8x16x2048x1 : Shape := ⟨4, ![8, 16, 2048, 1]⟩
abbrev S8x16x1x2048 : Shape := ⟨4, ![8, 16, 1, 2048]⟩
abbrev S1x2048 : Shape := ⟨2, ![1, 2048]⟩
abbrev S2048x1 : Shape := ⟨2, ![2048, 1]⟩
abbrev S2048x2048 : Shape := ⟨2, ![2048, 2048]⟩
abbrev S8x16x64x2048 : Shape := ⟨4, ![8, 16, 64, 2048]⟩
abbrev S8x2048x1024 : Shape := ⟨3, ![8, 2048, 1024]⟩
abbrev S16384x1024 : Shape := ⟨2, ![16384, 1024]⟩

abbrev nBuf : Space → Nat
  | .hbm => 46
  | .vmem => 0
  | .smem => 0
  | _ => 0

abbrev bufTy : (tb : Table) → Fin (tcTables nBuf tb) → BufTy
  | .hbm, ⟨0, _⟩ => ⟨S8x2048x16x64, .f32⟩
  | .hbm, ⟨1, _⟩ => ⟨S8x2048x16x64, .f32⟩
  | .hbm, ⟨2, _⟩ => ⟨S8x2048x16x64, .f32⟩
  | .hbm, ⟨3, _⟩ => ⟨S8x2048x16, .f32⟩
  | .hbm, ⟨4, _⟩ => ⟨S2048, .i32⟩
  | .hbm, ⟨5, _⟩ => ⟨S8x16x2048x2048, .f32⟩
  | .hbm, ⟨6, _⟩ => ⟨S_, .f32⟩
  | .hbm, ⟨7, _⟩ => ⟨S8x16x2048x2048, .f32⟩
  | .hbm, ⟨8, _⟩ => ⟨S8x16x2048x2048, .f32⟩
  | .hbm, ⟨9, _⟩ => ⟨S8x16x2048, .f32⟩
  | .hbm, ⟨10, _⟩ => ⟨S8x16x2048x1, .f32⟩
  | .hbm, ⟨11, _⟩ => ⟨S8x16x2048x2048, .f32⟩
  | .hbm, ⟨12, _⟩ => ⟨S8x16x2048x2048, .f32⟩
  | .hbm, ⟨13, _⟩ => ⟨S8x16x2048, .f32⟩
  | .hbm, ⟨14, _⟩ => ⟨S8x16x1x2048, .f32⟩
  | .hbm, ⟨15, _⟩ => ⟨S8x16x2048x2048, .f32⟩
  | .hbm, ⟨16, _⟩ => ⟨S8x16x2048x2048, .f32⟩
  | .hbm, ⟨17, _⟩ => ⟨S1x2048, .i32⟩
  | .hbm, ⟨18, _⟩ => ⟨S2048x1, .i32⟩
  | .hbm, ⟨19, _⟩ => ⟨S2048x2048, .i32⟩
  | .hbm, ⟨20, _⟩ => ⟨S2048x2048, .i32⟩
  | .hbm, ⟨21, _⟩ => ⟨S2048x2048, .i1⟩
  | .hbm, ⟨22, _⟩ => ⟨S_, .f32⟩
  | .hbm, ⟨23, _⟩ => ⟨S_, .f32⟩
  | .hbm, ⟨24, _⟩ => ⟨S8x16x2048x2048, .i1⟩
  | .hbm, ⟨25, _⟩ => ⟨S8x16x2048x2048, .f32⟩
  | .hbm, ⟨26, _⟩ => ⟨S8x16x2048x2048, .f32⟩
  | .hbm, ⟨27, _⟩ => ⟨S_, .f32⟩
  | .hbm, ⟨28, _⟩ => ⟨S8x16x2048, .f32⟩
  | .hbm, ⟨29, _⟩ => ⟨S_, .f32⟩
  | .hbm, ⟨30, _⟩ => ⟨S8x16x2048, .f32⟩
  | .hbm, ⟨31, _⟩ => ⟨S8x16x2048, .f32⟩
  | .hbm, ⟨32, _⟩ => ⟨S8x16x2048x1, .f32⟩
  | .hbm, ⟨33, _⟩ => ⟨S8x16x2048x2048, .f32⟩
  | .hbm, ⟨34, _⟩ => ⟨S8x16x2048x2048, .f32⟩
  | .hbm, ⟨35, _⟩ => ⟨S8x16x2048x2048, .f32⟩
  | .hbm, ⟨36, _⟩ => ⟨S_, .f32⟩
  | .hbm, ⟨37, _⟩ => ⟨S8x16x2048, .f32⟩
  | .hbm, ⟨38, _⟩ => ⟨S8x16x2048x1, .f32⟩
  | .hbm, ⟨39, _⟩ => ⟨S8x16x2048x2048, .f32⟩
  | .hbm, ⟨40, _⟩ => ⟨S8x16x2048x2048, .f32⟩
  | .hbm, ⟨41, _⟩ => ⟨S8x16x64x2048, .f32⟩
  | .hbm, ⟨42, _⟩ => ⟨S8x2048x16x64, .f32⟩
  | .hbm, ⟨43, _⟩ => ⟨S8x2048x1024, .f32⟩
  | .hbm, ⟨44, _⟩ => ⟨S16384x1024, .f32⟩
  | .hbm, ⟨45, _⟩ => ⟨S16384x1024, .bf16⟩
  | _, _ => ⟨S8x2048x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]
-- ==== Proof.KRun.lean ====
/- The kernel's run with its result: the launch over the four stretches of the program (host operations, first kernel, host
   operations, second kernel), reading at the end the result buffer beside the argument buffers. -/
module

public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run of the kernel's program ends with the result buffer at the second kernel's output array, the arguments as
    launched. -/
theorem kernel_run : θ_run defs (onTc (τ := τ) (main (F := F))) ⟨m, fun _ => 0, ρ⟩ (fun r => ∀ c : Dev nD,
      r.2.mem ((c.tc : Thread nD τ).loc main_v19) = (dat1 (V3 m ρ) c).arrAt 5 cfg1.N
      ∧ ∀ a ∈ argRefs, r.2.mem ((c.tc : Thread nD τ).loc a) = m ((c.tc : Thread nD τ).loc a)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨(h c _ (mem_uc main_v19 (by decide))).trans (W4_arr m ρ c 5),
        fun a ha => (h c _ (mem_uc a
          ((show ∀ a ∈ argRefs, ¬ (Proc.devRef .tc a : DevRef τ sig).isScoped by decide) a ha))).trans
            (W4_args m ρ c a ha)⟩)

end Cert.KernelIdeal.Gen

end
-- ==== Proof.Spec.lean ====
module

public import Idealize.ShloMosaic.Lib.Pointwise

@[expose] public section

noncomputable section

namespace Cert.Layer

open Idealize.ShloMosaic

/-- The hidden value of an expert at one feature: the gate's projection through `silu`, times the other projection. -/
def hidden (a u : EReal) : EReal := a * Ideal.div 1 (1 + Ideal.exp (0 - a)) * u

/-- What one expert adds to one entry of a row: its hidden values, scaled by the expert's routing weight, through its
    second projection. -/
def expert (x : Fin 1024 → EReal) (wg wu : Fin 1024 → Fin 256 → EReal) (wd : Fin 256 → EReal) (gate : EReal) : EReal :=
  ∑ f : Fin 256, hidden (∑ k, x k * wg k f) (∑ k, x k * wu k f) * gate * wd f

/-- The routing weight of expert `e` that a row of the routing record gives: lanes 0 and 1 hold the two experts chosen,
    lanes 2 and 3 their weights. -/
def gateOf (r : Fin 128 → EReal) (e : ℕ) : EReal :=
  (if r 0 = (((e : ℤ) : ℝ) : EReal) then r 2 else 0) + (if r 1 = (((e : ℤ) : ℝ) : EReal) then r 3 else 0)

/-- A row of the residual stream after the output projection. -/
def mixRow (x oc : Fin 1024 → EReal) (w : Fin 1024 → Fin 1024 → EReal) (d : Fin 1024) : EReal := x d + ∑ k, oc k * w k d

/-- The row scaled to mean square one and by the norm's weights. -/
def normRow (x g : Fin 1024 → EReal) (d : Fin 1024) : EReal :=
  x d * Ideal.rsqrt (Ideal.div (∑ k, x k * x k) (Ideal.ofBits .f32 1149239296#32) + Ideal.ofBits .f32 897988541#32) * g d

/-- The router's logits of a row, as the kernel forms them: the weights in two parts, and the row's own remainder. -/
def logitRow (t : Fin 1024 → EReal) (wh wl : Fin 1024 → Fin 128 → EReal) (b : Fin 128 → EReal) (l : Fin 128) : EReal :=
  ∑ k, t k * wh k l + ∑ k, (t k - t k) * wh k l + ∑ k, t k * wl k l + b l

/-- The float constant that stands for minus infinity. -/
def negInf : EReal := Ideal.ofBits .f32 4286578688#32

/-- The largest of a row's lanes. -/
def rowMax (v : Fin 128 → EReal) : EReal := Finset.fold max negInf v Finset.univ

/-- The word of the least lane at which `v` is `m`. -/
def firstIx (v : Fin 128 → EReal) (m : EReal) : BitVec 32 :=
  Finset.fold IntOp.minsi 2147483647#32 (fun x : Fin 128 => if v x = m then BitVec.ofNat 32 x.val else 1048576#32) Finset.univ

/-- The group logits: the first four lanes. -/
def groupLog (L : Fin 128 → EReal) (l : Fin 128) : EReal :=
  Scalar.select (IntOp.cmpi .slt (BitVec.ofNat 32 l.val) 4#32) (L l) negInf

/-- The expert logits of group `g`: eight lanes. -/
def expertLog (L : Fin 128 → EReal) (g : BitVec 32) (l : Fin 128) : EReal :=
  Scalar.select
    (IntOp.andi
      (IntOp.andi (IntOp.cmpi .sge (IntOp.subi (BitVec.ofNat 32 l.val) 4#32) 0#32)
        (IntOp.cmpi .slt (IntOp.subi (BitVec.ofNat 32 l.val) 4#32) 32#32))
      (IntOp.cmpi .eq (IntOp.shrsi .vector (IntOp.subi (BitVec.ofNat 32 l.val) 4#32) 3#32) g))
    (L l) negInf

/-- A row of lanes with the lane of word `i` left out. -/
def without (v : Fin 128 → EReal) (i : BitVec 32) (l : Fin 128) : EReal :=
  Scalar.select (IntOp.cmpi .eq (BitVec.ofNat 32 l.val) i) negInf (v l)

/-- The routing record of a row of logits. -/
def record (L : Fin 128 → EReal) (l : Fin 128) : EReal :=
  let G := groupLog L
  let gm := rowMax G
  let gw := Ideal.div 1 (∑ x, Ideal.exp (G x - gm))
  let E := expertLog L (firstIx G gm)
  let m1 := rowMax E
  let i1 := firstIx E m1
  let E' := without E i1
  let m2 := rowMax E'
  let i2 := firstIx E' m2
  Scalar.select (IntOp.cmpi .eq (BitVec.ofNat 32 l.val) 0#32) (((IntOp.subi i1 4#32).toInt : ℝ) : EReal)
    (Scalar.select (IntOp.cmpi .eq (BitVec.ofNat 32 l.val) 1#32) (((IntOp.subi i2 4#32).toInt : ℝ) : EReal)
      (Scalar.select (IntOp.cmpi .eq (BitVec.ofNat 32 l.val) 2#32) (Ideal.div gw (1 + Ideal.exp (m2 - m1)))
        (Scalar.select (IntOp.cmpi .eq (BitVec.ofNat 32 l.val) 3#32)
          (Ideal.div (gw * Ideal.exp (m2 - m1)) (1 + Ideal.exp (m2 - m1))) 0)))

end Cert.Layer

end
-- ==== Proof.KProj.lean ====
module

public import proofs.«01_k».proof.Proof.Gen.KernelIdeal.Frame
public import proofs.«01_k».proof.Proof.Spec
public import Idealize.ShloMosaic.Lib.Pipeline.ValueKit

@[expose] public section

set_option maxRecDepth 16384

noncomputable section

namespace Cert.KernelIdeal.Gen

open Idealize.ShloMosaic Idealize.ShloMosaic.TcCoe Cert.Layer

section A
variable (x : Vec Ideal S512x1024 .f32) (oc : Vec Ideal S512x1024 .bf16) (w : Vec Ideal S1024x1024 .bf16) (g : Vec Ideal S1x1024 .f32)
  (wh wl : Vec Ideal S1024x128 .bf16) (b : Vec Ideal S1x128 .f32) (r : Fin 512)

theorem mixA (d : Fin 1024) : k0_pay2 x oc w (ix2 r d)
    = mixRow (fun d => x (ix2 r d)) (fun k => oc (ix2 r k)) (fun k d => w (ix2 k d)) d := by
  pointwise [k0_pay2, mixRow]

theorem normA (d : Fin 1024) : k0_pay4 x oc w g (ix2 r d)
    = normRow (mixRow (fun d => x (ix2 r d)) (fun k => oc (ix2 r k)) (fun k d => w (ix2 k d))) (fun d => g (ix2 0 d)) d := by
  have h := mixA x oc w r
  simp only [normRow, ← h]
  pointwise [k0_pay4]

theorem normA' (d : Fin 1024) : k0_pay5 x oc w g (ix2 r d)
    = normRow (mixRow (fun d => x (ix2 r d)) (fun k => oc (ix2 r k)) (fun k d => w (ix2 k d))) (fun d => g (ix2 0 d)) d := by
  rw [← normA]
  pointwise [k0_pay5]

theorem logitA (l : Fin 128) : k0_pay7 (k0_pay3 b) (k0_pay6 x oc w g wh wl) (ix2 r l)
    = logitRow (normRow (mixRow (fun d => x (ix2 r d)) (fun k => oc (ix2 r k)) (fun k d => w (ix2 k d))) (fun d => g (ix2 0 d)))
      (fun k l => wh (ix2 k l)) (fun k l => wl (ix2 k l)) (fun l => b (ix2 0 l)) l := by
  have h := normA x oc w g r
  have h' := normA' x oc w g r
  simp only [logitRow, ← h]
  pointwise [k0_pay7, k0_pay6, k0_pay3]
  simp only [h, h']

end A

theorem recordA (v20 : FVec Ideal S1x128 .f32) (v41 : FVec Ideal S512x128 .f32) (r : Fin 512) (l : Fin 128) :
    k0_pay15 (iota Kind.tc S512x128 32 [1] iota_S512x128_d1_w32) (k0_pay10 v20 v41) (k0_pay11 v20 v41) (k0_pay12 v20 v41)
      (k0_pay13 v20 v41) (k0_pay14 v20 v41) (ix2 r l) = record (fun l => k0_pay7 v20 v41 (ix2 r l)) l := by
  have e8 : ∀ x, k0_pay8 v20 v41 (ix2 r x) = groupLog (fun l => k0_pay7 v20 v41 (ix2 r l)) x := fun x => by
    simp only [groupLog, negInf]; pointwise [k0_pay8]
  have e9 : k0_pay9 v20 v41 (ix2 r 0) = rowMax (groupLog (fun l => k0_pay7 v20 v41 (ix2 r l))) := by
    rw [← funext e8]; simp only [rowMax, negInf]; pointwise [k0_pay9]
  have e10 : k0_pay10 v20 v41 (ix2 r 0) = Ideal.div 1 (∑ x, Ideal.exp (groupLog (fun l => k0_pay7 v20 v41 (ix2 r l)) x - rowMax (groupLog (fun l => k0_pay7 v20 v41 (ix2 r l))))) := by
    rw [← e9]; simp only [← e8]; pointwise [k0_pay10]
  have e11 : ∀ x, k0_pay11 v20 v41 (ix2 r x) = expertLog (fun l => k0_pay7 v20 v41 (ix2 r l)) (firstIx (groupLog (fun l => k0_pay7 v20 v41 (ix2 r l))) (rowMax (groupLog (fun l => k0_pay7 v20 v41 (ix2 r l))))) x := fun x => by
    rw [← e9]; simp only [firstIx, ← e8, expertLog, negInf]; pointwise [k0_pay11]
  generalize hE : expertLog (fun l => k0_pay7 v20 v41 (ix2 r l)) (firstIx (groupLog (fun l => k0_pay7 v20 v41 (ix2 r l))) (rowMax (groupLog (fun l => k0_pay7 v20 v41 (ix2 r l))))) = E at e11
  have e12 : k0_pay12 v20 v41 (ix2 r 0) = rowMax E := by
    rw [← funext e11]; simp only [rowMax, negInf]; pointwise [k0_pay12]
  have e13 : k0_pay13 v20 v41 (ix2 r 0) = firstIx E (rowMax E) := by
    rw [← e12]; simp only [firstIx, ← e11]; pointwise [k0_pay13]
  have e14 : ∀ x, k0_pay14 v20 v41 (ix2 r x) = firstIx E (rowMax E) := fun x => by
    rw [← e13]; pointwise [k0_pay14]
  simp only [record, hE]
  simp only [← e10, ← e13]
  pointwise [k0_pay15]
  have hw : ∀ i, without E i = fun l : Fin 128 => Scalar.select (IntOp.cmpi .eq (BitVec.ofNat 32 l.val) i) negInf (E l) := fun _ => rfl
  simp only [e14, e11, e12, e13, hw, firstIx, rowMax, negInf]
  rfl

section B
variable (x : Vec Ideal S512x1024 .f32) (oc : Vec Ideal S512x1024 .bf16) (w : Vec Ideal S1024x1024 .bf16) (g : Vec Ideal S1x1024 .f32)
  (wh wl : Vec Ideal S1024x128 .bf16) (b : Vec Ideal S1x128 .f32) (r : Fin 512)

theorem mixB (d : Fin 1024) : k0_pay16 x oc w (ix2 r d)
    = mixRow (fun d => x (ix2 r d)) (fun k => oc (ix2 r k)) (fun k d => w (ix2 k d)) d := by
  pointwise [k0_pay16, mixRow]

theorem normB (d : Fin 1024) : k0_pay18 x oc w g (ix2 r d)
    = normRow (mixRow (fun d => x (ix2 r d)) (fun k => oc (ix2 r k)) (fun k d => w (ix2 k d))) (fun d => g (ix2 0 d)) d := by
  have h := mixB x oc w r
  simp only [normRow, ← h]
  pointwise [k0_pay18]

theorem normB' (d : Fin 1024) : k0_pay19 x oc w g (ix2 r d)
    = normRow (mixRow (fun d => x (ix2 r d)) (fun k => oc (ix2 r k)) (fun k d => w (ix2 k d))) (fun d => g (ix2 0 d)) d := by
  rw [← normB]
  pointwise [k0_pay19]

theorem logitB (l : Fin 128) : k0_pay22 (k0_pay17 b) (k0_pay20 x oc w g wh) (k0_pay21 x oc w g wl) (ix2 r l)
    = logitRow (normRow (mixRow (fun d => x (ix2 r d)) (fun k => oc (ix2 r k)) (fun k d => w (ix2 k d))) (fun d => g (ix2 0 d)))
      (fun k l => wh (ix2 k l)) (fun k l => wl (ix2 k l)) (fun l => b (ix2 0 l)) l := by
  have h := normB x oc w g r
  have h' := normB' x oc w g r
  simp only [logitRow, ← h]
  pointwise [k0_pay22, k0_pay20, k0_pay21, k0_pay17]
  simp only [h, h']

end B

theorem recordB (v20 : FVec Ideal S1x128 .f32) (v40 v41 : FVec Ideal S512x128 .f32) (r : Fin 512) (l : Fin 128) :
    k0_pay1 (k0_pay29 (iota Kind.tc S512x128 32 [1] iota_S512x128_d1_w32))
      (k0_pay30 (iota Kind.tc S512x128 32 [1] iota_S512x128_d1_w32) (k0_pay25 v20 v40 v41) (k0_pay26 v20 v40 v41) (k0_pay27 v20 v40 v41)
      (k0_pay28 v20 v40 v41)) (k0_pay31 (k0_pay28 v20 v40 v41)) (ix2 r l) = record (fun l => k0_pay22 v20 v40 v41 (ix2 r l)) l := by
  have e8 : ∀ x, k0_pay23 v20 v40 v41 (ix2 r x) = groupLog (fun l => k0_pay22 v20 v40 v41 (ix2 r l)) x := fun x => by
    simp only [groupLog, negInf]; pointwise [k0_pay23]
  have e9 : k0_pay24 v20 v40 v41 (ix2 r 0) = rowMax (groupLog (fun l => k0_pay22 v20 v40 v41 (ix2 r l))) := by
    rw [← funext e8]; simp only [rowMax, negInf]; pointwise [k0_pay24]
  have e10 : k0_pay25 v20 v40 v41 (ix2 r 0) = Ideal.div 1 (∑ x, Ideal.exp (groupLog (fun l => k0_pay22 v20 v40 v41 (ix2 r l)) x - rowMax (groupLog (fun l => k0_pay22 v20 v40 v41 (ix2 r l))))) := by
    rw [← e9]; simp only [← e8]; pointwise [k0_pay25]
  have e11 : ∀ x, k0_pay26 v20 v40 v41 (ix2 r x) = expertLog (fun l => k0_pay22 v20 v40 v41 (ix2 r l)) (firstIx (groupLog (fun l => k0_pay22 v20 v40 v41 (ix2 r l))) (rowMax (groupLog (fun l => k0_pay22 v20 v40 v41 (ix2 r l))))) x := fun x => by
    rw [← e9]; simp only [firstIx, ← e8, expertLog, negInf]; pointwise [k0_pay26]
  generalize hE : expertLog (fun l => k0_pay22 v20 v40 v41 (ix2 r l)) (firstIx (groupLog (fun l => k0_pay22 v20 v40 v41 (ix2 r l))) (rowMax (groupLog (fun l => k0_pay22 v20 v40 v41 (ix2 r l))))) = E at e11
  have e12 : k0_pay27 v20 v40 v41 (ix2 r 0) = rowMax E := by
    rw [← funext e11]; simp only [rowMax, negInf]; pointwise [k0_pay27]
  have e13 : k0_pay28 v20 v40 v41 (ix2 r 0) = firstIx E (rowMax E) := by
    rw [← e12]; simp only [firstIx, ← e11]; pointwise [k0_pay28]
  simp only [record, hE]
  simp only [← e10, ← e13]
  pointwise [k0_pay1, k0_pay29, k0_pay30, k0_pay31]
  have hw : ∀ i, without E i = fun l : Fin 128 => Scalar.select (IntOp.cmpi .eq (BitVec.ofNat 32 l.val) i) negInf (E l) := fun _ => rfl
  simp only [e11, e12, e13, hw, firstIx, rowMax, negInf]
  rfl

theorem index0 : ∀ t : Fin grid0.N, win0_0.index t = ![t.val, 0] ∧ win0_1.index t = ![min t.val 31, 0] ∧ win0_2.index t = ![t.val - 32, 0]
    ∧ win0_3.index t = ![0, 0] ∧ win0_4.index t = ![0, 0] ∧ win0_5.index t = ![0, 0] ∧ win0_6.index t = ![0, 0] ∧ win0_7.index t = ![0, 0]
    ∧ win0_8.index t = ![t.val, 0] ∧ win0_9.index t = ![t.val, 0] ∧ win0_10.index t = ![t.val, 0] := by
  decide +kernel

/-- A row of the two attention outputs, one above the other. -/
def ocRow (p : Vec Ideal S16384x1024 .bf16) (s : Vec Ideal S512x1024 .bf16) (n : Fin 16896) (k : Fin 1024) : EReal :=
  if h : n.val < 16384 then p (ix2 ⟨n.val, h⟩ k) else s (ix2 ⟨n.val - 16384, by omega⟩ k)

variable (V : (c : Dev nD) → (b : Ref sig .tc) → Buf (Elt Ideal) ((c : Thread nD τ).loc b)) (c : Dev nD)

/-- The rows of the residual stream the first region leaves. -/
def xRow (n : Fin 16896) : Fin 1024 → EReal :=
  mixRow (fun d => (V c (Pipeline.arrRef spec0 0) : Vec Ideal S16896x1024 .f32) (ix2 n d))
    (ocRow (V c (Pipeline.arrRef spec0 1)) (V c (Pipeline.arrRef spec0 2)) n)
    (fun k d => (V c (Pipeline.arrRef spec0 3) : Vec Ideal S1024x1024 .bf16) (ix2 k d))

/-- The normalised rows. -/
def tRow (n : Fin 16896) : Fin 1024 → EReal :=
  normRow (xRow V c n) (fun d => (V c (Pipeline.arrRef spec0 4) : Vec Ideal S1x1024 .f32) (ix2 0 d))

/-- The logits of each row. -/
def lRow (n : Fin 16896) : Fin 128 → EReal :=
  logitRow (tRow V c n) (fun k l => (V c (Pipeline.arrRef spec0 5) : Vec Ideal S1024x128 .bf16) (ix2 k l))
    (fun k l => (V c (Pipeline.arrRef spec0 6) : Vec Ideal S1024x128 .bf16) (ix2 k l))
    (fun l => (V c (Pipeline.arrRef spec0 7) : Vec Ideal S1x128 .f32) (ix2 0 l))

section blocks
variable (t : Fin cfg0.N)

theorem blk0_0 (r : Fin 512) (d : Fin 1024) (n : Fin 16896) (hn : n.val = t.val * 512 + r.val) :
    iblk0 V c 0 t (ix2 r d) = V c (Pipeline.arrRef spec0 0) (ix2 n d) := by
  have e := (index0 t).1
  blk_ext [iblk0, e]

theorem blk0_1 (r : Fin 512) (d : Fin 1024) (n : Fin 16896) (hn : n.val = t.val * 512 + r.val) (ht : t.val < 32) :
    iblk0 V c 1 t (ix2 r d) = ocRow (V c (Pipeline.arrRef spec0 1)) (V c (Pipeline.arrRef spec0 2)) n d := by
  have e := (index0 t).2.1
  have hmin : min t.val 31 = t.val := by omega
  rw [hmin] at e
  rw [ocRow, dif_pos (by omega)]
  blk_ext [iblk0, e]

theorem blk0_2 (r : Fin 512) (d : Fin 1024) (n : Fin 16896) (hn : n.val = t.val * 512 + r.val) (ht : t.val = 32) :
    iblk0 V c 2 t (ix2 r d) = ocRow (V c (Pipeline.arrRef spec0 1)) (V c (Pipeline.arrRef spec0 2)) n d := by
  have e := (index0 t).2.2.1
  have h0 : t.val - 32 = 0 := by omega
  rw [h0] at e
  rw [ocRow, dif_neg (by omega)]
  blk_ext [iblk0, e]

theorem blk0_3 (k d : Fin 1024) : iblk0 V c 3 t (ix2 k d) = V c (Pipeline.arrRef spec0 3) (ix2 k d) := by
  have e := (index0 t).2.2.2.1
  blk_ext [iblk0, e]

theorem blk0_4 (d : Fin 1024) : iblk0 V c 4 t (ix2 0 d) = V c (Pipeline.arrRef spec0 4) (ix2 0 d) := by
  have e := (index0 t).2.2.2.2.1
  blk_ext [iblk0, e]

theorem blk0_5 (k : Fin 1024) (l : Fin 128) : iblk0 V c 5 t (ix2 k l) = V c (Pipeline.arrRef spec0 5) (ix2 k l) := by
  have e := (index0 t).2.2.2.2.2.1
  blk_ext [iblk0, e]

theorem blk0_6 (k : Fin 1024) (l : Fin 128) : iblk0 V c 6 t (ix2 k l) = V c (Pipeline.arrRef spec0 6) (ix2 k l) := by
  have e := (index0 t).2.2.2.2.2.2.1
  blk_ext [iblk0, e]

theorem blk0_7 (l : Fin 128) : iblk0 V c 7 t (ix2 0 l) = V c (Pipeline.arrRef spec0 7) (ix2 0 l) := by
  have e := (index0 t).2.2.2.2.2.2.2.1
  blk_ext [iblk0, e]

theorem out0_x (r : Fin 512) (n : Fin 16896) (hn : n.val = t.val * 512 + r.val) :
    (∀ d, (outsAt0 V c t.val t.isLt).1 (ix2 r d) = xRow V c n d)
    ∧ (∀ d, (outsAt0 V c t.val t.isLt).2.1 (ix2 r d) = tRow V c n d)
    ∧ (∀ l, (outsAt0 V c t.val t.isLt).2.2 (ix2 r l) = record (lRow V c n) l) := by
  by_cases h0 : t.val < 32
  · have h1 : ¬t.val % 33 = 32 := by omega
    have ex := fun d => blk0_0 V c t r d n hn
    have eo := fun d => blk0_1 V c t r d n hn h0
    refine ⟨fun d => ?_, fun d => ?_, fun l => ?_⟩ <;> rw [outsAt0_A V c t h0 h1] <;> dsimp only <;> frame_out
    · rw [mixA]
      simp only [ex, eo, blk0_3]; rfl
    · rw [normA']
      simp only [ex, eo, blk0_3, blk0_4]; rfl
    · rw [recordA]
      simp only [logitA, ex, eo, blk0_3, blk0_4, blk0_5, blk0_6, blk0_7]; rfl
  · have hN : t.val < 33 := t.isLt
    have h1 : t.val % 33 = 32 := by omega
    have ex := fun d => blk0_0 V c t r d n hn
    have eo := fun d => blk0_2 V c t r d n hn (by omega)
    refine ⟨fun d => ?_, fun d => ?_, fun l => ?_⟩ <;> rw [outsAt0_B V c t h0 h1] <;> dsimp only <;> frame_out
    · rw [mixB]
      simp only [ex, eo, blk0_3]; rfl
    · rw [normB']
      simp only [ex, eo, blk0_3, blk0_4]; rfl
    · rw [recordB]
      simp only [logitB, ex, eo, blk0_3, blk0_4, blk0_5, blk0_6, blk0_7]; rfl

end blocks

theorem arr0_8 : (dat0 V c).arrAt 8 cfg0.N = fun i => xRow V c (i 0) (i 1) := by
  refine (dat0 V c).arrAt_eq_of_covers 8 _ (by decide +kernel) fun t hf y => ?_
  have e := (index0 t).2.2.2.2.2.2.2.2.1
  have e0 : (((cfg0.win 8).blk t).view.emb y 0 : ℕ) = t.val * 512 + (y 0).val := by blk_simp [e]
  have e1 : (((cfg0.win 8).blk t).view.emb y 1 : ℕ) = (y 1).val := by blk_simp [e]
  dsimp only
  generalize ((cfg0.win 8).blk t).view.emb y 0 = n at e0 ⊢
  generalize ((cfg0.win 8).blk t).view.emb y 1 = d at e1 ⊢
  blk_simp
  rw [after0_8]
  idx_vars y
  obtain rfl : d = y1 := Fin.ext e1
  exact (out0_x V c t y0 n e0).1 _

theorem arr0_9 : (dat0 V c).arrAt 9 cfg0.N = fun i => tRow V c (i 0) (i 1) := by
  refine (dat0 V c).arrAt_eq_of_covers 9 _ (by decide +kernel) fun t hf y => ?_
  have e := (index0 t).2.2.2.2.2.2.2.2.2.1
  have e0 : (((cfg0.win 9).blk t).view.emb y 0 : ℕ) = t.val * 512 + (y 0).val := by blk_simp [e]
  have e1 : (((cfg0.win 9).blk t).view.emb y 1 : ℕ) = (y 1).val := by blk_simp [e]
  dsimp only
  generalize ((cfg0.win 9).blk t).view.emb y 0 = n at e0 ⊢
  generalize ((cfg0.win 9).blk t).view.emb y 1 = d at e1 ⊢
  blk_simp
  rw [after0_9]
  idx_vars y
  obtain rfl : d = y1 := Fin.ext e1
  exact (out0_x V c t y0 n e0).2.1 _

theorem arr0_10 : (dat0 V c).arrAt 10 cfg0.N = fun i => record (lRow V c (i 0)) (i 1) := by
  refine (dat0 V c).arrAt_eq_of_covers 10 _ (by decide +kernel) fun t hf y => ?_
  have e := (index0 t).2.2.2.2.2.2.2.2.2.2
  have e0 : (((cfg0.win 10).blk t).view.emb y 0 : ℕ) = t.val * 512 + (y 0).val := by blk_simp [e]
  have e1 : (((cfg0.win 10).blk t).view.emb y 1 : ℕ) = (y 1).val := by blk_simp [e]
  dsimp only
  generalize ((cfg0.win 10).blk t).view.emb y 0 = n at e0 ⊢
  generalize ((cfg0.win 10).blk t).view.emb y 1 = d at e1 ⊢
  blk_simp
  rw [after0_10]
  idx_vars y
  obtain rfl : d = y1 := Fin.ext e1
  exact (out0_x V c t y0 n e0).2.2 _

end Cert.KernelIdeal.Gen
end
-- ==== Proof.KMoe.lean ====
module

public import proofs.«01_k».proof.Proof.Gen.KernelIdeal.Frame
public import proofs.«01_k».proof.Proof.Spec
public import Idealize.ShloMosaic.Lib.Pipeline.ValueKit

@[expose] public section

set_option maxRecDepth 16384

noncomputable section

namespace Cert.KernelIdeal.Gen

open Idealize.ShloMosaic Idealize.ShloMosaic.TcCoe Cert.Layer

/-- The number of the expert handled in round `s` of the second coordinate `i`, as the signed reading of the kernel's word. -/
theorem expert_word (i : Fin 8) (s : Fin 4) :
    (Scalar.addi (Scalar.muli (BitVec.ofNat 32 i.val) 4#32) (BitVec.ofNat 32 s.val)).toInt = ((4 * i.val + s.val : ℕ) : ℤ) := by
  revert i s; decide +kernel

/-- What expert `s` of the four a grid point handles adds to entry `(r, d)` of the block. -/
def tileTerm (T : Vec Ideal S1536x1024 .bf16) (R : Vec Ideal S1536x128 .f32) (wgu : Vec Ideal S4x1024x512 .bf16)
    (wd : Vec Ideal S4x256x1024 .bf16) (i : ℕ) (r : Fin 1536) (d : Fin 1024) (s : Fin 4) : EReal :=
  expert (fun k => T (ix2 r k)) (fun k f => wgu (ix3 s k ⟨f.val, by omega⟩)) (fun k f => wgu (ix3 s k ⟨256 + f.val, by omega⟩))
    (fun f => wd (ix3 s f d)) (gateOf (fun l => R (ix2 r l)) (4 * i + s.val))

theorem step_apply (i : grid1.Coords) (T : Vec Ideal S1536x1024 .bf16) (R : Vec Ideal S1536x128 .f32)
    (wgu : Vec Ideal S4x1024x512 .bf16) (wd : Vec Ideal S4x256x1024 .bf16) (o : Vec Ideal S1536x1024 .f32) (r : Fin 1536) (d : Fin 1024) :
    k1_pay1 (BitVec.ofNat 32 ↑(i 1)) (k1_pay4 R)
      (k1_pay7 (BitVec.ofNat 32 ↑(i 1)) (k1_pay3 T) (k1_pay4 R)
        (k1_pay6 (BitVec.ofNat 32 ↑(i 1)) (k1_pay3 T) (k1_pay4 R)
          (k1_pay5 i T R
            (View.ld wgu (Rect.unit ![0, 0, 0] ![1, 1024, 512] inb_S4x1024x512_S1x1024x512_0_0_0)))
          (View.ld wd (Rect.unit ![0, 0, 0] ![1, 256, 1024] inb_S4x256x1024_S1x256x1024_0_0_0))
          (View.ld wgu (Rect.unit ![1, 0, 0] ![1, 1024, 512] inb_S4x1024x512_S1x1024x512_1_0_0))
          (View.ld wd (Rect.unit ![1, 0, 0] ![1, 256, 1024] inb_S4x256x1024_S1x256x1024_1_0_0)))
        (View.ld wgu (Rect.unit ![2, 0, 0] ![1, 1024, 512] inb_S4x1024x512_S1x1024x512_2_0_0))
        (View.ld wd (Rect.unit ![2, 0, 0] ![1, 256, 1024] inb_S4x256x1024_S1x256x1024_2_0_0)))
      (k1_pay9 (k1_pay3 T)
        (View.ld wgu (Rect.unit ![3, 0, 0] ![1, 1024, 512] inb_S4x1024x512_S1x1024x512_3_0_0)))
      (k1_pay10 (k1_pay3 T)
        (View.ld wgu (Rect.unit ![3, 0, 0] ![1, 1024, 512] inb_S4x1024x512_S1x1024x512_3_0_0)))
      (View.ld wd (Rect.unit ![3, 0, 0] ![1, 256, 1024] inb_S4x256x1024_S1x256x1024_3_0_0))
      o (ix2 r d) = o (ix2 r d) + ∑ s : Fin 4, tileTerm T R wgu wd (i 1).val r d s := by
  have h0 := expert_word (i 1) 0
  have h1 := expert_word (i 1) 1
  have h2 := expert_word (i 1) 2
  have h3 := expert_word (i 1) 3
  simp only [Fin.sum_univ_four, tileTerm, expert, gateOf, Layer.hidden, ← h0, ← h1, ← h2, ← h3]
  pointwise [k1_pay1, k1_pay3, k1_pay4, k1_pay5, k1_pay6, k1_pay7, k1_pay8, k1_pay9, k1_pay10]

theorem init_apply (X : Vec Ideal S1536x1024 .f32) (r : Fin 1536) (d : Fin 1024) : k1_pay2 X (ix2 r d) = X (ix2 r d) := by
  pointwise [k1_pay2]

theorem coords1 : ∀ t : Fin grid1.N, (grid1.coords t 0).val = t.val / 8 ∧ (grid1.coords t 1).val = t.val % 8 := by
  decide +kernel

theorem index1 : ∀ t : Fin grid1.N, win1_0.index t = ![t.val / 8, 0] ∧ win1_1.index t = ![t.val / 8, 0] ∧ win1_2.index t = ![t.val / 8, 0]
    ∧ win1_3.index t = ![t.val % 8, 0, 0] ∧ win1_4.index t = ![t.val % 8, 0, 0] ∧ win1_5.index t = ![t.val / 8, 0] := by
  decide +kernel

variable (V : (c : Dev nD) → (b : Ref sig .tc) → Buf (Elt Ideal) ((c : Thread nD τ).loc b))

/-- The whole array the region leaves: the row of `X`, and what the 32 experts add to it. -/
def moeOut (X : Vec Ideal S16896x1024 .f32) (T : Vec Ideal S16896x1024 .bf16) (R : Vec Ideal S16896x128 .f32)
    (wgu : Vec Ideal S32x1024x512 .bf16) (wd : Vec Ideal S32x256x1024 .bf16) (n : Fin 16896) (d : Fin 1024) : EReal :=
  X (ix2 n d) + ∑ e : Fin 32, expert (fun k => T (ix2 n k)) (fun k f => wgu (ix3 e k ⟨f.val, by omega⟩))
    (fun k f => wgu (ix3 e k ⟨256 + f.val, by omega⟩)) (fun f => wd (ix3 e f d)) (gateOf (fun l => R (ix2 n l)) e.val)

theorem blk1_0 (c : Dev nD) (t : Fin cfg1.N) (r : Fin 1536) (d : Fin 1024) (n : Fin 16896) (hn : n.val = t.val / 8 * 1536 + r.val) :
    iblk1 V c 0 t (ix2 r d) = V c (Pipeline.arrRef spec1 0) (ix2 n d) := by
  have e := (index1 t).1
  blk_ext [iblk1, e]

theorem blk1_1 (c : Dev nD) (t : Fin cfg1.N) (r : Fin 1536) (d : Fin 1024) (n : Fin 16896) (hn : n.val = t.val / 8 * 1536 + r.val) :
    iblk1 V c 1 t (ix2 r d) = V c (Pipeline.arrRef spec1 1) (ix2 n d) := by
  have e := (index1 t).2.1
  blk_ext [iblk1, e]

theorem blk1_2 (c : Dev nD) (t : Fin cfg1.N) (r : Fin 1536) (d : Fin 128) (n : Fin 16896) (hn : n.val = t.val / 8 * 1536 + r.val) :
    iblk1 V c 2 t (ix2 r d) = V c (Pipeline.arrRef spec1 2) (ix2 n d) := by
  have e := (index1 t).2.2.1
  blk_ext [iblk1, e]

theorem blk1_3 (c : Dev nD) (t : Fin cfg1.N) (s : Fin 4) (k : Fin 1024) (f : Fin 512) (n : Fin 32) (hn : n.val = t.val % 8 * 4 + s.val) :
    iblk1 V c 3 t (ix3 s k f) = V c (Pipeline.arrRef spec1 3) (ix3 n k f) := by
  have e := (index1 t).2.2.2.1
  blk_ext [iblk1, e]

theorem blk1_4 (c : Dev nD) (t : Fin cfg1.N) (s : Fin 4) (k : Fin 256) (f : Fin 1024) (n : Fin 32) (hn : n.val = t.val % 8 * 4 + s.val) :
    iblk1 V c 4 t (ix3 s k f) = V c (Pipeline.arrRef spec1 4) (ix3 n k f) := by
  have e := (index1 t).2.2.2.2.1
  blk_ext [iblk1, e]

theorem acc1 (c : Dev nD) (t : Fin cfg1.N) (hf : (cfg1.win 5).flush t = true) (r : Fin 1536) (d : Fin 1024)
    (n : Fin 16896) (hn : n.val = t.val / 8 * 1536 + r.val) :
    outsAt1 V c t.val t.isLt (ix2 r d)
      = moeOut (V c (Pipeline.arrRef spec1 0)) (V c (Pipeline.arrRef spec1 1)) (V c (Pipeline.arrRef spec1 2))
        (V c (Pipeline.arrRef spec1 3)) (V c (Pipeline.arrRef spec1 4)) n d := by
  have h7 := (flush1_5 t).mp hf
  have key := Pipeline.eq_sum_fin_of_reset_step_apply_of_flush (fun n h => outsAt1 V c n h) 8
    (fun j => (0 : EReal))
    (fun t j => (if t.val % 8 = 0 then (show EReal from iblk1 V c 0 t j) else 0)
      + ∑ s : Fin 4, tileTerm (iblk1 V c 1 t) (iblk1 V c 2 t) (iblk1 V c 3 t) (iblk1 V c 4 t) (t.val % 8) (j 0) (j 1) s)
    (fun t h j => by
      rw [outsAt1_A V c t h]; frame_out
      idx_vars j; rw [step_apply, init_apply, (coords1 t).2, if_pos h, zero_add])
    (fun t h j => by
      rw [outsAt1_B V c t h]; frame_out
      idx_vars j; rw [step_apply, (coords1 t).2, if_neg h, zero_add]) t h7 (ix2 r d)
  rw [key, zero_add, Finset.sum_add_distrib, moeOut]
  refine congrArg₂ (· + ·) ?_ ?_
  · rw [Finset.sum_eq_single (0 : Fin 8)]
    · rw [if_pos (by simp)]
      exact blk1_0 V c _ r d n (by simp only [Fin.val_zero]; omega)
    · intro b _ hb
      rw [if_neg]
      have : b.val ≠ 0 := fun h => hb (Fin.ext h)
      have := b.isLt
      dsimp only
      omega
    · simp
  · refine Fin.sum_mul_add_congr fun s k hl => ?_
    have hs := s.isLt
    have e8 : (8 * (t.val / 8) + s.val) / 8 = t.val / 8 := by omega
    have e9 : (8 * (t.val / 8) + s.val) % 8 = s.val := by omega
    dsimp only [tileTerm, expert]
    refine Finset.sum_congr rfl fun f _ => ?_
    refine congrArg₂ (· * ·) (congrArg₂ (· * ·) (congrArg₂ Layer.hidden ?_ ?_) ?_) ?_
    · refine Finset.sum_congr rfl fun x _ => congrArg₂ (· * ·) (blk1_1 V c _ _ _ n (by dsimp only [ix2]; omega)) (blk1_3 V c _ _ _ _ _ (by dsimp only; omega))
    · refine Finset.sum_congr rfl fun x _ => congrArg₂ (· * ·) (blk1_1 V c _ _ _ n (by dsimp only [ix2]; omega)) (blk1_3 V c _ _ _ _ _ (by dsimp only; omega))
    · refine congrArg₂ gateOf (funext fun l => blk1_2 V c _ _ _ n (by dsimp only [ix2]; omega)) (by omega)
    · exact blk1_4 V c _ _ _ _ _ (by dsimp only; omega)

theorem moe_arr (c : Dev nD) : (dat1 V c).arrAt 5 cfg1.N = fun i =>
    moeOut (V c (Pipeline.arrRef spec1 0)) (V c (Pipeline.arrRef spec1 1)) (V c (Pipeline.arrRef spec1 2))
        (V c (Pipeline.arrRef spec1 3)) (V c (Pipeline.arrRef spec1 4)) (i 0) (i 1) := by
  refine (dat1 V c).arrAt_eq_of_covers 5 _ (by decide +kernel) fun t hf y => ?_
  have e := (index1 t).2.2.2.2.2
  have e0 : (((cfg1.win 5).blk t).view.emb y 0 : ℕ) = t.val / 8 * 1536 + (y 0).val := by blk_simp [e]
  have e1 : (((cfg1.win 5).blk t).view.emb y 1 : ℕ) = (y 1).val := by blk_simp [e]
  dsimp only
  generalize ((cfg1.win 5).blk t).view.emb y 0 = n at e0 ⊢
  generalize ((cfg1.win 5).blk t).view.emb y 1 = d at e1 ⊢
  blk_simp
  rw [after1_5]
  idx_vars y
  obtain rfl : d = y1 := Fin.ext e1
  exact acc1 V c t hf _ _ n e0

end Cert.KernelIdeal.Gen
end
-- ==== Proof.KHost.lean ====
module

public import proofs.«01_k».proof.Proof.KProj
public import proofs.«01_k».proof.Proof.KMoe
public import Idealize.ShloMosaic.Lib.Claim

@[expose] public section

set_option maxRecDepth 16384

noncomputable section

namespace Cert.KernelIdeal.Gen

open Idealize.ShloMosaic Idealize.ShloMosaic.TcCoe Cert.Layer

variable (σ : Valuation τ sig (Elt Ideal))

section ops
variable {F : FTy → Type} [FloatOps F]

/-- The router's two weight matrices side by side, padded to 128 columns. -/
def routerCols (a : (⟨S1024x4, .f32⟩ : BufTy).Contents (Elt F)) (b : (⟨S1024x32, .f32⟩ : BufTy).Contents (Elt F))
    (z : (⟨S1024x92, .f32⟩ : BufTy).Contents (Elt F)) : (⟨S1024x128, .f32⟩ : BufTy).Contents (Elt F) :=
  concatenate S1024x128 1 [⟨S1024x4, a⟩, ⟨S1024x32, b⟩, ⟨S1024x92, z⟩] concatenates_S1024x4_S1024x32_S1024x92_S1024x128_d1

/-- The router's two bias vectors end to end, padded to 128 lanes. -/
def routerBias (a : (⟨S4, .f32⟩ : BufTy).Contents (Elt F)) (b : (⟨S32, .f32⟩ : BufTy).Contents (Elt F))
    (z : (⟨S92, .f32⟩ : BufTy).Contents (Elt F)) : (⟨S128, .f32⟩ : BufTy).Contents (Elt F) :=
  concatenate S128 0 [⟨S4, a⟩, ⟨S32, b⟩, ⟨S92, z⟩] concatenates_S4_S32_S92_S128_d0

/-- The operations before the first kernel, the two stackings by name. -/
def entryOps : List (HloOp τ sig (Elt F)) :=
  [ StableHlo.nullary main_cst (constant S_ .f32 0x00000000#32),
    StableHlo.unary main_cst main_v0 (broadcastInDim S1024x92 ![] bcast_S_S1024x92 : (⟨S_, .f32⟩ : BufTy).Contents (Elt F) → (⟨S1024x92, .f32⟩ : BufTy).Contents (Elt F)),
    StableHlo.nary ![main_arg5, main_arg7, main_v0] main_v1 (fun u => routerCols (u 0) (u 1) (u 2)),
    StableHlo.unary main_v1 main_v2 ((truncf .bf16 · bitsLt_bf16_f32) : (⟨S1024x128, .f32⟩ : BufTy).Contents (Elt F) → (⟨S1024x128, .bf16⟩ : BufTy).Contents (Elt F)),
    StableHlo.unary main_v2 main_v3 ((extf .f32 · bitsLt_bf16_f32) : (⟨S1024x128, .bf16⟩ : BufTy).Contents (Elt F) → (⟨S1024x128, .f32⟩ : BufTy).Contents (Elt F)),
    StableHlo.binary main_v1 main_v3 main_v4 (subf : (⟨S1024x128, .f32⟩ : BufTy).Contents (Elt F) → (⟨S1024x128, .f32⟩ : BufTy).Contents (Elt F) → (⟨S1024x128, .f32⟩ : BufTy).Contents (Elt F)),
    StableHlo.unary main_v4 main_v5 ((truncf .bf16 · bitsLt_bf16_f32) : (⟨S1024x128, .f32⟩ : BufTy).Contents (Elt F) → (⟨S1024x128, .bf16⟩ : BufTy).Contents (Elt F)),
    StableHlo.nullary main_cst_0 (constant S_ .f32 0x00000000#32),
    StableHlo.unary main_cst_0 main_v6 (broadcastInDim S92 ![] bcast_S_S92 : (⟨S_, .f32⟩ : BufTy).Contents (Elt F) → (⟨S92, .f32⟩ : BufTy).Contents (Elt F)),
    StableHlo.nary ![main_arg6, main_arg8, main_v6] main_v7 (fun u => routerBias (u 0) (u 1) (u 2)),
    StableHlo.unary main_v7 main_v8 (broadcastInDim S1x128 ![1] bcast_S128_S1x128_1 : (⟨S128, .f32⟩ : BufTy).Contents (Elt F) → (⟨S1x128, .f32⟩ : BufTy).Contents (Elt F)),
    StableHlo.unary main_arg4 main_v9 (broadcastInDim S1x1024 ![1] bcast_S1024_S1x1024_1 : (⟨S1024, .f32⟩ : BufTy).Contents (Elt F) → (⟨S1x1024, .f32⟩ : BufTy).Contents (Elt F)),
    StableHlo.unary main_arg2 main_v10 ((truncf .bf16 · bitsLt_bf16_f32) : (⟨S512x1024, .f32⟩ : BufTy).Contents (Elt F) → (⟨S512x1024, .bf16⟩ : BufTy).Contents (Elt F)),
    StableHlo.unary main_arg3 main_v11 ((truncf .bf16 · bitsLt_bf16_f32) : (⟨S1024x1024, .f32⟩ : BufTy).Contents (Elt F) → (⟨S1024x1024, .bf16⟩ : BufTy).Contents (Elt F)) ]

theorem entryOps_eq : (hostOps0 : List (HloOp τ sig (Elt F))) = entryOps := rfl

end ops

local notation "Arr" t => BufTy.Contents (Elt Ideal) t

theorem routerCols_group (a : Arr ⟨S1024x4, .f32⟩) (b : Arr ⟨S1024x32, .f32⟩) (z : Arr ⟨S1024x92, .f32⟩)
    (k : Fin 1024) (g : Fin 4) (l : Fin 128) (h : l.val = g.val) : routerCols a b z (ix2 k l) = a (ix2 k g) := by
  have := g.isLt
  pointwise [routerCols]
  rw [dif_pos (by omega)]
  have hg : (⟨l.val, by omega⟩ : Fin 4) = g := Fin.ext h
  rw [hg]

theorem routerCols_expert (a : Arr ⟨S1024x4, .f32⟩) (b : Arr ⟨S1024x32, .f32⟩) (z : Arr ⟨S1024x92, .f32⟩)
    (k : Fin 1024) (e : Fin 32) (l : Fin 128) (h : l.val = 4 + e.val) : routerCols a b z (ix2 k l) = b (ix2 k e) := by
  have := e.isLt
  pointwise [routerCols]
  rw [dif_neg (by omega), dif_pos (by omega)]
  have he : (⟨l.val - 4, by omega⟩ : Fin 32) = e := Fin.ext (by simp only; omega)
  rw [he]

theorem routerBias_group (a : Arr ⟨S4, .f32⟩) (b : Arr ⟨S32, .f32⟩) (z : Arr ⟨S92, .f32⟩) (g : Fin 4) (l : Fin 128) (h : l.val = g.val) :
    routerBias a b z (ix1 l) = a (ix1 g) := by
  have := g.isLt
  pointwise [routerBias]
  rw [dif_pos (by omega)]
  have hg : (⟨l.val, by omega⟩ : Fin 4) = g := Fin.ext h
  rw [hg]

theorem routerBias_expert (a : Arr ⟨S4, .f32⟩) (b : Arr ⟨S32, .f32⟩) (z : Arr ⟨S92, .f32⟩) (e : Fin 32) (l : Fin 128) (h : l.val = 4 + e.val) :
    routerBias a b z (ix1 l) = b (ix1 e) := by
  have := e.isLt
  pointwise [routerBias]
  rw [dif_neg (by omega), dif_pos (by omega)]
  have he : (⟨l.val - 4, by omega⟩ : Fin 32) = e := Fin.ext (by simp only; omega)
  rw [he]

/-- A group's column of the router's weights. -/
theorem hi_group (k : Fin 1024) (g : Fin 4) (l : Fin 128) (h : l.val = g.val) :
    (StableHlo.after hostOps0 σ (Proc.devRef .tc main_v2) : Vec Ideal S1024x128 .bf16) (ix2 k l)
        = (σ (Proc.devRef .tc main_arg5) : Vec Ideal S1024x4 .f32) (ix2 k g) := by
  rw [entryOps_eq]; simp only [entryOps]; after_results_simp; pointwise
  exact routerCols_group _ _ _ k g l h

/-- An expert's column of the router's weights. -/
theorem hi_expert (k : Fin 1024) (e : Fin 32) (l : Fin 128) (h : l.val = 4 + e.val) :
    (StableHlo.after hostOps0 σ (Proc.devRef .tc main_v2) : Vec Ideal S1024x128 .bf16) (ix2 k l)
        = (σ (Proc.devRef .tc main_arg7) : Vec Ideal S1024x32 .f32) (ix2 k e) := by
  rw [entryOps_eq]; simp only [entryOps]; after_results_simp; pointwise
  exact routerCols_expert _ _ _ k e l h

/-- The remainder of a group's column. -/
theorem lo_group (k : Fin 1024) (g : Fin 4) (l : Fin 128) (h : l.val = g.val) :
    (StableHlo.after hostOps0 σ (Proc.devRef .tc main_v5) : Vec Ideal S1024x128 .bf16) (ix2 k l)
        = HSub.hSub (α := EReal) (β := EReal) ((σ (Proc.devRef .tc main_arg5) : Vec Ideal S1024x4 .f32) (ix2 k g)) ((σ (Proc.devRef .tc main_arg5) : Vec Ideal S1024x4 .f32) (ix2 k g)) := by
  rw [entryOps_eq]; simp only [entryOps]; after_results_simp; pointwise
  erw [routerCols_group _ _ _ k g l h]

/-- The remainder of an expert's column. -/
theorem lo_expert (k : Fin 1024) (e : Fin 32) (l : Fin 128) (h : l.val = 4 + e.val) :
    (StableHlo.after hostOps0 σ (Proc.devRef .tc main_v5) : Vec Ideal S1024x128 .bf16) (ix2 k l)
        = HSub.hSub (α := EReal) (β := EReal) ((σ (Proc.devRef .tc main_arg7) : Vec Ideal S1024x32 .f32) (ix2 k e)) ((σ (Proc.devRef .tc main_arg7) : Vec Ideal S1024x32 .f32) (ix2 k e)) := by
  rw [entryOps_eq]; simp only [entryOps]; after_results_simp; pointwise
  erw [routerCols_expert _ _ _ k e l h]

/-- A group's bias. -/
theorem bias_group (g : Fin 4) (l : Fin 128) (h : l.val = g.val) :
    (StableHlo.after hostOps0 σ (Proc.devRef .tc main_v8) : Vec Ideal S1x128 .f32) (ix2 0 l)
        = (σ (Proc.devRef .tc main_arg6) : Vec Ideal S4 .f32) (ix1 g) := by
  rw [entryOps_eq]; simp only [entryOps]; after_results_simp; pointwise
  exact routerBias_group _ _ _ g l h

/-- An expert's bias. -/
theorem bias_expert (e : Fin 32) (l : Fin 128) (h : l.val = 4 + e.val) :
    (StableHlo.after hostOps0 σ (Proc.devRef .tc main_v8) : Vec Ideal S1x128 .f32) (ix2 0 l)
        = (σ (Proc.devRef .tc main_arg8) : Vec Ideal S32 .f32) (ix1 e) := by
  rw [entryOps_eq]; simp only [entryOps]; after_results_simp; pointwise
  exact routerBias_expert _ _ _ e l h

theorem norm_entry (k : Fin 1024) : (StableHlo.after hostOps0 σ (Proc.devRef .tc main_v9) : Vec Ideal S1x1024 .f32) (ix2 0 k)
    = (σ (Proc.devRef .tc main_arg4) : Vec Ideal S1024 .f32) (ix1 k) := by
  entry_read
  pointwise

theorem second_entry (r : Fin 512) (k : Fin 1024) : (StableHlo.after hostOps0 σ (Proc.devRef .tc main_v10) : Vec Ideal S512x1024 .bf16) (ix2 r k)
    = (σ (Proc.devRef .tc main_arg2) : Vec Ideal S512x1024 .f32) (ix2 r k) := by
  entry_read
  pointwise

theorem out_entry (r : Fin 1024) (k : Fin 1024) : (StableHlo.after hostOps0 σ (Proc.devRef .tc main_v11) : Vec Ideal S1024x1024 .bf16) (ix2 r k)
    = (σ (Proc.devRef .tc main_arg3) : Vec Ideal S1024x1024 .f32) (ix2 r k) := by
  entry_read
  pointwise

theorem gateup_entry (e : Fin 32) (k : Fin 1024) (f : Fin 512) :
    (StableHlo.after hostOps1 σ (Proc.devRef .tc main_v16) : Vec Ideal S32x1024x512 .bf16) (ix3 e k f)
    = if h : f.val < 256 then (σ (Proc.devRef .tc main_arg9) : Vec Ideal S4x8x1024x256 .f32) (ix4 ⟨e.val / 8, by omega⟩ ⟨e.val % 8, by omega⟩ k ⟨f.val, h⟩)
      else (σ (Proc.devRef .tc main_arg10) : Vec Ideal S4x8x1024x256 .f32) (ix4 ⟨e.val / 8, by omega⟩ ⟨e.val % 8, by omega⟩ k ⟨f.val - 256, by omega⟩) := by
  entry_read
  pointwise

theorem down_entry (e : Fin 32) (k : Fin 256) (f : Fin 1024) :
    (StableHlo.after hostOps1 σ (Proc.devRef .tc main_v18) : Vec Ideal S32x256x1024 .bf16) (ix3 e k f)
    = (σ (Proc.devRef .tc main_arg11) : Vec Ideal S4x8x256x1024 .f32) (ix4 ⟨e.val / 8, by omega⟩ ⟨e.val % 8, by omega⟩ k f) := by
  entry_read
  pointwise

end Cert.KernelIdeal.Gen
end
-- ==== Proof.Choice.lean ====
module

public import proofs.«01_k».proof.Proof.Spec

@[expose] public section

noncomputable section

namespace Cert.Layer

open Idealize.ShloMosaic

/-- `i` is the first place at which `v` is largest. -/
def FirstMax {n : ℕ} (v : Fin n → ℝ) (i : Fin n) : Prop := (∀ j, v j ≤ v i) ∧ ∀ j < i, v j < v i

/-- `b` is the first place at which `v` is largest among the places other than `a`. -/
def SecondMax {n : ℕ} (v : Fin n → ℝ) (a b : Fin n) : Prop :=
  b ≠ a ∧ (∀ j, j ≠ a → v j ≤ v b) ∧ ∀ j < b, j ≠ a → v j < v b

theorem exists_first_of {n : ℕ} (v : Fin n → ℝ) (s : Finset (Fin n)) (hs : s.Nonempty) :
    ∃ i ∈ s, (∀ j ∈ s, v j ≤ v i) ∧ ∀ j < i, j ∈ s → v j < v i := by
  obtain ⟨b, hb, hbm⟩ := s.exists_max_image v hs
  obtain ⟨i, hi, him⟩ := (s.filter fun j => v j = v b).exists_min_image id ⟨b, by simp [hb]⟩
  rw [Finset.mem_filter] at hi
  refine ⟨i, hi.1, fun j hj => hi.2 ▸ hbm j hj, fun j hj hjs => ?_⟩
  rcases lt_or_eq_of_le (hbm j hjs) with h | h
  · rw [hi.2]; exact h
  · exact absurd (him j (by simp [hjs, h])) (not_le.mpr hj)

theorem exists_firstMax {n : ℕ} (v : Fin (n + 1) → ℝ) : ∃ i, FirstMax v i := by
  obtain ⟨i, -, h1, h2⟩ := exists_first_of v Finset.univ ⟨0, Finset.mem_univ _⟩
  exact ⟨i, fun j => h1 j (Finset.mem_univ _), fun j hj => h2 j hj (Finset.mem_univ _)⟩

theorem exists_secondMax {n : ℕ} (v : Fin (n + 2) → ℝ) (a : Fin (n + 2)) : ∃ b, SecondMax v a b := by
  obtain ⟨c, hc⟩ := exists_ne a
  obtain ⟨i, hi, h1, h2⟩ := exists_first_of v (Finset.univ.erase a) ⟨c, by simp [hc]⟩
  exact ⟨i, (Finset.mem_erase.mp hi).1, fun j hj => h1 j (by simp [hj]), fun j hj hja => h2 j hj (by simp [hja])⟩

theorem FirstMax.unique {n : ℕ} {v : Fin n → ℝ} {i j : Fin n} (hi : FirstMax v i) (hj : FirstMax v j) : i = j := by
  rcases lt_trichotomy i j with h | h | h
  · exact absurd (hj.2 i h) (not_lt.mpr (hi.1 j))
  · exact h
  · exact absurd (hi.2 j h) (not_lt.mpr (hj.1 i))

theorem SecondMax.unique {n : ℕ} {v : Fin n → ℝ} {a i j : Fin n} (hi : SecondMax v a i) (hj : SecondMax v a j) : i = j := by
  rcases lt_trichotomy i j with h | h | h
  · exact absurd (hj.2.2 i h hi.1) (not_lt.mpr (hi.2.1 j hj.1))
  · exact h
  · exact absurd (hi.2.2 j h hj.1) (not_lt.mpr (hj.2.1 i hi.1))

/-- What the router chooses for a row: the group with the largest logit, and in it the two experts with the largest
    logits, ties to the lower index. -/
structure Chosen (gl : Fin 4 → ℝ) (el : Fin 4 → Fin 8 → ℝ) where
  group : Fin 4
  first : Fin 8
  second : Fin 8
  group_max : FirstMax gl group
  first_max : FirstMax (el group) first
  second_max : SecondMax (el group) first second

theorem exists_chosen (gl : Fin 4 → ℝ) (el : Fin 4 → Fin 8 → ℝ) : Nonempty (Chosen gl el) := by
  obtain ⟨G, hG⟩ := exists_firstMax gl
  obtain ⟨a, ha⟩ := exists_firstMax (el G)
  obtain ⟨b, hb⟩ := exists_secondMax (el G) a
  exact ⟨⟨G, a, b, hG, ha, hb⟩⟩

variable {gl : Fin 4 → ℝ} {el : Fin 4 → Fin 8 → ℝ} (C : Chosen gl el)

/-- The softmax weight of the group chosen. -/
def Chosen.gw : ℝ := 1 / ∑ g, Real.exp (gl g - gl C.group)

/-- The second expert's exponential, the first one's being one. -/
def Chosen.ratio : ℝ := Real.exp (el C.group C.second - el C.group C.first)

/-- The routing weight of expert `i` of group `g`. -/
def Chosen.gate (g : Fin 4) (i : Fin 8) : ℝ :=
  if g = C.group then
    if i = C.first then C.gw / (1 + C.ratio) else if i = C.second then C.gw * C.ratio / (1 + C.ratio) else 0
  else 0

theorem Chosen.ratio_pos : 0 < C.ratio := Real.exp_pos _

theorem Chosen.sum_pos : 0 < ∑ g, Real.exp (gl g - gl C.group) :=
  Finset.sum_pos (fun _ _ => Real.exp_pos _) ⟨0, Finset.mem_univ _⟩

theorem div_real (a b : ℝ) (h : b ≠ 0) : Ideal.div (a : EReal) (b : EReal) = ((a / b : ℝ) : EReal) := by
  rw [Ideal.div_coe h, ← EReal.coe_mul, mul_one_div]

theorem coe_sum_real {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem cmp_eq_iff (a b : BitVec 32) : (IntOp.cmpi .eq a b = 1) ↔ a = b := by
  by_cases h : a = b
  · subst h; simp [IntOp.cmpi]
  · have : (a == b) = false := by simpa using h
    simp [IntOp.cmpi, this, h]

theorem negInf_eq : negInf = ⊥ := by
  simp [negInf, Ideal.ofBits, Ideal.ieee]

end Cert.Layer

end
-- ==== Proof.KRoute.lean ====
module

public import proofs.«01_k».proof.Proof.Choice

@[expose] public section

set_option maxRecDepth 16384

noncomputable section

namespace Cert.Layer

open Idealize.ShloMosaic

/-- The largest of a row's lanes, where lane `p` is known to hold it. -/
theorem rowMax_eq (v : Fin 128 → EReal) (p : Fin 128) (h : ∀ l, v l ≤ v p) : rowMax v = v p := by
  rw [rowMax, negInf_eq]
  apply le_antisymm
  · exact (Finset.fold_max_le _).mpr ⟨bot_le, fun l _ => h l⟩
  · exact Finset.le_fold_max _ |>.mpr (Or.inr ⟨p, Finset.mem_univ _, le_rfl⟩)

theorem minsi_toInt (a b : BitVec 32) : (IntOp.minsi a b).toInt = min a.toInt b.toInt := by
  unfold IntOp.minsi
  simp only [BitVec.slt]
  split <;> rename_i h <;> simp at h <;> omega

/-- The least lane that holds `m`, where lane `p` is known to be it. -/
theorem firstIx_eq (v : Fin 128 → EReal) (m : EReal) (p : Fin 128) (hp : v p = m) (h : ∀ l < p, v l ≠ m) :
    firstIx v m = BitVec.ofNat 32 p.val := by
  have hn : ∀ l : Fin 128, (BitVec.ofNat 32 l.val).toInt = (l.val : ℤ) := by decide +kernel
  apply BitVec.eq_of_toInt_eq
  rw [firstIx, ← Finset.fold_hom (op := IntOp.minsi) (op' := min) (m := BitVec.toInt) minsi_toInt, hn]
  apply le_antisymm
  · exact (Finset.fold_min_le _).mpr (Or.inr ⟨p, Finset.mem_univ _, by rw [if_pos hp, hn]⟩)
  · refine (Finset.le_fold_min _).mpr ⟨?_, fun l _ => ?_⟩
    · have := p.isLt
      have : (2147483647#32).toInt = 2147483647 := by decide
      omega
    · split
      · rename_i hl
        rw [hn]
        have : ¬ l < p := fun hlt => h l hlt hl
        have : p ≤ l := not_lt.mp this
        exact_mod_cast this
      · have := p.isLt
        have : (1048576#32).toInt = 1048576 := by decide
        omega

theorem groupLog_eq (L : Fin 128 → EReal) (l : Fin 128) : groupLog L l = if l.val < 4 then L l else ⊥ := by
  have h : ∀ l : Fin 128, (IntOp.cmpi .slt (BitVec.ofNat 32 l.val) 4#32 = 1) ↔ l.val < 4 := by decide +kernel
  rw [groupLog, negInf_eq, Scalar.select]
  simp only [h l]

theorem expertLog_eq (L : Fin 128 → EReal) (g : Fin 4) (l : Fin 128) :
    expertLog L (BitVec.ofNat 32 g.val) l = if 4 + 8 * g.val ≤ l.val ∧ l.val < 12 + 8 * g.val then L l else ⊥ := by
  have h : ∀ (g : Fin 4) (l : Fin 128), (IntOp.andi
      (IntOp.andi (IntOp.cmpi .sge (IntOp.subi (BitVec.ofNat 32 l.val) 4#32) 0#32)
        (IntOp.cmpi .slt (IntOp.subi (BitVec.ofNat 32 l.val) 4#32) 32#32))
      (IntOp.cmpi .eq (IntOp.shrsi .vector (IntOp.subi (BitVec.ofNat 32 l.val) 4#32) 3#32) (BitVec.ofNat 32 g.val)) = 1)
      ↔ (4 + 8 * g.val ≤ l.val ∧ l.val < 12 + 8 * g.val) := by decide +kernel
  rw [expertLog, negInf_eq, Scalar.select]
  simp only [h g l]

theorem without_eq (v : Fin 128 → EReal) (p l : Fin 128) : without v (BitVec.ofNat 32 p.val) l = if l = p then ⊥ else v l := by
  have h : (IntOp.cmpi .eq (BitVec.ofNat 32 l.val) (BitVec.ofNat 32 p.val) = 1) ↔ l = p := by
    have h' : (BitVec.ofNat 32 l.val = BitVec.ofNat 32 p.val) ↔ l = p := by
      constructor
      · intro e
        have e := congrArg BitVec.toNat e
        simp only [BitVec.toNat_ofNat] at e
        exact Fin.ext (by omega)
      · rintro rfl; rfl
    rw [← h', cmp_eq_iff]
  rw [without, negInf_eq, Scalar.select]
  simp only [h]

variable {gl : Fin 4 → ℝ} {el : Fin 4 → Fin 8 → ℝ} (C : Chosen gl el) (L : Fin 128 → EReal)
  (hg : ∀ (g : Fin 4) (l : Fin 128), l.val = g.val → L l = (gl g : EReal))
  (he : ∀ (g : Fin 4) (i : Fin 8) (l : Fin 128), l.val = 4 + (g.val * 8 + i.val) → L l = (el g i : EReal))

include hg in
theorem group_row : rowMax (groupLog L) = (gl C.group : EReal) ∧ firstIx (groupLog L) (gl C.group) = BitVec.ofNat 32 C.group.val
    ∧ ∑ x, Ideal.exp (groupLog L x - (gl C.group : EReal)) = ((∑ g, Real.exp (gl g - gl C.group) : ℝ) : EReal) := by
  have hv : ∀ l : Fin 128, (h : l.val < 4) → groupLog L l = (gl ⟨l.val, h⟩ : EReal) := fun l h => by
    rw [groupLog_eq, if_pos h, hg ⟨l.val, h⟩ l rfl]
  have hb : ∀ l : Fin 128, ¬ l.val < 4 → groupLog L l = ⊥ := fun l h => by rw [groupLog_eq, if_neg h]
  have hG := C.group.isLt
  have hp : groupLog L ⟨C.group.val, by omega⟩ = (gl C.group : EReal) := hv ⟨C.group.val, by omega⟩ hG
  refine ⟨?_, ?_, ?_⟩
  · rw [← hp]
    refine rowMax_eq _ _ fun l => ?_
    rw [hp]
    by_cases h : l.val < 4
    · rw [hv l h]; exact EReal.coe_le_coe_iff.mpr (C.group_max.1 _)
    · rw [hb l h]; exact bot_le
  · refine firstIx_eq _ _ ⟨C.group.val, by omega⟩ hp fun l hl => ?_
    have hl' : l.val < C.group.val := hl
    rw [hv l (by omega)]
    exact ne_of_lt (EReal.coe_lt_coe_iff.mpr (C.group_max.2 _ hl'))
  · have hs : (Finset.univ.image fun g : Fin 4 => (⟨g.val, by omega⟩ : Fin 128)) ⊆ Finset.univ := Finset.subset_univ _
    rw [← Finset.sum_subset hs, Finset.sum_image]
    · rw [coe_sum_real]
      refine Finset.sum_congr rfl fun g _ => ?_
      rw [hv ⟨g.val, by omega⟩ g.isLt, ← EReal.coe_sub, Ideal.exp_coe]
    · intro a _ b _ hab
      exact Fin.ext (Fin.mk.inj hab)
    · intro l _ hl
      have : ¬ l.val < 4 := fun h => hl (Finset.mem_image.mpr ⟨⟨l.val, h⟩, Finset.mem_univ _, Fin.ext rfl⟩)
      rw [hb l this, EReal.bot_sub, Ideal.exp_bot]

include he in
theorem expert_row :
    let E := expertLog L (BitVec.ofNat 32 C.group.val)
    let p1 := BitVec.ofNat 32 (4 + (C.group.val * 8 + C.first.val))
    let E' := without E p1
    rowMax E = (el C.group C.first : EReal) ∧ firstIx E (el C.group C.first) = p1
    ∧ rowMax E' = (el C.group C.second : EReal)
    ∧ firstIx E' (el C.group C.second) = BitVec.ofNat 32 (4 + (C.group.val * 8 + C.second.val)) := by
  intro E p1 E'
  have hG := C.group.isLt
  have h1 := C.first.isLt
  have h2 := C.second.isLt
  have hin : ∀ l : Fin 128, 4 + 8 * C.group.val ≤ l.val ∧ l.val < 12 + 8 * C.group.val → ∃ i : Fin 8, l.val = 4 + (C.group.val * 8 + i.val) :=
    fun l h => ⟨⟨l.val - (4 + 8 * C.group.val), by omega⟩, by simp only; omega⟩
  have hv : ∀ (i : Fin 8) (l : Fin 128), l.val = 4 + (C.group.val * 8 + i.val) → E l = (el C.group i : EReal) := fun i l h => by
    show expertLog L _ l = _
    rw [expertLog_eq, if_pos (by omega), he C.group i l h]
  have hb : ∀ l : Fin 128, ¬ (4 + 8 * C.group.val ≤ l.val ∧ l.val < 12 + 8 * C.group.val) → E l = ⊥ := fun l h => by
    show expertLog L _ l = _
    rw [expertLog_eq, if_neg h]
  have w : ∀ l, E' l = if l = (⟨4 + (C.group.val * 8 + C.first.val), by omega⟩ : Fin 128) then ⊥ else E l :=
    fun l => without_eq E ⟨4 + (C.group.val * 8 + C.first.val), by omega⟩ l
  have hp1 : E ⟨4 + (C.group.val * 8 + C.first.val), by omega⟩ = (el C.group C.first : EReal) := hv C.first _ rfl
  have hne : C.second.val ≠ C.first.val := fun e => C.second_max.1 (Fin.ext e)
  have hp2 : E' ⟨4 + (C.group.val * 8 + C.second.val), by omega⟩ = (el C.group C.second : EReal) := by
    rw [w, if_neg (by simp only [Fin.mk.injEq]; omega), hv C.second _ rfl]
  refine ⟨?_, ?_, ?_, ?_⟩
  · rw [← hp1]
    refine rowMax_eq _ _ fun l => ?_
    rw [hp1]
    by_cases h : 4 + 8 * C.group.val ≤ l.val ∧ l.val < 12 + 8 * C.group.val
    · obtain ⟨i, hi⟩ := hin l h
      rw [hv i l hi]; exact EReal.coe_le_coe_iff.mpr (C.first_max.1 i)
    · rw [hb l h]; exact bot_le
  · refine firstIx_eq _ _ ⟨4 + (C.group.val * 8 + C.first.val), by omega⟩ hp1 fun l hl => ?_
    have hl' : l.val < 4 + (C.group.val * 8 + C.first.val) := hl
    by_cases h : 4 + 8 * C.group.val ≤ l.val ∧ l.val < 12 + 8 * C.group.val
    · obtain ⟨i, hi⟩ := hin l h
      rw [hv i l hi]
      exact ne_of_lt (EReal.coe_lt_coe_iff.mpr (C.first_max.2 i (by show i.val < C.first.val; omega)))
    · rw [hb l h]; exact EReal.bot_ne_coe _
  · rw [← hp2]
    refine rowMax_eq _ _ fun l => ?_
    rw [hp2, w]
    split
    · exact bot_le
    rename_i hl
    by_cases h : 4 + 8 * C.group.val ≤ l.val ∧ l.val < 12 + 8 * C.group.val
    · obtain ⟨i, hi⟩ := hin l h
      rw [hv i l hi]
      refine EReal.coe_le_coe_iff.mpr (C.second_max.2.1 i fun e => hl (Fin.ext ?_))
      rw [hi, e]
    · rw [hb l h]; exact bot_le
  · refine firstIx_eq _ _ ⟨4 + (C.group.val * 8 + C.second.val), by omega⟩ hp2 fun l hl => ?_
    have hl' : l.val < 4 + (C.group.val * 8 + C.second.val) := hl
    rw [w]
    split
    · exact EReal.bot_ne_coe _
    rename_i hl
    by_cases h : 4 + 8 * C.group.val ≤ l.val ∧ l.val < 12 + 8 * C.group.val
    · obtain ⟨i, hi⟩ := hin l h
      rw [hv i l hi]
      refine ne_of_lt (EReal.coe_lt_coe_iff.mpr (C.second_max.2.2 i (by show i.val < C.second.val; omega) fun e => hl (Fin.ext ?_)))
      rw [hi, e]
    · rw [hb l h]; exact EReal.bot_ne_coe _

theorem word_sub (g : Fin 4) (i : Fin 8) :
    (IntOp.subi (BitVec.ofNat 32 (4 + (g.val * 8 + i.val))) 4#32).toInt = ((g.val * 8 + i.val : ℕ) : ℤ) := by
  revert g i; decide +kernel

include hg he in
/-- The routing record of a row holds the two experts chosen and their weights. -/
theorem record_row : record L 0 = (((C.group.val * 8 + C.first.val : ℕ) : ℝ) : EReal)
    ∧ record L 1 = (((C.group.val * 8 + C.second.val : ℕ) : ℝ) : EReal)
    ∧ record L 2 = ((C.gw / (1 + C.ratio) : ℝ) : EReal) ∧ record L 3 = ((C.gw * C.ratio / (1 + C.ratio) : ℝ) : EReal) := by
  obtain ⟨g1, g2, g3⟩ := group_row C L hg
  obtain ⟨e1, e2, e3, e4⟩ := expert_row C L he
  have hr : (1 : EReal) + Ideal.exp ((el C.group C.second : EReal) - (el C.group C.first : EReal)) = ((1 + C.ratio : ℝ) : EReal) := by
    rw [← EReal.coe_sub, Ideal.exp_coe, Chosen.ratio, EReal.coe_add, EReal.coe_one]
  have hr' : Ideal.exp ((el C.group C.second : EReal) - (el C.group C.first : EReal)) = (C.ratio : EReal) := by
    rw [← EReal.coe_sub, Ideal.exp_coe, Chosen.ratio]
  have hw : Ideal.div 1 ((∑ g, Real.exp (gl g - gl C.group) : ℝ) : EReal) = (C.gw : EReal) := by
    rw [← EReal.coe_one, div_real _ _ C.sum_pos.ne', Chosen.gw]
  have hne : (1 + C.ratio : ℝ) ≠ 0 := by have := C.ratio_pos; positivity
  have s : ∀ (a b : EReal), Scalar.select (IntOp.cmpi .eq (BitVec.ofNat 32 0) 0#32) a b = a := fun a b => by
    rw [Scalar.select, if_pos (by decide)]
  simp only [record, g1, g2, g3, e1, e2, e3, e4, hr, hr', hw, word_sub]
  have c : ∀ i j : Fin 4, (IntOp.cmpi .eq (BitVec.ofNat 32 i.val) (BitVec.ofNat 32 j.val) = 1) ↔ i = j := by decide
  refine ⟨?_, ?_, ?_, ?_⟩
  · rw [Scalar.select, if_pos (by decide)]; exact congrArg (fun x : ℝ => (x : EReal)) (Int.cast_natCast _)
  · rw [Scalar.select, if_neg (by decide), Scalar.select, if_pos (by decide)]; exact congrArg (fun x : ℝ => (x : EReal)) (Int.cast_natCast _)
  · rw [Scalar.select, if_neg (by decide), Scalar.select, if_neg (by decide), Scalar.select, if_pos (by decide), ← EReal.coe_one, ← EReal.coe_add, div_real _ _ hne]
  · rw [Scalar.select, if_neg (by decide), Scalar.select, if_neg (by decide), Scalar.select, if_neg (by decide), Scalar.select,
      if_pos (by decide), ← EReal.coe_mul, ← EReal.coe_one, ← EReal.coe_add, div_real _ _ hne]

include hg he in
/-- The weight that the record gives an expert is the router's. -/
theorem gate_row (g : Fin 4) (i : Fin 8) : gateOf (record L) (g.val * 8 + i.val) = (C.gate g i : EReal) := by
  obtain ⟨r0, r1, r2, r3⟩ := record_row C L hg he
  have hi := i.isLt
  have h1 := C.first.isLt
  have h2 := C.second.isLt
  have hne : C.second.val ≠ C.first.val := fun e => C.second_max.1 (Fin.ext e)
  have k : ∀ a b : ℕ, ((((a : ℕ) : ℝ) : EReal) = ((((b : ℕ) : ℤ) : ℝ) : EReal)) ↔ a = b := fun a b => by
    rw [Int.cast_natCast, EReal.coe_eq_coe_iff, Nat.cast_inj]
  rw [gateOf, r0, r1, r2, r3]
  simp only [k, Chosen.gate]
  by_cases hG : g = C.group
  · subst hG
    by_cases ha : i = C.first
    · rw [if_pos (by rw [ha]), if_neg (by rw [ha]; omega), if_pos rfl, if_pos ha, add_zero]
    · have ha' : i.val ≠ C.first.val := fun e => ha (Fin.ext e)
      rw [if_neg (by omega), zero_add, if_pos rfl, if_neg ha]
      by_cases hb : i = C.second
      · rw [if_pos (by rw [hb]), if_pos hb]
      · have hb' : i.val ≠ C.second.val := fun e => hb (Fin.ext e)
        rw [if_neg (by omega), if_neg hb, EReal.coe_zero]
  · have hG' : g.val ≠ C.group.val := fun e => hG (Fin.ext e)
    rw [if_neg (by omega), if_neg (by omega), if_neg hG, add_zero, EReal.coe_zero]

end Cert.Layer

end
-- ==== Proof.Rows.lean ====
module

public import proofs.«01_k».proof.Proof.Choice

@[expose] public section

noncomputable section

namespace Cert.Layer

open Idealize.ShloMosaic

/-- The layer's arguments, entry by entry: the residual stream, the two batches' attention outputs and their projection,
    the norm's weights, the router's weights and biases, and the experts' three projections. -/
structure Args where
  x : Fin 16896 → Fin 1024 → EReal
  p : Fin 16384 → Fin 1024 → EReal
  s : Fin 512 → Fin 1024 → EReal
  w : Fin 1024 → Fin 1024 → EReal
  g : Fin 1024 → EReal
  wg : Fin 1024 → Fin 4 → EReal
  bg : Fin 4 → EReal
  wr : Fin 1024 → Fin 32 → EReal
  br : Fin 32 → EReal
  w1 : Fin 4 → Fin 8 → Fin 1024 → Fin 256 → EReal
  w2 : Fin 4 → Fin 8 → Fin 1024 → Fin 256 → EReal
  w3 : Fin 4 → Fin 8 → Fin 256 → Fin 1024 → EReal

/-- The place of expert `i` of group `g` among all experts. -/
def flat (g : Fin 4) (i : Fin 8) : Fin 32 := ⟨g.val * 8 + i.val, by omega⟩

variable (A : Args)

/-- A row of the residual stream after the attention's output projection. -/
def Args.res (n : Fin 16896) : Fin 1024 → EReal :=
  mixRow (A.x n) (fun k => if h : n.val < 16384 then A.p ⟨n.val, h⟩ k else A.s ⟨n.val - 16384, by omega⟩ k) A.w

/-- The row normalised. -/
def Args.nrm (n : Fin 16896) : Fin 1024 → EReal := normRow (A.res n) A.g

/-- The logit of a group. -/
def Args.gl (n : Fin 16896) (g : Fin 4) : EReal := ∑ k, A.nrm n k * A.wg k g + A.bg g

/-- The logit of an expert. -/
def Args.el (n : Fin 16896) (g : Fin 4) (i : Fin 8) : EReal := ∑ k, A.nrm n k * A.wr k (flat g i) + A.br (flat g i)

/-- The layer's output at an entry, for given routing weights of the row. -/
def Args.out (n : Fin 16896) (d : Fin 1024) (gate : Fin 32 → EReal) : EReal :=
  A.res n d + ∑ e : Fin 32, expert (A.nrm n) (fun k f => A.w1 ⟨e.val / 8, by omega⟩ ⟨e.val % 8, by omega⟩ k f)
    (fun k f => A.w2 ⟨e.val / 8, by omega⟩ ⟨e.val % 8, by omega⟩ k f) (fun f => A.w3 ⟨e.val / 8, by omega⟩ ⟨e.val % 8, by omega⟩ f d) (gate e)

/-- An extended real that is a real. -/
def IsReal (a : EReal) : Prop := ∃ r : ℝ, a = (r : EReal)

/-- What the router is computed from holds reals. -/
structure Args.Finite : Prop where
  g : ∀ i, IsReal (A.g i)
  wg : ∀ i j, IsReal (A.wg i j)
  bg : ∀ i, IsReal (A.bg i)
  wr : ∀ i j, IsReal (A.wr i j)
  br : ∀ i, IsReal (A.br i)

theorem IsReal.coe (r : ℝ) : IsReal (r : EReal) := ⟨r, rfl⟩
theorem IsReal.add {a b : EReal} : IsReal a → IsReal b → IsReal (a + b) := by
  rintro ⟨r, rfl⟩ ⟨s, rfl⟩; exact ⟨r + s, (EReal.coe_add r s).symm⟩
theorem IsReal.mul {a b : EReal} : IsReal a → IsReal b → IsReal (a * b) := by
  rintro ⟨r, rfl⟩ ⟨s, rfl⟩; exact ⟨r * s, (EReal.coe_mul r s).symm⟩
theorem IsReal.sum {ι : Type} [Fintype ι] {f : ι → EReal} (h : ∀ i, IsReal (f i)) : IsReal (∑ i, f i) := by
  choose r hr using h
  exact ⟨∑ i, r i, by rw [coe_sum_real]; exact Finset.sum_congr rfl fun i _ => hr i⟩
theorem IsReal.sub_self {a : EReal} : IsReal a → a - a = 0 := by
  rintro ⟨r, rfl⟩; rw [← EReal.coe_sub, _root_.sub_self, EReal.coe_zero]

theorem mean_word : Ideal.ofBits .f32 1149239296#32 = ((1024 : ℝ) : EReal) := by
  simp [Ideal.ofBits, Ideal.ieee, -EReal.coe_mul]; norm_num

theorem eps_word : ∃ r : ℝ, 0 < r ∧ Ideal.ofBits .f32 897988541#32 = (r : EReal) := by
  refine ⟨8796093 / 8796093022208, by norm_num, ?_⟩
  simp [Ideal.ofBits, Ideal.ieee, -EReal.coe_mul]; norm_num

theorem square_nonneg (a : EReal) : 0 ≤ a * a := by
  induction a with
  | bot => simp
  | coe r => rw [← EReal.coe_mul]; exact EReal.coe_nonneg.mpr (mul_self_nonneg r)
  | top => simp

theorem square_top {a : EReal} (h : ¬ IsReal a) : a * a = ⊤ := by
  induction a with
  | bot => simp
  | coe r => exact absurd ⟨r, rfl⟩ h
  | top => simp

/-- The normalised row holds reals whatever the row holds: where an entry is infinite, the mean of the squares is, and the
    factor is zero. -/
theorem normRow_real {x g : Fin 1024 → EReal} (hg : ∀ k, IsReal (g k)) (d : Fin 1024) : IsReal (normRow x g d) := by
  obtain ⟨ε, hε, he⟩ := eps_word
  by_cases hx : ∀ k, IsReal (x k)
  · refine ((hx d).mul ?_).mul (hg d)
    choose r hr using hx
    have hs : ∑ k, x k * x k = ((∑ k, r k * r k : ℝ) : EReal) := by
      rw [coe_sum_real]; exact Finset.sum_congr rfl fun k _ => by rw [hr k, EReal.coe_mul]
    rw [hs, mean_word, div_real _ _ (by norm_num), he, ← EReal.coe_add, Ideal.rsqrt_coe]
    have h0 : 0 ≤ ∑ k, r k * r k := Finset.sum_nonneg fun k _ => mul_self_nonneg _
    have h1 : 0 < (∑ k, r k * r k) / 1024 + ε := by positivity
    rw [if_neg (not_lt.mpr h1.le), if_neg h1.ne']
    exact IsReal.coe _
  · obtain ⟨j, hj⟩ := not_forall.mp hx
    have hs : ∑ k, x k * x k = ⊤ :=
      top_le_iff.mp ((square_top hj).symm.le.trans (Finset.single_le_sum (f := fun k => x k * x k) (fun k _ => square_nonneg _) (Finset.mem_univ j)))
    have hd : Ideal.div ⊤ ((1024 : ℝ) : EReal) = ⊤ := by
      rw [Ideal.div_coe (by norm_num), EReal.top_mul_coe_of_pos (by norm_num)]
    rw [normRow, hs, mean_word, hd, he, EReal.top_add_coe, show Ideal.rsqrt ⊤ = 0 from rfl, mul_zero, zero_mul]
    exact ⟨0, rfl⟩

variable {A} (hA : A.Finite)

include hA in
theorem nrm_real (n : Fin 16896) (d : Fin 1024) : IsReal (A.nrm n d) := normRow_real hA.g d

include hA in
theorem gl_real (n : Fin 16896) (g : Fin 4) : IsReal (A.gl n g) :=
  (IsReal.sum fun k => (nrm_real hA n k).mul (hA.wg k g)).add (hA.bg g)

include hA in
theorem el_real (n : Fin 16896) (g : Fin 4) (i : Fin 8) : IsReal (A.el n g i) :=
  (IsReal.sum fun k => (nrm_real hA n k).mul (hA.wr k _)).add (hA.br _)

/-- The logit that the kernel forms from the row, its remainder, and the weights in two parts, where all are real. -/
theorem split_logit {t w : Fin 1024 → EReal} (ht : ∀ k, IsReal (t k)) (hw : ∀ k, IsReal (w k)) (b : EReal) :
    ∑ k, t k * w k + ∑ k, (t k - t k) * w k + ∑ k, t k * (w k - w k) + b = ∑ k, t k * w k + b := by
  have h1 : ∑ k, (t k - t k) * w k = 0 := Finset.sum_eq_zero fun k _ => by rw [(ht k).sub_self, zero_mul]
  have h2 : ∑ k, t k * (w k - w k) = 0 := Finset.sum_eq_zero fun k _ => by rw [(hw k).sub_self, mul_zero]
  rw [h1, h2, add_zero, add_zero]

end Cert.Layer

end
-- ==== Proof.KValue.lean ====
module

public import proofs.«01_k».proof.Proof.KHost
public import proofs.«01_k».proof.Proof.KRoute
public import proofs.«01_k».proof.Proof.Rows

@[expose] public section

set_option maxRecDepth 16384

noncomputable section

namespace Cert.KernelIdeal.Gen

open Idealize.ShloMosaic Idealize.ShloMosaic.TcCoe Cert.Layer

variable (m : (ℓ : Loc nD τ sig) → Buf (Elt Ideal) ℓ) (ρ : Dev nD → PrngReg) (c : Dev nD)

/-- The kernel's arguments, entry by entry. -/
def kargs : Args where
  x := fun n d => (m ((c.tc : Thread nD τ).loc main_arg0) : Vec Ideal S16896x1024 .f32) (ix2 n d)
  p := fun n d => (m ((c.tc : Thread nD τ).loc main_arg1) : Vec Ideal S16384x1024 .bf16) (ix2 n d)
  s := fun n d => (m ((c.tc : Thread nD τ).loc main_arg2) : Vec Ideal S512x1024 .f32) (ix2 n d)
  w := fun k d => (m ((c.tc : Thread nD τ).loc main_arg3) : Vec Ideal S1024x1024 .f32) (ix2 k d)
  g := fun d => (m ((c.tc : Thread nD τ).loc main_arg4) : Vec Ideal S1024 .f32) (ix1 d)
  wg := fun k g => (m ((c.tc : Thread nD τ).loc main_arg5) : Vec Ideal S1024x4 .f32) (ix2 k g)
  bg := fun g => (m ((c.tc : Thread nD τ).loc main_arg6) : Vec Ideal S4 .f32) (ix1 g)
  wr := fun k e => (m ((c.tc : Thread nD τ).loc main_arg7) : Vec Ideal S1024x32 .f32) (ix2 k e)
  br := fun e => (m ((c.tc : Thread nD τ).loc main_arg8) : Vec Ideal S32 .f32) (ix1 e)
  w1 := fun g i k f => (m ((c.tc : Thread nD τ).loc main_arg9) : Vec Ideal S4x8x1024x256 .f32) (ix4 g i k f)
  w2 := fun g i k f => (m ((c.tc : Thread nD τ).loc main_arg10) : Vec Ideal S4x8x1024x256 .f32) (ix4 g i k f)
  w3 := fun g i f d => (m ((c.tc : Thread nD τ).loc main_arg11) : Vec Ideal S4x8x256x1024 .f32) (ix4 g i f d)

theorem x_row (n : Fin 16896) : xRow (V1 m ρ) c n = (kargs m c).res n := by
  have h0 : (fun d => (V1 m ρ c (Pipeline.arrRef spec0 0) : Vec Ideal S16896x1024 .f32) (ix2 n d)) = (kargs m c).x n := by
    funext d
    exact congrFun (W1_args m ρ c main_arg0 (by decide)) (ix2 n d)
  have h1 : ocRow (V1 m ρ c (Pipeline.arrRef spec0 1)) (V1 m ρ c (Pipeline.arrRef spec0 2)) n
      = fun k => if h : n.val < 16384 then (kargs m c).p ⟨n.val, h⟩ k else (kargs m c).s ⟨n.val - 16384, by omega⟩ k := by
    funext k
    unfold ocRow
    split
    · rename_i h
      exact congrFun (W1_args m ρ c main_arg1 (by decide)) (ix2 ⟨n.val, h⟩ k)
    · exact second_entry (W0 m ρ c) _ k
  have h2 : (fun k d => (V1 m ρ c (Pipeline.arrRef spec0 3) : Vec Ideal S1024x1024 .bf16) (ix2 k d)) = (kargs m c).w := by
    funext k d
    exact out_entry (W0 m ρ c) k d
  unfold xRow Args.res
  rw [h0, h1, h2]

theorem t_row (n : Fin 16896) : tRow (V1 m ρ) c n = (kargs m c).nrm n := by
  unfold tRow Args.nrm
  rw [x_row]
  congr 1
  funext d
  exact norm_entry (W0 m ρ c) d

/-- A group's logit, as the kernel forms it. -/
theorem l_group (n : Fin 16896) (g : Fin 4) (l : Fin 128) (h : l.val = g.val) : lRow (V1 m ρ) c n l
    = ∑ k, (kargs m c).nrm n k * (kargs m c).wg k g + ∑ k, ((kargs m c).nrm n k - (kargs m c).nrm n k) * (kargs m c).wg k g
      + ∑ k, (kargs m c).nrm n k * (((kargs m c).wg k g) - ((kargs m c).wg k g)) + (kargs m c).bg g := by
  unfold lRow logitRow
  rw [t_row]
  refine congrArg₂ (· + ·) (congrArg₂ (· + ·) (congrArg₂ (· + ·) ?_ ?_) ?_) ?_
  · exact Finset.sum_congr rfl fun k _ => congrArg _ (hi_group (W0 m ρ c) k g l h)
  · exact Finset.sum_congr rfl fun k _ => congrArg _ (hi_group (W0 m ρ c) k g l h)
  · exact Finset.sum_congr rfl fun k _ => congrArg _ (lo_group (W0 m ρ c) k g l h)
  · exact bias_group (W0 m ρ c) g l h

/-- An expert's logit, as the kernel forms it. -/
theorem l_expert (n : Fin 16896) (e : Fin 32) (l : Fin 128) (h : l.val = 4 + e.val) : lRow (V1 m ρ) c n l
    = ∑ k, (kargs m c).nrm n k * (kargs m c).wr k e + ∑ k, ((kargs m c).nrm n k - (kargs m c).nrm n k) * (kargs m c).wr k e
      + ∑ k, (kargs m c).nrm n k * (((kargs m c).wr k e) - ((kargs m c).wr k e)) + (kargs m c).br e := by
  unfold lRow logitRow
  rw [t_row]
  refine congrArg₂ (· + ·) (congrArg₂ (· + ·) (congrArg₂ (· + ·) ?_ ?_) ?_) ?_
  · exact Finset.sum_congr rfl fun k _ => congrArg _ (hi_expert (W0 m ρ c) k e l h)
  · exact Finset.sum_congr rfl fun k _ => congrArg _ (hi_expert (W0 m ρ c) k e l h)
  · exact Finset.sum_congr rfl fun k _ => congrArg _ (lo_expert (W0 m ρ c) k e l h)
  · exact bias_expert (W0 m ρ c) e l h

theorem X_entry (n : Fin 16896) (d : Fin 1024) : (V3 m ρ c (Pipeline.arrRef spec1 0) : Vec Ideal S16896x1024 .f32) (ix2 n d) = (kargs m c).res n d := by
  have h : V3 m ρ c (Pipeline.arrRef spec1 0) = (dat0 (V1 m ρ) c).arrAt 8 cfg0.N :=
    (W3_of m ρ c main_v12_0 (by decide)).trans (W2_arr m ρ c 8)
  rw [h, arr0_8]
  exact congrFun (x_row m ρ c n) d

theorem T_entry (n : Fin 16896) (d : Fin 1024) : (V3 m ρ c (Pipeline.arrRef spec1 1) : Vec Ideal S16896x1024 .bf16) (ix2 n d) = (kargs m c).nrm n d := by
  have h : V3 m ρ c (Pipeline.arrRef spec1 1) = (dat0 (V1 m ρ) c).arrAt 9 cfg0.N :=
    (W3_of m ρ c main_v12_1 (by decide)).trans (W2_arr m ρ c 9)
  rw [h, arr0_9]
  exact congrFun (t_row m ρ c n) d

theorem R_entry (n : Fin 16896) (l : Fin 128) : (V3 m ρ c (Pipeline.arrRef spec1 2) : Vec Ideal S16896x128 .f32) (ix2 n l) = record (lRow (V1 m ρ) c n) l := by
  have h : V3 m ρ c (Pipeline.arrRef spec1 2) = (dat0 (V1 m ρ) c).arrAt 10 cfg0.N :=
    (W3_of m ρ c main_v12_2 (by decide)).trans (W2_arr m ρ c 10)
  rw [h, arr0_10]
  rfl

theorem gate_entry (e : Fin 32) (k : Fin 1024) (f : Fin 256) :
    (V3 m ρ c (Pipeline.arrRef spec1 3) : Vec Ideal S32x1024x512 .bf16) (ix3 e k ⟨f.val, by omega⟩)
      = (kargs m c).w1 ⟨e.val / 8, by omega⟩ ⟨e.val % 8, by omega⟩ k f := by
  refine (gateup_entry (W2 m ρ c) e k ⟨f.val, by omega⟩).trans ?_
  rw [dif_pos f.isLt]
  exact congrFun (W2_args m ρ c main_arg9 (by decide)) _

theorem up_entry (e : Fin 32) (k : Fin 1024) (f : Fin 256) :
    (V3 m ρ c (Pipeline.arrRef spec1 3) : Vec Ideal S32x1024x512 .bf16) (ix3 e k ⟨256 + f.val, by omega⟩)
      = (kargs m c).w2 ⟨e.val / 8, by omega⟩ ⟨e.val % 8, by omega⟩ k f := by
  refine (gateup_entry (W2 m ρ c) e k ⟨256 + f.val, by omega⟩).trans ?_
  rw [dif_neg (by simp only; omega)]
  have hf : (⟨256 + f.val - 256, by omega⟩ : Fin 256) = f := Fin.ext (by simp only; omega)
  simp only [hf]
  exact congrFun (W2_args m ρ c main_arg10 (by decide)) _

theorem dn_entry (e : Fin 32) (f : Fin 256) (d : Fin 1024) :
    (V3 m ρ c (Pipeline.arrRef spec1 4) : Vec Ideal S32x256x1024 .bf16) (ix3 e f d)
      = (kargs m c).w3 ⟨e.val / 8, by omega⟩ ⟨e.val % 8, by omega⟩ f d :=
  (down_entry (W2 m ρ c) e f d).trans (congrFun (W2_args m ρ c main_arg11 (by decide)) _)

/-- The kernel's result array, from the arguments. -/
theorem result_eq : (dat1 (V3 m ρ) c).arrAt 5 cfg1.N = fun i => (kargs m c).out (i 0) (i 1) fun e => gateOf (record (lRow (V1 m ρ) c (i 0))) e.val := by
  rw [moe_arr]
  funext i
  unfold moeOut Args.out
  refine congrArg₂ (· + ·) (X_entry m ρ c (i 0) (i 1)) (Finset.sum_congr rfl fun e _ => ?_)
  have h1 := funext fun k => T_entry m ρ c (i 0) k
  have h2 := funext fun k => funext fun f => gate_entry m ρ c e k f
  have h3 := funext fun k => funext fun f => up_entry m ρ c e k f
  have h4 := funext fun f => dn_entry m ρ c e f (i 1)
  have h5 := funext fun l => R_entry m ρ c (i 0) l
  have h5' := congrArg (fun r => gateOf r e.val) h5
  exact (congrArg (fun t => expert t _ _ _ _) h1).trans ((congrArg (fun t => expert _ t _ _ _) h2).trans
    ((congrArg (fun t => expert _ _ t _ _) h3).trans ((congrArg (fun t => expert _ _ _ t _) h4).trans
      (congrArg (fun t => expert _ _ _ _ t) h5'))))

/-- The routing weight that the kernel gives an expert, where the router's inputs are real. -/
theorem gate_chosen (hA : (kargs m c).Finite) (n : Fin 16896) {gl : Fin 4 → ℝ} {el : Fin 4 → Fin 8 → ℝ}
    (hgl : ∀ g, (kargs m c).gl n g = (gl g : EReal)) (hel : ∀ g i, (kargs m c).el n g i = (el g i : EReal))
    (C : Chosen gl el) (e : Fin 32) :
    gateOf (record (lRow (V1 m ρ) c n)) e.val = (C.gate ⟨e.val / 8, by omega⟩ ⟨e.val % 8, by omega⟩ : EReal) := by
  have h := gate_row C (lRow (V1 m ρ) c n)
    (fun g l h => by
      rw [l_group m ρ c _ g l h, split_logit (nrm_real hA _) (fun k => hA.wg k g), ← hgl]; rfl)
    (fun g j l h => by
      rw [l_expert m ρ c _ (flat g j) l h, split_logit (nrm_real hA _) (fun k => hA.wr k _), ← hel]; rfl)
    ⟨e.val / 8, by omega⟩ ⟨e.val % 8, by omega⟩
  have he : e.val / 8 * 8 + e.val % 8 = e.val := by omega
  rw [← h]
  simp only [he]

/-- The kernel's result array where the router's inputs are real: the layer's output with the routing weights of what
    the router chooses. -/
theorem result_chosen (hA : (kargs m c).Finite) {gl : Fin 16896 → Fin 4 → ℝ} {el : Fin 16896 → Fin 4 → Fin 8 → ℝ}
    (hgl : ∀ n g, (kargs m c).gl n g = (gl n g : EReal)) (hel : ∀ n g i, (kargs m c).el n g i = (el n g i : EReal))
    (C : (n : Fin 16896) → Chosen (gl n) (el n)) :
    (dat1 (V3 m ρ) c).arrAt 5 cfg1.N = fun i => (kargs m c).out (i 0) (i 1) fun e =>
      ((C (i 0)).gate ⟨e.val / 8, by omega⟩ ⟨e.val % 8, by omega⟩ : EReal) := by
  rw [result_eq]
  funext i
  exact congrArg ((kargs m c).out (i 0) (i 1)) (funext fun e => gate_chosen m ρ c hA (i 0) (hgl _) (hel _) (C (i 0)) e)

end Cert.KernelIdeal.Gen

end
-- ==== Proof.RefRun.lean ====
/- The reference program run: its operations in order, the value each window of them leaves, and `run`, what the
   program leaves in its result and its arguments. Follows the layout of the generated reference runs; written here because
   the arg-max reduction's two results are read by hand. -/
module

public import proofs.«01_k».proof.Proof.Gen.ReferenceIdeal
public import Idealize.ShloMosaic.Lib.StableHlo.Run
public import Idealize.ShloMosaic.Lib.Pipeline.Frame

set_option Elab.async false

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The function of the operation that writes `main_v1`, named. It packs its operands into a list of dependent pairs
    whose shapes a later argument's type mentions, so `simp` cannot rewrite an operand where it stands; applied by
    name, the operands are plain arguments, which the window lemmas below rewrite before the name unfolds. -/
def fn_main_v1 : (⟨S16384x1024, .f32⟩ : BufTy).Contents (Elt F) → (⟨S512x1024, .f32⟩ : BufTy).Contents (Elt F) → (⟨S16896x1024, .f32⟩ : BufTy).Contents (Elt F) :=
  (fun a b => concatenate S16896x1024 0 [⟨S16384x1024, a⟩, ⟨S512x1024, b⟩] concatenates_S16384x1024_S512x1024_S16896x1024_d0)

/-- @main's operations 1 … 30 of 238 (window `main_part0`). -/
abbrev ops_part0_0 : List (HloOp τ sig (Elt F)) :=
  [ unary main_arg1 main_v0 ((extf .f32 · bitsLt_bf16_f32) : (⟨S16384x1024, .bf16⟩ : BufTy).Contents (Elt F) → (⟨S16384x1024, .f32⟩ : BufTy).Contents (Elt F)),
    binary main_v0 main_arg2 main_v1 (fn_main_v1 (F := F)),
    binary main_v1 main_arg3 main_v2 ((fun l r => Host.dotGeneral dot_S16896x1024_S1024x1024_S16896x1024_1_0_0_1_n_n none l r) : (⟨S16896x1024, .f32⟩ : BufTy).Contents (Elt F) → (⟨S1024x1024, .f32⟩ : BufTy).Contents (Elt F) → (⟨S16896x1024, .f32⟩ : BufTy).Contents (Elt F)),
    binary main_arg0 main_v2 main_v3 (addf : (⟨S16896x1024, .f32⟩ : BufTy).Contents (Elt F) → (⟨S16896x1024, .f32⟩ : BufTy).Contents (Elt F) → (⟨S16896x1024, .f32⟩ : BufTy).Contents (Elt F)),
    binary main_v3 main_v3 main_v4 (mulf : (⟨S16896x1024, .f32⟩ : BufTy).Contents (Elt F) → (⟨S16896x1024, .f32⟩ : BufTy).Contents (Elt F) → (⟨S16896x1024, .f32⟩ : BufTy).Contents (Elt F)),
    nullary main_cst (constant S_ .f32 0x00000000#32),
    binary main_v4 main_cst main_v5 ((fun x v => Host.reduceAdd x v reducesTo_S16896x1024_S16896_d1 h_S_) : (⟨S16896x1024, .f32⟩ : BufTy).Contents (Elt F) → (⟨S_, .f32⟩ : BufTy).Contents (Elt F) → (⟨S16896, .f32⟩ : BufTy).Contents (Elt F)),
    unary main_v5 main_v6 (broadcastInDim S16896x1 ![0] bcast_S16896_S16896x1_0 : (⟨S16896, .f32⟩ : BufTy).Contents (Elt F) → (⟨S16896x1, .f32⟩ : BufTy).Contents (Elt F)),
    nullary main_cst_0 (constant S_ .f32 0x44800000#32),
    unary main_cst_0 main_v7 (broadcastInDim S16896x1 ![] bcast_S_S16896x1 : (⟨S_, .f32⟩ : BufTy).Contents (Elt F) → (⟨S16896x1, .f32⟩ : BufTy).Contents (Elt F)),
    binary main_v6 main_v7 main_v8 (Host.divf : (⟨S16896x1, .f32⟩ : BufTy).Contents (Elt F) → (⟨S16896x1, .f32⟩ : BufTy).Contents (Elt F) → (⟨S16896x1, .f32⟩ : BufTy).Contents (Elt F)),
    nullary main_cst_1 (constant S_ .f32 0x358637BD#32),
    unary main_cst_1 main_v9 (broadcastInDim S16896x1 ![] bcast_S_S16896x1 : (⟨S_, .f32⟩ : BufTy).Contents (Elt F) → (⟨S16896x1, .f32⟩ : BufTy).Contents (Elt F)),
    binary main_v8 main_v9 main_v10 (addf : (⟨S16896x1, .f32⟩ : BufTy).Contents (Elt F) → (⟨S16896x1, .f32⟩ : BufTy).Contents (Elt F) → (⟨S16896x1, .f32⟩ : BufTy).Contents (Elt F)),
    unary main_v10 main_v11 (Host.rsqrt : (⟨S16896x1, .f32⟩ : BufTy).Contents (Elt F) → (⟨S16896x1, .f32⟩ : BufTy).Contents (Elt F)),
    unary main_v11 main_v12 (broadcastInDim S16896x1024 ![0, 1] bcast_S16896x1_S16896x1024_0_1 : (⟨S16896x1, .f32⟩ : BufTy).Contents (Elt F) → (⟨S16896x1024, .f32⟩ : BufTy).Contents (Elt F)),
    binary main_v3 main_v12 main_v13 (mulf : (⟨S16896x1024, .f32⟩ : BufTy).Contents (Elt F) → (⟨S16896x1024, .f32⟩ : BufTy).Contents (Elt F) → (⟨S16896x1024, .f32⟩ : BufTy).Contents (Elt F)),
    unary main_arg4 main_v14 (broadcastInDim S1x1024 ![1] bcast_S1024_S1x1024_1 : (⟨S1024, .f32⟩ : BufTy).Contents (Elt F) → (⟨S1x1024, .f32⟩ : BufTy).Contents (Elt F)),
    unary main_v14 main_v15 (broadcastInDim S16896x1024 ![0, 1] bcast_S1x1024_S16896x1024_0_1 : (⟨S1x1024, .f32⟩ : BufTy).Contents (Elt F) → (⟨S16896x1024, .f32⟩ : BufTy).Contents (Elt F)),
    binary main_v13 main_v15 main_v16 (mulf : (⟨S16896x1024, .f32⟩ : BufTy).Contents (Elt F) → (⟨S16896x1024, .f32⟩ : BufTy).Contents (Elt F) → (⟨S16896x1024, .f32⟩ : BufTy).Contents (Elt F)),
    binary main_v16 main_arg5 main_v17 ((fun l r => Host.dotGeneral dot_S16896x1024_S1024x4_S16896x4_1_0_0_1_n_n none l r) : (⟨S16896x1024, .f32⟩ : BufTy).Contents (Elt F) → (⟨S1024x4, .f32⟩ : BufTy).Contents (Elt F) → (⟨S16896x4, .f32⟩ : BufTy).Contents (Elt F)),
    unary main_arg6 main_v18 (broadcastInDim S1x4 ![1] bcast_S4_S1x4_1 : (⟨S4, .f32⟩ : BufTy).Contents (Elt F) → (⟨S1x4, .f32⟩ : BufTy).Contents (Elt F)),
    unary main_v18 main_v19 (broadcastInDim S16896x4 ![0, 1] bcast_S1x4_S16896x4_0_1 : (⟨S1x4, .f32⟩ : BufTy).Contents (Elt F) → (⟨S16896x4, .f32⟩ : BufTy).Contents (Elt F)),
    binary main_v17 main_v19 main_v20 (addf : (⟨S16896x4, .f32⟩ : BufTy).Contents (Elt F) → (⟨S16896x4, .f32⟩ : BufTy).Contents (Elt F) → (⟨S16896x4, .f32⟩ : BufTy).Contents (Elt F)),
    nullary main_cst_2 (constant S_ .f32 0xFF800000#32),
    binary main_v20 main_cst_2 main_v21 ((fun x v => Host.reduce FloatOps.maximumf x v reducesTo_S16896x4_S16896_d1 h_S_) : (⟨S16896x4, .f32⟩ : BufTy).Contents (Elt F) → (⟨S_, .f32⟩ : BufTy).Contents (Elt F) → (⟨S16896, .f32⟩ : BufTy).Contents (Elt F)),
    nullary main_cst_3 (constant S_ .f32 0xFF800000#32),
    unary main_cst_3 main_v22 (broadcastInDim S16896 ![] bcast_S_S16896 : (⟨S_, .f32⟩ : BufTy).Contents (Elt F) → (⟨S16896, .f32⟩ : BufTy).Contents (Elt F)),
    binary main_v22 main_v21 main_v23 (maximumf : (⟨S16896, .f32⟩ : BufTy).Contents (Elt F) → (⟨S16896, .f32⟩ : BufTy).Contents (Elt F) → (⟨S16896, .f32⟩ : BufTy).Contents (Elt F)),
    unary main_v23 main_v24 (broadcastInDim S16896x1 ![0] bcast_S16896_S16896x1_0 : (⟨S16896, .f32⟩ : BufTy).Contents (Elt F) → (⟨S16896x1, .f32⟩ : BufTy).Contents (Elt F)) ]

/-- @main's operations 31 … 60 of 238 (window `main_part0`). -/
abbrev ops_part0_1 : List (HloOp τ sig (Elt F)) :=
  [ unary main_v24 main_v25 (broadcastInDim S16896x4 ![0, 1] bcast_S16896x1_S16896x4_0_1 : (⟨S16896x1, .f32⟩ : BufTy).Contents (Elt F) → (⟨S16896x4, .f32⟩ : BufTy).Contents (Elt F)),
    binary main_v20 main_v25 main_v26 (subf : (⟨S16896x4, .f32⟩ : BufTy).Contents (Elt F) → (⟨S16896x4, .f32⟩ : BufTy).Contents (Elt F) → (⟨S16896x4, .f32⟩ : BufTy).Contents (Elt F)),
    unary main_v26 main_v27 (Host.exp : (⟨S16896x4, .f32⟩ : BufTy).Contents (Elt F) → (⟨S16896x4, .f32⟩ : BufTy).Contents (Elt F)),
    nullary main_cst_4 (constant S_ .f32 0x00000000#32),
    binary main_v27 main_cst_4 main_v28 ((fun x v => Host.reduceAdd x v reducesTo_S16896x4_S16896_d1 h_S_) : (⟨S16896x4, .f32⟩ : BufTy).Contents (Elt F) → (⟨S_, .f32⟩ : BufTy).Contents (Elt F) → (⟨S16896, .f32⟩ : BufTy).Contents (Elt F)),
    unary main_v28 main_v29 (broadcastInDim S16896x1 ![0] bcast_S16896_S16896x1_0 : (⟨S16896, .f32⟩ : BufTy).Contents (Elt F) → (⟨S16896x1, .f32⟩ : BufTy).Contents (Elt F)),
    unary main_v29 main_v30 (broadcastInDim S16896x4 ![0, 1] bcast_S16896x1_S16896x4_0_1 : (⟨S16896x1, .f32⟩ : BufTy).Contents (Elt F) → (⟨S16896x4, .f32⟩ : BufTy).Contents (Elt F)),
    binary main_v27 main_v30 main_v31 (Host.divf : (⟨S16896x4, .f32⟩ : BufTy).Contents (Elt F) → (⟨S16896x4, .f32⟩ : BufTy).Contents (Elt F) → (⟨S16896x4, .f32⟩ : BufTy).Contents (Elt F)),
    TRef.nullary (TRef.of (T := ⟨S16896x4, .i32⟩) main_call0_v0) (iotaInDim S16896x4 32 1),
    TRef.nullary (TRef.of (T := ⟨S_, .f32⟩) main_call0_cst) (constant S_ .f32 0xFF800000#32),
    TRef.nullary (TRef.of (T := ⟨S_, .i32⟩) main_call0_c) (constantI S_ 32 0#32),
    TRef.quaternary (TRef.of (T := ⟨S16896x4, .f32⟩) main_v20) (TRef.of (T := ⟨S16896x4, .i32⟩) main_call0_v0) (TRef.of (T := ⟨S_, .f32⟩) main_call0_cst) (TRef.of (T := ⟨S_, .i32⟩) main_call0_c) (TRef.of (T := ⟨S16896, .f32⟩) main_call0_v1_0) (fun x y u v => fun j => (Host.argReduce reducer_argmax_f32_i32 x y u v reducesTo_S16896x4_S16896_d1 h_S_ j).1),
    TRef.quaternary (TRef.of (T := ⟨S16896x4, .f32⟩) main_v20) (TRef.of (T := ⟨S16896x4, .i32⟩) main_call0_v0) (TRef.of (T := ⟨S_, .f32⟩) main_call0_cst) (TRef.of (T := ⟨S_, .i32⟩) main_call0_c) (TRef.of (T := ⟨S16896, .i32⟩) main_v32) (fun x y u v => fun j => (Host.argReduce reducer_argmax_f32_i32 x y u v reducesTo_S16896x4_S16896_d1 h_S_ j).2),
    unary main_v32 main_v33 (broadcastInDim S16896x1 ![0] bcast_S16896_S16896x1_0 : (⟨S16896, .i32⟩ : BufTy).Contents (Elt F) → (⟨S16896x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S16896x1, .i32⟩) main_call1_v0) (broadcastInDim S16896x1 ![] bcast_S_S16896x1),
    TRef.binary (TRef.of (T := ⟨S16896x1, .i32⟩) main_v33) (TRef.of (T := ⟨S16896x1, .i32⟩) main_call1_v0) (TRef.of (T := ⟨S16896x1, .i1⟩) main_call1_v1) (cmpi .slt),
    TRef.nullary (TRef.of (T := ⟨S_, .i32⟩) main_call1_c_0) (constantI S_ 32 4#32),
    TRef.unary (TRef.of (T := ⟨S_, .i32⟩) main_call1_c_0) (TRef.of (T := ⟨S16896x1, .i32⟩) main_call1_v2) (broadcastInDim S16896x1 ![] bcast_S_S16896x1),
    TRef.binary (TRef.of (T := ⟨S16896x1, .i32⟩) main_v33) (TRef.of (T := ⟨S16896x1, .i32⟩) main_call1_v2) (TRef.of (T := ⟨S16896x1, .i32⟩) main_call1_v3) addi,
    TRef.ternary (TRef.of (T := ⟨S16896x1, .i1⟩) main_call1_v1) (TRef.of (T := ⟨S16896x1, .i32⟩) main_call1_v3) (TRef.of (T := ⟨S16896x1, .i32⟩) main_v33) (TRef.of (T := ⟨S16896x1, .i32⟩) main_call1_v4) select,
    TRef.reshape (TRef.of (T := ⟨S16896x1, .i32⟩) main_call1_v4) (TRef.of (T := ⟨S16896x1x1, .i32⟩) main_call1_v5) (rfl : (.i32 : EltTy) = .i32) shapeCasts_S16896x1_S16896x1x1,
    TRef.nullary (TRef.of (T := ⟨S1, .i32⟩) main_call1_c_1) (constantI S1 32 3#32),
    TRef.nullary (TRef.of (T := ⟨S_, .i32⟩) main_call1_c_2) (constantI S_ 32 0#32),
    TRef.unary (TRef.of (T := ⟨S_, .i32⟩) main_call1_c_2) (TRef.of (T := ⟨S16896x1x1, .i32⟩) main_call1_v6) (broadcastInDim S16896x1x1 ![] bcast_S_S16896x1x1),
    TRef.binary (TRef.of (T := ⟨S16896x1x1, .i32⟩) main_call1_v5) (TRef.of (T := ⟨S16896x1x1, .i32⟩) main_call1_v6) (TRef.of (T := ⟨S16896x1x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S16896x1x1, .i32⟩) main_call1_v9) (broadcastInDim S16896x1x1 ![0, 1, 2] bcast_S1x1x1_S16896x1x1_0_1_2),
    TRef.binary (TRef.of (T := ⟨S16896x1x1, .i32⟩) main_call1_v5) (TRef.of (T := ⟨S16896x1x1, .i32⟩) main_call1_v9) (TRef.of (T := ⟨S16896x1x1, .i1⟩) main_call1_v10) (cmpi .sle),
    TRef.binary (TRef.of (T := ⟨S16896x1x1, .i1⟩) main_call1_v7) (TRef.of (T := ⟨S16896x1x1, .i1⟩) main_call1_v10) (TRef.of (T := ⟨S16896x1x1, .i1⟩) main_call1_v11) andi ]

/-- @main's operations 61 … 90 of 238 (window `main_part0`). -/
abbrev ops_part0_2 : List (HloOp τ sig (Elt F)) :=
  [ TRef.nullary (TRef.of (T := ⟨S_, .i1⟩) main_call1_c_3) (constantI S_ 1 1#1),
    TRef.binary (TRef.of (T := ⟨S16896x1x1, .i1⟩) main_call1_v11) (TRef.of (T := ⟨S_, .i1⟩) main_call1_c_3) (TRef.of (T := ⟨S16896x1, .i1⟩) main_call1_v12) (fun x v => Host.reduce IntOp.andi x v reducesTo_S16896x1x1_S16896x1_d2 h_S_),
    TRef.binary (TRef.of (T := ⟨S16896x4, .f32⟩) main_v31) (TRef.of (T := ⟨S16896x1x1, .i32⟩) main_call1_v5) (TRef.of (T := ⟨S16896x1, .f32⟩) main_call1_v13) (fun x i => Host.gather gather_S16896x4_S16896x1x1_S16896x1_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S16896x1, .f32⟩) main_call1_v14) (broadcastInDim S16896x1 ![] bcast_S_S16896x1),
    TRef.ternary (TRef.of (T := ⟨S16896x1, .i1⟩) main_call1_v12) (TRef.of (T := ⟨S16896x1, .f32⟩) main_call1_v13) (TRef.of (T := ⟨S16896x1, .f32⟩) main_call1_v14) (TRef.of (T := ⟨S16896x1, .f32⟩) main_v34) select,
    binary main_v16 main_arg7 main_v35 ((fun l r => Host.dotGeneral dot_S16896x1024_S1024x32_S16896x32_1_0_0_1_n_n none l r) : (⟨S16896x1024, .f32⟩ : BufTy).Contents (Elt F) → (⟨S1024x32, .f32⟩ : BufTy).Contents (Elt F) → (⟨S16896x32, .f32⟩ : BufTy).Contents (Elt F)),
    unary main_arg8 main_v36 (broadcastInDim S1x32 ![1] bcast_S32_S1x32_1 : (⟨S32, .f32⟩ : BufTy).Contents (Elt F) → (⟨S1x32, .f32⟩ : BufTy).Contents (Elt F)),
    unary main_v36 main_v37 (broadcastInDim S16896x32 ![0, 1] bcast_S1x32_S16896x32_0_1 : (⟨S1x32, .f32⟩ : BufTy).Contents (Elt F) → (⟨S16896x32, .f32⟩ : BufTy).Contents (Elt F)),
    binary main_v35 main_v37 main_v38 (addf : (⟨S16896x32, .f32⟩ : BufTy).Contents (Elt F) → (⟨S16896x32, .f32⟩ : BufTy).Contents (Elt F) → (⟨S16896x32, .f32⟩ : BufTy).Contents (Elt F)),
    reshape main_v38 main_v39 (rfl : (.f32 : EltTy) = .f32) shapeCasts_S16896x32_S16896x4x8,
    unary main_v32 main_v40 (broadcastInDim S16896x1x1 ![0] bcast_S16896_S16896x1x1_0 : (⟨S16896, .i32⟩ : BufTy).Contents (Elt F) → (⟨S16896x1x1, .i32⟩ : BufTy).Contents (Elt F)),
    TRef.nullary (TRef.of (T := ⟨S_, .i32⟩) main_call2_c) (constantI S_ 32 0#32),
    TRef.unary (TRef.of (T := ⟨S_, .i32⟩) main_call2_c) (TRef.of (T := ⟨S16896x1x1, .i32⟩) main_call2_v0) (broadcastInDim S16896x1x1 ![] bcast_S_S16896x1x1),
    TRef.binary (TRef.of (T := ⟨S16896x1x1, .i32⟩) main_v40) (TRef.of (T := ⟨S16896x1x1, .i32⟩) main_call2_v0) (TRef.of (T := ⟨S16896x1x1, .i1⟩) main_call2_v1) (cmpi .slt),
    TRef.nullary (TRef.of (T := ⟨S_, .i32⟩) main_call2_c_0) (constantI S_ 32 4#32),
    TRef.unary (TRef.of (T := ⟨S_, .i32⟩) main_call2_c_0) (TRef.of (T := ⟨S16896x1x1, .i32⟩) main_call2_v2) (broadcastInDim S16896x1x1 ![] bcast_S_S16896x1x1),
    TRef.binary (TRef.of (T := ⟨S16896x1x1, .i32⟩) main_v40) (TRef.of (T := ⟨S16896x1x1, .i32⟩) main_call2_v2) (TRef.of (T := ⟨S16896x1x1, .i32⟩) main_call2_v3) addi,
    TRef.ternary (TRef.of (T := ⟨S16896x1x1, .i1⟩) main_call2_v1) (TRef.of (T := ⟨S16896x1x1, .i32⟩) main_call2_v3) (TRef.of (T := ⟨S16896x1x1, .i32⟩) main_v40) (TRef.of (T := ⟨S16896x1x1, .i32⟩) main_call2_v4) select,
    TRef.nullary (TRef.of (T := ⟨S1, .i32⟩) main_call2_c_1) (constantI S1 32 3#32),
    TRef.nullary (TRef.of (T := ⟨S_, .i32⟩) main_call2_c_2) (constantI S_ 32 0#32),
    TRef.unary (TRef.of (T := ⟨S_, .i32⟩) main_call2_c_2) (TRef.of (T := ⟨S16896x1x1, .i32⟩) main_call2_v5) (broadcastInDim S16896x1x1 ![] bcast_S_S16896x1x1),
    TRef.binary (TRef.of (T := ⟨S16896x1x1, .i32⟩) main_call2_v4) (TRef.of (T := ⟨S16896x1x1, .i32⟩) main_call2_v5) (TRef.of (T := ⟨S16896x1x1, .i1⟩) main_call2_v6) (cmpi .sge),
    TRef.unary (TRef.of (T := ⟨S1, .i32⟩) main_call2_c_1) (TRef.of (T := ⟨S1x1x1, .i32⟩) main_call2_v7) (broadcastInDim S1x1x1 ![2] bcast_S1_S1x1x1_2),
    TRef.unary (TRef.of (T := ⟨S1x1x1, .i32⟩) main_call2_v7) (TRef.of (T := ⟨S16896x1x1, .i32⟩) main_call2_v8) (broadcastInDim S16896x1x1 ![0, 1, 2] bcast_S1x1x1_S16896x1x1_0_1_2),
    TRef.binary (TRef.of (T := ⟨S16896x1x1, .i32⟩) main_call2_v4) (TRef.of (T := ⟨S16896x1x1, .i32⟩) main_call2_v8) (TRef.of (T := ⟨S16896x1x1, .i1⟩) main_call2_v9) (cmpi .sle),
    TRef.binary (TRef.of (T := ⟨S16896x1x1, .i1⟩) main_call2_v6) (TRef.of (T := ⟨S16896x1x1, .i1⟩) main_call2_v9) (TRef.of (T := ⟨S16896x1x1, .i1⟩) main_call2_v10) andi,
    TRef.nullary (TRef.of (T := ⟨S_, .i1⟩) main_call2_c_3) (constantI S_ 1 1#1),
    TRef.binary (TRef.of (T := ⟨S16896x1x1, .i1⟩) main_call2_v10) (TRef.of (T := ⟨S_, .i1⟩) main_call2_c_3) (TRef.of (T := ⟨S16896x1, .i1⟩) main_call2_v11) (fun x v => Host.reduce IntOp.andi x v reducesTo_S16896x1x1_S16896x1_d2 h_S_),
    TRef.binary (TRef.of (T := ⟨S16896x4x8, .f32⟩) main_v39) (TRef.of (T := ⟨S16896x1x1, .i32⟩) main_call2_v4) (TRef.of (T := ⟨S16896x1x8, .f32⟩) main_call2_v12) (fun x i => Host.gather gather_S16896x4x8_S16896x1x1_S16896x1x8_2_1_0_0_1_2_118 x i) ]

/-- @main's operations 91 … 106 of 238 (window `main_part0`). -/
abbrev ops_part0_3 : List (HloOp τ sig (Elt F)) :=
  [ TRef.unary (TRef.of (T := ⟨S16896x1, .i1⟩) main_call2_v11) (TRef.of (T := ⟨S16896x1x8, .i1⟩) main_call2_v13) (broadcastInDim S16896x1x8 ![0, 1] bcast_S16896x1_S16896x1x8_0_1),
    TRef.nullary (TRef.of (T := ⟨S_, .f32⟩) main_call2_cst) (constant S_ .f32 0x7FC00000#32),
    TRef.unary (TRef.of (T := ⟨S_, .f32⟩) main_call2_cst) (TRef.of (T := ⟨S16896x1x8, .f32⟩) main_call2_v14) (broadcastInDim S16896x1x8 ![] bcast_S_S16896x1x8),
    TRef.ternary (TRef.of (T := ⟨S16896x1x8, .i1⟩) main_call2_v13) (TRef.of (T := ⟨S16896x1x8, .f32⟩) main_call2_v12) (TRef.of (T := ⟨S16896x1x8, .f32⟩) main_call2_v14) (TRef.of (T := ⟨S16896x1x8, .f32⟩) main_v41) select,
    reshape main_v41 main_v42 (rfl : (.f32 : EltTy) = .f32) shapeCasts_S16896x1x8_S16896x8,
    unary main_v42 main_values ((fun x => (Host.topK S16896x2 1 (FloatOps.cmpfTotal .gt) x sliceFits_S16896x8_S16896x2).1) : (⟨S16896x8, .f32⟩ : BufTy).Contents (Elt F) → (⟨S16896x2, .f32⟩ : BufTy).Contents (Elt F)),
    unary main_v42 main_indices ((fun x => (Host.topK S16896x2 1 (FloatOps.cmpfTotal .gt) x sliceFits_S16896x8_S16896x2).2) : (⟨S16896x8, .f32⟩ : BufTy).Contents (Elt F) → (⟨S16896x2, .i32⟩ : BufTy).Contents (Elt F)),
    nullary main_cst_5 (constant S_ .f32 0xFF800000#32),
    binary main_values main_cst_5 main_v43 ((fun x v => Host.reduce FloatOps.maximumf x v reducesTo_S16896x2_S16896_d1 h_S_) : (⟨S16896x2, .f32⟩ : BufTy).Contents (Elt F) → (⟨S_, .f32⟩ : BufTy).Contents (Elt F) → (⟨S16896, .f32⟩ : BufTy).Contents (Elt F)),
    nullary main_cst_6 (constant S_ .f32 0xFF800000#32),
    unary main_cst_6 main_v44 (broadcastInDim S16896 ![] bcast_S_S16896 : (⟨S_, .f32⟩ : BufTy).Contents (Elt F) → (⟨S16896, .f32⟩ : BufTy).Contents (Elt F)),
    binary main_v44 main_v43 main_v45 (maximumf : (⟨S16896, .f32⟩ : BufTy).Contents (Elt F) → (⟨S16896, .f32⟩ : BufTy).Contents (Elt F) → (⟨S16896, .f32⟩ : BufTy).Contents (Elt F)),
    unary main_v45 main_v46 (broadcastInDim S16896x1 ![0] bcast_S16896_S16896x1_0 : (⟨S16896, .f32⟩ : BufTy).Contents (Elt F) → (⟨S16896x1, .f32⟩ : BufTy).Contents (Elt F)),
    unary main_v46 main_v47 (broadcastInDim S16896x2 ![0, 1] bcast_S16896x1_S16896x2_0_1 : (⟨S16896x1, .f32⟩ : BufTy).Contents (Elt F) → (⟨S16896x2, .f32⟩ : BufTy).Contents (Elt F)),
    binary main_values main_v47 main_v48 (subf : (⟨S16896x2, .f32⟩ : BufTy).Contents (Elt F) → (⟨S16896x2, .f32⟩ : BufTy).Contents (Elt F) → (⟨S16896x2, .f32⟩ : BufTy).Contents (Elt F)),
    unary main_v48 main_v49 (Host.exp : (⟨S16896x2, .f32⟩ : BufTy).Contents (Elt F) → (⟨S16896x2, .f32⟩ : BufTy).Contents (Elt F)) ]

/-- Window `main_part0`'s operations. Not an abbreviation: `main_eq` below splits `ops` into the windows and no further. -/
def ops_part0 : List (HloOp τ sig (Elt F)) :=
  ops_part0_0 ++ (ops_part0_1 ++ (ops_part0_2 ++ (ops_part0_3)))

/-- @main's operations 107 … 136 of 238 (window `main_part1`). -/
abbrev ops_part1_0 : List (HloOp τ sig (Elt F)) :=
  [ nullary main_cst_7 (constant S_ .f32 0x00000000#32),
    binary main_v49 main_cst_7 main_v50 ((fun x v => Host.reduceAdd x v reducesTo_S16896x2_S16896_d1 h_S_) : (⟨S16896x2, .f32⟩ : BufTy).Contents (Elt F) → (⟨S_, .f32⟩ : BufTy).Contents (Elt F) → (⟨S16896, .f32⟩ : BufTy).Contents (Elt F)),
    unary main_v50 main_v51 (broadcastInDim S16896x1 ![0] bcast_S16896_S16896x1_0 : (⟨S16896, .f32⟩ : BufTy).Contents (Elt F) → (⟨S16896x1, .f32⟩ : BufTy).Contents (Elt F)),
    unary main_v51 main_v52 (broadcastInDim S16896x2 ![0, 1] bcast_S16896x1_S16896x2_0_1 : (⟨S16896x1, .f32⟩ : BufTy).Contents (Elt F) → (⟨S16896x2, .f32⟩ : BufTy).Contents (Elt F)),
    binary main_v49 main_v52 main_v53 (Host.divf : (⟨S16896x2, .f32⟩ : BufTy).Contents (Elt F) → (⟨S16896x2, .f32⟩ : BufTy).Contents (Elt F) → (⟨S16896x2, .f32⟩ : BufTy).Contents (Elt F)),
    TRef.unary (TRef.of (T := ⟨S16896x2, .i32⟩) main_indices) (TRef.of (T := ⟨S16896x2x1, .i32⟩) main_call3_v0) (broadcastInDim S16896x2x1 ![0, 1] bcast_S16896x2_S16896x2x1_0_1),
    TRef.nullary (TRef.of (T := ⟨S1x1x8, .i32⟩) main_call3_v1) (iotaInDim S1x1x8 32 2),
    TRef.unary (TRef.of (T := ⟨S16896x2x1, .i32⟩) main_call3_v0) (TRef.of (T := ⟨S16896x2x8, .i32⟩) main_call3_v2) (broadcastInDim S16896x2x8 ![0, 1, 2] bcast_S16896x2x1_S16896x2x8_0_1_2),
    TRef.unary (TRef.of (T := ⟨S1x1x8, .i32⟩) main_call3_v1) (TRef.of (T := ⟨S16896x2x8, .i32⟩) main_call3_v3) (broadcastInDim S16896x2x8 ![0, 1, 2] bcast_S1x1x8_S16896x2x8_0_1_2),
    TRef.binary (TRef.of (T := ⟨S16896x2x8, .i32⟩) main_call3_v2) (TRef.of (T := ⟨S16896x2x8, .i32⟩) main_call3_v3) (TRef.of (T := ⟨S16896x2x8, .i1⟩) main_call3_v4) (cmpi .eq),
    TRef.unary (TRef.of (T := ⟨S16896x2x8, .i1⟩) main_call3_v4) (TRef.of (T := ⟨S16896x2x8, .f32⟩) main_v54) (uitofp .f32),
    unary main_v53 main_v55 (broadcastInDim S16896x2x1 ![0, 1] bcast_S16896x2_S16896x2x1_0_1 : (⟨S16896x2, .f32⟩ : BufTy).Contents (Elt F) → (⟨S16896x2x1, .f32⟩ : BufTy).Contents (Elt F)),
    unary main_v55 main_v56 (broadcastInDim S16896x2x8 ![0, 1, 2] bcast_S16896x2x1_S16896x2x8_0_1_2 : (⟨S16896x2x1, .f32⟩ : BufTy).Contents (Elt F) → (⟨S16896x2x8, .f32⟩ : BufTy).Contents (Elt F)),
    binary main_v54 main_v56 main_v57 (mulf : (⟨S16896x2x8, .f32⟩ : BufTy).Contents (Elt F) → (⟨S16896x2x8, .f32⟩ : BufTy).Contents (Elt F) → (⟨S16896x2x8, .f32⟩ : BufTy).Contents (Elt F)),
    nullary main_cst_8 (constant S_ .f32 0x00000000#32),
    binary main_v57 main_cst_8 main_v58 ((fun x v => Host.reduceAdd x v reducesTo_S16896x2x8_S16896x8_d1 h_S_) : (⟨S16896x2x8, .f32⟩ : BufTy).Contents (Elt F) → (⟨S_, .f32⟩ : BufTy).Contents (Elt F) → (⟨S16896x8, .f32⟩ : BufTy).Contents (Elt F)),
    TRef.unary (TRef.of (T := ⟨S16896, .i32⟩) main_v32) (TRef.of (T := ⟨S16896x1, .i32⟩) main_call4_v0) (broadcastInDim S16896x1 ![0] bcast_S16896_S16896x1_0),
    TRef.nullary (TRef.of (T := ⟨S1x4, .i32⟩) main_call4_v1) (iotaInDim S1x4 32 1),
    TRef.unary (TRef.of (T := ⟨S16896x1, .i32⟩) main_call4_v0) (TRef.of (T := ⟨S16896x4, .i32⟩) main_call4_v2) (broadcastInDim S16896x4 ![0, 1] bcast_S16896x1_S16896x4_0_1),
    TRef.unary (TRef.of (T := ⟨S1x4, .i32⟩) main_call4_v1) (TRef.of (T := ⟨S16896x4, .i32⟩) main_call4_v3) (broadcastInDim S16896x4 ![0, 1] bcast_S1x4_S16896x4_0_1),
    TRef.binary (TRef.of (T := ⟨S16896x4, .i32⟩) main_call4_v2) (TRef.of (T := ⟨S16896x4, .i32⟩) main_call4_v3) (TRef.of (T := ⟨S16896x4, .i1⟩) main_call4_v4) (cmpi .eq),
    TRef.unary (TRef.of (T := ⟨S16896x4, .i1⟩) main_call4_v4) (TRef.of (T := ⟨S16896x4, .f32⟩) main_v59) (uitofp .f32),
    unary main_v59 main_v60 (broadcastInDim S16896x4x1 ![0, 1] bcast_S16896x4_S16896x4x1_0_1 : (⟨S16896x4, .f32⟩ : BufTy).Contents (Elt F) → (⟨S16896x4x1, .f32⟩ : BufTy).Contents (Elt F)),
    unary main_v34 main_v61 (broadcastInDim S16896x8 ![0, 1] bcast_S16896x1_S16896x8_0_1 : (⟨S16896x1, .f32⟩ : BufTy).Contents (Elt F) → (⟨S16896x8, .f32⟩ : BufTy).Contents (Elt F)),
    binary main_v61 main_v58 main_v62 (mulf : (⟨S16896x8, .f32⟩ : BufTy).Contents (Elt F) → (⟨S16896x8, .f32⟩ : BufTy).Contents (Elt F) → (⟨S16896x8, .f32⟩ : BufTy).Contents (Elt F)),
    unary main_v62 main_v63 (broadcastInDim S16896x1x8 ![0, 2] bcast_S16896x8_S16896x1x8_0_2 : (⟨S16896x8, .f32⟩ : BufTy).Contents (Elt F) → (⟨S16896x1x8, .f32⟩ : BufTy).Contents (Elt F)),
    unary main_v60 main_v64 (broadcastInDim S16896x4x8 ![0, 1, 2] bcast_S16896x4x1_S16896x4x8_0_1_2 : (⟨S16896x4x1, .f32⟩ : BufTy).Contents (Elt F) → (⟨S16896x4x8, .f32⟩ : BufTy).Contents (Elt F)),
    unary main_v63 main_v65 (broadcastInDim S16896x4x8 ![0, 1, 2] bcast_S16896x1x8_S16896x4x8_0_1_2 : (⟨S16896x1x8, .f32⟩ : BufTy).Contents (Elt F) → (⟨S16896x4x8, .f32⟩ : BufTy).Contents (Elt F)),
    binary main_v64 main_v65 main_v66 (mulf : (⟨S16896x4x8, .f32⟩ : BufTy).Contents (Elt F) → (⟨S16896x4x8, .f32⟩ : BufTy).Contents (Elt F) → (⟨S16896x4x8, .f32⟩ : BufTy).Contents (Elt F)),
    nullary main_cst_9 (constant S_ .f32 0x00000000#32) ]

/-- @main's operations 137 … 166 of 238 (window `main_part1`). -/
abbrev ops_part1_1 : List (HloOp τ sig (Elt F)) :=
  [ unary main_cst_9 main_v67 (broadcastInDim S16896x1024 ![] bcast_S_S16896x1024 : (⟨S_, .f32⟩ : BufTy).Contents (Elt F) → (⟨S16896x1024, .f32⟩ : BufTy).Contents (Elt F)),
    unary main_arg9 main_v68 ((extractStridedSlice S1x8x1024x256 ![0, 0, 0, 0] · slices_S4x8x1024x256_S1x8x1024x256_0_0_0_0) : (⟨S4x8x1024x256, .f32⟩ : BufTy).Contents (Elt F) → (⟨S1x8x1024x256, .f32⟩ : BufTy).Contents (Elt F)),
    reshape main_v68 main_v69 (rfl : (.f32 : EltTy) = .f32) shapeCasts_S1x8x1024x256_S8x1024x256,
    binary main_v16 main_v69 main_v70 ((fun l r => Host.dotGeneral dot_S16896x1024_S8x1024x256_S16896x8x256_1_1_0_02_n_n none l r) : (⟨S16896x1024, .f32⟩ : BufTy).Contents (Elt F) → (⟨S8x1024x256, .f32⟩ : BufTy).Contents (Elt F) → (⟨S16896x8x256, .f32⟩ : BufTy).Contents (Elt F)),
    unary main_arg10 main_v71 ((extractStridedSlice S1x8x1024x256 ![0, 0, 0, 0] · slices_S4x8x1024x256_S1x8x1024x256_0_0_0_0) : (⟨S4x8x1024x256, .f32⟩ : BufTy).Contents (Elt F) → (⟨S1x8x1024x256, .f32⟩ : BufTy).Contents (Elt F)),
    reshape main_v71 main_v72 (rfl : (.f32 : EltTy) = .f32) shapeCasts_S1x8x1024x256_S8x1024x256,
    binary main_v16 main_v72 main_v73 ((fun l r => Host.dotGeneral dot_S16896x1024_S8x1024x256_S16896x8x256_1_1_0_02_n_n none l r) : (⟨S16896x1024, .f32⟩ : BufTy).Contents (Elt F) → (⟨S8x1024x256, .f32⟩ : BufTy).Contents (Elt F) → (⟨S16896x8x256, .f32⟩ : BufTy).Contents (Elt F)),
    TRef.unary (TRef.of (T := ⟨S16896x8x256, .f32⟩) main_v70) (TRef.of (T := ⟨S16896x8x256, .f32⟩) main_call5_v0) Host.negf,
    TRef.unary (TRef.of (T := ⟨S16896x8x256, .f32⟩) main_call5_v0) (TRef.of (T := ⟨S16896x8x256, .f32⟩) main_call5_v1) Host.exp,
    TRef.nullary (TRef.of (T := ⟨S_, .f32⟩) main_call5_cst) (constant S_ .f32 0x3F800000#32),
    TRef.unary (TRef.of (T := ⟨S_, .f32⟩) main_call5_cst) (TRef.of (T := ⟨S16896x8x256, .f32⟩) main_call5_v2) (broadcastInDim S16896x8x256 ![] bcast_S_S16896x8x256),
    TRef.binary (TRef.of (T := ⟨S16896x8x256, .f32⟩) main_call5_v2) (TRef.of (T := ⟨S16896x8x256, .f32⟩) main_call5_v1) (TRef.of (T := ⟨S16896x8x256, .f32⟩) main_call5_v3) addf,
    TRef.nullary (TRef.of (T := ⟨S_, .f32⟩) main_call5_cst_0) (constant S_ .f32 0x3F800000#32),
    TRef.unary (TRef.of (T := ⟨S_, .f32⟩) main_call5_cst_0) (TRef.of (T := ⟨S16896x8x256, .f32⟩) main_call5_v4) (broadcastInDim S16896x8x256 ![] bcast_S_S16896x8x256),
    TRef.binary (TRef.of (T := ⟨S16896x8x256, .f32⟩) main_call5_v4) (TRef.of (T := ⟨S16896x8x256, .f32⟩) main_call5_v3) (TRef.of (T := ⟨S16896x8x256, .f32⟩) main_call5_v5) Host.divf,
    TRef.binary (TRef.of (T := ⟨S16896x8x256, .f32⟩) main_v70) (TRef.of (T := ⟨S16896x8x256, .f32⟩) main_call5_v5) (TRef.of (T := ⟨S16896x8x256, .f32⟩) main_v74) mulf,
    binary main_v74 main_v73 main_v75 (mulf : (⟨S16896x8x256, .f32⟩ : BufTy).Contents (Elt F) → (⟨S16896x8x256, .f32⟩ : BufTy).Contents (Elt F) → (⟨S16896x8x256, .f32⟩ : BufTy).Contents (Elt F)),
    unary main_v66 main_v76 ((extractStridedSlice S16896x1x8 ![0, 0, 0] · slices_S16896x4x8_S16896x1x8_0_0_0) : (⟨S16896x4x8, .f32⟩ : BufTy).Contents (Elt F) → (⟨S16896x1x8, .f32⟩ : BufTy).Contents (Elt F)),
    reshape main_v76 main_v77 (rfl : (.f32 : EltTy) = .f32) shapeCasts_S16896x1x8_S16896x8,
    unary main_v77 main_v78 (broadcastInDim S16896x8x1 ![0, 1] bcast_S16896x8_S16896x8x1_0_1 : (⟨S16896x8, .f32⟩ : BufTy).Contents (Elt F) → (⟨S16896x8x1, .f32⟩ : BufTy).Contents (Elt F)),
    unary main_v78 main_v79 (broadcastInDim S16896x8x256 ![0, 1, 2] bcast_S16896x8x1_S16896x8x256_0_1_2 : (⟨S16896x8x1, .f32⟩ : BufTy).Contents (Elt F) → (⟨S16896x8x256, .f32⟩ : BufTy).Contents (Elt F)),
    binary main_v75 main_v79 main_v80 (mulf : (⟨S16896x8x256, .f32⟩ : BufTy).Contents (Elt F) → (⟨S16896x8x256, .f32⟩ : BufTy).Contents (Elt F) → (⟨S16896x8x256, .f32⟩ : BufTy).Contents (Elt F)),
    unary main_arg11 main_v81 ((extractStridedSlice S1x8x256x1024 ![0, 0, 0, 0] · slices_S4x8x256x1024_S1x8x256x1024_0_0_0_0) : (⟨S4x8x256x1024, .f32⟩ : BufTy).Contents (Elt F) → (⟨S1x8x256x1024, .f32⟩ : BufTy).Contents (Elt F)),
    reshape main_v81 main_v82 (rfl : (.f32 : EltTy) = .f32) shapeCasts_S1x8x256x1024_S8x256x1024,
    binary main_v80 main_v82 main_v83 ((fun l r => Host.dotGeneral dot_S16896x8x256_S8x256x1024_S16896x1024_12_01_0_2_n_n none l r) : (⟨S16896x8x256, .f32⟩ : BufTy).Contents (Elt F) → (⟨S8x256x1024, .f32⟩ : BufTy).Contents (Elt F) → (⟨S16896x1024, .f32⟩ : BufTy).Contents (Elt F)),
    binary main_v67 main_v83 main_v84 (addf : (⟨S16896x1024, .f32⟩ : BufTy).Contents (Elt F) → (⟨S16896x1024, .f32⟩ : BufTy).Contents (Elt F) → (⟨S16896x1024, .f32⟩ : BufTy).Contents (Elt F)),
    unary main_arg9 main_v85 ((extractStridedSlice S1x8x1024x256 ![1, 0, 0, 0] · slices_S4x8x1024x256_S1x8x1024x256_1_0_0_0) : (⟨S4x8x1024x256, .f32⟩ : BufTy).Contents (Elt F) → (⟨S1x8x1024x256, .f32⟩ : BufTy).Contents (Elt F)),
    reshape main_v85 main_v86 (rfl : (.f32 : EltTy) = .f32) shapeCasts_S1x8x1024x256_S8x1024x256,
    binary main_v16 main_v86 main_v87 ((fun l r => Host.dotGeneral dot_S16896x1024_S8x1024x256_S16896x8x256_1_1_0_02_n_n none l r) : (⟨S16896x1024, .f32⟩ : BufTy).Contents (Elt F) → (⟨S8x1024x256, .f32⟩ : BufTy).Contents (Elt F) → (⟨S16896x8x256, .f32⟩ : BufTy).Contents (Elt F)),
    unary main_arg10 main_v88 ((extractStridedSlice S1x8x1024x256 ![1, 0, 0, 0] · slices_S4x8x1024x256_S1x8x1024x256_1_0_0_0) : (⟨S4x8x1024x256, .f32⟩ : BufTy).Contents (Elt F) → (⟨S1x8x1024x256, .f32⟩ : BufTy).Contents (Elt F)) ]

/-- @main's operations 167 … 192 of 238 (window `main_part1`). -/
abbrev ops_part1_2 : List (HloOp τ sig (Elt F)) :=
  [ reshape main_v88 main_v89 (rfl : (.f32 : EltTy) = .f32) shapeCasts_S1x8x1024x256_S8x1024x256,
    binary main_v16 main_v89 main_v90 ((fun l r => Host.dotGeneral dot_S16896x1024_S8x1024x256_S16896x8x256_1_1_0_02_n_n none l r) : (⟨S16896x1024, .f32⟩ : BufTy).Contents (Elt F) → (⟨S8x1024x256, .f32⟩ : BufTy).Contents (Elt F) → (⟨S16896x8x256, .f32⟩ : BufTy).Contents (Elt F)),
    TRef.unary (TRef.of (T := ⟨S16896x8x256, .f32⟩) main_v87) (TRef.of (T := ⟨S16896x8x256, .f32⟩) main_call6_v0) Host.negf,
    TRef.unary (TRef.of (T := ⟨S16896x8x256, .f32⟩) main_call6_v0) (TRef.of (T := ⟨S16896x8x256, .f32⟩) main_call6_v1) Host.exp,
    TRef.nullary (TRef.of (T := ⟨S_, .f32⟩) main_call6_cst) (constant S_ .f32 0x3F800000#32),
    TRef.unary (TRef.of (T := ⟨S_, .f32⟩) main_call6_cst) (TRef.of (T := ⟨S16896x8x256, .f32⟩) main_call6_v2) (broadcastInDim S16896x8x256 ![] bcast_S_S16896x8x256),
    TRef.binary (TRef.of (T := ⟨S16896x8x256, .f32⟩) main_call6_v2) (TRef.of (T := ⟨S16896x8x256, .f32⟩) main_call6_v1) (TRef.of (T := ⟨S16896x8x256, .f32⟩) main_call6_v3) addf,
    TRef.nullary (TRef.of (T := ⟨S_, .f32⟩) main_call6_cst_0) (constant S_ .f32 0x3F800000#32),
    TRef.unary (TRef.of (T := ⟨S_, .f32⟩) main_call6_cst_0) (TRef.of (T := ⟨S16896x8x256, .f32⟩) main_call6_v4) (broadcastInDim S16896x8x256 ![] bcast_S_S16896x8x256),
    TRef.binary (TRef.of (T := ⟨S16896x8x256, .f32⟩) main_call6_v4) (TRef.of (T := ⟨S16896x8x256, .f32⟩) main_call6_v3) (TRef.of (T := ⟨S16896x8x256, .f32⟩) main_call6_v5) Host.divf,
    TRef.binary (TRef.of (T := ⟨S16896x8x256, .f32⟩) main_v87) (TRef.of (T := ⟨S16896x8x256, .f32⟩) main_call6_v5) (TRef.of (T := ⟨S16896x8x256, .f32⟩) main_v91) mulf,
    binary main_v91 main_v90 main_v92 (mulf : (⟨S16896x8x256, .f32⟩ : BufTy).Contents (Elt F) → (⟨S16896x8x256, .f32⟩ : BufTy).Contents (Elt F) → (⟨S16896x8x256, .f32⟩ : BufTy).Contents (Elt F)),
    unary main_v66 main_v93 ((extractStridedSlice S16896x1x8 ![0, 1, 0] · slices_S16896x4x8_S16896x1x8_0_1_0) : (⟨S16896x4x8, .f32⟩ : BufTy).Contents (Elt F) → (⟨S16896x1x8, .f32⟩ : BufTy).Contents (Elt F)),
    reshape main_v93 main_v94 (rfl : (.f32 : EltTy) = .f32) shapeCasts_S16896x1x8_S16896x8,
    unary main_v94 main_v95 (broadcastInDim S16896x8x1 ![0, 1] bcast_S16896x8_S16896x8x1_0_1 : (⟨S16896x8, .f32⟩ : BufTy).Contents (Elt F) → (⟨S16896x8x1, .f32⟩ : BufTy).Contents (Elt F)),
    unary main_v95 main_v96 (broadcastInDim S16896x8x256 ![0, 1, 2] bcast_S16896x8x1_S16896x8x256_0_1_2 : (⟨S16896x8x1, .f32⟩ : BufTy).Contents (Elt F) → (⟨S16896x8x256, .f32⟩ : BufTy).Contents (Elt F)),
    binary main_v92 main_v96 main_v97 (mulf : (⟨S16896x8x256, .f32⟩ : BufTy).Contents (Elt F) → (⟨S16896x8x256, .f32⟩ : BufTy).Contents (Elt F) → (⟨S16896x8x256, .f32⟩ : BufTy).Contents (Elt F)),
    unary main_arg11 main_v98 ((extractStridedSlice S1x8x256x1024 ![1, 0, 0, 0] · slices_S4x8x256x1024_S1x8x256x1024_1_0_0_0) : (⟨S4x8x256x1024, .f32⟩ : BufTy).Contents (Elt F) → (⟨S1x8x256x1024, .f32⟩ : BufTy).Contents (Elt F)),
    reshape main_v98 main_v99 (rfl : (.f32 : EltTy) = .f32) shapeCasts_S1x8x256x1024_S8x256x1024,
    binary main_v97 main_v99 main_v100 ((fun l r => Host.dotGeneral dot_S16896x8x256_S8x256x1024_S16896x1024_12_01_0_2_n_n none l r) : (⟨S16896x8x256, .f32⟩ : BufTy).Contents (Elt F) → (⟨S8x256x1024, .f32⟩ : BufTy).Contents (Elt F) → (⟨S16896x1024, .f32⟩ : BufTy).Contents (Elt F)),
    binary main_v84 main_v100 main_v101 (addf : (⟨S16896x1024, .f32⟩ : BufTy).Contents (Elt F) → (⟨S16896x1024, .f32⟩ : BufTy).Contents (Elt F) → (⟨S16896x1024, .f32⟩ : BufTy).Contents (Elt F)),
    unary main_arg9 main_v102 ((extractStridedSlice S1x8x1024x256 ![2, 0, 0, 0] · slices_S4x8x1024x256_S1x8x1024x256_2_0_0_0) : (⟨S4x8x1024x256, .f32⟩ : BufTy).Contents (Elt F) → (⟨S1x8x1024x256, .f32⟩ : BufTy).Contents (Elt F)),
    reshape main_v102 main_v103 (rfl : (.f32 : EltTy) = .f32) shapeCasts_S1x8x1024x256_S8x1024x256,
    binary main_v16 main_v103 main_v104 ((fun l r => Host.dotGeneral dot_S16896x1024_S8x1024x256_S16896x8x256_1_1_0_02_n_n none l r) : (⟨S16896x1024, .f32⟩ : BufTy).Contents (Elt F) → (⟨S8x1024x256, .f32⟩ : BufTy).Contents (Elt F) → (⟨S16896x8x256, .f32⟩ : BufTy).Contents (Elt F)),
    unary main_arg10 main_v105 ((extractStridedSlice S1x8x1024x256 ![2, 0, 0, 0] · slices_S4x8x1024x256_S1x8x1024x256_2_0_0_0) : (⟨S4x8x1024x256, .f32⟩ : BufTy).Contents (Elt F) → (⟨S1x8x1024x256, .f32⟩ : BufTy).Contents (Elt F)),
    reshape main_v105 main_v106 (rfl : (.f32 : EltTy) = .f32) shapeCasts_S1x8x1024x256_S8x1024x256 ]

/-- Window `main_part1`'s operations. Not an abbreviation: `main_eq` below splits `ops` into the windows and no further. -/
def ops_part1 : List (HloOp τ sig (Elt F)) :=
  ops_part1_0 ++ (ops_part1_1 ++ (ops_part1_2))

/-- @main's operations 193 … 238 of 238 (window `main_part2`). -/
abbrev ops_part2 : List (HloOp τ sig (Elt F)) :=
  [ binary main_v16 main_v106 main_v107 ((fun l r => Host.dotGeneral dot_S16896x1024_S8x1024x256_S16896x8x256_1_1_0_02_n_n none l r) : (⟨S16896x1024, .f32⟩ : BufTy).Contents (Elt F) → (⟨S8x1024x256, .f32⟩ : BufTy).Contents (Elt F) → (⟨S16896x8x256, .f32⟩ : BufTy).Contents (Elt F)),
    TRef.unary (TRef.of (T := ⟨S16896x8x256, .f32⟩) main_v104) (TRef.of (T := ⟨S16896x8x256, .f32⟩) main_call7_v0) Host.negf,
    TRef.unary (TRef.of (T := ⟨S16896x8x256, .f32⟩) main_call7_v0) (TRef.of (T := ⟨S16896x8x256, .f32⟩) main_call7_v1) Host.exp,
    TRef.nullary (TRef.of (T := ⟨S_, .f32⟩) main_call7_cst) (constant S_ .f32 0x3F800000#32),
    TRef.unary (TRef.of (T := ⟨S_, .f32⟩) main_call7_cst) (TRef.of (T := ⟨S16896x8x256, .f32⟩) main_call7_v2) (broadcastInDim S16896x8x256 ![] bcast_S_S16896x8x256),
    TRef.binary (TRef.of (T := ⟨S16896x8x256, .f32⟩) main_call7_v2) (TRef.of (T := ⟨S16896x8x256, .f32⟩) main_call7_v1) (TRef.of (T := ⟨S16896x8x256, .f32⟩) main_call7_v3) addf,
    TRef.nullary (TRef.of (T := ⟨S_, .f32⟩) main_call7_cst_0) (constant S_ .f32 0x3F800000#32),
    TRef.unary (TRef.of (T := ⟨S_, .f32⟩) main_call7_cst_0) (TRef.of (T := ⟨S16896x8x256, .f32⟩) main_call7_v4) (broadcastInDim S16896x8x256 ![] bcast_S_S16896x8x256),
    TRef.binary (TRef.of (T := ⟨S16896x8x256, .f32⟩) main_call7_v4) (TRef.of (T := ⟨S16896x8x256, .f32⟩) main_call7_v3) (TRef.of (T := ⟨S16896x8x256, .f32⟩) main_call7_v5) Host.divf,
    TRef.binary (TRef.of (T := ⟨S16896x8x256, .f32⟩) main_v104) (TRef.of (T := ⟨S16896x8x256, .f32⟩) main_call7_v5) (TRef.of (T := ⟨S16896x8x256, .f32⟩) main_v108) mulf,
    binary main_v108 main_v107 main_v109 (mulf : (⟨S16896x8x256, .f32⟩ : BufTy).Contents (Elt F) → (⟨S16896x8x256, .f32⟩ : BufTy).Contents (Elt F) → (⟨S16896x8x256, .f32⟩ : BufTy).Contents (Elt F)),
    unary main_v66 main_v110 ((extractStridedSlice S16896x1x8 ![0, 2, 0] · slices_S16896x4x8_S16896x1x8_0_2_0) : (⟨S16896x4x8, .f32⟩ : BufTy).Contents (Elt F) → (⟨S16896x1x8, .f32⟩ : BufTy).Contents (Elt F)),
    reshape main_v110 main_v111 (rfl : (.f32 : EltTy) = .f32) shapeCasts_S16896x1x8_S16896x8,
    unary main_v111 main_v112 (broadcastInDim S16896x8x1 ![0, 1] bcast_S16896x8_S16896x8x1_0_1 : (⟨S16896x8, .f32⟩ : BufTy).Contents (Elt F) → (⟨S16896x8x1, .f32⟩ : BufTy).Contents (Elt F)),
    unary main_v112 main_v113 (broadcastInDim S16896x8x256 ![0, 1, 2] bcast_S16896x8x1_S16896x8x256_0_1_2 : (⟨S16896x8x1, .f32⟩ : BufTy).Contents (Elt F) → (⟨S16896x8x256, .f32⟩ : BufTy).Contents (Elt F)),
    binary main_v109 main_v113 main_v114 (mulf : (⟨S16896x8x256, .f32⟩ : BufTy).Contents (Elt F) → (⟨S16896x8x256, .f32⟩ : BufTy).Contents (Elt F) → (⟨S16896x8x256, .f32⟩ : BufTy).Contents (Elt F)),
    unary main_arg11 main_v115 ((extractStridedSlice S1x8x256x1024 ![2, 0, 0, 0] · slices_S4x8x256x1024_S1x8x256x1024_2_0_0_0) : (⟨S4x8x256x1024, .f32⟩ : BufTy).Contents (Elt F) → (⟨S1x8x256x1024, .f32⟩ : BufTy).Contents (Elt F)),
    reshape main_v115 main_v116 (rfl : (.f32 : EltTy) = .f32) shapeCasts_S1x8x256x1024_S8x256x1024,
    binary main_v114 main_v116 main_v117 ((fun l r => Host.dotGeneral dot_S16896x8x256_S8x256x1024_S16896x1024_12_01_0_2_n_n none l r) : (⟨S16896x8x256, .f32⟩ : BufTy).Contents (Elt F) → (⟨S8x256x1024, .f32⟩ : BufTy).Contents (Elt F) → (⟨S16896x1024, .f32⟩ : BufTy).Contents (Elt F)),
    binary main_v101 main_v117 main_v118 (addf : (⟨S16896x1024, .f32⟩ : BufTy).Contents (Elt F) → (⟨S16896x1024, .f32⟩ : BufTy).Contents (Elt F) → (⟨S16896x1024, .f32⟩ : BufTy).Contents (Elt F)),
    unary main_arg9 main_v119 ((extractStridedSlice S1x8x1024x256 ![3, 0, 0, 0] · slices_S4x8x1024x256_S1x8x1024x256_3_0_0_0) : (⟨S4x8x1024x256, .f32⟩ : BufTy).Contents (Elt F) → (⟨S1x8x1024x256, .f32⟩ : BufTy).Contents (Elt F)),
    reshape main_v119 main_v120 (rfl : (.f32 : EltTy) = .f32) shapeCasts_S1x8x1024x256_S8x1024x256,
    binary main_v16 main_v120 main_v121 ((fun l r => Host.dotGeneral dot_S16896x1024_S8x1024x256_S16896x8x256_1_1_0_02_n_n none l r) : (⟨S16896x1024, .f32⟩ : BufTy).Contents (Elt F) → (⟨S8x1024x256, .f32⟩ : BufTy).Contents (Elt F) → (⟨S16896x8x256, .f32⟩ : BufTy).Contents (Elt F)),
    unary main_arg10 main_v122 ((extractStridedSlice S1x8x1024x256 ![3, 0, 0, 0] · slices_S4x8x1024x256_S1x8x1024x256_3_0_0_0) : (⟨S4x8x1024x256, .f32⟩ : BufTy).Contents (Elt F) → (⟨S1x8x1024x256, .f32⟩ : BufTy).Contents (Elt F)),
    reshape main_v122 main_v123 (rfl : (.f32 : EltTy) = .f32) shapeCasts_S1x8x1024x256_S8x1024x256,
    binary main_v16 main_v123 main_v124 ((fun l r => Host.dotGeneral dot_S16896x1024_S8x1024x256_S16896x8x256_1_1_0_02_n_n none l r) : (⟨S16896x1024, .f32⟩ : BufTy).Contents (Elt F) → (⟨S8x1024x256, .f32⟩ : BufTy).Contents (Elt F) → (⟨S16896x8x256, .f32⟩ : BufTy).Contents (Elt F)),
    TRef.unary (TRef.of (T := ⟨S16896x8x256, .f32⟩) main_v121) (TRef.of (T := ⟨S16896x8x256, .f32⟩) main_call8_v0) Host.negf,
    TRef.unary (TRef.of (T := ⟨S16896x8x256, .f32⟩) main_call8_v0) (TRef.of (T := ⟨S16896x8x256, .f32⟩) main_call8_v1) Host.exp,
    TRef.nullary (TRef.of (T := ⟨S_, .f32⟩) main_call8_cst) (constant S_ .f32 0x3F800000#32),
    TRef.unary (TRef.of (T := ⟨S_, .f32⟩) main_call8_cst) (TRef.of (T := ⟨S16896x8x256, .f32⟩) main_call8_v2) (broadcastInDim S16896x8x256 ![] bcast_S_S16896x8x256),
    TRef.binary (TRef.of (T := ⟨S16896x8x256, .f32⟩) main_call8_v2) (TRef.of (T := ⟨S16896x8x256, .f32⟩) main_call8_v1) (TRef.of (T := ⟨S16896x8x256, .f32⟩) main_call8_v3) addf,
    TRef.nullary (TRef.of (T := ⟨S_, .f32⟩) main_call8_cst_0) (constant S_ .f32 0x3F800000#32),
    TRef.unary (TRef.of (T := ⟨S_, .f32⟩) main_call8_cst_0) (TRef.of (T := ⟨S16896x8x256, .f32⟩) main_call8_v4) (broadcastInDim S16896x8x256 ![] bcast_S_S16896x8x256),
    TRef.binary (TRef.of (T := ⟨S16896x8x256, .f32⟩) main_call8_v4) (TRef.of (T := ⟨S16896x8x256, .f32⟩) main_call8_v3) (TRef.of (T := ⟨S16896x8x256, .f32⟩) main_call8_v5) Host.divf,
    TRef.binary (TRef.of (T := ⟨S16896x8x256, .f32⟩) main_v121) (TRef.of (T := ⟨S16896x8x256, .f32⟩) main_call8_v5) (TRef.of (T := ⟨S16896x8x256, .f32⟩) main_v125) mulf,
    binary main_v125 main_v124 main_v126 (mulf : (⟨S16896x8x256, .f32⟩ : BufTy).Contents (Elt F) → (⟨S16896x8x256, .f32⟩ : BufTy).Contents (Elt F) → (⟨S16896x8x256, .f32⟩ : BufTy).Contents (Elt F)),
    unary main_v66 main_v127 ((extractStridedSlice S16896x1x8 ![0, 3, 0] · slices_S16896x4x8_S16896x1x8_0_3_0) : (⟨S16896x4x8, .f32⟩ : BufTy).Contents (Elt F) → (⟨S16896x1x8, .f32⟩ : BufTy).Contents (Elt F)),
    reshape main_v127 main_v128 (rfl : (.f32 : EltTy) = .f32) shapeCasts_S16896x1x8_S16896x8,
    unary main_v128 main_v129 (broadcastInDim S16896x8x1 ![0, 1] bcast_S16896x8_S16896x8x1_0_1 : (⟨S16896x8, .f32⟩ : BufTy).Contents (Elt F) → (⟨S16896x8x1, .f32⟩ : BufTy).Contents (Elt F)),
    unary main_v129 main_v130 (broadcastInDim S16896x8x256 ![0, 1, 2] bcast_S16896x8x1_S16896x8x256_0_1_2 : (⟨S16896x8x1, .f32⟩ : BufTy).Contents (Elt F) → (⟨S16896x8x256, .f32⟩ : BufTy).Contents (Elt F)),
    binary main_v126 main_v130 main_v131 (mulf : (⟨S16896x8x256, .f32⟩ : BufTy).Contents (Elt F) → (⟨S16896x8x256, .f32⟩ : BufTy).Contents (Elt F) → (⟨S16896x8x256, .f32⟩ : BufTy).Contents (Elt F)),
    unary main_arg11 main_v132 ((extractStridedSlice S1x8x256x1024 ![3, 0, 0, 0] · slices_S4x8x256x1024_S1x8x256x1024_3_0_0_0) : (⟨S4x8x256x1024, .f32⟩ : BufTy).Contents (Elt F) → (⟨S1x8x256x1024, .f32⟩ : BufTy).Contents (Elt F)),
    reshape main_v132 main_v133 (rfl : (.f32 : EltTy) = .f32) shapeCasts_S1x8x256x1024_S8x256x1024,
    binary main_v131 main_v133 main_v134 ((fun l r => Host.dotGeneral dot_S16896x8x256_S8x256x1024_S16896x1024_12_01_0_2_n_n none l r) : (⟨S16896x8x256, .f32⟩ : BufTy).Contents (Elt F) → (⟨S8x256x1024, .f32⟩ : BufTy).Contents (Elt F) → (⟨S16896x1024, .f32⟩ : BufTy).Contents (Elt F)),
    binary main_v118 main_v134 main_v135 (addf : (⟨S16896x1024, .f32⟩ : BufTy).Contents (Elt F) → (⟨S16896x1024, .f32⟩ : BufTy).Contents (Elt F) → (⟨S16896x1024, .f32⟩ : BufTy).Contents (Elt F)),
    binary main_v3 main_v135 main_v136 (addf : (⟨S16896x1024, .f32⟩ : BufTy).Contents (Elt F) → (⟨S16896x1024, .f32⟩ : BufTy).Contents (Elt F) → (⟨S16896x1024, .f32⟩ : BufTy).Contents (Elt F)) ]

/-- @main's 238 operations, in order (a called function's operations stand in its call's place, spelt `TRef.…`). -/
abbrev ops : List (HloOp τ sig (Elt F)) :=
  ops_part0 ++ (ops_part1 ++ (ops_part2))

set_option maxRecDepth 8192 in
set_option maxHeartbeats 4000000 in
theorem main_part0_eq (c : Dev nD) : main_part0 (F := F) c = seq ops_part0 := rfl
set_option maxRecDepth 8192 in
set_option maxHeartbeats 4000000 in
theorem main_part1_eq (c : Dev nD) : main_part1 (F := F) c = seq ops_part1 := rfl
set_option maxRecDepth 8192 in
theorem main_part2_eq (c : Dev nD) : main_part2 (F := F) c = seq ops_part2 := rfl
set_option maxRecDepth 8192 in
theorem main_eq (c : Dev nD) : main (F := F) c = seq ops := by
  simp only [ops, seq_append, ← main_part0_eq c, ← main_part1_eq c, ← main_part2_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_0_sub : (ops_part0_0 : List (HloOp τ sig (Elt F))).Forall fun op => op.bufs ⊆ tcRefs τ sig :=
  ⟨unary_bufs_sub .., binary_bufs_sub .., binary_bufs_sub .., binary_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub ..⟩
set_option maxRecDepth 8192 in
theorem ops_part0_0_fresh : (ops_part0_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_1_sub : (ops_part0_1 : List (HloOp τ sig (Elt F))).Forall fun op => op.bufs ⊆ tcRefs τ sig :=
  ⟨unary_bufs_sub .., binary_bufs_sub .., unary_bufs_sub .., nullary_bufs_sub .., binary_bufs_sub .., unary_bufs_sub .., unary_bufs_sub .., binary_bufs_sub .., nullary_bufs_sub .., nullary_bufs_sub .., nullary_bufs_sub .., quaternary_bufs_sub .., quaternary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub ..⟩
set_option maxRecDepth 8192 in
theorem ops_part0_1_fresh : (ops_part0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_2_sub : (ops_part0_2 : List (HloOp τ sig (Elt F))).Forall fun op => op.bufs ⊆ tcRefs τ sig :=
  ⟨nullary_bufs_sub .., binary_bufs_sub .., binary_bufs_sub .., nullary_bufs_sub .., unary_bufs_sub .., ternary_bufs_sub .., binary_bufs_sub .., unary_bufs_sub .., unary_bufs_sub .., binary_bufs_sub .., reshape_bufs_sub .., unary_bufs_sub .., nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub ..⟩
set_option maxRecDepth 8192 in
theorem ops_part0_2_fresh : (ops_part0_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_3_sub : (ops_part0_3 : List (HloOp τ sig (Elt F))).Forall fun op => op.bufs ⊆ tcRefs τ sig :=
  ⟨unary_bufs_sub .., nullary_bufs_sub .., unary_bufs_sub .., ternary_bufs_sub .., reshape_bufs_sub .., unary_bufs_sub .., unary_bufs_sub .., nullary_bufs_sub .., binary_bufs_sub .., nullary_bufs_sub .., unary_bufs_sub .., binary_bufs_sub .., unary_bufs_sub .., unary_bufs_sub .., binary_bufs_sub .., unary_bufs_sub ..⟩
set_option maxRecDepth 8192 in
theorem ops_part0_3_fresh : (ops_part0_3 : List (HloOp τ sig (Elt F))).Forall fun op => op.fresh = ∅ :=
  ⟨rfl, rfl, rfl, rfl, rfl, rfl, rfl, rfl, rfl, rfl, rfl, rfl, rfl, rfl, rfl, rfl⟩
set_option maxRecDepth 8192 in
theorem ops_part1_0_sub : (ops_part1_0 : List (HloOp τ sig (Elt F))).Forall fun op => op.bufs ⊆ tcRefs τ sig :=
  ⟨nullary_bufs_sub .., binary_bufs_sub .., unary_bufs_sub .., unary_bufs_sub .., binary_bufs_sub .., unary_bufs_sub .., nullary_bufs_sub .., unary_bufs_sub .., unary_bufs_sub .., binary_bufs_sub .., unary_bufs_sub .., unary_bufs_sub .., unary_bufs_sub .., binary_bufs_sub .., nullary_bufs_sub .., binary_bufs_sub .., unary_bufs_sub .., nullary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., nullary_bufs_sub ..⟩
set_option maxRecDepth 8192 in
theorem ops_part1_0_fresh : (ops_part1_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_1_sub : (ops_part1_1 : List (HloOp τ sig (Elt F))).Forall fun op => op.bufs ⊆ tcRefs τ sig :=
  ⟨unary_bufs_sub .., unary_bufs_sub .., reshape_bufs_sub .., binary_bufs_sub .., unary_bufs_sub .., reshape_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., reshape_bufs_sub .., unary_bufs_sub .., unary_bufs_sub .., binary_bufs_sub .., unary_bufs_sub .., reshape_bufs_sub .., binary_bufs_sub .., binary_bufs_sub .., unary_bufs_sub .., reshape_bufs_sub .., binary_bufs_sub .., unary_bufs_sub ..⟩
set_option maxRecDepth 8192 in
theorem ops_part1_1_fresh : (ops_part1_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_2_sub : (ops_part1_2 : List (HloOp τ sig (Elt F))).Forall fun op => op.bufs ⊆ tcRefs τ sig :=
  ⟨reshape_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., reshape_bufs_sub .., unary_bufs_sub .., unary_bufs_sub .., binary_bufs_sub .., unary_bufs_sub .., reshape_bufs_sub .., binary_bufs_sub .., binary_bufs_sub .., unary_bufs_sub .., reshape_bufs_sub .., binary_bufs_sub .., unary_bufs_sub .., reshape_bufs_sub ..⟩
set_option maxRecDepth 8192 in
theorem ops_part1_2_fresh : (ops_part1_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part2_sub : (ops_part2 : List (HloOp τ sig (Elt F))).Forall fun op => op.bufs ⊆ tcRefs τ sig :=
  ⟨binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., reshape_bufs_sub .., unary_bufs_sub .., unary_bufs_sub .., binary_bufs_sub .., unary_bufs_sub .., reshape_bufs_sub .., binary_bufs_sub .., binary_bufs_sub .., unary_bufs_sub .., reshape_bufs_sub .., binary_bufs_sub .., unary_bufs_sub .., reshape_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., reshape_bufs_sub .., unary_bufs_sub .., unary_bufs_sub .., binary_bufs_sub .., unary_bufs_sub .., reshape_bufs_sub .., binary_bufs_sub .., binary_bufs_sub .., binary_bufs_sub ..⟩
set_option maxRecDepth 8192 in
theorem ops_part2_fresh : (ops_part2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_sub : (ops : List (HloOp τ sig (Elt F))).Forall fun op => op.bufs ⊆ tcRefs τ sig :=
  List.forall_iff_forall_mem.mpr fun op h => by
    simp only [ops, ops_part0, ops_part1, List.mem_append, or_assoc] at h
    rcases h with h | h | h | h | h | h | h | h
    exacts [List.forall_iff_forall_mem.mp ops_part0_0_sub op h, List.forall_iff_forall_mem.mp ops_part0_1_sub op h, List.forall_iff_forall_mem.mp ops_part0_2_sub op h, List.forall_iff_forall_mem.mp ops_part0_3_sub op h, List.forall_iff_forall_mem.mp ops_part1_0_sub op h, List.forall_iff_forall_mem.mp ops_part1_1_sub op h, List.forall_iff_forall_mem.mp ops_part1_2_sub op h, List.forall_iff_forall_mem.mp ops_part2_sub op h]
theorem ops_fresh : ∀ op ∈ (ops : List (HloOp τ sig (Elt F))), op.fresh = ∅ := fun op h => by
    simp only [ops, ops_part0, ops_part1, List.mem_append, or_assoc] at h
    rcases h with h | h | h | h | h | h | h | h
    exacts [List.forall_iff_forall_mem.mp ops_part0_0_fresh op h, List.forall_iff_forall_mem.mp ops_part0_1_fresh op h, List.forall_iff_forall_mem.mp ops_part0_2_fresh op h, List.forall_iff_forall_mem.mp ops_part0_3_fresh op h, List.forall_iff_forall_mem.mp ops_part1_0_fresh op h, List.forall_iff_forall_mem.mp ops_part1_1_fresh op h, List.forall_iff_forall_mem.mp ops_part1_2_fresh op h, List.forall_iff_forall_mem.mp ops_part2_fresh op h]

set_option maxRecDepth 8192 in
/-- `main_v3`'s composed term of the arguments (named: it is used 4 times). -/
def res_main_v3 (V0 : Valuation τ sig (Elt F)) : (Proc.devRef .tc main_v3 : DevRef τ sig).ty.Contents (Elt F) :=
  addf (V0 (Proc.devRef .tc main_arg0)) (Host.dotGeneral dot_S16896x1024_S1024x1024_S16896x1024_1_0_0_1_n_n none (concatenate S16896x1024 0 [⟨S16384x1024, (extf .f32 (V0 (Proc.devRef .tc main_arg1)) bitsLt_bf16_f32)⟩, ⟨S512x1024, (V0 (Proc.devRef .tc main_arg2))⟩] concatenates_S16384x1024_S512x1024_S16896x1024_d0) (V0 (Proc.devRef .tc main_arg3)))

set_option maxRecDepth 8192 in
/-- `main_v16`'s composed term of the arguments (named: it is used 10 times). -/
def res_main_v16 (V0 : Valuation τ sig (Elt F)) : (Proc.devRef .tc main_v16 : DevRef τ sig).ty.Contents (Elt F) :=
  mulf (mulf (res_main_v3 V0) (broadcastInDim S16896x1024 ![0, 1] bcast_S16896x1_S16896x1024_0_1 (Host.rsqrt (addf (Host.divf (broadcastInDim S16896x1 ![0] bcast_S16896_S16896x1_0 (Host.reduceAdd (mulf (res_main_v3 V0) (res_main_v3 V0)) (constant S_ .f32 0x00000000#32) reducesTo_S16896x1024_S16896_d1 h_S_)) (broadcastInDim S16896x1 ![] bcast_S_S16896x1 (constant S_ .f32 0x44800000#32))) (broadcastInDim S16896x1 ![] bcast_S_S16896x1 (constant S_ .f32 0x358637BD#32)))))) (broadcastInDim S16896x1024 ![0, 1] bcast_S1x1024_S16896x1024_0_1 (broadcastInDim S1x1024 ![1] bcast_S1024_S1x1024_1 (V0 (Proc.devRef .tc main_arg4))))

set_option maxRecDepth 8192 in
/-- `main_v20`'s composed term of the arguments (named: it is used 4 times). -/
def res_main_v20 (V0 : Valuation τ sig (Elt F)) : (Proc.devRef .tc main_v20 : DevRef τ sig).ty.Contents (Elt F) :=
  addf (Host.dotGeneral dot_S16896x1024_S1024x4_S16896x4_1_0_0_1_n_n none (res_main_v16 V0) (V0 (Proc.devRef .tc main_arg5))) (broadcastInDim S16896x4 ![0, 1] bcast_S1x4_S16896x4_0_1 (broadcastInDim S1x4 ![1] bcast_S4_S1x4_1 (V0 (Proc.devRef .tc main_arg6))))

set_option maxRecDepth 8192 in
/-- `main_v27`'s composed term of the arguments (named: it is used 2 times). -/
def res_main_v27 (V0 : Valuation τ sig (Elt F)) : (Proc.devRef .tc main_v27 : DevRef τ sig).ty.Contents (Elt F) :=
  Host.exp (subf (res_main_v20 V0) (broadcastInDim S16896x4 ![0, 1] bcast_S16896x1_S16896x4_0_1 (broadcastInDim S16896x1 ![0] bcast_S16896_S16896x1_0 (maximumf (broadcastInDim S16896 ![] bcast_S_S16896 (constant S_ .f32 0xFF800000#32)) (Host.reduce FloatOps.maximumf (res_main_v20 V0) (constant S_ .f32 0xFF800000#32) reducesTo_S16896x4_S16896_d1 h_S_)))))

set_option maxRecDepth 8192 in
/-- `main_call0_v0`'s composed term of the arguments (named: it is used 2 times). -/
def res_main_call0_v0 (V0 : Valuation τ sig (Elt F)) : (Proc.devRef .tc main_call0_v0 : DevRef τ sig).ty.Contents (Elt F) :=
  iotaInDim S16896x4 32 1

set_option maxRecDepth 8192 in
/-- `main_call0_cst`'s composed term of the arguments (named: it is used 2 times). -/
def res_main_call0_cst (V0 : Valuation τ sig (Elt F)) : (Proc.devRef .tc main_call0_cst : DevRef τ sig).ty.Contents (Elt F) :=
  constant S_ .f32 0xFF800000#32

set_option maxRecDepth 8192 in
/-- `main_call0_c`'s composed term of the arguments (named: it is used 2 times). -/
def res_main_call0_c (V0 : Valuation τ sig (Elt F)) : (Proc.devRef .tc main_call0_c : DevRef τ sig).ty.Contents (Elt F) :=
  constantI S_ 32 0#32

set_option maxRecDepth 8192 in
/-- `main_v32`'s composed term of the arguments (named: it is used 3 times). -/
def res_main_v32 (V0 : Valuation τ sig (Elt F)) : (Proc.devRef .tc main_v32 : DevRef τ sig).ty.Contents (Elt F) :=
  fun j => (Host.argReduce reducer_argmax_f32_i32 (res_main_v20 V0) (res_main_call0_v0 V0) (res_main_call0_cst V0) (res_main_call0_c V0) reducesTo_S16896x4_S16896_d1 h_S_ j).2

set_option maxRecDepth 8192 in
/-- `main_v33`'s composed term of the arguments (named: it is used 3 times). -/
def res_main_v33 (V0 : Valuation τ sig (Elt F)) : (Proc.devRef .tc main_v33 : DevRef τ sig).ty.Contents (Elt F) :=
  broadcastInDim S16896x1 ![0] bcast_S16896_S16896x1_0 (res_main_v32 V0)

set_option maxRecDepth 8192 in
/-- `main_call1_v5`'s composed term of the arguments (named: it is used 3 times). -/
def res_main_call1_v5 (V0 : Valuation τ sig (Elt F)) : (Proc.devRef .tc main_call1_v5 : DevRef τ sig).ty.Contents (Elt F) :=
  shapeCast _ (select (cmpi .slt (res_main_v33 V0) (broadcastInDim S16896x1 ![] bcast_S_S16896x1 (constantI S_ 32 0#32))) (addi (res_main_v33 V0) (broadcastInDim S16896x1 ![] bcast_S_S16896x1 (constantI S_ 32 4#32))) (res_main_v33 V0)) shapeCasts_S16896x1_S16896x1x1

set_option maxRecDepth 8192 in
/-- `main_v40`'s composed term of the arguments (named: it is used 3 times). -/
def res_main_v40 (V0 : Valuation τ sig (Elt F)) : (Proc.devRef .tc main_v40 : DevRef τ sig).ty.Contents (Elt F) :=
  broadcastInDim S16896x1x1 ![0] bcast_S16896_S16896x1x1_0 (res_main_v32 V0)

set_option maxRecDepth 8192 in
/-- `main_call2_v4`'s composed term of the arguments (named: it is used 3 times). -/
def res_main_call2_v4 (V0 : Valuation τ sig (Elt F)) : (Proc.devRef .tc main_call2_v4 : DevRef τ sig).ty.Contents (Elt F) :=
  select (cmpi .slt (res_main_v40 V0) (broadcastInDim S16896x1x1 ![] bcast_S_S16896x1x1 (constantI S_ 32 0#32))) (addi (res_main_v40 V0) (broadcastInDim S16896x1x1 ![] bcast_S_S16896x1x1 (constantI S_ 32 4#32))) (res_main_v40 V0)

set_option maxRecDepth 8192 in
/-- `main_v42`'s composed term of the arguments (named: it is used 2 times). -/
def res_main_v42 (V0 : Valuation τ sig (Elt F)) : (Proc.devRef .tc main_v42 : DevRef τ sig).ty.Contents (Elt F) :=
  shapeCast _ (select (broadcastInDim S16896x1x8 ![0, 1] bcast_S16896x1_S16896x1x8_0_1 (Host.reduce IntOp.andi (andi (cmpi .sge (res_main_call2_v4 V0) (broadcastInDim S16896x1x1 ![] bcast_S_S16896x1x1 (constantI S_ 32 0#32))) (cmpi .sle (res_main_call2_v4 V0) (broadcastInDim S16896x1x1 ![0, 1, 2] bcast_S1x1x1_S16896x1x1_0_1_2 (broadcastInDim S1x1x1 ![2] bcast_S1_S1x1x1_2 (constantI S1 32 3#32))))) (constantI S_ 1 1#1) reducesTo_S16896x1x1_S16896x1_d2 h_S_)) (Host.gather gather_S16896x4x8_S16896x1x1_S16896x1x8_2_1_0_0_1_2_118 (shapeCast _ (addf (Host.dotGeneral dot_S16896x1024_S1024x32_S16896x32_1_0_0_1_n_n none (res_main_v16 V0) (V0 (Proc.devRef .tc main_arg7))) (broadcastInDim S16896x32 ![0, 1] bcast_S1x32_S16896x32_0_1 (broadcastInDim S1x32 ![1] bcast_S32_S1x32_1 (V0 (Proc.devRef .tc main_arg8))))) shapeCasts_S16896x32_S16896x4x8) (res_main_call2_v4 V0)) (broadcastInDim S16896x1x8 ![] bcast_S_S16896x1x8 (constant S_ .f32 0x7FC00000#32))) shapeCasts_S16896x1x8_S16896x8

set_option maxRecDepth 8192 in
/-- `main_values`'s composed term of the arguments (named: it is used 2 times). -/
def res_main_values (V0 : Valuation τ sig (Elt F)) : (Proc.devRef .tc main_values : DevRef τ sig).ty.Contents (Elt F) :=
  (Host.topK S16896x2 1 (FloatOps.cmpfTotal .gt) (res_main_v42 V0) sliceFits_S16896x8_S16896x2).1

set_option maxRecDepth 8192 in
/-- `main_v49`'s composed term of the arguments (named: it is used 2 times). -/
def res_main_v49 (V0 : Valuation τ sig (Elt F)) : (Proc.devRef .tc main_v49 : DevRef τ sig).ty.Contents (Elt F) :=
  Host.exp (subf (res_main_values V0) (broadcastInDim S16896x2 ![0, 1] bcast_S16896x1_S16896x2_0_1 (broadcastInDim S16896x1 ![0] bcast_S16896_S16896x1_0 (maximumf (broadcastInDim S16896 ![] bcast_S_S16896 (constant S_ .f32 0xFF800000#32)) (Host.reduce FloatOps.maximumf (res_main_values V0) (constant S_ .f32 0xFF800000#32) reducesTo_S16896x2_S16896_d1 h_S_)))))

set_option maxRecDepth 8192 in
/-- `main_v66`'s composed term of the arguments (named: it is used 4 times). -/
def res_main_v66 (V0 : Valuation τ sig (Elt F)) : (Proc.devRef .tc main_v66 : DevRef τ sig).ty.Contents (Elt F) :=
  mulf (broadcastInDim S16896x4x8 ![0, 1, 2] bcast_S16896x4x1_S16896x4x8_0_1_2 (broadcastInDim S16896x4x1 ![0, 1] bcast_S16896x4_S16896x4x1_0_1 (uitofp .f32 (cmpi .eq (broadcastInDim S16896x4 ![0, 1] bcast_S16896x1_S16896x4_0_1 (broadcastInDim S16896x1 ![0] bcast_S16896_S16896x1_0 (res_main_v32 V0))) (broadcastInDim S16896x4 ![0, 1] bcast_S1x4_S16896x4_0_1 (iotaInDim S1x4 32 1)))))) (broadcastInDim S16896x4x8 ![0, 1, 2] bcast_S16896x1x8_S16896x4x8_0_1_2 (broadcastInDim S16896x1x8 ![0, 2] bcast_S16896x8_S16896x1x8_0_2 (mulf (broadcastInDim S16896x8 ![0, 1] bcast_S16896x1_S16896x8_0_1 (select (Host.reduce IntOp.andi (andi (cmpi .sge (res_main_call1_v5 V0) (broadcastInDim S16896x1x1 ![] bcast_S_S16896x1x1 (constantI S_ 32 0#32))) (cmpi .sle (res_main_call1_v5 V0) (broadcastInDim S16896x1x1 ![0, 1, 2] bcast_S1x1x1_S16896x1x1_0_1_2 (broadcastInDim S1x1x1 ![2] bcast_S1_S1x1x1_2 (constantI S1 32 3#32))))) (constantI S_ 1 1#1) reducesTo_S16896x1x1_S16896x1_d2 h_S_) (Host.gather gather_S16896x4_S16896x1x1_S16896x1_n_1_0_0_1_2_11 (Host.divf (res_main_v27 V0) (broadcastInDim S16896x4 ![0, 1] bcast_S16896x1_S16896x4_0_1 (broadcastInDim S16896x1 ![0] bcast_S16896_S16896x1_0 (Host.reduceAdd (res_main_v27 V0) (constant S_ .f32 0x00000000#32) reducesTo_S16896x4_S16896_d1 h_S_)))) (res_main_call1_v5 V0)) (broadcastInDim S16896x1 ![] bcast_S_S16896x1 (constant S_ .f32 0x7FC00000#32)))) (Host.reduceAdd (mulf (uitofp .f32 (cmpi .eq (broadcastInDim S16896x2x8 ![0, 1, 2] bcast_S16896x2x1_S16896x2x8_0_1_2 (broadcastInDim S16896x2x1 ![0, 1] bcast_S16896x2_S16896x2x1_0_1 ((Host.topK S16896x2 1 (FloatOps.cmpfTotal .gt) (res_main_v42 V0) sliceFits_S16896x8_S16896x2).2))) (broadcastInDim S16896x2x8 ![0, 1, 2] bcast_S1x1x8_S16896x2x8_0_1_2 (iotaInDim S1x1x8 32 2)))) (broadcastInDim S16896x2x8 ![0, 1, 2] bcast_S16896x2x1_S16896x2x8_0_1_2 (broadcastInDim S16896x2x1 ![0, 1] bcast_S16896x2_S16896x2x1_0_1 (Host.divf (res_main_v49 V0) (broadcastInDim S16896x2 ![0, 1] bcast_S16896x1_S16896x2_0_1 (broadcastInDim S16896x1 ![0] bcast_S16896_S16896x1_0 (Host.reduceAdd (res_main_v49 V0) (constant S_ .f32 0x00000000#32) reducesTo_S16896x2_S16896_d1 h_S_))))))) (constant S_ .f32 0x00000000#32) reducesTo_S16896x2x8_S16896x8_d1 h_S_))))

set_option maxRecDepth 8192 in
/-- `main_v70`'s composed term of the arguments (named: it is used 2 times). -/
def res_main_v70 (V0 : Valuation τ sig (Elt F)) : (Proc.devRef .tc main_v70 : DevRef τ sig).ty.Contents (Elt F) :=
  Host.dotGeneral dot_S16896x1024_S8x1024x256_S16896x8x256_1_1_0_02_n_n none (res_main_v16 V0) (shapeCast _ (extractStridedSlice S1x8x1024x256 ![0, 0, 0, 0] (V0 (Proc.devRef .tc main_arg9)) slices_S4x8x1024x256_S1x8x1024x256_0_0_0_0) shapeCasts_S1x8x1024x256_S8x1024x256)

set_option maxRecDepth 8192 in
/-- `main_v87`'s composed term of the arguments (named: it is used 2 times). -/
def res_main_v87 (V0 : Valuation τ sig (Elt F)) : (Proc.devRef .tc main_v87 : DevRef τ sig).ty.Contents (Elt F) :=
  Host.dotGeneral dot_S16896x1024_S8x1024x256_S16896x8x256_1_1_0_02_n_n none (res_main_v16 V0) (shapeCast _ (extractStridedSlice S1x8x1024x256 ![1, 0, 0, 0] (V0 (Proc.devRef .tc main_arg9)) slices_S4x8x1024x256_S1x8x1024x256_1_0_0_0) shapeCasts_S1x8x1024x256_S8x1024x256)

set_option maxRecDepth 8192 in
/-- `main_v104`'s composed term of the arguments (named: it is used 2 times). -/
def res_main_v104 (V0 : Valuation τ sig (Elt F)) : (Proc.devRef .tc main_v104 : DevRef τ sig).ty.Contents (Elt F) :=
  Host.dotGeneral dot_S16896x1024_S8x1024x256_S16896x8x256_1_1_0_02_n_n none (res_main_v16 V0) (shapeCast _ (extractStridedSlice S1x8x1024x256 ![2, 0, 0, 0] (V0 (Proc.devRef .tc main_arg9)) slices_S4x8x1024x256_S1x8x1024x256_2_0_0_0) shapeCasts_S1x8x1024x256_S8x1024x256)

set_option maxRecDepth 8192 in
/-- `main_v121`'s composed term of the arguments (named: it is used 2 times). -/
def res_main_v121 (V0 : Valuation τ sig (Elt F)) : (Proc.devRef .tc main_v121 : DevRef τ sig).ty.Contents (Elt F) :=
  Host.dotGeneral dot_S16896x1024_S8x1024x256_S16896x8x256_1_1_0_02_n_n none (res_main_v16 V0) (shapeCast _ (extractStridedSlice S1x8x1024x256 ![3, 0, 0, 0] (V0 (Proc.devRef .tc main_arg9)) slices_S4x8x1024x256_S1x8x1024x256_3_0_0_0) shapeCasts_S1x8x1024x256_S8x1024x256)

set_option maxRecDepth 8192 in
/-- `main_v135`'s composed term of the arguments (named: it is long). -/
def res_main_v135 (V0 : Valuation τ sig (Elt F)) : (Proc.devRef .tc main_v135 : DevRef τ sig).ty.Contents (Elt F) :=
  addf (addf (addf (addf (broadcastInDim S16896x1024 ![] bcast_S_S16896x1024 (constant S_ .f32 0x00000000#32)) (Host.dotGeneral dot_S16896x8x256_S8x256x1024_S16896x1024_12_01_0_2_n_n none (mulf (mulf (mulf (res_main_v70 V0) (Host.divf (broadcastInDim S16896x8x256 ![] bcast_S_S16896x8x256 (constant S_ .f32 0x3F800000#32)) (addf (broadcastInDim S16896x8x256 ![] bcast_S_S16896x8x256 (constant S_ .f32 0x3F800000#32)) (Host.exp (Host.negf (res_main_v70 V0)))))) (Host.dotGeneral dot_S16896x1024_S8x1024x256_S16896x8x256_1_1_0_02_n_n none (res_main_v16 V0) (shapeCast _ (extractStridedSlice S1x8x1024x256 ![0, 0, 0, 0] (V0 (Proc.devRef .tc main_arg10)) slices_S4x8x1024x256_S1x8x1024x256_0_0_0_0) shapeCasts_S1x8x1024x256_S8x1024x256))) (broadcastInDim S16896x8x256 ![0, 1, 2] bcast_S16896x8x1_S16896x8x256_0_1_2 (broadcastInDim S16896x8x1 ![0, 1] bcast_S16896x8_S16896x8x1_0_1 (shapeCast _ (extractStridedSlice S16896x1x8 ![0, 0, 0] (res_main_v66 V0) slices_S16896x4x8_S16896x1x8_0_0_0) shapeCasts_S16896x1x8_S16896x8)))) (shapeCast _ (extractStridedSlice S1x8x256x1024 ![0, 0, 0, 0] (V0 (Proc.devRef .tc main_arg11)) slices_S4x8x256x1024_S1x8x256x1024_0_0_0_0) shapeCasts_S1x8x256x1024_S8x256x1024))) (Host.dotGeneral dot_S16896x8x256_S8x256x1024_S16896x1024_12_01_0_2_n_n none (mulf (mulf (mulf (res_main_v87 V0) (Host.divf (broadcastInDim S16896x8x256 ![] bcast_S_S16896x8x256 (constant S_ .f32 0x3F800000#32)) (addf (broadcastInDim S16896x8x256 ![] bcast_S_S16896x8x256 (constant S_ .f32 0x3F800000#32)) (Host.exp (Host.negf (res_main_v87 V0)))))) (Host.dotGeneral dot_S16896x1024_S8x1024x256_S16896x8x256_1_1_0_02_n_n none (res_main_v16 V0) (shapeCast _ (extractStridedSlice S1x8x1024x256 ![1, 0, 0, 0] (V0 (Proc.devRef .tc main_arg10)) slices_S4x8x1024x256_S1x8x1024x256_1_0_0_0) shapeCasts_S1x8x1024x256_S8x1024x256))) (broadcastInDim S16896x8x256 ![0, 1, 2] bcast_S16896x8x1_S16896x8x256_0_1_2 (broadcastInDim S16896x8x1 ![0, 1] bcast_S16896x8_S16896x8x1_0_1 (shapeCast _ (extractStridedSlice S16896x1x8 ![0, 1, 0] (res_main_v66 V0) slices_S16896x4x8_S16896x1x8_0_1_0) shapeCasts_S16896x1x8_S16896x8)))) (shapeCast _ (extractStridedSlice S1x8x256x1024 ![1, 0, 0, 0] (V0 (Proc.devRef .tc main_arg11)) slices_S4x8x256x1024_S1x8x256x1024_1_0_0_0) shapeCasts_S1x8x256x1024_S8x256x1024))) (Host.dotGeneral dot_S16896x8x256_S8x256x1024_S16896x1024_12_01_0_2_n_n none (mulf (mulf (mulf (res_main_v104 V0) (Host.divf (broadcastInDim S16896x8x256 ![] bcast_S_S16896x8x256 (constant S_ .f32 0x3F800000#32)) (addf (broadcastInDim S16896x8x256 ![] bcast_S_S16896x8x256 (constant S_ .f32 0x3F800000#32)) (Host.exp (Host.negf (res_main_v104 V0)))))) (Host.dotGeneral dot_S16896x1024_S8x1024x256_S16896x8x256_1_1_0_02_n_n none (res_main_v16 V0) (shapeCast _ (extractStridedSlice S1x8x1024x256 ![2, 0, 0, 0] (V0 (Proc.devRef .tc main_arg10)) slices_S4x8x1024x256_S1x8x1024x256_2_0_0_0) shapeCasts_S1x8x1024x256_S8x1024x256))) (broadcastInDim S16896x8x256 ![0, 1, 2] bcast_S16896x8x1_S16896x8x256_0_1_2 (broadcastInDim S16896x8x1 ![0, 1] bcast_S16896x8_S16896x8x1_0_1 (shapeCast _ (extractStridedSlice S16896x1x8 ![0, 2, 0] (res_main_v66 V0) slices_S16896x4x8_S16896x1x8_0_2_0) shapeCasts_S16896x1x8_S16896x8)))) (shapeCast _ (extractStridedSlice S1x8x256x1024 ![2, 0, 0, 0] (V0 (Proc.devRef .tc main_arg11)) slices_S4x8x256x1024_S1x8x256x1024_2_0_0_0) shapeCasts_S1x8x256x1024_S8x256x1024))) (Host.dotGeneral dot_S16896x8x256_S8x256x1024_S16896x1024_12_01_0_2_n_n none (mulf (mulf (mulf (res_main_v121 V0) (Host.divf (broadcastInDim S16896x8x256 ![] bcast_S_S16896x8x256 (constant S_ .f32 0x3F800000#32)) (addf (broadcastInDim S16896x8x256 ![] bcast_S_S16896x8x256 (constant S_ .f32 0x3F800000#32)) (Host.exp (Host.negf (res_main_v121 V0)))))) (Host.dotGeneral dot_S16896x1024_S8x1024x256_S16896x8x256_1_1_0_02_n_n none (res_main_v16 V0) (shapeCast _ (extractStridedSlice S1x8x1024x256 ![3, 0, 0, 0] (V0 (Proc.devRef .tc main_arg10)) slices_S4x8x1024x256_S1x8x1024x256_3_0_0_0) shapeCasts_S1x8x1024x256_S8x1024x256))) (broadcastInDim S16896x8x256 ![0, 1, 2] bcast_S16896x8x1_S16896x8x256_0_1_2 (broadcastInDim S16896x8x1 ![0, 1] bcast_S16896x8_S16896x8x1_0_1 (shapeCast _ (extractStridedSlice S16896x1x8 ![0, 3, 0] (res_main_v66 V0) slices_S16896x4x8_S16896x1x8_0_3_0) shapeCasts_S16896x1x8_S16896x8)))) (shapeCast _ (extractStridedSlice S1x8x256x1024 ![3, 0, 0, 0] (V0 (Proc.devRef .tc main_arg11)) slices_S4x8x256x1024_S1x8x256x1024_3_0_0_0) shapeCasts_S1x8x256x1024_S8x256x1024))

/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl
theorem val0_main_arg5 (V0 : Valuation τ sig (Elt F)) : val0 V0 (no_index (Proc.devRef .tc main_arg5)) = V0 (Proc.devRef .tc main_arg5) := rfl
theorem val0_main_arg6 (V0 : Valuation τ sig (Elt F)) : val0 V0 (no_index (Proc.devRef .tc main_arg6)) = V0 (Proc.devRef .tc main_arg6) := rfl
theorem val0_main_arg7 (V0 : Valuation τ sig (Elt F)) : val0 V0 (no_index (Proc.devRef .tc main_arg7)) = V0 (Proc.devRef .tc main_arg7) := rfl
theorem val0_main_arg8 (V0 : Valuation τ sig (Elt F)) : val0 V0 (no_index (Proc.devRef .tc main_arg8)) = V0 (Proc.devRef .tc main_arg8) := rfl
theorem val0_main_arg9 (V0 : Valuation τ sig (Elt F)) : val0 V0 (no_index (Proc.devRef .tc main_arg9)) = V0 (Proc.devRef .tc main_arg9) := rfl
theorem val0_main_arg10 (V0 : Valuation τ sig (Elt F)) : val0 V0 (no_index (Proc.devRef .tc main_arg10)) = V0 (Proc.devRef .tc main_arg10) := rfl
theorem val0_main_arg11 (V0 : Valuation τ sig (Elt F)) : val0 V0 (no_index (Proc.devRef .tc main_arg11)) = V0 (Proc.devRef .tc main_arg11) := rfl

/-- The device's buffer contents after @main's first 30 operations. -/
def val0_1 (V0 : Valuation τ sig (Elt F)) : Valuation τ sig (Elt F) := after ops_part0_0 (val0 V0)
/-- The buffers that window `ops_part0_0`'s operations write. -/
abbrev ops_part0_0_W : List (Ref sig .tc) := [main_v0, main_v1, main_v2, main_v3, main_v4, main_cst, main_v5, main_v6, main_cst_0, main_v7, main_v8, main_cst_1, main_v9, main_v10, main_v11, main_v12, main_v13, main_v14, main_v15, main_v16, main_v17, main_v18, main_v19, main_v20, main_cst_2, main_v21, main_cst_3, main_v22, main_v23, main_v24]
set_option maxRecDepth 8192 in
theorem ops_part0_0_writes : (ops_part0_0 : List (HloOp τ sig (Elt F))).Forall fun op => op.writes ⊆ (ops_part0_0_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part0_0` does not write keeps its contents through it. -/
theorem val0_1_keep (V0 : Valuation τ sig (Elt F)) (r : Ref sig .tc) (h : r ∉ ops_part0_0_W) :
    val0_1 V0 (Proc.devRef .tc r) = val0 V0 (Proc.devRef .tc r) :=
  after_of_writes_sub ops_part0_0 _ ops_part0_0_writes h
theorem val0_1_main_arg0 (V0 : Valuation τ sig (Elt F)) : val0_1 V0 (no_index (Proc.devRef .tc main_arg0)) = V0 (Proc.devRef .tc main_arg0) :=
  (val0_1_keep V0 main_arg0 (by decide)).trans (val0_main_arg0 V0)
theorem val0_1_main_arg1 (V0 : Valuation τ sig (Elt F)) : val0_1 V0 (no_index (Proc.devRef .tc main_arg1)) = V0 (Proc.devRef .tc main_arg1) :=
  (val0_1_keep V0 main_arg1 (by decide)).trans (val0_main_arg1 V0)
theorem val0_1_main_arg2 (V0 : Valuation τ sig (Elt F)) : val0_1 V0 (no_index (Proc.devRef .tc main_arg2)) = V0 (Proc.devRef .tc main_arg2) :=
  (val0_1_keep V0 main_arg2 (by decide)).trans (val0_main_arg2 V0)
theorem val0_1_main_arg3 (V0 : Valuation τ sig (Elt F)) : val0_1 V0 (no_index (Proc.devRef .tc main_arg3)) = V0 (Proc.devRef .tc main_arg3) :=
  (val0_1_keep V0 main_arg3 (by decide)).trans (val0_main_arg3 V0)
theorem val0_1_main_arg4 (V0 : Valuation τ sig (Elt F)) : val0_1 V0 (no_index (Proc.devRef .tc main_arg4)) = V0 (Proc.devRef .tc main_arg4) :=
  (val0_1_keep V0 main_arg4 (by decide)).trans (val0_main_arg4 V0)
theorem val0_1_main_arg5 (V0 : Valuation τ sig (Elt F)) : val0_1 V0 (no_index (Proc.devRef .tc main_arg5)) = V0 (Proc.devRef .tc main_arg5) :=
  (val0_1_keep V0 main_arg5 (by decide)).trans (val0_main_arg5 V0)
theorem val0_1_main_arg6 (V0 : Valuation τ sig (Elt F)) : val0_1 V0 (no_index (Proc.devRef .tc main_arg6)) = V0 (Proc.devRef .tc main_arg6) :=
  (val0_1_keep V0 main_arg6 (by decide)).trans (val0_main_arg6 V0)
theorem val0_1_main_arg7 (V0 : Valuation τ sig (Elt F)) : val0_1 V0 (no_index (Proc.devRef .tc main_arg7)) = V0 (Proc.devRef .tc main_arg7) :=
  (val0_1_keep V0 main_arg7 (by decide)).trans (val0_main_arg7 V0)
theorem val0_1_main_arg8 (V0 : Valuation τ sig (Elt F)) : val0_1 V0 (no_index (Proc.devRef .tc main_arg8)) = V0 (Proc.devRef .tc main_arg8) :=
  (val0_1_keep V0 main_arg8 (by decide)).trans (val0_main_arg8 V0)
theorem val0_1_main_arg9 (V0 : Valuation τ sig (Elt F)) : val0_1 V0 (no_index (Proc.devRef .tc main_arg9)) = V0 (Proc.devRef .tc main_arg9) :=
  (val0_1_keep V0 main_arg9 (by decide)).trans (val0_main_arg9 V0)
theorem val0_1_main_arg10 (V0 : Valuation τ sig (Elt F)) : val0_1 V0 (no_index (Proc.devRef .tc main_arg10)) = V0 (Proc.devRef .tc main_arg10) :=
  (val0_1_keep V0 main_arg10 (by decide)).trans (val0_main_arg10 V0)
theorem val0_1_main_arg11 (V0 : Valuation τ sig (Elt F)) : val0_1 V0 (no_index (Proc.devRef .tc main_arg11)) = V0 (Proc.devRef .tc main_arg11) :=
  (val0_1_keep V0 main_arg11 (by decide)).trans (val0_main_arg11 V0)
set_option maxRecDepth 8192 in
set_option maxHeartbeats 2000000 in
theorem val0_1_main_v3 (V0 : Valuation τ sig (Elt F)) : val0_1 V0 (no_index (Proc.devRef .tc main_v3)) = res_main_v3 V0 := by
  unfold val0_1
  simp only [ops_part0_0]
  after_results_simp
  simp only [val0_main_arg3, val0_main_arg2, val0_main_arg1, val0_main_arg0] <;> rfl
set_option maxRecDepth 8192 in
set_option maxHeartbeats 2000000 in
theorem val0_1_main_v16 (V0 : Valuation τ sig (Elt F)) : val0_1 V0 (no_index (Proc.devRef .tc main_v16)) = res_main_v16 V0 := by
  unfold val0_1
  simp only [ops_part0_0]
  after_results_simp
  simp only [val0_main_arg4, val0_main_arg3, val0_main_arg2, val0_main_arg1, val0_main_arg0] <;> rfl
set_option maxRecDepth 8192 in
set_option maxHeartbeats 2000000 in
theorem val0_1_main_v20 (V0 : Valuation τ sig (Elt F)) : val0_1 V0 (no_index (Proc.devRef .tc main_v20)) = res_main_v20 V0 := by
  unfold val0_1
  simp only [ops_part0_0]
  after_results_simp
  simp only [val0_main_arg6, val0_main_arg5, val0_main_arg4, val0_main_arg3, val0_main_arg2, val0_main_arg1, val0_main_arg0] <;> rfl
set_option maxRecDepth 8192 in
set_option maxHeartbeats 2000000 in
theorem val0_1_main_v24 (V0 : Valuation τ sig (Elt F)) : val0_1 V0 (no_index (Proc.devRef .tc main_v24)) = broadcastInDim S16896x1 ![0] bcast_S16896_S16896x1_0 (maximumf (broadcastInDim S16896 ![] bcast_S_S16896 (constant S_ .f32 0xFF800000#32)) (Host.reduce FloatOps.maximumf (res_main_v20 V0) (constant S_ .f32 0xFF800000#32) reducesTo_S16896x4_S16896_d1 h_S_)) := by
  unfold val0_1
  simp only [ops_part0_0]
  after_results_simp
  simp only [val0_main_arg6, val0_main_arg5, val0_main_arg4, val0_main_arg3, val0_main_arg2, val0_main_arg1, val0_main_arg0] <;> rfl

/-- The device's buffer contents after @main's first 60 operations. -/
def val0_2 (V0 : Valuation τ sig (Elt F)) : Valuation τ sig (Elt F) := after ops_part0_1 (val0_1 V0)
/-- The buffers that window `ops_part0_1`'s operations write. -/
abbrev ops_part0_1_W : List (Ref sig .tc) := [main_v25, main_v26, main_v27, main_cst_4, main_v28, main_v29, main_v30, main_v31, main_call0_v0, main_call0_cst, main_call0_c, main_call0_v1_0, main_v32, main_v33, main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11]
set_option maxRecDepth 8192 in
theorem ops_part0_1_writes : (ops_part0_1 : List (HloOp τ sig (Elt F))).Forall fun op => op.writes ⊆ (ops_part0_1_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part0_1` does not write keeps its contents through it. -/
theorem val0_2_keep (V0 : Valuation τ sig (Elt F)) (r : Ref sig .tc) (h : r ∉ ops_part0_1_W) :
    val0_2 V0 (Proc.devRef .tc r) = val0_1 V0 (Proc.devRef .tc r) :=
  after_of_writes_sub ops_part0_1 _ ops_part0_1_writes h
theorem val0_2_main_arg0 (V0 : Valuation τ sig (Elt F)) : val0_2 V0 (no_index (Proc.devRef .tc main_arg0)) = V0 (Proc.devRef .tc main_arg0) :=
  (val0_2_keep V0 main_arg0 (by decide)).trans (val0_1_main_arg0 V0)
theorem val0_2_main_arg1 (V0 : Valuation τ sig (Elt F)) : val0_2 V0 (no_index (Proc.devRef .tc main_arg1)) = V0 (Proc.devRef .tc main_arg1) :=
  (val0_2_keep V0 main_arg1 (by decide)).trans (val0_1_main_arg1 V0)
theorem val0_2_main_arg2 (V0 : Valuation τ sig (Elt F)) : val0_2 V0 (no_index (Proc.devRef .tc main_arg2)) = V0 (Proc.devRef .tc main_arg2) :=
  (val0_2_keep V0 main_arg2 (by decide)).trans (val0_1_main_arg2 V0)
theorem val0_2_main_arg3 (V0 : Valuation τ sig (Elt F)) : val0_2 V0 (no_index (Proc.devRef .tc main_arg3)) = V0 (Proc.devRef .tc main_arg3) :=
  (val0_2_keep V0 main_arg3 (by decide)).trans (val0_1_main_arg3 V0)
theorem val0_2_main_arg4 (V0 : Valuation τ sig (Elt F)) : val0_2 V0 (no_index (Proc.devRef .tc main_arg4)) = V0 (Proc.devRef .tc main_arg4) :=
  (val0_2_keep V0 main_arg4 (by decide)).trans (val0_1_main_arg4 V0)
theorem val0_2_main_arg5 (V0 : Valuation τ sig (Elt F)) : val0_2 V0 (no_index (Proc.devRef .tc main_arg5)) = V0 (Proc.devRef .tc main_arg5) :=
  (val0_2_keep V0 main_arg5 (by decide)).trans (val0_1_main_arg5 V0)
theorem val0_2_main_arg6 (V0 : Valuation τ sig (Elt F)) : val0_2 V0 (no_index (Proc.devRef .tc main_arg6)) = V0 (Proc.devRef .tc main_arg6) :=
  (val0_2_keep V0 main_arg6 (by decide)).trans (val0_1_main_arg6 V0)
theorem val0_2_main_arg7 (V0 : Valuation τ sig (Elt F)) : val0_2 V0 (no_index (Proc.devRef .tc main_arg7)) = V0 (Proc.devRef .tc main_arg7) :=
  (val0_2_keep V0 main_arg7 (by decide)).trans (val0_1_main_arg7 V0)
theorem val0_2_main_arg8 (V0 : Valuation τ sig (Elt F)) : val0_2 V0 (no_index (Proc.devRef .tc main_arg8)) = V0 (Proc.devRef .tc main_arg8) :=
  (val0_2_keep V0 main_arg8 (by decide)).trans (val0_1_main_arg8 V0)
theorem val0_2_main_arg9 (V0 : Valuation τ sig (Elt F)) : val0_2 V0 (no_index (Proc.devRef .tc main_arg9)) = V0 (Proc.devRef .tc main_arg9) :=
  (val0_2_keep V0 main_arg9 (by decide)).trans (val0_1_main_arg9 V0)
theorem val0_2_main_arg10 (V0 : Valuation τ sig (Elt F)) : val0_2 V0 (no_index (Proc.devRef .tc main_arg10)) = V0 (Proc.devRef .tc main_arg10) :=
  (val0_2_keep V0 main_arg10 (by decide)).trans (val0_1_main_arg10 V0)
theorem val0_2_main_arg11 (V0 : Valuation τ sig (Elt F)) : val0_2 V0 (no_index (Proc.devRef .tc main_arg11)) = V0 (Proc.devRef .tc main_arg11) :=
  (val0_2_keep V0 main_arg11 (by decide)).trans (val0_1_main_arg11 V0)
theorem val0_2_main_v3 (V0 : Valuation τ sig (Elt F)) : val0_2 V0 (no_index (Proc.devRef .tc main_v3)) = res_main_v3 V0 :=
  (val0_2_keep V0 main_v3 (by decide)).trans (val0_1_main_v3 V0)
theorem val0_2_main_v16 (V0 : Valuation τ sig (Elt F)) : val0_2 V0 (no_index (Proc.devRef .tc main_v16)) = res_main_v16 V0 :=
  (val0_2_keep V0 main_v16 (by decide)).trans (val0_1_main_v16 V0)
set_option maxRecDepth 8192 in
set_option maxHeartbeats 2000000 in
theorem val0_2_main_v31 (V0 : Valuation τ sig (Elt F)) : val0_2 V0 (no_index (Proc.devRef .tc main_v31)) = Host.divf (res_main_v27 V0) (broadcastInDim S16896x4 ![0, 1] bcast_S16896x1_S16896x4_0_1 (broadcastInDim S16896x1 ![0] bcast_S16896_S16896x1_0 (Host.reduceAdd (res_main_v27 V0) (constant S_ .f32 0x00000000#32) reducesTo_S16896x4_S16896_d1 h_S_))) := by
  unfold val0_2
  simp only [ops_part0_1, TRef.binary, TRef.nullary, TRef.quaternary, TRef.reshape, TRef.ternary, TRef.unary, TRef.toBuf, TRef.ofBuf, cast_eq]
  after_results_simp
  simp only [val0_1_main_v24, val0_1_main_v20] <;> rfl
set_option maxRecDepth 8192 in
set_option maxHeartbeats 2000000 in
theorem val0_2_main_v32 (V0 : Valuation τ sig (Elt F)) : val0_2 V0 (no_index (Proc.devRef .tc main_v32)) = res_main_v32 V0 := by
  unfold val0_2
  simp only [ops_part0_1, TRef.binary, TRef.nullary, TRef.quaternary, TRef.reshape, TRef.ternary, TRef.unary, TRef.toBuf, TRef.ofBuf, cast_eq]
  after_results_simp
  simp only [val0_1_main_v20] <;> rfl
set_option maxRecDepth 8192 in
set_option maxHeartbeats 2000000 in
theorem val0_2_main_call1_v5 (V0 : Valuation τ sig (Elt F)) : val0_2 V0 (no_index (Proc.devRef .tc main_call1_v5)) = res_main_call1_v5 V0 := by
  unfold val0_2
  simp only [ops_part0_1, TRef.binary, TRef.nullary, TRef.quaternary, TRef.reshape, TRef.ternary, TRef.unary, TRef.toBuf, TRef.ofBuf, cast_eq]
  after_results_simp
  simp only [val0_1_main_v20] <;> rfl
set_option maxRecDepth 8192 in
set_option maxHeartbeats 2000000 in
theorem val0_2_main_call1_v11 (V0 : Valuation τ sig (Elt F)) : val0_2 V0 (no_index (Proc.devRef .tc main_call1_v11)) = andi (cmpi .sge (res_main_call1_v5 V0) (broadcastInDim S16896x1x1 ![] bcast_S_S16896x1x1 (constantI S_ 32 0#32))) (cmpi .sle (res_main_call1_v5 V0) (broadcastInDim S16896x1x1 ![0, 1, 2] bcast_S1x1x1_S16896x1x1_0_1_2 (broadcastInDim S1x1x1 ![2] bcast_S1_S1x1x1_2 (constantI S1 32 3#32)))) := by
  unfold val0_2
  simp only [ops_part0_1, TRef.binary, TRef.nullary, TRef.quaternary, TRef.reshape, TRef.ternary, TRef.unary, TRef.toBuf, TRef.ofBuf, cast_eq]
  after_results_simp
  simp only [val0_1_main_v20] <;> rfl

/-- The device's buffer contents after @main's first 90 operations. -/
def val0_3 (V0 : Valuation τ sig (Elt F)) : Valuation τ sig (Elt F) := after ops_part0_2 (val0_2 V0)
/-- The buffers that window `ops_part0_2`'s operations write. -/
abbrev ops_part0_2_W : List (Ref sig .tc) := [main_call1_c_3, main_call1_v12, main_call1_v13, main_call1_cst, main_call1_v14, main_v34, main_v35, main_v36, main_v37, main_v38, main_v39, main_v40, main_call2_c, main_call2_v0, main_call2_v1, main_call2_c_0, main_call2_v2, main_call2_v3, main_call2_v4, main_call2_c_1, main_call2_c_2, main_call2_v5, main_call2_v6, main_call2_v7, main_call2_v8, main_call2_v9, main_call2_v10, main_call2_c_3, main_call2_v11, main_call2_v12]
set_option maxRecDepth 8192 in
theorem ops_part0_2_writes : (ops_part0_2 : List (HloOp τ sig (Elt F))).Forall fun op => op.writes ⊆ (ops_part0_2_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part0_2` does not write keeps its contents through it. -/
theorem val0_3_keep (V0 : Valuation τ sig (Elt F)) (r : Ref sig .tc) (h : r ∉ ops_part0_2_W) :
    val0_3 V0 (Proc.devRef .tc r) = val0_2 V0 (Proc.devRef .tc r) :=
  after_of_writes_sub ops_part0_2 _ ops_part0_2_writes h
theorem val0_3_main_arg0 (V0 : Valuation τ sig (Elt F)) : val0_3 V0 (no_index (Proc.devRef .tc main_arg0)) = V0 (Proc.devRef .tc main_arg0) :=
  (val0_3_keep V0 main_arg0 (by decide)).trans (val0_2_main_arg0 V0)
theorem val0_3_main_arg1 (V0 : Valuation τ sig (Elt F)) : val0_3 V0 (no_index (Proc.devRef .tc main_arg1)) = V0 (Proc.devRef .tc main_arg1) :=
  (val0_3_keep V0 main_arg1 (by decide)).trans (val0_2_main_arg1 V0)
theorem val0_3_main_arg2 (V0 : Valuation τ sig (Elt F)) : val0_3 V0 (no_index (Proc.devRef .tc main_arg2)) = V0 (Proc.devRef .tc main_arg2) :=
  (val0_3_keep V0 main_arg2 (by decide)).trans (val0_2_main_arg2 V0)
theorem val0_3_main_arg3 (V0 : Valuation τ sig (Elt F)) : val0_3 V0 (no_index (Proc.devRef .tc main_arg3)) = V0 (Proc.devRef .tc main_arg3) :=
  (val0_3_keep V0 main_arg3 (by decide)).trans (val0_2_main_arg3 V0)
theorem val0_3_main_arg4 (V0 : Valuation τ sig (Elt F)) : val0_3 V0 (no_index (Proc.devRef .tc main_arg4)) = V0 (Proc.devRef .tc main_arg4) :=
  (val0_3_keep V0 main_arg4 (by decide)).trans (val0_2_main_arg4 V0)
theorem val0_3_main_arg5 (V0 : Valuation τ sig (Elt F)) : val0_3 V0 (no_index (Proc.devRef .tc main_arg5)) = V0 (Proc.devRef .tc main_arg5) :=
  (val0_3_keep V0 main_arg5 (by decide)).trans (val0_2_main_arg5 V0)
theorem val0_3_main_arg6 (V0 : Valuation τ sig (Elt F)) : val0_3 V0 (no_index (Proc.devRef .tc main_arg6)) = V0 (Proc.devRef .tc main_arg6) :=
  (val0_3_keep V0 main_arg6 (by decide)).trans (val0_2_main_arg6 V0)
theorem val0_3_main_arg7 (V0 : Valuation τ sig (Elt F)) : val0_3 V0 (no_index (Proc.devRef .tc main_arg7)) = V0 (Proc.devRef .tc main_arg7) :=
  (val0_3_keep V0 main_arg7 (by decide)).trans (val0_2_main_arg7 V0)
theorem val0_3_main_arg8 (V0 : Valuation τ sig (Elt F)) : val0_3 V0 (no_index (Proc.devRef .tc main_arg8)) = V0 (Proc.devRef .tc main_arg8) :=
  (val0_3_keep V0 main_arg8 (by decide)).trans (val0_2_main_arg8 V0)
theorem val0_3_main_arg9 (V0 : Valuation τ sig (Elt F)) : val0_3 V0 (no_index (Proc.devRef .tc main_arg9)) = V0 (Proc.devRef .tc main_arg9) :=
  (val0_3_keep V0 main_arg9 (by decide)).trans (val0_2_main_arg9 V0)
theorem val0_3_main_arg10 (V0 : Valuation τ sig (Elt F)) : val0_3 V0 (no_index (Proc.devRef .tc main_arg10)) = V0 (Proc.devRef .tc main_arg10) :=
  (val0_3_keep V0 main_arg10 (by decide)).trans (val0_2_main_arg10 V0)
theorem val0_3_main_arg11 (V0 : Valuation τ sig (Elt F)) : val0_3 V0 (no_index (Proc.devRef .tc main_arg11)) = V0 (Proc.devRef .tc main_arg11) :=
  (val0_3_keep V0 main_arg11 (by decide)).trans (val0_2_main_arg11 V0)
theorem val0_3_main_v3 (V0 : Valuation τ sig (Elt F)) : val0_3 V0 (no_index (Proc.devRef .tc main_v3)) = res_main_v3 V0 :=
  (val0_3_keep V0 main_v3 (by decide)).trans (val0_2_main_v3 V0)
theorem val0_3_main_v16 (V0 : Valuation τ sig (Elt F)) : val0_3 V0 (no_index (Proc.devRef .tc main_v16)) = res_main_v16 V0 :=
  (val0_3_keep V0 main_v16 (by decide)).trans (val0_2_main_v16 V0)
theorem val0_3_main_v32 (V0 : Valuation τ sig (Elt F)) : val0_3 V0 (no_index (Proc.devRef .tc main_v32)) = res_main_v32 V0 :=
  (val0_3_keep V0 main_v32 (by decide)).trans (val0_2_main_v32 V0)
set_option maxRecDepth 8192 in
set_option maxHeartbeats 2000000 in
theorem val0_3_main_v34 (V0 : Valuation τ sig (Elt F)) : val0_3 V0 (no_index (Proc.devRef .tc main_v34)) = select (Host.reduce IntOp.andi (andi (cmpi .sge (res_main_call1_v5 V0) (broadcastInDim S16896x1x1 ![] bcast_S_S16896x1x1 (constantI S_ 32 0#32))) (cmpi .sle (res_main_call1_v5 V0) (broadcastInDim S16896x1x1 ![0, 1, 2] bcast_S1x1x1_S16896x1x1_0_1_2 (broadcastInDim S1x1x1 ![2] bcast_S1_S1x1x1_2 (constantI S1 32 3#32))))) (constantI S_ 1 1#1) reducesTo_S16896x1x1_S16896x1_d2 h_S_) (Host.gather gather_S16896x4_S16896x1x1_S16896x1_n_1_0_0_1_2_11 (Host.divf (res_main_v27 V0) (broadcastInDim S16896x4 ![0, 1] bcast_S16896x1_S16896x4_0_1 (broadcastInDim S16896x1 ![0] bcast_S16896_S16896x1_0 (Host.reduceAdd (res_main_v27 V0) (constant S_ .f32 0x00000000#32) reducesTo_S16896x4_S16896_d1 h_S_)))) (res_main_call1_v5 V0)) (broadcastInDim S16896x1 ![] bcast_S_S16896x1 (constant S_ .f32 0x7FC00000#32)) := by
  unfold val0_3
  simp only [ops_part0_2, TRef.binary, TRef.nullary, TRef.ternary, TRef.unary, TRef.toBuf, TRef.ofBuf, cast_eq]
  after_results_simp
  simp only [val0_2_main_call1_v5, val0_2_main_v31, val0_2_main_call1_v11] <;> rfl
set_option maxRecDepth 8192 in
set_option maxHeartbeats 2000000 in
theorem val0_3_main_call2_v11 (V0 : Valuation τ sig (Elt F)) : val0_3 V0 (no_index (Proc.devRef .tc main_call2_v11)) = Host.reduce IntOp.andi (andi (cmpi .sge (res_main_call2_v4 V0) (broadcastInDim S16896x1x1 ![] bcast_S_S16896x1x1 (constantI S_ 32 0#32))) (cmpi .sle (res_main_call2_v4 V0) (broadcastInDim S16896x1x1 ![0, 1, 2] bcast_S1x1x1_S16896x1x1_0_1_2 (broadcastInDim S1x1x1 ![2] bcast_S1_S1x1x1_2 (constantI S1 32 3#32))))) (constantI S_ 1 1#1) reducesTo_S16896x1x1_S16896x1_d2 h_S_ := by
  unfold val0_3
  simp only [ops_part0_2, TRef.binary, TRef.nullary, TRef.ternary, TRef.unary, TRef.toBuf, TRef.ofBuf, cast_eq]
  after_results_simp
  simp only [val0_2_main_v32] <;> rfl
set_option maxRecDepth 8192 in
set_option maxHeartbeats 2000000 in
theorem val0_3_main_call2_v12 (V0 : Valuation τ sig (Elt F)) : val0_3 V0 (no_index (Proc.devRef .tc main_call2_v12)) = Host.gather gather_S16896x4x8_S16896x1x1_S16896x1x8_2_1_0_0_1_2_118 (shapeCast _ (addf (Host.dotGeneral dot_S16896x1024_S1024x32_S16896x32_1_0_0_1_n_n none (res_main_v16 V0) (V0 (Proc.devRef .tc main_arg7))) (broadcastInDim S16896x32 ![0, 1] bcast_S1x32_S16896x32_0_1 (broadcastInDim S1x32 ![1] bcast_S32_S1x32_1 (V0 (Proc.devRef .tc main_arg8))))) shapeCasts_S16896x32_S16896x4x8) (res_main_call2_v4 V0) := by
  unfold val0_3
  simp only [ops_part0_2, TRef.binary, TRef.nullary, TRef.ternary, TRef.unary, TRef.toBuf, TRef.ofBuf, cast_eq]
  after_results_simp
  simp only [val0_2_main_v32, val0_2_main_arg8, val0_2_main_arg7, val0_2_main_v16] <;> rfl

/-- The device's buffer contents after @main's first 1 window. -/
def val1 (V0 : Valuation τ sig (Elt F)) : Valuation τ sig (Elt F) := after ops_part0_3 (val0_3 V0)
/-- The buffers that window `ops_part0_3`'s operations write. -/
abbrev ops_part0_3_W : List (Ref sig .tc) := [main_call2_v13, main_call2_cst, main_call2_v14, main_v41, main_v42, main_values, main_indices, main_cst_5, main_v43, main_cst_6, main_v44, main_v45, main_v46, main_v47, main_v48, main_v49]
set_option maxRecDepth 8192 in
theorem ops_part0_3_writes : (ops_part0_3 : List (HloOp τ sig (Elt F))).Forall fun op => op.writes ⊆ (ops_part0_3_W.map (Proc.devRef (τ := τ) .tc)).toFinset := by
  simp only [List.Forall]; refine ⟨?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part0_3` does not write keeps its contents through it. -/
theorem val1_keep (V0 : Valuation τ sig (Elt F)) (r : Ref sig .tc) (h : r ∉ ops_part0_3_W) :
    val1 V0 (Proc.devRef .tc r) = val0_3 V0 (Proc.devRef .tc r) :=
  after_of_writes_sub ops_part0_3 _ ops_part0_3_writes h
theorem val1_main_arg0 (V0 : Valuation τ sig (Elt F)) : val1 V0 (no_index (Proc.devRef .tc main_arg0)) = V0 (Proc.devRef .tc main_arg0) :=
  (val1_keep V0 main_arg0 (by decide)).trans (val0_3_main_arg0 V0)
theorem val1_main_arg1 (V0 : Valuation τ sig (Elt F)) : val1 V0 (no_index (Proc.devRef .tc main_arg1)) = V0 (Proc.devRef .tc main_arg1) :=
  (val1_keep V0 main_arg1 (by decide)).trans (val0_3_main_arg1 V0)
theorem val1_main_arg2 (V0 : Valuation τ sig (Elt F)) : val1 V0 (no_index (Proc.devRef .tc main_arg2)) = V0 (Proc.devRef .tc main_arg2) :=
  (val1_keep V0 main_arg2 (by decide)).trans (val0_3_main_arg2 V0)
theorem val1_main_arg3 (V0 : Valuation τ sig (Elt F)) : val1 V0 (no_index (Proc.devRef .tc main_arg3)) = V0 (Proc.devRef .tc main_arg3) :=
  (val1_keep V0 main_arg3 (by decide)).trans (val0_3_main_arg3 V0)
theorem val1_main_arg4 (V0 : Valuation τ sig (Elt F)) : val1 V0 (no_index (Proc.devRef .tc main_arg4)) = V0 (Proc.devRef .tc main_arg4) :=
  (val1_keep V0 main_arg4 (by decide)).trans (val0_3_main_arg4 V0)
theorem val1_main_arg5 (V0 : Valuation τ sig (Elt F)) : val1 V0 (no_index (Proc.devRef .tc main_arg5)) = V0 (Proc.devRef .tc main_arg5) :=
  (val1_keep V0 main_arg5 (by decide)).trans (val0_3_main_arg5 V0)
theorem val1_main_arg6 (V0 : Valuation τ sig (Elt F)) : val1 V0 (no_index (Proc.devRef .tc main_arg6)) = V0 (Proc.devRef .tc main_arg6) :=
  (val1_keep V0 main_arg6 (by decide)).trans (val0_3_main_arg6 V0)
theorem val1_main_arg7 (V0 : Valuation τ sig (Elt F)) : val1 V0 (no_index (Proc.devRef .tc main_arg7)) = V0 (Proc.devRef .tc main_arg7) :=
  (val1_keep V0 main_arg7 (by decide)).trans (val0_3_main_arg7 V0)
theorem val1_main_arg8 (V0 : Valuation τ sig (Elt F)) : val1 V0 (no_index (Proc.devRef .tc main_arg8)) = V0 (Proc.devRef .tc main_arg8) :=
  (val1_keep V0 main_arg8 (by decide)).trans (val0_3_main_arg8 V0)
theorem val1_main_arg9 (V0 : Valuation τ sig (Elt F)) : val1 V0 (no_index (Proc.devRef .tc main_arg9)) = V0 (Proc.devRef .tc main_arg9) :=
  (val1_keep V0 main_arg9 (by decide)).trans (val0_3_main_arg9 V0)
theorem val1_main_arg10 (V0 : Valuation τ sig (Elt F)) : val1 V0 (no_index (Proc.devRef .tc main_arg10)) = V0 (Proc.devRef .tc main_arg10) :=
  (val1_keep V0 main_arg10 (by decide)).trans (val0_3_main_arg10 V0)
theorem val1_main_arg11 (V0 : Valuation τ sig (Elt F)) : val1 V0 (no_index (Proc.devRef .tc main_arg11)) = V0 (Proc.devRef .tc main_arg11) :=
  (val1_keep V0 main_arg11 (by decide)).trans (val0_3_main_arg11 V0)
theorem val1_main_v3 (V0 : Valuation τ sig (Elt F)) : val1 V0 (no_index (Proc.devRef .tc main_v3)) = res_main_v3 V0 :=
  (val1_keep V0 main_v3 (by decide)).trans (val0_3_main_v3 V0)
theorem val1_main_v16 (V0 : Valuation τ sig (Elt F)) : val1 V0 (no_index (Proc.devRef .tc main_v16)) = res_main_v16 V0 :=
  (val1_keep V0 main_v16 (by decide)).trans (val0_3_main_v16 V0)
theorem val1_main_v32 (V0 : Valuation τ sig (Elt F)) : val1 V0 (no_index (Proc.devRef .tc main_v32)) = res_main_v32 V0 :=
  (val1_keep V0 main_v32 (by decide)).trans (val0_3_main_v32 V0)
theorem val1_main_v34 (V0 : Valuation τ sig (Elt F)) : val1 V0 (no_index (Proc.devRef .tc main_v34)) = select (Host.reduce IntOp.andi (andi (cmpi .sge (res_main_call1_v5 V0) (broadcastInDim S16896x1x1 ![] bcast_S_S16896x1x1 (constantI S_ 32 0#32))) (cmpi .sle (res_main_call1_v5 V0) (broadcastInDim S16896x1x1 ![0, 1, 2] bcast_S1x1x1_S16896x1x1_0_1_2 (broadcastInDim S1x1x1 ![2] bcast_S1_S1x1x1_2 (constantI S1 32 3#32))))) (constantI S_ 1 1#1) reducesTo_S16896x1x1_S16896x1_d2 h_S_) (Host.gather gather_S16896x4_S16896x1x1_S16896x1_n_1_0_0_1_2_11 (Host.divf (res_main_v27 V0) (broadcastInDim S16896x4 ![0, 1] bcast_S16896x1_S16896x4_0_1 (broadcastInDim S16896x1 ![0] bcast_S16896_S16896x1_0 (Host.reduceAdd (res_main_v27 V0) (constant S_ .f32 0x00000000#32) reducesTo_S16896x4_S16896_d1 h_S_)))) (res_main_call1_v5 V0)) (broadcastInDim S16896x1 ![] bcast_S_S16896x1 (constant S_ .f32 0x7FC00000#32)) :=
  (val1_keep V0 main_v34 (by decide)).trans (val0_3_main_v34 V0)
set_option maxRecDepth 8192 in
set_option maxHeartbeats 1600000 in
theorem val1_main_indices (V0 : Valuation τ sig (Elt F)) : val1 V0 (no_index (Proc.devRef .tc main_indices)) = (Host.topK S16896x2 1 (FloatOps.cmpfTotal .gt) (res_main_v42 V0) sliceFits_S16896x8_S16896x2).2 := by
  unfold val1
  simp only [ops_part0_3, TRef.nullary, TRef.ternary, TRef.unary, TRef.toBuf, TRef.ofBuf, cast_eq]
  after_results_simp
  simp only [val0_3_main_call2_v12, val0_3_main_call2_v11] <;> rfl
set_option maxRecDepth 8192 in
set_option maxHeartbeats 1600000 in
theorem val1_main_v49 (V0 : Valuation τ sig (Elt F)) : val1 V0 (no_index (Proc.devRef .tc main_v49)) = res_main_v49 V0 := by
  unfold val1
  simp only [ops_part0_3, TRef.nullary, TRef.ternary, TRef.unary, TRef.toBuf, TRef.ofBuf, cast_eq]
  after_results_simp
  simp only [val0_3_main_call2_v12, val0_3_main_call2_v11] <;> rfl

/-- The device's buffer contents after @main's first 136 operations. -/
def val1_1 (V0 : Valuation τ sig (Elt F)) : Valuation τ sig (Elt F) := after ops_part1_0 (val1 V0)
/-- The buffers that window `ops_part1_0`'s operations write. -/
abbrev ops_part1_0_W : List (Ref sig .tc) := [main_cst_7, main_v50, main_v51, main_v52, main_v53, main_call3_v0, main_call3_v1, main_call3_v2, main_call3_v3, main_call3_v4, main_v54, main_v55, main_v56, main_v57, main_cst_8, main_v58, main_call4_v0, main_call4_v1, main_call4_v2, main_call4_v3, main_call4_v4, main_v59, main_v60, main_v61, main_v62, main_v63, main_v64, main_v65, main_v66, main_cst_9]
set_option maxRecDepth 8192 in
theorem ops_part1_0_writes : (ops_part1_0 : List (HloOp τ sig (Elt F))).Forall fun op => op.writes ⊆ (ops_part1_0_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part1_0` does not write keeps its contents through it. -/
theorem val1_1_keep (V0 : Valuation τ sig (Elt F)) (r : Ref sig .tc) (h : r ∉ ops_part1_0_W) :
    val1_1 V0 (Proc.devRef .tc r) = val1 V0 (Proc.devRef .tc r) :=
  after_of_writes_sub ops_part1_0 _ ops_part1_0_writes h
theorem val1_1_main_arg0 (V0 : Valuation τ sig (Elt F)) : val1_1 V0 (no_index (Proc.devRef .tc main_arg0)) = V0 (Proc.devRef .tc main_arg0) :=
  (val1_1_keep V0 main_arg0 (by decide)).trans (val1_main_arg0 V0)
theorem val1_1_main_arg1 (V0 : Valuation τ sig (Elt F)) : val1_1 V0 (no_index (Proc.devRef .tc main_arg1)) = V0 (Proc.devRef .tc main_arg1) :=
  (val1_1_keep V0 main_arg1 (by decide)).trans (val1_main_arg1 V0)
theorem val1_1_main_arg2 (V0 : Valuation τ sig (Elt F)) : val1_1 V0 (no_index (Proc.devRef .tc main_arg2)) = V0 (Proc.devRef .tc main_arg2) :=
  (val1_1_keep V0 main_arg2 (by decide)).trans (val1_main_arg2 V0)
theorem val1_1_main_arg3 (V0 : Valuation τ sig (Elt F)) : val1_1 V0 (no_index (Proc.devRef .tc main_arg3)) = V0 (Proc.devRef .tc main_arg3) :=
  (val1_1_keep V0 main_arg3 (by decide)).trans (val1_main_arg3 V0)
theorem val1_1_main_arg4 (V0 : Valuation τ sig (Elt F)) : val1_1 V0 (no_index (Proc.devRef .tc main_arg4)) = V0 (Proc.devRef .tc main_arg4) :=
  (val1_1_keep V0 main_arg4 (by decide)).trans (val1_main_arg4 V0)
theorem val1_1_main_arg5 (V0 : Valuation τ sig (Elt F)) : val1_1 V0 (no_index (Proc.devRef .tc main_arg5)) = V0 (Proc.devRef .tc main_arg5) :=
  (val1_1_keep V0 main_arg5 (by decide)).trans (val1_main_arg5 V0)
theorem val1_1_main_arg6 (V0 : Valuation τ sig (Elt F)) : val1_1 V0 (no_index (Proc.devRef .tc main_arg6)) = V0 (Proc.devRef .tc main_arg6) :=
  (val1_1_keep V0 main_arg6 (by decide)).trans (val1_main_arg6 V0)
theorem val1_1_main_arg7 (V0 : Valuation τ sig (Elt F)) : val1_1 V0 (no_index (Proc.devRef .tc main_arg7)) = V0 (Proc.devRef .tc main_arg7) :=
  (val1_1_keep V0 main_arg7 (by decide)).trans (val1_main_arg7 V0)
theorem val1_1_main_arg8 (V0 : Valuation τ sig (Elt F)) : val1_1 V0 (no_index (Proc.devRef .tc main_arg8)) = V0 (Proc.devRef .tc main_arg8) :=
  (val1_1_keep V0 main_arg8 (by decide)).trans (val1_main_arg8 V0)
theorem val1_1_main_arg9 (V0 : Valuation τ sig (Elt F)) : val1_1 V0 (no_index (Proc.devRef .tc main_arg9)) = V0 (Proc.devRef .tc main_arg9) :=
  (val1_1_keep V0 main_arg9 (by decide)).trans (val1_main_arg9 V0)
theorem val1_1_main_arg10 (V0 : Valuation τ sig (Elt F)) : val1_1 V0 (no_index (Proc.devRef .tc main_arg10)) = V0 (Proc.devRef .tc main_arg10) :=
  (val1_1_keep V0 main_arg10 (by decide)).trans (val1_main_arg10 V0)
theorem val1_1_main_arg11 (V0 : Valuation τ sig (Elt F)) : val1_1 V0 (no_index (Proc.devRef .tc main_arg11)) = V0 (Proc.devRef .tc main_arg11) :=
  (val1_1_keep V0 main_arg11 (by decide)).trans (val1_main_arg11 V0)
theorem val1_1_main_v3 (V0 : Valuation τ sig (Elt F)) : val1_1 V0 (no_index (Proc.devRef .tc main_v3)) = res_main_v3 V0 :=
  (val1_1_keep V0 main_v3 (by decide)).trans (val1_main_v3 V0)
theorem val1_1_main_v16 (V0 : Valuation τ sig (Elt F)) : val1_1 V0 (no_index (Proc.devRef .tc main_v16)) = res_main_v16 V0 :=
  (val1_1_keep V0 main_v16 (by decide)).trans (val1_main_v16 V0)
set_option maxRecDepth 8192 in
set_option maxHeartbeats 2000000 in
theorem val1_1_main_v66 (V0 : Valuation τ sig (Elt F)) : val1_1 V0 (no_index (Proc.devRef .tc main_v66)) = res_main_v66 V0 := by
  unfold val1_1
  simp only [ops_part1_0, TRef.binary, TRef.nullary, TRef.unary, TRef.toBuf, TRef.ofBuf, cast_eq]
  after_results_simp
  simp only [val1_main_v49, val1_main_indices, val1_main_v34, val1_main_v32] <;> rfl
set_option maxRecDepth 8192 in
set_option maxHeartbeats 2000000 in
theorem val1_1_main_cst_9 (V0 : Valuation τ sig (Elt F)) : val1_1 V0 (no_index (Proc.devRef .tc main_cst_9)) = constant S_ .f32 0x00000000#32 := by
  unfold val1_1
  simp only [ops_part1_0, TRef.binary, TRef.nullary, TRef.unary, TRef.toBuf, TRef.ofBuf, cast_eq]
  after_results_simp
  all_goals rfl

/-- The device's buffer contents after @main's first 166 operations. -/
def val1_2 (V0 : Valuation τ sig (Elt F)) : Valuation τ sig (Elt F) := after ops_part1_1 (val1_1 V0)
/-- The buffers that window `ops_part1_1`'s operations write. -/
abbrev ops_part1_1_W : List (Ref sig .tc) := [main_v67, main_v68, main_v69, main_v70, main_v71, main_v72, main_v73, main_call5_v0, main_call5_v1, main_call5_cst, main_call5_v2, main_call5_v3, main_call5_cst_0, main_call5_v4, main_call5_v5, main_v74, main_v75, main_v76, main_v77, main_v78, main_v79, main_v80, main_v81, main_v82, main_v83, main_v84, main_v85, main_v86, main_v87, main_v88]
set_option maxRecDepth 8192 in
theorem ops_part1_1_writes : (ops_part1_1 : List (HloOp τ sig (Elt F))).Forall fun op => op.writes ⊆ (ops_part1_1_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part1_1` does not write keeps its contents through it. -/
theorem val1_2_keep (V0 : Valuation τ sig (Elt F)) (r : Ref sig .tc) (h : r ∉ ops_part1_1_W) :
    val1_2 V0 (Proc.devRef .tc r) = val1_1 V0 (Proc.devRef .tc r) :=
  after_of_writes_sub ops_part1_1 _ ops_part1_1_writes h
theorem val1_2_main_arg0 (V0 : Valuation τ sig (Elt F)) : val1_2 V0 (no_index (Proc.devRef .tc main_arg0)) = V0 (Proc.devRef .tc main_arg0) :=
  (val1_2_keep V0 main_arg0 (by decide)).trans (val1_1_main_arg0 V0)
theorem val1_2_main_arg1 (V0 : Valuation τ sig (Elt F)) : val1_2 V0 (no_index (Proc.devRef .tc main_arg1)) = V0 (Proc.devRef .tc main_arg1) :=
  (val1_2_keep V0 main_arg1 (by decide)).trans (val1_1_main_arg1 V0)
theorem val1_2_main_arg2 (V0 : Valuation τ sig (Elt F)) : val1_2 V0 (no_index (Proc.devRef .tc main_arg2)) = V0 (Proc.devRef .tc main_arg2) :=
  (val1_2_keep V0 main_arg2 (by decide)).trans (val1_1_main_arg2 V0)
theorem val1_2_main_arg3 (V0 : Valuation τ sig (Elt F)) : val1_2 V0 (no_index (Proc.devRef .tc main_arg3)) = V0 (Proc.devRef .tc main_arg3) :=
  (val1_2_keep V0 main_arg3 (by decide)).trans (val1_1_main_arg3 V0)
theorem val1_2_main_arg4 (V0 : Valuation τ sig (Elt F)) : val1_2 V0 (no_index (Proc.devRef .tc main_arg4)) = V0 (Proc.devRef .tc main_arg4) :=
  (val1_2_keep V0 main_arg4 (by decide)).trans (val1_1_main_arg4 V0)
theorem val1_2_main_arg5 (V0 : Valuation τ sig (Elt F)) : val1_2 V0 (no_index (Proc.devRef .tc main_arg5)) = V0 (Proc.devRef .tc main_arg5) :=
  (val1_2_keep V0 main_arg5 (by decide)).trans (val1_1_main_arg5 V0)
theorem val1_2_main_arg6 (V0 : Valuation τ sig (Elt F)) : val1_2 V0 (no_index (Proc.devRef .tc main_arg6)) = V0 (Proc.devRef .tc main_arg6) :=
  (val1_2_keep V0 main_arg6 (by decide)).trans (val1_1_main_arg6 V0)
theorem val1_2_main_arg7 (V0 : Valuation τ sig (Elt F)) : val1_2 V0 (no_index (Proc.devRef .tc main_arg7)) = V0 (Proc.devRef .tc main_arg7) :=
  (val1_2_keep V0 main_arg7 (by decide)).trans (val1_1_main_arg7 V0)
theorem val1_2_main_arg8 (V0 : Valuation τ sig (Elt F)) : val1_2 V0 (no_index (Proc.devRef .tc main_arg8)) = V0 (Proc.devRef .tc main_arg8) :=
  (val1_2_keep V0 main_arg8 (by decide)).trans (val1_1_main_arg8 V0)
theorem val1_2_main_arg9 (V0 : Valuation τ sig (Elt F)) : val1_2 V0 (no_index (Proc.devRef .tc main_arg9)) = V0 (Proc.devRef .tc main_arg9) :=
  (val1_2_keep V0 main_arg9 (by decide)).trans (val1_1_main_arg9 V0)
theorem val1_2_main_arg10 (V0 : Valuation τ sig (Elt F)) : val1_2 V0 (no_index (Proc.devRef .tc main_arg10)) = V0 (Proc.devRef .tc main_arg10) :=
  (val1_2_keep V0 main_arg10 (by decide)).trans (val1_1_main_arg10 V0)
theorem val1_2_main_arg11 (V0 : Valuation τ sig (Elt F)) : val1_2 V0 (no_index (Proc.devRef .tc main_arg11)) = V0 (Proc.devRef .tc main_arg11) :=
  (val1_2_keep V0 main_arg11 (by decide)).trans (val1_1_main_arg11 V0)
theorem val1_2_main_v3 (V0 : Valuation τ sig (Elt F)) : val1_2 V0 (no_index (Proc.devRef .tc main_v3)) = res_main_v3 V0 :=
  (val1_2_keep V0 main_v3 (by decide)).trans (val1_1_main_v3 V0)
theorem val1_2_main_v16 (V0 : Valuation τ sig (Elt F)) : val1_2 V0 (no_index (Proc.devRef .tc main_v16)) = res_main_v16 V0 :=
  (val1_2_keep V0 main_v16 (by decide)).trans (val1_1_main_v16 V0)
theorem val1_2_main_v66 (V0 : Valuation τ sig (Elt F)) : val1_2 V0 (no_index (Proc.devRef .tc main_v66)) = res_main_v66 V0 :=
  (val1_2_keep V0 main_v66 (by decide)).trans (val1_1_main_v66 V0)
set_option maxRecDepth 8192 in
set_option maxHeartbeats 2000000 in
theorem val1_2_main_v84 (V0 : Valuation τ sig (Elt F)) : val1_2 V0 (no_index (Proc.devRef .tc main_v84)) = addf (broadcastInDim S16896x1024 ![] bcast_S_S16896x1024 (constant S_ .f32 0x00000000#32)) (Host.dotGeneral dot_S16896x8x256_S8x256x1024_S16896x1024_12_01_0_2_n_n none (mulf (mulf (mulf (res_main_v70 V0) (Host.divf (broadcastInDim S16896x8x256 ![] bcast_S_S16896x8x256 (constant S_ .f32 0x3F800000#32)) (addf (broadcastInDim S16896x8x256 ![] bcast_S_S16896x8x256 (constant S_ .f32 0x3F800000#32)) (Host.exp (Host.negf (res_main_v70 V0)))))) (Host.dotGeneral dot_S16896x1024_S8x1024x256_S16896x8x256_1_1_0_02_n_n none (res_main_v16 V0) (shapeCast _ (extractStridedSlice S1x8x1024x256 ![0, 0, 0, 0] (V0 (Proc.devRef .tc main_arg10)) slices_S4x8x1024x256_S1x8x1024x256_0_0_0_0) shapeCasts_S1x8x1024x256_S8x1024x256))) (broadcastInDim S16896x8x256 ![0, 1, 2] bcast_S16896x8x1_S16896x8x256_0_1_2 (broadcastInDim S16896x8x1 ![0, 1] bcast_S16896x8_S16896x8x1_0_1 (shapeCast _ (extractStridedSlice S16896x1x8 ![0, 0, 0] (res_main_v66 V0) slices_S16896x4x8_S16896x1x8_0_0_0) shapeCasts_S16896x1x8_S16896x8)))) (shapeCast _ (extractStridedSlice S1x8x256x1024 ![0, 0, 0, 0] (V0 (Proc.devRef .tc main_arg11)) slices_S4x8x256x1024_S1x8x256x1024_0_0_0_0) shapeCasts_S1x8x256x1024_S8x256x1024)) := by
  unfold val1_2
  simp only [ops_part1_1, TRef.binary, TRef.nullary, TRef.unary, TRef.toBuf, TRef.ofBuf, cast_eq]
  after_results_simp
  simp only [val1_1_main_arg11, val1_1_main_v66, val1_1_main_arg10, val1_1_main_v16, val1_1_main_arg9, val1_1_main_cst_9] <;> rfl
set_option maxRecDepth 8192 in
set_option maxHeartbeats 2000000 in
theorem val1_2_main_v87 (V0 : Valuation τ sig (Elt F)) : val1_2 V0 (no_index (Proc.devRef .tc main_v87)) = res_main_v87 V0 := by
  unfold val1_2
  simp only [ops_part1_1, TRef.binary, TRef.nullary, TRef.unary, TRef.toBuf, TRef.ofBuf, cast_eq]
  after_results_simp
  simp only [val1_1_main_arg9, val1_1_main_v16] <;> rfl
set_option maxRecDepth 8192 in
set_option maxHeartbeats 2000000 in
theorem val1_2_main_v88 (V0 : Valuation τ sig (Elt F)) : val1_2 V0 (no_index (Proc.devRef .tc main_v88)) = extractStridedSlice S1x8x1024x256 ![1, 0, 0, 0] (V0 (Proc.devRef .tc main_arg10)) slices_S4x8x1024x256_S1x8x1024x256_1_0_0_0 := by
  unfold val1_2
  simp only [ops_part1_1, TRef.binary, TRef.nullary, TRef.unary, TRef.toBuf, TRef.ofBuf, cast_eq]
  after_results_simp
  simp only [val1_1_main_arg10] <;> rfl

/-- The device's buffer contents after @main's first 2 windows. -/
def val2 (V0 : Valuation τ sig (Elt F)) : Valuation τ sig (Elt F) := after ops_part1_2 (val1_2 V0)
/-- The buffers that window `ops_part1_2`'s operations write. -/
abbrev ops_part1_2_W : List (Ref sig .tc) := [main_v89, main_v90, main_call6_v0, main_call6_v1, main_call6_cst, main_call6_v2, main_call6_v3, main_call6_cst_0, main_call6_v4, main_call6_v5, main_v91, main_v92, main_v93, main_v94, main_v95, main_v96, main_v97, main_v98, main_v99, main_v100, main_v101, main_v102, main_v103, main_v104, main_v105, main_v106]
set_option maxRecDepth 8192 in
theorem ops_part1_2_writes : (ops_part1_2 : List (HloOp τ sig (Elt F))).Forall fun op => op.writes ⊆ (ops_part1_2_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part1_2` does not write keeps its contents through it. -/
theorem val2_keep (V0 : Valuation τ sig (Elt F)) (r : Ref sig .tc) (h : r ∉ ops_part1_2_W) :
    val2 V0 (Proc.devRef .tc r) = val1_2 V0 (Proc.devRef .tc r) :=
  after_of_writes_sub ops_part1_2 _ ops_part1_2_writes h
theorem val2_main_arg0 (V0 : Valuation τ sig (Elt F)) : val2 V0 (no_index (Proc.devRef .tc main_arg0)) = V0 (Proc.devRef .tc main_arg0) :=
  (val2_keep V0 main_arg0 (by decide)).trans (val1_2_main_arg0 V0)
theorem val2_main_arg1 (V0 : Valuation τ sig (Elt F)) : val2 V0 (no_index (Proc.devRef .tc main_arg1)) = V0 (Proc.devRef .tc main_arg1) :=
  (val2_keep V0 main_arg1 (by decide)).trans (val1_2_main_arg1 V0)
theorem val2_main_arg2 (V0 : Valuation τ sig (Elt F)) : val2 V0 (no_index (Proc.devRef .tc main_arg2)) = V0 (Proc.devRef .tc main_arg2) :=
  (val2_keep V0 main_arg2 (by decide)).trans (val1_2_main_arg2 V0)
theorem val2_main_arg3 (V0 : Valuation τ sig (Elt F)) : val2 V0 (no_index (Proc.devRef .tc main_arg3)) = V0 (Proc.devRef .tc main_arg3) :=
  (val2_keep V0 main_arg3 (by decide)).trans (val1_2_main_arg3 V0)
theorem val2_main_arg4 (V0 : Valuation τ sig (Elt F)) : val2 V0 (no_index (Proc.devRef .tc main_arg4)) = V0 (Proc.devRef .tc main_arg4) :=
  (val2_keep V0 main_arg4 (by decide)).trans (val1_2_main_arg4 V0)
theorem val2_main_arg5 (V0 : Valuation τ sig (Elt F)) : val2 V0 (no_index (Proc.devRef .tc main_arg5)) = V0 (Proc.devRef .tc main_arg5) :=
  (val2_keep V0 main_arg5 (by decide)).trans (val1_2_main_arg5 V0)
theorem val2_main_arg6 (V0 : Valuation τ sig (Elt F)) : val2 V0 (no_index (Proc.devRef .tc main_arg6)) = V0 (Proc.devRef .tc main_arg6) :=
  (val2_keep V0 main_arg6 (by decide)).trans (val1_2_main_arg6 V0)
theorem val2_main_arg7 (V0 : Valuation τ sig (Elt F)) : val2 V0 (no_index (Proc.devRef .tc main_arg7)) = V0 (Proc.devRef .tc main_arg7) :=
  (val2_keep V0 main_arg7 (by decide)).trans (val1_2_main_arg7 V0)
theorem val2_main_arg8 (V0 : Valuation τ sig (Elt F)) : val2 V0 (no_index (Proc.devRef .tc main_arg8)) = V0 (Proc.devRef .tc main_arg8) :=
  (val2_keep V0 main_arg8 (by decide)).trans (val1_2_main_arg8 V0)
theorem val2_main_arg9 (V0 : Valuation τ sig (Elt F)) : val2 V0 (no_index (Proc.devRef .tc main_arg9)) = V0 (Proc.devRef .tc main_arg9) :=
  (val2_keep V0 main_arg9 (by decide)).trans (val1_2_main_arg9 V0)
theorem val2_main_arg10 (V0 : Valuation τ sig (Elt F)) : val2 V0 (no_index (Proc.devRef .tc main_arg10)) = V0 (Proc.devRef .tc main_arg10) :=
  (val2_keep V0 main_arg10 (by decide)).trans (val1_2_main_arg10 V0)
theorem val2_main_arg11 (V0 : Valuation τ sig (Elt F)) : val2 V0 (no_index (Proc.devRef .tc main_arg11)) = V0 (Proc.devRef .tc main_arg11) :=
  (val2_keep V0 main_arg11 (by decide)).trans (val1_2_main_arg11 V0)
theorem val2_main_v3 (V0 : Valuation τ sig (Elt F)) : val2 V0 (no_index (Proc.devRef .tc main_v3)) = res_main_v3 V0 :=
  (val2_keep V0 main_v3 (by decide)).trans (val1_2_main_v3 V0)
theorem val2_main_v16 (V0 : Valuation τ sig (Elt F)) : val2 V0 (no_index (Proc.devRef .tc main_v16)) = res_main_v16 V0 :=
  (val2_keep V0 main_v16 (by decide)).trans (val1_2_main_v16 V0)
theorem val2_main_v66 (V0 : Valuation τ sig (Elt F)) : val2 V0 (no_index (Proc.devRef .tc main_v66)) = res_main_v66 V0 :=
  (val2_keep V0 main_v66 (by decide)).trans (val1_2_main_v66 V0)
set_option maxRecDepth 8192 in
set_option maxHeartbeats 2000000 in
theorem val2_main_v101 (V0 : Valuation τ sig (Elt F)) : val2 V0 (no_index (Proc.devRef .tc main_v101)) = addf (addf (broadcastInDim S16896x1024 ![] bcast_S_S16896x1024 (constant S_ .f32 0x00000000#32)) (Host.dotGeneral dot_S16896x8x256_S8x256x1024_S16896x1024_12_01_0_2_n_n none (mulf (mulf (mulf (res_main_v70 V0) (Host.divf (broadcastInDim S16896x8x256 ![] bcast_S_S16896x8x256 (constant S_ .f32 0x3F800000#32)) (addf (broadcastInDim S16896x8x256 ![] bcast_S_S16896x8x256 (constant S_ .f32 0x3F800000#32)) (Host.exp (Host.negf (res_main_v70 V0)))))) (Host.dotGeneral dot_S16896x1024_S8x1024x256_S16896x8x256_1_1_0_02_n_n none (res_main_v16 V0) (shapeCast _ (extractStridedSlice S1x8x1024x256 ![0, 0, 0, 0] (V0 (Proc.devRef .tc main_arg10)) slices_S4x8x1024x256_S1x8x1024x256_0_0_0_0) shapeCasts_S1x8x1024x256_S8x1024x256))) (broadcastInDim S16896x8x256 ![0, 1, 2] bcast_S16896x8x1_S16896x8x256_0_1_2 (broadcastInDim S16896x8x1 ![0, 1] bcast_S16896x8_S16896x8x1_0_1 (shapeCast _ (extractStridedSlice S16896x1x8 ![0, 0, 0] (res_main_v66 V0) slices_S16896x4x8_S16896x1x8_0_0_0) shapeCasts_S16896x1x8_S16896x8)))) (shapeCast _ (extractStridedSlice S1x8x256x1024 ![0, 0, 0, 0] (V0 (Proc.devRef .tc main_arg11)) slices_S4x8x256x1024_S1x8x256x1024_0_0_0_0) shapeCasts_S1x8x256x1024_S8x256x1024))) (Host.dotGeneral dot_S16896x8x256_S8x256x1024_S16896x1024_12_01_0_2_n_n none (mulf (mulf (mulf (res_main_v87 V0) (Host.divf (broadcastInDim S16896x8x256 ![] bcast_S_S16896x8x256 (constant S_ .f32 0x3F800000#32)) (addf (broadcastInDim S16896x8x256 ![] bcast_S_S16896x8x256 (constant S_ .f32 0x3F800000#32)) (Host.exp (Host.negf (res_main_v87 V0)))))) (Host.dotGeneral dot_S16896x1024_S8x1024x256_S16896x8x256_1_1_0_02_n_n none (res_main_v16 V0) (shapeCast _ (extractStridedSlice S1x8x1024x256 ![1, 0, 0, 0] (V0 (Proc.devRef .tc main_arg10)) slices_S4x8x1024x256_S1x8x1024x256_1_0_0_0) shapeCasts_S1x8x1024x256_S8x1024x256))) (broadcastInDim S16896x8x256 ![0, 1, 2] bcast_S16896x8x1_S16896x8x256_0_1_2 (broadcastInDim S16896x8x1 ![0, 1] bcast_S16896x8_S16896x8x1_0_1 (shapeCast _ (extractStridedSlice S16896x1x8 ![0, 1, 0] (res_main_v66 V0) slices_S16896x4x8_S16896x1x8_0_1_0) shapeCasts_S16896x1x8_S16896x8)))) (shapeCast _ (extractStridedSlice S1x8x256x1024 ![1, 0, 0, 0] (V0 (Proc.devRef .tc main_arg11)) slices_S4x8x256x1024_S1x8x256x1024_1_0_0_0) shapeCasts_S1x8x256x1024_S8x256x1024)) := by
  unfold val2
  simp only [ops_part1_2, TRef.binary, TRef.nullary, TRef.unary, TRef.toBuf, TRef.ofBuf, cast_eq]
  after_results_simp
  simp only [val1_2_main_arg11, val1_2_main_v66, val1_2_main_v88, val1_2_main_v16, val1_2_main_v87, val1_2_main_v84] <;> rfl
set_option maxRecDepth 8192 in
set_option maxHeartbeats 2000000 in
theorem val2_main_v104 (V0 : Valuation τ sig (Elt F)) : val2 V0 (no_index (Proc.devRef .tc main_v104)) = res_main_v104 V0 := by
  unfold val2
  simp only [ops_part1_2, TRef.binary, TRef.nullary, TRef.unary, TRef.toBuf, TRef.ofBuf, cast_eq]
  after_results_simp
  simp only [val1_2_main_arg9, val1_2_main_v16] <;> rfl
set_option maxRecDepth 8192 in
set_option maxHeartbeats 2000000 in
theorem val2_main_v106 (V0 : Valuation τ sig (Elt F)) : val2 V0 (no_index (Proc.devRef .tc main_v106)) = shapeCast _ (extractStridedSlice S1x8x1024x256 ![2, 0, 0, 0] (V0 (Proc.devRef .tc main_arg10)) slices_S4x8x1024x256_S1x8x1024x256_2_0_0_0) shapeCasts_S1x8x1024x256_S8x1024x256 := by
  unfold val2
  simp only [ops_part1_2, TRef.binary, TRef.nullary, TRef.unary, TRef.toBuf, TRef.ofBuf, cast_eq]
  after_results_simp
  simp only [val1_2_main_arg10] <;> rfl

/-- The device's buffer contents after @main's first 3 windows. -/
def val3 (V0 : Valuation τ sig (Elt F)) : Valuation τ sig (Elt F) := after ops_part2 (val2 V0)
/-- The buffers that window `main_part2`'s operations write. -/
abbrev ops_part2_W : List (Ref sig .tc) := [main_v107, main_call7_v0, main_call7_v1, main_call7_cst, main_call7_v2, main_call7_v3, main_call7_cst_0, main_call7_v4, main_call7_v5, main_v108, main_v109, main_v110, main_v111, main_v112, main_v113, main_v114, main_v115, main_v116, main_v117, main_v118, main_v119, main_v120, main_v121, main_v122, main_v123, main_v124, main_call8_v0, main_call8_v1, main_call8_cst, main_call8_v2, main_call8_v3, main_call8_cst_0, main_call8_v4, main_call8_v5, main_v125, main_v126, main_v127, main_v128, main_v129, main_v130, main_v131, main_v132, main_v133, main_v134, main_v135, main_v136]
set_option maxRecDepth 8192 in
theorem ops_part2_writes : (ops_part2 : List (HloOp τ sig (Elt F))).Forall fun op => op.writes ⊆ (ops_part2_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `main_part2` does not write keeps its contents through it. -/
theorem val3_keep (V0 : Valuation τ sig (Elt F)) (r : Ref sig .tc) (h : r ∉ ops_part2_W) :
    val3 V0 (Proc.devRef .tc r) = val2 V0 (Proc.devRef .tc r) :=
  after_of_writes_sub ops_part2 _ ops_part2_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_main_arg3 V0)
theorem val3_main_arg4 (V0 : Valuation τ sig (Elt F)) : val3 V0 (no_index (Proc.devRef .tc main_arg4)) = V0 (Proc.devRef .tc main_arg4) :=
  (val3_keep V0 main_arg4 (by decide)).trans (val2_main_arg4 V0)
theorem val3_main_arg5 (V0 : Valuation τ sig (Elt F)) : val3 V0 (no_index (Proc.devRef .tc main_arg5)) = V0 (Proc.devRef .tc main_arg5) :=
  (val3_keep V0 main_arg5 (by decide)).trans (val2_main_arg5 V0)
theorem val3_main_arg6 (V0 : Valuation τ sig (Elt F)) : val3 V0 (no_index (Proc.devRef .tc main_arg6)) = V0 (Proc.devRef .tc main_arg6) :=
  (val3_keep V0 main_arg6 (by decide)).trans (val2_main_arg6 V0)
theorem val3_main_arg7 (V0 : Valuation τ sig (Elt F)) : val3 V0 (no_index (Proc.devRef .tc main_arg7)) = V0 (Proc.devRef .tc main_arg7) :=
  (val3_keep V0 main_arg7 (by decide)).trans (val2_main_arg7 V0)
theorem val3_main_arg8 (V0 : Valuation τ sig (Elt F)) : val3 V0 (no_index (Proc.devRef .tc main_arg8)) = V0 (Proc.devRef .tc main_arg8) :=
  (val3_keep V0 main_arg8 (by decide)).trans (val2_main_arg8 V0)
theorem val3_main_arg9 (V0 : Valuation τ sig (Elt F)) : val3 V0 (no_index (Proc.devRef .tc main_arg9)) = V0 (Proc.devRef .tc main_arg9) :=
  (val3_keep V0 main_arg9 (by decide)).trans (val2_main_arg9 V0)
theorem val3_main_arg10 (V0 : Valuation τ sig (Elt F)) : val3 V0 (no_index (Proc.devRef .tc main_arg10)) = V0 (Proc.devRef .tc main_arg10) :=
  (val3_keep V0 main_arg10 (by decide)).trans (val2_main_arg10 V0)
theorem val3_main_arg11 (V0 : Valuation τ sig (Elt F)) : val3 V0 (no_index (Proc.devRef .tc main_arg11)) = V0 (Proc.devRef .tc main_arg11) :=
  (val3_keep V0 main_arg11 (by decide)).trans (val2_main_arg11 V0)
set_option maxRecDepth 8192 in
set_option maxHeartbeats 2000000 in
theorem val3_main_v136 (V0 : Valuation τ sig (Elt F)) : val3 V0 (no_index (Proc.devRef .tc main_v136)) = addf (res_main_v3 V0) (res_main_v135 V0) := by
  unfold val3
  simp only [ops_part2, TRef.binary, TRef.nullary, TRef.unary, TRef.toBuf, TRef.ofBuf, cast_eq]
  after_results_simp
  simp only [val2_main_arg11, val2_main_v66, val2_main_arg10, val2_main_v16, val2_main_arg9, val2_main_v106, val2_main_v104, val2_main_v101, val2_main_v3] <;> rfl

theorem after_ops (V0 : Valuation τ sig (Elt F)) : after ops V0 = val3 V0 := by
  simp only [ops, ops_part0, ops_part1, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v136) = addf (res_main_v3 (launchContents m c)) (res_main_v135 (launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v136).trans ((congrFun (after_ops (launchContents m c)) (Proc.devRef .tc main_v136)).trans (val3_main_v136 (launchContents m c))),
      (h c main_arg0).trans ((congrFun (after_ops (launchContents m c)) (Proc.devRef .tc main_arg0)).trans (val3_main_arg0 (launchContents m c))),
      (h c main_arg1).trans ((congrFun (after_ops (launchContents m c)) (Proc.devRef .tc main_arg1)).trans (val3_main_arg1 (launchContents m c))),
      (h c main_arg2).trans ((congrFun (after_ops (launchContents m c)) (Proc.devRef .tc main_arg2)).trans (val3_main_arg2 (launchContents m c))),
      (h c main_arg3).trans ((congrFun (after_ops (launchContents m c)) (Proc.devRef .tc main_arg3)).trans (val3_main_arg3 (launchContents m c))),
      (h c main_arg4).trans ((congrFun (after_ops (launchContents m c)) (Proc.devRef .tc main_arg4)).trans (val3_main_arg4 (launchContents m c))),
      (h c main_arg5).trans ((congrFun (after_ops (launchContents m c)) (Proc.devRef .tc main_arg5)).trans (val3_main_arg5 (launchContents m c))),
      (h c main_arg6).trans ((congrFun (after_ops (launchContents m c)) (Proc.devRef .tc main_arg6)).trans (val3_main_arg6 (launchContents m c))),
      (h c main_arg7).trans ((congrFun (after_ops (launchContents m c)) (Proc.devRef .tc main_arg7)).trans (val3_main_arg7 (launchContents m c))),
      (h c main_arg8).trans ((congrFun (after_ops (launchContents m c)) (Proc.devRef .tc main_arg8)).trans (val3_main_arg8 (launchContents m c))),
      (h c main_arg9).trans ((congrFun (after_ops (launchContents m c)) (Proc.devRef .tc main_arg9)).trans (val3_main_arg9 (launchContents m c))),
      (h c main_arg10).trans ((congrFun (after_ops (launchContents m c)) (Proc.devRef .tc main_arg10)).trans (val3_main_arg10 (launchContents m c))),
      (h c main_arg11).trans ((congrFun (after_ops (launchContents m c)) (Proc.devRef .tc main_arg11)).trans (val3_main_arg11 (launchContents m c)))⟩)
    (run_seq scopedRefs_eq scopedSems_eq defs main (fun _ => ops) main_eq (fun _ => ops_sub) m ρ fun _ => ops_fresh)

end Cert.ReferenceIdeal.Value

end
-- ==== Proof.RefRows.lean ====
module

public import proofs.«01_k».proof.Proof.RefRun
public import proofs.«01_k».proof.Proof.Rows
public import Idealize.ShloMosaic.Lib.Pipeline.ValueKit

@[expose] public section

set_option maxRecDepth 16384

noncomputable section

namespace Cert.ReferenceIdeal.Value

open Cert.ReferenceIdeal Cert.ReferenceIdeal.Gen Idealize.ShloMosaic Idealize.ShloMosaic.TcCoe Cert.Layer

variable (V0 : Valuation τ sig (Elt Ideal))

/-- The reference's arguments, entry by entry. -/
def rargs : Args where
  x := fun n d => (V0 (Proc.devRef .tc main_arg0) : Vec Ideal S16896x1024 .f32) (ix2 n d)
  p := fun n d => (V0 (Proc.devRef .tc main_arg1) : Vec Ideal S16384x1024 .bf16) (ix2 n d)
  s := fun n d => (V0 (Proc.devRef .tc main_arg2) : Vec Ideal S512x1024 .f32) (ix2 n d)
  w := fun k d => (V0 (Proc.devRef .tc main_arg3) : Vec Ideal S1024x1024 .f32) (ix2 k d)
  g := fun d => (V0 (Proc.devRef .tc main_arg4) : Vec Ideal S1024 .f32) (ix1 d)
  wg := fun k g => (V0 (Proc.devRef .tc main_arg5) : Vec Ideal S1024x4 .f32) (ix2 k g)
  bg := fun g => (V0 (Proc.devRef .tc main_arg6) : Vec Ideal S4 .f32) (ix1 g)
  wr := fun k e => (V0 (Proc.devRef .tc main_arg7) : Vec Ideal S1024x32 .f32) (ix2 k e)
  br := fun e => (V0 (Proc.devRef .tc main_arg8) : Vec Ideal S32 .f32) (ix1 e)
  w1 := fun g i k f => (V0 (Proc.devRef .tc main_arg9) : Vec Ideal S4x8x1024x256 .f32) (ix4 g i k f)
  w2 := fun g i k f => (V0 (Proc.devRef .tc main_arg10) : Vec Ideal S4x8x1024x256 .f32) (ix4 g i k f)
  w3 := fun g i f d => (V0 (Proc.devRef .tc main_arg11) : Vec Ideal S4x8x256x1024 .f32) (ix4 g i f d)

theorem v3_at (n : Fin 16896) (d : Fin 1024) : (res_main_v3 V0 : Vec Ideal S16896x1024 .f32) (ix2 n d) = (rargs V0).res n d := by
  pointwise [res_main_v3, Args.res, mixRow, rargs]

theorem v16_at (n : Fin 16896) (d : Fin 1024) : (res_main_v16 V0 : Vec Ideal S16896x1024 .f32) (ix2 n d) = (rargs V0).nrm n d := by
  pointwise [res_main_v16, v3_at, Args.nrm, normRow]
  rfl

theorem v20_at (n : Fin 16896) (g : Fin 4) : (res_main_v20 V0 : Vec Ideal S16896x4 .f32) (ix2 n g) = (rargs V0).gl n g := by
  pointwise [res_main_v20, v16_at, Args.gl]
  rfl

theorem v5_at (n : Fin 16896) (w : BitVec 32) (h : (res_main_v32 V0 : IVec S16896 32) (ix1 n) = w) (hw : IntOp.cmpi .slt w 0#32 = 0#1) :
    (res_main_call1_v5 V0 : IVec S16896x1x1 32) (ix3 n 0 0) = w := by
  pointwise [res_main_call1_v5, res_main_v33, h, hw]

theorem v4_at (n : Fin 16896) (w : BitVec 32) (h : (res_main_v32 V0 : IVec S16896 32) (ix1 n) = w) (hw : IntOp.cmpi .slt w 0#32 = 0#1) :
    (res_main_call2_v4 V0 : IVec S16896x1x1 32) (ix3 n 0 0) = w := by
  pointwise [res_main_call2_v4, res_main_v40, h, hw]

end Cert.ReferenceIdeal.Value

end
-- ==== Proof.ListChoice.lean ====
module

public import proofs.«01_k».proof.Proof.Choice
public import Idealize.ShloMosaic.Lib.SortFacts

@[expose] public section

noncomputable section

namespace Cert.Layer

open Idealize.ShloMosaic

/-! ## A stable descending sort, and its first two places -/

section sort
variable {n : ℕ} (v : Fin n → ℝ) (R : Fin n → Fin n → Bool) (hR : ∀ a b, R a b = true ↔ v b < v a)

/-- `b` comes before `c` in a stable descending sort. -/
def Before (b c : Fin n) : Prop := v c < v b ∨ (v c = v b ∧ b < c)

include hR in
theorem before_insert (a : Fin n) : ∀ m : List (Fin n), m.Pairwise (Before v) → (∀ b ∈ m, a < b) →
    (insertBefore R a m).Pairwise (Before v)
  | [], _, _ => by unfold insertBefore; exact List.pairwise_singleton _ _
  | b :: m, hm, ha => by
    have hm' := List.pairwise_cons.mp hm
    unfold insertBefore
    split
    · rename_i h
      refine List.pairwise_cons.mpr ⟨fun c hc => ?_, before_insert a m hm'.2 fun x hx => ha x (List.mem_cons_of_mem _ hx)⟩
      rcases List.mem_cons.mp ((perm_insertBefore R a m).mem_iff.mp hc) with rfl | hc
      · exact Or.inl ((hR b c).mp h)
      · exact hm'.1 c hc
    · rename_i h
      have hba : v b ≤ v a := not_lt.mp fun hlt => h ((hR b a).mpr hlt)
      refine List.pairwise_cons.mpr ⟨fun c hc => ?_, hm⟩
      have hcb : v c ≤ v b := by
        rcases List.mem_cons.mp hc with rfl | hc
        · exact le_rfl
        · rcases hm'.1 c hc with h | h
          · exact h.le
          · exact h.1.le
      rcases lt_or_eq_of_le (hcb.trans hba) with h | h
      · exact Or.inl h
      · exact Or.inr ⟨h, ha c hc⟩

include hR in
theorem before_sort : ∀ l : List (Fin n), l.Pairwise (· < ·) → (stableSort R l).Pairwise (Before v)
  | [], _ => by unfold stableSort; exact List.Pairwise.nil
  | a :: l, hl => by
    have hl' := List.pairwise_cons.mp hl
    unfold stableSort
    exact before_insert v R hR a _ (before_sort l hl'.2) fun b hb => hl'.1 b ((perm_stableSort R l).mem_iff.mp hb)

include hR in
theorem before_sortedFrom (i j : Fin n) (hij : i < j) : Before v (sortedFrom R i) (sortedFrom R j) := by
  have h : (sortPositions n R).Pairwise (Before v) := before_sort v R hR _ (List.pairwise_lt_finRange n)
  exact List.pairwise_iff_get.mp h _ _ hij

end sort

variable {n : ℕ} (v : Fin (n + 2) → ℝ) (R : Fin (n + 2) → Fin (n + 2) → Bool) (hR : ∀ a b, R a b = true ↔ v b < v a)

include hR in
theorem sorted_first : FirstMax v (sortedFrom R 0) := by
  have h : ∀ j, j ≠ sortedFrom R 0 → Before v (sortedFrom R 0) j := fun j hj => by
    obtain ⟨k, rfl⟩ := sortedFrom_surjective R j
    exact before_sortedFrom v R hR 0 k (Fin.pos_of_ne_zero fun e => hj (by rw [e]))
  refine ⟨fun j => ?_, fun j hj => ?_⟩
  · by_cases e : j = sortedFrom R 0
    · rw [e]
    · rcases h j e with h | h
      · exact h.le
      · exact h.1.le
  · rcases h j hj.ne with h | h
    · exact h
    · exact absurd h.2 (not_lt.mpr hj.le)

include hR in
theorem sorted_second : SecondMax v (sortedFrom R 0) (sortedFrom R 1) := by
  have h01 : (1 : Fin (n + 2)) ≠ 0 := by simp
  have hne : sortedFrom R 1 ≠ sortedFrom R 0 := fun e => h01 (sortedFrom_injective R e)
  have h : ∀ j, j ≠ sortedFrom R 0 → j ≠ sortedFrom R 1 → Before v (sortedFrom R 1) j := fun j h0 h1 => by
    obtain ⟨k, rfl⟩ := sortedFrom_surjective R j
    refine before_sortedFrom v R hR 1 k ?_
    have k0 : k ≠ 0 := fun e => h0 (by rw [e])
    have k1 : k ≠ 1 := fun e => h1 (by rw [e])
    have k0' : k.val ≠ 0 := fun e => k0 (Fin.ext e)
    have k1' : k.val ≠ 1 := fun e => k1 (Fin.ext (by rw [e]; rfl))
    show (1 : Fin (n + 2)).val < k.val
    rw [Fin.val_one]
    omega
  refine ⟨hne, fun j hj => ?_, fun j hj hj0 => ?_⟩
  · by_cases e : j = sortedFrom R 1
    · rw [e]
    · rcases h j hj e with h | h
      · exact h.le
      · exact h.1.le
  · rcases h j hj0 hj.ne with h | h
    · exact h
    · exact absurd h.2 (not_lt.mpr hj.le)

/-! ## A fold that keeps the better of two pairs -/

/-- The pair `p` loses to `t`: a smaller value, or the same value with a larger index. -/
def Loses (t p : EReal × BitVec 32) : Prop := p.1 < t.1 ∨ (p.1 = t.1 ∧ t.2.slt p.2 = true)

theorem foldl_best (r : EReal × BitVec 32 → EReal × BitVec 32 → EReal × BitVec 32)
    (hr : ∀ a b, r a b = if b.1 < a.1 then a else if a.1 = b.1 ∧ a.2.slt b.2 = true then a else b)
    (t : EReal × BitVec 32) : ∀ (l : List (EReal × BitVec 32)) (a : EReal × BitVec 32),
    (a = t ∨ (Loses t a ∧ t ∈ l)) → (∀ p ∈ l, p = t ∨ Loses t p) → l.foldl r a = t
  | [], a, h, _ => by
    rcases h with h | h
    · exact h
    · exact absurd h.2 (List.not_mem_nil)
  | b :: l, a, h, hl => by
    have h1 : ∀ p, Loses t p → r t p = t := fun p hp => by
      rw [hr]
      rcases hp with hp | hp
      · rw [if_pos hp]
      · rw [if_neg (by rw [hp.1]; exact lt_irrefl _), if_pos ⟨hp.1.symm, hp.2⟩]
    have h2 : ∀ p, Loses t p → r p t = t := fun p hp => by
      rw [hr]
      rcases hp with hp | hp
      · rw [if_neg (not_lt.mpr hp.le), if_neg fun e => hp.ne e.1]
      · rw [if_neg (by rw [hp.1]; exact lt_irrefl _), if_neg]
        rintro ⟨-, e⟩
        have a1 := hp.2
        rw [BitVec.slt, decide_eq_true_eq] at a1 e
        omega
    have h3 : r t t = t := by
      rw [hr]; split
      · rfl
      · split <;> rfl
    have h4 : ∀ p q, r p q = p ∨ r p q = q := fun p q => by
      rw [hr]; split
      · exact Or.inl rfl
      · split
        · exact Or.inl rfl
        · exact Or.inr rfl
    refine foldl_best r hr t l (r a b) ?_ fun p hp => hl p (List.mem_cons_of_mem _ hp)
    have hb := hl b List.mem_cons_self
    rcases h with rfl | ⟨ha, hm⟩
    · rcases hb with rfl | hb
      · exact Or.inl h3
      · exact Or.inl (h1 b hb)
    · rcases hb with rfl | hb
      · exact Or.inl (h2 a ha)
      · refine Or.inr ⟨?_, ?_⟩
        · rcases h4 a b with e | e <;> rw [e] <;> assumption
        · rcases List.mem_cons.mp hm with rfl | hm
          · rcases hb with hb | hb
            · exact absurd hb (lt_irrefl _)
            · have := hb.2
              rw [BitVec.slt, decide_eq_true_eq] at this
              exact absurd this (lt_irrefl _)
          · exact hm

/-- The largest of finitely many values, folded from minus infinity. -/
theorem fold_max_eq {ι : Type} (s : Finset ι) (f : ι → EReal) (p : ι) (hp : p ∈ s) (h : ∀ x ∈ s, f x ≤ f p) :
    Finset.fold max negInf f s = f p := by
  rw [negInf_eq]
  apply le_antisymm
  · exact (Finset.fold_max_le _).mpr ⟨bot_le, h⟩
  · exact (Finset.le_fold_max _).mpr (Or.inr ⟨p, hp, le_rfl⟩)

end Cert.Layer

end
-- ==== Proof.RefRoute.lean ====
module

public import proofs.«01_k».proof.Proof.RefRows
public import proofs.«01_k».proof.Proof.ListChoice

@[expose] public section

set_option maxRecDepth 16384

noncomputable section

namespace Cert.ReferenceIdeal.Value

open Cert.ReferenceIdeal Cert.ReferenceIdeal.Gen Idealize.ShloMosaic Idealize.ShloMosaic.TcCoe Cert.Layer

/-! ## The axes that the reductions drop -/

theorem drop4 (n n' : Fin 16896) (g : Fin 4) : reducesTo_S16896x4_S16896_d1.drop (ix2 n' g) = ix1 n ↔ n' = n := by
  have h0 : ((reducesTo_S16896x4_S16896_d1.drop (ix2 n' g)) 0).val = n'.val := by
    simpa using Shape.ReducesTo.drop_apply_val_of_eq reducesTo_S16896x4_S16896_d1 (ix2 n' g) 0 0
  constructor
  · intro h
    have := congrFun h 0
    exact Fin.ext (h0.symm.trans (congrArg Fin.val this))
  · rintro rfl
    funext a
    obtain rfl : a = 0 := Subsingleton.elim _ _
    exact Fin.ext h0

theorem drop2 (n n' : Fin 16896) (g : Fin 2) : reducesTo_S16896x2_S16896_d1.drop (ix2 n' g) = ix1 n ↔ n' = n := by
  have h0 : ((reducesTo_S16896x2_S16896_d1.drop (ix2 n' g)) 0).val = n'.val := by
    simpa using Shape.ReducesTo.drop_apply_val_of_eq reducesTo_S16896x2_S16896_d1 (ix2 n' g) 0 0
  constructor
  · intro h
    have := congrFun h 0
    exact Fin.ext (h0.symm.trans (congrArg Fin.val this))
  · rintro rfl
    funext a
    obtain rfl : a = 0 := Subsingleton.elim _ _
    exact Fin.ext h0

theorem drop1 (n : Fin 16896) (i : S16896x1x1.Idx) : reducesTo_S16896x1x1_S16896x1_d2.drop i = ix2 n 0 → i = ix3 n 0 0 := by
  intro h
  have h0 : ((reducesTo_S16896x1x1_S16896x1_d2.drop i) 0).val = (i 0).val :=
    Shape.ReducesTo.drop_apply_val_of_eq reducesTo_S16896x1x1_S16896x1_d2 i 0 0
  have h1 := congrArg Fin.val (congrFun h 0)
  funext a
  fin_cases a
  · exact Fin.ext (h0.symm.trans h1)
  · exact Subsingleton.elim (α := Fin 1) _ _
  · exact Subsingleton.elim (α := Fin 1) _ _

/-- Folding conjunction over ones. -/
theorem fold_and_ones {ι : Type} [DecidableEq ι] (s : Finset ι) (f : ι → BitVec 1) (h : ∀ x ∈ s, f x = 1#1) :
    Finset.fold IntOp.andi 1#1 f s = 1#1 := by
  induction s using Finset.induction_on with
  | empty => rfl
  | insert a s ha ih =>
    rw [Finset.fold_insert ha, h a (Finset.mem_insert_self _ _), ih fun x hx => h x (Finset.mem_insert_of_mem hx)]
    rfl

/-! ## The reference's argmax -/

theorem reducer_eq (a b : EReal × BitVec 32) :
    (reducer_argmax_f32_i32 (F := Ideal) a b : EReal × BitVec 32)
      = if b.1 < a.1 then a else if a.1 = b.1 ∧ a.2.slt b.2 = true then a else b := by
  obtain ⟨a1, a2⟩ := a
  obtain ⟨b1, b2⟩ := b
  unfold reducer_argmax_f32_i32
  simp only [Ideal.cmpf_def, Ideal.cmp, IntOp.cmpi, IntOp.ori, IntOp.andi, Scalar.select]
  by_cases h1 : b1 < a1
  · have h2 : a1 ≠ b1 := h1.ne'
    simp [h1, h2]
  · by_cases h2 : a1 = b1
    · subst h2
      rcases Bool.eq_false_or_eq_true (a2.slt b2) with h3 | h3 <;> simp [h3]
    · simp [h1, h2]

/-! ## Reading along an index -/

theorem index_nat (G : Fin 4) : (BitVec.ofNat 32 G.val).toInt.toNat = G.val := by
  revert G; decide

section
local notation "dg" => gather_S16896x4_S16896x1x1_S16896x1_n_1_0_0_1_2_11

theorem gather_group {α : Type} (x : S16896x4.Idx → α) (idx : IVec S16896x1x1 32) (n : Fin 16896) (G : Fin 4)
    (h : idx (ix3 n 0 0) = BitVec.ofNat 32 G.val) :
    Host.gather gather_S16896x4_S16896x1x1_S16896x1_n_1_0_0_1_2_11 x idx (ix2 n 0) = x (ix2 n G) := by
  show x _ = x _
  congr 1
  have s0 : (dg).start (ix2 n 0) idx 0 = 0 := dif_neg (by decide)
  have o0 : (dg).offCoord (ix2 n 0) 0 = 0 := dif_neg (by decide)
  have o1 : (dg).offCoord (ix2 n 0) 1 = 0 := dif_neg (by decide)
  have b1 : (dg).batchCoord (ix2 n 0) 1 = 0 := dif_neg (by decide)
  have b0 : (dg).batchCoord (ix2 n 0) 0 = n.val := by
    unfold GatherDims.batchCoord
    rw [dif_pos (by decide)]
    rfl
  have s1 : (dg).start (ix2 n 0) idx 1 = G.val := by
    unfold GatherDims.start
    rw [dif_pos (by decide)]
    have e : (dg).siIdx (ix2 n 0) ⟨(dg).startIndexMap.idxOf 1, by decide⟩ = ix3 n 0 0 := by
      funext a
      fin_cases a
      · rfl
      · rfl
      · rfl
    rw [e, h, index_nat]
    exact min_eq_left (Nat.le_of_lt_succ G.isLt)
  funext a
  apply Fin.ext
  fin_cases a
  · show (dg).start (ix2 n 0) idx 0 + (dg).batchCoord (ix2 n 0) 0 + (dg).offCoord (ix2 n 0) 0 = n.val
    rw [s0, b0, o0, Nat.zero_add, Nat.add_zero]
  · show (dg).start (ix2 n 0) idx 1 + (dg).batchCoord (ix2 n 0) 1 + (dg).offCoord (ix2 n 0) 1 = G.val
    rw [s1, b1, o1, Nat.add_zero]

end

section
local notation "de" => gather_S16896x4x8_S16896x1x1_S16896x1x8_2_1_0_0_1_2_118

theorem gather_expert {α : Type} (x : S16896x4x8.Idx → α) (idx : IVec S16896x1x1 32) (n : Fin 16896) (i : Fin 8) (G : Fin 4)
    (h : idx (ix3 n 0 0) = BitVec.ofNat 32 G.val) :
    Host.gather gather_S16896x4x8_S16896x1x1_S16896x1x8_2_1_0_0_1_2_118 x idx (ix3 n 0 i) = x (ix3 n G i) := by
  show x _ = x _
  congr 1
  have s0 : (de).start (ix3 n 0 i) idx 0 = 0 := dif_neg (by decide)
  have o0 : (de).offCoord (ix3 n 0 i) 0 = 0 := dif_neg (by decide)
  have b0 : (de).batchCoord (ix3 n 0 i) 0 = n.val := by
    unfold GatherDims.batchCoord
    rw [dif_pos (by decide)]
    rfl
  have o1 : (de).offCoord (ix3 n 0 i) 1 = 0 := dif_neg (by decide)
  have b1 : (de).batchCoord (ix3 n 0 i) 1 = 0 := dif_neg (by decide)
  have s1 : (de).start (ix3 n 0 i) idx 1 = G.val := by
    unfold GatherDims.start
    rw [dif_pos (by decide)]
    have e : (de).siIdx (ix3 n 0 i) ⟨(de).startIndexMap.idxOf 1, by decide⟩ = ix3 n 0 0 := by
      funext a
      fin_cases a
      · rfl
      · rfl
      · rfl
    rw [e, h, index_nat]
    exact min_eq_left (Nat.le_of_lt_succ G.isLt)
  have s2 : (de).start (ix3 n 0 i) idx 2 = 0 := dif_neg (by decide)
  have b2 : (de).batchCoord (ix3 n 0 i) 2 = 0 := dif_neg (by decide)
  have o2 : (de).offCoord (ix3 n 0 i) 2 = i.val := by
    unfold GatherDims.offCoord
    rw [dif_pos (by decide)]
    rfl
  funext a
  apply Fin.ext
  fin_cases a
  · show (de).start (ix3 n 0 i) idx 0 + (de).batchCoord (ix3 n 0 i) 0 + (de).offCoord (ix3 n 0 i) 0 = n.val
    rw [s0, b0, o0, Nat.zero_add, Nat.add_zero]
  · show (de).start (ix3 n 0 i) idx 1 + (de).batchCoord (ix3 n 0 i) 1 + (de).offCoord (ix3 n 0 i) 1 = G.val
    rw [s1, b1, o1, Nat.add_zero]
  · show (de).start (ix3 n 0 i) idx 2 + (de).batchCoord (ix3 n 0 i) 2 + (de).offCoord (ix3 n 0 i) 2 = i.val
    rw [s2, b2, o2, Nat.zero_add]

end

/-! ## The two largest of a row -/

theorem along8 (n : Fin 16896) (k k' : Fin 8) : Shape.Idx.along (s := S16896x8) (ix2 n k') 1 k = ix2 n k := by
  funext a
  fin_cases a <;> rfl

theorem slice8 (n : Fin 16896) (k : Fin 2) :
    (fun a => ⟨0 + ((ix2 n k : S16896x2.Idx) (a.cast rfl)).val,
      Nat.lt_of_lt_of_le (Nat.add_lt_add_left ((ix2 n k : S16896x2.Idx) _).isLt _) (sliceFits_S16896x8_S16896x2.2 a)⟩ : S16896x8.Idx)
      = ix2 n ⟨k.val, by omega⟩ := by
  funext a
  apply Fin.ext
  fin_cases a
  · exact Nat.zero_add _
  · exact Nat.zero_add _

theorem topK_at (gt : EReal → EReal → BitVec 1) (x : S16896x8.Idx → EReal) (n : Fin 16896) (k : Fin 2) :
    (Host.topK S16896x2 1 gt x sliceFits_S16896x8_S16896x2).1 (ix2 n k)
      = x (ix2 n (sortedFrom (fun a b => gt (x (ix2 n a)) (x (ix2 n b)) == 1#1) ⟨k.val, by omega⟩))
    ∧ (Host.topK S16896x2 1 gt x sliceFits_S16896x8_S16896x2).2 (ix2 n k)
      = BitVec.ofNat 32 (sortedFrom (fun a b => gt (x (ix2 n a)) (x (ix2 n b)) == 1#1) ⟨k.val, by omega⟩).val := by
  unfold Host.topK Host.sort2 extractStridedSlice
  have hd : 1 < S16896x8.rank := by decide
  simp only [dif_pos hd]
  rw [slice8 n k]
  have ha : ∀ q : Fin 8, Shape.Idx.along (s := S16896x8) (ix2 n ⟨k.val, by omega⟩) ⟨1, hd⟩ q = ix2 n q := fun q => along8 n q _
  have hs : ∀ (R R' : Fin 8 → Fin 8 → Bool) (a b : Fin 8), R = R' → a.val = b.val → sortedFrom R a = sortedFrom R' b :=
    fun R R' a b h h' => by rw [h, Fin.ext h']
  have hR : (fun a b => gt (x (Shape.Idx.along (s := S16896x8) (ix2 n ⟨k.val, by omega⟩) ⟨1, hd⟩ a))
    (x (Shape.Idx.along (s := S16896x8) (ix2 n ⟨k.val, by omega⟩) ⟨1, hd⟩ b)) == 1#1) = (fun a b => gt (x (ix2 n a)) (x (ix2 n b)) == 1#1) :=
    funext fun a => funext fun b => congrArg₂ (fun p q => gt (x p) (x q) == 1#1) (ha a) (ha b)
  constructor
  · refine (congrArg x (ha _)).trans ?_
    exact congrArg (fun q => x (ix2 n q)) (hs _ _ _ _ hR (Nat.zero_add _))
  · refine (congrArg (iotaInDim S16896x8 32 ⟨1, hd⟩) (ha _)).trans ?_
    exact congrArg (fun q : Fin 8 => BitVec.ofNat 32 q.val) (hs _ _ _ _ hR (Nat.zero_add _))

end Cert.ReferenceIdeal.Value

end
-- ==== Proof.RefChoice.lean ====
module

public import proofs.«01_k».proof.Proof.RefRoute

@[expose] public section

set_option maxRecDepth 16384

noncomputable section

namespace Cert.ReferenceIdeal.Value

open Cert.ReferenceIdeal Cert.ReferenceIdeal.Gen Idealize.ShloMosaic Idealize.ShloMosaic.TcCoe Cert.Layer

variable (V0 : Valuation τ sig (Elt Ideal)) {gl : Fin 16896 → Fin 4 → ℝ} {el : Fin 16896 → Fin 4 → Fin 8 → ℝ}
  (hgl : ∀ n g, (rargs V0).gl n g = ((gl n g : ℝ) : EReal)) (hel : ∀ n g i, (rargs V0).el n g i = ((el n g i : ℝ) : EReal))
  (C : ∀ n, Chosen (gl n) (el n))

theorem slt_of_lt (a b : Fin 4) (h : a < b) : (BitVec.ofNat 32 a.val).slt (BitVec.ofNat 32 b.val) = true := by
  revert a b; decide

theorem argmax_at (x : FVec Ideal S16896x4 .f32) (y : S16896x4.Idx → BitVec 32) (n : Fin 16896) (v : Fin 4 → ℝ)
    (hx : ∀ g, x (ix2 n g) = ((v g : ℝ) : EReal)) (hy : ∀ g, y (ix2 n g) = BitVec.ofNat 32 g.val) (G : Fin 4) (hG : FirstMax v G)
    (cx : S_.Idx → EReal) (cy : S_.Idx → BitVec 32) (hcx : ∀ i, cx i = ⊥) :
    (Host.argReduce (reducer_argmax_f32_i32 (F := Ideal)) x y cx cy reducesTo_S16896x4_S16896_d1 h_S_ (ix1 n)).2 = BitVec.ofNat 32 G.val := by
  have key : ∀ b : BitVec 32, (Host.argReduceFiber x y reducesTo_S16896x4_S16896_d1 (ix1 n)).foldl (reducer_argmax_f32_i32 (F := Ideal)) ((⊥ : EReal), b)
        = (((v G : ℝ) : EReal), BitVec.ofNat 32 G.val) := by
    intro b
    have hxy : ∀ g, (x (ix2 n g), y (ix2 n g)) = (((v g : ℝ) : EReal), BitVec.ofNat 32 g.val) := fun g => Prod.ext (hx g) (hy g)
    refine foldl_best _ reducer_eq _ _ _ (Or.inr ⟨Or.inl (EReal.bot_lt_coe _), ?_⟩) ?_
    · unfold Host.argReduceFiber
      refine List.mem_map.mpr ⟨S16896x4.rowMajor (ix2 n G), List.mem_filter.mpr ⟨List.mem_finRange _, ?_⟩, ?_⟩
      · rw [Equiv.symm_apply_apply, decide_eq_true_eq]
        exact (drop4 n n _).mpr rfl
      · rw [Equiv.symm_apply_apply]
        exact hxy _
    · intro p hp
      unfold Host.argReduceFiber at hp
      obtain ⟨q, hq, rfl⟩ := List.mem_map.mp hp
      have hq' := of_decide_eq_true (List.mem_filter.mp hq).2
      generalize S16896x4.rowMajor.symm q = i at hq' ⊢
      obtain ⟨n', g, rfl⟩ : ∃ (n' : Fin 16896) (g : Fin 4), i = ix2 n' g := ⟨i 0, i 1, (eq_ix2 i)⟩
      obtain rfl := (drop4 n n' g).mp hq'
      rw [hxy g]
      by_cases e : g = G
      · exact Or.inl (by rw [e])
      · refine Or.inr ?_
        rcases lt_or_eq_of_le (hG.1 g) with h | h
        · exact Or.inl (EReal.coe_lt_coe_iff.mpr h)
        · refine Or.inr ⟨congrArg (fun r : ℝ => (r : EReal)) h, slt_of_lt _ _ ?_⟩
          rcases lt_trichotomy g G with h' | h' | h'
          · exact absurd h (hG.2 g h').ne
          · exact absurd h' e
          · exact h'
  rw [Ideal.argReduce_eq_reduce2, Host.reduce2_eq_foldl_fiber, hcx]
  exact congrArg Prod.snd (key _)

include hgl in
theorem v32_at (n : Fin 16896) : (res_main_v32 V0 : IVec S16896 32) (ix1 n) = BitVec.ofNat 32 (C n).group.val := by
  unfold res_main_v32
  exact argmax_at _ _ n (gl n) (fun g => (v20_at V0 n g).trans (hgl n g)) (fun g => rfl) _ (C n).group_max _ _ fun i => negInf_eq

theorem word_slt (G : Fin 4) : IntOp.cmpi .slt (BitVec.ofNat 32 G.val) 0#32 = 0#1 := by
  revert G; decide

theorem word_in (G : Fin 4) : IntOp.andi (IntOp.cmpi .sge (BitVec.ofNat 32 G.val) 0#32) (IntOp.cmpi .sle (BitVec.ofNat 32 G.val) 3#32) = 1#1 := by
  revert G; decide

include hgl in
theorem v4_chosen (n : Fin 16896) : (res_main_call2_v4 V0 : IVec S16896x1x1 32) (ix3 n 0 0) = BitVec.ofNat 32 (C n).group.val :=
  v4_at V0 n _ (v32_at V0 hgl C n) (word_slt _)

include hgl in
theorem v5_chosen (n : Fin 16896) : (res_main_call1_v5 V0 : IVec S16896x1x1 32) (ix3 n 0 0) = BitVec.ofNat 32 (C n).group.val :=
  v5_at V0 n _ (v32_at V0 hgl C n) (word_slt _)

theorem select_one {c : BitVec 1} {a b r : EReal} (hc : c = 1#1) (ha : a = r) : Scalar.select c a b = r := by
  subst hc; exact ha

theorem max_row4 (x : S16896x4.Idx → EReal) (n : Fin 16896) (v : Fin 4 → ℝ) (hx : ∀ g, x (ix2 n g) = ((v g : ℝ) : EReal)) (G : Fin 4) (hG : FirstMax v G)
    (s : Finset S16896x4.Idx) (hs : ∀ i, i ∈ s ↔ reducesTo_S16896x4_S16896_d1.drop i = ix1 n) :
    max negInf (Finset.fold max negInf x s) = ((v G : ℝ) : EReal) := by
  rw [fold_max_eq s x (ix2 n G) ((hs _).mpr ((drop4 n n G).mpr rfl)), hx, negInf_eq]
  · exact max_eq_right bot_le
  · intro i hi
    obtain ⟨n', g, rfl⟩ : ∃ (n' : Fin 16896) (g : Fin 4), i = ix2 n' g := ⟨i 0, i 1, (eq_ix2 i)⟩
    obtain rfl := (drop4 n n' g).mp ((hs _).mp hi)
    rw [hx, hx]
    exact EReal.coe_le_coe_iff.mpr (hG.1 g)

theorem max_row2 (x : S16896x2.Idx → EReal) (n : Fin 16896) (v : Fin 2 → ℝ) (hx : ∀ g, x (ix2 n g) = ((v g : ℝ) : EReal)) (hv : v 1 ≤ v 0)
    (s : Finset S16896x2.Idx) (hs : ∀ i, i ∈ s ↔ reducesTo_S16896x2_S16896_d1.drop i = ix1 n) :
    max negInf (Finset.fold max negInf x s) = ((v 0 : ℝ) : EReal) := by
  rw [fold_max_eq s x (ix2 n 0) ((hs _).mpr ((drop2 n n 0).mpr rfl)), hx, negInf_eq]
  · exact max_eq_right bot_le
  · intro i hi
    obtain ⟨n', g, rfl⟩ : ∃ (n' : Fin 16896) (g : Fin 2), i = ix2 n' g := ⟨i 0, i 1, (eq_ix2 i)⟩
    obtain rfl := (drop2 n n' g).mp ((hs _).mp hi)
    rw [hx, hx]
    refine EReal.coe_le_coe_iff.mpr ?_
    fin_cases g
    · exact le_rfl
    · exact hv

theorem bounds_one (idx : IVec S16896x1x1 32) (n : Fin 16896) (G : Fin 4) (h : idx (ix3 n 0 0) = BitVec.ofNat 32 G.val)
    (f : S16896x1x1.Idx → BitVec 1) (hf : ∀ x, f x = IntOp.andi (IntOp.cmpi .sge (idx x) 0#32) (IntOp.cmpi .sle (idx x) 3#32))
    (s : Finset S16896x1x1.Idx) (hs : ∀ x ∈ s, reducesTo_S16896x1x1_S16896x1_d2.drop x = ix2 n 0) :
    Finset.fold IntOp.andi 1#1 f s = 1#1 :=
  fold_and_ones s f fun x hx => by
    rw [hf, drop1 n x (hs x hx), h]
    exact word_in G

/-- The logits of the experts, group by group. -/
def logits : FVec Ideal S16896x4x8 .f32 :=
  shapeCast _ (addf (Host.dotGeneral (φ₁ := .f32) (φ₂ := .f32) dot_S16896x1024_S1024x32_S16896x32_1_0_0_1_n_n none (res_main_v16 V0) (V0 (Proc.devRef .tc main_arg7))) (broadcastInDim S16896x32 ![0, 1] bcast_S1x32_S16896x32_0_1 (broadcastInDim S1x32 ![1] bcast_S32_S1x32_1 (V0 (Proc.devRef .tc main_arg8))))) shapeCasts_S16896x32_S16896x4x8

theorem logits_at (n : Fin 16896) (g : Fin 4) (i : Fin 8) : logits V0 (ix3 n g i) = (rargs V0).el n g i := by
  pointwise [logits, v16_at, Args.el, flat]
  rfl

include hgl hel in
theorem v42_at (n : Fin 16896) (i : Fin 8) : (res_main_v42 V0 : Vec Ideal S16896x8 .f32) (ix2 n i) = ((el n (C n).group i : ℝ) : EReal) := by
  have hg := gather_expert (logits V0) (res_main_call2_v4 V0) n i (C n).group (v4_chosen V0 hgl C n)
  rw [logits_at, hel] at hg
  pointwise [res_main_v42]
  exact select_one (bounds_one (res_main_call2_v4 V0) n (C n).group (v4_chosen V0 hgl C n) _ (fun x => rfl) _ (fun x hx => (Finset.mem_filter.mp hx).2)) hg

include hgl in
theorem v27_at (n : Fin 16896) (i : Fin 4) : (res_main_v27 V0 : Vec Ideal S16896x4 .f32) (ix2 n i) = ((Real.exp (gl n i - gl n (C n).group) : ℝ) : EReal) := by
  have hm := max_row4 (res_main_v20 V0) n (gl n) (fun g => (v20_at V0 n g).trans (hgl n g)) (C n).group (C n).group_max
    (Finset.univ.filter fun i => reducesTo_S16896x4_S16896_d1.drop i = ix1 n) (fun i => by simp)
  pointwise [res_main_v27, v20_at]
  rw [hgl n i]
  refine (congrArg (fun m => Ideal.exp (((gl n i : ℝ) : EReal) - m)) hm).trans ?_
  show Ideal.exp (((gl n i : ℝ) : EReal) - ((gl n (C n).group : ℝ) : EReal)) = _
  rw [← EReal.coe_sub, Ideal.exp_coe]

/-- The place of the logit that `top_k` puts at place `k`. -/
def place (n : Fin 16896) (k : Fin 2) : Fin 8 := if k = 0 then (C n).first else (C n).second

include hgl hel in
theorem order_iff (n : Fin 16896) (a b : Fin 8) :
    (FloatOps.cmpfTotal (F := Ideal) (φ := FTy.f32) .gt ((res_main_v42 V0 : Vec Ideal S16896x8 .f32) (ix2 n a)) ((res_main_v42 V0 : Vec Ideal S16896x8 .f32) (ix2 n b)) == 1#1) = true
      ↔ el n (C n).group b < el n (C n).group a := by
  rw [v42_at V0 hgl hel C, v42_at V0 hgl hel C, Ideal.cmpfTotal_def]
  have e : Ideal.cmp CmpDirection.gt.ordered ((el n (C n).group a : ℝ) : EReal) ((el n (C n).group b : ℝ) : EReal)
      = BitVec.ofBool (decide (((el n (C n).group b : ℝ) : EReal) < ((el n (C n).group a : ℝ) : EReal))) := rfl
  rw [e]
  by_cases h : el n (C n).group b < el n (C n).group a
  · simp [h]
  · simp [h]

include hgl hel in
theorem place_eq (n : Fin 16896) (k : Fin 2) :
    sortedFrom (fun a b => FloatOps.cmpfTotal (F := Ideal) (φ := FTy.f32) .gt ((res_main_v42 V0 : Vec Ideal S16896x8 .f32) (ix2 n a)) ((res_main_v42 V0 : Vec Ideal S16896x8 .f32) (ix2 n b)) == 1#1) ⟨k.val, by omega⟩
      = place C n k := by
  have h0 := (sorted_first (n := 6) (el n (C n).group) _ (order_iff V0 hgl hel C n)).unique (C n).first_max
  have h1 := sorted_second (n := 6) (el n (C n).group) _ (order_iff V0 hgl hel C n)
  rw [h0] at h1
  have h1' := h1.unique (C n).second_max
  fin_cases k
  · exact h0
  · exact h1'

include hgl hel in
theorem values_at (n : Fin 16896) (k : Fin 2) : (res_main_values V0 : Vec Ideal S16896x2 .f32) (ix2 n k) = ((el n (C n).group (place C n k) : ℝ) : EReal) := by
  refine (topK_at (FloatOps.cmpfTotal (F := Ideal) (φ := FTy.f32) .gt) (res_main_v42 V0) n k).1.trans ?_
  rw [place_eq V0 hgl hel C n k]
  exact v42_at V0 hgl hel C n _

include hgl hel in
theorem places_at (n : Fin 16896) (k : Fin 2) :
    (Host.topK S16896x2 1 (FloatOps.cmpfTotal (F := Ideal) (φ := FTy.f32) .gt) (res_main_v42 V0 : Vec Ideal S16896x8 .f32) sliceFits_S16896x8_S16896x2).2 (ix2 n k)
      = BitVec.ofNat 32 (place C n k).val := by
  refine (topK_at (FloatOps.cmpfTotal (F := Ideal) (φ := FTy.f32) .gt) (res_main_v42 V0) n k).2.trans ?_
  rw [place_eq V0 hgl hel C n k]

include hgl hel in
theorem v49_at (n : Fin 16896) (k : Fin 2) : (res_main_v49 V0 : Vec Ideal S16896x2 .f32) (ix2 n k) = (((if k = 0 then 1 else (C n).ratio) : ℝ) : EReal) := by
  have hm := max_row2 (res_main_values V0) n (fun k => el n (C n).group (place C n k)) (values_at V0 hgl hel C n) ((C n).first_max.1 _)
    (Finset.univ.filter fun i => reducesTo_S16896x2_S16896_d1.drop i = ix1 n) (fun i => by simp)
  pointwise [res_main_v49]
  rw [values_at V0 hgl hel C n k]
  refine (congrArg (fun m => Ideal.exp (((el n (C n).group (place C n k) : ℝ) : EReal) - m)) hm).trans ?_
  show Ideal.exp (((el n (C n).group (place C n k) : ℝ) : EReal) - ((el n (C n).group (place C n 0) : ℝ) : EReal)) = _
  rw [← EReal.coe_sub, Ideal.exp_coe]
  refine congrArg (fun r : ℝ => (r : EReal)) ?_
  by_cases hk : k = 0
  · rw [if_pos hk, hk, sub_self, Real.exp_zero]
  · rw [if_neg hk]
    show Real.exp (el n (C n).group (if k = 0 then (C n).first else (C n).second) - el n (C n).group (C n).first) = _
    rw [if_neg hk]
    rfl

/-- The groups' probabilities. -/
def probs : FVec Ideal S16896x4 .f32 :=
  Host.divf (res_main_v27 V0) (broadcastInDim S16896x4 ![0, 1] bcast_S16896x1_S16896x4_0_1 (broadcastInDim S16896x1 ![0] bcast_S16896_S16896x1_0 (Host.reduceAdd (φ := .f32) (res_main_v27 V0) (constant S_ .f32 0x00000000#32) reducesTo_S16896x4_S16896_d1 h_S_)))

include hgl in
theorem probs_at (n : Fin 16896) : probs V0 (ix2 n (C n).group) = (((C n).gw : ℝ) : EReal) := by
  pointwise [probs]
  rw [v27_at V0 hgl C n]
  have hs : Finset.sum (M := EReal) Finset.univ (fun g : Fin 4 => (res_main_v27 V0 : Vec Ideal S16896x4 .f32) (ix2 n g)) = ((∑ g, Real.exp (gl n g - gl n (C n).group) : ℝ) : EReal) := by
    rw [coe_sum_real]
    exact Finset.sum_congr rfl fun g _ => v27_at V0 hgl C n g
  refine (congrArg (fun m => Ideal.div _ m) hs).trans ?_
  rw [div_real _ _ (C n).sum_pos.ne', sub_self, Real.exp_zero]
  rfl

theorem uitofp_eq (a b : BitVec 32) : (FloatOps.uitofp (F := Ideal) .f32 (IntOp.cmpi .eq a b) : EReal) = (((if a = b then 1 else 0) : ℝ) : EReal) := by
  show (((IntOp.cmpi .eq a b).toNat : ℝ) : EReal) = _
  by_cases h : a = b
  · simp [h, IntOp.cmpi]
  · simp [h, IntOp.cmpi]

theorem word_eq4 (a b : Fin 4) : BitVec.ofNat 32 a.val = BitVec.ofNat 32 b.val ↔ b = a := by
  revert a b; decide

theorem word_eq8 (a b : Fin 8) : BitVec.ofNat 32 a.val = BitVec.ofNat 32 b.val ↔ b = a := by
  revert a b; decide

include hgl hel in
theorem v66_at (n : Fin 16896) (g : Fin 4) (i : Fin 8) : (res_main_v66 V0 : Vec Ideal S16896x4x8 .f32) (ix3 n g i) = (((C n).gate g i : ℝ) : EReal) := by
  have hg := gather_group (probs V0) (res_main_call1_v5 V0) n (C n).group (v5_chosen V0 hgl C n)
  rw [probs_at V0 hgl C] at hg
  have hp : ∀ k, (FloatOps.uitofp (F := Ideal) .f32 (IntOp.cmpi .eq ((Host.topK S16896x2 1 (FloatOps.cmpfTotal (F := Ideal) (φ := FTy.f32) .gt) (res_main_v42 V0 : Vec Ideal S16896x8 .f32) sliceFits_S16896x8_S16896x2).2 (ix2 n k)) (BitVec.ofNat 32 i.val)) : EReal)
      = (((if i = place C n k then 1 else 0) : ℝ) : EReal) := fun k => by
    rw [places_at V0 hgl hel C, uitofp_eq]
    simp only [word_eq8]
  have hr : 0 < (C n).ratio := (C n).ratio_pos
  have hs : Finset.sum (M := EReal) Finset.univ (fun k : Fin 2 => (res_main_v49 V0 : Vec Ideal S16896x2 .f32) (ix2 n k)) = ((1 + (C n).ratio : ℝ) : EReal) := by
    rw [Fin.sum_univ_two, v49_at V0 hgl hel C, v49_at V0 hgl hel C, if_pos rfl, if_neg (by decide), EReal.coe_add]
  have hG : (FloatOps.uitofp (F := Ideal) .f32 (IntOp.cmpi .eq ((res_main_v32 V0 : IVec S16896 32) (ix1 n)) (BitVec.ofNat 32 g.val)) : EReal)
      = (((if g = (C n).group then 1 else 0) : ℝ) : EReal) := by
    rw [v32_at V0 hgl C, uitofp_eq]
    simp only [word_eq4]
  have hb := select_one (b := Ideal.ofBits .f32 2143289344#32) (bounds_one (res_main_call1_v5 V0) n (C n).group (v5_chosen V0 hgl C n) _ (fun x => rfl)
    (Finset.univ.filter fun i => reducesTo_S16896x1x1_S16896x1_d2.drop i = ix2 n 0) (fun x hx => (Finset.mem_filter.mp hx).2)) hg
  have hsum : ∑ k : Fin 2, (FloatOps.uitofp (F := Ideal) .f32 (IntOp.cmpi .eq ((Host.topK S16896x2 1 (FloatOps.cmpfTotal (F := Ideal) (φ := FTy.f32) .gt) (res_main_v42 V0 : Vec Ideal S16896x8 .f32) sliceFits_S16896x8_S16896x2).2 (ix2 n k)) (BitVec.ofNat 32 i.val)) : EReal)
        * Ideal.div ((res_main_v49 V0 : Vec Ideal S16896x2 .f32) (ix2 n k)) (Finset.sum (M := EReal) Finset.univ (fun k : Fin 2 => (res_main_v49 V0 : Vec Ideal S16896x2 .f32) (ix2 n k)))
      = (((if i = (C n).first then 1 / (1 + (C n).ratio) else if i = (C n).second then (C n).ratio / (1 + (C n).ratio) else 0) : ℝ) : EReal) := by
    have hne : (1 + (C n).ratio) ≠ 0 := by positivity
    rw [Fin.sum_univ_two, hp, hp, hs, v49_at V0 hgl hel C, v49_at V0 hgl hel C, div_real _ _ hne, div_real _ _ hne, ← EReal.coe_mul, ← EReal.coe_mul, ← EReal.coe_add]
    refine congrArg (fun r : ℝ => (r : EReal)) ?_
    have h1 : ((1 : Fin 2) = 0) = False := by simp
    have h2 := (C n).second_max.1
    simp only [place, if_true, h1, if_false]
    by_cases a : i = (C n).first
    · have b : i ≠ (C n).second := fun e => h2 (e.symm.trans a)
      simp [a, b, h2.symm]
    · by_cases b : i = (C n).second
      · simp [b, h2]
      · simp [a, b]
  have hfin : (((if g = (C n).group then 1 else 0) : ℝ) : EReal) * ((((C n).gw : ℝ) : EReal)
        * (((if i = (C n).first then 1 / (1 + (C n).ratio) else if i = (C n).second then (C n).ratio / (1 + (C n).ratio) else 0) : ℝ) : EReal))
      = (((C n).gate g i : ℝ) : EReal) := by
    rw [← EReal.coe_mul, ← EReal.coe_mul]
    refine congrArg (fun r : ℝ => (r : EReal)) ?_
    unfold Chosen.gate
    split
    · split
      · ring
      · split
        · ring
        · ring
    · ring
  pointwise [res_main_v66]
  refine Eq.trans ?_ hfin
  refine congrArg₂ (HMul.hMul (α := EReal) (β := EReal)) hG (congrArg₂ (HMul.hMul (α := EReal) (β := EReal)) hb hsum)

end Cert.ReferenceIdeal.Value

end
-- ==== Proof.RefOut.lean ====
module

public import proofs.«01_k».proof.Proof.RefChoice

@[expose] public section

set_option maxRecDepth 16384

noncomputable section

namespace Cert.ReferenceIdeal.Value

open Cert.ReferenceIdeal Cert.ReferenceIdeal.Gen Idealize.ShloMosaic Idealize.ShloMosaic.TcCoe Cert.Layer

variable (V0 : Valuation τ sig (Elt Ideal))

theorem v70_at (n : Fin 16896) (i : Fin 8) (f : Fin 256) : (res_main_v70 V0 : Vec Ideal S16896x8x256 .f32) (ix3 n i f) = ∑ k, (rargs V0).nrm n k * (rargs V0).w1 0 i k f := by
  pointwise [res_main_v70, v16_at]
  rfl

theorem v87_at (n : Fin 16896) (i : Fin 8) (f : Fin 256) : (res_main_v87 V0 : Vec Ideal S16896x8x256 .f32) (ix3 n i f) = ∑ k, (rargs V0).nrm n k * (rargs V0).w1 1 i k f := by
  pointwise [res_main_v87, v16_at]
  rfl

theorem v104_at (n : Fin 16896) (i : Fin 8) (f : Fin 256) : (res_main_v104 V0 : Vec Ideal S16896x8x256 .f32) (ix3 n i f) = ∑ k, (rargs V0).nrm n k * (rargs V0).w1 2 i k f := by
  pointwise [res_main_v104, v16_at]
  rfl

theorem v121_at (n : Fin 16896) (i : Fin 8) (f : Fin 256) : (res_main_v121 V0 : Vec Ideal S16896x8x256 .f32) (ix3 n i f) = ∑ k, (rargs V0).nrm n k * (rargs V0).w1 3 i k f := by
  pointwise [res_main_v121, v16_at]
  rfl

/-- What group `g`'s experts add to an entry. -/
def group (G : Fin 16896 → Fin 4 → Fin 8 → EReal) (n : Fin 16896) (d : Fin 1024) (g : Fin 4) : EReal :=
  ∑ i : Fin 8, expert ((rargs V0).nrm n) (fun k f => (rargs V0).w1 g i k f) (fun k f => (rargs V0).w2 g i k f) (fun f => (rargs V0).w3 g i f d) (G n g i)

theorem group_eq (G : Fin 16896 → Fin 4 → Fin 8 → EReal) (n : Fin 16896) (d : Fin 1024) (g : Fin 4) (q : Fin 8 → EReal) (hq : ∀ i, q i = G n g i) :
    (∑ i : Fin 8, ∑ f : Fin 256, (∑ k, (rargs V0).nrm n k * (rargs V0).w1 g i k f)
        * Ideal.div 1 (1 + Ideal.exp (-∑ k, (rargs V0).nrm n k * (rargs V0).w1 g i k f))
        * (∑ k, (rargs V0).nrm n k * (rargs V0).w2 g i k f) * q i * (rargs V0).w3 g i f d) = group V0 G n d g := by
  unfold group expert Layer.hidden
  refine Finset.sum_congr rfl fun i _ => Finset.sum_congr rfl fun f _ => ?_
  rw [hq, zero_sub]

theorem v135_at (G : Fin 16896 → Fin 4 → Fin 8 → EReal) (hG : ∀ n g i, (res_main_v66 V0 : Vec Ideal S16896x4x8 .f32) (ix3 n g i) = G n g i) (n : Fin 16896) (d : Fin 1024) :
    (res_main_v135 V0 : Vec Ideal S16896x1024 .f32) (ix2 n d) = group V0 G n d 0 + group V0 G n d 1 + group V0 G n d 2 + group V0 G n d 3 := by
  pointwise [res_main_v135, v70_at, v87_at, v104_at, v121_at, v16_at]
  have h := fun g => group_eq V0 G n d g (fun i => (res_main_v66 V0 : Vec Ideal S16896x4x8 .f32) (ix3 n g i)) (hG n g)
  exact congrArg₂ (HAdd.hAdd (α := EReal) (β := EReal)) (congrArg₂ (HAdd.hAdd (α := EReal) (β := EReal)) (congrArg₂ (HAdd.hAdd (α := EReal) (β := EReal)) (h 0) (h 1)) (h 2)) (h 3)

theorem groups_sum (G : Fin 16896 → Fin 4 → Fin 8 → EReal) (n : Fin 16896) (d : Fin 1024) :
    group V0 G n d 0 + group V0 G n d 1 + group V0 G n d 2 + group V0 G n d 3
      = ∑ e : Fin 32, expert ((rargs V0).nrm n) (fun k f => (rargs V0).w1 ⟨e.val / 8, by omega⟩ ⟨e.val % 8, by omega⟩ k f)
          (fun k f => (rargs V0).w2 ⟨e.val / 8, by omega⟩ ⟨e.val % 8, by omega⟩ k f) (fun f => (rargs V0).w3 ⟨e.val / 8, by omega⟩ ⟨e.val % 8, by omega⟩ f d)
          (G n ⟨e.val / 8, by omega⟩ ⟨e.val % 8, by omega⟩) := by
  rw [← Fin.sum_univ_four (fun g => group V0 G n d g)]
  unfold group
  refine Fin.sum_mul_add_congr (n := 8) (fun g i hl => ?_)
  have h1 : (⟨(g.val * 8 + i.val) / 8, by omega⟩ : Fin 4) = g := Fin.ext (by show (g.val * 8 + i.val) / 8 = g.val; omega)
  have h2 : (⟨(g.val * 8 + i.val) % 8, by omega⟩ : Fin 8) = i := Fin.ext (by show (g.val * 8 + i.val) % 8 = i.val; omega)
  simp only [h1, h2]

theorem result_at {gl : Fin 16896 → Fin 4 → ℝ} {el : Fin 16896 → Fin 4 → Fin 8 → ℝ}
    (hgl : ∀ n g, (rargs V0).gl n g = ((gl n g : ℝ) : EReal)) (hel : ∀ n g i, (rargs V0).el n g i = ((el n g i : ℝ) : EReal))
    (C : ∀ n, Chosen (gl n) (el n)) :
    (addf (res_main_v3 V0) (res_main_v135 V0) : Vec Ideal S16896x1024 .f32)
      = fun i => (rargs V0).out (i 0) (i 1) fun e => (((C (i 0)).gate ⟨e.val / 8, by omega⟩ ⟨e.val % 8, by omega⟩ : ℝ) : EReal) := by
  funext i
  obtain ⟨n, d, rfl⟩ : ∃ (n : Fin 16896) (d : Fin 1024), i = ix2 n d := ⟨i 0, i 1, (eq_ix2 i)⟩
  have h := (v135_at V0 (fun n g i => (((C n).gate g i : ℝ) : EReal)) (v66_at V0 hgl hel C) n d).trans (groups_sum V0 _ n d)
  exact congrArg₂ (HAdd.hAdd (α := EReal) (β := EReal)) (v3_at V0 n d) h

end Cert.ReferenceIdeal.Value

end
-- ==== Proof.Join.lean ====
module

public import proofs.«01_k».proof.Defs
public import proofs.«01_k».proof.Proof.KRun
public import proofs.«01_k».proof.Proof.KValue
public import proofs.«01_k».proof.Proof.RefOut
public import Idealize.ShloMosaic.Lib.Claim

@[expose] public section

set_option maxRecDepth 16384

noncomputable section

namespace Cert.Proof

open Idealize.ShloMosaic Idealize.ShloMosaic.TcCoe Idealize.SL.Sem Cert.Layer

/-- The word of plus infinity. -/
theorem inf_word : Ideal.ofBits .f32 0x7F800000#32 = (⊤ : EReal) := by
  simp [Ideal.ofBits, Ideal.ieee]

/-- A value whose magnitude is below infinity is a real. -/
theorem real_of_abs (a : EReal) (h : Ideal.cmp .olt (max a (-a)) (Ideal.ofBits .f32 0x7F800000#32) = 1#1) : IsReal a := by
  rw [inf_word] at h
  have hlt : max a (-a) < ⊤ := by
    by_contra hn
    have e : Ideal.cmp .olt (max a (-a)) ⊤ = BitVec.ofBool (decide (max a (-a) < ⊤)) := rfl
    rw [e, decide_eq_false hn] at h
    exact absurd h (by decide)
  have h1 := lt_of_le_of_lt (le_max_left a (-a)) hlt
  have h2 := lt_of_le_of_lt (le_max_right a (-a)) hlt
  refine ⟨a.toReal, (EReal.coe_toReal h1.ne ?_).symm⟩
  rintro rfl
  exact absurd h2 (by simp)

section
variable [Cert.Pre_finite_inputs.Facts]

theorem kargs_finite (m : (ℓ : Loc Cert.KernelIdeal.nD Cert.KernelIdeal.τ Cert.KernelIdeal.sig) → Buf (Elt Ideal) ℓ)
    (h : Pre_KernelIdeal_finite_inputs m) (c : Dev Cert.KernelIdeal.nD) : (Cert.KernelIdeal.Gen.kargs m c).Finite := by
  obtain ⟨h4, h5, h6, h7, h8⟩ := h c
  exact
    { g := fun i => real_of_abs _ (congrFun h4 (ix1 i))
      wg := fun i j => real_of_abs _ (congrFun h5 (ix2 i j))
      bg := fun i => real_of_abs _ (congrFun h6 (ix1 i))
      wr := fun i j => real_of_abs _ (congrFun h7 (ix2 i j))
      br := fun i => real_of_abs _ (congrFun h8 (ix1 i)) }

end

theorem ref_frame : quiescent_ReferenceIdeal (hReferenceIdeal := Cert.ReferenceIdeal.Gen.facts) := by
  intro m g _
  refine (θ_run _ _ _).mono (fun r h => ⟨fun c => (h c).2, ?_⟩) (Cert.ReferenceIdeal.Value.run (F := Ideal) m g)
  exact sem_eq_zero_of_no_sems (by decide) _

theorem ref_frame_finite [hp : Cert.Pre_finite_inputs.Facts] :
    quiescent_ReferenceIdeal_pre_finite_inputs (hReferenceIdeal := Cert.ReferenceIdeal.Gen.facts) (hPre_finite_inputs := hp) :=
  fun m g _ => (θ_run _ _ _).mono (fun _ h => ⟨fun c => (h c).2, sem_eq_zero_of_no_sems (by decide) _⟩) (Cert.ReferenceIdeal.Value.run (F := Ideal) m g)

theorem value [hp : Cert.Pre_finite_inputs.Facts] :
    algebraic_KernelIdeal_ReferenceIdeal_pre_finite_inputs (hKernelIdeal := Cert.KernelIdeal.Gen.facts) (hReferenceIdeal := Cert.ReferenceIdeal.Gen.facts) (hPre_finite_inputs := hp) := by
  intro m g m' g' hpre hagree
  have hargs : ∀ c, Cert.ReferenceIdeal.Value.rargs (StableHlo.launchContents m' c) = Cert.KernelIdeal.Gen.kargs m c := by
    intro c
    obtain ⟨h0, h1, h2, h3, h4, h5, h6, h7, h8, h9, h10, h11⟩ := hagree c
    have ext : ∀ A B : Args, A.x = B.x → A.p = B.p → A.s = B.s → A.w = B.w → A.g = B.g → A.wg = B.wg → A.bg = B.bg → A.wr = B.wr →
        A.br = B.br → A.w1 = B.w1 → A.w2 = B.w2 → A.w3 = B.w3 → A = B := by
      rintro ⟨⟩ ⟨⟩ e0 e1 e2 e3 e4 e5 e6 e7 e8 e9 e10 e11
      cases e0; cases e1; cases e2; cases e3; cases e4; cases e5; cases e6; cases e7; cases e8; cases e9; cases e10; cases e11
      rfl
    exact ext _ _ (funext fun i => funext fun j => congrFun h0 (ix2 i j)) (funext fun i => funext fun j => congrFun h1 (ix2 i j))
      (funext fun i => funext fun j => congrFun h2 (ix2 i j)) (funext fun i => funext fun j => congrFun h3 (ix2 i j))
      (funext fun i => congrFun h4 (ix1 i)) (funext fun i => funext fun j => congrFun h5 (ix2 i j))
      (funext fun i => congrFun h6 (ix1 i)) (funext fun i => funext fun j => congrFun h7 (ix2 i j))
      (funext fun i => congrFun h8 (ix1 i)) (funext fun i => funext fun j => funext fun k => funext fun l => congrFun h9 (ix4 i j k l))
      (funext fun i => funext fun j => funext fun k => funext fun l => congrFun h10 (ix4 i j k l))
      (funext fun i => funext fun j => funext fun k => funext fun l => congrFun h11 (ix4 i j k l))
  refine ⟨fun c => (Cert.KernelIdeal.Gen.dat1 (Cert.KernelIdeal.Gen.V3 m g) c).arrAt 5 Cert.KernelIdeal.cfg1.N, ?_, ?_⟩
  · refine (θ_run _ _ _).mono (fun r h c => ?_) (Cert.KernelIdeal.Gen.kernel_run (F := Ideal) m g)
    have ha := (h c).2
    exact ⟨(h c).1, ha _ (by decide), ha _ (by decide), ha _ (by decide), ha _ (by decide), ha _ (by decide), ha _ (by decide),
      ha _ (by decide), ha _ (by decide), ha _ (by decide), ha _ (by decide), ha _ (by decide), ha _ (by decide)⟩
  · refine (θ_run _ _ _).mono (fun r h c => ?_) (Cert.ReferenceIdeal.Value.run (F := Ideal) m' g')
    have hA := kargs_finite m hpre c
    choose gl hgl using fun n g => gl_real hA n g
    choose el hel using fun n g i => el_real hA n g i
    have C : ∀ n, Chosen (gl n) (el n) := fun n => Classical.choice (exists_chosen (gl n) (el n))
    refine ⟨(h c).1.trans ?_, (h c).2⟩
    refine (Cert.ReferenceIdeal.Value.result_at (StableHlo.launchContents m' c) (by rw [hargs]; exact hgl) (by rw [hargs]; exact hel) C).trans ?_
    rw [hargs]
    exact (Cert.KernelIdeal.Gen.result_chosen m g c hA hgl hel C).symm

end Cert.Proof

end
-- ==== Proof.ProjBase.lean ====
module

public import proofs.«01_k».proof.Proof.Gen.Kernel2Ideal.Frame
public import proofs.«01_k».proof.Proof.Gen.Kernel2Ideal.Skeleton

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch runs at the points of the prompt's rows. -/
abbrev prompt (i : grid0.Coords) : Prop := k0_cond1 i = 1#1
/-- The second branch runs at the point of the sampled rows. -/
abbrev sampled (i : grid0.Coords) : Prop := k0_cond2 i = 1#1

theorem prompt_iff : ∀ t : Fin cfg0.N, prompt (grid0.coords t) ↔ t.val < 32 :=
  (by decide +kernel : ∀ t : Fin grid0.N, prompt (grid0.coords t) ↔ t.val < 32)
theorem sampled_iff : ∀ t : Fin cfg0.N, sampled (grid0.coords t) ↔ t.val = 32 :=
  (by decide +kernel : ∀ t : Fin grid0.N, sampled (grid0.coords t) ↔ t.val = 32)

/-- Window 0's staging buffer at a point, and that it is a whole buffer. -/
abbrev ms0_0 (t : Fin cfg0.N) : Memref sig .tc .vmem S512x1024 .f32 := win0_0.stage (cfg0.slots t 0)
theorem hs0_0 (t : Fin cfg0.N) : (ms0_0 t).IsWhole := hstage0_0 ((cfg0.slots t 0).cast nbuf0_0)
/-- Window 1's staging buffer at a point, and that it is a whole buffer. -/
abbrev ms0_1 (t : Fin cfg0.N) : Memref sig .tc .vmem S1x1024 .f32 := win0_1.stage (cfg0.slots t 1)
theorem hs0_1 (t : Fin cfg0.N) : (ms0_1 t).IsWhole := hstage0_1 ((cfg0.slots t 1).cast nbuf0_1)
/-- Window 2's staging buffer at a point, and that it is a whole buffer. -/
abbrev ms0_2 (t : Fin cfg0.N) : Memref sig .tc .vmem S1024x3200 .bf16 := win0_2.stage (cfg0.slots t 2)
theorem hs0_2 (t : Fin cfg0.N) : (ms0_2 t).IsWhole := hstage0_2 ((cfg0.slots t 2).cast nbuf0_2)
/-- Window 3's staging buffer at a point, and that it is a whole buffer. -/
abbrev ms0_3 (t : Fin cfg0.N) : Memref sig .tc .vmem S1x2048 .f32 := win0_3.stage (cfg0.slots t 3)
theorem hs0_3 (t : Fin cfg0.N) : (ms0_3 t).IsWhole := hstage0_3 ((cfg0.slots t 3).cast nbuf0_3)
/-- Window 4's staging buffer at a point, and that it is a whole buffer. -/
abbrev ms0_4 (t : Fin cfg0.N) : Memref sig .tc .vmem S1x128 .f32 := win0_4.stage (cfg0.slots t 4)
theorem hs0_4 (t : Fin cfg0.N) : (ms0_4 t).IsWhole := hstage0_4 ((cfg0.slots t 4).cast nbuf0_4)
/-- Window 5's staging buffer at a point, and that it is a whole buffer. -/
abbrev ms0_5 (t : Fin cfg0.N) : Memref sig .tc .vmem S256x256 .bf16 := win0_5.stage (cfg0.slots t 5)
theorem hs0_5 (t : Fin cfg0.N) : (ms0_5 t).IsWhole := hstage0_5 ((cfg0.slots t 5).cast nbuf0_5)
/-- Window 6's staging buffer at a point, and that it is a whole buffer. -/
abbrev ms0_6 (t : Fin cfg0.N) : Memref sig .tc .vmem S512x1024 .bf16 := win0_6.stage (cfg0.slots t 6)
theorem hs0_6 (t : Fin cfg0.N) : (ms0_6 t).IsWhole := hstage0_6 ((cfg0.slots t 6).cast nbuf0_6)
/-- Window 7's staging buffer at a point, and that it is a whole buffer. -/
abbrev ms0_7 (t : Fin cfg0.N) : Memref sig .tc .vmem S512x1024 .f32 := win0_7.stage (cfg0.slots t 7)
theorem hs0_7 (t : Fin cfg0.N) : (ms0_7 t).IsWhole := hstage0_7 ((cfg0.slots t 7).cast nbuf0_7)
/-- Window 8's staging buffer at a point, and that it is a whole buffer. -/
abbrev ms0_8 (t : Fin cfg0.N) : Memref sig .tc .vmem S1x1024x512 .f32 := win0_8.stage (cfg0.slots t 8)
theorem hs0_8 (t : Fin cfg0.N) : (ms0_8 t).IsWhole := hstage0_8 ((cfg0.slots t 8).cast nbuf0_8)
/-- Window 9's staging buffer at a point, and that it is a whole buffer. -/
abbrev ms0_9 (t : Fin cfg0.N) : Memref sig .tc .vmem S1x1024x512 .bf16 := win0_9.stage (cfg0.slots t 9)
theorem hs0_9 (t : Fin cfg0.N) : (ms0_9 t).IsWhole := hstage0_9 ((cfg0.slots t 9).cast nbuf0_9)
/-- Window 10's staging buffer at a point, and that it is a whole buffer. -/
abbrev ms0_10 (t : Fin cfg0.N) : Memref sig .tc .vmem S512x1024 .f32 := win0_10.stage (cfg0.slots t 10)
theorem hs0_10 (t : Fin cfg0.N) : (ms0_10 t).IsWhole := hstage0_10 ((cfg0.slots t 10).cast nbuf0_10)
/-- Window 11's staging buffer at a point, and that it is a whole buffer. -/
abbrev ms0_11 (t : Fin cfg0.N) : Memref sig .tc .vmem S1x1024x512 .f32 := win0_11.stage (cfg0.slots t 11)
theorem hs0_11 (t : Fin cfg0.N) : (ms0_11 t).IsWhole := hstage0_11 ((cfg0.slots t 11).cast nbuf0_11)
/-- Window 12's staging buffer at a point, and that it is a whole buffer. -/
abbrev ms0_12 (t : Fin cfg0.N) : Memref sig .tc .vmem S512x1024 .bf16 := win0_12.stage (cfg0.slots t 12)
theorem hs0_12 (t : Fin cfg0.N) : (ms0_12 t).IsWhole := hstage0_12 ((cfg0.slots t 12).cast nbuf0_12)
/-- Window 13's staging buffer at a point, and that it is a whole buffer. -/
abbrev ms0_13 (t : Fin cfg0.N) : Memref sig .tc .vmem S512x128 .f32 := win0_13.stage (cfg0.slots t 13)
theorem hs0_13 (t : Fin cfg0.N) : (ms0_13 t).IsWhole := hstage0_13 ((cfg0.slots t 13).cast nbuf0_13)
/-- Window 14's staging buffer at a point, and that it is a whole buffer. -/
abbrev ms0_14 (t : Fin cfg0.N) : Memref sig .tc .vmem S1x128x512 .f32 := win0_14.stage (cfg0.slots t 14)
theorem hs0_14 (t : Fin cfg0.N) : (ms0_14 t).IsWhole := hstage0_14 ((cfg0.slots t 14).cast nbuf0_14)

end Cert.Kernel2Ideal.Gen

end
-- ==== Proof.ProjRunA.lean ====
module

public import proofs.«01_k».proof.Proof.ProjBase

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body stores at a point of the prompt's rows, as the pieces it writes into each output's buffer (the last store first), together
    with its run: from the inputs' buffers at their contents and the outputs' at anything, to the inputs' as they were and
    the outputs' with those pieces written. -/
noncomputable def storesA (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x3200 .bf16) (harg3 : arg3.IsWhole) (arg4 : Memref sig .tc .vmem S1x2048 .f32) (harg4 : arg4.IsWhole) (arg5 : Memref sig .tc .vmem S1x128 .f32) (harg5 : arg5.IsWhole) (arg6 : Memref sig .tc .vmem S256x256 .bf16) (harg6 : arg6.IsWhole) (arg7 : Memref sig .tc .vmem S512x1024 .bf16) (harg7 : arg7.IsWhole) (arg8 : Memref sig .tc .vmem S512x1024 .f32) (harg8 : arg8.IsWhole) (arg9 : Memref sig .tc .vmem S1x1024x512 .f32) (harg9 : arg9.IsWhole) (arg10 : Memref sig .tc .vmem S1x1024x512 .bf16) (harg10 : arg10.IsWhole) (arg11 : Memref sig .tc .vmem S512x1024 .f32) (harg11 : arg11.IsWhole) (arg12 : Memref sig .tc .vmem S1x1024x512 .f32) (harg12 : arg12.IsWhole) (arg13 : Memref sig .tc .vmem S512x1024 .bf16) (harg13 : arg13.IsWhole) (arg14 : Memref sig .tc .vmem S512x128 .f32) (harg14 : arg14.IsWhole) (arg15 : Memref sig .tc .vmem S1x128x512 .f32) (harg15 : arg15.IsWhole) (hc0 : prompt i) (hc1 : ¬sampled i) (x0 : Vec F S512x1024 .f32) (x1 : Vec F S1x1024 .f32) (x2 : Vec F S1024x3200 .bf16) (x3 : Vec F S1x2048 .f32) (x4 : Vec F S1x128 .f32) (x5 : Vec F S256x256 .bf16) :
    Σ' (L6 : List (View.Piece (Elt F) S512x1024 .bf16)), Σ' (L8 : List (View.Piece (Elt F) S1x1024x512 .f32)), Σ' (L9 : List (View.Piece (Elt F) S1x1024x512 .bf16)), Σ' (L11 : List (View.Piece (Elt F) S1x1024x512 .f32)), Σ' (L12 : List (View.Piece (Elt F) S512x1024 .bf16)), Σ' (L13 : List (View.Piece (Elt F) S512x128 .f32)), { L14 : List (View.Piece (Elt F) S1x128x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg9 fullShare d) ∗ (∃ d, owns (c : Thread nD τ) arg10 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14)) -∗ K ⟨⟩))
          ⊢ wp frame (wpE (defs₀ (F := F)) Variants.none c none) E (cc0_proj1 i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, ?_, fun E K => ?run⟩
  case run =>
    simp only [cc0_proj1_eq_skeleton]; unfold cc0_proj1_skel
    simp only [k0_part8_eq_skeleton, k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d8, %f8, -, H8⟩, ⟨%d9, %f9, -, H9⟩, ⟨%d11, %f11, -, H11⟩, ⟨%d12, %f12, -, H12⟩, ⟨%d13, %f13, -, H13⟩, ⟨%d14, %f14, -, H14⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H8]; · iexists _; iexact H8
    isplitl [H9]; · iexists _; iexact H9
    isplitl [H11]; · iexists _; iexact H11
    isplitl [H12]; · iexists _; iexact H12
    isplitl [H13]; · iexists _; iexact H13
    iexists _; iexact H14

end Cert.Kernel2Ideal.Gen

end
-- ==== Proof.ProjRunB.lean ====
module

public import proofs.«01_k».proof.Proof.ProjBase

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body stores at the point of the sampled rows, as the pieces it writes into each output's buffer (the last store first), together
    with its run: from the inputs' buffers at their contents and the outputs' at anything, to the inputs' as they were and
    the outputs' with those pieces written. -/
noncomputable def storesB (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x3200 .bf16) (harg3 : arg3.IsWhole) (arg4 : Memref sig .tc .vmem S1x2048 .f32) (harg4 : arg4.IsWhole) (arg5 : Memref sig .tc .vmem S1x128 .f32) (harg5 : arg5.IsWhole) (arg6 : Memref sig .tc .vmem S256x256 .bf16) (harg6 : arg6.IsWhole) (arg7 : Memref sig .tc .vmem S512x1024 .bf16) (harg7 : arg7.IsWhole) (arg8 : Memref sig .tc .vmem S512x1024 .f32) (harg8 : arg8.IsWhole) (arg9 : Memref sig .tc .vmem S1x1024x512 .f32) (harg9 : arg9.IsWhole) (arg10 : Memref sig .tc .vmem S1x1024x512 .bf16) (harg10 : arg10.IsWhole) (arg11 : Memref sig .tc .vmem S512x1024 .f32) (harg11 : arg11.IsWhole) (arg12 : Memref sig .tc .vmem S1x1024x512 .f32) (harg12 : arg12.IsWhole) (arg13 : Memref sig .tc .vmem S512x1024 .bf16) (harg13 : arg13.IsWhole) (arg14 : Memref sig .tc .vmem S512x128 .f32) (harg14 : arg14.IsWhole) (arg15 : Memref sig .tc .vmem S1x128x512 .f32) (harg15 : arg15.IsWhole) (hc0 : ¬prompt i) (hc1 : sampled i) (x0 : Vec F S512x1024 .f32) (x1 : Vec F S1x1024 .f32) (x2 : Vec F S1024x3200 .bf16) (x3 : Vec F S1x2048 .f32) (x4 : Vec F S1x128 .f32) (x5 : Vec F S256x256 .bf16) :
    Σ' (L6 : List (View.Piece (Elt F) S512x1024 .bf16)), Σ' (L7 : List (View.Piece (Elt F) S512x1024 .f32)), Σ' (L10 : List (View.Piece (Elt F) S512x1024 .f32)), Σ' (L12 : List (View.Piece (Elt F) S512x1024 .bf16)), { L13 : List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg11 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg11.view.loc (c : Thread nD τ) ↦[arg11.view.set]{fullShare} arg11.view.writes (Elt F) f L10) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13)) -∗ K ⟨⟩))
          ⊢ wp frame (wpE (defs₀ (F := F)) Variants.none c none) E (cc0_proj1 i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, fun E K => ?run⟩
  case run =>
    simp only [cc0_proj1_eq_skeleton]; unfold cc0_proj1_skel
    simp only [k0_part8_eq_skeleton, k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d10, %f10, -, H10⟩, ⟨%d12, %f12, -, H12⟩, ⟨%d13, %f13, -, H13⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H10]; · iexists _; iexact H10
    isplitl [H12]; · iexists _; iexact H12
    iexists _; iexact H13

end Cert.Kernel2Ideal.Gen

end
-- ==== Proof.ProjDat.lean ====
module

public import proofs.«01_k».proof.Proof.ProjRunA
public import proofs.«01_k».proof.Proof.ProjRunB

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The grid point of a block of 512 prompt rows. -/
def ptA (s : Fin 32) : Fin cfg0.N := ⟨s.val, lt_of_lt_of_eq (show s.val < 33 by omega) N_0.symm⟩
/-- The grid point of the 512 sampled rows. -/
def ptB : Fin cfg0.N := ⟨32, lt_of_lt_of_eq (show 32 < 33 by omega) N_0.symm⟩

theorem ptA_prompt (s : Fin 32) : prompt (grid0.coords (ptA s)) := (prompt_iff _).mpr s.isLt
theorem ptA_not_sampled (s : Fin 32) : ¬sampled (grid0.coords (ptA s)) := fun h => by
  have e : s.val = 32 := (sampled_iff _).mp h
  omega
theorem ptB_not_prompt : ¬prompt (grid0.coords ptB) := fun h => by
  have e : 32 < 32 := (prompt_iff _).mp h
  omega
theorem ptB_sampled : sampled (grid0.coords ptB) := (sampled_iff _).mpr rfl

/-- Every grid point is one of the two kinds. -/
theorem pt_cases (t : Fin cfg0.N) : (∃ s, t = ptA s) ∨ t = ptB := by
  have hN : t.val < 33 := lt_of_lt_of_eq t.isLt N_0
  by_cases h : t.val < 32
  · exact .inl ⟨⟨t.val, h⟩, rfl⟩
  · exact .inr (Fin.ext (show t.val = 32 by omega))

/-- The stores at a point of the prompt's rows, on the blocks of that point. -/
def storesAt (c : Dev nD) (s : Fin 32) :=
  storesA c (grid0.coords (ptA s)) (ms0_0 (ptA s)) (hs0_0 (ptA s)) (ms0_1 (ptA s)) (hs0_1 (ptA s)) (ms0_2 (ptA s)) (hs0_2 (ptA s)) (ms0_3 (ptA s)) (hs0_3 (ptA s)) (ms0_4 (ptA s)) (hs0_4 (ptA s)) (ms0_5 (ptA s)) (hs0_5 (ptA s)) (ms0_6 (ptA s)) (hs0_6 (ptA s)) (ms0_7 (ptA s)) (hs0_7 (ptA s)) (ms0_8 (ptA s)) (hs0_8 (ptA s)) (ms0_9 (ptA s)) (hs0_9 (ptA s)) (ms0_10 (ptA s)) (hs0_10 (ptA s)) (ms0_11 (ptA s)) (hs0_11 (ptA s)) (ms0_12 (ptA s)) (hs0_12 (ptA s)) (ms0_13 (ptA s)) (hs0_13 (ptA s)) (ms0_14 (ptA s)) (hs0_14 (ptA s)) (ptA_prompt s) (ptA_not_sampled s) (iblk m c 0 (ptA s)) (iblk m c 1 (ptA s)) (iblk m c 2 (ptA s)) (iblk m c 3 (ptA s)) (iblk m c 4 (ptA s)) (iblk m c 5 (ptA s))
/-- The stores at the point of the sampled rows, on its blocks. -/
def storesLast (c : Dev nD) :=
  storesB c (grid0.coords ptB) (ms0_0 ptB) (hs0_0 ptB) (ms0_1 ptB) (hs0_1 ptB) (ms0_2 ptB) (hs0_2 ptB) (ms0_3 ptB) (hs0_3 ptB) (ms0_4 ptB) (hs0_4 ptB) (ms0_5 ptB) (hs0_5 ptB) (ms0_6 ptB) (hs0_6 ptB) (ms0_7 ptB) (hs0_7 ptB) (ms0_8 ptB) (hs0_8 ptB) (ms0_9 ptB) (hs0_9 ptB) (ms0_10 ptB) (hs0_10 ptB) (ms0_11 ptB) (hs0_11 ptB) (ms0_12 ptB) (hs0_12 ptB) (ms0_13 ptB) (hs0_13 ptB) (ms0_14 ptB) (hs0_14 ptB) ptB_not_prompt ptB_sampled (iblk m c 0 ptB) (iblk m c 1 ptB) (iblk m c 2 ptB) (iblk m c 3 ptB) (iblk m c 4 ptB) (iblk m c 5 ptB)

/-- What output 6's buffer holds after a point of the prompt's rows. -/
def out0_A_6 (c : Dev nD) (s : Fin 32) : Vec F S512x1024 .bf16 := View.canon (storesAt m c s).1
theorem cover0_A_6 (c : Dev nD) (s : Fin 32) (y : (S512x1024 : Shape).Idx) : ∃ pc ∈ (storesAt m c s).1, y ∈ pc.1.set :=
  View.cover_of_tiledL (storesAt m c s).1 ![512, 256] (by sl_kernel_rfl) y
/-- What output 8's buffer holds after a point of the prompt's rows. -/
def out0_A_8 (c : Dev nD) (s : Fin 32) : Vec F S1x1024x512 .f32 := View.canon (storesAt m c s).2.1
theorem cover0_A_8 (c : Dev nD) (s : Fin 32) (y : (S1x1024x512 : Shape).Idx) : ∃ pc ∈ (storesAt m c s).2.1, y ∈ pc.1.set :=
  View.cover_of_tiledL (storesAt m c s).2.1 ![1, 256, 512] (by sl_kernel_rfl) y
/-- What output 9's buffer holds after a point of the prompt's rows. -/
def out0_A_9 (c : Dev nD) (s : Fin 32) : Vec F S1x1024x512 .bf16 := View.canon (storesAt m c s).2.2.1
theorem cover0_A_9 (c : Dev nD) (s : Fin 32) (y : (S1x1024x512 : Shape).Idx) : ∃ pc ∈ (storesAt m c s).2.2.1, y ∈ pc.1.set :=
  View.cover_of_tiledL (storesAt m c s).2.2.1 ![1, 256, 512] (by sl_kernel_rfl) y
/-- What output 11's buffer holds after a point of the prompt's rows. -/
def out0_A_11 (c : Dev nD) (s : Fin 32) : Vec F S1x1024x512 .f32 := View.canon (storesAt m c s).2.2.2.1
theorem cover0_A_11 (c : Dev nD) (s : Fin 32) (y : (S1x1024x512 : Shape).Idx) : ∃ pc ∈ (storesAt m c s).2.2.2.1, y ∈ pc.1.set :=
  View.cover_of_tiledL (storesAt m c s).2.2.2.1 ![1, 256, 512] (by sl_kernel_rfl) y
/-- What output 12's buffer holds after a point of the prompt's rows. -/
def out0_A_12 (c : Dev nD) (s : Fin 32) : Vec F S512x1024 .bf16 := View.canon (storesAt m c s).2.2.2.2.1
theorem cover0_A_12 (c : Dev nD) (s : Fin 32) (y : (S512x1024 : Shape).Idx) : ∃ pc ∈ (storesAt m c s).2.2.2.2.1, y ∈ pc.1.set :=
  View.cover_of_tiledL (storesAt m c s).2.2.2.2.1 ![512, 256] (by sl_kernel_rfl) y
/-- What output 13's buffer holds after a point of the prompt's rows. -/
def out0_A_13 (c : Dev nD) (s : Fin 32) : Vec F S512x128 .f32 := View.canon (storesAt m c s).2.2.2.2.2.1
theorem cover0_A_13 (c : Dev nD) (s : Fin 32) (y : (S512x128 : Shape).Idx) : ∃ pc ∈ (storesAt m c s).2.2.2.2.2.1, y ∈ pc.1.set :=
  View.cover_of_tiledL (storesAt m c s).2.2.2.2.2.1 S512x128.size (by sl_kernel_rfl) y
/-- What output 14's buffer holds after a point of the prompt's rows. -/
def out0_A_14 (c : Dev nD) (s : Fin 32) : Vec F S1x128x512 .f32 := View.canon (storesAt m c s).2.2.2.2.2.2.1
theorem cover0_A_14 (c : Dev nD) (s : Fin 32) (y : (S1x128x512 : Shape).Idx) : ∃ pc ∈ (storesAt m c s).2.2.2.2.2.2.1, y ∈ pc.1.set :=
  View.cover_of_tiledL (storesAt m c s).2.2.2.2.2.2.1 S1x128x512.size (by sl_kernel_rfl) y
/-- What output 6's buffer holds after the point of the sampled rows. -/
def out0_B_6 (c : Dev nD) : Vec F S512x1024 .bf16 := View.canon (storesLast m c).1
theorem cover0_B_6 (c : Dev nD) (y : (S512x1024 : Shape).Idx) : ∃ pc ∈ (storesLast m c).1, y ∈ pc.1.set :=
  View.cover_of_tiledL (storesLast m c).1 ![512, 256] (by sl_kernel_rfl) y
/-- What output 7's buffer holds after the point of the sampled rows. -/
def out0_B_7 (c : Dev nD) : Vec F S512x1024 .f32 := View.canon (storesLast m c).2.1
theorem cover0_B_7 (c : Dev nD) (y : (S512x1024 : Shape).Idx) : ∃ pc ∈ (storesLast m c).2.1, y ∈ pc.1.set :=
  View.cover_of_tiledL (storesLast m c).2.1 ![512, 256] (by sl_kernel_rfl) y
/-- What output 10's buffer holds after the point of the sampled rows. -/
def out0_B_10 (c : Dev nD) : Vec F S512x1024 .f32 := View.canon (storesLast m c).2.2.1
theorem cover0_B_10 (c : Dev nD) (y : (S512x1024 : Shape).Idx) : ∃ pc ∈ (storesLast m c).2.2.1, y ∈ pc.1.set :=
  View.cover_of_tiledL (storesLast m c).2.2.1 ![512, 256] (by sl_kernel_rfl) y
/-- What output 12's buffer holds after the point of the sampled rows. -/
def out0_B_12 (c : Dev nD) : Vec F S512x1024 .bf16 := View.canon (storesLast m c).2.2.2.1
theorem cover0_B_12 (c : Dev nD) (y : (S512x1024 : Shape).Idx) : ∃ pc ∈ (storesLast m c).2.2.2.1, y ∈ pc.1.set :=
  View.cover_of_tiledL (storesLast m c).2.2.2.1 ![512, 256] (by sl_kernel_rfl) y
/-- What output 13's buffer holds after the point of the sampled rows. -/
def out0_B_13 (c : Dev nD) : Vec F S512x128 .f32 := View.canon (storesLast m c).2.2.2.2.1
theorem cover0_B_13 (c : Dev nD) (y : (S512x128 : Shape).Idx) : ∃ pc ∈ (storesLast m c).2.2.2.2.1, y ∈ pc.1.set :=
  View.cover_of_tiledL (storesLast m c).2.2.2.2.1 S512x128.size (by sl_kernel_rfl) y

/-- The proof data: the arrays as the region finds them; after each point the inputs' buffers at their blocks and the
    outputs' at what the last point that stored into them left. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => if h : t.val < 32 then out0_A_6 m c ⟨t.val, h⟩ else out0_B_6 m c
    | ⟨7, _⟩ => out0_B_7 m c
    | ⟨8, _⟩ => out0_A_8 m c ⟨min t.val 31, by omega⟩
    | ⟨9, _⟩ => out0_A_9 m c ⟨min t.val 31, by omega⟩
    | ⟨10, _⟩ => out0_B_10 m c
    | ⟨11, _⟩ => out0_A_11 m c ⟨min t.val 31, by omega⟩
    | ⟨12, _⟩ => if h : t.val < 32 then out0_A_12 m c ⟨t.val, h⟩ else out0_B_12 m c
    | ⟨13, _⟩ => if h : t.val < 32 then out0_A_13 m c ⟨t.val, h⟩ else out0_B_13 m c
    | ⟨14, _⟩ => out0_A_14 m c ⟨min t.val 31, by omega⟩
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (if h : t.val < 32 then out0_A_6 m c ⟨t.val, h⟩ else out0_B_6 m c) := by dsimp only [dats]
theorem after0_A_6 (c : Dev nD) (s : Fin 32) : (dats m 0 c).after 6 (ptA s) = out0_A_6 m c s := (after0_6 m c _).trans (dif_pos s.isLt)
theorem after0_B_6 (c : Dev nD) : (dats m 0 c).after 6 ptB = out0_B_6 m c := (after0_6 m c _).trans (dif_neg (show ¬(32 : ℕ) < 32 by decide))
theorem after0_7 (c : Dev nD) (t : Fin cfg0.N) : (dats m 0 c).after 7 t = (out0_B_7 m c) := by dsimp only [dats]
theorem after0_B_7 (c : Dev nD) : (dats m 0 c).after 7 ptB = out0_B_7 m c := after0_7 m c _
theorem after0_8 (c : Dev nD) (t : Fin cfg0.N) : (dats m 0 c).after 8 t = (out0_A_8 m c ⟨min t.val 31, by omega⟩) := by dsimp only [dats]
theorem after0_A_8 (c : Dev nD) (s : Fin 32) : (dats m 0 c).after 8 (ptA s) = out0_A_8 m c s := (after0_8 m c _).trans (congrArg (out0_A_8 m c) (Fin.ext (show min s.val 31 = s.val by omega)))
theorem after0_B_8 (c : Dev nD) : (dats m 0 c).after 8 ptB = out0_A_8 m c 31 := (after0_8 m c _).trans (congrArg (out0_A_8 m c) (Fin.ext rfl))
theorem after0_9 (c : Dev nD) (t : Fin cfg0.N) : (dats m 0 c).after 9 t = (out0_A_9 m c ⟨min t.val 31, by omega⟩) := by dsimp only [dats]
theorem after0_A_9 (c : Dev nD) (s : Fin 32) : (dats m 0 c).after 9 (ptA s) = out0_A_9 m c s := (after0_9 m c _).trans (congrArg (out0_A_9 m c) (Fin.ext (show min s.val 31 = s.val by omega)))
theorem after0_B_9 (c : Dev nD) : (dats m 0 c).after 9 ptB = out0_A_9 m c 31 := (after0_9 m c _).trans (congrArg (out0_A_9 m c) (Fin.ext rfl))
theorem after0_10 (c : Dev nD) (t : Fin cfg0.N) : (dats m 0 c).after 10 t = (out0_B_10 m c) := by dsimp only [dats]
theorem after0_B_10 (c : Dev nD) : (dats m 0 c).after 10 ptB = out0_B_10 m c := after0_10 m c _
theorem after0_11 (c : Dev nD) (t : Fin cfg0.N) : (dats m 0 c).after 11 t = (out0_A_11 m c ⟨min t.val 31, by omega⟩) := by dsimp only [dats]
theorem after0_A_11 (c : Dev nD) (s : Fin 32) : (dats m 0 c).after 11 (ptA s) = out0_A_11 m c s := (after0_11 m c _).trans (congrArg (out0_A_11 m c) (Fin.ext (show min s.val 31 = s.val by omega)))
theorem after0_B_11 (c : Dev nD) : (dats m 0 c).after 11 ptB = out0_A_11 m c 31 := (after0_11 m c _).trans (congrArg (out0_A_11 m c) (Fin.ext rfl))
theorem after0_12 (c : Dev nD) (t : Fin cfg0.N) : (dats m 0 c).after 12 t = (if h : t.val < 32 then out0_A_12 m c ⟨t.val, h⟩ else out0_B_12 m c) := by dsimp only [dats]
theorem after0_A_12 (c : Dev nD) (s : Fin 32) : (dats m 0 c).after 12 (ptA s) = out0_A_12 m c s := (after0_12 m c _).trans (dif_pos s.isLt)
theorem after0_B_12 (c : Dev nD) : (dats m 0 c).after 12 ptB = out0_B_12 m c := (after0_12 m c _).trans (dif_neg (show ¬(32 : ℕ) < 32 by decide))
theorem after0_13 (c : Dev nD) (t : Fin cfg0.N) : (dats m 0 c).after 13 t = (if h : t.val < 32 then out0_A_13 m c ⟨t.val, h⟩ else out0_B_13 m c) := by dsimp only [dats]
theorem after0_A_13 (c : Dev nD) (s : Fin 32) : (dats m 0 c).after 13 (ptA s) = out0_A_13 m c s := (after0_13 m c _).trans (dif_pos s.isLt)
theorem after0_B_13 (c : Dev nD) : (dats m 0 c).after 13 ptB = out0_B_13 m c := (after0_13 m c _).trans (dif_neg (show ¬(32 : ℕ) < 32 by decide))
theorem after0_14 (c : Dev nD) (t : Fin cfg0.N) : (dats m 0 c).after 14 t = (out0_A_14 m c ⟨min t.val 31, by omega⟩) := by dsimp only [dats]
theorem after0_A_14 (c : Dev nD) (s : Fin 32) : (dats m 0 c).after 14 (ptA s) = out0_A_14 m c s := (after0_14 m c _).trans (congrArg (out0_A_14 m c) (Fin.ext (show min s.val 31 = s.val by omega)))
theorem after0_B_14 (c : Dev nD) : (dats m 0 c).after 14 ptB = out0_A_14 m c 31 := (after0_14 m c _).trans (congrArg (out0_A_14 m c) (Fin.ext rfl))

/-- A buffer whose blocks are whole keeps what the body left in it. -/
theorem kept_eq (c : Dev nD) (w : Fin cfg0.W) (t : Fin cfg0.N) (d) (hclip : ∀ a, (cfg0.win w).clip (cfg0.grid.coords t) a = none) :
    (dats m 0 c).kept w t d = (dats m 0 c).after w t := by
  unfold Dat.kept
  rw [Pipeline.fill_of_clip_none w _ hclip d ((dats m 0 c).after w t), Window.fill_cut]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
/-- At the last point output 8's buffer still holds what the point before left. -/
theorem before0_8 (c : Dev nD) (d) : (dats m 0 c).before 8 ptB d = out0_A_8 m c 31 := by
  rw [Dat.before_of_pos _ 8 ptB (by decide) (by decide +kernel), if_neg (by decide +kernel)]
  unfold Dat.left
  rw [show cfg0.idle 8 (cfg0.grid.coords ⟨ptB.val - 1, Nat.lt_of_le_of_lt (Nat.sub_le _ _) ptB.isLt⟩) = false by decide +kernel]
  refine (kept_eq m c 8 _ d (fun a => rfl)).trans ?_
  exact after0_A_8 m c 31
/-- At the last point output 9's buffer still holds what the point before left. -/
theorem before0_9 (c : Dev nD) (d) : (dats m 0 c).before 9 ptB d = out0_A_9 m c 31 := by
  rw [Dat.before_of_pos _ 9 ptB (by decide) (by decide +kernel), if_neg (by decide +kernel)]
  unfold Dat.left
  rw [show cfg0.idle 9 (cfg0.grid.coords ⟨ptB.val - 1, Nat.lt_of_le_of_lt (Nat.sub_le _ _) ptB.isLt⟩) = false by decide +kernel]
  refine (kept_eq m c 9 _ d (fun a => rfl)).trans ?_
  exact after0_A_9 m c 31
/-- At the last point output 11's buffer still holds what the point before left. -/
theorem before0_11 (c : Dev nD) (d) : (dats m 0 c).before 11 ptB d = out0_A_11 m c 31 := by
  rw [Dat.before_of_pos _ 11 ptB (by decide) (by decide +kernel), if_neg (by decide +kernel)]
  unfold Dat.left
  rw [show cfg0.idle 11 (cfg0.grid.coords ⟨ptB.val - 1, Nat.lt_of_le_of_lt (Nat.sub_le _ _) ptB.isLt⟩) = false by decide +kernel]
  refine (kept_eq m c 11 _ d (fun a => rfl)).trans ?_
  exact after0_A_11 m c 31
/-- At the last point output 14's buffer still holds what the point before left. -/
theorem before0_14 (c : Dev nD) (d) : (dats m 0 c).before 14 ptB d = out0_A_14 m c 31 := by
  rw [Dat.before_of_pos _ 14 ptB (by decide) (by decide +kernel), if_neg (by decide +kernel)]
  unfold Dat.left
  rw [show cfg0.idle 14 (cfg0.grid.coords ⟨ptB.val - 1, Nat.lt_of_le_of_lt (Nat.sub_le _ _) ptB.isLt⟩) = false by decide +kernel]
  refine (kept_eq m c 14 _ d (fun a => rfl)).trans ?_
  exact after0_A_14 m c 31

end Cert.Kernel2Ideal.Gen

end
-- ==== Proof.ProjSpec.lean ====
module

public import proofs.«01_k».proof.Proof.Spec

@[expose] public section

noncomputable section

namespace Cert.Layer

open Idealize.ShloMosaic

/-- One entry of a row's product with a matrix. -/
def proj {n : ℕ} (h : Fin 1024 → EReal) (w : Fin 1024 → Fin n → EReal) (j : Fin n) : EReal := ∑ k, h k * w k j

/-- Four heads of a row scaled to mean square one, head by head, as the kernel forms it: the squares and their
    remainders are summed by a product with the table `bd`. -/
def headNorm (y : Fin 256 → EReal) (bd : Fin 256 → Fin 256 → EReal) (g : Fin 256 → EReal) (j : Fin 256) : EReal :=
  y j * Ideal.rsqrt ((∑ i, y i * y i * bd i j + ∑ i, (y i * y i - y i * y i) * bd i j) * Ideal.ofBits .f32 1015021568#32
    + Ideal.ofBits .f32 897988541#32) * g j

/-- The logarithm of the logistic function, as the kernel forms it. -/
def logSig (f : EReal) : EReal := min f 0 - Ideal.log (1 + Ideal.exp (0 - max f (-f)))

end Cert.Layer
end
-- ==== Proof.ProjPay.lean ====
module

public import proofs.«01_k».proof.Proof.Gen.Kernel2Ideal.Skeleton
public import proofs.«01_k».proof.Proof.ProjSpec

@[expose] public section

set_option maxRecDepth 16384

noncomputable section

namespace Cert.Kernel2Ideal.Gen

open Idealize.ShloMosaic Idealize.ShloMosaic.TcCoe Cert.Layer

section
variable (x : Vec Ideal S512x1024 .f32) (g : Vec Ideal S1x1024 .f32) (r : Fin 512)

theorem rowA (k : Fin 1024) : k0_pay5 x g (ix2 r k) = normRow (fun d => x (ix2 r d)) (fun d => g (ix2 0 d)) k := by
  pointwise [k0_pay5, normRow]

theorem rowB (k : Fin 1024) : k0_pay48 x g (ix2 r k) = normRow (fun d => x (ix2 r d)) (fun d => g (ix2 0 d)) k := by
  pointwise [k0_pay48, normRow]
end

section
variable (h : FVec Ideal S512x1024 .bf16) (bd : Vec Ideal S256x256 .bf16) (w : Vec Ideal S1024x256 .bf16) (g : Vec Ideal S1x256 .f32)
  (r : Fin 512)

theorem tabA (i j : Fin 256) : k0_pay6 bd (ix2 i j) = bd (ix2 i j) := by pointwise [k0_pay6]
theorem tabB (i j : Fin 256) : k0_pay49 bd (ix2 i j) = bd (ix2 i j) := by pointwise [k0_pay49]

theorem keyA0 (j : Fin 256) : k0_pay15 h bd w g (ix3 0 j r)
    = headNorm (proj (fun k => h (ix2 r k)) fun k i => w (ix2 k i)) (fun i j => bd (ix2 i j)) (fun j => g (ix2 0 j)) j := by
  pointwise [k0_pay15, k0_pay14, headNorm, proj]

theorem keyA1 (j : Fin 256) : k0_pay23 (k0_pay17 h w) (k0_pay20 h bd w) (k0_pay21 h bd w) g (ix3 0 j r)
    = headNorm (proj (fun k => h (ix2 r k)) fun k i => w (ix2 k i)) (fun i j => bd (ix2 i j)) (fun j => g (ix2 0 j)) j := by
  pointwise [k0_pay23, k0_pay22, k0_pay17, k0_pay20, k0_pay21, k0_pay19, k0_pay18, headNorm, proj]

theorem keyA2 (j : Fin 256) : k0_pay28 (k0_pay25 h bd w) (k0_pay26 g) (ix3 0 j r)
    = headNorm (proj (fun k => h (ix2 r k)) fun k i => w (ix2 k i)) (fun i j => bd (ix2 i j)) (fun j => g (ix2 0 j)) j := by
  pointwise [k0_pay28, k0_pay27, k0_pay25, k0_pay26, headNorm, proj]

theorem keyA3 (j : Fin 256) : k0_pay31 h bd w g (ix3 0 j r)
    = headNorm (proj (fun k => h (ix2 r k)) fun k i => w (ix2 k i)) (fun i j => bd (ix2 i j)) (fun j => g (ix2 0 j)) j := by
  pointwise [k0_pay31, k0_pay30, headNorm, proj]

theorem valA0 (j : Fin 256) : k0_pay36 h w (ix3 0 j r) = proj (fun k => h (ix2 r k)) (fun k i => w (ix2 k i)) j := by
  pointwise [k0_pay36, k0_pay34, proj]
theorem valA1 (j : Fin 256) : k0_pay39 h w (ix3 0 j r) = proj (fun k => h (ix2 r k)) (fun k i => w (ix2 k i)) j := by
  pointwise [k0_pay39, k0_pay37, proj]
theorem valA2 (j : Fin 256) : k0_pay42 h w (ix3 0 j r) = proj (fun k => h (ix2 r k)) (fun k i => w (ix2 k i)) j := by
  pointwise [k0_pay42, k0_pay40, proj]
theorem valA3 (j : Fin 256) : k0_pay45 h w (ix3 0 j r) = proj (fun k => h (ix2 r k)) (fun k i => w (ix2 k i)) j := by
  pointwise [k0_pay45, k0_pay43, proj]

theorem keyB0 (j : Fin 256) : k0_pay57 h bd w g (ix2 r j)
    = headNorm (proj (fun k => h (ix2 r k)) fun k i => w (ix2 k i)) (fun i j => bd (ix2 i j)) (fun j => g (ix2 0 j)) j := by
  pointwise [k0_pay57, headNorm, proj]

theorem keyB1 (j : Fin 256) : k0_pay59 (k0_pay58 h bd w) g (ix2 r j)
    = headNorm (proj (fun k => h (ix2 r k)) fun k i => w (ix2 k i)) (fun i j => bd (ix2 i j)) (fun j => g (ix2 0 j)) j := by
  pointwise [k0_pay59, k0_pay58, headNorm, proj]

theorem keyB2 (j : Fin 256) : k0_pay60 h bd w g (ix2 r j)
    = headNorm (proj (fun k => h (ix2 r k)) fun k i => w (ix2 k i)) (fun i j => bd (ix2 i j)) (fun j => g (ix2 0 j)) j := by
  pointwise [k0_pay60, headNorm, proj]

theorem keyB3 (j : Fin 256) : k0_pay63 (k0_pay61 h w) (k0_pay62 h bd w) g (ix2 r j)
    = headNorm (proj (fun k => h (ix2 r k)) fun k i => w (ix2 k i)) (fun i j => bd (ix2 i j)) (fun j => g (ix2 0 j)) j := by
  pointwise [k0_pay63, k0_pay61, k0_pay62, headNorm, proj]
theorem valB0 (j : Fin 256) : k0_pay64 h w (ix2 r j) = proj (fun k => h (ix2 r k)) (fun k i => w (ix2 k i)) j := by
  pointwise [k0_pay64, proj]
theorem valB1 (j : Fin 256) : k0_pay66 h w (ix2 r j) = proj (fun k => h (ix2 r k)) (fun k i => w (ix2 k i)) j := by
  pointwise [k0_pay66, proj]
theorem valB2 (j : Fin 256) : k0_pay68 h w (ix2 r j) = proj (fun k => h (ix2 r k)) (fun k i => w (ix2 k i)) j := by
  pointwise [k0_pay68, proj]
theorem valB3 (j : Fin 256) : k0_pay2 h w (ix2 r j) = proj (fun k => h (ix2 r k)) (fun k i => w (ix2 k i)) j := by
  pointwise [k0_pay2, proj]
end

section
variable (h : FVec Ideal S512x1024 .bf16) (w : Vec Ideal S1024x128 .bf16) (b : Vec Ideal S1x128 .f32) (r : Fin 512)

theorem logA (l : Fin 128) : k0_pay1 (k0_pay47 h w b) (ix3 0 l r)
    = logSig (proj (fun k => h (ix2 r k)) (fun k i => w (ix2 k i)) l + b (ix2 0 l)) := by
  pointwise [k0_pay1, k0_pay47, k0_pay46, logSig, proj]
  rfl

theorem logA' (l : Fin 128) : k0_pay46 h w b (ix2 r l)
    = logSig (proj (fun k => h (ix2 r k)) (fun k i => w (ix2 k i)) l + b (ix2 0 l)) := by
  pointwise [k0_pay46, logSig, proj]
  rfl

theorem logB (l : Fin 128) : k0_pay4 h w b (ix2 r l)
    = logSig (proj (fun k => h (ix2 r k)) (fun k i => w (ix2 k i)) l + b (ix2 0 l)) := by
  pointwise [k0_pay4, logSig, proj]
  rfl
end

end Cert.Kernel2Ideal.Gen
end
-- ==== Proof.ProjVal.lean ====
module

public import proofs.«01_k».proof.Proof.ProjDat
public import proofs.«01_k».proof.Proof.ProjPay
public import Idealize.ShloMosaic.Lib.Pipeline.ValueKit

@[expose] public section

set_option maxRecDepth 16384

noncomputable section

namespace Cert.Kernel2Ideal.Gen

open Idealize.ShloMosaic Idealize.ShloMosaic.TcCoe Cert.Layer

theorem index0 : ∀ t : Fin grid0.N, win0_0.index t = ![t.val, 0] ∧ win0_1.index t = ![0, 0] ∧ win0_2.index t = ![0, 0]
    ∧ win0_3.index t = ![0, 0] ∧ win0_4.index t = ![0, 0] ∧ win0_5.index t = ![0, 0] := by
  decide +kernel
theorem index1 : ∀ t : Fin grid0.N, win0_7.index t = ![0, 0] ∧ win0_8.index t = ![min t.val 31 / 4, 0, min t.val 31 % 4]
    ∧ win0_10.index t = ![0, 0] ∧ win0_11.index t = ![min t.val 31 / 4, 0, min t.val 31 % 4] ∧ win0_13.index t = ![t.val, 0]
    ∧ win0_14.index t = ![min t.val 31 / 4, 0, min t.val 31 % 4] := by
  decide +kernel

variable (m : (ℓ : Loc nD τ sig) → Buf (Elt Ideal) ℓ) (c : Dev nD)

/-- The arrays the region reads. -/
abbrev aX : Vec Ideal S16896x1024 .f32 := V m c (Pipeline.arrRef spec0 0)
abbrev aG : Vec Ideal S1x1024 .f32 := V m c (Pipeline.arrRef spec0 1)
abbrev aW : Vec Ideal S1024x3200 .bf16 := V m c (Pipeline.arrRef spec0 2)
abbrev aN : Vec Ideal S1x2048 .f32 := V m c (Pipeline.arrRef spec0 3)
abbrev aB : Vec Ideal S1x128 .f32 := V m c (Pipeline.arrRef spec0 4)
abbrev aT : Vec Ideal S256x256 .bf16 := V m c (Pipeline.arrRef spec0 5)

/-- A row after the norm. -/
def hRow (n : Fin 16896) : Fin 1024 → EReal := normRow (fun d => aX m c (ix2 n d)) (fun d => aG m c (ix2 0 d))

/-- The row's projection at one column. -/
def yRow (n : Fin 16896) (j : Fin 3200) : EReal := proj (hRow m c n) (fun k j => aW m c (ix2 k j)) j

/-- The row's keys in the `o`-th group of four heads. -/
def keyAt (n : Fin 16896) (o : Fin 4) (j : Fin 256) : EReal :=
  headNorm (fun i => yRow m c n ⟨1024 + 256 * o.val + i.val, by omega⟩) (fun i j => aT m c (ix2 i j))
    (fun j => aN m c (ix2 0 ⟨1024 + 256 * o.val + j.val, by omega⟩)) j

/-- The row's keys. -/
def keyRow (n : Fin 16896) (d : Fin 1024) : EReal := keyAt m c n ⟨d.val / 256, by omega⟩ ⟨d.val % 256, by omega⟩

/-- The row's values. -/
def valRow (n : Fin 16896) (d : Fin 1024) : EReal := yRow m c n ⟨2048 + d.val, by omega⟩

/-- The row's forget gates. -/
def logRow (n : Fin 16896) (l : Fin 128) : EReal := logSig (yRow m c n ⟨3072 + l.val, by omega⟩ + aB m c (ix2 0 l))

section blocks
variable (t : Fin cfg0.N)

theorem blk0_0 (r : Fin 512) (d : Fin 1024) (n : Fin 16896) (hn : n.val = t.val * 512 + r.val) :
    iblk m c 0 t (ix2 r d) = aX m c (ix2 n d) := by
  have e := (index0 t).1
  blk_ext [iblk, e]
theorem blk0_1 (d : Fin 1024) : iblk m c 1 t (ix2 0 d) = aG m c (ix2 0 d) := by
  have e := (index0 t).2.1
  blk_ext [iblk, e]
theorem blk0_2 (k : Fin 1024) (j : Fin 3200) : iblk m c 2 t (ix2 k j) = aW m c (ix2 k j) := by
  have e := (index0 t).2.2.1
  blk_ext [iblk, e]
theorem blk0_3 (j : Fin 2048) : iblk m c 3 t (ix2 0 j) = aN m c (ix2 0 j) := by
  have e := (index0 t).2.2.2.1
  blk_ext [iblk, e]
theorem blk0_4 (l : Fin 128) : iblk m c 4 t (ix2 0 l) = aB m c (ix2 0 l) := by
  have e := (index0 t).2.2.2.2.1
  blk_ext [iblk, e]
theorem blk0_5 (i j : Fin 256) : iblk m c 5 t (ix2 i j) = aT m c (ix2 i j) := by
  have e := (index0 t).2.2.2.2.2
  blk_ext [iblk, e]

/-- The columns of the weights loaded from column `o` on. -/
theorem ldW {q : ℕ} (o : ℕ) (ho : o + q ≤ 3200) (inb) (k : Fin 1024) (j : Fin q) :
    View.ld (iblk m c 2 t : Vec Ideal S1024x3200 .bf16) (Rect.unit ![0, o] ![1024, q] inb) (ix2 k j) = aW m c (ix2 k ⟨o + j.val, by omega⟩) := by
  refine (View.ld_unit_apply_of _ _ _ inb _ (ix2 k (⟨o + j.val, by omega⟩ : Fin 3200)) fun a => ?_).trans (blk0_2 m c t k _)
  match a with
  | ⟨0, _⟩ => exact (Nat.zero_add _).symm
  | ⟨1, _⟩ => exact rfl

/-- The norm's weights loaded from column `o` on. -/
theorem ldN (o : ℕ) (ho : o + 256 ≤ 2048) (inb) (j : Fin 256) :
    View.ld (iblk m c 3 t : Vec Ideal S1x2048 .f32) (Rect.unit ![0, o] ![1, 256] inb) (ix2 0 j) = aN m c (ix2 0 ⟨o + j.val, by omega⟩) := by
  refine (View.ld_unit_apply_of _ _ _ inb _ (ix2 0 (⟨o + j.val, by omega⟩ : Fin 2048)) fun a => ?_).trans (blk0_3 m c t _)
  match a with
  | ⟨0, _⟩ => exact rfl
  | ⟨1, _⟩ => exact rfl

theorem hA (r : Fin 512) (n : Fin 16896) (hn : n.val = t.val * 512 + r.val) (k : Fin 1024) :
    k0_pay5 (iblk m c 0 t : Vec Ideal S512x1024 .f32) (iblk m c 1 t : Vec Ideal S1x1024 .f32) (ix2 r k) = hRow m c n k := by
  rw [rowA]
  simp only [fun d => blk0_0 m c t r d n hn, blk0_1]; rfl
theorem hB (r : Fin 512) (n : Fin 16896) (hn : n.val = t.val * 512 + r.val) (k : Fin 1024) :
    k0_pay48 (iblk m c 0 t : Vec Ideal S512x1024 .f32) (iblk m c 1 t : Vec Ideal S1x1024 .f32) (ix2 r k) = hRow m c n k := by
  rw [rowB]
  simp only [fun d => blk0_0 m c t r d n hn, blk0_1]; rfl

/-- The keys of one group of heads, from the block's loads. -/
theorem key_piece (h : FVec Ideal S512x1024 .bf16) (bd : Vec Ideal S256x256 .bf16) (w : Vec Ideal S1024x256 .bf16) (g : Vec Ideal S1x256 .f32)
    (r : Fin 512) (n : Fin 16896) (o : Fin 4) (hh : ∀ k, h (ix2 r k) = hRow m c n k) (hb : ∀ i j, bd (ix2 i j) = aT m c (ix2 i j))
    (hw : ∀ k j, w (ix2 k j) = aW m c (ix2 k ⟨1024 + 256 * o.val + j.val, by omega⟩))
    (hg : ∀ j, g (ix2 0 j) = aN m c (ix2 0 ⟨1024 + 256 * o.val + j.val, by omega⟩)) (j : Fin 256) (d : Fin 1024) (hd : d.val = 256 * o.val + j.val) :
    headNorm (proj (fun k => h (ix2 r k)) fun k i => w (ix2 k i)) (fun i j => bd (ix2 i j)) (fun j => g (ix2 0 j)) j = keyRow m c n d := by
  rw [keyRow, show (⟨d.val / 256, by omega⟩ : Fin 4) = o from Fin.ext (show d.val / 256 = o.val by omega),
    show (⟨d.val % 256, by omega⟩ : Fin 256) = j from Fin.ext (show d.val % 256 = j.val by omega)]
  simp only [hh, hb, hw, hg]
  rfl

/-- The values of one group of heads, from the block's loads. -/
theorem val_piece (h : FVec Ideal S512x1024 .bf16) (w : Vec Ideal S1024x256 .bf16)
    (r : Fin 512) (n : Fin 16896) (o : Fin 4) (hh : ∀ k, h (ix2 r k) = hRow m c n k)
    (hw : ∀ k j, w (ix2 k j) = aW m c (ix2 k ⟨2048 + 256 * o.val + j.val, by omega⟩)) (j : Fin 256) (d : Fin 1024) (hd : d.val = 256 * o.val + j.val) :
    proj (fun k => h (ix2 r k)) (fun k i => w (ix2 k i)) j = valRow m c n d := by
  have e : (⟨2048 + d.val, by omega⟩ : Fin 3200) = ⟨2048 + 256 * o.val + j.val, by omega⟩ := Fin.ext (by simp only [hd]; omega)
  rw [valRow, e]
  simp only [proj, hh, hw]
  rfl

/-- The forget gates, from the block's loads. -/
theorem log_piece (h : FVec Ideal S512x1024 .bf16) (w : Vec Ideal S1024x128 .bf16) (b : Vec Ideal S1x128 .f32)
    (r : Fin 512) (n : Fin 16896) (hh : ∀ k, h (ix2 r k) = hRow m c n k)
    (hw : ∀ k j, w (ix2 k j) = aW m c (ix2 k ⟨3072 + j.val, by omega⟩)) (hb : ∀ l, b (ix2 0 l) = aB m c (ix2 0 l)) (l : Fin 128) :
    logSig (proj (fun k => h (ix2 r k)) (fun k i => w (ix2 k i)) l + b (ix2 0 l)) = logRow m c n l := by
  simp only [proj, hh, hw, hb]
  rfl

end blocks

theorem out0_A_8_eq (s : Fin 32) (d : Fin 1024) (r : Fin 512) (n : Fin 16896) (hn : n.val = s.val * 512 + r.val) :
    out0_A_8 m c s (ix3 0 d r) = keyRow m c n d := by
  unfold out0_A_8 storesAt
  frame_out
  canon_tiles x h
  · idx_vars x
    obtain rfl : r = x2 := Fin.ext h2
    obtain rfl : x0 = 0 := Subsingleton.elim _ _
    have hd : d.val = 768 + x1.val := by first | exact h1 | exact h1.trans (Nat.zero_add _).symm
    exact (keyA3 _ _ _ _ r _).trans (key_piece m c _ _ _ _ r n 3 (fun k => hA m c (ptA s) r n hn k) (fun i j => (tabA _ i j).trans (blk0_5 m c (ptA s) i j)) (fun k j => ldW m c (ptA s) 1792 (by decide) _ k j) (fun j => ldN m c (ptA s) 1792 (by decide) _ j) _ d (by omega))
  · idx_vars x
    obtain rfl : r = x2 := Fin.ext h2
    obtain rfl : x0 = 0 := Subsingleton.elim _ _
    have hd : d.val = 512 + x1.val := by first | exact h1 | exact h1.trans (Nat.zero_add _).symm
    exact (keyA2 _ _ _ _ r _).trans (key_piece m c _ _ _ _ r n 2 (fun k => hA m c (ptA s) r n hn k) (fun i j => (tabA _ i j).trans (blk0_5 m c (ptA s) i j)) (fun k j => ldW m c (ptA s) 1536 (by decide) _ k j) (fun j => ldN m c (ptA s) 1536 (by decide) _ j) _ d (by omega))
  · idx_vars x
    obtain rfl : r = x2 := Fin.ext h2
    obtain rfl : x0 = 0 := Subsingleton.elim _ _
    have hd : d.val = 256 + x1.val := by first | exact h1 | exact h1.trans (Nat.zero_add _).symm
    exact (keyA1 _ _ _ _ r _).trans (key_piece m c _ _ _ _ r n 1 (fun k => hA m c (ptA s) r n hn k) (fun i j => (tabA _ i j).trans (blk0_5 m c (ptA s) i j)) (fun k j => ldW m c (ptA s) 1280 (by decide) _ k j) (fun j => ldN m c (ptA s) 1280 (by decide) _ j) _ d (by omega))
  · idx_vars x
    obtain rfl : r = x2 := Fin.ext h2
    obtain rfl : x0 = 0 := Subsingleton.elim _ _
    have hd : d.val = 0 + x1.val := by first | exact h1 | exact h1.trans (Nat.zero_add _).symm
    exact (keyA0 _ _ _ _ r _).trans (key_piece m c _ _ _ _ r n 0 (fun k => hA m c (ptA s) r n hn k) (fun i j => (tabA _ i j).trans (blk0_5 m c (ptA s) i j)) (fun k j => ldW m c (ptA s) 1024 (by decide) _ k j) (fun j => ldN m c (ptA s) 1024 (by decide) _ j) _ d (by omega))

theorem out0_A_11_eq (s : Fin 32) (d : Fin 1024) (r : Fin 512) (n : Fin 16896) (hn : n.val = s.val * 512 + r.val) :
    out0_A_11 m c s (ix3 0 d r) = valRow m c n d := by
  unfold out0_A_11 storesAt
  frame_out
  canon_tiles x h
  · idx_vars x
    obtain rfl : r = x2 := Fin.ext h2
    obtain rfl : x0 = 0 := Subsingleton.elim _ _
    have hd : d.val = 768 + x1.val := by first | exact h1 | exact h1.trans (Nat.zero_add _).symm
    exact (valA3 _ _ r _).trans (val_piece m c _ _ r n 3 (fun k => hA m c (ptA s) r n hn k) (fun k j => ldW m c (ptA s) 2816 (by decide) _ k j) _ d (by omega))
  · idx_vars x
    obtain rfl : r = x2 := Fin.ext h2
    obtain rfl : x0 = 0 := Subsingleton.elim _ _
    have hd : d.val = 512 + x1.val := by first | exact h1 | exact h1.trans (Nat.zero_add _).symm
    exact (valA2 _ _ r _).trans (val_piece m c _ _ r n 2 (fun k => hA m c (ptA s) r n hn k) (fun k j => ldW m c (ptA s) 2560 (by decide) _ k j) _ d (by omega))
  · idx_vars x
    obtain rfl : r = x2 := Fin.ext h2
    obtain rfl : x0 = 0 := Subsingleton.elim _ _
    have hd : d.val = 256 + x1.val := by first | exact h1 | exact h1.trans (Nat.zero_add _).symm
    exact (valA1 _ _ r _).trans (val_piece m c _ _ r n 1 (fun k => hA m c (ptA s) r n hn k) (fun k j => ldW m c (ptA s) 2304 (by decide) _ k j) _ d (by omega))
  · idx_vars x
    obtain rfl : r = x2 := Fin.ext h2
    obtain rfl : x0 = 0 := Subsingleton.elim _ _
    have hd : d.val = 0 + x1.val := by first | exact h1 | exact h1.trans (Nat.zero_add _).symm
    exact (valA0 _ _ r _).trans (val_piece m c _ _ r n 0 (fun k => hA m c (ptA s) r n hn k) (fun k j => ldW m c (ptA s) 2048 (by decide) _ k j) _ d (by omega))

theorem out0_B_7_eq (d : Fin 1024) (r : Fin 512) (n : Fin 16896) (hn : n.val = 32 * 512 + r.val) :
    out0_B_7 m c (ix2 r d) = keyRow m c n d := by
  unfold out0_B_7 storesLast
  frame_out
  canon_tiles x h
  · idx_vars x
    obtain rfl : r = x0 := Fin.ext h0
    have hd : d.val = 768 + x1.val := by first | exact h1 | exact h1.trans (Nat.zero_add _).symm
    exact (keyB3 _ _ _ _ r _).trans (key_piece m c _ _ _ _ r n 3 (fun k => hB m c ptB r n hn k) (fun i j => (tabB _ i j).trans (blk0_5 m c ptB i j)) (fun k j => ldW m c ptB 1792 (by decide) _ k j) (fun j => ldN m c ptB 1792 (by decide) _ j) _ d (by omega))
  · idx_vars x
    obtain rfl : r = x0 := Fin.ext h0
    have hd : d.val = 512 + x1.val := by first | exact h1 | exact h1.trans (Nat.zero_add _).symm
    exact (keyB2 _ _ _ _ r _).trans (key_piece m c _ _ _ _ r n 2 (fun k => hB m c ptB r n hn k) (fun i j => (tabB _ i j).trans (blk0_5 m c ptB i j)) (fun k j => ldW m c ptB 1536 (by decide) _ k j) (fun j => ldN m c ptB 1536 (by decide) _ j) _ d (by omega))
  · idx_vars x
    obtain rfl : r = x0 := Fin.ext h0
    have hd : d.val = 256 + x1.val := by first | exact h1 | exact h1.trans (Nat.zero_add _).symm
    exact (keyB1 _ _ _ _ r _).trans (key_piece m c _ _ _ _ r n 1 (fun k => hB m c ptB r n hn k) (fun i j => (tabB _ i j).trans (blk0_5 m c ptB i j)) (fun k j => ldW m c ptB 1280 (by decide) _ k j) (fun j => ldN m c ptB 1280 (by decide) _ j) _ d (by omega))
  · idx_vars x
    obtain rfl : r = x0 := Fin.ext h0
    have hd : d.val = 0 + x1.val := by first | exact h1 | exact h1.trans (Nat.zero_add _).symm
    exact (keyB0 _ _ _ _ r _).trans (key_piece m c _ _ _ _ r n 0 (fun k => hB m c ptB r n hn k) (fun i j => (tabB _ i j).trans (blk0_5 m c ptB i j)) (fun k j => ldW m c ptB 1024 (by decide) _ k j) (fun j => ldN m c ptB 1024 (by decide) _ j) _ d (by omega))

theorem out0_B_10_eq (d : Fin 1024) (r : Fin 512) (n : Fin 16896) (hn : n.val = 32 * 512 + r.val) :
    out0_B_10 m c (ix2 r d) = valRow m c n d := by
  unfold out0_B_10 storesLast
  frame_out
  canon_tiles x h
  · idx_vars x
    obtain rfl : r = x0 := Fin.ext h0
    have hd : d.val = 768 + x1.val := by first | exact h1 | exact h1.trans (Nat.zero_add _).symm
    exact (valB3 _ _ r _).trans (val_piece m c _ _ r n 3 (fun k => hB m c ptB r n hn k) (fun k j => ldW m c ptB 2816 (by decide) _ k j) _ d (by omega))
  · idx_vars x
    obtain rfl : r = x0 := Fin.ext h0
    have hd : d.val = 512 + x1.val := by first | exact h1 | exact h1.trans (Nat.zero_add _).symm
    exact (valB2 _ _ r _).trans (val_piece m c _ _ r n 2 (fun k => hB m c ptB r n hn k) (fun k j => ldW m c ptB 2560 (by decide) _ k j) _ d (by omega))
  · idx_vars x
    obtain rfl : r = x0 := Fin.ext h0
    have hd : d.val = 256 + x1.val := by first | exact h1 | exact h1.trans (Nat.zero_add _).symm
    exact (valB1 _ _ r _).trans (val_piece m c _ _ r n 1 (fun k => hB m c ptB r n hn k) (fun k j => ldW m c ptB 2304 (by decide) _ k j) _ d (by omega))
  · idx_vars x
    obtain rfl : r = x0 := Fin.ext h0
    have hd : d.val = 0 + x1.val := by first | exact h1 | exact h1.trans (Nat.zero_add _).symm
    exact (valB0 _ _ r _).trans (val_piece m c _ _ r n 0 (fun k => hB m c ptB r n hn k) (fun k j => ldW m c ptB 2048 (by decide) _ k j) _ d (by omega))

theorem out0_A_14_eq (s : Fin 32) (l : Fin 128) (r : Fin 512) (n : Fin 16896) (hn : n.val = s.val * 512 + r.val) :
    out0_A_14 m c s (ix3 0 l r) = logRow m c n l := by
  unfold out0_A_14 storesAt
  frame_out
  exact (logA _ _ _ r l).trans (log_piece m c _ _ _ r n (fun k => hA m c (ptA s) r n hn k) (fun k j => ldW m c (ptA s) 3072 (by decide) _ k j)
    (fun l => blk0_4 m c (ptA s) l) l)

theorem out0_A_13_eq (s : Fin 32) (l : Fin 128) (r : Fin 512) (n : Fin 16896) (hn : n.val = s.val * 512 + r.val) :
    out0_A_13 m c s (ix2 r l) = logRow m c n l := by
  unfold out0_A_13 storesAt
  frame_out
  exact (logA' _ _ _ r l).trans (log_piece m c _ _ _ r n (fun k => hA m c (ptA s) r n hn k) (fun k j => ldW m c (ptA s) 3072 (by decide) _ k j)
    (fun l => blk0_4 m c (ptA s) l) l)

theorem out0_B_13_eq (l : Fin 128) (r : Fin 512) (n : Fin 16896) (hn : n.val = 32 * 512 + r.val) :
    out0_B_13 m c (ix2 r l) = logRow m c n l := by
  unfold out0_B_13 storesLast
  frame_out
  exact (logB _ _ _ r l).trans (log_piece m c _ _ _ r n (fun k => hB m c ptB r n hn k) (fun k j => ldW m c ptB 3072 (by decide) _ k j)
    (fun l => blk0_4 m c ptB l) l)

end Cert.Kernel2Ideal.Gen
end
-- ==== Proof.ProjArr.lean ====
module

public import proofs.«01_k».proof.Proof.ProjVal

@[expose] public section

set_option maxRecDepth 16384

noncomputable section

namespace Cert.Kernel2Ideal.Gen

open Idealize.ShloMosaic Idealize.ShloMosaic.TcCoe Cert.Layer

variable (m : (ℓ : Loc nD τ sig) → Buf (Elt Ideal) ℓ) (c : Dev nD)

/-- The row of the token list at one place of one sequence. -/
abbrev place (b : Fin 8) (t : Fin 2048) : Fin 16896 := ⟨b.val * 2048 + t.val, by omega⟩

/-- The row of the token list at one row of the sampled tokens. -/
abbrev late (r : Fin 512) : Fin 16896 := ⟨16384 + r.val, by omega⟩

theorem arr0_8 : (dats m 0 c).arrAt 8 cfg0.N = fun i => keyRow m c (place (i 0) (i 2)) (i 1) := by
  refine (dats m 0 c).arrAt_eq_of_covers 8 _ (by decide +kernel) fun t hf y => ?_
  have e := (index1 t).2.1
  have e0 : (((cfg0.win 8).blk t).view.emb y 0 : ℕ) = min t.val 31 / 4 + (y 0).val := by blk_simp [e]
  have e1 : (((cfg0.win 8).blk t).view.emb y 1 : ℕ) = (y 1).val := by blk_simp [e]
  have e2 : (((cfg0.win 8).blk t).view.emb y 2 : ℕ) = min t.val 31 % 4 * 512 + (y 2).val := by blk_simp [e]
  dsimp only
  generalize ((cfg0.win 8).blk t).view.emb y 0 = n at e0 ⊢
  generalize ((cfg0.win 8).blk t).view.emb y 1 = d at e1 ⊢
  generalize ((cfg0.win 8).blk t).view.emb y 2 = p at e2 ⊢
  blk_simp
  rw [after0_8]
  idx_vars y
  obtain rfl : d = y1 := Fin.ext e1
  obtain rfl : y0 = 0 := Subsingleton.elim _ _
  exact out0_A_8_eq m c _ _ _ _ (by
    have h0 : (n : ℕ) = min t.val 31 / 4 := e0.trans (Nat.add_zero _)
    have h2 : (p : ℕ) = min t.val 31 % 4 * 512 + y2.val := e2
    show (n : ℕ) * 2048 + (p : ℕ) = min t.val 31 * 512 + y2.val
    omega)

theorem arr0_11 : (dats m 0 c).arrAt 11 cfg0.N = fun i => valRow m c (place (i 0) (i 2)) (i 1) := by
  refine (dats m 0 c).arrAt_eq_of_covers 11 _ (by decide +kernel) fun t hf y => ?_
  have e := (index1 t).2.2.2.1
  have e0 : (((cfg0.win 11).blk t).view.emb y 0 : ℕ) = min t.val 31 / 4 + (y 0).val := by blk_simp [e]
  have e1 : (((cfg0.win 11).blk t).view.emb y 1 : ℕ) = (y 1).val := by blk_simp [e]
  have e2 : (((cfg0.win 11).blk t).view.emb y 2 : ℕ) = min t.val 31 % 4 * 512 + (y 2).val := by blk_simp [e]
  dsimp only
  generalize ((cfg0.win 11).blk t).view.emb y 0 = n at e0 ⊢
  generalize ((cfg0.win 11).blk t).view.emb y 1 = d at e1 ⊢
  generalize ((cfg0.win 11).blk t).view.emb y 2 = p at e2 ⊢
  blk_simp
  rw [after0_11]
  idx_vars y
  obtain rfl : d = y1 := Fin.ext e1
  obtain rfl : y0 = 0 := Subsingleton.elim _ _
  exact out0_A_11_eq m c _ _ _ _ (by
    have h0 : (n : ℕ) = min t.val 31 / 4 := e0.trans (Nat.add_zero _)
    have h2 : (p : ℕ) = min t.val 31 % 4 * 512 + y2.val := e2
    show (n : ℕ) * 2048 + (p : ℕ) = min t.val 31 * 512 + y2.val
    omega)

theorem arr0_14 : (dats m 0 c).arrAt 14 cfg0.N = fun i => logRow m c (place (i 0) (i 2)) (i 1) := by
  refine (dats m 0 c).arrAt_eq_of_covers 14 _ (by decide +kernel) fun t hf y => ?_
  have e := (index1 t).2.2.2.2.2
  have e0 : (((cfg0.win 14).blk t).view.emb y 0 : ℕ) = min t.val 31 / 4 + (y 0).val := by blk_simp [e]
  have e1 : (((cfg0.win 14).blk t).view.emb y 1 : ℕ) = (y 1).val := by blk_simp [e]
  have e2 : (((cfg0.win 14).blk t).view.emb y 2 : ℕ) = min t.val 31 % 4 * 512 + (y 2).val := by blk_simp [e]
  dsimp only
  generalize ((cfg0.win 14).blk t).view.emb y 0 = n at e0 ⊢
  generalize ((cfg0.win 14).blk t).view.emb y 1 = d at e1 ⊢
  generalize ((cfg0.win 14).blk t).view.emb y 2 = p at e2 ⊢
  blk_simp
  rw [after0_14]
  idx_vars y
  obtain rfl : d = y1 := Fin.ext e1
  obtain rfl : y0 = 0 := Subsingleton.elim _ _
  exact out0_A_14_eq m c _ _ _ _ (by
    have h0 : (n : ℕ) = min t.val 31 / 4 := e0.trans (Nat.add_zero _)
    have h2 : (p : ℕ) = min t.val 31 % 4 * 512 + y2.val := e2
    show (n : ℕ) * 2048 + (p : ℕ) = min t.val 31 * 512 + y2.val
    omega)

theorem arr0_7 : (dats m 0 c).arrAt 7 cfg0.N = fun i => keyRow m c (late (i 0)) (i 1) := by
  refine (dats m 0 c).arrAt_eq_of_covers 7 _ (by decide +kernel) fun t hf y => ?_
  have e := (index1 t).1
  have e0 : (((cfg0.win 7).blk t).view.emb y 0 : ℕ) = (y 0).val := by blk_simp [e]
  have e1 : (((cfg0.win 7).blk t).view.emb y 1 : ℕ) = (y 1).val := by blk_simp [e]
  dsimp only
  generalize ((cfg0.win 7).blk t).view.emb y 0 = n at e0 ⊢
  generalize ((cfg0.win 7).blk t).view.emb y 1 = d at e1 ⊢
  blk_simp
  rw [after0_7]
  idx_vars y
  obtain rfl : d = y1 := Fin.ext e1
  obtain rfl : n = y0 := Fin.ext e0
  exact out0_B_7_eq m c _ _ _ rfl

theorem arr0_10 : (dats m 0 c).arrAt 10 cfg0.N = fun i => valRow m c (late (i 0)) (i 1) := by
  refine (dats m 0 c).arrAt_eq_of_covers 10 _ (by decide +kernel) fun t hf y => ?_
  have e := (index1 t).2.2.1
  have e0 : (((cfg0.win 10).blk t).view.emb y 0 : ℕ) = (y 0).val := by blk_simp [e]
  have e1 : (((cfg0.win 10).blk t).view.emb y 1 : ℕ) = (y 1).val := by blk_simp [e]
  dsimp only
  generalize ((cfg0.win 10).blk t).view.emb y 0 = n at e0 ⊢
  generalize ((cfg0.win 10).blk t).view.emb y 1 = d at e1 ⊢
  blk_simp
  rw [after0_10]
  idx_vars y
  obtain rfl : d = y1 := Fin.ext e1
  obtain rfl : n = y0 := Fin.ext e0
  exact out0_B_10_eq m c _ _ _ rfl

theorem arr0_13 : (dats m 0 c).arrAt 13 cfg0.N = fun i => logRow m c (i 0) (i 1) := by
  refine (dats m 0 c).arrAt_eq_of_covers 13 _ (by decide +kernel) fun t hf y => ?_
  have e := (index1 t).2.2.2.2.1
  have e0 : (((cfg0.win 13).blk t).view.emb y 0 : ℕ) = t.val * 512 + (y 0).val := by blk_simp [e]
  have e1 : (((cfg0.win 13).blk t).view.emb y 1 : ℕ) = (y 1).val := by blk_simp [e]
  dsimp only
  generalize ((cfg0.win 13).blk t).view.emb y 0 = n at e0 ⊢
  generalize ((cfg0.win 13).blk t).view.emb y 1 = d at e1 ⊢
  blk_simp
  idx_vars y
  obtain rfl : d = y1 := Fin.ext e1
  rcases pt_cases t with ⟨s, rfl⟩ | rfl
  · rw [after0_A_13]
    exact out0_A_13_eq m c s _ _ _ e0
  · rw [after0_B_13]
    exact out0_B_13_eq m c _ _ _ e0

end Cert.Kernel2Ideal.Gen
end
-- ==== Proof.ProjHost.lean ====
module

public import proofs.«01_k».proof.Proof.ProjArr
public import Idealize.ShloMosaic.Lib.Claim

@[expose] public section

set_option maxRecDepth 16384

noncomputable section

namespace Cert.Kernel2Ideal.Gen

open Idealize.ShloMosaic Idealize.ShloMosaic.TcCoe Cert.Layer

variable (σ : Valuation τ sig (Elt Ideal))

/-- A column of the projection's weights, the padding apart. -/
theorem weight_entry (k : Fin 1024) (j : Fin 3200) (e : Fin 3088) (h : j.val = e.val) :
    (StableHlo.after hostOps0 σ (Proc.devRef .tc main_v2) : Vec Ideal S1024x3200 .bf16) (ix2 k j) = (σ (Proc.devRef .tc main_arg2) : Vec Ideal S1024x3088 .f32) (ix2 k e) := by
  have := e.isLt
  entry_read
  pointwise
  rw [dif_pos (by omega)]
  have he : (⟨j.val, by omega⟩ : Fin 3088) = e := Fin.ext h
  rw [he]

/-- The forget gate's bias, the padding apart. -/
theorem bias_entry (l : Fin 128) (e : Fin 16) (h : l.val = e.val) :
    (StableHlo.after hostOps0 σ (Proc.devRef .tc main_v13) : Vec Ideal S1x128 .f32) (ix2 0 l) = (σ (Proc.devRef .tc main_arg3) : Vec Ideal S16 .f32) (ix1 e) := by
  have := e.isLt
  entry_read
  pointwise
  rw [dif_pos (by omega)]
  have he : (⟨l.val, by omega⟩ : Fin 16) = e := Fin.ext h
  rw [he]

/-- The keys' norm weights, one head after another. -/
theorem gain_entry (l : Fin 2048) (d : Fin 1024) (e : Fin 64) (h : l.val = 1024 + d.val) (he : e.val = d.val % 64) :
    (StableHlo.after hostOps0 σ (Proc.devRef .tc main_v10) : Vec Ideal S1x2048 .f32) (ix2 0 l) = (σ (Proc.devRef .tc main_arg5) : Vec Ideal S64 .f32) (ix1 e) := by
  have := d.isLt
  entry_read
  pointwise
  rw [dif_neg (by omega)]
  congr 2
  exact Fin.ext (by simp only; omega)

theorem rowgain_entry (k : Fin 1024) : (StableHlo.after hostOps0 σ (Proc.devRef .tc main_v22) : Vec Ideal S1x1024 .f32) (ix2 0 k)
    = (σ (Proc.devRef .tc main_arg1) : Vec Ideal S1024 .f32) (ix1 k) := by
  entry_read
  pointwise

theorem quot_word : ∀ i : Fin 256, IntOp.divsi .host (BitVec.ofNat 32 i.val) 64#32 = BitVec.ofNat 32 (i.val / 64) := by decide +kernel
theorem same_word : ∀ a b : Fin 4, IntOp.cmpi .eq (BitVec.ofNat 32 a.val) (BitVec.ofNat 32 b.val) = if a = b then 1#1 else 0#1 := by decide +kernel

/-- The table of which two columns belong to one head. -/
theorem table_entry (i j : Fin 256) : (StableHlo.after hostOps0 σ (Proc.devRef .tc main_v21) : Vec Ideal S256x256 .bf16) (ix2 i j)
    = if i.val / 64 = j.val / 64 then (1 : EReal) else 0 := by
  entry_read
  pointwise
  rw [quot_word i, quot_word j]
  have h := same_word ⟨i.val / 64, by omega⟩ ⟨j.val / 64, by omega⟩
  by_cases e : i.val / 64 = j.val / 64
  · rw [if_pos e]
    rw [if_pos (Fin.ext e)] at h
    refine (congrArg (FloatOps.uitofp FTy.bf16) h).trans ?_
    show (((1#1 : BitVec 1).toNat : ℝ) : EReal) = 1
    norm_num
  · rw [if_neg e]
    rw [if_neg (fun q => e (congrArg Fin.val q))] at h
    refine (congrArg (FloatOps.uitofp FTy.bf16) h).trans ?_
    show (((0#1 : BitVec 1).toNat : ℝ) : EReal) = 0
    norm_num

end Cert.Kernel2Ideal.Gen
end
-- ==== Proof.ProjLayer.lean ====
module

public import proofs.«01_k».proof.Proof.ProjSpec
public import proofs.«01_k».proof.Proof.Rows

@[expose] public section

set_option maxRecDepth 16384

noncomputable section

namespace Cert.Layer

open Idealize.ShloMosaic

/-- A head of a row scaled to mean square one, times its weights. -/
def headRow (y g : Fin 64 → EReal) (j : Fin 64) : EReal :=
  y j * Ideal.rsqrt (Ideal.div (∑ i, y i * y i) (Ideal.ofBits .f32 1115684864#32) + Ideal.ofBits .f32 897988541#32) * g j

/-- The logarithm of the logistic function, as the reference forms it. -/
def negSoftplus (f : EReal) : EReal := -(max (-f) 0 + Ideal.log (1 + Ideal.exp (-max (-f) (- -f))))

/-- The projection's arguments, entry by entry: the rows, the norm's weights, the projection's weights, the forget gates'
    bias and the weights of the keys' norm. -/
structure ProjArgs where
  x : Fin 16896 → Fin 1024 → EReal
  g : Fin 1024 → EReal
  w : Fin 1024 → Fin 3088 → EReal
  b : Fin 16 → EReal
  kn : Fin 64 → EReal

/-- What the projections are computed from holds reals. -/
structure ProjArgs.Finite (A : ProjArgs) : Prop where
  g : ∀ i, IsReal (A.g i)
  w : ∀ i j, IsReal (A.w i j)

variable (A : ProjArgs)

/-- A row's projection at one column. -/
def ProjArgs.y (n : Fin 16896) (e : Fin 3088) : EReal := proj (normRow (A.x n) A.g) A.w e

/-- The keys of one head of a row. -/
def ProjArgs.key (n : Fin 16896) (o : Fin 16) (j : Fin 64) : EReal :=
  headRow (fun i => A.y n ⟨1024 + 64 * o.val + i.val, by omega⟩) A.kn j

/-- The values of one head of a row. -/
def ProjArgs.val (n : Fin 16896) (o : Fin 16) (j : Fin 64) : EReal := A.y n ⟨2048 + 64 * o.val + j.val, by omega⟩

/-- The forget gate of one head of a row. -/
def ProjArgs.gate (n : Fin 16896) (o : Fin 16) : EReal := negSoftplus (A.y n ⟨3072 + o.val, by omega⟩ + A.b o)

theorem ProjArgs.y_real {A : ProjArgs} (h : A.Finite) (n : Fin 16896) (e : Fin 3088) : IsReal (A.y n e) :=
  IsReal.sum fun k => (normRow_real h.g k).mul (h.w k e)

theorem log_ne_bot (a : EReal) : Ideal.log (1 + Ideal.exp a) ≠ ⊥ := by
  induction a with
  | bot =>
    show Ideal.log (1 + 0) ≠ ⊥
    rw [add_zero, ← EReal.coe_one]
    show (if (1 : ℝ) ≤ 0 then (⊥ : EReal) else (Real.log 1 : ℝ)) ≠ ⊥
    rw [if_neg (by norm_num)]
    exact EReal.coe_ne_bot _
  | top =>
    show Ideal.log (1 + ⊤) ≠ ⊥
    rw [EReal.add_top_of_ne_bot (by rw [← EReal.coe_one]; exact EReal.coe_ne_bot _)]
    show (⊤ : EReal) ≠ ⊥
    simp
  | coe r =>
    show Ideal.log (1 + (Real.exp r : EReal)) ≠ ⊥
    rw [← EReal.coe_one, ← EReal.coe_add]
    show (if (1 + Real.exp r : ℝ) ≤ 0 then (⊥ : EReal) else (Real.log (1 + Real.exp r) : ℝ)) ≠ ⊥
    rw [if_neg (by have := Real.exp_pos r; linarith)]
    exact EReal.coe_ne_bot _

/-- The two forms of the logistic function's logarithm agree. -/
theorem logSig_eq (f : EReal) : logSig f = negSoftplus f := by
  unfold logSig negSoftplus
  rw [neg_neg, max_comm (-f) f, zero_sub]
  rw [EReal.neg_add (.inl (ne_of_gt (lt_of_lt_of_le (by simp) (le_max_right (-f) 0)))) (.inr (log_ne_bot _)),
    show -max (-f) 0 = min f 0 by
      rcases le_total f 0 with h | h
      · rw [min_eq_left h, max_eq_left (by rw [EReal.le_neg]; simpa using h), neg_neg]
      · rw [min_eq_right h, max_eq_right (by rw [EReal.neg_le]; simpa using h), neg_zero]]

theorem head_word : Ideal.ofBits .f32 1115684864#32 = ((64 : ℝ) : EReal) := by
  simp [Ideal.ofBits, Ideal.ieee, -EReal.coe_mul]; norm_num
theorem part_word : Ideal.ofBits .f32 1015021568#32 = ((1 / 64 : ℝ) : EReal) := by
  simp [Ideal.ofBits, Ideal.ieee, -EReal.coe_mul]; norm_num

/-- The products with the table of heads sum one head. -/
theorem sum_head (f : Fin 256 → EReal) (j : Fin 256) :
    ∑ i : Fin 256, f i * (if i.val / 64 = j.val / 64 then (1 : EReal) else 0) = ∑ i : Fin 64, f ⟨64 * (j.val / 64) + i.val, by omega⟩ := by
  have e : ∀ p : Fin 4 × Fin 64, finProdFinEquiv p = (⟨64 * p.1.val + p.2.val, by omega⟩ : Fin 256) := fun p =>
    Fin.ext (by show p.2.val + 64 * p.1.val = 64 * p.1.val + p.2.val; omega)
  rw [← Equiv.sum_comp (finProdFinEquiv : Fin 4 × Fin 64 ≃ Fin 256), Fintype.sum_prod_type,
    Finset.sum_eq_single (⟨j.val / 64, by omega⟩ : Fin 4)]
  · refine Finset.sum_congr rfl fun i _ => ?_
    rw [e, if_pos (by show (64 * (j.val / 64) + i.val) / 64 = j.val / 64; omega), mul_one]
  · intro b _ hb
    refine Finset.sum_eq_zero fun i _ => ?_
    rw [e, if_neg (fun h => hb (Fin.ext (by
      have h' : (64 * b.val + i.val) / 64 = j.val / 64 := h
      show b.val = j.val / 64
      omega))), mul_zero]
  · exact fun h => absurd (Finset.mem_univ _) h

/-- Where the row is real the kernel's norm of four heads is the norm head by head. -/
theorem headNorm_eq (y : Fin 256 → EReal) (bd : Fin 256 → Fin 256 → EReal) (g : Fin 256 → EReal) (hy : ∀ i, IsReal (y i))
    (hb : ∀ i j, bd i j = if i.val / 64 = j.val / 64 then 1 else 0) (j : Fin 256) (z : Fin 64 → EReal) (q : Fin 64 → EReal) (p : Fin 64)
    (hp : p.val = j.val % 64) (hz : ∀ i : Fin 64, z i = y ⟨64 * (j.val / 64) + i.val, by omega⟩) (hq : q p = g j) :
    headNorm y bd g j = headRow z q p := by
  unfold headNorm headRow
  have e0 : ∑ i, (y i * y i - y i * y i) * bd i j = 0 := Finset.sum_eq_zero fun i _ => by rw [((hy i).mul (hy i)).sub_self, zero_mul]
  have e1 : ∑ i, y i * y i * bd i j = ∑ i, z i * z i := by
    simp only [hb, sum_head (fun i => y i * y i) j, hz]
  have e2 : z p = y j := by
    rw [hz]
    exact congrArg y (Fin.ext (by show 64 * (j.val / 64) + p.val = j.val; omega))
  have e3 : IsReal (∑ i, z i * z i) := IsReal.sum fun i => by rw [hz]; exact (hy _).mul (hy _)
  rw [e0, e1, e2, hq, add_zero]
  obtain ⟨s, hs⟩ := e3
  rw [hs, part_word, head_word, div_real _ _ (by norm_num), ← EReal.coe_mul]
  congr 5
  ring_nf

end Cert.Layer
end
-- ==== Proof.ProjFrame.lean ====
module

public import proofs.«01_k».proof.Proof.ProjDat
public import Idealize.ShloMosaic.Lib.Claim

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d)))

/-- What it hands back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t)

/-- A window the body stores into is handed back at its new contents. -/
theorem leaves_live (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

/-- A window written back at a point is handed back at its final contents. -/
theorem leaves_flush (c : Dev nD) (w : Fin cfg0.W) (t : Fin cfg0.N) (h : cfg0.idle w (cfg0.grid.coords t) = true) (hf : (cfg0.win w).flush t = true) :
    (dats m 0 c).leavesExact w t = owns (c : Thread nD τ) ((cfg0.win w).stage (cfg0.slots t w)) fullShare ((dats m 0 c).after w t) := by
  unfold Dat.leavesExact; rw [h, hf]

theorem leaves0_0 (c : Dev nD) (t : Fin cfg0.N) : (dats m 0 c).leavesExact 0 t = owns (c : Thread nD τ) (ms0_0 t) fullShare (iblk m c 0 t) := by
  rw [leaves_live m c 0 t rfl, after0_0]
theorem leaves0_1 (c : Dev nD) (t : Fin cfg0.N) : (dats m 0 c).leavesExact 1 t = owns (c : Thread nD τ) (ms0_1 t) fullShare (iblk m c 1 t) := by
  rw [leaves_live m c 1 t rfl, after0_1]
theorem leaves0_2 (c : Dev nD) (t : Fin cfg0.N) : (dats m 0 c).leavesExact 2 t = owns (c : Thread nD τ) (ms0_2 t) fullShare (iblk m c 2 t) := by
  rw [leaves_live m c 2 t rfl, after0_2]
theorem leaves0_3 (c : Dev nD) (t : Fin cfg0.N) : (dats m 0 c).leavesExact 3 t = owns (c : Thread nD τ) (ms0_3 t) fullShare (iblk m c 3 t) := by
  rw [leaves_live m c 3 t rfl, after0_3]
theorem leaves0_4 (c : Dev nD) (t : Fin cfg0.N) : (dats m 0 c).leavesExact 4 t = owns (c : Thread nD τ) (ms0_4 t) fullShare (iblk m c 4 t) := by
  rw [leaves_live m c 4 t rfl, after0_4]
theorem leaves0_5 (c : Dev nD) (t : Fin cfg0.N) : (dats m 0 c).leavesExact 5 t = owns (c : Thread nD τ) (ms0_5 t) fullShare (iblk m c 5 t) := by
  rw [leaves_live m c 5 t rfl, after0_5]
theorem leaves0_A_6 (c : Dev nD) (s : Fin 32) : (dats m 0 c).leavesExact 6 (ptA s) = owns (c : Thread nD τ) (ms0_6 (ptA s)) fullShare (out0_A_6 m c s) := by
  rw [leaves_live m c 6 (ptA s) ((by decide +kernel : ∀ s, cfg0.idle 6 (cfg0.grid.coords (ptA s)) = false) s), after0_A_6]
theorem leaves0_B_6 (c : Dev nD) : (dats m 0 c).leavesExact 6 ptB = owns (c : Thread nD τ) (ms0_6 ptB) fullShare (out0_B_6 m c) := by
  rw [leaves_live m c 6 ptB (by decide +kernel), after0_B_6]
theorem leaves0_A_7 (c : Dev nD) (s : Fin 32) : (dats m 0 c).leavesExact 7 (ptA s) = iprop(∃ d, owns (c : Thread nD τ) (ms0_7 (ptA s)) fullShare ((dats m 0 c).before 7 (ptA s) d)) :=
  (dats m 0 c).leavesExact_idle 7 (ptA s) ((by decide +kernel : ∀ s, cfg0.idle 7 (cfg0.grid.coords (ptA s)) = true) s)
    ((by decide +kernel : ∀ s, (cfg0.win 7).flush (ptA s) = false) s)
theorem leaves0_B_7 (c : Dev nD) : (dats m 0 c).leavesExact 7 ptB = owns (c : Thread nD τ) (ms0_7 ptB) fullShare (out0_B_7 m c) := by
  rw [leaves_live m c 7 ptB (by decide +kernel), after0_B_7]
theorem leaves0_A_8 (c : Dev nD) (s : Fin 32) : (dats m 0 c).leavesExact 8 (ptA s) = owns (c : Thread nD τ) (ms0_8 (ptA s)) fullShare (out0_A_8 m c s) := by
  rw [leaves_live m c 8 (ptA s) ((by decide +kernel : ∀ s, cfg0.idle 8 (cfg0.grid.coords (ptA s)) = false) s), after0_A_8]
theorem leaves0_B_8 (c : Dev nD) : (dats m 0 c).leavesExact 8 ptB = owns (c : Thread nD τ) (ms0_8 ptB) fullShare (out0_A_8 m c 31) := by
  rw [leaves_flush m c 8 ptB (by decide +kernel) (by decide +kernel), after0_B_8]
theorem leaves0_A_9 (c : Dev nD) (s : Fin 32) : (dats m 0 c).leavesExact 9 (ptA s) = owns (c : Thread nD τ) (ms0_9 (ptA s)) fullShare (out0_A_9 m c s) := by
  rw [leaves_live m c 9 (ptA s) ((by decide +kernel : ∀ s, cfg0.idle 9 (cfg0.grid.coords (ptA s)) = false) s), after0_A_9]
theorem leaves0_B_9 (c : Dev nD) : (dats m 0 c).leavesExact 9 ptB = owns (c : Thread nD τ) (ms0_9 ptB) fullShare (out0_A_9 m c 31) := by
  rw [leaves_flush m c 9 ptB (by decide +kernel) (by decide +kernel), after0_B_9]
theorem leaves0_A_10 (c : Dev nD) (s : Fin 32) : (dats m 0 c).leavesExact 10 (ptA s) = iprop(∃ d, owns (c : Thread nD τ) (ms0_10 (ptA s)) fullShare ((dats m 0 c).before 10 (ptA s) d)) :=
  (dats m 0 c).leavesExact_idle 10 (ptA s) ((by decide +kernel : ∀ s, cfg0.idle 10 (cfg0.grid.coords (ptA s)) = true) s)
    ((by decide +kernel : ∀ s, (cfg0.win 10).flush (ptA s) = false) s)
theorem leaves0_B_10 (c : Dev nD) : (dats m 0 c).leavesExact 10 ptB = owns (c : Thread nD τ) (ms0_10 ptB) fullShare (out0_B_10 m c) := by
  rw [leaves_live m c 10 ptB (by decide +kernel), after0_B_10]
theorem leaves0_A_11 (c : Dev nD) (s : Fin 32) : (dats m 0 c).leavesExact 11 (ptA s) = owns (c : Thread nD τ) (ms0_11 (ptA s)) fullShare (out0_A_11 m c s) := by
  rw [leaves_live m c 11 (ptA s) ((by decide +kernel : ∀ s, cfg0.idle 11 (cfg0.grid.coords (ptA s)) = false) s), after0_A_11]
theorem leaves0_B_11 (c : Dev nD) : (dats m 0 c).leavesExact 11 ptB = owns (c : Thread nD τ) (ms0_11 ptB) fullShare (out0_A_11 m c 31) := by
  rw [leaves_flush m c 11 ptB (by decide +kernel) (by decide +kernel), after0_B_11]
theorem leaves0_A_12 (c : Dev nD) (s : Fin 32) : (dats m 0 c).leavesExact 12 (ptA s) = owns (c : Thread nD τ) (ms0_12 (ptA s)) fullShare (out0_A_12 m c s) := by
  rw [leaves_live m c 12 (ptA s) ((by decide +kernel : ∀ s, cfg0.idle 12 (cfg0.grid.coords (ptA s)) = false) s), after0_A_12]
theorem leaves0_B_12 (c : Dev nD) : (dats m 0 c).leavesExact 12 ptB = owns (c : Thread nD τ) (ms0_12 ptB) fullShare (out0_B_12 m c) := by
  rw [leaves_live m c 12 ptB (by decide +kernel), after0_B_12]
theorem leaves0_A_13 (c : Dev nD) (s : Fin 32) : (dats m 0 c).leavesExact 13 (ptA s) = owns (c : Thread nD τ) (ms0_13 (ptA s)) fullShare (out0_A_13 m c s) := by
  rw [leaves_live m c 13 (ptA s) ((by decide +kernel : ∀ s, cfg0.idle 13 (cfg0.grid.coords (ptA s)) = false) s), after0_A_13]
theorem leaves0_B_13 (c : Dev nD) : (dats m 0 c).leavesExact 13 ptB = owns (c : Thread nD τ) (ms0_13 ptB) fullShare (out0_B_13 m c) := by
  rw [leaves_live m c 13 ptB (by decide +kernel), after0_B_13]
theorem leaves0_A_14 (c : Dev nD) (s : Fin 32) : (dats m 0 c).leavesExact 14 (ptA s) = owns (c : Thread nD τ) (ms0_14 (ptA s)) fullShare (out0_A_14 m c s) := by
  rw [leaves_live m c 14 (ptA s) ((by decide +kernel : ∀ s, cfg0.idle 14 (cfg0.grid.coords (ptA s)) = false) s), after0_A_14]
theorem leaves0_B_14 (c : Dev nD) : (dats m 0 c).leavesExact 14 ptB = owns (c : Thread nD τ) (ms0_14 ptB) fullShare (out0_A_14 m c 31) := by
  rw [leaves_flush m c 14 ptB (by decide +kernel) (by decide +kernel), after0_B_14]

set_option maxHeartbeats 1600000 in
theorem sound_A (c : Dev nD) (s : Fin 32) :
    bodyPre m c (ptA s) ⊢ wp frame (wpE (defs₀ (F := F)) Variants.none c none) Set.univ (bodyAt0 (ptA s)) (fun _ => bodyPost m c (ptA s)) := by
  unfold bodyPre bodyPost bodyAt0
  simp only [before0_0, before0_1, before0_2, before0_3, before0_4, before0_5]
  rw [show (dats m 0 c).Φ (ptA s).succ = (dats m 0 c).Φ (ptA s).castSucc from rfl,
    show (dats m 0 c).owesAt () (ptA s).succ = (dats m 0 c).owesAt () (ptA s).castSucc from rfl,
    leaves0_0, leaves0_1, leaves0_2, leaves0_3, leaves0_4, leaves0_5, leaves0_A_6, leaves0_A_7, leaves0_A_8, leaves0_A_9, leaves0_A_10, leaves0_A_11, leaves0_A_12, leaves0_A_13, leaves0_A_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((storesAt m c s).2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H8]; · iexists _; iexact H8
  isplitl [H9]; · iexists _; iexact H9
  isplitl [H11]; · iexists _; iexact H11
  isplitl [H12]; · iexists _; iexact H12
  isplitl [H13]; · iexists _; iexact H13
  isplitl [H14]; · iexists _; iexact H14
  iintro ⟨H0, H1, H2, H3, H4, H5, ⟨%e6, H6⟩, ⟨%e8, H8⟩, ⟨%e9, H9⟩, ⟨%e11, H11⟩, ⟨%e12, H12⟩, ⟨%e13, H13⟩, ⟨%e14, H14⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_eq_canon _ _ _ (cover0_A_6 m c s)
  isplitl [H7]; · iexists _; iexact H7
  isplitl [H8]
  · unfold owns; iexists _; isplitr
    swap; · iexact H8
    ipureintro; exact View.read_writes_eq_canon _ _ _ (cover0_A_8 m c s)
  isplitl [H9]
  · unfold owns; iexists _; isplitr
    swap; · iexact H9
    ipureintro; exact View.read_writes_eq_canon _ _ _ (cover0_A_9 m c s)
  isplitl [H10]; · iexists _; iexact H10
  isplitl [H11]
  · unfold owns; iexists _; isplitr
    swap; · iexact H11
    ipureintro; exact View.read_writes_eq_canon _ _ _ (cover0_A_11 m c s)
  isplitl [H12]
  · unfold owns; iexists _; isplitr
    swap; · iexact H12
    ipureintro; exact View.read_writes_eq_canon _ _ _ (cover0_A_12 m c s)
  isplitl [H13]
  · unfold owns; iexists _; isplitr
    swap; · iexact H13
    ipureintro; exact View.read_writes_eq_canon _ _ _ (cover0_A_13 m c s)
  unfold owns; iexists _; isplitr
  swap; · iexact H14
  ipureintro; exact View.read_writes_eq_canon _ _ _ (cover0_A_14 m c s)

set_option maxHeartbeats 1600000 in
theorem sound_B (c : Dev nD) :
    bodyPre m c ptB ⊢ wp frame (wpE (defs₀ (F := F)) Variants.none c none) Set.univ (bodyAt0 ptB) (fun _ => bodyPost m c ptB) := by
  unfold bodyPre bodyPost bodyAt0
  simp only [before0_0, before0_1, before0_2, before0_3, before0_4, before0_5, before0_8, before0_9, before0_11, before0_14]
  rw [show (dats m 0 c).Φ ptB.succ = (dats m 0 c).Φ ptB.castSucc from rfl,
    show (dats m 0 c).owesAt () ptB.succ = (dats m 0 c).owesAt () ptB.castSucc from rfl,
    leaves0_0, leaves0_1, leaves0_2, leaves0_3, leaves0_4, leaves0_5, leaves0_B_6, leaves0_B_7, leaves0_B_8, leaves0_B_9, leaves0_B_10, leaves0_B_11, leaves0_B_12, leaves0_B_13, leaves0_B_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((storesLast m c).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H10]; · iexists _; iexact H10
  isplitl [H12]; · iexists _; iexact H12
  isplitl [H13]; · iexists _; iexact H13
  iintro ⟨H0, H1, H2, H3, H4, H5, ⟨%e6, H6⟩, ⟨%e7, H7⟩, ⟨%e10, H10⟩, ⟨%e12, H12⟩, ⟨%e13, H13⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_eq_canon _ _ _ (cover0_B_6 m c)
  isplitl [H7]
  · unfold owns; iexists _; isplitr
    swap; · iexact H7
    ipureintro; exact View.read_writes_eq_canon _ _ _ (cover0_B_7 m c)
  isplitl [H8]; · iexact H8
  isplitl [H9]; · iexact H9
  isplitl [H10]
  · unfold owns; iexists _; isplitr
    swap; · iexact H10
    ipureintro; exact View.read_writes_eq_canon _ _ _ (cover0_B_10 m c)
  isplitl [H11]; · iexact H11
  isplitl [H12]
  · unfold owns; iexists _; isplitr
    swap; · iexact H12
    ipureintro; exact View.read_writes_eq_canon _ _ _ (cover0_B_12 m c)
  isplitl [H13]
  · unfold owns; iexists _; isplitr
    swap; · iexact H13
    ipureintro; exact View.read_writes_eq_canon _ _ _ (cover0_B_13 m c)
  iexact H14

theorem sound_body (c : Dev nD) (t : Fin cfg0.N) :
    bodyPre m c t ⊢ wp frame (wpE (defs₀ (F := F)) Variants.none c none) Set.univ (bodyAt0 t) (fun _ => bodyPost m c t) := by
  rcases pt_cases t with ⟨s, rfl⟩ | rfl
  · exact sound_A m c s
  · exact sound_B m c

theorem defs₀_row (t : Fin cfg0.N) :
    defs₀ (F := F) .tc cfg0.body (cfg0.bodyArgs t (cfg0.slots t)) = bodyAt0 t := by
  unfold defs₀; rw [Defs.onTc_tc]

/-- The body meets the pipeline's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run of the whole program: the region, then the host lines over what it leaves; every counter ends at zero. -/
theorem run_full : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (fun c => (body_obligation m c).loose) (fun c => (dats m 0 c).share_full fun _ => rfl)
    (fun _ _ => rfl) (V0 m) [hostOps1] sfx_sub sfx_fresh sfx_keeps (hmain m Variants.none) (A_eq m) (fun _ _ => rfl)

/-- At the compiled mesh: every execution ends with the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) ((θ_run defs _ _).mono (fun _ h => h.1) (run_full m ρ)))
    ((θ_run defs _ _).mono (fun _ h => h.2) (run_full m ρ))

end Cert.Kernel2Ideal.Gen

end
-- ==== Proof.ProjTail.lean ====
module

public import proofs.«01_k».proof.Proof.ProjHost
public import proofs.«01_k».proof.Proof.ProjLayer
public import proofs.«01_k».proof.Proof.ProjFrame

@[expose] public section

set_option maxRecDepth 16384

noncomputable section

namespace Cert.Kernel2Ideal.Gen

open Idealize.ShloMosaic Idealize.ShloMosaic.TcCoe Cert.Layer

section
variable (σ : Valuation τ sig (Elt Ideal))

theorem tail_26 (b : Fin 128) (t : Fin 4) (o : Fin 16) (n : Fin 16896) (hn : n.val = 16384 + b.val * 4 + t.val) (l : Fin 128) (hl : l.val = o.val) :
    (StableHlo.after hostOps1 σ (Proc.devRef .tc main_v26) : Vec Ideal S128x4x16 .f32) (ix3 b t o)
      = (σ (Proc.devRef .tc main_v23_7) : Vec Ideal S16896x128 .f32) (ix2 n l) := by
  entry_read
  pointwise
  congr 2 <;> exact Fin.ext (by simp only; omega)

theorem tail_30 (b : Fin 8) (t : Fin 2048) (o : Fin 16) (j : Fin 64) (d : Fin 1024) (hd : d.val = 64 * o.val + j.val) :
    (StableHlo.after hostOps1 σ (Proc.devRef .tc main_v30) : Vec Ideal S8x2048x16x64 .f32) (ix4 b t o j)
      = (σ (Proc.devRef .tc main_v23_2) : Vec Ideal S8x1024x2048 .f32) (ix3 b d t) := by
  entry_read
  pointwise
  congr 2 <;> exact Fin.ext (by simp only; omega)

theorem tail_32 (b : Fin 8) (t : Fin 2048) (o : Fin 16) (j : Fin 64) (d : Fin 1024) (hd : d.val = 64 * o.val + j.val) :
    (StableHlo.after hostOps1 σ (Proc.devRef .tc main_v32) : Vec Ideal S8x2048x16x64 .f32) (ix4 b t o j)
      = (σ (Proc.devRef .tc main_v23_5) : Vec Ideal S8x1024x2048 .f32) (ix3 b d t) := by
  entry_read
  pointwise
  congr 2 <;> exact Fin.ext (by simp only; omega)

theorem tail_34 (b : Fin 8) (t : Fin 2048) (o : Fin 16) (l : Fin 128) (hl : l.val = o.val) :
    (StableHlo.after hostOps1 σ (Proc.devRef .tc main_v34) : Vec Ideal S8x2048x16 .f32) (ix3 b t o)
      = (σ (Proc.devRef .tc main_v23_8) : Vec Ideal S8x128x2048 .f32) (ix3 b l t) := by
  entry_read
  pointwise
  congr 2 <;> exact Fin.ext (by simp only; omega)

theorem tail_35 (b : Fin 128) (t : Fin 4) (o : Fin 16) (j : Fin 64) (r : Fin 512) (hr : r.val = b.val * 4 + t.val) (d : Fin 1024) (hd : d.val = 64 * o.val + j.val) :
    (StableHlo.after hostOps1 σ (Proc.devRef .tc main_v35) : Vec Ideal S128x4x16x64 .f32) (ix4 b t o j)
      = (σ (Proc.devRef .tc main_v23_1) : Vec Ideal S512x1024 .f32) (ix2 r d) := by
  entry_read
  pointwise
  congr 2 <;> exact Fin.ext (by simp only; omega)

theorem tail_36 (b : Fin 128) (t : Fin 4) (o : Fin 16) (j : Fin 64) (r : Fin 512) (hr : r.val = b.val * 4 + t.val) (d : Fin 1024) (hd : d.val = 64 * o.val + j.val) :
    (StableHlo.after hostOps1 σ (Proc.devRef .tc main_v36) : Vec Ideal S128x4x16x64 .f32) (ix4 b t o j)
      = (σ (Proc.devRef .tc main_v23_4) : Vec Ideal S512x1024 .f32) (ix2 r d) := by
  entry_read
  pointwise
  congr 2 <;> exact Fin.ext (by simp only; omega)

end

variable (m : (ℓ : Loc nD τ sig) → Buf (Elt Ideal) ℓ) (c : Dev nD)

/-- The kernel's arguments, entry by entry. -/
def pargs : ProjArgs where
  x := fun n d => (m ((c : Thread nD τ).loc main_arg0) : Vec Ideal S16896x1024 .f32) (ix2 n d)
  g := fun d => (m ((c : Thread nD τ).loc main_arg1) : Vec Ideal S1024 .f32) (ix1 d)
  w := fun k e => (m ((c : Thread nD τ).loc main_arg2) : Vec Ideal S1024x3088 .f32) (ix2 k e)
  b := fun o => (m ((c : Thread nD τ).loc main_arg3) : Vec Ideal S16 .f32) (ix1 o)
  kn := fun j => (m ((c : Thread nD τ).loc main_arg5) : Vec Ideal S64 .f32) (ix1 j)

theorem hRow_eq (n : Fin 16896) : hRow m c n = normRow ((pargs m c).x n) (pargs m c).g := by
  have h0 : ∀ d, aX m c (ix2 n d) = (pargs m c).x n d := fun d => congrFun (V_main_arg0 m c) _
  have h1 : ∀ d, aG m c (ix2 0 d) = (pargs m c).g d := fun d => rowgain_entry (fun b => m (c, b)) d
  unfold hRow
  simp only [h0, h1]

theorem yRow_eq (n : Fin 16896) (j : Fin 3200) (e : Fin 3088) (h : j.val = e.val) : yRow m c n j = (pargs m c).y n e := by
  have h0 : ∀ k, aW m c (ix2 k j) = (pargs m c).w k e := fun k => weight_entry (fun b => m (c, b)) k j e h
  unfold yRow ProjArgs.y proj
  simp only [h0, hRow_eq]

theorem valRow_eq (n : Fin 16896) (o : Fin 16) (j : Fin 64) (d : Fin 1024) (hd : d.val = 64 * o.val + j.val) :
    valRow m c n d = (pargs m c).val n o j :=
  yRow_eq m c n _ _ (by show 2048 + d.val = 2048 + 64 * o.val + j.val; omega)

theorem logRow_eq (n : Fin 16896) (o : Fin 16) (l : Fin 128) (hl : l.val = o.val) : logRow m c n l = (pargs m c).gate n o := by
  have h0 : aB m c (ix2 0 l) = (pargs m c).b o := bias_entry (fun b => m (c, b)) l o hl
  unfold logRow ProjArgs.gate
  rw [logSig_eq, h0, yRow_eq m c n _ ⟨3072 + o.val, by omega⟩ (by show 3072 + l.val = 3072 + o.val; omega)]

theorem keyRow_eq (hA : (pargs m c).Finite) (n : Fin 16896) (o : Fin 16) (j : Fin 64) (d : Fin 1024) (hd : d.val = 64 * o.val + j.val) :
    keyRow m c n d = (pargs m c).key n o j := by
  unfold keyRow keyAt ProjArgs.key
  refine headNorm_eq _ _ _ (fun i => ?_) (fun i j => table_entry (fun b => m (c, b)) i j) _ _ _ j (by simp only; omega) (fun i => ?_) ?_
  · rw [yRow_eq m c n _ ⟨1024 + 256 * (d.val / 256) + i.val, by omega⟩ rfl]
    exact ProjArgs.y_real hA n _
  · exact (yRow_eq m c n _ _ (by
      show 1024 + 256 * (d.val / 256) + (64 * (d.val % 256 / 64) + i.val) = 1024 + 64 * o.val + i.val
      omega)).symm
  · exact (gain_entry (fun b => m (c, b)) _ d j (by show 1024 + 256 * (d.val / 256) + d.val % 256 = 1024 + d.val; omega) (by omega)).symm

/-- The contents at the region's exit. -/
abbrev W2 : Valuation τ sig (Elt Ideal) := Pipeline.withArrays spec0 c (V0 m c) fun w => (dats m 0 c).arrAt w cfg0.N
theorem W2_arr (w : Fin cfg0.W) : W2 m c (Proc.devRef .tc (Pipeline.arrRef spec0 w)) = (dats m 0 c).arrAt w cfg0.N :=
  Pipeline.withArrays_arr spec0 launch0.win.arr_inj c _ _ w

abbrev fin (b : Ref sig .tc) : Buf (Elt Ideal) ((c.tc : Thread nD τ).loc b) := Pipeline.afterTail₀ cfgs (dats m) 0 (V0 m) [hostOps1] c b

theorem fin_26 (b : Fin 128) (t : Fin 4) (o : Fin 16) :
    (fin m c main_v26 : Vec Ideal S128x4x16 .f32) (ix3 b t o) = (pargs m c).gate (late ⟨b.val * 4 + t.val, by omega⟩) o := by
  refine (tail_26 (W2 m c) b t o (late ⟨b.val * 4 + t.val, by omega⟩) (by show 16384 + (b.val * 4 + t.val) = 16384 + b.val * 4 + t.val; omega) ⟨o.val, by omega⟩ rfl).trans ?_
  refine (congrFun ((W2_arr m c 13).trans (arr0_13 m c)) _).trans ?_
  exact logRow_eq m c _ o _ rfl

theorem fin_30 (hA : (pargs m c).Finite) (b : Fin 8) (t : Fin 2048) (o : Fin 16) (j : Fin 64) :
    (fin m c main_v30 : Vec Ideal S8x2048x16x64 .f32) (ix4 b t o j) = (pargs m c).key (place b t) o j := by
  refine (tail_30 (W2 m c) b t o j ⟨64 * o.val + j.val, by omega⟩ rfl).trans ?_
  refine (congrFun ((W2_arr m c 8).trans (arr0_8 m c)) _).trans ?_
  exact keyRow_eq m c hA _ o j _ rfl

theorem fin_32 (b : Fin 8) (t : Fin 2048) (o : Fin 16) (j : Fin 64) :
    (fin m c main_v32 : Vec Ideal S8x2048x16x64 .f32) (ix4 b t o j) = (pargs m c).val (place b t) o j := by
  refine (tail_32 (W2 m c) b t o j ⟨64 * o.val + j.val, by omega⟩ rfl).trans ?_
  refine (congrFun ((W2_arr m c 11).trans (arr0_11 m c)) _).trans ?_
  exact valRow_eq m c _ o j _ rfl

theorem fin_34 (b : Fin 8) (t : Fin 2048) (o : Fin 16) :
    (fin m c main_v34 : Vec Ideal S8x2048x16 .f32) (ix3 b t o) = (pargs m c).gate (place b t) o := by
  refine (tail_34 (W2 m c) b t o ⟨o.val, by omega⟩ rfl).trans ?_
  refine (congrFun ((W2_arr m c 14).trans (arr0_14 m c)) _).trans ?_
  exact logRow_eq m c _ o _ rfl

theorem fin_35 (hA : (pargs m c).Finite) (b : Fin 128) (t : Fin 4) (o : Fin 16) (j : Fin 64) :
    (fin m c main_v35 : Vec Ideal S128x4x16x64 .f32) (ix4 b t o j) = (pargs m c).key (late ⟨b.val * 4 + t.val, by omega⟩) o j := by
  refine (tail_35 (W2 m c) b t o j ⟨b.val * 4 + t.val, by omega⟩ rfl ⟨64 * o.val + j.val, by omega⟩ rfl).trans ?_
  refine (congrFun ((W2_arr m c 7).trans (arr0_7 m c)) _).trans ?_
  exact keyRow_eq m c hA _ o j _ rfl

theorem fin_36 (b : Fin 128) (t : Fin 4) (o : Fin 16) (j : Fin 64) :
    (fin m c main_v36 : Vec Ideal S128x4x16x64 .f32) (ix4 b t o j) = (pargs m c).val (late ⟨b.val * 4 + t.val, by omega⟩) o j := by
  refine (tail_36 (W2 m c) b t o j ⟨b.val * 4 + t.val, by omega⟩ rfl ⟨64 * o.val + j.val, by omega⟩ rfl).trans ?_
  refine (congrFun ((W2_arr m c 10).trans (arr0_10 m c)) _).trans ?_
  exact valRow_eq m c _ o j _ rfl

/-- Every run of the kernel's program ends with the result buffers at what the host operations after the region leave,
    the arguments as launched. -/
theorem kernel_run (ρ : Dev nD → PrngReg) : θ_run defs (onTc (τ := τ) (main (F := Ideal))) ⟨m, fun _ => 0, ρ⟩ (fun r => ∀ c : Dev nD,
      r.2.mem ((c.tc : Thread nD τ).loc main_v30) = fin m c main_v30
      ∧ r.2.mem ((c.tc : Thread nD τ).loc main_v32) = fin m c main_v32
      ∧ r.2.mem ((c.tc : Thread nD τ).loc main_v34) = fin m c main_v34
      ∧ r.2.mem ((c.tc : Thread nD τ).loc main_v35) = fin m c main_v35
      ∧ r.2.mem ((c.tc : Thread nD τ).loc main_v36) = fin m c main_v36
      ∧ r.2.mem ((c.tc : Thread nD τ).loc main_v26) = fin m c main_v26
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    have ha := h.1.1 c
    ⟨(h.2.1 c).2 main_v30 (Pipeline.mem_restRefs_of main_v30 (by decide) (by decide)),
      (h.2.1 c).2 main_v32 (Pipeline.mem_restRefs_of main_v32 (by decide) (by decide)),
      (h.2.1 c).2 main_v34 (Pipeline.mem_restRefs_of main_v34 (by decide) (by decide)),
      (h.2.1 c).2 main_v35 (Pipeline.mem_restRefs_of main_v35 (by decide) (by decide)),
      (h.2.1 c).2 main_v36 (Pipeline.mem_restRefs_of main_v36 (by decide) (by decide)),
      (h.2.1 c).2 main_v26 (Pipeline.mem_restRefs_of main_v26 (by decide) (by decide)), ha⟩)
    (θ_run_and (frame m ρ) (run_full m ρ))
end Cert.Kernel2Ideal.Gen
end
-- ==== Proof.ProjRef.lean ====
module

public import proofs.«01_k».proof.Proof.Gen.Reference2Ideal.Read
public import proofs.«01_k».proof.Proof.ProjLayer
public import Idealize.ShloMosaic.Lib.Pipeline.ValueKit

@[expose] public section

set_option maxRecDepth 16384

noncomputable section

namespace Cert.Reference2Ideal.Read

open Cert.Reference2Ideal Cert.Reference2Ideal.Gen Idealize.ShloMosaic Idealize.ShloMosaic.TcCoe Cert.Layer

variable (x0 : (⟨S16896x1024, .f32⟩ : BufTy).Contents (Elt Ideal)) (x1 : (⟨S1024, .f32⟩ : BufTy).Contents (Elt Ideal))
  (x2 : (⟨S1024x3088, .f32⟩ : BufTy).Contents (Elt Ideal)) (x3 : (⟨S16, .f32⟩ : BufTy).Contents (Elt Ideal)) (x5 : (⟨S64, .f32⟩ : BufTy).Contents (Elt Ideal))

/-- The reference's arguments, entry by entry. -/
def rargs : ProjArgs where
  x := fun n d => x0 (ix2 n d)
  g := fun d => x1 (ix1 d)
  w := fun k e => x2 (ix2 k e)
  b := fun o => x3 (ix1 o)
  kn := fun j => x5 (ix1 j)

theorem prompt_x (b : Fin 8) (t : Fin 2048) (d : Fin 1024) : val_main_v1 x0 (ix3 b t d) = x0 (ix2 ⟨b.val * 2048 + t.val, by omega⟩ d) := by
  pointwise [val_main_v0, val_main_v1]

theorem prompt_h (b : Fin 8) (t : Fin 2048) (d : Fin 1024) :
    val_main_v16 x0 x1 (ix3 b t d) = normRow (fun d => x0 (ix2 ⟨b.val * 2048 + t.val, by omega⟩ d)) (fun d => x1 (ix1 d)) d := by
  pointwise [val_main_v4, val_main_v5, val_main_v6, val_main_v7, val_main_v8, val_main_v9, val_main_v10, val_main_v11, val_main_v12, val_main_v13, val_main_v14, val_main_v15, val_main_v16, val_main_cst, val_main_cst_0, val_main_cst_1, prompt_x, normRow]

theorem prompt_y (b : Fin 8) (t : Fin 2048) (e : Fin 3088) :
    val_main_v17 x0 x1 x2 (ix3 b t e) = (rargs x0 x1 x2 x3 x5).y ⟨b.val * 2048 + t.val, by omega⟩ e := by
  pointwise [val_main_v17, prompt_h, ProjArgs.y, proj]
  rfl

theorem prompt_k (b : Fin 8) (t : Fin 2048) (o : Fin 16) (j : Fin 64) :
    val_main_v22 x0 x1 x2 (ix4 b t o j) = (rargs x0 x1 x2 x3 x5).y ⟨b.val * 2048 + t.val, by omega⟩ ⟨1024 + 64 * o.val + j.val, by omega⟩ := by
  pointwise [val_main_v22, val_main_v19]
  refine (congrArg (val_main_v17 x0 x1 x2) (congrArg (ix3 b t) (Fin.ext ?_))).trans (prompt_y x0 x1 x2 x3 x5 b t ⟨1024 + 64 * o.val + j.val, by omega⟩)
  first | done | omega | (simp only; omega)

theorem prompt_key (b : Fin 8) (t : Fin 2048) (o : Fin 16) (j : Fin 64) :
    val_main_v35 x0 x1 x2 x5 (ix4 b t o j) = (rargs x0 x1 x2 x3 x5).key ⟨b.val * 2048 + t.val, by omega⟩ o j := by
  pointwise [val_main_v23, val_main_v24, val_main_v25, val_main_v26, val_main_v27, val_main_v28, val_main_v29, val_main_v30, val_main_v31, val_main_v32, val_main_v33, val_main_v34, val_main_v35, val_main_cst_2, val_main_cst_3, val_main_cst_4, prompt_k x0 x1 x2 x3 x5, ProjArgs.key, headRow]
  rfl

theorem prompt_val (b : Fin 8) (t : Fin 2048) (o : Fin 16) (j : Fin 64) :
    val_main_v36 x0 x1 x2 (ix4 b t o j) = (rargs x0 x1 x2 x3 x5).val ⟨b.val * 2048 + t.val, by omega⟩ o j := by
  pointwise [val_main_v36, val_main_v20]
  refine (congrArg (val_main_v17 x0 x1 x2) (congrArg (ix3 b t) (Fin.ext ?_))).trans (prompt_y x0 x1 x2 x3 x5 b t ⟨2048 + 64 * o.val + j.val, by omega⟩)
  first | done | omega | (simp only; omega)

theorem prompt_f (b : Fin 8) (t : Fin 2048) (o : Fin 16) :
    val_main_v39 x0 x1 x2 x3 (ix3 b t o) = (rargs x0 x1 x2 x3 x5).y ⟨b.val * 2048 + t.val, by omega⟩ ⟨3072 + o.val, by omega⟩ + x3 (ix1 o) := by
  pointwise [val_main_v39, val_main_v38, val_main_v37, val_main_v21]
  refine congrArg (· + x3 (ix1 o)) ?_
  refine (congrArg (val_main_v17 x0 x1 x2) (congrArg (ix3 b t) (Fin.ext ?_))).trans (prompt_y x0 x1 x2 x3 x5 b t ⟨3072 + o.val, by omega⟩)
  first | done | omega | (simp only; omega)

theorem prompt_gate (b : Fin 8) (t : Fin 2048) (o : Fin 16) :
    val_main_v40 x0 x1 x2 x3 (ix3 b t o) = (rargs x0 x1 x2 x3 x5).gate ⟨b.val * 2048 + t.val, by omega⟩ o := by
  unfold ProjArgs.gate
  have hf := prompt_f x0 x1 x2 x3 x5 b t o
  pointwise [val_main_v40, val_main_call0_v1, val_main_call0_call0_v0, val_main_call0_call0_v1, val_main_call0_call0_v2, val_main_call0_call0_v3, val_main_call0_call0_v4, val_main_call0_call0_v5, val_main_call0_call0_v6, val_main_call0_call0_v7, val_main_call0_call0_v8, val_main_call0_call0_v9, val_main_call0_call0_v10, val_main_call0_call0_v11, val_main_call0_call0_cst, val_main_call0_v0, hf, negSoftplus]
  rw [if_neg (fun h => h rfl)]
  rfl

theorem sampled_x (b : Fin 128) (t : Fin 4) (d : Fin 1024) : val_main_v3 x0 (ix3 b t d) = x0 (ix2 ⟨16384 + (b.val * 4 + t.val), by omega⟩ d) := by
  pointwise [val_main_v2, val_main_v3]

theorem sampled_h (b : Fin 128) (t : Fin 4) (d : Fin 1024) :
    val_main_v53 x0 x1 (ix3 b t d) = normRow (fun d => x0 (ix2 ⟨16384 + (b.val * 4 + t.val), by omega⟩ d)) (fun d => x1 (ix1 d)) d := by
  pointwise [val_main_v41, val_main_v42, val_main_v43, val_main_v44, val_main_v45, val_main_v46, val_main_v47, val_main_v48, val_main_v49, val_main_v50, val_main_v51, val_main_v52, val_main_v53, val_main_cst_5, val_main_cst_6, val_main_cst_7, sampled_x, normRow]

theorem sampled_y (b : Fin 128) (t : Fin 4) (e : Fin 3088) :
    val_main_v54 x0 x1 x2 (ix3 b t e) = (rargs x0 x1 x2 x3 x5).y ⟨16384 + (b.val * 4 + t.val), by omega⟩ e := by
  pointwise [val_main_v54, sampled_h, ProjArgs.y, proj]
  rfl

theorem sampled_k (b : Fin 128) (t : Fin 4) (o : Fin 16) (j : Fin 64) :
    val_main_v59 x0 x1 x2 (ix4 b t o j) = (rargs x0 x1 x2 x3 x5).y ⟨16384 + (b.val * 4 + t.val), by omega⟩ ⟨1024 + 64 * o.val + j.val, by omega⟩ := by
  pointwise [val_main_v59, val_main_v56]
  refine (congrArg (val_main_v54 x0 x1 x2) (congrArg (ix3 b t) (Fin.ext ?_))).trans (sampled_y x0 x1 x2 x3 x5 b t ⟨1024 + 64 * o.val + j.val, by omega⟩)
  first | done | omega | (simp only; omega)

theorem sampled_key (b : Fin 128) (t : Fin 4) (o : Fin 16) (j : Fin 64) :
    val_main_v72 x0 x1 x2 x5 (ix4 b t o j) = (rargs x0 x1 x2 x3 x5).key ⟨16384 + (b.val * 4 + t.val), by omega⟩ o j := by
  pointwise [val_main_v60, val_main_v61, val_main_v62, val_main_v63, val_main_v64, val_main_v65, val_main_v66, val_main_v67, val_main_v68, val_main_v69, val_main_v70, val_main_v71, val_main_v72, val_main_cst_8, val_main_cst_9, val_main_cst_10, sampled_k x0 x1 x2 x3 x5, ProjArgs.key, headRow]
  rfl

theorem sampled_val (b : Fin 128) (t : Fin 4) (o : Fin 16) (j : Fin 64) :
    val_main_v73 x0 x1 x2 (ix4 b t o j) = (rargs x0 x1 x2 x3 x5).val ⟨16384 + (b.val * 4 + t.val), by omega⟩ o j := by
  pointwise [val_main_v73, val_main_v57]
  refine (congrArg (val_main_v54 x0 x1 x2) (congrArg (ix3 b t) (Fin.ext ?_))).trans (sampled_y x0 x1 x2 x3 x5 b t ⟨2048 + 64 * o.val + j.val, by omega⟩)
  first | done | omega | (simp only; omega)

theorem sampled_f (b : Fin 128) (t : Fin 4) (o : Fin 16) :
    val_main_v76 x0 x1 x2 x3 (ix3 b t o) = (rargs x0 x1 x2 x3 x5).y ⟨16384 + (b.val * 4 + t.val), by omega⟩ ⟨3072 + o.val, by omega⟩ + x3 (ix1 o) := by
  pointwise [val_main_v76, val_main_v75, val_main_v74, val_main_v58]
  refine congrArg (· + x3 (ix1 o)) ?_
  refine (congrArg (val_main_v54 x0 x1 x2) (congrArg (ix3 b t) (Fin.ext ?_))).trans (sampled_y x0 x1 x2 x3 x5 b t ⟨3072 + o.val, by omega⟩)
  first | done | omega | (simp only; omega)

theorem sampled_gate (b : Fin 128) (t : Fin 4) (o : Fin 16) :
    val_main_v77 x0 x1 x2 x3 (ix3 b t o) = (rargs x0 x1 x2 x3 x5).gate ⟨16384 + (b.val * 4 + t.val), by omega⟩ o := by
  unfold ProjArgs.gate
  have hf := sampled_f x0 x1 x2 x3 x5 b t o
  pointwise [val_main_v77, val_main_call1_v1, val_main_call1_call0_v0, val_main_call1_call0_v1, val_main_call1_call0_v2, val_main_call1_call0_v3, val_main_call1_call0_v4, val_main_call1_call0_v5, val_main_call1_call0_v6, val_main_call1_call0_v7, val_main_call1_call0_v8, val_main_call1_call0_v9, val_main_call1_call0_v10, val_main_call1_call0_v11, val_main_call1_call0_cst, val_main_call1_v0, hf, negSoftplus]
  rw [if_neg (fun h => h rfl)]
  rfl

end Cert.Reference2Ideal.Read
end
-- ==== Proof.ProjJoin.lean ====
module

public import proofs.«01_k».proof.Defs
public import proofs.«01_k».proof.Proof.Join
public import proofs.«01_k».proof.Proof.Gen.Kernel2
public import proofs.«01_k».proof.Proof.ProjTail
public import proofs.«01_k».proof.Proof.ProjRef
public import Idealize.ShloMosaic.Lib.Pipeline.Regions

@[expose] public section

set_option maxRecDepth 16384

noncomputable section

namespace Cert.Proof

open Idealize.ShloMosaic Idealize.ShloMosaic.TcCoe Idealize.SL.Sem Cert.Layer

section
variable [Cert.Pre_finite_weights.Facts]

theorem pargs_finite (m : (ℓ : Loc Cert.Kernel2Ideal.nD Cert.Kernel2Ideal.τ Cert.Kernel2Ideal.sig) → Buf (Elt Ideal) ℓ)
    (h : Pre_Kernel2Ideal_finite_weights m) (c : Dev Cert.Kernel2Ideal.nD) : (Cert.Kernel2Ideal.Gen.pargs m c).Finite := by
  obtain ⟨h1, h2⟩ := h c
  exact { g := fun i => real_of_abs _ (congrFun h1 (ix1 i)), w := fun i j => real_of_abs _ (congrFun h2 (ix2 i j)) }

end

theorem ref2_frame : quiescent_Reference2Ideal (hReference2Ideal := Cert.Reference2Ideal.Gen.facts) :=
  fun m g _ => (θ_run _ _ _).mono (fun _ h => ⟨fun c => (h c).2.2.2.2.2.2, sem_eq_zero_of_no_sems (by decide) _⟩)
    (Cert.Reference2Ideal.Value.run (F := Ideal) m g)

theorem ref2_frame_finite [hp : Cert.Pre_finite_weights.Facts] :
    quiescent_Reference2Ideal_pre_finite_weights (hReference2Ideal := Cert.Reference2Ideal.Gen.facts) (hPre_finite_weights := hp) :=
  fun m g _ => (θ_run _ _ _).mono (fun _ h => ⟨fun c => (h c).2.2.2.2.2.2, sem_eq_zero_of_no_sems (by decide) _⟩)
    (Cert.Reference2Ideal.Value.run (F := Ideal) m g)

/-- What the frame of the kernel of floats says, of the idealized kernel's text. -/
def textFrame [hKernel2Ideal : Cert.Kernel2Ideal.Facts] : Prop :=
  ∀ (m : (ℓ : Loc Cert.Kernel2Ideal.nD Cert.Kernel2Ideal.τ Cert.Kernel2Ideal.sig) → Buf (Elt Bits) ℓ) (g : Dev Cert.Kernel2Ideal.nD → PrngReg), True →
    θ_run (Cert.Kernel2Ideal.defs (F := Bits)) (onTc (τ := Cert.Kernel2Ideal.τ) (Cert.Kernel2Ideal.main (F := Bits))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

/-- The two programs have the same text. -/
theorem same_text : textFrame (hKernel2Ideal := Cert.Kernel2Ideal.Gen.facts) = quiescent_Kernel2 (hKernel2 := Cert.Kernel2.Gen.facts) := by chain_rfl

/-- The kernel of floats has the text of the idealized one. -/
theorem kernel2_frame : quiescent_Kernel2 (hKernel2 := Cert.Kernel2.Gen.facts) :=
  same_text ▸ fun m g _ => Cert.Kernel2Ideal.Gen.frame (F := Bits) m g

theorem value2 [hp : Cert.Pre_finite_weights.Facts] :
    algebraic_Kernel2Ideal_Reference2Ideal_pre_finite_weights (hKernel2Ideal := Cert.Kernel2Ideal.Gen.facts) (hReference2Ideal := Cert.Reference2Ideal.Gen.facts) (hPre_finite_weights := hp) := by
  intro m g m' g' hpre hagree
  have hargs : ∀ c : Dev Cert.Kernel2Ideal.nD, Cert.Reference2Ideal.Read.rargs (m' ((c.tc : Thread Cert.Reference2Ideal.nD Cert.Reference2Ideal.τ).loc Cert.Reference2Ideal.main_arg0))
      (m' ((c.tc : Thread Cert.Reference2Ideal.nD Cert.Reference2Ideal.τ).loc Cert.Reference2Ideal.main_arg1))
      (m' ((c.tc : Thread Cert.Reference2Ideal.nD Cert.Reference2Ideal.τ).loc Cert.Reference2Ideal.main_arg2))
      (m' ((c.tc : Thread Cert.Reference2Ideal.nD Cert.Reference2Ideal.τ).loc Cert.Reference2Ideal.main_arg3))
      (m' ((c.tc : Thread Cert.Reference2Ideal.nD Cert.Reference2Ideal.τ).loc Cert.Reference2Ideal.main_arg5)) = Cert.Kernel2Ideal.Gen.pargs m c := by
    intro c
    obtain ⟨h0, h1, h2, h3, _, h5⟩ := hagree c
    rw [h0, h1, h2, h3, h5]
    rfl
  refine ⟨fun c => Cert.Kernel2Ideal.Gen.fin m c Cert.Kernel2Ideal.main_v30, fun c => Cert.Kernel2Ideal.Gen.fin m c Cert.Kernel2Ideal.main_v32,
    fun c => Cert.Kernel2Ideal.Gen.fin m c Cert.Kernel2Ideal.main_v34, fun c => Cert.Kernel2Ideal.Gen.fin m c Cert.Kernel2Ideal.main_v35,
    fun c => Cert.Kernel2Ideal.Gen.fin m c Cert.Kernel2Ideal.main_v36, fun c => Cert.Kernel2Ideal.Gen.fin m c Cert.Kernel2Ideal.main_v26,
    Cert.Kernel2Ideal.Gen.kernel_run m g, ?_⟩
  refine (θ_run _ _ _).mono (fun r h c => ?_) (Cert.Reference2Ideal.Value.run (F := Ideal) m' g')
  have hA := pargs_finite m hpre c
  have ha := hargs c
  obtain ⟨e0, e1, e2, e3, e4, e5, hr⟩ := h c
  refine ⟨(e0.trans (Cert.Reference2Ideal.Read.val_main_v35_eq m' c)).trans (funext fun i => ?_),
    (e1.trans (Cert.Reference2Ideal.Read.val_main_v36_eq (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)))).trans (funext fun i => ?_),
    (e2.trans (Cert.Reference2Ideal.Read.val_main_v40_eq m' c)).trans (funext fun i => ?_),
    (e3.trans (Cert.Reference2Ideal.Read.val_main_v72_eq m' c)).trans (funext fun i => ?_),
    (e4.trans (Cert.Reference2Ideal.Read.val_main_v73_eq (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)))).trans (funext fun i => ?_),
    (e5.trans (Cert.Reference2Ideal.Read.val_main_v77_eq m' c)).trans (funext fun i => ?_), hr⟩
  · rw [eq_ix4 i]
    exact (Cert.Reference2Ideal.Read.prompt_key _ _ _ _ _ (i 0) (i 1) (i 2) (i 3)).trans ((congrArg (fun A => ProjArgs.key A _ _ _) ha).trans
      (Cert.Kernel2Ideal.Gen.fin_30 m c hA (i 0) (i 1) (i 2) (i 3)).symm)
  · rw [eq_ix4 i]
    exact (Cert.Reference2Ideal.Read.prompt_val _ _ _ _ _ (i 0) (i 1) (i 2) (i 3)).trans ((congrArg (fun A => ProjArgs.val A _ _ _) ha).trans
      (Cert.Kernel2Ideal.Gen.fin_32 m c (i 0) (i 1) (i 2) (i 3)).symm)
  · rw [eq_ix3 i]
    exact (Cert.Reference2Ideal.Read.prompt_gate _ _ _ _ _ (i 0) (i 1) (i 2)).trans ((congrArg (fun A => ProjArgs.gate A _ _) ha).trans
      (Cert.Kernel2Ideal.Gen.fin_34 m c (i 0) (i 1) (i 2)).symm)
  · rw [eq_ix4 i]
    exact (Cert.Reference2Ideal.Read.sampled_key _ _ _ _ _ (i 0) (i 1) (i 2) (i 3)).trans ((congrArg (fun A => ProjArgs.key A _ _ _) ha).trans
      (Cert.Kernel2Ideal.Gen.fin_35 m c hA (i 0) (i 1) (i 2) (i 3)).symm)
  · rw [eq_ix4 i]
    exact (Cert.Reference2Ideal.Read.sampled_val _ _ _ _ _ (i 0) (i 1) (i 2) (i 3)).trans ((congrArg (fun A => ProjArgs.val A _ _ _) ha).trans
      (Cert.Kernel2Ideal.Gen.fin_36 m c (i 0) (i 1) (i 2) (i 3)).symm)
  · rw [eq_ix3 i]
    exact (Cert.Reference2Ideal.Read.sampled_gate _ _ _ _ _ (i 0) (i 1) (i 2)).trans ((congrArg (fun A => ProjArgs.gate A _ _) ha).trans
      (Cert.Kernel2Ideal.Gen.fin_26 m c (i 0) (i 1) (i 2)).symm)

end Cert.Proof

end
-- ==== Proof.FirstBase.lean ====
module

public import proofs.«01_k».proof.Proof.Gen.Kernel3Ideal.Frame
public import proofs.«01_k».proof.Proof.Gen.Kernel3Ideal.Skeleton

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch runs at the points of the prompt's rows. -/
abbrev prompt (i : grid0.Coords) : Prop := k0_cond1 i = 1#1
/-- The second branch runs at the point of the sampled rows. -/
abbrev sampled (i : grid0.Coords) : Prop := k0_cond2 i = 1#1

theorem prompt_iff : ∀ t : Fin cfg0.N, prompt (grid0.coords t) ↔ t.val < 32 :=
  (by decide +kernel : ∀ t : Fin grid0.N, prompt (grid0.coords t) ↔ t.val < 32)
theorem sampled_iff : ∀ t : Fin cfg0.N, sampled (grid0.coords t) ↔ t.val = 32 :=
  (by decide +kernel : ∀ t : Fin grid0.N, sampled (grid0.coords t) ↔ t.val = 32)

/-- Window 0's staging buffer at a point, and that it is a whole buffer. -/
abbrev ms0_0 (t : Fin cfg0.N) : Memref sig .tc .vmem S512x1024 .f32 := win0_0.stage (cfg0.slots t 0)
theorem hs0_0 (t : Fin cfg0.N) : (ms0_0 t).IsWhole := hstage0_0 ((cfg0.slots t 0).cast nbuf0_0)
/-- Window 1's staging buffer at a point, and that it is a whole buffer. -/
abbrev ms0_1 (t : Fin cfg0.N) : Memref sig .tc .vmem S1x1024 .f32 := win0_1.stage (cfg0.slots t 1)
theorem hs0_1 (t : Fin cfg0.N) : (ms0_1 t).IsWhole := hstage0_1 ((cfg0.slots t 1).cast nbuf0_1)
/-- Window 2's staging buffer at a point, and that it is a whole buffer. -/
abbrev ms0_2 (t : Fin cfg0.N) : Memref sig .tc .vmem S1024x2816 .bf16 := win0_2.stage (cfg0.slots t 2)
theorem hs0_2 (t : Fin cfg0.N) : (ms0_2 t).IsWhole := hstage0_2 ((cfg0.slots t 2).cast nbuf0_2)
/-- Window 3's staging buffer at a point, and that it is a whole buffer. -/
abbrev ms0_3 (t : Fin cfg0.N) : Memref sig .tc .vmem S1x1792 .f32 := win0_3.stage (cfg0.slots t 3)
theorem hs0_3 (t : Fin cfg0.N) : (ms0_3 t).IsWhole := hstage0_3 ((cfg0.slots t 3).cast nbuf0_3)
/-- Window 4's staging buffer at a point, and that it is a whole buffer. -/
abbrev ms0_4 (t : Fin cfg0.N) : Memref sig .tc .vmem S256x256 .bf16 := win0_4.stage (cfg0.slots t 4)
theorem hs0_4 (t : Fin cfg0.N) : (ms0_4 t).IsWhole := hstage0_4 ((cfg0.slots t 4).cast nbuf0_4)
/-- Window 5's staging buffer at a point, and that it is a whole buffer. -/
abbrev ms0_5 (t : Fin cfg0.N) : Memref sig .tc .vmem S512x512 .bf16 := win0_5.stage (cfg0.slots t 5)
theorem hs0_5 (t : Fin cfg0.N) : (ms0_5 t).IsWhole := hstage0_5 ((cfg0.slots t 5).cast nbuf0_5)
/-- Window 6's staging buffer at a point, and that it is a whole buffer. -/
abbrev ms0_6 (t : Fin cfg0.N) : Memref sig .tc .vmem S512x512 .f32 := win0_6.stage (cfg0.slots t 6)
theorem hs0_6 (t : Fin cfg0.N) : (ms0_6 t).IsWhole := hstage0_6 ((cfg0.slots t 6).cast nbuf0_6)
/-- Window 7's staging buffer at a point, and that it is a whole buffer. -/
abbrev ms0_7 (t : Fin cfg0.N) : Memref sig .tc .vmem S1x512x512 .f32 := win0_7.stage (cfg0.slots t 7)
theorem hs0_7 (t : Fin cfg0.N) : (ms0_7 t).IsWhole := hstage0_7 ((cfg0.slots t 7).cast nbuf0_7)
/-- Window 8's staging buffer at a point, and that it is a whole buffer. -/
abbrev ms0_8 (t : Fin cfg0.N) : Memref sig .tc .vmem S1x512x512 .bf16 := win0_8.stage (cfg0.slots t 8)
theorem hs0_8 (t : Fin cfg0.N) : (ms0_8 t).IsWhole := hstage0_8 ((cfg0.slots t 8).cast nbuf0_8)
/-- Window 9's staging buffer at a point, and that it is a whole buffer. -/
abbrev ms0_9 (t : Fin cfg0.N) : Memref sig .tc .vmem S512x512 .bf16 := win0_9.stage (cfg0.slots t 9)
theorem hs0_9 (t : Fin cfg0.N) : (ms0_9 t).IsWhole := hstage0_9 ((cfg0.slots t 9).cast nbuf0_9)
/-- Window 10's staging buffer at a point, and that it is a whole buffer. -/
abbrev ms0_10 (t : Fin cfg0.N) : Memref sig .tc .vmem S512x256 .f32 := win0_10.stage (cfg0.slots t 10)
theorem hs0_10 (t : Fin cfg0.N) : (ms0_10 t).IsWhole := hstage0_10 ((cfg0.slots t 10).cast nbuf0_10)
/-- Window 11's staging buffer at a point, and that it is a whole buffer. -/
abbrev ms0_11 (t : Fin cfg0.N) : Memref sig .tc .vmem S1x256x512 .f32 := win0_11.stage (cfg0.slots t 11)
theorem hs0_11 (t : Fin cfg0.N) : (ms0_11 t).IsWhole := hstage0_11 ((cfg0.slots t 11).cast nbuf0_11)
/-- Window 12's staging buffer at a point, and that it is a whole buffer. -/
abbrev ms0_12 (t : Fin cfg0.N) : Memref sig .tc .vmem S512x128 .bf16 := win0_12.stage (cfg0.slots t 12)
theorem hs0_12 (t : Fin cfg0.N) : (ms0_12 t).IsWhole := hstage0_12 ((cfg0.slots t 12).cast nbuf0_12)
/-- Window 13's staging buffer at a point, and that it is a whole buffer. -/
abbrev ms0_13 (t : Fin cfg0.N) : Memref sig .tc .vmem S512x128 .bf16 := win0_13.stage (cfg0.slots t 13)
theorem hs0_13 (t : Fin cfg0.N) : (ms0_13 t).IsWhole := hstage0_13 ((cfg0.slots t 13).cast nbuf0_13)
/-- Window 14's staging buffer at a point, and that it is a whole buffer. -/
abbrev ms0_14 (t : Fin cfg0.N) : Memref sig .tc .vmem S512x128 .bf16 := win0_14.stage (cfg0.slots t 14)
theorem hs0_14 (t : Fin cfg0.N) : (ms0_14 t).IsWhole := hstage0_14 ((cfg0.slots t 14).cast nbuf0_14)
/-- Window 15's staging buffer at a point, and that it is a whole buffer. -/
abbrev ms0_15 (t : Fin cfg0.N) : Memref sig .tc .vmem S512x512 .f32 := win0_15.stage (cfg0.slots t 15)
theorem hs0_15 (t : Fin cfg0.N) : (ms0_15 t).IsWhole := hstage0_15 ((cfg0.slots t 15).cast nbuf0_15)
/-- Window 16's staging buffer at a point, and that it is a whole buffer. -/
abbrev ms0_16 (t : Fin cfg0.N) : Memref sig .tc .vmem S512x512 .bf16 := win0_16.stage (cfg0.slots t 16)
theorem hs0_16 (t : Fin cfg0.N) : (ms0_16 t).IsWhole := hstage0_16 ((cfg0.slots t 16).cast nbuf0_16)
/-- Window 17's staging buffer at a point, and that it is a whole buffer. -/
abbrev ms0_17 (t : Fin cfg0.N) : Memref sig .tc .vmem S512x512 .bf16 := win0_17.stage (cfg0.slots t 17)
theorem hs0_17 (t : Fin cfg0.N) : (ms0_17 t).IsWhole := hstage0_17 ((cfg0.slots t 17).cast nbuf0_17)

end Cert.Kernel3Ideal.Gen

end
-- ==== Proof.FirstRunA.lean ====
module

public import proofs.«01_k».proof.Proof.FirstBase

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body stores at a point of the prompt's rows, as the pieces it writes into each output's buffer (the last store first), together
    with its run: from the inputs' buffers at their contents and the outputs' at anything, to the inputs' as they were and
    the outputs' with those pieces written. -/
noncomputable def storesA (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x2816 .bf16) (harg3 : arg3.IsWhole) (arg4 : Memref sig .tc .vmem S1x1792 .f32) (harg4 : arg4.IsWhole) (arg5 : Memref sig .tc .vmem S256x256 .bf16) (harg5 : arg5.IsWhole) (arg6 : Memref sig .tc .vmem S512x512 .bf16) (harg6 : arg6.IsWhole) (arg7 : Memref sig .tc .vmem S512x512 .f32) (harg7 : arg7.IsWhole) (arg8 : Memref sig .tc .vmem S1x512x512 .f32) (harg8 : arg8.IsWhole) (arg9 : Memref sig .tc .vmem S1x512x512 .bf16) (harg9 : arg9.IsWhole) (arg10 : Memref sig .tc .vmem S512x512 .bf16) (harg10 : arg10.IsWhole) (arg11 : Memref sig .tc .vmem S512x256 .f32) (harg11 : arg11.IsWhole) (arg12 : Memref sig .tc .vmem S1x256x512 .f32) (harg12 : arg12.IsWhole) (arg13 : Memref sig .tc .vmem S512x128 .bf16) (harg13 : arg13.IsWhole) (arg14 : Memref sig .tc .vmem S512x128 .bf16) (harg14 : arg14.IsWhole) (arg15 : Memref sig .tc .vmem S512x128 .bf16) (harg15 : arg15.IsWhole) (arg16 : Memref sig .tc .vmem S512x512 .f32) (harg16 : arg16.IsWhole) (arg17 : Memref sig .tc .vmem S512x512 .bf16) (harg17 : arg17.IsWhole) (arg18 : Memref sig .tc .vmem S512x512 .bf16) (harg18 : arg18.IsWhole) (hc0 : prompt i) (hc1 : ¬sampled i) (x0 : Vec F S512x1024 .f32) (x1 : Vec F S1x1024 .f32) (x2 : Vec F S1024x2816 .bf16) (x3 : Vec F S1x1792 .f32) (x4 : Vec F S256x256 .bf16) :
    Σ' (L5 : List (View.Piece (Elt F) S512x512 .bf16)), Σ' (L7 : List (View.Piece (Elt F) S1x512x512 .f32)), Σ' (L8 : List (View.Piece (Elt F) S1x512x512 .bf16)), Σ' (L9 : List (View.Piece (Elt F) S512x512 .bf16)), Σ' (L10 : List (View.Piece (Elt F) S512x256 .f32)), Σ' (L11 : List (View.Piece (Elt F) S1x256x512 .f32)), Σ' (L12 : List (View.Piece (Elt F) S512x128 .bf16)), Σ' (L13 : List (View.Piece (Elt F) S512x128 .bf16)), Σ' (L14 : List (View.Piece (Elt F) S512x128 .bf16)), Σ' (L15 : List (View.Piece (Elt F) S512x512 .f32)), Σ' (L16 : List (View.Piece (Elt F) S512x512 .bf16)), { L17 : List (View.Piece (Elt F) S512x512 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17)) -∗ K ⟨⟩))
          ⊢ wp frame (wpE (defs₀ (F := F)) Variants.none c none) E (cc0_proj0 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, ?_, ?_, ?_, ?_, ?_, ?_, ?_, fun E K => ?run⟩
  case run =>
    simp only [cc0_proj0_eq_skeleton]; unfold cc0_proj0_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    iexists _; iexact H17

end Cert.Kernel3Ideal.Gen

end
-- ==== Proof.FirstRunB.lean ====
module

public import proofs.«01_k».proof.Proof.FirstBase

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body stores at the point of the sampled rows, as the pieces it writes into each output's buffer (the last store first), together
    with its run: from the inputs' buffers at their contents and the outputs' at anything, to the inputs' as they were and
    the outputs' with those pieces written. -/
noncomputable def storesB (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x2816 .bf16) (harg3 : arg3.IsWhole) (arg4 : Memref sig .tc .vmem S1x1792 .f32) (harg4 : arg4.IsWhole) (arg5 : Memref sig .tc .vmem S256x256 .bf16) (harg5 : arg5.IsWhole) (arg6 : Memref sig .tc .vmem S512x512 .bf16) (harg6 : arg6.IsWhole) (arg7 : Memref sig .tc .vmem S512x512 .f32) (harg7 : arg7.IsWhole) (arg8 : Memref sig .tc .vmem S1x512x512 .f32) (harg8 : arg8.IsWhole) (arg9 : Memref sig .tc .vmem S1x512x512 .bf16) (harg9 : arg9.IsWhole) (arg10 : Memref sig .tc .vmem S512x512 .bf16) (harg10 : arg10.IsWhole) (arg11 : Memref sig .tc .vmem S512x256 .f32) (harg11 : arg11.IsWhole) (arg12 : Memref sig .tc .vmem S1x256x512 .f32) (harg12 : arg12.IsWhole) (arg13 : Memref sig .tc .vmem S512x128 .bf16) (harg13 : arg13.IsWhole) (arg14 : Memref sig .tc .vmem S512x128 .bf16) (harg14 : arg14.IsWhole) (arg15 : Memref sig .tc .vmem S512x128 .bf16) (harg15 : arg15.IsWhole) (arg16 : Memref sig .tc .vmem S512x512 .f32) (harg16 : arg16.IsWhole) (arg17 : Memref sig .tc .vmem S512x512 .bf16) (harg17 : arg17.IsWhole) (arg18 : Memref sig .tc .vmem S512x512 .bf16) (harg18 : arg18.IsWhole) (hc0 : ¬prompt i) (hc1 : sampled i) (x0 : Vec F S512x1024 .f32) (x1 : Vec F S1x1024 .f32) (x2 : Vec F S1024x2816 .bf16) (x3 : Vec F S1x1792 .f32) (x4 : Vec F S256x256 .bf16) :
    Σ' (L5 : List (View.Piece (Elt F) S512x512 .bf16)), Σ' (L6 : List (View.Piece (Elt F) S512x512 .f32)), Σ' (L9 : List (View.Piece (Elt F) S512x512 .bf16)), Σ' (L10 : List (View.Piece (Elt F) S512x256 .f32)), Σ' (L12 : List (View.Piece (Elt F) S512x128 .bf16)), Σ' (L13 : List (View.Piece (Elt F) S512x128 .bf16)), Σ' (L14 : List (View.Piece (Elt F) S512x128 .bf16)), Σ' (L15 : List (View.Piece (Elt F) S512x512 .f32)), Σ' (L16 : List (View.Piece (Elt F) S512x512 .bf16)), { L17 : List (View.Piece (Elt F) S512x512 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg10 fullShare d) ∗ (∃ d, owns (c : Thread nD τ) arg11 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17)) -∗ K ⟨⟩))
          ⊢ wp frame (wpE (defs₀ (F := F)) Variants.none c none) E (cc0_proj0 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, ?_, ?_, ?_, ?_, ?_, fun E K => ?run⟩
  case run =>
    simp only [cc0_proj0_eq_skeleton]; unfold cc0_proj0_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d9, %f9, -, H9⟩, ⟨%d10, %f10, -, H10⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H9]; · iexists _; iexact H9
    isplitl [H10]; · iexists _; iexact H10
    isplitl [H12]; · iexists _; iexact H12
    isplitl [H13]; · iexists _; iexact H13
    isplitl [H14]; · iexists _; iexact H14
    isplitl [H15]; · iexists _; iexact H15
    isplitl [H16]; · iexists _; iexact H16
    iexists _; iexact H17

end Cert.Kernel3Ideal.Gen

end
-- ==== Proof.FirstDat.lean ====
module

public import proofs.«01_k».proof.Proof.FirstRunA
public import proofs.«01_k».proof.Proof.FirstRunB

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The grid point of a block of 512 prompt rows. -/
def ptA (s : Fin 32) : Fin cfg0.N := ⟨s.val, lt_of_lt_of_eq (show s.val < 33 by omega) N_0.symm⟩
/-- The grid point of the 512 sampled rows. -/
def ptB : Fin cfg0.N := ⟨32, lt_of_lt_of_eq (show 32 < 33 by omega) N_0.symm⟩

theorem ptA_prompt (s : Fin 32) : prompt (grid0.coords (ptA s)) := (prompt_iff _).mpr s.isLt
theorem ptA_not_sampled (s : Fin 32) : ¬sampled (grid0.coords (ptA s)) := fun h => by
  have e : s.val = 32 := (sampled_iff _).mp h
  omega
theorem ptB_not_prompt : ¬prompt (grid0.coords ptB) := fun h => by
  have e : 32 < 32 := (prompt_iff _).mp h
  omega
theorem ptB_sampled : sampled (grid0.coords ptB) := (sampled_iff _).mpr rfl

/-- Every grid point is one of the two kinds. -/
theorem pt_cases (t : Fin cfg0.N) : (∃ s, t = ptA s) ∨ t = ptB := by
  have hN : t.val < 33 := lt_of_lt_of_eq t.isLt N_0
  by_cases h : t.val < 32
  · exact .inl ⟨⟨t.val, h⟩, rfl⟩
  · exact .inr (Fin.ext (show t.val = 32 by omega))

/-- The stores at a point of the prompt's rows, on the blocks of that point. -/
def storesAt (c : Dev nD) (s : Fin 32) :=
  storesA c (grid0.coords (ptA s)) (ms0_0 (ptA s)) (hs0_0 (ptA s)) (ms0_1 (ptA s)) (hs0_1 (ptA s)) (ms0_2 (ptA s)) (hs0_2 (ptA s)) (ms0_3 (ptA s)) (hs0_3 (ptA s)) (ms0_4 (ptA s)) (hs0_4 (ptA s)) (ms0_5 (ptA s)) (hs0_5 (ptA s)) (ms0_6 (ptA s)) (hs0_6 (ptA s)) (ms0_7 (ptA s)) (hs0_7 (ptA s)) (ms0_8 (ptA s)) (hs0_8 (ptA s)) (ms0_9 (ptA s)) (hs0_9 (ptA s)) (ms0_10 (ptA s)) (hs0_10 (ptA s)) (ms0_11 (ptA s)) (hs0_11 (ptA s)) (ms0_12 (ptA s)) (hs0_12 (ptA s)) (ms0_13 (ptA s)) (hs0_13 (ptA s)) (ms0_14 (ptA s)) (hs0_14 (ptA s)) (ms0_15 (ptA s)) (hs0_15 (ptA s)) (ms0_16 (ptA s)) (hs0_16 (ptA s)) (ms0_17 (ptA s)) (hs0_17 (ptA s)) (ptA_prompt s) (ptA_not_sampled s) (iblk m c 0 (ptA s)) (iblk m c 1 (ptA s)) (iblk m c 2 (ptA s)) (iblk m c 3 (ptA s)) (iblk m c 4 (ptA s))
/-- The stores at the point of the sampled rows, on its blocks. -/
def storesLast (c : Dev nD) :=
  storesB c (grid0.coords ptB) (ms0_0 ptB) (hs0_0 ptB) (ms0_1 ptB) (hs0_1 ptB) (ms0_2 ptB) (hs0_2 ptB) (ms0_3 ptB) (hs0_3 ptB) (ms0_4 ptB) (hs0_4 ptB) (ms0_5 ptB) (hs0_5 ptB) (ms0_6 ptB) (hs0_6 ptB) (ms0_7 ptB) (hs0_7 ptB) (ms0_8 ptB) (hs0_8 ptB) (ms0_9 ptB) (hs0_9 ptB) (ms0_10 ptB) (hs0_10 ptB) (ms0_11 ptB) (hs0_11 ptB) (ms0_12 ptB) (hs0_12 ptB) (ms0_13 ptB) (hs0_13 ptB) (ms0_14 ptB) (hs0_14 ptB) (ms0_15 ptB) (hs0_15 ptB) (ms0_16 ptB) (hs0_16 ptB) (ms0_17 ptB) (hs0_17 ptB) ptB_not_prompt ptB_sampled (iblk m c 0 ptB) (iblk m c 1 ptB) (iblk m c 2 ptB) (iblk m c 3 ptB) (iblk m c 4 ptB)

/-- What output 5's buffer holds after a point of the prompt's rows. -/
def out0_A_5 (c : Dev nD) (s : Fin 32) : Vec F S512x512 .bf16 := View.canon (storesAt m c s).1
theorem cover0_A_5 (c : Dev nD) (s : Fin 32) (y : (S512x512 : Shape).Idx) : ∃ pc ∈ (storesAt m c s).1, y ∈ pc.1.set :=
  View.cover_of_tiledL (storesAt m c s).1 ![512, 256] (by sl_kernel_rfl) y
/-- What output 7's buffer holds after a point of the prompt's rows. -/
def out0_A_7 (c : Dev nD) (s : Fin 32) : Vec F S1x512x512 .f32 := View.canon (storesAt m c s).2.1
theorem cover0_A_7 (c : Dev nD) (s : Fin 32) (y : (S1x512x512 : Shape).Idx) : ∃ pc ∈ (storesAt m c s).2.1, y ∈ pc.1.set :=
  View.cover_of_tiledL (storesAt m c s).2.1 ![1, 256, 512] (by sl_kernel_rfl) y
/-- What output 8's buffer holds after a point of the prompt's rows. -/
def out0_A_8 (c : Dev nD) (s : Fin 32) : Vec F S1x512x512 .bf16 := View.canon (storesAt m c s).2.2.1
theorem cover0_A_8 (c : Dev nD) (s : Fin 32) (y : (S1x512x512 : Shape).Idx) : ∃ pc ∈ (storesAt m c s).2.2.1, y ∈ pc.1.set :=
  View.cover_of_tiledL (storesAt m c s).2.2.1 ![1, 256, 512] (by sl_kernel_rfl) y
/-- What output 9's buffer holds after a point of the prompt's rows. -/
def out0_A_9 (c : Dev nD) (s : Fin 32) : Vec F S512x512 .bf16 := View.canon (storesAt m c s).2.2.2.1
theorem cover0_A_9 (c : Dev nD) (s : Fin 32) (y : (S512x512 : Shape).Idx) : ∃ pc ∈ (storesAt m c s).2.2.2.1, y ∈ pc.1.set :=
  View.cover_of_tiledL (storesAt m c s).2.2.2.1 ![512, 256] (by sl_kernel_rfl) y
/-- What output 10's buffer holds after a point of the prompt's rows. -/
def out0_A_10 (c : Dev nD) (s : Fin 32) : Vec F S512x256 .f32 := View.canon (storesAt m c s).2.2.2.2.1
theorem cover0_A_10 (c : Dev nD) (s : Fin 32) (y : (S512x256 : Shape).Idx) : ∃ pc ∈ (storesAt m c s).2.2.2.2.1, y ∈ pc.1.set :=
  View.cover_of_tiledL (storesAt m c s).2.2.2.2.1 S512x256.size (by sl_kernel_rfl) y
/-- What output 11's buffer holds after a point of the prompt's rows. -/
def out0_A_11 (c : Dev nD) (s : Fin 32) : Vec F S1x256x512 .f32 := View.canon (storesAt m c s).2.2.2.2.2.1
theorem cover0_A_11 (c : Dev nD) (s : Fin 32) (y : (S1x256x512 : Shape).Idx) : ∃ pc ∈ (storesAt m c s).2.2.2.2.2.1, y ∈ pc.1.set :=
  View.cover_of_tiledL (storesAt m c s).2.2.2.2.2.1 S1x256x512.size (by sl_kernel_rfl) y
/-- What output 12's buffer holds after a point of the prompt's rows. -/
def out0_A_12 (c : Dev nD) (s : Fin 32) : Vec F S512x128 .bf16 := View.canon (storesAt m c s).2.2.2.2.2.2.1
theorem cover0_A_12 (c : Dev nD) (s : Fin 32) (y : (S512x128 : Shape).Idx) : ∃ pc ∈ (storesAt m c s).2.2.2.2.2.2.1, y ∈ pc.1.set :=
  View.cover_of_tiledL (storesAt m c s).2.2.2.2.2.2.1 S512x128.size (by sl_kernel_rfl) y
/-- What output 13's buffer holds after a point of the prompt's rows. -/
def out0_A_13 (c : Dev nD) (s : Fin 32) : Vec F S512x128 .bf16 := View.canon (storesAt m c s).2.2.2.2.2.2.2.1
theorem cover0_A_13 (c : Dev nD) (s : Fin 32) (y : (S512x128 : Shape).Idx) : ∃ pc ∈ (storesAt m c s).2.2.2.2.2.2.2.1, y ∈ pc.1.set :=
  View.cover_of_tiledL (storesAt m c s).2.2.2.2.2.2.2.1 S512x128.size (by sl_kernel_rfl) y
/-- What output 14's buffer holds after a point of the prompt's rows. -/
def out0_A_14 (c : Dev nD) (s : Fin 32) : Vec F S512x128 .bf16 := View.canon (storesAt m c s).2.2.2.2.2.2.2.2.1
theorem cover0_A_14 (c : Dev nD) (s : Fin 32) (y : (S512x128 : Shape).Idx) : ∃ pc ∈ (storesAt m c s).2.2.2.2.2.2.2.2.1, y ∈ pc.1.set :=
  View.cover_of_tiledL (storesAt m c s).2.2.2.2.2.2.2.2.1 S512x128.size (by sl_kernel_rfl) y
/-- What output 15's buffer holds after a point of the prompt's rows. -/
def out0_A_15 (c : Dev nD) (s : Fin 32) : Vec F S512x512 .f32 := View.canon (storesAt m c s).2.2.2.2.2.2.2.2.2.1
theorem cover0_A_15 (c : Dev nD) (s : Fin 32) (y : (S512x512 : Shape).Idx) : ∃ pc ∈ (storesAt m c s).2.2.2.2.2.2.2.2.2.1, y ∈ pc.1.set :=
  View.cover_of_tiledL (storesAt m c s).2.2.2.2.2.2.2.2.2.1 ![512, 256] (by sl_kernel_rfl) y
/-- What output 16's buffer holds after a point of the prompt's rows. -/
def out0_A_16 (c : Dev nD) (s : Fin 32) : Vec F S512x512 .bf16 := View.canon (storesAt m c s).2.2.2.2.2.2.2.2.2.2.1
theorem cover0_A_16 (c : Dev nD) (s : Fin 32) (y : (S512x512 : Shape).Idx) : ∃ pc ∈ (storesAt m c s).2.2.2.2.2.2.2.2.2.2.1, y ∈ pc.1.set :=
  View.cover_of_tiledL (storesAt m c s).2.2.2.2.2.2.2.2.2.2.1 ![512, 256] (by sl_kernel_rfl) y
/-- What output 17's buffer holds after a point of the prompt's rows. -/
def out0_A_17 (c : Dev nD) (s : Fin 32) : Vec F S512x512 .bf16 := View.canon (storesAt m c s).2.2.2.2.2.2.2.2.2.2.2.1
theorem cover0_A_17 (c : Dev nD) (s : Fin 32) (y : (S512x512 : Shape).Idx) : ∃ pc ∈ (storesAt m c s).2.2.2.2.2.2.2.2.2.2.2.1, y ∈ pc.1.set :=
  View.cover_of_tiledL (storesAt m c s).2.2.2.2.2.2.2.2.2.2.2.1 ![512, 256] (by sl_kernel_rfl) y
/-- What output 5's buffer holds after the point of the sampled rows. -/
def out0_B_5 (c : Dev nD) : Vec F S512x512 .bf16 := View.canon (storesLast m c).1
theorem cover0_B_5 (c : Dev nD) (y : (S512x512 : Shape).Idx) : ∃ pc ∈ (storesLast m c).1, y ∈ pc.1.set :=
  View.cover_of_tiledL (storesLast m c).1 ![512, 256] (by sl_kernel_rfl) y
/-- What output 6's buffer holds after the point of the sampled rows. -/
def out0_B_6 (c : Dev nD) : Vec F S512x512 .f32 := View.canon (storesLast m c).2.1
theorem cover0_B_6 (c : Dev nD) (y : (S512x512 : Shape).Idx) : ∃ pc ∈ (storesLast m c).2.1, y ∈ pc.1.set :=
  View.cover_of_tiledL (storesLast m c).2.1 ![512, 256] (by sl_kernel_rfl) y
/-- What output 9's buffer holds after the point of the sampled rows. -/
def out0_B_9 (c : Dev nD) : Vec F S512x512 .bf16 := View.canon (storesLast m c).2.2.1
theorem cover0_B_9 (c : Dev nD) (y : (S512x512 : Shape).Idx) : ∃ pc ∈ (storesLast m c).2.2.1, y ∈ pc.1.set :=
  View.cover_of_tiledL (storesLast m c).2.2.1 ![512, 256] (by sl_kernel_rfl) y
/-- What output 10's buffer holds after the point of the sampled rows. -/
def out0_B_10 (c : Dev nD) : Vec F S512x256 .f32 := View.canon (storesLast m c).2.2.2.1
theorem cover0_B_10 (c : Dev nD) (y : (S512x256 : Shape).Idx) : ∃ pc ∈ (storesLast m c).2.2.2.1, y ∈ pc.1.set :=
  View.cover_of_tiledL (storesLast m c).2.2.2.1 S512x256.size (by sl_kernel_rfl) y
/-- What output 12's buffer holds after the point of the sampled rows. -/
def out0_B_12 (c : Dev nD) : Vec F S512x128 .bf16 := View.canon (storesLast m c).2.2.2.2.1
theorem cover0_B_12 (c : Dev nD) (y : (S512x128 : Shape).Idx) : ∃ pc ∈ (storesLast m c).2.2.2.2.1, y ∈ pc.1.set :=
  View.cover_of_tiledL (storesLast m c).2.2.2.2.1 S512x128.size (by sl_kernel_rfl) y
/-- What output 13's buffer holds after the point of the sampled rows. -/
def out0_B_13 (c : Dev nD) : Vec F S512x128 .bf16 := View.canon (storesLast m c).2.2.2.2.2.1
theorem cover0_B_13 (c : Dev nD) (y : (S512x128 : Shape).Idx) : ∃ pc ∈ (storesLast m c).2.2.2.2.2.1, y ∈ pc.1.set :=
  View.cover_of_tiledL (storesLast m c).2.2.2.2.2.1 S512x128.size (by sl_kernel_rfl) y
/-- What output 14's buffer holds after the point of the sampled rows. -/
def out0_B_14 (c : Dev nD) : Vec F S512x128 .bf16 := View.canon (storesLast m c).2.2.2.2.2.2.1
theorem cover0_B_14 (c : Dev nD) (y : (S512x128 : Shape).Idx) : ∃ pc ∈ (storesLast m c).2.2.2.2.2.2.1, y ∈ pc.1.set :=
  View.cover_of_tiledL (storesLast m c).2.2.2.2.2.2.1 S512x128.size (by sl_kernel_rfl) y
/-- What output 15's buffer holds after the point of the sampled rows. -/
def out0_B_15 (c : Dev nD) : Vec F S512x512 .f32 := View.canon (storesLast m c).2.2.2.2.2.2.2.1
theorem cover0_B_15 (c : Dev nD) (y : (S512x512 : Shape).Idx) : ∃ pc ∈ (storesLast m c).2.2.2.2.2.2.2.1, y ∈ pc.1.set :=
  View.cover_of_tiledL (storesLast m c).2.2.2.2.2.2.2.1 ![512, 256] (by sl_kernel_rfl) y
/-- What output 16's buffer holds after the point of the sampled rows. -/
def out0_B_16 (c : Dev nD) : Vec F S512x512 .bf16 := View.canon (storesLast m c).2.2.2.2.2.2.2.2.1
theorem cover0_B_16 (c : Dev nD) (y : (S512x512 : Shape).Idx) : ∃ pc ∈ (storesLast m c).2.2.2.2.2.2.2.2.1, y ∈ pc.1.set :=
  View.cover_of_tiledL (storesLast m c).2.2.2.2.2.2.2.2.1 ![512, 256] (by sl_kernel_rfl) y
/-- What output 17's buffer holds after the point of the sampled rows. -/
def out0_B_17 (c : Dev nD) : Vec F S512x512 .bf16 := View.canon (storesLast m c).2.2.2.2.2.2.2.2.2.1
theorem cover0_B_17 (c : Dev nD) (y : (S512x512 : Shape).Idx) : ∃ pc ∈ (storesLast m c).2.2.2.2.2.2.2.2.2.1, y ∈ pc.1.set :=
  View.cover_of_tiledL (storesLast m c).2.2.2.2.2.2.2.2.2.1 ![512, 256] (by sl_kernel_rfl) y

/-- The proof data: the arrays as the region finds them; after each point the inputs' buffers at their blocks and the
    outputs' at what the last point that stored into them left. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => if h : t.val < 32 then out0_A_5 m c ⟨t.val, h⟩ else out0_B_5 m c
    | ⟨6, _⟩ => out0_B_6 m c
    | ⟨7, _⟩ => out0_A_7 m c ⟨min t.val 31, by omega⟩
    | ⟨8, _⟩ => out0_A_8 m c ⟨min t.val 31, by omega⟩
    | ⟨9, _⟩ => if h : t.val < 32 then out0_A_9 m c ⟨t.val, h⟩ else out0_B_9 m c
    | ⟨10, _⟩ => if h : t.val < 32 then out0_A_10 m c ⟨t.val, h⟩ else out0_B_10 m c
    | ⟨11, _⟩ => out0_A_11 m c ⟨min t.val 31, by omega⟩
    | ⟨12, _⟩ => if h : t.val < 32 then out0_A_12 m c ⟨t.val, h⟩ else out0_B_12 m c
    | ⟨13, _⟩ => if h : t.val < 32 then out0_A_13 m c ⟨t.val, h⟩ else out0_B_13 m c
    | ⟨14, _⟩ => if h : t.val < 32 then out0_A_14 m c ⟨t.val, h⟩ else out0_B_14 m c
    | ⟨15, _⟩ => if h : t.val < 32 then out0_A_15 m c ⟨t.val, h⟩ else out0_B_15 m c
    | ⟨16, _⟩ => if h : t.val < 32 then out0_A_16 m c ⟨t.val, h⟩ else out0_B_16 m c
    | ⟨17, _⟩ => if h : t.val < 32 then out0_A_17 m c ⟨t.val, h⟩ else out0_B_17 m c
    | ⟨k + 18, h⟩ => absurd (show k + 18 < 18 from h) (by omega)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (if h : t.val < 32 then out0_A_5 m c ⟨t.val, h⟩ else out0_B_5 m c) := by dsimp only [dats]
theorem after0_A_5 (c : Dev nD) (s : Fin 32) : (dats m 0 c).after 5 (ptA s) = out0_A_5 m c s := (after0_5 m c _).trans (dif_pos s.isLt)
theorem after0_B_5 (c : Dev nD) : (dats m 0 c).after 5 ptB = out0_B_5 m c := (after0_5 m c _).trans (dif_neg (show ¬(32 : ℕ) < 32 by decide))
theorem after0_6 (c : Dev nD) (t : Fin cfg0.N) : (dats m 0 c).after 6 t = (out0_B_6 m c) := by dsimp only [dats]
theorem after0_B_6 (c : Dev nD) : (dats m 0 c).after 6 ptB = out0_B_6 m c := after0_6 m c _
theorem after0_7 (c : Dev nD) (t : Fin cfg0.N) : (dats m 0 c).after 7 t = (out0_A_7 m c ⟨min t.val 31, by omega⟩) := by dsimp only [dats]
theorem after0_A_7 (c : Dev nD) (s : Fin 32) : (dats m 0 c).after 7 (ptA s) = out0_A_7 m c s := (after0_7 m c _).trans (congrArg (out0_A_7 m c) (Fin.ext (show min s.val 31 = s.val by omega)))
theorem after0_B_7 (c : Dev nD) : (dats m 0 c).after 7 ptB = out0_A_7 m c 31 := (after0_7 m c _).trans (congrArg (out0_A_7 m c) (Fin.ext rfl))
theorem after0_8 (c : Dev nD) (t : Fin cfg0.N) : (dats m 0 c).after 8 t = (out0_A_8 m c ⟨min t.val 31, by omega⟩) := by dsimp only [dats]
theorem after0_A_8 (c : Dev nD) (s : Fin 32) : (dats m 0 c).after 8 (ptA s) = out0_A_8 m c s := (after0_8 m c _).trans (congrArg (out0_A_8 m c) (Fin.ext (show min s.val 31 = s.val by omega)))
theorem after0_B_8 (c : Dev nD) : (dats m 0 c).after 8 ptB = out0_A_8 m c 31 := (after0_8 m c _).trans (congrArg (out0_A_8 m c) (Fin.ext rfl))
theorem after0_9 (c : Dev nD) (t : Fin cfg0.N) : (dats m 0 c).after 9 t = (if h : t.val < 32 then out0_A_9 m c ⟨t.val, h⟩ else out0_B_9 m c) := by dsimp only [dats]
theorem after0_A_9 (c : Dev nD) (s : Fin 32) : (dats m 0 c).after 9 (ptA s) = out0_A_9 m c s := (after0_9 m c _).trans (dif_pos s.isLt)
theorem after0_B_9 (c : Dev nD) : (dats m 0 c).after 9 ptB = out0_B_9 m c := (after0_9 m c _).trans (dif_neg (show ¬(32 : ℕ) < 32 by decide))
theorem after0_10 (c : Dev nD) (t : Fin cfg0.N) : (dats m 0 c).after 10 t = (if h : t.val < 32 then out0_A_10 m c ⟨t.val, h⟩ else out0_B_10 m c) := by dsimp only [dats]
theorem after0_A_10 (c : Dev nD) (s : Fin 32) : (dats m 0 c).after 10 (ptA s) = out0_A_10 m c s := (after0_10 m c _).trans (dif_pos s.isLt)
theorem after0_B_10 (c : Dev nD) : (dats m 0 c).after 10 ptB = out0_B_10 m c := (after0_10 m c _).trans (dif_neg (show ¬(32 : ℕ) < 32 by decide))
theorem after0_11 (c : Dev nD) (t : Fin cfg0.N) : (dats m 0 c).after 11 t = (out0_A_11 m c ⟨min t.val 31, by omega⟩) := by dsimp only [dats]
theorem after0_A_11 (c : Dev nD) (s : Fin 32) : (dats m 0 c).after 11 (ptA s) = out0_A_11 m c s := (after0_11 m c _).trans (congrArg (out0_A_11 m c) (Fin.ext (show min s.val 31 = s.val by omega)))
theorem after0_B_11 (c : Dev nD) : (dats m 0 c).after 11 ptB = out0_A_11 m c 31 := (after0_11 m c _).trans (congrArg (out0_A_11 m c) (Fin.ext rfl))
theorem after0_12 (c : Dev nD) (t : Fin cfg0.N) : (dats m 0 c).after 12 t = (if h : t.val < 32 then out0_A_12 m c ⟨t.val, h⟩ else out0_B_12 m c) := by dsimp only [dats]
theorem after0_A_12 (c : Dev nD) (s : Fin 32) : (dats m 0 c).after 12 (ptA s) = out0_A_12 m c s := (after0_12 m c _).trans (dif_pos s.isLt)
theorem after0_B_12 (c : Dev nD) : (dats m 0 c).after 12 ptB = out0_B_12 m c := (after0_12 m c _).trans (dif_neg (show ¬(32 : ℕ) < 32 by decide))
theorem after0_13 (c : Dev nD) (t : Fin cfg0.N) : (dats m 0 c).after 13 t = (if h : t.val < 32 then out0_A_13 m c ⟨t.val, h⟩ else out0_B_13 m c) := by dsimp only [dats]
theorem after0_A_13 (c : Dev nD) (s : Fin 32) : (dats m 0 c).after 13 (ptA s) = out0_A_13 m c s := (after0_13 m c _).trans (dif_pos s.isLt)
theorem after0_B_13 (c : Dev nD) : (dats m 0 c).after 13 ptB = out0_B_13 m c := (after0_13 m c _).trans (dif_neg (show ¬(32 : ℕ) < 32 by decide))
theorem after0_14 (c : Dev nD) (t : Fin cfg0.N) : (dats m 0 c).after 14 t = (if h : t.val < 32 then out0_A_14 m c ⟨t.val, h⟩ else out0_B_14 m c) := by dsimp only [dats]
theorem after0_A_14 (c : Dev nD) (s : Fin 32) : (dats m 0 c).after 14 (ptA s) = out0_A_14 m c s := (after0_14 m c _).trans (dif_pos s.isLt)
theorem after0_B_14 (c : Dev nD) : (dats m 0 c).after 14 ptB = out0_B_14 m c := (after0_14 m c _).trans (dif_neg (show ¬(32 : ℕ) < 32 by decide))
theorem after0_15 (c : Dev nD) (t : Fin cfg0.N) : (dats m 0 c).after 15 t = (if h : t.val < 32 then out0_A_15 m c ⟨t.val, h⟩ else out0_B_15 m c) := by dsimp only [dats]
theorem after0_A_15 (c : Dev nD) (s : Fin 32) : (dats m 0 c).after 15 (ptA s) = out0_A_15 m c s := (after0_15 m c _).trans (dif_pos s.isLt)
theorem after0_B_15 (c : Dev nD) : (dats m 0 c).after 15 ptB = out0_B_15 m c := (after0_15 m c _).trans (dif_neg (show ¬(32 : ℕ) < 32 by decide))
theorem after0_16 (c : Dev nD) (t : Fin cfg0.N) : (dats m 0 c).after 16 t = (if h : t.val < 32 then out0_A_16 m c ⟨t.val, h⟩ else out0_B_16 m c) := by dsimp only [dats]
theorem after0_A_16 (c : Dev nD) (s : Fin 32) : (dats m 0 c).after 16 (ptA s) = out0_A_16 m c s := (after0_16 m c _).trans (dif_pos s.isLt)
theorem after0_B_16 (c : Dev nD) : (dats m 0 c).after 16 ptB = out0_B_16 m c := (after0_16 m c _).trans (dif_neg (show ¬(32 : ℕ) < 32 by decide))
theorem after0_17 (c : Dev nD) (t : Fin cfg0.N) : (dats m 0 c).after 17 t = (if h : t.val < 32 then out0_A_17 m c ⟨t.val, h⟩ else out0_B_17 m c) := by dsimp only [dats]
theorem after0_A_17 (c : Dev nD) (s : Fin 32) : (dats m 0 c).after 17 (ptA s) = out0_A_17 m c s := (after0_17 m c _).trans (dif_pos s.isLt)
theorem after0_B_17 (c : Dev nD) : (dats m 0 c).after 17 ptB = out0_B_17 m c := (after0_17 m c _).trans (dif_neg (show ¬(32 : ℕ) < 32 by decide))

/-- A buffer whose blocks are whole keeps what the body left in it. -/
theorem kept_eq (c : Dev nD) (w : Fin cfg0.W) (t : Fin cfg0.N) (d) (hclip : ∀ a, (cfg0.win w).clip (cfg0.grid.coords t) a = none) :
    (dats m 0 c).kept w t d = (dats m 0 c).after w t := by
  unfold Dat.kept
  rw [Pipeline.fill_of_clip_none w _ hclip d ((dats m 0 c).after w t), Window.fill_cut]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
/-- At the last point output 7's buffer still holds what the point before left. -/
theorem before0_7 (c : Dev nD) (d) : (dats m 0 c).before 7 ptB d = out0_A_7 m c 31 := by
  rw [Dat.before_of_pos _ 7 ptB (by decide) (by decide +kernel), if_neg (by decide +kernel)]
  unfold Dat.left
  rw [show cfg0.idle 7 (cfg0.grid.coords ⟨ptB.val - 1, Nat.lt_of_le_of_lt (Nat.sub_le _ _) ptB.isLt⟩) = false by decide +kernel]
  refine (kept_eq m c 7 _ d (fun a => rfl)).trans ?_
  exact after0_A_7 m c 31
/-- At the last point output 8's buffer still holds what the point before left. -/
theorem before0_8 (c : Dev nD) (d) : (dats m 0 c).before 8 ptB d = out0_A_8 m c 31 := by
  rw [Dat.before_of_pos _ 8 ptB (by decide) (by decide +kernel), if_neg (by decide +kernel)]
  unfold Dat.left
  rw [show cfg0.idle 8 (cfg0.grid.coords ⟨ptB.val - 1, Nat.lt_of_le_of_lt (Nat.sub_le _ _) ptB.isLt⟩) = false by decide +kernel]
  refine (kept_eq m c 8 _ d (fun a => rfl)).trans ?_
  exact after0_A_8 m c 31
/-- At the last point output 11's buffer still holds what the point before left. -/
theorem before0_11 (c : Dev nD) (d) : (dats m 0 c).before 11 ptB d = out0_A_11 m c 31 := by
  rw [Dat.before_of_pos _ 11 ptB (by decide) (by decide +kernel), if_neg (by decide +kernel)]
  unfold Dat.left
  rw [show cfg0.idle 11 (cfg0.grid.coords ⟨ptB.val - 1, Nat.lt_of_le_of_lt (Nat.sub_le _ _) ptB.isLt⟩) = false by decide +kernel]
  refine (kept_eq m c 11 _ d (fun a => rfl)).trans ?_
  exact after0_A_11 m c 31

end Cert.Kernel3Ideal.Gen

end
-- ==== Proof.FirstPay.lean ====
module

public import proofs.«01_k».proof.Proof.Gen.Kernel3Ideal.Skeleton
public import proofs.«01_k».proof.Proof.ProjSpec

@[expose] public section

set_option maxRecDepth 16384

noncomputable section

namespace Cert.Layer

/-- The columns of the sparse attention's keys, values and index keys: the keys are scaled, the others are not. -/
def mixed (y : Fin 256 → EReal) (bd : Fin 256 → Fin 256 → EReal) (g : Fin 256 → EReal) (j : Fin 256) : EReal :=
  if j.val < 64 then headNorm y bd g j else y j

end Cert.Layer

namespace Cert.Kernel3Ideal.Gen

open Idealize.ShloMosaic Idealize.ShloMosaic.TcCoe Cert.Layer

section
variable (x : Vec Ideal S512x1024 .f32) (g : Vec Ideal S1x1024 .f32) (r : Fin 512)

theorem rowA (k : Fin 1024) : k0_pay6 x g (ix2 r k) = normRow (fun d => x (ix2 r d)) (fun d => g (ix2 0 d)) k := by
  pointwise [k0_pay6, normRow]

theorem rowB (k : Fin 1024) : k0_pay36 x g (ix2 r k) = normRow (fun d => x (ix2 r d)) (fun d => g (ix2 0 d)) k := by
  pointwise [k0_pay36, normRow]
end

theorem lt_word : ∀ j : Fin 256, IntOp.cmpi .slt (BitVec.ofNat 32 j.val) 64#32 = if j.val < 64 then 1#1 else 0#1 := by decide +kernel

section
variable (h : FVec Ideal S512x1024 .bf16) (bd : Vec Ideal S256x256 .bf16) (w : Vec Ideal S1024x256 .bf16) (g : Vec Ideal S1x256 .f32)
  (r : Fin 512)

theorem tabA (i j : Fin 256) : k0_pay7 bd (ix2 i j) = bd (ix2 i j) := by pointwise [k0_pay7]
theorem tabB (i j : Fin 256) : k0_pay37 bd (ix2 i j) = bd (ix2 i j) := by pointwise [k0_pay37]

theorem keyA0 (j : Fin 256) : k0_pay14 (k0_pay11 h w) (k0_pay12 h bd w) (Scalar.ofBits .f32 0x3C800000#32) g (ix3 0 j r)
    = headNorm (proj (fun k => h (ix2 r k)) fun k i => w (ix2 k i)) (fun i j => bd (ix2 i j)) (fun j => g (ix2 0 j)) j := by
  pointwise [k0_pay14, k0_pay13, k0_pay11, k0_pay12, headNorm, proj]

theorem keyA1 (j : Fin 256) : k0_pay17 (k0_pay16 h bd w g) (ix3 0 j r)
    = headNorm (proj (fun k => h (ix2 r k)) fun k i => w (ix2 k i)) (fun i j => bd (ix2 i j)) (fun j => g (ix2 0 j)) j := by
  pointwise [k0_pay17, k0_pay16, headNorm, proj]

theorem mixA (j : Fin 256) : k0_pay26 (k0_pay23 h w) (k0_pay24 h bd w) (k0_pay25 g) (ix2 r j)
    = mixed (proj (fun k => h (ix2 r k)) fun k i => w (ix2 k i)) (fun i j => bd (ix2 i j)) (fun j => g (ix2 0 j)) j := by
  pointwise [k0_pay26, k0_pay23, k0_pay24, k0_pay25, mixed, headNorm, proj]
  rw [lt_word]
  split <;> rfl

theorem mixA' (j : Fin 256) : k0_pay27 (k0_pay23 h w) (k0_pay24 h bd w) (k0_pay25 g) (ix3 0 j r)
    = mixed (proj (fun k => h (ix2 r k)) fun k i => w (ix2 k i)) (fun i j => bd (ix2 i j)) (fun j => g (ix2 0 j)) j := by
  pointwise [k0_pay27]
  exact mixA h bd w g r j

theorem valA0 (j : Fin 256) : k0_pay34 h w (ix2 r j) = proj (fun k => h (ix2 r k)) (fun k i => w (ix2 k i)) j := by
  pointwise [k0_pay34, proj]
theorem valA1 (j : Fin 256) : k0_pay1 h w (ix2 r j) = proj (fun k => h (ix2 r k)) (fun k i => w (ix2 k i)) j := by
  pointwise [k0_pay1, proj]

theorem keyB0 (j : Fin 256) : k0_pay43 (k0_pay41 h w) (k0_pay42 h bd w) (Scalar.ofBits .f32 0x3C800000#32) g (ix2 r j)
    = headNorm (proj (fun k => h (ix2 r k)) fun k i => w (ix2 k i)) (fun i j => bd (ix2 i j)) (fun j => g (ix2 0 j)) j := by
  pointwise [k0_pay43, k0_pay41, k0_pay42, headNorm, proj]

theorem keyB1 (j : Fin 256) : k0_pay44 h bd w g (ix2 r j)
    = headNorm (proj (fun k => h (ix2 r k)) fun k i => w (ix2 k i)) (fun i j => bd (ix2 i j)) (fun j => g (ix2 0 j)) j := by
  pointwise [k0_pay44, headNorm, proj]

theorem mixB (j : Fin 256) : k0_pay52 h bd w g (ix2 r j)
    = mixed (proj (fun k => h (ix2 r k)) fun k i => w (ix2 k i)) (fun i j => bd (ix2 i j)) (fun j => g (ix2 0 j)) j := by
  pointwise [k0_pay52, mixed, headNorm, proj]
  rw [lt_word]
  split <;> rfl

theorem valB0 (j : Fin 256) : k0_pay60 h w (ix2 r j) = proj (fun k => h (ix2 r k)) (fun k i => w (ix2 k i)) j := by
  pointwise [k0_pay60, proj]
theorem valB1 (j : Fin 256) : k0_pay62 h w (ix2 r j) = proj (fun k => h (ix2 r k)) (fun k i => w (ix2 k i)) j := by
  pointwise [k0_pay62, proj]
end

end Cert.Kernel3Ideal.Gen
end
-- ==== Proof.FirstVal.lean ====
module

public import proofs.«01_k».proof.Proof.FirstDat
public import proofs.«01_k».proof.Proof.FirstPay
public import Idealize.ShloMosaic.Lib.Pipeline.ValueKit

@[expose] public section

set_option maxRecDepth 16384

noncomputable section

namespace Cert.Kernel3Ideal.Gen

open Idealize.ShloMosaic Idealize.ShloMosaic.TcCoe Cert.Layer

theorem index0 : ∀ t : Fin grid0.N, win0_0.index t = ![t.val, 0] ∧ win0_1.index t = ![0, 0] ∧ win0_2.index t = ![0, 0]
    ∧ win0_3.index t = ![0, 0] ∧ win0_4.index t = ![0, 0] := by
  decide +kernel
theorem index1 : ∀ t : Fin grid0.N, win0_6.index t = ![0, 0] ∧ win0_7.index t = ![min t.val 31 / 4, 0, min t.val 31 % 4]
    ∧ win0_10.index t = ![t.val, 0] ∧ win0_11.index t = ![min t.val 31 / 4, 0, min t.val 31 % 4] ∧ win0_15.index t = ![t.val, 0] := by
  decide +kernel

variable (m : (ℓ : Loc nD τ sig) → Buf (Elt Ideal) ℓ) (c : Dev nD)

/-- The arrays the region reads. -/
abbrev aX : Vec Ideal S16896x1024 .f32 := V m c (Pipeline.arrRef spec0 0)
abbrev aG : Vec Ideal S1x1024 .f32 := V m c (Pipeline.arrRef spec0 1)
abbrev aW : Vec Ideal S1024x2816 .bf16 := V m c (Pipeline.arrRef spec0 2)
abbrev aN : Vec Ideal S1x1792 .f32 := V m c (Pipeline.arrRef spec0 3)
abbrev aT : Vec Ideal S256x256 .bf16 := V m c (Pipeline.arrRef spec0 4)

/-- A row after the norm. -/
def hRow (n : Fin 16896) : Fin 1024 → EReal := normRow (fun d => aX m c (ix2 n d)) (fun d => aG m c (ix2 0 d))

/-- The row's projection at one column. -/
def yRow (n : Fin 16896) (j : Fin 2816) : EReal := proj (hRow m c n) (fun k j => aW m c (ix2 k j)) j

/-- The row's keys of the differential attention in the `o`-th group of four halves of heads. -/
def keyAt (n : Fin 16896) (o : Fin 2) (j : Fin 256) : EReal :=
  headNorm (fun i => yRow m c n ⟨512 + 256 * o.val + i.val, by omega⟩) (fun i j => aT m c (ix2 i j))
    (fun j => aN m c (ix2 0 ⟨512 + 256 * o.val + j.val, by omega⟩)) j

/-- The row's keys of the differential attention. -/
def keyRow (n : Fin 16896) (d : Fin 512) : EReal := keyAt m c n ⟨d.val / 256, by omega⟩ ⟨d.val % 256, by omega⟩

/-- The row's values of the differential attention. -/
def valRow (n : Fin 16896) (d : Fin 512) : EReal := yRow m c n ⟨1792 + d.val, by omega⟩

/-- The row's keys, values and index keys of the sparse attention. -/
def mixRow (n : Fin 16896) (l : Fin 256) : EReal :=
  mixed (fun i => yRow m c n ⟨1536 + i.val, by omega⟩) (fun i j => aT m c (ix2 i j)) (fun j => aN m c (ix2 0 ⟨1536 + j.val, by omega⟩)) l

section blocks
variable (t : Fin cfg0.N)

theorem blk0_0 (r : Fin 512) (d : Fin 1024) (n : Fin 16896) (hn : n.val = t.val * 512 + r.val) :
    iblk m c 0 t (ix2 r d) = aX m c (ix2 n d) := by
  have e := (index0 t).1
  blk_ext [iblk, e]
theorem blk0_1 (d : Fin 1024) : iblk m c 1 t (ix2 0 d) = aG m c (ix2 0 d) := by
  have e := (index0 t).2.1
  blk_ext [iblk, e]
theorem blk0_2 (k : Fin 1024) (j : Fin 2816) : iblk m c 2 t (ix2 k j) = aW m c (ix2 k j) := by
  have e := (index0 t).2.2.1
  blk_ext [iblk, e]
theorem blk0_3 (j : Fin 1792) : iblk m c 3 t (ix2 0 j) = aN m c (ix2 0 j) := by
  have e := (index0 t).2.2.2.1
  blk_ext [iblk, e]
theorem blk0_4 (i j : Fin 256) : iblk m c 4 t (ix2 i j) = aT m c (ix2 i j) := by
  have e := (index0 t).2.2.2.2
  blk_ext [iblk, e]

/-- The columns of the weights loaded from column `o` on. -/
theorem ldW {q : ℕ} (o : ℕ) (ho : o + q ≤ 2816) (inb) (k : Fin 1024) (j : Fin q) :
    View.ld (iblk m c 2 t : Vec Ideal S1024x2816 .bf16) (Rect.unit ![0, o] ![1024, q] inb) (ix2 k j) = aW m c (ix2 k ⟨o + j.val, by omega⟩) := by
  refine (View.ld_unit_apply_of _ _ _ inb _ (ix2 k (⟨o + j.val, by omega⟩ : Fin 2816)) fun a => ?_).trans (blk0_2 m c t k _)
  match a with
  | ⟨0, _⟩ => exact (Nat.zero_add _).symm
  | ⟨1, _⟩ => exact rfl

/-- The norm's weights loaded from column `o` on. -/
theorem ldN (o : ℕ) (ho : o + 256 ≤ 1792) (inb) (j : Fin 256) :
    View.ld (iblk m c 3 t : Vec Ideal S1x1792 .f32) (Rect.unit ![0, o] ![1, 256] inb) (ix2 0 j) = aN m c (ix2 0 ⟨o + j.val, by omega⟩) := by
  refine (View.ld_unit_apply_of _ _ _ inb _ (ix2 0 (⟨o + j.val, by omega⟩ : Fin 1792)) fun a => ?_).trans (blk0_3 m c t _)
  match a with
  | ⟨0, _⟩ => exact rfl
  | ⟨1, _⟩ => exact rfl

theorem hA (r : Fin 512) (n : Fin 16896) (hn : n.val = t.val * 512 + r.val) (k : Fin 1024) :
    k0_pay6 (iblk m c 0 t : Vec Ideal S512x1024 .f32) (iblk m c 1 t : Vec Ideal S1x1024 .f32) (ix2 r k) = hRow m c n k := by
  rw [rowA]
  simp only [fun d => blk0_0 m c t r d n hn, blk0_1]; rfl
theorem hB (r : Fin 512) (n : Fin 16896) (hn : n.val = t.val * 512 + r.val) (k : Fin 1024) :
    k0_pay36 (iblk m c 0 t : Vec Ideal S512x1024 .f32) (iblk m c 1 t : Vec Ideal S1x1024 .f32) (ix2 r k) = hRow m c n k := by
  rw [rowB]
  simp only [fun d => blk0_0 m c t r d n hn, blk0_1]; rfl

/-- The keys of one group of heads, from the block's loads. -/
theorem key_piece (h : FVec Ideal S512x1024 .bf16) (bd : Vec Ideal S256x256 .bf16) (w : Vec Ideal S1024x256 .bf16) (g : Vec Ideal S1x256 .f32)
    (r : Fin 512) (n : Fin 16896) (o : Fin 2) (hh : ∀ k, h (ix2 r k) = hRow m c n k) (hb : ∀ i j, bd (ix2 i j) = aT m c (ix2 i j))
    (hw : ∀ k j, w (ix2 k j) = aW m c (ix2 k ⟨512 + 256 * o.val + j.val, by omega⟩))
    (hg : ∀ j, g (ix2 0 j) = aN m c (ix2 0 ⟨512 + 256 * o.val + j.val, by omega⟩)) (j : Fin 256) (d : Fin 512) (hd : d.val = 256 * o.val + j.val) :
    headNorm (proj (fun k => h (ix2 r k)) fun k i => w (ix2 k i)) (fun i j => bd (ix2 i j)) (fun j => g (ix2 0 j)) j = keyRow m c n d := by
  rw [keyRow, show (⟨d.val / 256, by omega⟩ : Fin 2) = o from Fin.ext (show d.val / 256 = o.val by omega),
    show (⟨d.val % 256, by omega⟩ : Fin 256) = j from Fin.ext (show d.val % 256 = j.val by omega)]
  simp only [hh, hb, hw, hg]
  rfl

/-- The values of one group of heads, from the block's loads. -/
theorem val_piece (h : FVec Ideal S512x1024 .bf16) (w : Vec Ideal S1024x256 .bf16)
    (r : Fin 512) (n : Fin 16896) (o : Fin 2) (hh : ∀ k, h (ix2 r k) = hRow m c n k)
    (hw : ∀ k j, w (ix2 k j) = aW m c (ix2 k ⟨1792 + 256 * o.val + j.val, by omega⟩)) (j : Fin 256) (d : Fin 512) (hd : d.val = 256 * o.val + j.val) :
    proj (fun k => h (ix2 r k)) (fun k i => w (ix2 k i)) j = valRow m c n d := by
  have e : (⟨1792 + d.val, by omega⟩ : Fin 2816) = ⟨1792 + 256 * o.val + j.val, by omega⟩ := Fin.ext (by simp only [hd]; omega)
  rw [valRow, e]
  simp only [proj, hh, hw]
  rfl

/-- The columns of the sparse attention, from the block's loads. -/
theorem mix_piece (h : FVec Ideal S512x1024 .bf16) (bd : Vec Ideal S256x256 .bf16) (w : Vec Ideal S1024x256 .bf16) (g : Vec Ideal S1x256 .f32)
    (r : Fin 512) (n : Fin 16896) (hh : ∀ k, h (ix2 r k) = hRow m c n k) (hb : ∀ i j, bd (ix2 i j) = aT m c (ix2 i j))
    (hw : ∀ k j, w (ix2 k j) = aW m c (ix2 k ⟨1536 + j.val, by omega⟩))
    (hg : ∀ j, g (ix2 0 j) = aN m c (ix2 0 ⟨1536 + j.val, by omega⟩)) (j : Fin 256) :
    mixed (proj (fun k => h (ix2 r k)) fun k i => w (ix2 k i)) (fun i j => bd (ix2 i j)) (fun j => g (ix2 0 j)) j = mixRow m c n j := by
  rw [mixRow]
  simp only [hh, hb, hw, hg]
  rfl

end blocks

theorem out0_A_7_eq (s : Fin 32) (d : Fin 512) (r : Fin 512) (n : Fin 16896) (hn : n.val = s.val * 512 + r.val) :
    out0_A_7 m c s (ix3 0 d r) = keyRow m c n d := by
  unfold out0_A_7 storesAt
  frame_out
  canon_tiles x h
  · idx_vars x
    obtain rfl : r = x2 := Fin.ext h2
    obtain rfl : x0 = 0 := Subsingleton.elim _ _
    have hd : d.val = 256 + x1.val := by first | exact h1 | exact h1.trans (Nat.zero_add _).symm
    exact (keyA1 _ _ _ _ r _).trans (key_piece m c _ _ _ _ r n 1 (fun k => hA m c (ptA s) r n hn k) (fun i j => (tabA _ i j).trans (blk0_4 m c (ptA s) i j)) (fun k j => ldW m c (ptA s) 768 (by decide) _ k j) (fun j => ldN m c (ptA s) 768 (by decide) _ j) _ d (by omega))
  · idx_vars x
    obtain rfl : r = x2 := Fin.ext h2
    obtain rfl : x0 = 0 := Subsingleton.elim _ _
    have hd : d.val = 0 + x1.val := by first | exact h1 | exact h1.trans (Nat.zero_add _).symm
    exact (keyA0 _ _ _ _ r _).trans (key_piece m c _ _ _ _ r n 0 (fun k => hA m c (ptA s) r n hn k) (fun i j => (tabA _ i j).trans (blk0_4 m c (ptA s) i j)) (fun k j => ldW m c (ptA s) 512 (by decide) _ k j) (fun j => ldN m c (ptA s) 512 (by decide) _ j) _ d (by omega))

theorem out0_A_15_eq (s : Fin 32) (d : Fin 512) (r : Fin 512) (n : Fin 16896) (hn : n.val = s.val * 512 + r.val) :
    out0_A_15 m c s (ix2 r d) = valRow m c n d := by
  unfold out0_A_15 storesAt
  frame_out
  canon_tiles x h
  · idx_vars x
    obtain rfl : r = x0 := Fin.ext h0
    have hd : d.val = 256 + x1.val := by first | exact h1 | exact h1.trans (Nat.zero_add _).symm
    exact (valA1 _ _ r _).trans (val_piece m c _ _ r n 1 (fun k => hA m c (ptA s) r n hn k) (fun k j => ldW m c (ptA s) 2048 (by decide) _ k j) _ d (by omega))
  · idx_vars x
    obtain rfl : r = x0 := Fin.ext h0
    have hd : d.val = 0 + x1.val := by first | exact h1 | exact h1.trans (Nat.zero_add _).symm
    exact (valA0 _ _ r _).trans (val_piece m c _ _ r n 0 (fun k => hA m c (ptA s) r n hn k) (fun k j => ldW m c (ptA s) 1792 (by decide) _ k j) _ d (by omega))

theorem out0_B_6_eq (d : Fin 512) (r : Fin 512) (n : Fin 16896) (hn : n.val = 32 * 512 + r.val) :
    out0_B_6 m c (ix2 r d) = keyRow m c n d := by
  unfold out0_B_6 storesLast
  frame_out
  canon_tiles x h
  · idx_vars x
    obtain rfl : r = x0 := Fin.ext h0
    have hd : d.val = 256 + x1.val := by first | exact h1 | exact h1.trans (Nat.zero_add _).symm
    exact (keyB1 _ _ _ _ r _).trans (key_piece m c _ _ _ _ r n 1 (fun k => hB m c ptB r n hn k) (fun i j => (tabB _ i j).trans (blk0_4 m c ptB i j)) (fun k j => ldW m c ptB 768 (by decide) _ k j) (fun j => ldN m c ptB 768 (by decide) _ j) _ d (by omega))
  · idx_vars x
    obtain rfl : r = x0 := Fin.ext h0
    have hd : d.val = 0 + x1.val := by first | exact h1 | exact h1.trans (Nat.zero_add _).symm
    exact (keyB0 _ _ _ _ r _).trans (key_piece m c _ _ _ _ r n 0 (fun k => hB m c ptB r n hn k) (fun i j => (tabB _ i j).trans (blk0_4 m c ptB i j)) (fun k j => ldW m c ptB 512 (by decide) _ k j) (fun j => ldN m c ptB 512 (by decide) _ j) _ d (by omega))

theorem out0_B_15_eq (d : Fin 512) (r : Fin 512) (n : Fin 16896) (hn : n.val = 32 * 512 + r.val) :
    out0_B_15 m c (ix2 r d) = valRow m c n d := by
  unfold out0_B_15 storesLast
  frame_out
  canon_tiles x h
  · idx_vars x
    obtain rfl : r = x0 := Fin.ext h0
    have hd : d.val = 256 + x1.val := by first | exact h1 | exact h1.trans (Nat.zero_add _).symm
    exact (valB1 _ _ r _).trans (val_piece m c _ _ r n 1 (fun k => hB m c ptB r n hn k) (fun k j => ldW m c ptB 2048 (by decide) _ k j) _ d (by omega))
  · idx_vars x
    obtain rfl : r = x0 := Fin.ext h0
    have hd : d.val = 0 + x1.val := by first | exact h1 | exact h1.trans (Nat.zero_add _).symm
    exact (valB0 _ _ r _).trans (val_piece m c _ _ r n 0 (fun k => hB m c ptB r n hn k) (fun k j => ldW m c ptB 1792 (by decide) _ k j) _ d (by omega))

theorem out0_A_10_eq (s : Fin 32) (l : Fin 256) (r : Fin 512) (n : Fin 16896) (hn : n.val = s.val * 512 + r.val) :
    out0_A_10 m c s (ix2 r l) = mixRow m c n l := by
  unfold out0_A_10 storesAt
  frame_out
  exact (mixA _ _ _ _ r l).trans (mix_piece m c _ _ _ _ r n (fun k => hA m c (ptA s) r n hn k) (fun i j => (tabA _ i j).trans (blk0_4 m c (ptA s) i j))
    (fun k j => ldW m c (ptA s) 1536 (by decide) _ k j) (fun j => ldN m c (ptA s) 1536 (by decide) _ j) l)

theorem out0_A_11_eq (s : Fin 32) (l : Fin 256) (r : Fin 512) (n : Fin 16896) (hn : n.val = s.val * 512 + r.val) :
    out0_A_11 m c s (ix3 0 l r) = mixRow m c n l := by
  unfold out0_A_11 storesAt
  frame_out
  exact (mixA' _ _ _ _ r l).trans (mix_piece m c _ _ _ _ r n (fun k => hA m c (ptA s) r n hn k) (fun i j => (tabA _ i j).trans (blk0_4 m c (ptA s) i j))
    (fun k j => ldW m c (ptA s) 1536 (by decide) _ k j) (fun j => ldN m c (ptA s) 1536 (by decide) _ j) l)

theorem out0_B_10_eq (l : Fin 256) (r : Fin 512) (n : Fin 16896) (hn : n.val = 32 * 512 + r.val) :
    out0_B_10 m c (ix2 r l) = mixRow m c n l := by
  unfold out0_B_10 storesLast
  frame_out
  exact (mixB _ _ _ _ r l).trans (mix_piece m c _ _ _ _ r n (fun k => hB m c ptB r n hn k) (fun i j => (tabB _ i j).trans (blk0_4 m c ptB i j))
    (fun k j => ldW m c ptB 1536 (by decide) _ k j) (fun j => ldN m c ptB 1536 (by decide) _ j) l)

end Cert.Kernel3Ideal.Gen
end
-- ==== Proof.FirstArr.lean ====
module

public import proofs.«01_k».proof.Proof.FirstVal

@[expose] public section

set_option maxRecDepth 16384

noncomputable section

namespace Cert.Kernel3Ideal.Gen

open Idealize.ShloMosaic Idealize.ShloMosaic.TcCoe Cert.Layer

variable (m : (ℓ : Loc nD τ sig) → Buf (Elt Ideal) ℓ) (c : Dev nD)

/-- The row of the token list at one place of one sequence. -/
abbrev place (b : Fin 8) (t : Fin 2048) : Fin 16896 := ⟨b.val * 2048 + t.val, by omega⟩

/-- The row of the token list at one row of the sampled tokens. -/
abbrev late (r : Fin 512) : Fin 16896 := ⟨16384 + r.val, by omega⟩

theorem arr0_6 : (dats m 0 c).arrAt 6 cfg0.N = fun i => keyRow m c (late (i 0)) (i 1) := by
  refine (dats m 0 c).arrAt_eq_of_covers 6 _ (by decide +kernel) fun t hf y => ?_
  have e := (index1 t).1
  have e0 : (((cfg0.win 6).blk t).view.emb y 0 : ℕ) = (y 0).val := by blk_simp [e]
  have e1 : (((cfg0.win 6).blk t).view.emb y 1 : ℕ) = (y 1).val := by blk_simp [e]
  dsimp only
  generalize ((cfg0.win 6).blk t).view.emb y 0 = n at e0 ⊢
  generalize ((cfg0.win 6).blk t).view.emb y 1 = d at e1 ⊢
  blk_simp
  rw [after0_6]
  idx_vars y
  obtain rfl : d = y1 := Fin.ext e1
  obtain rfl : n = y0 := Fin.ext e0
  exact out0_B_6_eq m c _ _ _ rfl

theorem arr0_7 : (dats m 0 c).arrAt 7 cfg0.N = fun i => keyRow m c (place (i 0) (i 2)) (i 1) := by
  refine (dats m 0 c).arrAt_eq_of_covers 7 _ (by decide +kernel) fun t hf y => ?_
  have e := (index1 t).2.1
  have e0 : (((cfg0.win 7).blk t).view.emb y 0 : ℕ) = min t.val 31 / 4 + (y 0).val := by blk_simp [e]
  have e1 : (((cfg0.win 7).blk t).view.emb y 1 : ℕ) = (y 1).val := by blk_simp [e]
  have e2 : (((cfg0.win 7).blk t).view.emb y 2 : ℕ) = min t.val 31 % 4 * 512 + (y 2).val := by blk_simp [e]
  dsimp only
  generalize ((cfg0.win 7).blk t).view.emb y 0 = n at e0 ⊢
  generalize ((cfg0.win 7).blk t).view.emb y 1 = d at e1 ⊢
  generalize ((cfg0.win 7).blk t).view.emb y 2 = p at e2 ⊢
  blk_simp
  rw [after0_7]
  idx_vars y
  obtain rfl : d = y1 := Fin.ext e1
  obtain rfl : y0 = 0 := Subsingleton.elim _ _
  exact out0_A_7_eq m c _ _ _ _ (by
    have h0 : (n : ℕ) = min t.val 31 / 4 := e0.trans (Nat.add_zero _)
    have h2 : (p : ℕ) = min t.val 31 % 4 * 512 + y2.val := e2
    show (n : ℕ) * 2048 + (p : ℕ) = min t.val 31 * 512 + y2.val
    omega)

theorem arr0_10 : (dats m 0 c).arrAt 10 cfg0.N = fun i => mixRow m c (i 0) (i 1) := by
  refine (dats m 0 c).arrAt_eq_of_covers 10 _ (by decide +kernel) fun t hf y => ?_
  have e := (index1 t).2.2.1
  have e0 : (((cfg0.win 10).blk t).view.emb y 0 : ℕ) = t.val * 512 + (y 0).val := by blk_simp [e]
  have e1 : (((cfg0.win 10).blk t).view.emb y 1 : ℕ) = (y 1).val := by blk_simp [e]
  dsimp only
  generalize ((cfg0.win 10).blk t).view.emb y 0 = n at e0 ⊢
  generalize ((cfg0.win 10).blk t).view.emb y 1 = d at e1 ⊢
  blk_simp
  idx_vars y
  obtain rfl : d = y1 := Fin.ext e1
  rcases pt_cases t with ⟨s, rfl⟩ | rfl
  · rw [after0_A_10]
    exact out0_A_10_eq m c s _ _ _ e0
  · rw [after0_B_10]
    exact out0_B_10_eq m c _ _ _ e0

theorem arr0_11 : (dats m 0 c).arrAt 11 cfg0.N = fun i => mixRow m c (place (i 0) (i 2)) (i 1) := by
  refine (dats m 0 c).arrAt_eq_of_covers 11 _ (by decide +kernel) fun t hf y => ?_
  have e := (index1 t).2.2.2.1
  have e0 : (((cfg0.win 11).blk t).view.emb y 0 : ℕ) = min t.val 31 / 4 + (y 0).val := by blk_simp [e]
  have e1 : (((cfg0.win 11).blk t).view.emb y 1 : ℕ) = (y 1).val := by blk_simp [e]
  have e2 : (((cfg0.win 11).blk t).view.emb y 2 : ℕ) = min t.val 31 % 4 * 512 + (y 2).val := by blk_simp [e]
  dsimp only
  generalize ((cfg0.win 11).blk t).view.emb y 0 = n at e0 ⊢
  generalize ((cfg0.win 11).blk t).view.emb y 1 = d at e1 ⊢
  generalize ((cfg0.win 11).blk t).view.emb y 2 = p at e2 ⊢
  blk_simp
  rw [after0_11]
  idx_vars y
  obtain rfl : d = y1 := Fin.ext e1
  obtain rfl : y0 = 0 := Subsingleton.elim _ _
  exact out0_A_11_eq m c _ _ _ _ (by
    have h0 : (n : ℕ) = min t.val 31 / 4 := e0.trans (Nat.add_zero _)
    have h2 : (p : ℕ) = min t.val 31 % 4 * 512 + y2.val := e2
    show (n : ℕ) * 2048 + (p : ℕ) = min t.val 31 * 512 + y2.val
    omega)

theorem arr0_15 : (dats m 0 c).arrAt 15 cfg0.N = fun i => valRow m c (i 0) (i 1) := by
  refine (dats m 0 c).arrAt_eq_of_covers 15 _ (by decide +kernel) fun t hf y => ?_
  have e := (index1 t).2.2.2.2
  have e0 : (((cfg0.win 15).blk t).view.emb y 0 : ℕ) = t.val * 512 + (y 0).val := by blk_simp [e]
  have e1 : (((cfg0.win 15).blk t).view.emb y 1 : ℕ) = (y 1).val := by blk_simp [e]
  dsimp only
  generalize ((cfg0.win 15).blk t).view.emb y 0 = n at e0 ⊢
  generalize ((cfg0.win 15).blk t).view.emb y 1 = d at e1 ⊢
  blk_simp
  idx_vars y
  obtain rfl : d = y1 := Fin.ext e1
  rcases pt_cases t with ⟨s, rfl⟩ | rfl
  · rw [after0_A_15]
    exact out0_A_15_eq m c s _ _ _ e0
  · rw [after0_B_15]
    exact out0_B_15_eq m c _ _ _ e0

end Cert.Kernel3Ideal.Gen
end
-- ==== Proof.FirstHost.lean ====
module

public import proofs.«01_k».proof.Proof.FirstArr
public import Idealize.ShloMosaic.Lib.Claim
public import Idealize.ShloMosaic.Lib.Pipeline.Regions

@[expose] public section
set_option maxRecDepth 16384
noncomputable section
namespace Cert.Kernel3Ideal.Gen

open Idealize.ShloMosaic Idealize.ShloMosaic.TcCoe Cert.Layer

variable (σ : Valuation τ sig (Elt Ideal))

/-- The projection's weights in the order the kernel takes them: ten runs of columns, one of them of zeros. -/
theorem weights_eq : (StableHlo.after hostOps0 σ (Proc.devRef .tc main_v10) : Vec Ideal S1024x2816 .f32)
    = concatenate S1024x2816 1 [
        ⟨S1024x512, extractStridedSlice S1024x512 ![0, 0] (σ (Proc.devRef .tc main_arg2)) slices_S1024x2760_S1024x512_0_0⟩,
        ⟨S1024x512, extractStridedSlice S1024x512 ![0, 512] (σ (Proc.devRef .tc main_arg2)) slices_S1024x2760_S1024x512_0_512⟩,
        ⟨S1024x512, extractStridedSlice S1024x512 ![0, 1536] (σ (Proc.devRef .tc main_arg2)) slices_S1024x2760_S1024x512_0_1536⟩,
        ⟨S1024x64, extractStridedSlice S1024x64 ![0, 2048] (σ (Proc.devRef .tc main_arg2)) slices_S1024x2760_S1024x64_0_2048⟩,
        ⟨S1024x64, extractStridedSlice S1024x64 ![0, 2112] (σ (Proc.devRef .tc main_arg2)) slices_S1024x2760_S1024x64_0_2112⟩,
        ⟨S1024x64, extractStridedSlice S1024x64 ![0, 2688] (σ (Proc.devRef .tc main_arg2)) slices_S1024x2760_S1024x64_0_2688⟩,
        ⟨S1024x8, extractStridedSlice S1024x8 ![0, 2752] (σ (Proc.devRef .tc main_arg2)) slices_S1024x2760_S1024x8_0_2752⟩,
        ⟨S1024x56, (StableHlo.after hostOps0 σ (Proc.devRef .tc main_v9) : Vec Ideal S1024x56 .f32)⟩,
        ⟨S1024x512, extractStridedSlice S1024x512 ![0, 1024] (σ (Proc.devRef .tc main_arg2)) slices_S1024x2760_S1024x512_0_1024⟩,
        ⟨S1024x512, extractStridedSlice S1024x512 ![0, 2176] (σ (Proc.devRef .tc main_arg2)) slices_S1024x2760_S1024x512_0_2176⟩]
        concatenates_S1024x512_S1024x512_S1024x512_S1024x64_S1024x64_S1024x64_S1024x8_S1024x56_S1024x512_S1024x512_S1024x2816_d1 := by
  chain_rfl

theorem weight_cast (k : Fin 1024) (j : Fin 2816) :
    (StableHlo.after hostOps0 σ (Proc.devRef .tc main_v11) : Vec Ideal S1024x2816 .bf16) (ix2 k j)
      = (StableHlo.after hostOps0 σ (Proc.devRef .tc main_v10) : Vec Ideal S1024x2816 .f32) (ix2 k j) := by
  chain_rfl

/-- The columns of the differential attention's keys. -/
theorem weight_key (k : Fin 1024) (j : Fin 2816) (e : Fin 2760) (h0 : 512 ≤ j.val) (h1 : j.val < 1024) (h : j.val = e.val) :
    (StableHlo.after hostOps0 σ (Proc.devRef .tc main_v11) : Vec Ideal S1024x2816 .bf16) (ix2 k j) = (σ (Proc.devRef .tc main_arg2) : Vec Ideal S1024x2760 .f32) (ix2 k e) := by
  rw [weight_cast, weights_eq]
  refine (concatenate_apply_piece (t := S1024x2816) 1 _ _ (ix2 k j) 1 (by simp) S1024x512 _ rfl rfl 512 (by simp) (ix2 k ⟨j.val - 512, by omega⟩)
    (fun b hb => by fin_cases b <;> simp at hb ⊢) (by show 512 + (j.val - 512) = j.val; omega)).trans ?_
  pointwise
  exact congrArg _ (congrArg (ix2 k) (Fin.ext (by simp only; omega)))

/-- The columns of the sparse attention's keys. -/
theorem weight_skey (k : Fin 1024) (j : Fin 2816) (e : Fin 2760) (h0 : 1536 ≤ j.val) (h1 : j.val < 1600) (h : j.val + 512 = e.val) :
    (StableHlo.after hostOps0 σ (Proc.devRef .tc main_v11) : Vec Ideal S1024x2816 .bf16) (ix2 k j) = (σ (Proc.devRef .tc main_arg2) : Vec Ideal S1024x2760 .f32) (ix2 k e) := by
  rw [weight_cast, weights_eq]
  refine (concatenate_apply_piece (t := S1024x2816) 1 _ _ (ix2 k j) 3 (by simp) S1024x64 _ rfl rfl 1536 (by simp) (ix2 k ⟨j.val - 1536, by omega⟩)
    (fun b hb => by fin_cases b <;> simp at hb ⊢) (by show 1536 + (j.val - 1536) = j.val; omega)).trans ?_
  pointwise
  exact congrArg _ (congrArg (ix2 k) (Fin.ext (by simp only; omega)))

/-- The columns of the sparse attention's values. -/
theorem weight_sval (k : Fin 1024) (j : Fin 2816) (e : Fin 2760) (h0 : 1600 ≤ j.val) (h1 : j.val < 1664) (h : j.val + 512 = e.val) :
    (StableHlo.after hostOps0 σ (Proc.devRef .tc main_v11) : Vec Ideal S1024x2816 .bf16) (ix2 k j) = (σ (Proc.devRef .tc main_arg2) : Vec Ideal S1024x2760 .f32) (ix2 k e) := by
  rw [weight_cast, weights_eq]
  refine (concatenate_apply_piece (t := S1024x2816) 1 _ _ (ix2 k j) 4 (by simp) S1024x64 _ rfl rfl 1600 (by simp) (ix2 k ⟨j.val - 1600, by omega⟩)
    (fun b hb => by fin_cases b <;> simp at hb ⊢) (by show 1600 + (j.val - 1600) = j.val; omega)).trans ?_
  pointwise
  exact congrArg _ (congrArg (ix2 k) (Fin.ext (by simp only; omega)))

/-- The columns of the index keys. -/
theorem weight_ikey (k : Fin 1024) (j : Fin 2816) (e : Fin 2760) (h0 : 1664 ≤ j.val) (h1 : j.val < 1728) (h : j.val + 1024 = e.val) :
    (StableHlo.after hostOps0 σ (Proc.devRef .tc main_v11) : Vec Ideal S1024x2816 .bf16) (ix2 k j) = (σ (Proc.devRef .tc main_arg2) : Vec Ideal S1024x2760 .f32) (ix2 k e) := by
  rw [weight_cast, weights_eq]
  refine (concatenate_apply_piece (t := S1024x2816) 1 _ _ (ix2 k j) 5 (by simp) S1024x64 _ rfl rfl 1664 (by simp) (ix2 k ⟨j.val - 1664, by omega⟩)
    (fun b hb => by fin_cases b <;> simp at hb ⊢) (by show 1664 + (j.val - 1664) = j.val; omega)).trans ?_
  pointwise
  exact congrArg _ (congrArg (ix2 k) (Fin.ext (by simp only; omega)))

/-- The columns of the index weights. -/
theorem weight_iwt (k : Fin 1024) (j : Fin 2816) (e : Fin 2760) (h0 : 1728 ≤ j.val) (h1 : j.val < 1736) (h : j.val + 1024 = e.val) :
    (StableHlo.after hostOps0 σ (Proc.devRef .tc main_v11) : Vec Ideal S1024x2816 .bf16) (ix2 k j) = (σ (Proc.devRef .tc main_arg2) : Vec Ideal S1024x2760 .f32) (ix2 k e) := by
  rw [weight_cast, weights_eq]
  refine (concatenate_apply_piece (t := S1024x2816) 1 _ _ (ix2 k j) 6 (by simp) S1024x8 _ rfl rfl 1728 (by simp) (ix2 k ⟨j.val - 1728, by omega⟩)
    (fun b hb => by fin_cases b <;> simp at hb ⊢) (by show 1728 + (j.val - 1728) = j.val; omega)).trans ?_
  pointwise
  exact congrArg _ (congrArg (ix2 k) (Fin.ext (by simp only; omega)))

/-- The columns of the differential attention's values. -/
theorem weight_val (k : Fin 1024) (j : Fin 2816) (e : Fin 2760) (h0 : 1792 ≤ j.val) (h1 : j.val < 2304) (h : j.val = e.val + 768) :
    (StableHlo.after hostOps0 σ (Proc.devRef .tc main_v11) : Vec Ideal S1024x2816 .bf16) (ix2 k j) = (σ (Proc.devRef .tc main_arg2) : Vec Ideal S1024x2760 .f32) (ix2 k e) := by
  rw [weight_cast, weights_eq]
  refine (concatenate_apply_piece (t := S1024x2816) 1 _ _ (ix2 k j) 8 (by simp) S1024x512 _ rfl rfl 1792 (by simp) (ix2 k ⟨j.val - 1792, by omega⟩)
    (fun b hb => by fin_cases b <;> simp at hb ⊢) (by show 1792 + (j.val - 1792) = j.val; omega)).trans ?_
  pointwise
  exact congrArg _ (congrArg (ix2 k) (Fin.ext (by simp only; omega)))

/-- The columns of zeros. -/
theorem weight_pad (k : Fin 1024) (j : Fin 2816) (h0 : 1736 ≤ j.val) (h1 : j.val < 1792) :
    (StableHlo.after hostOps0 σ (Proc.devRef .tc main_v11) : Vec Ideal S1024x2816 .bf16) (ix2 k j) = (0 : EReal) := by
  rw [weight_cast, weights_eq]
  refine (concatenate_apply_piece (t := S1024x2816) 1 _ _ (ix2 k j) 7 (by simp) S1024x56 _ rfl rfl 1736 (by simp) (ix2 k ⟨j.val - 1736, by omega⟩)
    (fun b hb => by fin_cases b <;> simp at hb ⊢) (by show 1736 + (j.val - 1736) = j.val; omega)).trans ?_
  entry_read
  pointwise

/-- The norms' weights, repeated for every half of a head. -/
theorem gains_eq : (StableHlo.after hostOps0 σ (Proc.devRef .tc main_v23) : Vec Ideal S1x1792 .f32)
    = broadcastInDim S1x1792 ![1] bcast_S1792_S1x1792_1 (StableHlo.after hostOps0 σ (Proc.devRef .tc main_v22) : Vec Ideal S1792 .f32) := by
  chain_rfl

theorem gain_eq : (StableHlo.after hostOps0 σ (Proc.devRef .tc main_v22) : Vec Ideal S1792 .f32)
    = concatenate S1792 0 [
        ⟨S512, (StableHlo.after hostOps0 σ (Proc.devRef .tc main_v14) : Vec Ideal S512 .f32)⟩,
        ⟨S512, (StableHlo.after hostOps0 σ (Proc.devRef .tc main_v17) : Vec Ideal S512 .f32)⟩,
        ⟨S512, (StableHlo.after hostOps0 σ (Proc.devRef .tc main_v20) : Vec Ideal S512 .f32)⟩,
        ⟨S64, (σ (Proc.devRef .tc main_arg6) : Vec Ideal S64 .f32)⟩,
        ⟨S192, (StableHlo.after hostOps0 σ (Proc.devRef .tc main_v21) : Vec Ideal S192 .f32)⟩]
        concatenates_S512_S512_S512_S64_S192_S1792_d0 := by
  chain_rfl

/-- The weights of the differential attention's key norm, one half of a head after another. -/
theorem gain_key (l : Fin 1792) (e : Fin 64) (h0 : 512 ≤ l.val) (h1 : l.val < 1024) (he : e.val = l.val % 64) :
    (StableHlo.after hostOps0 σ (Proc.devRef .tc main_v23) : Vec Ideal S1x1792 .f32) (ix2 0 l) = (σ (Proc.devRef .tc main_arg4) : Vec Ideal S64 .f32) (ix1 e) := by
  rw [gains_eq]
  refine Eq.trans (b := (StableHlo.after hostOps0 σ (Proc.devRef .tc main_v22) : Vec Ideal S1792 .f32) (ix1 l)) (by pointwise) ?_
  rw [gain_eq]
  refine (concatenate_apply_piece (t := S1792) 0 _ _ (ix1 l) 1 (by simp) S512 _ rfl rfl 512 (by simp) (ix1 ⟨l.val - 512, by omega⟩)
    (fun b hb => by fin_cases b; simp at hb) (by show 512 + (l.val - 512) = l.val; omega)).trans ?_
  entry_read
  pointwise
  exact congrArg _ (congrArg ix1 (Fin.ext (by simp only; omega)))

/-- The weights of the sparse attention's key norm. -/
theorem gain_skey (l : Fin 1792) (e : Fin 64) (h : l.val = 1536 + e.val) :
    (StableHlo.after hostOps0 σ (Proc.devRef .tc main_v23) : Vec Ideal S1x1792 .f32) (ix2 0 l) = (σ (Proc.devRef .tc main_arg6) : Vec Ideal S64 .f32) (ix1 e) := by
  rw [gains_eq]
  refine Eq.trans (b := (StableHlo.after hostOps0 σ (Proc.devRef .tc main_v22) : Vec Ideal S1792 .f32) (ix1 l)) (by pointwise) ?_
  rw [gain_eq]
  exact concatenate_apply_piece (t := S1792) 0 _ _ (ix1 l) 3 (by simp) S64 _ rfl rfl 1536 (by simp) (ix1 e)
    (fun b hb => by fin_cases b; simp at hb) (by show 1536 + e.val = l.val; omega)

theorem rowgain_entry (k : Fin 1024) : (StableHlo.after hostOps0 σ (Proc.devRef .tc main_v32) : Vec Ideal S1x1024 .f32) (ix2 0 k)
    = (σ (Proc.devRef .tc main_arg1) : Vec Ideal S1024 .f32) (ix1 k) := by
  entry_read
  pointwise

theorem quot_word : ∀ i : Fin 256, IntOp.divsi .host (BitVec.ofNat 32 i.val) 64#32 = BitVec.ofNat 32 (i.val / 64) := by decide +kernel
theorem same_word : ∀ a b : Fin 4, IntOp.cmpi .eq (BitVec.ofNat 32 a.val) (BitVec.ofNat 32 b.val) = if a = b then 1#1 else 0#1 := by decide +kernel

/-- The table of which two columns belong to one head. -/
theorem table_entry (i j : Fin 256) : (StableHlo.after hostOps0 σ (Proc.devRef .tc main_v31) : Vec Ideal S256x256 .bf16) (ix2 i j)
    = if i.val / 64 = j.val / 64 then (1 : EReal) else 0 := by
  entry_read
  pointwise
  rw [quot_word i, quot_word j]
  have h := same_word ⟨i.val / 64, by omega⟩ ⟨j.val / 64, by omega⟩
  by_cases e : i.val / 64 = j.val / 64
  · rw [if_pos e]
    rw [if_pos (Fin.ext e)] at h
    refine (congrArg (FloatOps.uitofp FTy.bf16) h).trans ?_
    show (((1#1 : BitVec 1).toNat : ℝ) : EReal) = 1
    norm_num
  · rw [if_neg e]
    rw [if_neg (fun q => e (congrArg Fin.val q))] at h
    refine (congrArg (FloatOps.uitofp FTy.bf16) h).trans ?_
    show (((0#1 : BitVec 1).toNat : ℝ) : EReal) = 0
    norm_num

end Cert.Kernel3Ideal.Gen
end
-- ==== Proof.FirstLayer.lean ====
module

public import proofs.«01_k».proof.Proof.ProjLayer
public import proofs.«01_k».proof.Proof.FirstPay

@[expose] public section

set_option maxRecDepth 16384

noncomputable section

namespace Cert.Layer

open Idealize.ShloMosaic

/-- The first layer's projection's arguments, entry by entry: the rows, the norm's weights, the projection's weights, and
    the weights of the two key norms. -/
structure FirstArgs where
  x : Fin 16896 → Fin 1024 → EReal
  g : Fin 1024 → EReal
  w : Fin 1024 → Fin 2760 → EReal
  ka : Fin 64 → EReal
  kb : Fin 64 → EReal

/-- What the projections are computed from holds reals. -/
structure FirstArgs.Finite (A : FirstArgs) : Prop where
  g : ∀ i, IsReal (A.g i)
  w : ∀ i j, IsReal (A.w i j)

variable (A : FirstArgs)

/-- A row's projection at one column. -/
def FirstArgs.y (n : Fin 16896) (e : Fin 2760) : EReal := proj (normRow (A.x n) A.g) A.w e

/-- The differential attention's keys of one half of a head of a row. -/
def FirstArgs.key (n : Fin 16896) (o : Fin 4) (p : Fin 2) (j : Fin 64) : EReal :=
  headRow (fun i => A.y n ⟨512 + (128 * o.val + 64 * p.val + i.val), by omega⟩) A.ka j

/-- The differential attention's values of one head of a row. -/
def FirstArgs.val (n : Fin 16896) (o : Fin 4) (j : Fin 128) : EReal := A.y n ⟨1024 + (128 * o.val + j.val), by omega⟩

/-- The sparse attention's keys of a row. -/
def FirstArgs.skey (n : Fin 16896) (j : Fin 64) : EReal := headRow (fun i => A.y n ⟨2048 + i.val, by omega⟩) A.kb j

/-- The sparse attention's values of a row. -/
def FirstArgs.sval (n : Fin 16896) (j : Fin 64) : EReal := A.y n ⟨2112 + j.val, by omega⟩

/-- The index keys of a row. -/
def FirstArgs.ikey (n : Fin 16896) (j : Fin 64) : EReal := A.y n ⟨2688 + j.val, by omega⟩

theorem FirstArgs.y_real {A : FirstArgs} (h : A.Finite) (n : Fin 16896) (e : Fin 2760) : IsReal (A.y n e) :=
  IsReal.sum fun k => (normRow_real h.g k).mul (h.w k e)

end Cert.Layer
end
-- ==== Proof.FirstFrame.lean ====
module

public import proofs.«01_k».proof.Proof.FirstDat
public import Idealize.ShloMosaic.Lib.Claim

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d)))

/-- What it hands back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t)

/-- A window the body stores into is handed back at its new contents. -/
theorem leaves_live (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

/-- A window written back at a point is handed back at its final contents. -/
theorem leaves_flush (c : Dev nD) (w : Fin cfg0.W) (t : Fin cfg0.N) (h : cfg0.idle w (cfg0.grid.coords t) = true) (hf : (cfg0.win w).flush t = true) :
    (dats m 0 c).leavesExact w t = owns (c : Thread nD τ) ((cfg0.win w).stage (cfg0.slots t w)) fullShare ((dats m 0 c).after w t) := by
  unfold Dat.leavesExact; rw [h, hf]

theorem leaves0_0 (c : Dev nD) (t : Fin cfg0.N) : (dats m 0 c).leavesExact 0 t = owns (c : Thread nD τ) (ms0_0 t) fullShare (iblk m c 0 t) := by
  rw [leaves_live m c 0 t rfl, after0_0]
theorem leaves0_1 (c : Dev nD) (t : Fin cfg0.N) : (dats m 0 c).leavesExact 1 t = owns (c : Thread nD τ) (ms0_1 t) fullShare (iblk m c 1 t) := by
  rw [leaves_live m c 1 t rfl, after0_1]
theorem leaves0_2 (c : Dev nD) (t : Fin cfg0.N) : (dats m 0 c).leavesExact 2 t = owns (c : Thread nD τ) (ms0_2 t) fullShare (iblk m c 2 t) := by
  rw [leaves_live m c 2 t rfl, after0_2]
theorem leaves0_3 (c : Dev nD) (t : Fin cfg0.N) : (dats m 0 c).leavesExact 3 t = owns (c : Thread nD τ) (ms0_3 t) fullShare (iblk m c 3 t) := by
  rw [leaves_live m c 3 t rfl, after0_3]
theorem leaves0_4 (c : Dev nD) (t : Fin cfg0.N) : (dats m 0 c).leavesExact 4 t = owns (c : Thread nD τ) (ms0_4 t) fullShare (iblk m c 4 t) := by
  rw [leaves_live m c 4 t rfl, after0_4]
theorem leaves0_A_5 (c : Dev nD) (s : Fin 32) : (dats m 0 c).leavesExact 5 (ptA s) = owns (c : Thread nD τ) (ms0_5 (ptA s)) fullShare (out0_A_5 m c s) := by
  rw [leaves_live m c 5 (ptA s) ((by decide +kernel : ∀ s, cfg0.idle 5 (cfg0.grid.coords (ptA s)) = false) s), after0_A_5]
theorem leaves0_B_5 (c : Dev nD) : (dats m 0 c).leavesExact 5 ptB = owns (c : Thread nD τ) (ms0_5 ptB) fullShare (out0_B_5 m c) := by
  rw [leaves_live m c 5 ptB (by decide +kernel), after0_B_5]
theorem leaves0_A_6 (c : Dev nD) (s : Fin 32) : (dats m 0 c).leavesExact 6 (ptA s) = iprop(∃ d, owns (c : Thread nD τ) (ms0_6 (ptA s)) fullShare ((dats m 0 c).before 6 (ptA s) d)) :=
  (dats m 0 c).leavesExact_idle 6 (ptA s) ((by decide +kernel : ∀ s, cfg0.idle 6 (cfg0.grid.coords (ptA s)) = true) s)
    ((by decide +kernel : ∀ s, (cfg0.win 6).flush (ptA s) = false) s)
theorem leaves0_B_6 (c : Dev nD) : (dats m 0 c).leavesExact 6 ptB = owns (c : Thread nD τ) (ms0_6 ptB) fullShare (out0_B_6 m c) := by
  rw [leaves_live m c 6 ptB (by decide +kernel), after0_B_6]
theorem leaves0_A_7 (c : Dev nD) (s : Fin 32) : (dats m 0 c).leavesExact 7 (ptA s) = owns (c : Thread nD τ) (ms0_7 (ptA s)) fullShare (out0_A_7 m c s) := by
  rw [leaves_live m c 7 (ptA s) ((by decide +kernel : ∀ s, cfg0.idle 7 (cfg0.grid.coords (ptA s)) = false) s), after0_A_7]
theorem leaves0_B_7 (c : Dev nD) : (dats m 0 c).leavesExact 7 ptB = owns (c : Thread nD τ) (ms0_7 ptB) fullShare (out0_A_7 m c 31) := by
  rw [leaves_flush m c 7 ptB (by decide +kernel) (by decide +kernel), after0_B_7]
theorem leaves0_A_8 (c : Dev nD) (s : Fin 32) : (dats m 0 c).leavesExact 8 (ptA s) = owns (c : Thread nD τ) (ms0_8 (ptA s)) fullShare (out0_A_8 m c s) := by
  rw [leaves_live m c 8 (ptA s) ((by decide +kernel : ∀ s, cfg0.idle 8 (cfg0.grid.coords (ptA s)) = false) s), after0_A_8]
theorem leaves0_B_8 (c : Dev nD) : (dats m 0 c).leavesExact 8 ptB = owns (c : Thread nD τ) (ms0_8 ptB) fullShare (out0_A_8 m c 31) := by
  rw [leaves_flush m c 8 ptB (by decide +kernel) (by decide +kernel), after0_B_8]
theorem leaves0_A_9 (c : Dev nD) (s : Fin 32) : (dats m 0 c).leavesExact 9 (ptA s) = owns (c : Thread nD τ) (ms0_9 (ptA s)) fullShare (out0_A_9 m c s) := by
  rw [leaves_live m c 9 (ptA s) ((by decide +kernel : ∀ s, cfg0.idle 9 (cfg0.grid.coords (ptA s)) = false) s), after0_A_9]
theorem leaves0_B_9 (c : Dev nD) : (dats m 0 c).leavesExact 9 ptB = owns (c : Thread nD τ) (ms0_9 ptB) fullShare (out0_B_9 m c) := by
  rw [leaves_live m c 9 ptB (by decide +kernel), after0_B_9]
theorem leaves0_A_10 (c : Dev nD) (s : Fin 32) : (dats m 0 c).leavesExact 10 (ptA s) = owns (c : Thread nD τ) (ms0_10 (ptA s)) fullShare (out0_A_10 m c s) := by
  rw [leaves_live m c 10 (ptA s) ((by decide +kernel : ∀ s, cfg0.idle 10 (cfg0.grid.coords (ptA s)) = false) s), after0_A_10]
theorem leaves0_B_10 (c : Dev nD) : (dats m 0 c).leavesExact 10 ptB = owns (c : Thread nD τ) (ms0_10 ptB) fullShare (out0_B_10 m c) := by
  rw [leaves_live m c 10 ptB (by decide +kernel), after0_B_10]
theorem leaves0_A_11 (c : Dev nD) (s : Fin 32) : (dats m 0 c).leavesExact 11 (ptA s) = owns (c : Thread nD τ) (ms0_11 (ptA s)) fullShare (out0_A_11 m c s) := by
  rw [leaves_live m c 11 (ptA s) ((by decide +kernel : ∀ s, cfg0.idle 11 (cfg0.grid.coords (ptA s)) = false) s), after0_A_11]
theorem leaves0_B_11 (c : Dev nD) : (dats m 0 c).leavesExact 11 ptB = owns (c : Thread nD τ) (ms0_11 ptB) fullShare (out0_A_11 m c 31) := by
  rw [leaves_flush m c 11 ptB (by decide +kernel) (by decide +kernel), after0_B_11]
theorem leaves0_A_12 (c : Dev nD) (s : Fin 32) : (dats m 0 c).leavesExact 12 (ptA s) = owns (c : Thread nD τ) (ms0_12 (ptA s)) fullShare (out0_A_12 m c s) := by
  rw [leaves_live m c 12 (ptA s) ((by decide +kernel : ∀ s, cfg0.idle 12 (cfg0.grid.coords (ptA s)) = false) s), after0_A_12]
theorem leaves0_B_12 (c : Dev nD) : (dats m 0 c).leavesExact 12 ptB = owns (c : Thread nD τ) (ms0_12 ptB) fullShare (out0_B_12 m c) := by
  rw [leaves_live m c 12 ptB (by decide +kernel), after0_B_12]
theorem leaves0_A_13 (c : Dev nD) (s : Fin 32) : (dats m 0 c).leavesExact 13 (ptA s) = owns (c : Thread nD τ) (ms0_13 (ptA s)) fullShare (out0_A_13 m c s) := by
  rw [leaves_live m c 13 (ptA s) ((by decide +kernel : ∀ s, cfg0.idle 13 (cfg0.grid.coords (ptA s)) = false) s), after0_A_13]
theorem leaves0_B_13 (c : Dev nD) : (dats m 0 c).leavesExact 13 ptB = owns (c : Thread nD τ) (ms0_13 ptB) fullShare (out0_B_13 m c) := by
  rw [leaves_live m c 13 ptB (by decide +kernel), after0_B_13]
theorem leaves0_A_14 (c : Dev nD) (s : Fin 32) : (dats m 0 c).leavesExact 14 (ptA s) = owns (c : Thread nD τ) (ms0_14 (ptA s)) fullShare (out0_A_14 m c s) := by
  rw [leaves_live m c 14 (ptA s) ((by decide +kernel : ∀ s, cfg0.idle 14 (cfg0.grid.coords (ptA s)) = false) s), after0_A_14]
theorem leaves0_B_14 (c : Dev nD) : (dats m 0 c).leavesExact 14 ptB = owns (c : Thread nD τ) (ms0_14 ptB) fullShare (out0_B_14 m c) := by
  rw [leaves_live m c 14 ptB (by decide +kernel), after0_B_14]
theorem leaves0_A_15 (c : Dev nD) (s : Fin 32) : (dats m 0 c).leavesExact 15 (ptA s) = owns (c : Thread nD τ) (ms0_15 (ptA s)) fullShare (out0_A_15 m c s) := by
  rw [leaves_live m c 15 (ptA s) ((by decide +kernel : ∀ s, cfg0.idle 15 (cfg0.grid.coords (ptA s)) = false) s), after0_A_15]
theorem leaves0_B_15 (c : Dev nD) : (dats m 0 c).leavesExact 15 ptB = owns (c : Thread nD τ) (ms0_15 ptB) fullShare (out0_B_15 m c) := by
  rw [leaves_live m c 15 ptB (by decide +kernel), after0_B_15]
theorem leaves0_A_16 (c : Dev nD) (s : Fin 32) : (dats m 0 c).leavesExact 16 (ptA s) = owns (c : Thread nD τ) (ms0_16 (ptA s)) fullShare (out0_A_16 m c s) := by
  rw [leaves_live m c 16 (ptA s) ((by decide +kernel : ∀ s, cfg0.idle 16 (cfg0.grid.coords (ptA s)) = false) s), after0_A_16]
theorem leaves0_B_16 (c : Dev nD) : (dats m 0 c).leavesExact 16 ptB = owns (c : Thread nD τ) (ms0_16 ptB) fullShare (out0_B_16 m c) := by
  rw [leaves_live m c 16 ptB (by decide +kernel), after0_B_16]
theorem leaves0_A_17 (c : Dev nD) (s : Fin 32) : (dats m 0 c).leavesExact 17 (ptA s) = owns (c : Thread nD τ) (ms0_17 (ptA s)) fullShare (out0_A_17 m c s) := by
  rw [leaves_live m c 17 (ptA s) ((by decide +kernel : ∀ s, cfg0.idle 17 (cfg0.grid.coords (ptA s)) = false) s), after0_A_17]
theorem leaves0_B_17 (c : Dev nD) : (dats m 0 c).leavesExact 17 ptB = owns (c : Thread nD τ) (ms0_17 ptB) fullShare (out0_B_17 m c) := by
  rw [leaves_live m c 17 ptB (by decide +kernel), after0_B_17]

set_option maxHeartbeats 1600000 in
theorem sound_A (c : Dev nD) (s : Fin 32) :
    bodyPre m c (ptA s) ⊢ wp frame (wpE (defs₀ (F := F)) Variants.none c none) Set.univ (bodyAt0 (ptA s)) (fun _ => bodyPost m c (ptA s)) := by
  unfold bodyPre bodyPost bodyAt0
  simp only [before0_0, before0_1, before0_2, before0_3, before0_4]
  rw [show (dats m 0 c).Φ (ptA s).succ = (dats m 0 c).Φ (ptA s).castSucc from rfl,
    show (dats m 0 c).owesAt () (ptA s).succ = (dats m 0 c).owesAt () (ptA s).castSucc from rfl,
    leaves0_0, leaves0_1, leaves0_2, leaves0_3, leaves0_4, leaves0_A_5, leaves0_A_6, leaves0_A_7, leaves0_A_8, leaves0_A_9, leaves0_A_10, leaves0_A_11, leaves0_A_12, leaves0_A_13, leaves0_A_14, leaves0_A_15, leaves0_A_16, leaves0_A_17]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply ((storesAt m c s).2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  iintro ⟨H0, H1, H2, H3, H4, ⟨%e5, H5⟩, ⟨%e7, H7⟩, ⟨%e8, H8⟩, ⟨%e9, H9⟩, ⟨%e10, H10⟩, ⟨%e11, H11⟩, ⟨%e12, H12⟩, ⟨%e13, H13⟩, ⟨%e14, H14⟩, ⟨%e15, H15⟩, ⟨%e16, H16⟩, ⟨%e17, H17⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_eq_canon _ _ _ (cover0_A_5 m c s)
  isplitl [H6]; · iexists _; iexact H6
  isplitl [H7]
  · unfold owns; iexists _; isplitr
    swap; · iexact H7
    ipureintro; exact View.read_writes_eq_canon _ _ _ (cover0_A_7 m c s)
  isplitl [H8]
  · unfold owns; iexists _; isplitr
    swap; · iexact H8
    ipureintro; exact View.read_writes_eq_canon _ _ _ (cover0_A_8 m c s)
  isplitl [H9]
  · unfold owns; iexists _; isplitr
    swap; · iexact H9
    ipureintro; exact View.read_writes_eq_canon _ _ _ (cover0_A_9 m c s)
  isplitl [H10]
  · unfold owns; iexists _; isplitr
    swap; · iexact H10
    ipureintro; exact View.read_writes_eq_canon _ _ _ (cover0_A_10 m c s)
  isplitl [H11]
  · unfold owns; iexists _; isplitr
    swap; · iexact H11
    ipureintro; exact View.read_writes_eq_canon _ _ _ (cover0_A_11 m c s)
  isplitl [H12]
  · unfold owns; iexists _; isplitr
    swap; · iexact H12
    ipureintro; exact View.read_writes_eq_canon _ _ _ (cover0_A_12 m c s)
  isplitl [H13]
  · unfold owns; iexists _; isplitr
    swap; · iexact H13
    ipureintro; exact View.read_writes_eq_canon _ _ _ (cover0_A_13 m c s)
  isplitl [H14]
  · unfold owns; iexists _; isplitr
    swap; · iexact H14
    ipureintro; exact View.read_writes_eq_canon _ _ _ (cover0_A_14 m c s)
  isplitl [H15]
  · unfold owns; iexists _; isplitr
    swap; · iexact H15
    ipureintro; exact View.read_writes_eq_canon _ _ _ (cover0_A_15 m c s)
  isplitl [H16]
  · unfold owns; iexists _; isplitr
    swap; · iexact H16
    ipureintro; exact View.read_writes_eq_canon _ _ _ (cover0_A_16 m c s)
  unfold owns; iexists _; isplitr
  swap; · iexact H17
  ipureintro; exact View.read_writes_eq_canon _ _ _ (cover0_A_17 m c s)

set_option maxHeartbeats 1600000 in
theorem sound_B (c : Dev nD) :
    bodyPre m c ptB ⊢ wp frame (wpE (defs₀ (F := F)) Variants.none c none) Set.univ (bodyAt0 ptB) (fun _ => bodyPost m c ptB) := by
  unfold bodyPre bodyPost bodyAt0
  simp only [before0_0, before0_1, before0_2, before0_3, before0_4, before0_7, before0_8, before0_11]
  rw [show (dats m 0 c).Φ ptB.succ = (dats m 0 c).Φ ptB.castSucc from rfl,
    show (dats m 0 c).owesAt () ptB.succ = (dats m 0 c).owesAt () ptB.castSucc from rfl,
    leaves0_0, leaves0_1, leaves0_2, leaves0_3, leaves0_4, leaves0_B_5, leaves0_B_6, leaves0_B_7, leaves0_B_8, leaves0_B_9, leaves0_B_10, leaves0_B_11, leaves0_B_12, leaves0_B_13, leaves0_B_14, leaves0_B_15, leaves0_B_16, leaves0_B_17]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply ((storesLast m c).2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H9]; · iexists _; iexact H9
  isplitl [H10]; · iexists _; iexact H10
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  iintro ⟨H0, H1, H2, H3, H4, ⟨%e5, H5⟩, ⟨%e6, H6⟩, ⟨%e9, H9⟩, ⟨%e10, H10⟩, ⟨%e12, H12⟩, ⟨%e13, H13⟩, ⟨%e14, H14⟩, ⟨%e15, H15⟩, ⟨%e16, H16⟩, ⟨%e17, H17⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_eq_canon _ _ _ (cover0_B_5 m c)
  isplitl [H6]
  · unfold owns; iexists _; isplitr
    swap; · iexact H6
    ipureintro; exact View.read_writes_eq_canon _ _ _ (cover0_B_6 m c)
  isplitl [H7]; · iexact H7
  isplitl [H8]; · iexact H8
  isplitl [H9]
  · unfold owns; iexists _; isplitr
    swap; · iexact H9
    ipureintro; exact View.read_writes_eq_canon _ _ _ (cover0_B_9 m c)
  isplitl [H10]
  · unfold owns; iexists _; isplitr
    swap; · iexact H10
    ipureintro; exact View.read_writes_eq_canon _ _ _ (cover0_B_10 m c)
  isplitl [H11]; · iexact H11
  isplitl [H12]
  · unfold owns; iexists _; isplitr
    swap; · iexact H12
    ipureintro; exact View.read_writes_eq_canon _ _ _ (cover0_B_12 m c)
  isplitl [H13]
  · unfold owns; iexists _; isplitr
    swap; · iexact H13
    ipureintro; exact View.read_writes_eq_canon _ _ _ (cover0_B_13 m c)
  isplitl [H14]
  · unfold owns; iexists _; isplitr
    swap; · iexact H14
    ipureintro; exact View.read_writes_eq_canon _ _ _ (cover0_B_14 m c)
  isplitl [H15]
  · unfold owns; iexists _; isplitr
    swap; · iexact H15
    ipureintro; exact View.read_writes_eq_canon _ _ _ (cover0_B_15 m c)
  isplitl [H16]
  · unfold owns; iexists _; isplitr
    swap; · iexact H16
    ipureintro; exact View.read_writes_eq_canon _ _ _ (cover0_B_16 m c)
  unfold owns; iexists _; isplitr
  swap; · iexact H17
  ipureintro; exact View.read_writes_eq_canon _ _ _ (cover0_B_17 m c)

theorem sound_body (c : Dev nD) (t : Fin cfg0.N) :
    bodyPre m c t ⊢ wp frame (wpE (defs₀ (F := F)) Variants.none c none) Set.univ (bodyAt0 t) (fun _ => bodyPost m c t) := by
  rcases pt_cases t with ⟨s, rfl⟩ | rfl
  · exact sound_A m c s
  · exact sound_B m c

theorem defs₀_row (t : Fin cfg0.N) :
    defs₀ (F := F) .tc cfg0.body (cfg0.bodyArgs t (cfg0.slots t)) = bodyAt0 t := by
  unfold defs₀; rw [Defs.onTc_tc]

/-- The body meets the pipeline's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run of the whole program: the region, then the host lines over what it leaves; every counter ends at zero. -/
theorem run_full : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (fun c => (body_obligation m c).loose) (fun c => (dats m 0 c).share_full fun _ => rfl)
    (fun _ _ => rfl) (V0 m) [hostOps1] sfx_sub sfx_fresh sfx_keeps (hmain m Variants.none) (A_eq m) (fun _ _ => rfl)

/-- At the compiled mesh: every execution ends with the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) ((θ_run defs _ _).mono (fun _ h => h.1) (run_full m ρ)))
    ((θ_run defs _ _).mono (fun _ h => h.2) (run_full m ρ))

end Cert.Kernel3Ideal.Gen

end
-- ==== Proof.FirstTail.lean ====
module

public import proofs.«01_k».proof.Proof.FirstHost
public import proofs.«01_k».proof.Proof.FirstLayer
public import proofs.«01_k».proof.Proof.FirstFrame

@[expose] public section

set_option maxRecDepth 16384

noncomputable section

namespace Cert.Kernel3Ideal.Gen

open Idealize.ShloMosaic Idealize.ShloMosaic.TcCoe Cert.Layer

section
variable (σ : Valuation τ sig (Elt Ideal))

theorem tail_40 (b : Fin 8) (t : Fin 2048) (o : Fin 4) (p : Fin 2) (j : Fin 64) (d : Fin 512) (hd : d.val = 128 * o.val + 64 * p.val + j.val) :
    (StableHlo.after hostOps1 σ (Proc.devRef .tc main_v40) : Vec Ideal S8x2048x4x2x64 .f32) (ix5 b t o p j)
      = (σ (Proc.devRef .tc main_v33_2) : Vec Ideal S8x512x2048 .f32) (ix3 b d t) := by
  entry_read
  pointwise
  congr 2 <;> exact Fin.ext (by simp only; omega)

theorem tail_42 (b : Fin 8) (t : Fin 2048) (o : Fin 4) (j : Fin 128) (n : Fin 16896) (hn : n.val = b.val * 2048 + t.val) (d : Fin 512) (hd : d.val = 128 * o.val + j.val) :
    (StableHlo.after hostOps1 σ (Proc.devRef .tc main_v42) : Vec Ideal S8x2048x4x128 .f32) (ix4 b t o j)
      = (σ (Proc.devRef .tc main_v33_10) : Vec Ideal S16896x512 .f32) (ix2 n d) := by
  entry_read
  pointwise
  congr 2 <;> exact Fin.ext (by simp only; omega)

theorem tail_44 (b : Fin 8) (t : Fin 2048) (j : Fin 64) (l : Fin 256) (hl : l.val = 0 + j.val) :
    (StableHlo.after hostOps1 σ (Proc.devRef .tc main_v44) : Vec Ideal S8x2048x64 .f32) (ix3 b t j)
      = (σ (Proc.devRef .tc main_v33_6) : Vec Ideal S8x256x2048 .f32) (ix3 b l t) := by
  entry_read
  pointwise
  congr 2 <;> exact Fin.ext (by simp only; omega)

theorem tail_46 (b : Fin 8) (t : Fin 2048) (j : Fin 64) (l : Fin 256) (hl : l.val = 64 + j.val) :
    (StableHlo.after hostOps1 σ (Proc.devRef .tc main_v46) : Vec Ideal S8x2048x64 .f32) (ix3 b t j)
      = (σ (Proc.devRef .tc main_v33_6) : Vec Ideal S8x256x2048 .f32) (ix3 b l t) := by
  entry_read
  pointwise
  congr 2 <;> exact Fin.ext (by simp only; omega)

theorem tail_48 (b : Fin 8) (t : Fin 2048) (j : Fin 64) (l : Fin 256) (hl : l.val = 128 + j.val) :
    (StableHlo.after hostOps1 σ (Proc.devRef .tc main_v48) : Vec Ideal S8x2048x64 .f32) (ix3 b t j)
      = (σ (Proc.devRef .tc main_v33_6) : Vec Ideal S8x256x2048 .f32) (ix3 b l t) := by
  entry_read
  pointwise
  congr 2 <;> exact Fin.ext (by simp only; omega)

theorem tail_49 (b : Fin 128) (t : Fin 4) (o : Fin 4) (p : Fin 2) (j : Fin 64) (r : Fin 512) (hr : r.val = b.val * 4 + t.val) (d : Fin 512) (hd : d.val = 128 * o.val + 64 * p.val + j.val) :
    (StableHlo.after hostOps1 σ (Proc.devRef .tc main_v49) : Vec Ideal S128x4x4x2x64 .f32) (ix5 b t o p j)
      = (σ (Proc.devRef .tc main_v33_1) : Vec Ideal S512x512 .f32) (ix2 r d) := by
  entry_read
  pointwise
  congr 2 <;> exact Fin.ext (by simp only; omega)

theorem tail_50 (b : Fin 128) (t : Fin 4) (o : Fin 4) (j : Fin 128) (n : Fin 16896) (hn : n.val = 16384 + b.val * 4 + t.val) (d : Fin 512) (hd : d.val = 128 * o.val + j.val) :
    (StableHlo.after hostOps1 σ (Proc.devRef .tc main_v50) : Vec Ideal S128x4x4x128 .f32) (ix4 b t o j)
      = (σ (Proc.devRef .tc main_v33_10) : Vec Ideal S16896x512 .f32) (ix2 n d) := by
  entry_read
  pointwise
  congr 2 <;> exact Fin.ext (by simp only; omega)

theorem tail_51 (b : Fin 128) (t : Fin 4) (j : Fin 64) (n : Fin 16896) (hn : n.val = 16384 + b.val * 4 + t.val) (l : Fin 256) (hl : l.val = 0 + j.val) :
    (StableHlo.after hostOps1 σ (Proc.devRef .tc main_v51) : Vec Ideal S128x4x64 .f32) (ix3 b t j)
      = (σ (Proc.devRef .tc main_v33_5) : Vec Ideal S16896x256 .f32) (ix2 n l) := by
  entry_read
  pointwise
  congr 2 <;> exact Fin.ext (by simp only; omega)

theorem tail_52 (b : Fin 128) (t : Fin 4) (j : Fin 64) (n : Fin 16896) (hn : n.val = 16384 + b.val * 4 + t.val) (l : Fin 256) (hl : l.val = 64 + j.val) :
    (StableHlo.after hostOps1 σ (Proc.devRef .tc main_v52) : Vec Ideal S128x4x64 .f32) (ix3 b t j)
      = (σ (Proc.devRef .tc main_v33_5) : Vec Ideal S16896x256 .f32) (ix2 n l) := by
  entry_read
  pointwise
  congr 2 <;> exact Fin.ext (by simp only; omega)

theorem tail_53 (b : Fin 128) (t : Fin 4) (j : Fin 64) (n : Fin 16896) (hn : n.val = 16384 + b.val * 4 + t.val) (l : Fin 256) (hl : l.val = 128 + j.val) :
    (StableHlo.after hostOps1 σ (Proc.devRef .tc main_v53) : Vec Ideal S128x4x64 .f32) (ix3 b t j)
      = (σ (Proc.devRef .tc main_v33_5) : Vec Ideal S16896x256 .f32) (ix2 n l) := by
  entry_read
  pointwise
  congr 2 <;> exact Fin.ext (by simp only; omega)

end

variable (m : (ℓ : Loc nD τ sig) → Buf (Elt Ideal) ℓ) (c : Dev nD)

/-- The kernel's arguments, entry by entry. -/
def pargs : FirstArgs where
  x := fun n d => (m ((c : Thread nD τ).loc main_arg0) : Vec Ideal S16896x1024 .f32) (ix2 n d)
  g := fun d => (m ((c : Thread nD τ).loc main_arg1) : Vec Ideal S1024 .f32) (ix1 d)
  w := fun k e => (m ((c : Thread nD τ).loc main_arg2) : Vec Ideal S1024x2760 .f32) (ix2 k e)
  ka := fun j => (m ((c : Thread nD τ).loc main_arg4) : Vec Ideal S64 .f32) (ix1 j)
  kb := fun j => (m ((c : Thread nD τ).loc main_arg6) : Vec Ideal S64 .f32) (ix1 j)

theorem hRow_eq (n : Fin 16896) : hRow m c n = normRow ((pargs m c).x n) (pargs m c).g := by
  have h0 : ∀ d, aX m c (ix2 n d) = (pargs m c).x n d := fun d => congrFun (V_main_arg0 m c) _
  have h1 : ∀ d, aG m c (ix2 0 d) = (pargs m c).g d := fun d => rowgain_entry (fun b => m (c, b)) d
  unfold hRow
  simp only [h0, h1]

theorem yRow_eq (n : Fin 16896) (j : Fin 2816) (e : Fin 2760) (h0 : ∀ k, aW m c (ix2 k j) = (pargs m c).w k e) :
    yRow m c n j = (pargs m c).y n e := by
  unfold yRow FirstArgs.y proj
  simp only [h0, hRow_eq]

theorem valRow_eq (n : Fin 16896) (o : Fin 4) (j : Fin 128) (d : Fin 512) (hd : d.val = 128 * o.val + j.val) :
    valRow m c n d = (pargs m c).val n o j :=
  yRow_eq m c n _ _ fun k => weight_val (fun b => m (c, b)) k _ _ (by show 1792 ≤ 1792 + d.val; omega) (by show 1792 + d.val < 2304; omega)
    (by show 1792 + d.val = 1024 + (128 * o.val + j.val) + 768; omega)

theorem keyRow_eq (hA : (pargs m c).Finite) (n : Fin 16896) (o : Fin 4) (p : Fin 2) (j : Fin 64) (d : Fin 512) (hd : d.val = 128 * o.val + 64 * p.val + j.val) :
    keyRow m c n d = (pargs m c).key n o p j := by
  have hy : ∀ q : Fin 2816, ∀ e : Fin 2760, 512 ≤ q.val → q.val < 1024 → q.val = e.val → yRow m c n q = (pargs m c).y n e :=
    fun q e h0 h1 h => yRow_eq m c n q e fun k => weight_key (fun b => m (c, b)) k q e h0 h1 h
  unfold keyRow keyAt FirstArgs.key
  refine headNorm_eq _ _ _ (fun i => ?_) (fun i j => table_entry (fun b => m (c, b)) i j) _ _ _ j (by simp only; omega) (fun i => ?_) ?_
  · rw [hy _ ⟨512 + 256 * (d.val / 256) + i.val, by omega⟩ (by simp only; omega) (by simp only; omega) rfl]
    exact FirstArgs.y_real hA n _
  · exact (hy _ _ (by simp only; omega) (by simp only; omega) (by
      show 512 + 256 * (d.val / 256) + (64 * (d.val % 256 / 64) + i.val) = 512 + (128 * o.val + 64 * p.val + i.val)
      omega)).symm
  · exact (gain_key (fun b => m (c, b)) _ j (by simp only; omega) (by simp only; omega) (by simp only; omega)).symm

/-- The projection at every column of the mixed chunk is real. -/
theorem mix_real (hA : (pargs m c).Finite) (n : Fin 16896) (i : Fin 256) : IsReal (yRow m c n ⟨1536 + i.val, by omega⟩) := by
  by_cases h1 : i.val < 64
  · rw [yRow_eq m c n _ ⟨2048 + i.val, by omega⟩ fun k => weight_skey (fun b => m (c, b)) k _ _ (by simp only; omega) (by simp only; omega) (by simp only; omega)]
    exact FirstArgs.y_real hA n _
  by_cases h2 : i.val < 128
  · rw [yRow_eq m c n _ ⟨2048 + i.val, by omega⟩ fun k => weight_sval (fun b => m (c, b)) k _ _ (by simp only; omega) (by simp only; omega) (by simp only; omega)]
    exact FirstArgs.y_real hA n _
  by_cases h3 : i.val < 192
  · rw [yRow_eq m c n _ ⟨2560 + i.val, by omega⟩ fun k => weight_ikey (fun b => m (c, b)) k _ _ (by simp only; omega) (by simp only; omega) (by simp only; omega)]
    exact FirstArgs.y_real hA n _
  by_cases h4 : i.val < 200
  · rw [yRow_eq m c n _ ⟨2560 + i.val, by omega⟩ fun k => weight_iwt (fun b => m (c, b)) k _ _ (by simp only; omega) (by simp only; omega) (by simp only; omega)]
    exact FirstArgs.y_real hA n _
  have e : yRow m c n ⟨1536 + i.val, by omega⟩ = 0 := by
    unfold yRow proj
    refine Finset.sum_eq_zero fun k _ => ?_
    have h0 : aW m c (ix2 k ⟨1536 + i.val, by omega⟩) = 0 := weight_pad (fun b => m (c, b)) k _ (by simp only; omega) (by simp only; omega)
    simp only [h0, mul_zero]
  rw [e]
  exact IsReal.coe 0

theorem skeyRow_eq (hA : (pargs m c).Finite) (n : Fin 16896) (j : Fin 64) (l : Fin 256) (hl : l.val = 0 + j.val) :
    mixRow m c n l = (pargs m c).skey n j := by
  unfold mixRow mixed FirstArgs.skey
  rw [if_pos (by omega)]
  refine headNorm_eq _ _ _ (mix_real m c hA n) (fun i j => table_entry (fun b => m (c, b)) i j) _ _ _ j (by omega) (fun i => ?_) ?_
  · exact (yRow_eq m c n _ _ fun k => weight_skey (fun b => m (c, b)) k _ _ (by simp only; omega) (by simp only; omega) (by simp only; omega)).symm
  · exact (gain_skey (fun b => m (c, b)) _ j (by simp only; omega)).symm

theorem svalRow_eq (n : Fin 16896) (j : Fin 64) (l : Fin 256) (hl : l.val = 64 + j.val) : mixRow m c n l = (pargs m c).sval n j := by
  unfold mixRow mixed
  rw [if_neg (by omega)]
  exact yRow_eq m c n _ _ fun k => weight_sval (fun b => m (c, b)) k _ _ (by simp only; omega) (by simp only; omega) (by simp only; omega)

theorem ikeyRow_eq (n : Fin 16896) (j : Fin 64) (l : Fin 256) (hl : l.val = 128 + j.val) : mixRow m c n l = (pargs m c).ikey n j := by
  unfold mixRow mixed
  rw [if_neg (by omega)]
  exact yRow_eq m c n _ _ fun k => weight_ikey (fun b => m (c, b)) k _ _ (by simp only; omega) (by simp only; omega) (by simp only; omega)

/-- The contents at the region's exit. -/
abbrev W2 : Valuation τ sig (Elt Ideal) := Pipeline.withArrays spec0 c (V0 m c) fun w => (dats m 0 c).arrAt w cfg0.N
theorem W2_arr (w : Fin cfg0.W) : W2 m c (Proc.devRef .tc (Pipeline.arrRef spec0 w)) = (dats m 0 c).arrAt w cfg0.N :=
  Pipeline.withArrays_arr spec0 launch0.win.arr_inj c _ _ w

abbrev fin (b : Ref sig .tc) : Buf (Elt Ideal) ((c.tc : Thread nD τ).loc b) := Pipeline.afterTail₀ cfgs (dats m) 0 (V0 m) [hostOps1] c b

theorem fin_40 (hA : (pargs m c).Finite) (b : Fin 8) (t : Fin 2048) (o : Fin 4) (p : Fin 2) (j : Fin 64) :
    (fin m c main_v40 : Vec Ideal S8x2048x4x2x64 .f32) (ix5 b t o p j) = (pargs m c).key (place b t) o p j := by
  refine (tail_40 (W2 m c) b t o p j ⟨128 * o.val + 64 * p.val + j.val, by omega⟩ rfl).trans ?_
  refine (congrFun ((W2_arr m c 7).trans (arr0_7 m c)) _).trans ?_
  exact keyRow_eq m c hA _ o p j _ rfl

theorem fin_42 (b : Fin 8) (t : Fin 2048) (o : Fin 4) (j : Fin 128) :
    (fin m c main_v42 : Vec Ideal S8x2048x4x128 .f32) (ix4 b t o j) = (pargs m c).val (place b t) o j := by
  refine (tail_42 (W2 m c) b t o j (place b t) rfl ⟨128 * o.val + j.val, by omega⟩ rfl).trans ?_
  refine (congrFun ((W2_arr m c 15).trans (arr0_15 m c)) _).trans ?_
  exact valRow_eq m c _ o j _ rfl

theorem fin_44 (hA : (pargs m c).Finite) (b : Fin 8) (t : Fin 2048) (j : Fin 64) :
    (fin m c main_v44 : Vec Ideal S8x2048x64 .f32) (ix3 b t j) = (pargs m c).skey (place b t) j := by
  refine (tail_44 (W2 m c) b t j ⟨0 + j.val, by omega⟩ rfl).trans ?_
  refine (congrFun ((W2_arr m c 11).trans (arr0_11 m c)) _).trans ?_
  exact skeyRow_eq m c hA _ j _ rfl

theorem fin_46 (b : Fin 8) (t : Fin 2048) (j : Fin 64) :
    (fin m c main_v46 : Vec Ideal S8x2048x64 .f32) (ix3 b t j) = (pargs m c).sval (place b t) j := by
  refine (tail_46 (W2 m c) b t j ⟨64 + j.val, by omega⟩ rfl).trans ?_
  refine (congrFun ((W2_arr m c 11).trans (arr0_11 m c)) _).trans ?_
  exact svalRow_eq m c _ j _ rfl

theorem fin_48 (b : Fin 8) (t : Fin 2048) (j : Fin 64) :
    (fin m c main_v48 : Vec Ideal S8x2048x64 .f32) (ix3 b t j) = (pargs m c).ikey (place b t) j := by
  refine (tail_48 (W2 m c) b t j ⟨128 + j.val, by omega⟩ rfl).trans ?_
  refine (congrFun ((W2_arr m c 11).trans (arr0_11 m c)) _).trans ?_
  exact ikeyRow_eq m c _ j _ rfl

theorem fin_49 (hA : (pargs m c).Finite) (b : Fin 128) (t : Fin 4) (o : Fin 4) (p : Fin 2) (j : Fin 64) :
    (fin m c main_v49 : Vec Ideal S128x4x4x2x64 .f32) (ix5 b t o p j) = (pargs m c).key (late ⟨b.val * 4 + t.val, by omega⟩) o p j := by
  refine (tail_49 (W2 m c) b t o p j ⟨b.val * 4 + t.val, by omega⟩ rfl ⟨128 * o.val + 64 * p.val + j.val, by omega⟩ rfl).trans ?_
  refine (congrFun ((W2_arr m c 6).trans (arr0_6 m c)) _).trans ?_
  exact keyRow_eq m c hA _ o p j _ rfl

theorem fin_50 (b : Fin 128) (t : Fin 4) (o : Fin 4) (j : Fin 128) :
    (fin m c main_v50 : Vec Ideal S128x4x4x128 .f32) (ix4 b t o j) = (pargs m c).val (late ⟨b.val * 4 + t.val, by omega⟩) o j := by
  refine (tail_50 (W2 m c) b t o j (late ⟨b.val * 4 + t.val, by omega⟩) (by show 16384 + (b.val * 4 + t.val) = 16384 + b.val * 4 + t.val; omega) ⟨128 * o.val + j.val, by omega⟩ rfl).trans ?_
  refine (congrFun ((W2_arr m c 15).trans (arr0_15 m c)) _).trans ?_
  exact valRow_eq m c _ o j _ rfl

theorem fin_51 (hA : (pargs m c).Finite) (b : Fin 128) (t : Fin 4) (j : Fin 64) :
    (fin m c main_v51 : Vec Ideal S128x4x64 .f32) (ix3 b t j) = (pargs m c).skey (late ⟨b.val * 4 + t.val, by omega⟩) j := by
  refine (tail_51 (W2 m c) b t j (late ⟨b.val * 4 + t.val, by omega⟩) (by show 16384 + (b.val * 4 + t.val) = 16384 + b.val * 4 + t.val; omega) ⟨0 + j.val, by omega⟩ rfl).trans ?_
  refine (congrFun ((W2_arr m c 10).trans (arr0_10 m c)) _).trans ?_
  exact skeyRow_eq m c hA _ j _ rfl

theorem fin_52 (b : Fin 128) (t : Fin 4) (j : Fin 64) :
    (fin m c main_v52 : Vec Ideal S128x4x64 .f32) (ix3 b t j) = (pargs m c).sval (late ⟨b.val * 4 + t.val, by omega⟩) j := by
  refine (tail_52 (W2 m c) b t j (late ⟨b.val * 4 + t.val, by omega⟩) (by show 16384 + (b.val * 4 + t.val) = 16384 + b.val * 4 + t.val; omega) ⟨64 + j.val, by omega⟩ rfl).trans ?_
  refine (congrFun ((W2_arr m c 10).trans (arr0_10 m c)) _).trans ?_
  exact svalRow_eq m c _ j _ rfl

theorem fin_53 (b : Fin 128) (t : Fin 4) (j : Fin 64) :
    (fin m c main_v53 : Vec Ideal S128x4x64 .f32) (ix3 b t j) = (pargs m c).ikey (late ⟨b.val * 4 + t.val, by omega⟩) j := by
  refine (tail_53 (W2 m c) b t j (late ⟨b.val * 4 + t.val, by omega⟩) (by show 16384 + (b.val * 4 + t.val) = 16384 + b.val * 4 + t.val; omega) ⟨128 + j.val, by omega⟩ rfl).trans ?_
  refine (congrFun ((W2_arr m c 10).trans (arr0_10 m c)) _).trans ?_
  exact ikeyRow_eq m c _ j _ rfl

/-- Every run of the kernel's program ends with the result buffers at what the host operations after the region leave,
    the arguments as launched. -/
theorem kernel_run (ρ : Dev nD → PrngReg) : θ_run defs (onTc (τ := τ) (main (F := Ideal))) ⟨m, fun _ => 0, ρ⟩ (fun r => ∀ c : Dev nD,
      r.2.mem ((c.tc : Thread nD τ).loc main_v40) = fin m c main_v40
      ∧ r.2.mem ((c.tc : Thread nD τ).loc main_v42) = fin m c main_v42
      ∧ r.2.mem ((c.tc : Thread nD τ).loc main_v44) = fin m c main_v44
      ∧ r.2.mem ((c.tc : Thread nD τ).loc main_v46) = fin m c main_v46
      ∧ r.2.mem ((c.tc : Thread nD τ).loc main_v48) = fin m c main_v48
      ∧ r.2.mem ((c.tc : Thread nD τ).loc main_v49) = fin m c main_v49
      ∧ r.2.mem ((c.tc : Thread nD τ).loc main_v50) = fin m c main_v50
      ∧ r.2.mem ((c.tc : Thread nD τ).loc main_v51) = fin m c main_v51
      ∧ r.2.mem ((c.tc : Thread nD τ).loc main_v52) = fin m c main_v52
      ∧ r.2.mem ((c.tc : Thread nD τ).loc main_v53) = fin m c main_v53
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    have ha := h.1.1 c
    ⟨(h.2.1 c).2 main_v40 (Pipeline.mem_restRefs_of main_v40 (by decide) (by decide)),
      (h.2.1 c).2 main_v42 (Pipeline.mem_restRefs_of main_v42 (by decide) (by decide)),
      (h.2.1 c).2 main_v44 (Pipeline.mem_restRefs_of main_v44 (by decide) (by decide)),
      (h.2.1 c).2 main_v46 (Pipeline.mem_restRefs_of main_v46 (by decide) (by decide)),
      (h.2.1 c).2 main_v48 (Pipeline.mem_restRefs_of main_v48 (by decide) (by decide)),
      (h.2.1 c).2 main_v49 (Pipeline.mem_restRefs_of main_v49 (by decide) (by decide)),
      (h.2.1 c).2 main_v50 (Pipeline.mem_restRefs_of main_v50 (by decide) (by decide)),
      (h.2.1 c).2 main_v51 (Pipeline.mem_restRefs_of main_v51 (by decide) (by decide)),
      (h.2.1 c).2 main_v52 (Pipeline.mem_restRefs_of main_v52 (by decide) (by decide)),
      (h.2.1 c).2 main_v53 (Pipeline.mem_restRefs_of main_v53 (by decide) (by decide)), ha⟩)
    (θ_run_and (frame m ρ) (run_full m ρ))
end Cert.Kernel3Ideal.Gen
end
-- ==== Proof.FirstRef.lean ====
module

public import proofs.«01_k».proof.Proof.Gen.Reference3Ideal.Read
public import proofs.«01_k».proof.Proof.FirstLayer
public import Idealize.ShloMosaic.Lib.Pipeline.ValueKit

@[expose] public section

set_option maxRecDepth 16384

noncomputable section

namespace Cert.Reference3Ideal.Read

open Cert.Reference3Ideal Cert.Reference3Ideal.Gen Idealize.ShloMosaic Idealize.ShloMosaic.TcCoe Cert.Layer

variable (x0 : (⟨S16896x1024, .f32⟩ : BufTy).Contents (Elt Ideal)) (x1 : (⟨S1024, .f32⟩ : BufTy).Contents (Elt Ideal))
  (x2 : (⟨S1024x2760, .f32⟩ : BufTy).Contents (Elt Ideal)) (x4 : (⟨S64, .f32⟩ : BufTy).Contents (Elt Ideal)) (x6 : (⟨S64, .f32⟩ : BufTy).Contents (Elt Ideal))

/-- The reference's arguments, entry by entry. -/
def rargs : FirstArgs where
  x := fun n d => x0 (ix2 n d)
  g := fun d => x1 (ix1 d)
  w := fun k e => x2 (ix2 k e)
  ka := fun j => x4 (ix1 j)
  kb := fun j => x6 (ix1 j)

theorem prompt_x (b : Fin 8) (t : Fin 2048) (d : Fin 1024) : val_main_v1 x0 (ix3 b t d) = x0 (ix2 ⟨b.val * 2048 + t.val, by omega⟩ d) := by
  pointwise [val_main_v0, val_main_v1]

theorem prompt_h (b : Fin 8) (t : Fin 2048) (d : Fin 1024) :
    val_main_v16 x0 x1 (ix3 b t d) = normRow (fun d => x0 (ix2 ⟨b.val * 2048 + t.val, by omega⟩ d)) (fun d => x1 (ix1 d)) d := by
  pointwise [val_main_v4, val_main_v5, val_main_v6, val_main_v7, val_main_v8, val_main_v9, val_main_v10, val_main_v11, val_main_v12, val_main_v13, val_main_v14, val_main_v15, val_main_v16, val_main_cst, val_main_cst_0, val_main_cst_1, prompt_x, normRow]

theorem prompt_y (b : Fin 8) (t : Fin 2048) (e : Fin 2760) :
    val_main_v17 x0 x1 x2 (ix3 b t e) = (rargs x0 x1 x2 x4 x6).y ⟨b.val * 2048 + t.val, by omega⟩ e := by
  pointwise [val_main_v17, prompt_h, FirstArgs.y, proj]
  rfl

theorem prompt_k (b : Fin 8) (t : Fin 2048) (o : Fin 4) (p : Fin 2) (j : Fin 64) :
    val_main_v27 x0 x1 x2 (ix5 b t o p j) = (rargs x0 x1 x2 x4 x6).y ⟨b.val * 2048 + t.val, by omega⟩ ⟨512 + (128 * o.val + 64 * p.val + j.val), by omega⟩ := by
  pointwise [val_main_v27, val_main_v19]
  refine (congrArg (val_main_v17 x0 x1 x2) (congrArg (ix3 b t) (Fin.ext ?_))).trans (prompt_y x0 x1 x2 x4 x6 b t ⟨512 + (128 * o.val + 64 * p.val + j.val), by omega⟩)
  first | done | omega | (simp only; omega)

theorem prompt_key (b : Fin 8) (t : Fin 2048) (o : Fin 4) (p : Fin 2) (j : Fin 64) :
    val_main_v40 x0 x1 x2 x4 (ix5 b t o p j) = (rargs x0 x1 x2 x4 x6).key ⟨b.val * 2048 + t.val, by omega⟩ o p j := by
  pointwise [val_main_v28, val_main_v29, val_main_v30, val_main_v31, val_main_v32, val_main_v33, val_main_v34, val_main_v35, val_main_v36, val_main_v37, val_main_v38, val_main_v39, val_main_v40, val_main_cst_2, val_main_cst_3, val_main_cst_4, prompt_k x0 x1 x2 x4 x6, FirstArgs.key, headRow]
  rfl

theorem prompt_val (b : Fin 8) (t : Fin 2048) (o : Fin 4) (j : Fin 128) :
    val_main_v41 x0 x1 x2 (ix4 b t o j) = (rargs x0 x1 x2 x4 x6).val ⟨b.val * 2048 + t.val, by omega⟩ o j := by
  pointwise [val_main_v41, val_main_v20]
  refine (congrArg (val_main_v17 x0 x1 x2) (congrArg (ix3 b t) (Fin.ext ?_))).trans (prompt_y x0 x1 x2 x4 x6 b t ⟨1024 + (128 * o.val + j.val), by omega⟩)
  first | done | omega | (simp only; omega)

theorem prompt_s (b : Fin 8) (t : Fin 2048) (j : Fin 64) :
    val_main_v22 x0 x1 x2 (ix3 b t j) = (rargs x0 x1 x2 x4 x6).y ⟨b.val * 2048 + t.val, by omega⟩ ⟨2048 + j.val, by omega⟩ := by
  pointwise [val_main_v22]
  refine (congrArg (val_main_v17 x0 x1 x2) (congrArg (ix3 b t) (Fin.ext ?_))).trans (prompt_y x0 x1 x2 x4 x6 b t ⟨2048 + j.val, by omega⟩)
  first | done | omega | (simp only; omega)

theorem prompt_skey (b : Fin 8) (t : Fin 2048) (j : Fin 64) :
    val_main_v54 x0 x1 x2 x6 (ix3 b t j) = (rargs x0 x1 x2 x4 x6).skey ⟨b.val * 2048 + t.val, by omega⟩ j := by
  pointwise [val_main_v42, val_main_v43, val_main_v44, val_main_v45, val_main_v46, val_main_v47, val_main_v48, val_main_v49, val_main_v50, val_main_v51, val_main_v52, val_main_v53, val_main_v54, val_main_cst_5, val_main_cst_6, val_main_cst_7, prompt_s x0 x1 x2 x4 x6, FirstArgs.skey, headRow]
  rfl

theorem prompt_sval (b : Fin 8) (t : Fin 2048) (j : Fin 64) :
    val_main_v23 x0 x1 x2 (ix3 b t j) = (rargs x0 x1 x2 x4 x6).sval ⟨b.val * 2048 + t.val, by omega⟩ j := by
  pointwise [val_main_v23]
  refine (congrArg (val_main_v17 x0 x1 x2) (congrArg (ix3 b t) (Fin.ext ?_))).trans (prompt_y x0 x1 x2 x4 x6 b t ⟨2112 + j.val, by omega⟩)
  first | done | omega | (simp only; omega)

theorem prompt_ikey (b : Fin 8) (t : Fin 2048) (j : Fin 64) :
    val_main_v25 x0 x1 x2 (ix3 b t j) = (rargs x0 x1 x2 x4 x6).ikey ⟨b.val * 2048 + t.val, by omega⟩ j := by
  pointwise [val_main_v25]
  refine (congrArg (val_main_v17 x0 x1 x2) (congrArg (ix3 b t) (Fin.ext ?_))).trans (prompt_y x0 x1 x2 x4 x6 b t ⟨2688 + j.val, by omega⟩)
  first | done | omega | (simp only; omega)

theorem sampled_x (b : Fin 128) (t : Fin 4) (d : Fin 1024) : val_main_v3 x0 (ix3 b t d) = x0 (ix2 ⟨16384 + (b.val * 4 + t.val), by omega⟩ d) := by
  pointwise [val_main_v2, val_main_v3]

theorem sampled_h (b : Fin 128) (t : Fin 4) (d : Fin 1024) :
    val_main_v67 x0 x1 (ix3 b t d) = normRow (fun d => x0 (ix2 ⟨16384 + (b.val * 4 + t.val), by omega⟩ d)) (fun d => x1 (ix1 d)) d := by
  pointwise [val_main_v55, val_main_v56, val_main_v57, val_main_v58, val_main_v59, val_main_v60, val_main_v61, val_main_v62, val_main_v63, val_main_v64, val_main_v65, val_main_v66, val_main_v67, val_main_cst_8, val_main_cst_9, val_main_cst_10, sampled_x, normRow]

theorem sampled_y (b : Fin 128) (t : Fin 4) (e : Fin 2760) :
    val_main_v68 x0 x1 x2 (ix3 b t e) = (rargs x0 x1 x2 x4 x6).y ⟨16384 + (b.val * 4 + t.val), by omega⟩ e := by
  pointwise [val_main_v68, sampled_h, FirstArgs.y, proj]
  rfl

theorem sampled_k (b : Fin 128) (t : Fin 4) (o : Fin 4) (p : Fin 2) (j : Fin 64) :
    val_main_v78 x0 x1 x2 (ix5 b t o p j) = (rargs x0 x1 x2 x4 x6).y ⟨16384 + (b.val * 4 + t.val), by omega⟩ ⟨512 + (128 * o.val + 64 * p.val + j.val), by omega⟩ := by
  pointwise [val_main_v78, val_main_v70]
  refine (congrArg (val_main_v68 x0 x1 x2) (congrArg (ix3 b t) (Fin.ext ?_))).trans (sampled_y x0 x1 x2 x4 x6 b t ⟨512 + (128 * o.val + 64 * p.val + j.val), by omega⟩)
  first | done | omega | (simp only; omega)

theorem sampled_key (b : Fin 128) (t : Fin 4) (o : Fin 4) (p : Fin 2) (j : Fin 64) :
    val_main_v91 x0 x1 x2 x4 (ix5 b t o p j) = (rargs x0 x1 x2 x4 x6).key ⟨16384 + (b.val * 4 + t.val), by omega⟩ o p j := by
  pointwise [val_main_v79, val_main_v80, val_main_v81, val_main_v82, val_main_v83, val_main_v84, val_main_v85, val_main_v86, val_main_v87, val_main_v88, val_main_v89, val_main_v90, val_main_v91, val_main_cst_11, val_main_cst_12, val_main_cst_13, sampled_k x0 x1 x2 x4 x6, FirstArgs.key, headRow]
  rfl

theorem sampled_val (b : Fin 128) (t : Fin 4) (o : Fin 4) (j : Fin 128) :
    val_main_v92 x0 x1 x2 (ix4 b t o j) = (rargs x0 x1 x2 x4 x6).val ⟨16384 + (b.val * 4 + t.val), by omega⟩ o j := by
  pointwise [val_main_v92, val_main_v71]
  refine (congrArg (val_main_v68 x0 x1 x2) (congrArg (ix3 b t) (Fin.ext ?_))).trans (sampled_y x0 x1 x2 x4 x6 b t ⟨1024 + (128 * o.val + j.val), by omega⟩)
  first | done | omega | (simp only; omega)

theorem sampled_s (b : Fin 128) (t : Fin 4) (j : Fin 64) :
    val_main_v73 x0 x1 x2 (ix3 b t j) = (rargs x0 x1 x2 x4 x6).y ⟨16384 + (b.val * 4 + t.val), by omega⟩ ⟨2048 + j.val, by omega⟩ := by
  pointwise [val_main_v73]
  refine (congrArg (val_main_v68 x0 x1 x2) (congrArg (ix3 b t) (Fin.ext ?_))).trans (sampled_y x0 x1 x2 x4 x6 b t ⟨2048 + j.val, by omega⟩)
  first | done | omega | (simp only; omega)

theorem sampled_skey (b : Fin 128) (t : Fin 4) (j : Fin 64) :
    val_main_v105 x0 x1 x2 x6 (ix3 b t j) = (rargs x0 x1 x2 x4 x6).skey ⟨16384 + (b.val * 4 + t.val), by omega⟩ j := by
  pointwise [val_main_v93, val_main_v94, val_main_v95, val_main_v96, val_main_v97, val_main_v98, val_main_v99, val_main_v100, val_main_v101, val_main_v102, val_main_v103, val_main_v104, val_main_v105, val_main_cst_14, val_main_cst_15, val_main_cst_16, sampled_s x0 x1 x2 x4 x6, FirstArgs.skey, headRow]
  rfl

theorem sampled_sval (b : Fin 128) (t : Fin 4) (j : Fin 64) :
    val_main_v74 x0 x1 x2 (ix3 b t j) = (rargs x0 x1 x2 x4 x6).sval ⟨16384 + (b.val * 4 + t.val), by omega⟩ j := by
  pointwise [val_main_v74]
  refine (congrArg (val_main_v68 x0 x1 x2) (congrArg (ix3 b t) (Fin.ext ?_))).trans (sampled_y x0 x1 x2 x4 x6 b t ⟨2112 + j.val, by omega⟩)
  first | done | omega | (simp only; omega)

theorem sampled_ikey (b : Fin 128) (t : Fin 4) (j : Fin 64) :
    val_main_v76 x0 x1 x2 (ix3 b t j) = (rargs x0 x1 x2 x4 x6).ikey ⟨16384 + (b.val * 4 + t.val), by omega⟩ j := by
  pointwise [val_main_v76]
  refine (congrArg (val_main_v68 x0 x1 x2) (congrArg (ix3 b t) (Fin.ext ?_))).trans (sampled_y x0 x1 x2 x4 x6 b t ⟨2688 + j.val, by omega⟩)
  first | done | omega | (simp only; omega)

end Cert.Reference3Ideal.Read
end
-- ==== Proof.FirstJoin.lean ====
module

public import proofs.«01_k».proof.Defs
public import proofs.«01_k».proof.Proof.ProjJoin
public import proofs.«01_k».proof.Proof.Gen.Kernel3
public import proofs.«01_k».proof.Proof.FirstTail
public import proofs.«01_k».proof.Proof.FirstRef
public import Idealize.ShloMosaic.Lib.Pipeline.Regions

@[expose] public section

set_option maxRecDepth 16384

noncomputable section

namespace Cert.Proof

open Idealize.ShloMosaic Idealize.ShloMosaic.TcCoe Idealize.SL.Sem Cert.Layer

section
variable [Cert.Pre_finite_weights0.Facts]

theorem fargs_finite (m : (ℓ : Loc Cert.Kernel3Ideal.nD Cert.Kernel3Ideal.τ Cert.Kernel3Ideal.sig) → Buf (Elt Ideal) ℓ)
    (h : Pre_Kernel3Ideal_finite_weights0 m) (c : Dev Cert.Kernel3Ideal.nD) : (Cert.Kernel3Ideal.Gen.pargs m c).Finite := by
  obtain ⟨h1, h2⟩ := h c
  exact { g := fun i => real_of_abs _ (congrFun h1 (ix1 i)), w := fun i j => real_of_abs _ (congrFun h2 (ix2 i j)) }

end

theorem ref3_frame : quiescent_Reference3Ideal (hReference3Ideal := Cert.Reference3Ideal.Gen.facts) :=
  fun m g _ => (θ_run _ _ _).mono (fun _ h => ⟨fun c => (h c).2.2.2.2.2.2.2.2.2.2, sem_eq_zero_of_no_sems (by decide) _⟩)
    (Cert.Reference3Ideal.Value.run (F := Ideal) m g)

theorem ref3_frame_finite [hp : Cert.Pre_finite_weights0.Facts] :
    quiescent_Reference3Ideal_pre_finite_weights0 (hReference3Ideal := Cert.Reference3Ideal.Gen.facts) (hPre_finite_weights0 := hp) :=
  fun m g _ => (θ_run _ _ _).mono (fun _ h => ⟨fun c => (h c).2.2.2.2.2.2.2.2.2.2, sem_eq_zero_of_no_sems (by decide) _⟩)
    (Cert.Reference3Ideal.Value.run (F := Ideal) m g)

/-- What the frame of the kernel of floats says, of the idealized kernel's text. -/
def firstFrame [hKernel3Ideal : Cert.Kernel3Ideal.Facts] : Prop :=
  ∀ (m : (ℓ : Loc Cert.Kernel3Ideal.nD Cert.Kernel3Ideal.τ Cert.Kernel3Ideal.sig) → Buf (Elt Bits) ℓ) (g : Dev Cert.Kernel3Ideal.nD → PrngReg), True →
    θ_run (Cert.Kernel3Ideal.defs (F := Bits)) (onTc (τ := Cert.Kernel3Ideal.τ) (Cert.Kernel3Ideal.main (F := Bits))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

/-- The two programs have the same text. -/
theorem same_first : firstFrame (hKernel3Ideal := Cert.Kernel3Ideal.Gen.facts) = quiescent_Kernel3 (hKernel3 := Cert.Kernel3.Gen.facts) := by chain_rfl

/-- The kernel of floats has the text of the idealized one. -/
theorem kernel3_frame : quiescent_Kernel3 (hKernel3 := Cert.Kernel3.Gen.facts) :=
  same_first ▸ fun m g _ => Cert.Kernel3Ideal.Gen.frame (F := Bits) m g

theorem value3 [hp : Cert.Pre_finite_weights0.Facts] :
    algebraic_Kernel3Ideal_Reference3Ideal_pre_finite_weights0 (hKernel3Ideal := Cert.Kernel3Ideal.Gen.facts) (hReference3Ideal := Cert.Reference3Ideal.Gen.facts) (hPre_finite_weights0 := hp) := by
  intro m g m' g' hpre hagree
  have hargs : ∀ c : Dev Cert.Kernel3Ideal.nD, Cert.Reference3Ideal.Read.rargs (m' ((c.tc : Thread Cert.Reference3Ideal.nD Cert.Reference3Ideal.τ).loc Cert.Reference3Ideal.main_arg0))
      (m' ((c.tc : Thread Cert.Reference3Ideal.nD Cert.Reference3Ideal.τ).loc Cert.Reference3Ideal.main_arg1))
      (m' ((c.tc : Thread Cert.Reference3Ideal.nD Cert.Reference3Ideal.τ).loc Cert.Reference3Ideal.main_arg2))
      (m' ((c.tc : Thread Cert.Reference3Ideal.nD Cert.Reference3Ideal.τ).loc Cert.Reference3Ideal.main_arg4))
      (m' ((c.tc : Thread Cert.Reference3Ideal.nD Cert.Reference3Ideal.τ).loc Cert.Reference3Ideal.main_arg6)) = Cert.Kernel3Ideal.Gen.pargs m c := by
    intro c
    obtain ⟨h0, h1, h2, _, h4, _, h6⟩ := hagree c
    rw [h0, h1, h2, h4, h6]
    rfl
  refine ⟨fun c => Cert.Kernel3Ideal.Gen.fin m c Cert.Kernel3Ideal.main_v40,
    fun c => Cert.Kernel3Ideal.Gen.fin m c Cert.Kernel3Ideal.main_v42,
    fun c => Cert.Kernel3Ideal.Gen.fin m c Cert.Kernel3Ideal.main_v44,
    fun c => Cert.Kernel3Ideal.Gen.fin m c Cert.Kernel3Ideal.main_v46,
    fun c => Cert.Kernel3Ideal.Gen.fin m c Cert.Kernel3Ideal.main_v48,
    fun c => Cert.Kernel3Ideal.Gen.fin m c Cert.Kernel3Ideal.main_v49,
    fun c => Cert.Kernel3Ideal.Gen.fin m c Cert.Kernel3Ideal.main_v50,
    fun c => Cert.Kernel3Ideal.Gen.fin m c Cert.Kernel3Ideal.main_v51,
    fun c => Cert.Kernel3Ideal.Gen.fin m c Cert.Kernel3Ideal.main_v52,
    fun c => Cert.Kernel3Ideal.Gen.fin m c Cert.Kernel3Ideal.main_v53,
    Cert.Kernel3Ideal.Gen.kernel_run m g, ?_⟩
  refine (θ_run _ _ _).mono (fun r h c => ?_) (Cert.Reference3Ideal.Value.run (F := Ideal) m' g')
  have hA := fargs_finite m hpre c
  have ha := hargs c
  obtain ⟨e0, e1, e2, e3, e4, e5, e6, e7, e8, e9, hr⟩ := h c
  refine ⟨(e0.trans (Cert.Reference3Ideal.Read.val_main_v40_eq m' c)).trans (funext fun i => ?_),
    (e1.trans (Cert.Reference3Ideal.Read.val_main_v41_eq (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)))).trans (funext fun i => ?_),
    (e2.trans (Cert.Reference3Ideal.Read.val_main_v54_eq m' c)).trans (funext fun i => ?_),
    (e3.trans (Cert.Reference3Ideal.Read.val_main_v23_eq (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)))).trans (funext fun i => ?_),
    (e4.trans (Cert.Reference3Ideal.Read.val_main_v25_eq (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)))).trans (funext fun i => ?_),
    (e5.trans (Cert.Reference3Ideal.Read.val_main_v91_eq m' c)).trans (funext fun i => ?_),
    (e6.trans (Cert.Reference3Ideal.Read.val_main_v92_eq (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)))).trans (funext fun i => ?_),
    (e7.trans (Cert.Reference3Ideal.Read.val_main_v105_eq m' c)).trans (funext fun i => ?_),
    (e8.trans (Cert.Reference3Ideal.Read.val_main_v74_eq (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)))).trans (funext fun i => ?_),
    (e9.trans (Cert.Reference3Ideal.Read.val_main_v76_eq (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)))).trans (funext fun i => ?_), hr⟩
  · rw [eq_ix5 i]
    exact (Cert.Reference3Ideal.Read.prompt_key _ _ _ _ _ (i 0) (i 1) (i 2) (i 3) (i 4)).trans ((congrArg (fun A => FirstArgs.key A _ _ _ _) ha).trans
      (Cert.Kernel3Ideal.Gen.fin_40 m c hA (i 0) (i 1) (i 2) (i 3) (i 4)).symm)
  · rw [eq_ix4 i]
    exact (Cert.Reference3Ideal.Read.prompt_val _ _ _ _ _ (i 0) (i 1) (i 2) (i 3)).trans ((congrArg (fun A => FirstArgs.val A _ _ _) ha).trans
      (Cert.Kernel3Ideal.Gen.fin_42 m c (i 0) (i 1) (i 2) (i 3)).symm)
  · rw [eq_ix3 i]
    exact (Cert.Reference3Ideal.Read.prompt_skey _ _ _ _ _ (i 0) (i 1) (i 2)).trans ((congrArg (fun A => FirstArgs.skey A _ _) ha).trans
      (Cert.Kernel3Ideal.Gen.fin_44 m c hA (i 0) (i 1) (i 2)).symm)
  · rw [eq_ix3 i]
    exact (Cert.Reference3Ideal.Read.prompt_sval _ _ _ _ _ (i 0) (i 1) (i 2)).trans ((congrArg (fun A => FirstArgs.sval A _ _) ha).trans
      (Cert.Kernel3Ideal.Gen.fin_46 m c (i 0) (i 1) (i 2)).symm)
  · rw [eq_ix3 i]
    exact (Cert.Reference3Ideal.Read.prompt_ikey _ _ _ _ _ (i 0) (i 1) (i 2)).trans ((congrArg (fun A => FirstArgs.ikey A _ _) ha).trans
      (Cert.Kernel3Ideal.Gen.fin_48 m c (i 0) (i 1) (i 2)).symm)
  · rw [eq_ix5 i]
    exact (Cert.Reference3Ideal.Read.sampled_key _ _ _ _ _ (i 0) (i 1) (i 2) (i 3) (i 4)).trans ((congrArg (fun A => FirstArgs.key A _ _ _ _) ha).trans
      (Cert.Kernel3Ideal.Gen.fin_49 m c hA (i 0) (i 1) (i 2) (i 3) (i 4)).symm)
  · rw [eq_ix4 i]
    exact (Cert.Reference3Ideal.Read.sampled_val _ _ _ _ _ (i 0) (i 1) (i 2) (i 3)).trans ((congrArg (fun A => FirstArgs.val A _ _ _) ha).trans
      (Cert.Kernel3Ideal.Gen.fin_50 m c (i 0) (i 1) (i 2) (i 3)).symm)
  · rw [eq_ix3 i]
    exact (Cert.Reference3Ideal.Read.sampled_skey _ _ _ _ _ (i 0) (i 1) (i 2)).trans ((congrArg (fun A => FirstArgs.skey A _ _) ha).trans
      (Cert.Kernel3Ideal.Gen.fin_51 m c hA (i 0) (i 1) (i 2)).symm)
  · rw [eq_ix3 i]
    exact (Cert.Reference3Ideal.Read.sampled_sval _ _ _ _ _ (i 0) (i 1) (i 2)).trans ((congrArg (fun A => FirstArgs.sval A _ _) ha).trans
      (Cert.Kernel3Ideal.Gen.fin_52 m c (i 0) (i 1) (i 2)).symm)
  · rw [eq_ix3 i]
    exact (Cert.Reference3Ideal.Read.sampled_ikey _ _ _ _ _ (i 0) (i 1) (i 2)).trans ((congrArg (fun A => FirstArgs.ikey A _ _) ha).trans
      (Cert.Kernel3Ideal.Gen.fin_53 m c (i 0) (i 1) (i 2)).symm)

end Cert.Proof

end
-- ==== Proof.FoxSpec.lean ====
module

public import proofs.«01_k».proof.Proof.Choice
public import proofs.«01_k».proof.Proof.Rows

@[expose] public section

noncomputable section

namespace Cert.Layer

open Idealize.ShloMosaic

/-- The weight of a score measured from a point: nothing for a masked key. -/
def wt (e : EReal) (M : ℝ) : ℝ := if e = ⊥ then 0 else Real.exp (e.toReal - M)

theorem wt_nonneg (e : EReal) (M : ℝ) : 0 ≤ wt e M := by
  unfold wt; split
  · exact le_rfl
  · exact (Real.exp_pos _).le

theorem wt_pos {e : EReal} (h : IsReal e) (M : ℝ) : 0 < wt e M := by
  obtain ⟨r, rfl⟩ := h
  rw [wt, if_neg (EReal.coe_ne_bot r)]; exact Real.exp_pos _

theorem wt_shift (e : EReal) (M M' : ℝ) : Real.exp (M - M') * wt e M = wt e M' := by
  unfold wt; split
  · exact mul_zero _
  · rw [← Real.exp_add]; congr 1; ring

theorem exp_score {e : EReal} (he : e ≠ ⊤) (M : ℝ) : Ideal.exp (e - M) = (wt e M : EReal) := by
  unfold wt
  induction e with
  | bot => rw [if_pos rfl, EReal.bot_sub]; rfl
  | top => exact absurd rfl he
  | coe r => rw [if_neg (EReal.coe_ne_bot r), ← EReal.coe_sub]; rfl

theorem exp_points (M M' : ℝ) : Ideal.exp ((M : EReal) - M') = ((Real.exp (M - M') : ℝ) : EReal) := by
  rw [← EReal.coe_sub]; rfl

/-- The greatest of finitely many scores of which one is a real. -/
theorem top_score {w : ℕ} (s : Fin w → EReal) (hs : ∀ j, s j ≠ ⊤) (j : Fin w) (hj : IsReal (s j)) :
    IsReal (Finset.fold max ⊥ s Finset.univ) := by
  have h1 : Finset.fold max ⊥ s Finset.univ ≠ ⊤ :=
    ((Finset.fold_max_lt _).mpr ⟨bot_lt_top, fun x _ => lt_top_iff_ne_top.mpr (hs x)⟩).ne
  have h2 : Finset.fold max ⊥ s Finset.univ ≠ ⊥ := by
    obtain ⟨r, hr⟩ := hj
    exact ((Finset.lt_fold_max _).mpr (.inr ⟨j, Finset.mem_univ _, by rw [hr]; exact EReal.bot_lt_coe r⟩)).ne'
  exact ⟨_, (EReal.coe_toReal h1 h2).symm⟩

/-- What the three running buffers hold of a row once the first `n` keys are seen: nothing yet, or a point, the sum of the
    weights measured from it and the weighted sum of the values. -/
def Holds (e : ℕ → EReal) (V : ℕ → Fin 128 → ℝ) (n : ℕ) (m l a : Fin 128 → EReal) : Prop :=
  (n = 0 ∧ ∀ d, m d = ⊥ ∧ l d = 0 ∧ a d = 0)
    ∨ ∃ M : ℝ, ∀ d, m d = M ∧ l d = ((∑ j ∈ Finset.range n, wt (e j) M : ℝ) : EReal)
        ∧ a d = ((∑ j ∈ Finset.range n, wt (e j) M * V j d : ℝ) : EReal)

section
variable {e : ℕ → EReal} {V : ℕ → Fin 128 → ℝ} {n : ℕ} {m l a : Fin 128 → EReal}

theorem Holds.lane (h : Holds e V n m l a) (d : Fin 128) : m d = m 0 := by
  rcases h with ⟨_, h⟩ | ⟨M, h⟩
  · rw [(h d).1, (h 0).1]
  · rw [(h d).1, (h 0).1]

/-- One tile more. -/
theorem Holds.step (h : Holds e V n m l a) {w : ℕ} (s p : Fin w → EReal) (m' l' a' : Fin 128 → EReal)
    (he : ∀ j, e j ≠ ⊤) (hw : 0 < w) (hr : IsReal (e n)) (hs : ∀ j : Fin w, s j = e (n + j.val))
    (hm : ∀ d, m' d = max (m d) (Finset.fold max ⊥ s Finset.univ))
    (hp : ∀ j, ∃ d, p j = Ideal.exp (s j - m' d))
    (hl : ∀ d, l' d = Ideal.exp (m d - m' d) * l d + ∑ j, p j)
    (ha : ∀ d, a' d = Ideal.exp (m d - m' d) * a d + ∑ j, p j * (V (n + j.val) d : EReal)) :
    Holds e V (n + w) m' l' a' := by
  obtain ⟨X, hX⟩ := top_score s (fun j => by rw [hs]; exact he _) ⟨0, hw⟩ (by rw [hs]; exact hr)
  have key : ∃ M' : ℝ, (∀ d, m' d = M') ∧ ∀ d,
      Ideal.exp (m d - m' d) * l d = ((∑ j ∈ Finset.range n, wt (e j) M' : ℝ) : EReal) ∧
      Ideal.exp (m d - m' d) * a d = ((∑ j ∈ Finset.range n, wt (e j) M' * V j d : ℝ) : EReal) := by
    rcases h with ⟨rfl, h⟩ | ⟨M, h⟩
    · refine ⟨X, fun d => by rw [hm, (h d).1, hX, max_eq_right bot_le], fun d => ?_⟩
      rw [(h d).2.1, (h d).2.2]
      simp
    · refine ⟨max M X, fun d => by rw [hm, (h d).1, hX]; exact (EReal.coe_strictMono.monotone.map_max).symm, fun d => ?_⟩
      have e0 : m' d = ((max M X : ℝ) : EReal) := by rw [hm, (h d).1, hX]; exact (EReal.coe_strictMono.monotone.map_max).symm
      rw [e0, (h d).1, (h d).2.1, (h d).2.2, exp_points, ← EReal.coe_mul, ← EReal.coe_mul, Finset.mul_sum, Finset.mul_sum]
      constructor
      · congr 1; exact Finset.sum_congr rfl fun j _ => wt_shift _ _ _
      · congr 1; exact Finset.sum_congr rfl fun j _ => by rw [← mul_assoc, wt_shift]
  obtain ⟨M', h1, h2⟩ := key
  have hp' : ∀ j, p j = (wt (e (n + j.val)) M' : EReal) := fun j => by
    obtain ⟨d, hd⟩ := hp j
    rw [hd, h1, hs, exp_score (he _)]
  refine .inr ⟨M', fun d => ⟨h1 d, ?_, ?_⟩⟩
  · rw [hl, (h2 d).1, Finset.sum_range_add, EReal.coe_add, ← Fin.sum_univ_eq_sum_range (fun j => wt (e (n + j)) M') w, coe_sum_real]
    simp only [hp', coe_sum_real]
  · rw [ha, (h2 d).2, Finset.sum_range_add, EReal.coe_add, ← Fin.sum_univ_eq_sum_range (fun j => wt (e (n + j)) M' * V (n + j) d) w, coe_sum_real]
    simp only [hp', coe_sum_real, EReal.coe_mul]

/-- The keys that are all masked add nothing. -/
theorem Holds.rest (h : Holds e V n m l a) (hn : 0 < n) {N : ℕ} (hN : n ≤ N) (hb : ∀ j, n ≤ j → e j = ⊥) : Holds e V N m l a := by
  rcases h with ⟨rfl, _⟩ | ⟨M, h⟩
  · exact absurd hn (lt_irrefl _)
  have z : ∀ j, n ≤ j → wt (e j) M = 0 := fun j hj => by rw [wt, if_pos (hb j hj)]
  have sub : Finset.range n ⊆ Finset.range N := Finset.range_subset_range.mpr hN
  refine .inr ⟨M, fun d => ⟨(h d).1, (h d).2.1.trans ?_, (h d).2.2.trans ?_⟩⟩
  · congr 1
    exact Finset.sum_subset sub fun j _ hj => z j (by simpa using hj)
  · congr 1
    exact Finset.sum_subset sub fun j _ hj => by rw [z j (by simpa using hj), zero_mul]

/-- The running quotient is the average of the values by the weights, whatever the point they are measured from. -/
theorem Holds.quot {N : ℕ} (h : Holds e V N m l a) (hN : 0 < N) (hr : IsReal (e 0)) (M' : ℝ) (d : Fin 128) :
    Ideal.div (a d) (l d) = ((∑ j : Fin N, wt (e j) M' / (∑ k : Fin N, wt (e k) M') * V j d : ℝ) : EReal) := by
  rcases h with ⟨rfl, _⟩ | ⟨M, h⟩
  · exact absurd hN (lt_irrefl _)
  have pos : ∀ M, 0 < ∑ j ∈ Finset.range N, wt (e j) M := fun M =>
    Finset.sum_pos' (fun j _ => wt_nonneg _ _) ⟨0, Finset.mem_range.mpr hN, wt_pos hr M⟩
  rw [(h d).2.1, (h d).2.2, div_real _ _ (pos M).ne']
  congr 1
  rw [Fin.sum_univ_eq_sum_range (fun k => wt (e k) M') N, Fin.sum_univ_eq_sum_range (fun j => wt (e j) M' / (∑ k ∈ Finset.range N, wt (e k) M') * V j d) N]
  have e1 : ∀ j, wt (e j) M = Real.exp (M' - M) * wt (e j) M' := fun j => (wt_shift _ _ _).symm
  simp only [e1, mul_assoc, ← Finset.mul_sum]
  rw [mul_div_mul_left _ _ (Real.exp_pos _).ne', Finset.sum_div]
  exact Finset.sum_congr rfl fun j _ => by ring

end

end Cert.Layer
end
-- ==== Proof.FoxPay.lean ====
module

public import proofs.«01_k».proof.Proof.Gen.Kernel4Ideal.Skeleton
public import proofs.«01_k».proof.Proof.FoxSpec

@[expose] public section

set_option maxRecDepth 16384

noncomputable section

namespace Cert.Kernel4Ideal.Gen

open Idealize.ShloMosaic Idealize.ShloMosaic.TcCoe Cert.Layer

/-- A row statistic laid over eight groups of lanes. -/
theorem lanes8 (x : FVec Ideal S1024x128 .f32) (f : Fin 1024 → EReal) (h : ∀ r d, x (ix2 r d) = f r) (hc) (r : Fin 1024) (j : Fin 1024) :
    concatenate S1024x1024 1 [⟨S1024x128, x⟩, ⟨S1024x128, x⟩, ⟨S1024x128, x⟩, ⟨S1024x128, x⟩, ⟨S1024x128, x⟩, ⟨S1024x128, x⟩,
      ⟨S1024x128, x⟩, ⟨S1024x128, x⟩] hc (ix2 r j) = f r := by
  have k : ∀ (n : ℕ) (hn : n < 8) (h1 : 128 * n ≤ j.val) (h2 : j.val < 128 * n + 128), concatenate S1024x1024 1 [⟨S1024x128, x⟩, ⟨S1024x128, x⟩, ⟨S1024x128, x⟩, ⟨S1024x128, x⟩, ⟨S1024x128, x⟩, ⟨S1024x128, x⟩,
      ⟨S1024x128, x⟩, ⟨S1024x128, x⟩] hc (ix2 r j) = f r := fun n hn h1 h2 => by
    refine (concatenate_apply_piece (t := S1024x1024) 1 _ _ (ix2 r j) n (by simpa using hn) S1024x128 x ?_ rfl (128 * n) ?_
      (ix2 r ⟨j.val - 128 * n, by omega⟩) (fun b hb => by fin_cases b <;> simp at hb ⊢) (by show 128 * n + (j.val - 128 * n) = j.val; omega)).trans (h r _)
    · interval_cases n <;> rfl
    · interval_cases n <;> simp
  exact k (j.val / 128) (by omega) (by omega) (by omega)

theorem lanes4 (x : FVec Ideal S1024x128 .f32) (f : Fin 1024 → EReal) (h : ∀ r d, x (ix2 r d) = f r) (hc) (r : Fin 1024) (j : Fin 512) :
    concatenate S1024x512 1 [⟨S1024x128, x⟩, ⟨S1024x128, x⟩, ⟨S1024x128, x⟩, ⟨S1024x128, x⟩] hc (ix2 r j) = f r := by
  have k : ∀ (n : ℕ) (hn : n < 4) (h1 : 128 * n ≤ j.val) (h2 : j.val < 128 * n + 128), concatenate S1024x512 1 [⟨S1024x128, x⟩, ⟨S1024x128, x⟩, ⟨S1024x128, x⟩, ⟨S1024x128, x⟩] hc (ix2 r j) = f r := fun n hn h1 h2 => by
    refine (concatenate_apply_piece (t := S1024x512) 1 _ _ (ix2 r j) n (by simpa using hn) S1024x128 x ?_ rfl (128 * n) ?_
      (ix2 r ⟨j.val - 128 * n, by omega⟩) (fun b hb => by fin_cases b <;> simp at hb ⊢) (by show 128 * n + (j.val - 128 * n) = j.val; omega)).trans (h r _)
    · interval_cases n <;> rfl
    · interval_cases n <;> simp
  exact k (j.val / 128) (by omega) (by omega) (by omega)

theorem sub_add (r : ℕ) (h : ¬ r < 512) (h' : r < 1024) : r - 512 = r % 512 := by omega

theorem lt_words : ∀ k : Fin 128, IntOp.cmpi .slt (BitVec.ofNat 32 k.val) 64#32 = (if k.val / 64 = 0 then 1#1 else 0#1)
    ∧ IntOp.cmpi .sge (BitVec.ofNat 32 k.val) 64#32 = if k.val / 64 = 1 then 1#1 else 0#1 := by decide +kernel

theorem head_words : ∀ (h : Fin 8) (x : Fin 16),
    IntOp.cmpi .eq (BitVec.ofNat 32 x.val) (Scalar.addi (Scalar.muli 2#32 (BitVec.ofNat 32 h.val)) 0#32) = (if x.val = 2 * h.val then 1#1 else 0#1)
    ∧ IntOp.cmpi .eq (BitVec.ofNat 32 x.val) (Scalar.addi (Scalar.muli 2#32 (BitVec.ofNat 32 h.val)) 1#32) = if x.val = 2 * h.val + 1 then 1#1 else 0#1 := by
  decide +kernel

theorem row_words : ∀ r : Fin 1024, Scalar.select (IntOp.cmpi .sge (BitVec.ofNat 32 r.val) 512#32) (IntOp.subi (BitVec.ofNat 32 r.val) 512#32) (BitVec.ofNat 32 r.val)
    = BitVec.ofNat 32 (r.val % 512) := by decide +kernel

theorem le_words (r j : Fin 512) : IntOp.cmpi .sle (BitVec.ofNat 32 j.val) (BitVec.ofNat 32 r.val) = if j.val ≤ r.val then 1#1 else 0#1 := by
  have a : (BitVec.ofNat 32 j.val).toInt = j.val := by
    rw [BitVec.toInt_eq_toNat_of_lt (by simp only [BitVec.toNat_ofNat]; omega), BitVec.toNat_ofNat]; omega
  have b : (BitVec.ofNat 32 r.val).toInt = r.val := by
    rw [BitVec.toInt_eq_toNat_of_lt (by simp only [BitVec.toNat_ofNat]; omega), BitVec.toNat_ofNat]; omega
  simp only [IntOp.cmpi, BitVec.sle, a, b, Int.ofNat_le, Nat.cast_le]
  by_cases h : j.val ≤ r.val
  · rw [if_pos h, decide_eq_true h]; rfl
  · rw [if_neg h, decide_eq_false h]; rfl

/-- The mask's constant. -/
theorem mask_bot : (Named.named (F := Ideal) κ "mask" (φ := .f32) 0xF149F2CA#32 : EReal) = ⊥ := by
  simp [Named.named, κ]

section
variable (v23 : FVec Ideal S1024x128 .f32) (v34 : FVec Ideal S1024x128 .bf16)

section
variable (kt : Vec Ideal S1x128x1024 .bf16) (ck : Vec Ideal S1x1x2x1024 .f32)

theorem score8 (q : Fin 1024 → EReal) (hq : ∀ r d, v23 (ix2 r d) = q r) (r : Fin 1024) (j : Fin 1024) :
    k0_pay2 v23 v34 kt ck (ix2 r j) = ∑ k, v34 (ix2 r k) * kt (ix3 0 k j) + (q r - ck (ix4 0 0 ⟨r.val / 512, by omega⟩ j)) := by
  unfold k0_pay2
  rw [addf_apply, subf_apply, lanes8 v23 q hq]
  pointwise
  by_cases h : r.val < 512
  · rw [dif_pos h, show (⟨r.val / 512, by omega⟩ : Fin 2) = 0 from Fin.ext (show r.val / 512 = 0 by omega)]
  · rw [dif_neg h, show (⟨r.val / 512, by omega⟩ : Fin 2) = 1 from Fin.ext (show r.val / 512 = 1 by omega)]
end

section
variable (kt : Vec Ideal S1x128x512 .bf16) (ck : Vec Ideal S1x1x2x512 .f32)

theorem score4 (q : Fin 1024 → EReal) (hq : ∀ r d, v23 (ix2 r d) = q r) (r : Fin 1024) (j : Fin 512) :
    k0_pay12 v23 v34 kt ck (ix2 r j) = ∑ k, v34 (ix2 r k) * kt (ix3 0 k j) + (q r - ck (ix4 0 0 ⟨r.val / 512, by omega⟩ j)) := by
  unfold k0_pay12
  rw [addf_apply, subf_apply, lanes4 v23 q hq]
  pointwise
  by_cases h : r.val < 512
  · rw [dif_pos h, show (⟨r.val / 512, by omega⟩ : Fin 2) = 0 from Fin.ext (show r.val / 512 = 0 by omega)]
  · rw [dif_neg h, show (⟨r.val / 512, by omega⟩ : Fin 2) = 1 from Fin.ext (show r.val / 512 = 1 by omega)]

theorem scoreM (q : Fin 1024 → EReal) (hq : ∀ r d, v23 (ix2 r d) = q r) (r : Fin 1024) (j : Fin 512) :
    k0_pay28 v23 v34 kt ck (ix2 r j) = if j.val ≤ r.val % 512 then ∑ k, v34 (ix2 r k) * kt (ix3 0 k j) + (q r - ck (ix4 0 0 ⟨r.val / 512, by omega⟩ j)) else ⊥ := by
  have e : k0_pay28 v23 v34 kt ck = select (cmpi .sle (iota .tc S1024x512 32 [1] iota_S1024x512_d1_w32)
      (select (cmpi .sge (iota .tc S1024x512 32 [0] iota_S1024x512_d0_w32) (broadcast S1024x512 512#32))
        (subi (iota .tc S1024x512 32 [0] iota_S1024x512_d0_w32) (broadcast S1024x512 512#32)) (iota .tc S1024x512 32 [0] iota_S1024x512_d0_w32)))
      (k0_pay12 v23 v34 kt ck) (broadcast S1024x512 (Named.named (F := Ideal) κ "mask" (φ := .f32) 0xF149F2CA#32)) := rfl
  rw [e]
  generalize hy : k0_pay12 v23 v34 kt ck = y
  pointwise
  rw [row_words, ← hy, score4 v23 v34 kt ck q hq, mask_bot, le_words ⟨r.val % 512, by omega⟩ j]
  split <;> rfl
end

theorem gate (i : grid0.Coords) (v0 : Vec Ideal S512x16 .f32) (r : Fin 1024) (d : Fin 128) :
    k0_pay16 i v0 (ix2 r d) = v0 (ix2 ⟨r.val % 512, by omega⟩ ⟨2 * (i 1).val + r.val / 512, by have h : (i 1).val < 8 := (i 1).isLt; omega⟩) := by
  have hi : (i 1).val < 8 := (i 1).isLt
  pointwise [k0_pay16]
  by_cases h : r.val < 512
  · rw [dif_pos h, Finset.sum_eq_single (⟨2 * (i 1).val, by omega⟩ : Fin 16)]
    · rw [(head_words ⟨(i 1).val, hi⟩ _).1, if_pos rfl]
      exact congrArg v0 (congrArg₂ ix2 (Fin.ext (show r.val = r.val % 512 by omega)) (Fin.ext (show 2 * (i 1).val = 2 * (i 1).val + r.val / 512 by omega)))
    · intro x _ hx
      rw [(head_words ⟨(i 1).val, hi⟩ x).1, if_neg fun h => hx (Fin.ext h)]; rfl
    · exact fun h => absurd (Finset.mem_univ _) h
  · rw [dif_neg h, Finset.sum_eq_single (⟨2 * (i 1).val + 1, by omega⟩ : Fin 16)]
    · rw [(head_words ⟨(i 1).val, hi⟩ _).2, if_pos rfl]
      exact congrArg v0 (congrArg₂ ix2 (Fin.ext (show r.val - 512 = r.val % 512 by omega)) (Fin.ext (show 2 * (i 1).val + 1 = 2 * (i 1).val + r.val / 512 by omega)))
    · intro x _ hx
      rw [(head_words ⟨(i 1).val, hi⟩ x).2, if_neg fun h => hx (Fin.ext h)]; rfl
    · exact fun h => absurd (Finset.mem_univ _) h

theorem stack (v0 : Vec Ideal S512x128 .bf16) (r : Fin 1024) (k : Fin 128) :
    k0_pay17 v0 (ix2 r k) = if k.val / 64 = r.val / 512 then v0 (ix2 ⟨r.val % 512, by omega⟩ k) else 0 := by
  pointwise [k0_pay17]
  by_cases h : r.val < 512
  · rw [dif_pos h, (lt_words k).1, show r.val / 512 = 0 by omega]
    by_cases hk : k.val / 64 = 0
    · rw [if_pos hk, if_pos hk]
      exact congrArg v0 (congrArg₂ ix2 (Fin.ext (show r.val = r.val % 512 by omega)) rfl)
    · rw [if_neg hk, if_neg hk]; rfl
  · rw [dif_neg h, (lt_words k).2, show r.val / 512 = 1 by omega]
    by_cases hk : k.val / 64 = 1
    · rw [if_pos hk, if_pos hk]
      exact congrArg v0 (congrArg₂ ix2 (Fin.ext (show r.val - 512 = r.val % 512 by omega)) rfl)
    · rw [if_neg hk, if_neg hk]; rfl

theorem start9 (r : Fin 1024) (d : Fin 128) : (k0_pay18 (F := Ideal)) (ix2 r d) = ⊥ := by
  pointwise [k0_pay18]
  exact mask_bot
theorem start10 (r : Fin 1024) (d : Fin 128) : (k0_pay19 (F := Ideal)) (ix2 r d) = 0 := by pointwise [k0_pay19]
theorem start11 (r : Fin 1024) (d : Fin 128) : (k0_pay20 (F := Ideal)) (ix2 r d) = 0 := by pointwise [k0_pay20]
theorem last (a b a' b' : Vec Ideal S512x128 .f32) (r : Fin 512) (d : Fin 128) :
    k0_pay1 k0_pay36 (k0_pay37 a b) a' b' (ix2 r d) = if d.val < 64 then Ideal.div (a (ix2 r d)) (b (ix2 r d)) else Ideal.div (a' (ix2 r d)) (b' (ix2 r d)) := by
  pointwise [k0_pay1, k0_pay36, k0_pay37]
  rw [(lt_words d).1]
  by_cases h : d.val < 64
  · rw [if_pos h, if_pos (by omega)]; rfl
  · rw [if_neg h, if_neg (by omega)]; rfl

/-- What the three running buffers hold once the first `n` keys are seen. -/
def St (e : Fin 1024 → ℕ → EReal) (V : ℕ → Fin 128 → ℝ) (n : ℕ) (x9 x10 x11 : Vec Ideal S1024x128 .f32) : Prop :=
  ∀ r, Holds (e r) V n (fun d => x9 (ix2 r d)) (fun d => x10 (ix2 r d)) fun d => x11 (ix2 r d)

variable {e : Fin 1024 → ℕ → EReal} {V : ℕ → Fin 128 → ℝ} {n : ℕ} {x9 x10 x11 : Vec Ideal S1024x128 .f32}

theorem St.init : St e V 0 (k0_pay18 (F := Ideal)) (k0_pay19 (F := Ideal)) (k0_pay20 (F := Ideal)) := fun r =>
  .inl ⟨rfl, fun d => ⟨start9 r d, start10 r d, start11 r d⟩⟩

theorem St.wide (h : St e V n x9 x10 x11) (kt : Vec Ideal S1x128x1024 .bf16) (ck : Vec Ideal S1x1x2x1024 .f32) (v : Vec Ideal S1024x128 .bf16)
    (he : ∀ r j, e r j ≠ ⊤) (hr : ∀ r, IsReal (e r n)) (hs : ∀ r (j : Fin 1024), k0_pay2 v23 v34 kt ck (ix2 r j) = e r (n + j.val))
    (hv : ∀ (j : Fin 1024) d, v (ix2 j d) = (V (n + j.val) d : EReal)) :
    St e V (n + 1024) (k0_pay21 (k0_pay3 v23 v34 kt ck x9)) (k0_pay6 v23 v34 kt ck x9 x10)
      (k0_pay22 (k0_pay4 v23 v34 kt ck x9) (k0_pay5 v23 v34 kt ck x9) x11 v) := fun r => by
  have hm : ∀ r d, k0_pay3 v23 v34 kt ck x9 (ix2 r d) = max (x9 (ix2 r d)) (Finset.fold max ⊥ (fun j => k0_pay2 v23 v34 kt ck (ix2 r j)) Finset.univ) := fun r d => by
    rw [← negInf_eq]; unfold k0_pay3; pointwise [negInf]
  have hc : ∀ r d, k0_pay3 v23 v34 kt ck x9 (ix2 r d) = k0_pay3 v23 v34 kt ck x9 (ix2 r 0) := fun r d => by
    rw [hm, hm, (h r).lane d]
  refine (h r).step (fun j => k0_pay2 v23 v34 kt ck (ix2 r j)) (fun j => k0_pay5 v23 v34 kt ck x9 (ix2 r j)) _ _ _ (he r) (by decide) (hr r) (hs r) (fun d => ?_) (fun j => ⟨0, ?_⟩) (fun d => ?_) fun d => ?_
  · refine Eq.trans ?_ (hm r d); pointwise [k0_pay21]
  · unfold k0_pay5
    rw [exp_apply, subf_apply, lanes8 _ _ hc]
    pointwise [k0_pay21]
  · pointwise [k0_pay21, k0_pay6, k0_pay4]
  · pointwise [k0_pay21, k0_pay22, k0_pay4]
    simp only [hv]

theorem St.part (h : St e V n x9 x10 x11) (kt : Vec Ideal S1x128x512 .bf16) (ck : Vec Ideal S1x1x2x512 .f32) (v : Vec Ideal S512x128 .bf16)
    (he : ∀ r j, e r j ≠ ⊤) (hr : ∀ r, IsReal (e r n)) (hs : ∀ r (j : Fin 512), k0_pay12 v23 v34 kt ck (ix2 r j) = e r (n + j.val))
    (hv : ∀ (j : Fin 512) d, v (ix2 j d) = (V (n + j.val) d : EReal)) :
    St e V (n + 512) (k0_pay26 (k0_pay13 v23 v34 kt ck x9)) (k0_pay25 (k0_pay14 v23 v34 kt ck x9) (k0_pay15 v23 v34 kt ck x9) x10)
      (k0_pay27 (k0_pay14 v23 v34 kt ck x9) (k0_pay15 v23 v34 kt ck x9) x11 v) := fun r => by
  have hm : ∀ r d, k0_pay13 v23 v34 kt ck x9 (ix2 r d) = max (x9 (ix2 r d)) (Finset.fold max ⊥ (fun j => k0_pay12 v23 v34 kt ck (ix2 r j)) Finset.univ) := fun r d => by
    rw [← negInf_eq]; unfold k0_pay13; pointwise [negInf]
  have hc : ∀ r d, k0_pay13 v23 v34 kt ck x9 (ix2 r d) = k0_pay13 v23 v34 kt ck x9 (ix2 r 0) := fun r d => by
    rw [hm, hm, (h r).lane d]
  refine (h r).step (fun j => k0_pay12 v23 v34 kt ck (ix2 r j)) (fun j => k0_pay15 v23 v34 kt ck x9 (ix2 r j)) _ _ _ (he r) (by decide) (hr r) (hs r) (fun d => ?_) (fun j => ⟨0, ?_⟩) (fun d => ?_) fun d => ?_
  · refine Eq.trans ?_ (hm r d); pointwise [k0_pay26]
  · unfold k0_pay15
    rw [exp_apply, subf_apply, lanes4 _ _ hc]
    pointwise [k0_pay26]
  · pointwise [k0_pay26, k0_pay25, k0_pay14]
  · pointwise [k0_pay26, k0_pay27, k0_pay14]
    simp only [hv]

theorem St.diag (h : St e V n x9 x10 x11) (kt : Vec Ideal S1x128x512 .bf16) (ck : Vec Ideal S1x1x2x512 .f32) (v : Vec Ideal S512x128 .bf16)
    (he : ∀ r j, e r j ≠ ⊤) (hr : ∀ r, IsReal (e r n)) (hs : ∀ r (j : Fin 512), k0_pay28 v23 v34 kt ck (ix2 r j) = e r (n + j.val))
    (hv : ∀ (j : Fin 512) d, v (ix2 j d) = (V (n + j.val) d : EReal)) :
    St e V (n + 512) (k0_pay34 x9 (k0_pay29 v23 v34 kt ck)) (k0_pay33 (k0_pay28 v23 v34 kt ck) x9 (k0_pay29 v23 v34 kt ck) x10)
      (k0_pay35 (k0_pay28 v23 v34 kt ck) x9 (k0_pay29 v23 v34 kt ck) x11 v) := fun r => by
  have hm : ∀ r d, k0_pay30 x9 (k0_pay29 v23 v34 kt ck) (ix2 r d) = max (x9 (ix2 r d)) (Finset.fold max ⊥ (fun j => k0_pay28 v23 v34 kt ck (ix2 r j)) Finset.univ) := fun r d => by
    rw [← negInf_eq]; unfold k0_pay30 k0_pay29; pointwise [negInf]
  have hc : ∀ r d, k0_pay30 x9 (k0_pay29 v23 v34 kt ck) (ix2 r d) = k0_pay30 x9 (k0_pay29 v23 v34 kt ck) (ix2 r 0) := fun r d => by
    rw [hm, hm, (h r).lane d]
  refine (h r).step (fun j => k0_pay28 v23 v34 kt ck (ix2 r j)) (fun j => k0_pay32 (k0_pay28 v23 v34 kt ck) x9 (k0_pay29 v23 v34 kt ck) (ix2 r j)) _ _ _ (he r) (by decide) (hr r) (hs r) (fun d => ?_) (fun j => ⟨0, ?_⟩) (fun d => ?_) fun d => ?_
  · refine Eq.trans ?_ (hm r d); pointwise [k0_pay34]
  · unfold k0_pay32
    rw [exp_apply, subf_apply, lanes4 _ _ hc]
    pointwise [k0_pay34]
  · pointwise [k0_pay34, k0_pay33, k0_pay31]
  · pointwise [k0_pay34, k0_pay35, k0_pay31]
    simp only [hv]

end

end Cert.Kernel4Ideal.Gen
end
-- ==== Proof.FoxRun.lean ====
module

public import proofs.«01_k».proof.Proof.Gen.Kernel4Ideal.Frame
public import proofs.«01_k».proof.Proof.FoxPay
public import Idealize.ShloMosaic.Lib.Pipeline.ValueKit
public import Idealize.ShloMosaic.Lib.VecWindow
public import Idealize.ShloMosaic.Lib.WholeRead

@[expose] public section

set_option maxRecDepth 16384

noncomputable section

namespace Cert.Kernel4Ideal.Gen

open Idealize.ShloMosaic Idealize.ShloMosaic.TcCoe Cert.Layer

/-- The rectangle of a whole running buffer. -/
abbrev full : Rect S1024x128 := Rect.unit (s := S1024x128) ![0, 0] S1024x128.size inb_S1024x128_S1024x128_0_0

section
variable (c : Dev nD) (i : grid0.Coords)
  (arg3 : Memref sig .tc .vmem S512x128 .bf16) (harg3 : arg3.IsWhole)
  (arg4 : Memref sig .tc .vmem S1x128x2048 .bf16) (harg4 : arg4.IsWhole)
  (arg5 : Memref sig .tc .vmem S2048x128 .bf16) (harg5 : arg5.IsWhole)
  (arg6 : Memref sig .tc .vmem S512x16 .f32) (harg6 : arg6.IsWhole)
  (arg7 : Memref sig .tc .vmem S1x1x2x2048 .f32) (harg7 : arg7.IsWhole)
  (arg8 : Memref sig .tc .vmem S512x128 .bf16) (harg8 : arg8.IsWhole)
  (arg9 : Memref sig .tc .vmem S1024x128 .f32) (harg9 : arg9.IsWhole)
  (arg10 : Memref sig .tc .vmem S1024x128 .f32) (harg10 : arg10.IsWhole)
  (arg11 : Memref sig .tc .vmem S1024x128 .f32) (harg11 : arg11.IsWhole)

section
variable (w : BitVec 32) (v23 : FVec Ideal S1024x128 .f32) (v34 : FVec Ideal S1024x128 .bf16) (v38 : FVec Ideal S1024x128 .f32)
  (X4 : BufTy.Contents (Elt Ideal) arg4.view.ty) (X5 : BufTy.Contents (Elt Ideal) arg5.view.ty) (X7 : BufTy.Contents (Elt Ideal) arg7.view.ty)

/-- The keys, the gates and the values of one trip. -/
abbrev wideK (k : Fin (k0_t1_loop i).trips) : Vec Ideal S1x128x1024 .bf16 :=
  View.readAt (Elt Ideal) arg4.view (Rect.unit (s := S1x128x2048) (k0_off1 i k) S1x128x1024.size (k0_off1_inb i k)).toLoadRect X4
abbrev wideC (k : Fin (k0_t1_loop i).trips) : Vec Ideal S1x1x2x1024 .f32 :=
  View.readAt (Elt Ideal) arg7.view (Rect.unit (s := S1x1x2x2048) (k0_off2 i k) S1x1x2x1024.size (k0_off2_inb i k)).toLoadRect X7
abbrev wideV (k : Fin (k0_t1_loop i).trips) : Vec Ideal S1024x128 .bf16 :=
  View.readAt (Elt Ideal) arg5.view (Rect.unit (s := S2048x128) (k0_off3 i k) S1024x128.size (k0_off3_inb i k)).toLoadRect X5

/-- What one trip stores. -/
theorem trip_eq (k : Fin (k0_t1_loop i).trips) (f9 : BufTy.Contents (Elt Ideal) arg9.view.ty) (f10 : BufTy.Contents (Elt Ideal) arg10.view.ty)
    (f11 : BufTy.Contents (Elt Ideal) arg11.view.ty) :
    tripL_k0_t1 (F := Ideal) Variants.none c none i arg3 harg3 arg4 harg4 arg5 harg5 arg6 harg6 arg7 harg7 arg8 harg8 arg9 harg9 arg10 harg10 arg11 harg11 w v23 v34 v38 X4 X5 X7 k f9 f10 f11
      = ([⟨full, k0_pay21 (k0_pay3 v23 v34 (wideK i arg4 X4 k) (wideC i arg7 X7 k) (View.readAt (Elt Ideal) arg9.view full.toLoadRect f9))⟩],
        [⟨full, k0_pay6 v23 v34 (wideK i arg4 X4 k) (wideC i arg7 X7 k) (View.readAt (Elt Ideal) arg9.view full.toLoadRect f9) (View.readAt (Elt Ideal) arg10.view full.toLoadRect f10)⟩],
        [⟨full, k0_pay22 (k0_pay4 v23 v34 (wideK i arg4 X4 k) (wideC i arg7 X7 k) (View.readAt (Elt Ideal) arg9.view full.toLoadRect f9))
          (k0_pay5 v23 v34 (wideK i arg4 X4 k) (wideC i arg7 X7 k) (View.readAt (Elt Ideal) arg9.view full.toLoadRect f9))
          (View.readAt (Elt Ideal) arg11.view full.toLoadRect f11) (wideV i arg5 X5 k)⟩]) := by
  unfold tripL_k0_t1 trip_k0_t1
  rfl

/-- The stores of the trips before `k`. -/
abbrev trips (k : ℕ) := pb_k0_t1 (F := Ideal) Variants.none c none i arg3 harg3 arg4 harg4 arg5 harg5 arg6 harg6 arg7 harg7 arg8 harg8 arg9 harg9 arg10 harg10 arg11 harg11 w v23 v34 v38 X4 X5 X7
  (arg9.view.writes (Elt Ideal) arg9.view.junk [⟨full, k0_pay18 (F := Ideal)⟩]) (arg10.view.writes (Elt Ideal) arg10.view.junk [⟨full, k0_pay19 (F := Ideal)⟩])
  (arg11.view.writes (Elt Ideal) arg11.view.junk [⟨full, k0_pay20 (F := Ideal)⟩]) k

variable {e : Fin 1024 → ℕ → EReal} {V : ℕ → Fin 128 → ℝ}

/-- The running buffers before trip `k`. -/
theorem trips_state (he : ∀ r j, e r j ≠ ⊤)
    (hr : ∀ (k : Fin (k0_t1_loop i).trips) r, IsReal (e r (1024 * k.val)))
    (hs : ∀ (k : Fin (k0_t1_loop i).trips) r (j : Fin 1024), k0_pay2 v23 v34 (wideK i arg4 X4 k) (wideC i arg7 X7 k) (ix2 r j) = e r (1024 * k.val + j.val))
    (hv : ∀ (k : Fin (k0_t1_loop i).trips) (j : Fin 1024) d, wideV i arg5 X5 k (ix2 j d) = (V (1024 * k.val + j.val) d : EReal))
    (k : ℕ) (hk : k ≤ (k0_t1_loop i).trips) :
    St e V (1024 * k)
      (View.readAt (Elt Ideal) arg9.view full.toLoadRect (arg9.view.writes (Elt Ideal) (arg9.view.writes (Elt Ideal) arg9.view.junk [⟨full, k0_pay18 (F := Ideal)⟩]) (trips c i arg3 harg3 arg4 harg4 arg5 harg5 arg6 harg6 arg7 harg7 arg8 harg8 arg9 harg9 arg10 harg10 arg11 harg11 w v23 v34 v38 X4 X5 X7 k).1))
      (View.readAt (Elt Ideal) arg10.view full.toLoadRect (arg10.view.writes (Elt Ideal) (arg10.view.writes (Elt Ideal) arg10.view.junk [⟨full, k0_pay19 (F := Ideal)⟩]) (trips c i arg3 harg3 arg4 harg4 arg5 harg5 arg6 harg6 arg7 harg7 arg8 harg8 arg9 harg9 arg10 harg10 arg11 harg11 w v23 v34 v38 X4 X5 X7 k).2.1))
      (View.readAt (Elt Ideal) arg11.view full.toLoadRect (arg11.view.writes (Elt Ideal) (arg11.view.writes (Elt Ideal) arg11.view.junk [⟨full, k0_pay20 (F := Ideal)⟩]) (trips c i arg3 harg3 arg4 harg4 arg5 harg5 arg6 harg6 arg7 harg7 arg8 harg8 arg9 harg9 arg10 harg10 arg11 harg11 w v23 v34 v38 X4 X5 X7 k).2.2)) := by
  induction k with
  | zero =>
    have h9 := View.readAt_writes_full (Val := Elt Ideal) arg9.view arg9.view.junk (off := ![0, 0]) (off' := ![0, 0]) inb_S1024x128_S1024x128_0_0 inb_S1024x128_S1024x128_0_0 (k0_pay18 (F := Ideal)) []
    have h10 := View.readAt_writes_full (Val := Elt Ideal) arg10.view arg10.view.junk (off := ![0, 0]) (off' := ![0, 0]) inb_S1024x128_S1024x128_0_0 inb_S1024x128_S1024x128_0_0 (k0_pay19 (F := Ideal)) []
    have h11 := View.readAt_writes_full (Val := Elt Ideal) arg11.view arg11.view.junk (off := ![0, 0]) (off' := ![0, 0]) inb_S1024x128_S1024x128_0_0 inb_S1024x128_S1024x128_0_0 (k0_pay20 (F := Ideal)) []
    have h : St e V 0 (k0_pay18 (F := Ideal)) (k0_pay19 (F := Ideal)) (k0_pay20 (F := Ideal)) := St.init
    rw [← h9, ← h10, ← h11] at h
    exact h
  | succ k ih =>
    have ih := ih (by omega)
    have := ih.wide v23 v34 (wideK i arg4 X4 ⟨k, hk⟩) (wideC i arg7 X7 ⟨k, hk⟩) (wideV i arg5 X5 ⟨k, hk⟩) he (hr ⟨k, hk⟩) (hs ⟨k, hk⟩) (hv ⟨k, hk⟩)
    have hp := pb_k0_t1_succ (F := Ideal) Variants.none c none i arg3 harg3 arg4 harg4 arg5 harg5 arg6 harg6 arg7 harg7 arg8 harg8 arg9 harg9 arg10 harg10 arg11 harg11 w v23 v34 v38 X4 X5 X7
      (arg9.view.writes (Elt Ideal) arg9.view.junk [⟨full, k0_pay18 (F := Ideal)⟩]) (arg10.view.writes (Elt Ideal) arg10.view.junk [⟨full, k0_pay19 (F := Ideal)⟩])
      (arg11.view.writes (Elt Ideal) arg11.view.junk [⟨full, k0_pay20 (F := Ideal)⟩]) ⟨k, hk⟩
    rw [trip_eq] at hp
    rw [show 1024 * (k + 1) = 1024 * k + 1024 by ring]
    unfold trips
    rw [hp]
    simp only [List.cons_append, List.nil_append]
    rw [View.readAt_writes_full, View.readAt_writes_full, View.readAt_writes_full]
    exact this

end

theorem half (a : Memref sig .tc .vmem S1024x128 .f32) (X : Vec Ideal S1024x128 .f32) (L : List (View.Piece (Elt Ideal) S1024x128 .f32)) (o : ℕ)
    (inb : ∀ d, (![o, 0] : Fin 2 → ℕ) d + S512x128.size d ≤ S1024x128.size d) (r : Fin 512) (d : Fin 128) (h : o + r.val < 1024) :
    View.readCov (Val := Elt Ideal) a.view (⟨full, X⟩ :: L) (Rect.unit (s := S1024x128) ![o, 0] S512x128.size inb).toLoadRect (ix2 r d)
      = X (ix2 ⟨o + r.val, h⟩ d) := by
  have := View.read_writes_full (Val := Elt Ideal) a.view a.view.junk (off := ![0, 0]) inb_S1024x128_S1024x128_0_0 X L
  show View.ld (a.view.read (Elt Ideal) _) (Rect.unit (s := S1024x128) ![o, 0] S512x128.size inb) (ix2 r d) = _
  rw [this]
  refine View.ld_unit_apply_of X _ _ _ _ (ix2 ⟨o + r.val, h⟩ d) fun a => ?_
  fin_cases a
  · rfl
  · exact (Nat.zero_add _).symm

/-- The two halves of the running buffers, divided. -/
theorem St.out {e : Fin 1024 → ℕ → EReal} {V : ℕ → Fin 128 → ℝ} {n : ℕ} {x9 x10 x11 : Vec Ideal S1024x128 .f32} (h : St e V n x9 x10 x11)
    (hn : 0 < n) (hN : n ≤ 2048) (hb : ∀ r j, n ≤ j → e r j = ⊥) (hr : ∀ r, IsReal (e r 0)) (M' : Fin 1024 → ℝ)
    {a b a' b' : Vec Ideal S512x128 .f32} (r : Fin 512) (d : Fin 128)
    (ha : a (ix2 r d) = x11 (ix2 ⟨0 + r.val, by omega⟩ d)) (hb' : b (ix2 r d) = x10 (ix2 ⟨0 + r.val, by omega⟩ d))
    (ha' : a' (ix2 r d) = x11 (ix2 ⟨512 + r.val, by omega⟩ d)) (hb'' : b' (ix2 r d) = x10 (ix2 ⟨512 + r.val, by omega⟩ d))
    (R : Fin 1024) (hR : R.val = d.val / 64 * 512 + r.val) :
    k0_pay1 k0_pay36 (k0_pay37 a b) a' b' (ix2 r d)
      = ((∑ j : Fin 2048, wt (e R j) (M' R) / (∑ k : Fin 2048, wt (e R k) (M' R)) * V j d : ℝ) : EReal) := by
  rw [last, ha, hb', ha', hb'']
  have q := ((h R).rest hn hN (hb R)).quot (by decide) (hr R) (M' R) d
  by_cases hd : d.val < 64
  · rw [if_pos hd]
    have e : R = ⟨0 + r.val, by omega⟩ := Fin.ext (by rw [hR]; show _ = 0 + r.val; omega)
    rw [e] at q ⊢
    exact q
  · rw [if_neg hd]
    have e : R = ⟨512 + r.val, by omega⟩ := Fin.ext (by rw [hR]; show _ = 512 + r.val; omega)
    rw [e] at q ⊢
    exact q

variable (x0 : Vec Ideal S512x128 .bf16) (x1 : Vec Ideal S1x128x2048 .bf16) (x2 : Vec Ideal S2048x128 .bf16) (x3 : Vec Ideal S512x16 .f32)
  (x4 : Vec Ideal S1x1x2x2048 .f32)

/-- The loop's stores with the arguments of the body. -/
abbrev loopT := trips c i arg3 harg3 arg4 harg4 arg5 harg5 arg6 harg6 arg7 harg7 arg8 harg8 arg9 harg9 arg10 harg10 arg11 harg11 (BitVec.ofNat 32 (i 2).val) (k0_pay16 (F := Ideal) i x3) (k0_pay17 (F := Ideal) x0) (k0_pay18 (F := Ideal))
  (harg4.unread x1) (harg5.unread x2) (harg7.unread x4) (k0_t1_loop i).trips

theorem r_A : kernelRun0_A.sl.r c i arg6 harg6 x3 = k0_pay16 (F := Ideal) i x3 := by
  unfold kernelRun0_A.sl.r
  exact congrArg _ ((View.readAt_full _ _ _).trans (harg6.read_unread x3))
theorem r1_A : kernelRun0_A.sl.r_1 c arg3 harg3 x0 = k0_pay17 (F := Ideal) x0 := by
  unfold kernelRun0_A.sl.r_1
  exact congrArg _ ((View.readAt_full _ _ _).trans (harg3.read_unread x0))
theorem r2_A : kernelRun0_A.sl.r_2 c i arg3 harg3 arg4 harg4 arg6 harg6 arg7 harg7 x0 x1 x3 x4 = k0_pay28 (k0_pay16 (F := Ideal) i x3) (k0_pay17 (F := Ideal) x0) (View.readAt (Elt Ideal) arg4.view (Rect.unit (s := S1x128x2048) (k0_off10 i) S1x128x512.size (k0_off10_inb i)).toLoadRect (harg4.unread x1)) (View.readAt (Elt Ideal) arg7.view (Rect.unit (s := S1x1x2x2048) (k0_off11 i) S1x1x2x512.size (k0_off11_inb i)).toLoadRect (harg7.unread x4)) := by
  unfold kernelRun0_A.sl.r_2
  rw [r_A, r1_A]
theorem r3_A : kernelRun0_A.sl.r_3 c i arg3 harg3 arg4 harg4 arg6 harg6 arg7 harg7 x0 x1 x3 x4 = k0_pay29 (k0_pay16 (F := Ideal) i x3) (k0_pay17 (F := Ideal) x0) (View.readAt (Elt Ideal) arg4.view (Rect.unit (s := S1x128x2048) (k0_off10 i) S1x128x512.size (k0_off10_inb i)).toLoadRect (harg4.unread x1)) (View.readAt (Elt Ideal) arg7.view (Rect.unit (s := S1x1x2x2048) (k0_off11 i) S1x1x2x512.size (k0_off11_inb i)).toLoadRect (harg7.unread x4)) := by
  unfold kernelRun0_A.sl.r_3
  rw [r_A, r1_A]

theorem v111_A (h2 : (k0_t2_loop i).trips = 0) :
    kernelRun0_A.sl.v111 c i arg3 harg3 arg4 harg4 arg5 harg5 arg6 harg6 arg7 harg7 arg8 harg8 arg9 harg9 arg10 harg10 arg11 harg11 x0 x1 x2 x3 x4 = (View.readAt (Elt Ideal) arg9.view full.toLoadRect (arg9.view.writes (Elt Ideal) (arg9.view.writes (Elt Ideal) arg9.view.junk [⟨full, k0_pay18 (F := Ideal)⟩]) (loopT c i arg3 harg3 arg4 harg4 arg5 harg5 arg6 harg6 arg7 harg7 arg8 harg8 arg9 harg9 arg10 harg10 arg11 harg11 x0 x1 x2 x3 x4).1)) := by
  have h2 : Scf.trips (k0_t2_loop i).lb (k0_t2_loop i).ub (k0_t2_loop i).st = 0 := h2
  unfold kernelRun0_A.sl.v111
  rw [r_A, r1_A, h2]
  refine Eq.trans ?_ (congrArg (View.readAt (Elt Ideal) arg9.view full.toLoadRect) (View.writes_append arg9.view arg9.view.junk _ _))
  unfold loopT trips k0_t1_loop
  rw [pb_k0_t2, List.nil_append]
  rfl

theorem v121_A (h2 : (k0_t2_loop i).trips = 0) :
    kernelRun0_A.sl.v121 c i arg3 harg3 arg4 harg4 arg5 harg5 arg6 harg6 arg7 harg7 arg8 harg8 arg9 harg9 arg10 harg10 arg11 harg11 x0 x1 x2 x3 x4 = (View.readAt (Elt Ideal) arg10.view full.toLoadRect (arg10.view.writes (Elt Ideal) (arg10.view.writes (Elt Ideal) arg10.view.junk [⟨full, k0_pay19 (F := Ideal)⟩]) (loopT c i arg3 harg3 arg4 harg4 arg5 harg5 arg6 harg6 arg7 harg7 arg8 harg8 arg9 harg9 arg10 harg10 arg11 harg11 x0 x1 x2 x3 x4).2.1)) := by
  have h2 : Scf.trips (k0_t2_loop i).lb (k0_t2_loop i).ub (k0_t2_loop i).st = 0 := h2
  unfold kernelRun0_A.sl.v121
  rw [r_A, r1_A, h2]
  refine Eq.trans ?_ (congrArg (View.readAt (Elt Ideal) arg10.view full.toLoadRect) (View.writes_append arg10.view arg10.view.junk _ _))
  unfold loopT trips k0_t1_loop
  rw [pb_k0_t2, List.nil_append]
  rfl

theorem v133_A (h2 : (k0_t2_loop i).trips = 0) :
    kernelRun0_A.sl.v133 c i arg3 harg3 arg4 harg4 arg5 harg5 arg6 harg6 arg7 harg7 arg8 harg8 arg9 harg9 arg10 harg10 arg11 harg11 x0 x1 x2 x3 x4 = (View.readAt (Elt Ideal) arg11.view full.toLoadRect (arg11.view.writes (Elt Ideal) (arg11.view.writes (Elt Ideal) arg11.view.junk [⟨full, k0_pay20 (F := Ideal)⟩]) (loopT c i arg3 harg3 arg4 harg4 arg5 harg5 arg6 harg6 arg7 harg7 arg8 harg8 arg9 harg9 arg10 harg10 arg11 harg11 x0 x1 x2 x3 x4).2.2)) := by
  have h2 : Scf.trips (k0_t2_loop i).lb (k0_t2_loop i).ub (k0_t2_loop i).st = 0 := h2
  unfold kernelRun0_A.sl.v133
  rw [r_A, r1_A, h2]
  refine Eq.trans ?_ (congrArg (View.readAt (Elt Ideal) arg11.view full.toLoadRect) (View.writes_append arg11.view arg11.view.junk _ _))
  unfold loopT trips k0_t1_loop
  rw [pb_k0_t2, List.nil_append]
  rfl

/-- The block stored at one grid point, the tile's index even: each row is the average of the values its head may see. -/
theorem out_A (hc0 : ¬cond0_0 i) (h2 : (k0_t2_loop i).trips = 0) {e : Fin 1024 → ℕ → EReal} {V : ℕ → Fin 128 → ℝ} (he : ∀ r j, e r j ≠ ⊤) (h0 : ∀ r, IsReal (e r 0))
    (hr : ∀ (k : Fin (k0_t1_loop i).trips) r, IsReal (e r (1024 * k.val)))
    (hs : ∀ (k : Fin (k0_t1_loop i).trips) r (j : Fin 1024), k0_pay2 (k0_pay16 (F := Ideal) i x3) (k0_pay17 (F := Ideal) x0) (wideK i arg4 (harg4.unread x1) k) (wideC i arg7 (harg7.unread x4) k) (ix2 r j) = e r (1024 * k.val + j.val))
    (hv : ∀ (k : Fin (k0_t1_loop i).trips) (j : Fin 1024) d, wideV i arg5 (harg5.unread x2) k (ix2 j d) = (V (1024 * k.val + j.val) d : EReal))
    (hrd : ∀ r, IsReal (e r (1024 * (k0_t1_loop i).trips)))
    (hsd : ∀ r (j : Fin 512), k0_pay28 (k0_pay16 (F := Ideal) i x3) (k0_pay17 (F := Ideal) x0) (View.readAt (Elt Ideal) arg4.view (Rect.unit (s := S1x128x2048) (k0_off10 i) S1x128x512.size (k0_off10_inb i)).toLoadRect (harg4.unread x1)) (View.readAt (Elt Ideal) arg7.view (Rect.unit (s := S1x1x2x2048) (k0_off11 i) S1x1x2x512.size (k0_off11_inb i)).toLoadRect (harg7.unread x4)) (ix2 r j) = e r (1024 * (k0_t1_loop i).trips + j.val))
    (hvd : ∀ (j : Fin 512) d, (View.readAt (Elt Ideal) arg5.view (Rect.unit (s := S2048x128) (k0_off12 i) S512x128.size (k0_off12_inb i)).toLoadRect (harg5.unread x2)) (ix2 j d) = (V (1024 * (k0_t1_loop i).trips + j.val) d : EReal))
    (hN : 1024 * (k0_t1_loop i).trips + 512 ≤ 2048) (hb : ∀ r j, 1024 * (k0_t1_loop i).trips + 512 ≤ j → e r j = ⊥) (M' : Fin 1024 → ℝ) (r : Fin 512) (d : Fin 128) (R : Fin 1024) (hR : R.val = d.val / 64 * 512 + r.val) :
    out0_A_5 c i arg3 harg3 arg4 harg4 arg5 harg5 arg6 harg6 arg7 harg7 arg8 harg8 arg9 harg9 arg10 harg10 arg11 harg11 hc0 x0 x1 x2 x3 x4 (ix2 r d)
      = ((∑ j : Fin 2048, wt (e R j) (M' R) / (∑ k : Fin 2048, wt (e R k) (M' R)) * V j d : ℝ) : EReal) := by
  have out : out0_A_5 c i arg3 harg3 arg4 harg4 arg5 harg5 arg6 harg6 arg7 harg7 arg8 harg8 arg9 harg9 arg10 harg10 arg11 harg11 hc0 x0 x1 x2 x3 x4 = k0_pay1 k0_pay36 (kernelRun0_A.sl.r_4 c i arg3 harg3 arg4 harg4 arg5 harg5 arg6 harg6 arg7 harg7 arg8 harg8 arg9 harg9 arg10 harg10 arg11 harg11 x0 x1 x2 x3 x4) (kernelRun0_A.sl.v150 c i arg3 harg3 arg4 harg4 arg5 harg5 arg6 harg6 arg7 harg7 arg8 harg8 arg9 harg9 arg10 harg10 arg11 harg11 x0 x1 x2 x3 x4) (kernelRun0_A.sl.v151 c i arg3 harg3 arg4 harg4 arg5 harg5 arg6 harg6 arg7 harg7 arg8 harg8 arg9 harg9 arg10 harg10 arg11 harg11 x0 x1 x2 x3 x4) := by
    unfold out0_A_5 kernelRun0_A
    exact View.read_writes_full ..
  rw [out]
  unfold kernelRun0_A.sl.r_4
  have S := (trips_state c i arg3 harg3 arg4 harg4 arg5 harg5 arg6 harg6 arg7 harg7 arg8 harg8 arg9 harg9 arg10 harg10 arg11 harg11 (BitVec.ofNat 32 (i 2).val) (k0_pay16 (F := Ideal) i x3) (k0_pay17 (F := Ideal) x0) (k0_pay18 (F := Ideal)) (harg4.unread x1) (harg5.unread x2) (harg7.unread x4) he hr hs hv _ le_rfl)
  skip
  replace S := S.diag (k0_pay16 (F := Ideal) i x3) (k0_pay17 (F := Ideal) x0) (View.readAt (Elt Ideal) arg4.view (Rect.unit (s := S1x128x2048) (k0_off10 i) S1x128x512.size (k0_off10_inb i)).toLoadRect (harg4.unread x1)) (View.readAt (Elt Ideal) arg7.view (Rect.unit (s := S1x1x2x2048) (k0_off11 i) S1x1x2x512.size (k0_off11_inb i)).toLoadRect (harg7.unread x4)) (View.readAt (Elt Ideal) arg5.view (Rect.unit (s := S2048x128) (k0_off12 i) S512x128.size (k0_off12_inb i)).toLoadRect (harg5.unread x2)) he hrd hsd hvd
  refine S.out (by omega) hN hb h0 M' r d ?_ ?_ ?_ ?_ R hR
  · unfold kernelRun0_A.sl.v147 kernelRun0_A.sl.HS2_1_1
    refine (half _ _ _ _ _ _ _ (by omega)).trans ?_
    rw [r2_A, r3_A, v111_A, v133_A]
    all_goals exact h2
  · unfold kernelRun0_A.sl.v148 kernelRun0_A.sl.HS1_1_1
    refine (half _ _ _ _ _ _ _ (by omega)).trans ?_
    rw [r2_A, r3_A, v111_A, v121_A]
    all_goals exact h2
  · unfold kernelRun0_A.sl.v150 kernelRun0_A.sl.HS2_1_1
    refine (half _ _ _ _ _ _ _ (by omega)).trans ?_
    rw [r2_A, r3_A, v111_A, v133_A]
    all_goals exact h2
  · unfold kernelRun0_A.sl.v151 kernelRun0_A.sl.HS1_1_1
    refine (half _ _ _ _ _ _ _ (by omega)).trans ?_
    rw [r2_A, r3_A, v111_A, v121_A]
    all_goals exact h2

theorem r_B : kernelRun0_B.sl.r c i arg6 harg6 x3 = k0_pay16 (F := Ideal) i x3 := by
  unfold kernelRun0_B.sl.r
  exact congrArg _ ((View.readAt_full _ _ _).trans (harg6.read_unread x3))
theorem r1_B : kernelRun0_B.sl.r_1 c arg3 harg3 x0 = k0_pay17 (F := Ideal) x0 := by
  unfold kernelRun0_B.sl.r_1
  exact congrArg _ ((View.readAt_full _ _ _).trans (harg3.read_unread x0))
theorem r2_B : kernelRun0_B.sl.r_2 c i arg3 harg3 arg4 harg4 arg6 harg6 arg7 harg7 x0 x1 x3 x4 = k0_pay28 (k0_pay16 (F := Ideal) i x3) (k0_pay17 (F := Ideal) x0) (View.readAt (Elt Ideal) arg4.view (Rect.unit (s := S1x128x2048) (k0_off10 i) S1x128x512.size (k0_off10_inb i)).toLoadRect (harg4.unread x1)) (View.readAt (Elt Ideal) arg7.view (Rect.unit (s := S1x1x2x2048) (k0_off11 i) S1x1x2x512.size (k0_off11_inb i)).toLoadRect (harg7.unread x4)) := by
  unfold kernelRun0_B.sl.r_2
  rw [r_B, r1_B]
theorem r3_B : kernelRun0_B.sl.r_3 c i arg3 harg3 arg4 harg4 arg6 harg6 arg7 harg7 x0 x1 x3 x4 = k0_pay29 (k0_pay16 (F := Ideal) i x3) (k0_pay17 (F := Ideal) x0) (View.readAt (Elt Ideal) arg4.view (Rect.unit (s := S1x128x2048) (k0_off10 i) S1x128x512.size (k0_off10_inb i)).toLoadRect (harg4.unread x1)) (View.readAt (Elt Ideal) arg7.view (Rect.unit (s := S1x1x2x2048) (k0_off11 i) S1x1x2x512.size (k0_off11_inb i)).toLoadRect (harg7.unread x4)) := by
  unfold kernelRun0_B.sl.r_3
  rw [r_B, r1_B]

theorem v187_B (h2 : (k0_t2_loop i).trips = 0) :
    kernelRun0_B.sl.v187 c i arg3 harg3 arg4 harg4 arg5 harg5 arg6 harg6 arg7 harg7 arg8 harg8 arg9 harg9 arg10 harg10 arg11 harg11 x0 x1 x2 x3 x4 = (View.readAt (Elt Ideal) arg9.view full.toLoadRect (arg9.view.writes (Elt Ideal) (arg9.view.writes (Elt Ideal) arg9.view.junk [⟨full, k0_pay18 (F := Ideal)⟩]) (loopT c i arg3 harg3 arg4 harg4 arg5 harg5 arg6 harg6 arg7 harg7 arg8 harg8 arg9 harg9 arg10 harg10 arg11 harg11 x0 x1 x2 x3 x4).1)) := by
  have h2 : Scf.trips (k0_t2_loop i).lb (k0_t2_loop i).ub (k0_t2_loop i).st = 0 := h2
  unfold kernelRun0_B.sl.v187
  rw [r_B, r1_B, h2]
  refine Eq.trans ?_ (congrArg (View.readAt (Elt Ideal) arg9.view full.toLoadRect) (View.writes_append arg9.view arg9.view.junk _ _))
  unfold loopT trips k0_t1_loop
  rw [pb_k0_t2, List.nil_append]
  rfl

theorem v197_B (h2 : (k0_t2_loop i).trips = 0) :
    kernelRun0_B.sl.v197 c i arg3 harg3 arg4 harg4 arg5 harg5 arg6 harg6 arg7 harg7 arg8 harg8 arg9 harg9 arg10 harg10 arg11 harg11 x0 x1 x2 x3 x4 = (View.readAt (Elt Ideal) arg10.view full.toLoadRect (arg10.view.writes (Elt Ideal) (arg10.view.writes (Elt Ideal) arg10.view.junk [⟨full, k0_pay19 (F := Ideal)⟩]) (loopT c i arg3 harg3 arg4 harg4 arg5 harg5 arg6 harg6 arg7 harg7 arg8 harg8 arg9 harg9 arg10 harg10 arg11 harg11 x0 x1 x2 x3 x4).2.1)) := by
  have h2 : Scf.trips (k0_t2_loop i).lb (k0_t2_loop i).ub (k0_t2_loop i).st = 0 := h2
  unfold kernelRun0_B.sl.v197
  rw [r_B, r1_B, h2]
  refine Eq.trans ?_ (congrArg (View.readAt (Elt Ideal) arg10.view full.toLoadRect) (View.writes_append arg10.view arg10.view.junk _ _))
  unfold loopT trips k0_t1_loop
  rw [pb_k0_t2, List.nil_append]
  rfl

theorem v209_B (h2 : (k0_t2_loop i).trips = 0) :
    kernelRun0_B.sl.v209 c i arg3 harg3 arg4 harg4 arg5 harg5 arg6 harg6 arg7 harg7 arg8 harg8 arg9 harg9 arg10 harg10 arg11 harg11 x0 x1 x2 x3 x4 = (View.readAt (Elt Ideal) arg11.view full.toLoadRect (arg11.view.writes (Elt Ideal) (arg11.view.writes (Elt Ideal) arg11.view.junk [⟨full, k0_pay20 (F := Ideal)⟩]) (loopT c i arg3 harg3 arg4 harg4 arg5 harg5 arg6 harg6 arg7 harg7 arg8 harg8 arg9 harg9 arg10 harg10 arg11 harg11 x0 x1 x2 x3 x4).2.2)) := by
  have h2 : Scf.trips (k0_t2_loop i).lb (k0_t2_loop i).ub (k0_t2_loop i).st = 0 := h2
  unfold kernelRun0_B.sl.v209
  rw [r_B, r1_B, h2]
  refine Eq.trans ?_ (congrArg (View.readAt (Elt Ideal) arg11.view full.toLoadRect) (View.writes_append arg11.view arg11.view.junk _ _))
  unfold loopT trips k0_t1_loop
  rw [pb_k0_t2, List.nil_append]
  rfl

theorem v191_B (hc0 : cond0_0 i) (h2 : (k0_t2_loop i).trips = 0) :
    kernelRun0_B.sl.v191 c i arg3 harg3 arg4 harg4 arg5 harg5 arg6 harg6 arg7 harg7 arg8 harg8 arg9 harg9 arg10 harg10 arg11 harg11 hc0 x0 x1 x2 x3 x4 = k0_pay13 (k0_pay16 (F := Ideal) i x3) (k0_pay17 (F := Ideal) x0) (View.readAt (Elt Ideal) arg4.view (Rect.unit (s := S1x128x2048) (k0_off7 i) S1x128x512.size (k0_off7_inb i hc0)).toLoadRect (harg4.unread x1)) (View.readAt (Elt Ideal) arg7.view (Rect.unit (s := S1x1x2x2048) (k0_off8 i) S1x1x2x512.size (k0_off8_inb i hc0)).toLoadRect (harg7.unread x4)) (View.readAt (Elt Ideal) arg9.view full.toLoadRect (arg9.view.writes (Elt Ideal) (arg9.view.writes (Elt Ideal) arg9.view.junk [⟨full, k0_pay18 (F := Ideal)⟩]) (loopT c i arg3 harg3 arg4 harg4 arg5 harg5 arg6 harg6 arg7 harg7 arg8 harg8 arg9 harg9 arg10 harg10 arg11 harg11 x0 x1 x2 x3 x4).1)) := by
  rw [← v187_B c i arg3 harg3 arg4 harg4 arg5 harg5 arg6 harg6 arg7 harg7 arg8 harg8 arg9 harg9 arg10 harg10 arg11 harg11 x0 x1 x2 x3 x4 h2, ← r_B c i arg6 harg6 x3, ← r1_B c arg3 harg3 x0]
  rfl

theorem v193_B (hc0 : cond0_0 i) (h2 : (k0_t2_loop i).trips = 0) :
    kernelRun0_B.sl.v193 c i arg3 harg3 arg4 harg4 arg5 harg5 arg6 harg6 arg7 harg7 arg8 harg8 arg9 harg9 arg10 harg10 arg11 harg11 hc0 x0 x1 x2 x3 x4 = k0_pay14 (k0_pay16 (F := Ideal) i x3) (k0_pay17 (F := Ideal) x0) (View.readAt (Elt Ideal) arg4.view (Rect.unit (s := S1x128x2048) (k0_off7 i) S1x128x512.size (k0_off7_inb i hc0)).toLoadRect (harg4.unread x1)) (View.readAt (Elt Ideal) arg7.view (Rect.unit (s := S1x1x2x2048) (k0_off8 i) S1x1x2x512.size (k0_off8_inb i hc0)).toLoadRect (harg7.unread x4)) (View.readAt (Elt Ideal) arg9.view full.toLoadRect (arg9.view.writes (Elt Ideal) (arg9.view.writes (Elt Ideal) arg9.view.junk [⟨full, k0_pay18 (F := Ideal)⟩]) (loopT c i arg3 harg3 arg4 harg4 arg5 harg5 arg6 harg6 arg7 harg7 arg8 harg8 arg9 harg9 arg10 harg10 arg11 harg11 x0 x1 x2 x3 x4).1)) := by
  rw [← v187_B c i arg3 harg3 arg4 harg4 arg5 harg5 arg6 harg6 arg7 harg7 arg8 harg8 arg9 harg9 arg10 harg10 arg11 harg11 x0 x1 x2 x3 x4 h2, ← r_B c i arg6 harg6 x3, ← r1_B c arg3 harg3 x0]
  rfl

theorem v196_B (hc0 : cond0_0 i) (h2 : (k0_t2_loop i).trips = 0) :
    kernelRun0_B.sl.v196 c i arg3 harg3 arg4 harg4 arg5 harg5 arg6 harg6 arg7 harg7 arg8 harg8 arg9 harg9 arg10 harg10 arg11 harg11 hc0 x0 x1 x2 x3 x4 = k0_pay15 (k0_pay16 (F := Ideal) i x3) (k0_pay17 (F := Ideal) x0) (View.readAt (Elt Ideal) arg4.view (Rect.unit (s := S1x128x2048) (k0_off7 i) S1x128x512.size (k0_off7_inb i hc0)).toLoadRect (harg4.unread x1)) (View.readAt (Elt Ideal) arg7.view (Rect.unit (s := S1x1x2x2048) (k0_off8 i) S1x1x2x512.size (k0_off8_inb i hc0)).toLoadRect (harg7.unread x4)) (View.readAt (Elt Ideal) arg9.view full.toLoadRect (arg9.view.writes (Elt Ideal) (arg9.view.writes (Elt Ideal) arg9.view.junk [⟨full, k0_pay18 (F := Ideal)⟩]) (loopT c i arg3 harg3 arg4 harg4 arg5 harg5 arg6 harg6 arg7 harg7 arg8 harg8 arg9 harg9 arg10 harg10 arg11 harg11 x0 x1 x2 x3 x4).1)) := by
  rw [← v187_B c i arg3 harg3 arg4 harg4 arg5 harg5 arg6 harg6 arg7 harg7 arg8 harg8 arg9 harg9 arg10 harg10 arg11 harg11 x0 x1 x2 x3 x4 h2, ← r_B c i arg6 harg6 x3, ← r1_B c arg3 harg3 x0]
  rfl

theorem v111_B (hc0 : cond0_0 i) (h2 : (k0_t2_loop i).trips = 0) :
    kernelRun0_B.sl.v111 c i arg3 harg3 arg4 harg4 arg5 harg5 arg6 harg6 arg7 harg7 arg8 harg8 arg9 harg9 arg10 harg10 arg11 harg11 hc0 x0 x1 x2 x3 x4 = (k0_pay26 (k0_pay13 (k0_pay16 (F := Ideal) i x3) (k0_pay17 (F := Ideal) x0) (View.readAt (Elt Ideal) arg4.view (Rect.unit (s := S1x128x2048) (k0_off7 i) S1x128x512.size (k0_off7_inb i hc0)).toLoadRect (harg4.unread x1)) (View.readAt (Elt Ideal) arg7.view (Rect.unit (s := S1x1x2x2048) (k0_off8 i) S1x1x2x512.size (k0_off8_inb i hc0)).toLoadRect (harg7.unread x4)) (View.readAt (Elt Ideal) arg9.view full.toLoadRect (arg9.view.writes (Elt Ideal) (arg9.view.writes (Elt Ideal) arg9.view.junk [⟨full, k0_pay18 (F := Ideal)⟩]) (loopT c i arg3 harg3 arg4 harg4 arg5 harg5 arg6 harg6 arg7 harg7 arg8 harg8 arg9 harg9 arg10 harg10 arg11 harg11 x0 x1 x2 x3 x4).1)))) := by
  unfold kernelRun0_B.sl.v111 kernelRun0_B.sl.HS0_1_1
  refine (View.readCov_full ..).trans ?_
  rw [v191_B]
  all_goals exact h2

theorem v121_B (hc0 : cond0_0 i) (h2 : (k0_t2_loop i).trips = 0) :
    kernelRun0_B.sl.v121 c i arg3 harg3 arg4 harg4 arg5 harg5 arg6 harg6 arg7 harg7 arg8 harg8 arg9 harg9 arg10 harg10 arg11 harg11 hc0 x0 x1 x2 x3 x4 = (k0_pay25 (k0_pay14 (k0_pay16 (F := Ideal) i x3) (k0_pay17 (F := Ideal) x0) (View.readAt (Elt Ideal) arg4.view (Rect.unit (s := S1x128x2048) (k0_off7 i) S1x128x512.size (k0_off7_inb i hc0)).toLoadRect (harg4.unread x1)) (View.readAt (Elt Ideal) arg7.view (Rect.unit (s := S1x1x2x2048) (k0_off8 i) S1x1x2x512.size (k0_off8_inb i hc0)).toLoadRect (harg7.unread x4)) (View.readAt (Elt Ideal) arg9.view full.toLoadRect (arg9.view.writes (Elt Ideal) (arg9.view.writes (Elt Ideal) arg9.view.junk [⟨full, k0_pay18 (F := Ideal)⟩]) (loopT c i arg3 harg3 arg4 harg4 arg5 harg5 arg6 harg6 arg7 harg7 arg8 harg8 arg9 harg9 arg10 harg10 arg11 harg11 x0 x1 x2 x3 x4).1))) (k0_pay15 (k0_pay16 (F := Ideal) i x3) (k0_pay17 (F := Ideal) x0) (View.readAt (Elt Ideal) arg4.view (Rect.unit (s := S1x128x2048) (k0_off7 i) S1x128x512.size (k0_off7_inb i hc0)).toLoadRect (harg4.unread x1)) (View.readAt (Elt Ideal) arg7.view (Rect.unit (s := S1x1x2x2048) (k0_off8 i) S1x1x2x512.size (k0_off8_inb i hc0)).toLoadRect (harg7.unread x4)) (View.readAt (Elt Ideal) arg9.view full.toLoadRect (arg9.view.writes (Elt Ideal) (arg9.view.writes (Elt Ideal) arg9.view.junk [⟨full, k0_pay18 (F := Ideal)⟩]) (loopT c i arg3 harg3 arg4 harg4 arg5 harg5 arg6 harg6 arg7 harg7 arg8 harg8 arg9 harg9 arg10 harg10 arg11 harg11 x0 x1 x2 x3 x4).1))) (View.readAt (Elt Ideal) arg10.view full.toLoadRect (arg10.view.writes (Elt Ideal) (arg10.view.writes (Elt Ideal) arg10.view.junk [⟨full, k0_pay19 (F := Ideal)⟩]) (loopT c i arg3 harg3 arg4 harg4 arg5 harg5 arg6 harg6 arg7 harg7 arg8 harg8 arg9 harg9 arg10 harg10 arg11 harg11 x0 x1 x2 x3 x4).2.1))) := by
  unfold kernelRun0_B.sl.v121 kernelRun0_B.sl.HS1_1_1
  refine (View.readCov_full ..).trans ?_
  rw [v193_B, v196_B, v197_B]
  all_goals exact h2

theorem v133_B (hc0 : cond0_0 i) (h2 : (k0_t2_loop i).trips = 0) :
    kernelRun0_B.sl.v133 c i arg3 harg3 arg4 harg4 arg5 harg5 arg6 harg6 arg7 harg7 arg8 harg8 arg9 harg9 arg10 harg10 arg11 harg11 hc0 x0 x1 x2 x3 x4 = (k0_pay27 (k0_pay14 (k0_pay16 (F := Ideal) i x3) (k0_pay17 (F := Ideal) x0) (View.readAt (Elt Ideal) arg4.view (Rect.unit (s := S1x128x2048) (k0_off7 i) S1x128x512.size (k0_off7_inb i hc0)).toLoadRect (harg4.unread x1)) (View.readAt (Elt Ideal) arg7.view (Rect.unit (s := S1x1x2x2048) (k0_off8 i) S1x1x2x512.size (k0_off8_inb i hc0)).toLoadRect (harg7.unread x4)) (View.readAt (Elt Ideal) arg9.view full.toLoadRect (arg9.view.writes (Elt Ideal) (arg9.view.writes (Elt Ideal) arg9.view.junk [⟨full, k0_pay18 (F := Ideal)⟩]) (loopT c i arg3 harg3 arg4 harg4 arg5 harg5 arg6 harg6 arg7 harg7 arg8 harg8 arg9 harg9 arg10 harg10 arg11 harg11 x0 x1 x2 x3 x4).1))) (k0_pay15 (k0_pay16 (F := Ideal) i x3) (k0_pay17 (F := Ideal) x0) (View.readAt (Elt Ideal) arg4.view (Rect.unit (s := S1x128x2048) (k0_off7 i) S1x128x512.size (k0_off7_inb i hc0)).toLoadRect (harg4.unread x1)) (View.readAt (Elt Ideal) arg7.view (Rect.unit (s := S1x1x2x2048) (k0_off8 i) S1x1x2x512.size (k0_off8_inb i hc0)).toLoadRect (harg7.unread x4)) (View.readAt (Elt Ideal) arg9.view full.toLoadRect (arg9.view.writes (Elt Ideal) (arg9.view.writes (Elt Ideal) arg9.view.junk [⟨full, k0_pay18 (F := Ideal)⟩]) (loopT c i arg3 harg3 arg4 harg4 arg5 harg5 arg6 harg6 arg7 harg7 arg8 harg8 arg9 harg9 arg10 harg10 arg11 harg11 x0 x1 x2 x3 x4).1))) (View.readAt (Elt Ideal) arg11.view full.toLoadRect (arg11.view.writes (Elt Ideal) (arg11.view.writes (Elt Ideal) arg11.view.junk [⟨full, k0_pay20 (F := Ideal)⟩]) (loopT c i arg3 harg3 arg4 harg4 arg5 harg5 arg6 harg6 arg7 harg7 arg8 harg8 arg9 harg9 arg10 harg10 arg11 harg11 x0 x1 x2 x3 x4).2.2)) (View.readAt (Elt Ideal) arg5.view (Rect.unit (s := S2048x128) (k0_off9 i) S512x128.size (k0_off9_inb i hc0)).toLoadRect (harg5.unread x2))) := by
  unfold kernelRun0_B.sl.v133 kernelRun0_B.sl.HS2_1_1
  refine (View.readCov_full ..).trans ?_
  rw [v193_B, v196_B, v209_B]
  all_goals exact h2

/-- The block stored at one grid point, the tile's index odd: each row is the average of the values its head may see. -/
theorem out_B (hc0 : cond0_0 i) (h2 : (k0_t2_loop i).trips = 0) {e : Fin 1024 → ℕ → EReal} {V : ℕ → Fin 128 → ℝ} (he : ∀ r j, e r j ≠ ⊤) (h0 : ∀ r, IsReal (e r 0))
    (hr : ∀ (k : Fin (k0_t1_loop i).trips) r, IsReal (e r (1024 * k.val)))
    (hs : ∀ (k : Fin (k0_t1_loop i).trips) r (j : Fin 1024), k0_pay2 (k0_pay16 (F := Ideal) i x3) (k0_pay17 (F := Ideal) x0) (wideK i arg4 (harg4.unread x1) k) (wideC i arg7 (harg7.unread x4) k) (ix2 r j) = e r (1024 * k.val + j.val))
    (hv : ∀ (k : Fin (k0_t1_loop i).trips) (j : Fin 1024) d, wideV i arg5 (harg5.unread x2) k (ix2 j d) = (V (1024 * k.val + j.val) d : EReal))
    (hrp : ∀ r, IsReal (e r (1024 * (k0_t1_loop i).trips)))
    (hsp : ∀ r (j : Fin 512), k0_pay12 (k0_pay16 (F := Ideal) i x3) (k0_pay17 (F := Ideal) x0) (View.readAt (Elt Ideal) arg4.view (Rect.unit (s := S1x128x2048) (k0_off7 i) S1x128x512.size (k0_off7_inb i hc0)).toLoadRect (harg4.unread x1)) (View.readAt (Elt Ideal) arg7.view (Rect.unit (s := S1x1x2x2048) (k0_off8 i) S1x1x2x512.size (k0_off8_inb i hc0)).toLoadRect (harg7.unread x4)) (ix2 r j) = e r (1024 * (k0_t1_loop i).trips + j.val))
    (hvp : ∀ (j : Fin 512) d, (View.readAt (Elt Ideal) arg5.view (Rect.unit (s := S2048x128) (k0_off9 i) S512x128.size (k0_off9_inb i hc0)).toLoadRect (harg5.unread x2)) (ix2 j d) = (V (1024 * (k0_t1_loop i).trips + j.val) d : EReal))
    (hrd : ∀ r, IsReal (e r (1024 * (k0_t1_loop i).trips + 512)))
    (hsd : ∀ r (j : Fin 512), k0_pay28 (k0_pay16 (F := Ideal) i x3) (k0_pay17 (F := Ideal) x0) (View.readAt (Elt Ideal) arg4.view (Rect.unit (s := S1x128x2048) (k0_off10 i) S1x128x512.size (k0_off10_inb i)).toLoadRect (harg4.unread x1)) (View.readAt (Elt Ideal) arg7.view (Rect.unit (s := S1x1x2x2048) (k0_off11 i) S1x1x2x512.size (k0_off11_inb i)).toLoadRect (harg7.unread x4)) (ix2 r j) = e r (1024 * (k0_t1_loop i).trips + 512 + j.val))
    (hvd : ∀ (j : Fin 512) d, (View.readAt (Elt Ideal) arg5.view (Rect.unit (s := S2048x128) (k0_off12 i) S512x128.size (k0_off12_inb i)).toLoadRect (harg5.unread x2)) (ix2 j d) = (V (1024 * (k0_t1_loop i).trips + 512 + j.val) d : EReal))
    (hN : 1024 * (k0_t1_loop i).trips + 512 + 512 ≤ 2048) (hb : ∀ r j, 1024 * (k0_t1_loop i).trips + 512 + 512 ≤ j → e r j = ⊥) (M' : Fin 1024 → ℝ) (r : Fin 512) (d : Fin 128) (R : Fin 1024) (hR : R.val = d.val / 64 * 512 + r.val) :
    out0_B_5 c i arg3 harg3 arg4 harg4 arg5 harg5 arg6 harg6 arg7 harg7 arg8 harg8 arg9 harg9 arg10 harg10 arg11 harg11 hc0 x0 x1 x2 x3 x4 (ix2 r d)
      = ((∑ j : Fin 2048, wt (e R j) (M' R) / (∑ k : Fin 2048, wt (e R k) (M' R)) * V j d : ℝ) : EReal) := by
  have out : out0_B_5 c i arg3 harg3 arg4 harg4 arg5 harg5 arg6 harg6 arg7 harg7 arg8 harg8 arg9 harg9 arg10 harg10 arg11 harg11 hc0 x0 x1 x2 x3 x4 = k0_pay1 k0_pay36 (kernelRun0_B.sl.r_4 c i arg3 harg3 arg4 harg4 arg5 harg5 arg6 harg6 arg7 harg7 arg8 harg8 arg9 harg9 arg10 harg10 arg11 harg11 hc0 x0 x1 x2 x3 x4) (kernelRun0_B.sl.v150 c i arg3 harg3 arg4 harg4 arg5 harg5 arg6 harg6 arg7 harg7 arg8 harg8 arg9 harg9 arg10 harg10 arg11 harg11 hc0 x0 x1 x2 x3 x4) (kernelRun0_B.sl.v151 c i arg3 harg3 arg4 harg4 arg5 harg5 arg6 harg6 arg7 harg7 arg8 harg8 arg9 harg9 arg10 harg10 arg11 harg11 hc0 x0 x1 x2 x3 x4) := by
    unfold out0_B_5 kernelRun0_B
    exact View.read_writes_full ..
  rw [out]
  unfold kernelRun0_B.sl.r_4
  have S := (trips_state c i arg3 harg3 arg4 harg4 arg5 harg5 arg6 harg6 arg7 harg7 arg8 harg8 arg9 harg9 arg10 harg10 arg11 harg11 (BitVec.ofNat 32 (i 2).val) (k0_pay16 (F := Ideal) i x3) (k0_pay17 (F := Ideal) x0) (k0_pay18 (F := Ideal)) (harg4.unread x1) (harg5.unread x2) (harg7.unread x4) he hr hs hv _ le_rfl)
  replace S := S.part (k0_pay16 (F := Ideal) i x3) (k0_pay17 (F := Ideal) x0) (View.readAt (Elt Ideal) arg4.view (Rect.unit (s := S1x128x2048) (k0_off7 i) S1x128x512.size (k0_off7_inb i hc0)).toLoadRect (harg4.unread x1)) (View.readAt (Elt Ideal) arg7.view (Rect.unit (s := S1x1x2x2048) (k0_off8 i) S1x1x2x512.size (k0_off8_inb i hc0)).toLoadRect (harg7.unread x4)) (View.readAt (Elt Ideal) arg5.view (Rect.unit (s := S2048x128) (k0_off9 i) S512x128.size (k0_off9_inb i hc0)).toLoadRect (harg5.unread x2)) he hrp hsp hvp
  replace S := S.diag (k0_pay16 (F := Ideal) i x3) (k0_pay17 (F := Ideal) x0) (View.readAt (Elt Ideal) arg4.view (Rect.unit (s := S1x128x2048) (k0_off10 i) S1x128x512.size (k0_off10_inb i)).toLoadRect (harg4.unread x1)) (View.readAt (Elt Ideal) arg7.view (Rect.unit (s := S1x1x2x2048) (k0_off11 i) S1x1x2x512.size (k0_off11_inb i)).toLoadRect (harg7.unread x4)) (View.readAt (Elt Ideal) arg5.view (Rect.unit (s := S2048x128) (k0_off12 i) S512x128.size (k0_off12_inb i)).toLoadRect (harg5.unread x2)) he hrd hsd hvd
  refine S.out (by omega) hN hb h0 M' r d ?_ ?_ ?_ ?_ R hR
  · unfold kernelRun0_B.sl.v147 kernelRun0_B.sl.HS2_2
    refine (half _ _ _ _ _ _ _ (by omega)).trans ?_
    rw [r2_B, r3_B, v111_B, v133_B]
    all_goals exact h2
  · unfold kernelRun0_B.sl.v148 kernelRun0_B.sl.HS1_2
    refine (half _ _ _ _ _ _ _ (by omega)).trans ?_
    rw [r2_B, r3_B, v111_B, v121_B]
    all_goals exact h2
  · unfold kernelRun0_B.sl.v150 kernelRun0_B.sl.HS2_2
    refine (half _ _ _ _ _ _ _ (by omega)).trans ?_
    rw [r2_B, r3_B, v111_B, v133_B]
    all_goals exact h2
  · unfold kernelRun0_B.sl.v151 kernelRun0_B.sl.HS1_2
    refine (half _ _ _ _ _ _ _ (by omega)).trans ?_
    rw [r2_B, r3_B, v111_B, v121_B]
    all_goals exact h2

end

end Cert.Kernel4Ideal.Gen
end
-- ==== Proof.FoxForm.lean ====
module

public import proofs.«01_k».proof.Proof.FoxSpec

@[expose] public section

noncomputable section

namespace Cert.Layer

open Idealize.ShloMosaic

/-- The queries, keys, values and cumulative gates of the forgetting attention, as real numbers. -/
structure FoxArgs where
  q : Fin 8 → Fin 2048 → Fin 16 → Fin 64 → ℝ
  k : Fin 8 → Fin 2048 → Fin 16 → Fin 64 → ℝ
  w : Fin 8 → Fin 2048 → Fin 16 → Fin 64 → ℝ
  c : Fin 8 → Fin 2048 → Fin 16 → ℝ

namespace FoxArgs
variable (A : FoxArgs) (b : Fin 8) (h : Fin 16) (i : Fin 2048)

/-- The score of one query and one key. -/
def score (j : Fin 2048) : ℝ := (∑ d, A.q b i h d * A.k b j h d) * 0.125 + (A.c b i h - A.c b j h)

/-- The score with the later keys masked. -/
def seen (j : ℕ) : EReal := if hj : j ≤ i.val then (A.score b h i ⟨j, by omega⟩ : EReal) else ⊥

theorem seen_real {j : ℕ} (hj : j ≤ i.val) : IsReal (A.seen b h i j) := ⟨_, dif_pos hj⟩
theorem seen_bot {j : ℕ} (hj : i.val < j) : A.seen b h i j = ⊥ := dif_neg (by omega)
theorem seen_ne_top (j : ℕ) : A.seen b h i j ≠ ⊤ := by
  unfold seen; split
  · exact EReal.coe_ne_top _
  · exact bot_ne_top

/-- The average of the values, weighted by the scores measured from `M`. -/
def out (M : ℝ) (d : Fin 64) : ℝ := ∑ j : Fin 2048, wt (A.seen b h i j) M / (∑ l : Fin 2048, wt (A.seen b h i l) M) * A.w b j h d

end FoxArgs

/-- Only one half of the lanes meets the keys of its head. -/
theorem half_lanes (p : Fin 2) (x y : Fin 128 → ℝ) (u v : Fin 64 → ℝ) (hx : ∀ d (l : Fin 128), l.val = p.val * 64 + d.val → x l = u d)
    (hy : ∀ d (l : Fin 128), l.val = p.val * 64 + d.val → y l = v d) :
    ∑ l : Fin 128, (if l.val / 64 = p.val then (x l : EReal) else 0) * (y l : EReal) = ((∑ d, u d * v d : ℝ) : EReal) := by
  have e : ∀ l : Fin 128, (if l.val / 64 = p.val then (x l : EReal) else 0) * (y l : EReal) = ((if l.val / 64 = p.val then x l * y l else 0 : ℝ) : EReal) := by
    intro l; split
    · exact (EReal.coe_mul _ _).symm
    · rw [zero_mul]; rfl
  simp only [e]
  rw [← coe_sum_real]
  refine EReal.coe_eq_coe_iff.mpr ?_
  rw [← Finset.sum_filter]
  have hp := p.isLt
  refine (Finset.sum_bij (fun (d : Fin 64) _ => (⟨p.val * 64 + d.val, by omega⟩ : Fin 128)) (fun d _ => ?_) (fun d _ d' _ h => ?_) (fun l hl => ?_) fun d _ => ?_).symm
  · refine Finset.mem_filter.mpr ⟨Finset.mem_univ _, ?_⟩
    show (p.val * 64 + d.val) / 64 = p.val
    omega
  · have h : p.val * 64 + d.val = p.val * 64 + d'.val := congrArg Fin.val h
    exact Fin.ext (by omega)
  · have h : l.val / 64 = p.val := (Finset.mem_filter.mp hl).2
    exact ⟨⟨l.val - p.val * 64, by omega⟩, Finset.mem_univ _, Fin.ext (by show p.val * 64 + (l.val - p.val * 64) = l.val; omega)⟩
  · rw [hx d ⟨p.val * 64 + d.val, by omega⟩ rfl, hy d ⟨p.val * 64 + d.val, by omega⟩ rfl]

/-- One score of a tile, the query scaled before the product. -/
theorem tile_score (p : Fin 2) (x y : Fin 128 → ℝ) (u v : Fin 64 → ℝ) (a b : ℝ) (hx : ∀ d (l : Fin 128), l.val = p.val * 64 + d.val → x l = u d * 0.125)
    (hy : ∀ d (l : Fin 128), l.val = p.val * 64 + d.val → y l = v d) :
    ∑ l : Fin 128, (if l.val / 64 = p.val then (x l : EReal) else 0) * (y l : EReal) + ((a : EReal) - b)
      = (((∑ d, u d * v d) * 0.125 + (a - b) : ℝ) : EReal) := by
  have key : ∑ d, u d * 0.125 * v d = (∑ d, u d * v d) * 0.125 := by
    rw [Finset.sum_mul]
    exact Finset.sum_congr rfl fun d _ => by ring
  have h := half_lanes p x y (fun d => u d * 0.125) v hx hy
  beta_reduce at h
  rw [key] at h
  rw [h, ← EReal.coe_sub, ← EReal.coe_add]

end Cert.Layer
end
-- ==== Proof.FoxHost.lean ====
module

public import proofs.«01_k».proof.Proof.FoxForm
public import proofs.«01_k».proof.Proof.Gen.Kernel4Ideal.Frame
public import Idealize.ShloMosaic.Lib.Pipeline.ValueKit
public import Idealize.ShloMosaic.Lib.Claim
public import Idealize.ShloMosaic.Lib.Pipeline.Regions

@[expose] public section

set_option maxRecDepth 16384

noncomputable section

namespace Cert.Kernel4Ideal.Gen

open Idealize.ShloMosaic Idealize.ShloMosaic.TcCoe Cert.Layer

/-- The facts the offsets of one grid point come to. -/
theorem offs : ∀ t : Fin cfg0.N, (k0_t2_loop (grid0.coords t)).trips = 0 ∧ (k0_t1_loop (grid0.coords t)).trips = t.val % 4 / 2
    ∧ (grid0.coords t 1).val = t.val / 4 % 8
    ∧ k0_off10 (grid0.coords t) = ![0, 0, 512 * (t.val % 4)] ∧ k0_off11 (grid0.coords t) = ![0, 0, 0, 512 * (t.val % 4)] ∧ k0_off12 (grid0.coords t) = ![512 * (t.val % 4), 0] := by
  decide +kernel
theorem offsW : ∀ t : Fin cfg0.N, ∀ k : Fin (k0_t1_loop (grid0.coords t)).trips, k0_off1 (grid0.coords t) k = ![0, 0, 1024 * k.val]
    ∧ k0_off2 (grid0.coords t) k = ![0, 0, 0, 1024 * k.val] ∧ k0_off3 (grid0.coords t) k = ![1024 * k.val, 0] := by
  decide +kernel
theorem offsP : ∀ t : Fin cfg0.N, t.val % 2 = 1 → k0_off7 (grid0.coords t) = ![0, 0, 512 * (t.val % 4 - 1)]
    ∧ k0_off8 (grid0.coords t) = ![0, 0, 0, 512 * (t.val % 4 - 1)] ∧ k0_off9 (grid0.coords t) = ![512 * (t.val % 4 - 1), 0] := by
  decide +kernel
theorem index0 : ∀ t : Fin grid0.N, win0_0.index t = ![t.val / 32 * 4 + t.val % 4, t.val / 4 % 8] ∧ win0_1.index t = ![t.val / 32, t.val / 4 % 8, 0]
    ∧ win0_2.index t = ![t.val / 32, t.val / 4 % 8] ∧ win0_3.index t = ![t.val / 32 * 4 + t.val % 4, 0]
    ∧ win0_4.index t = ![t.val / 32, t.val / 4 % 8, 0, 0] ∧ win0_5.index t = ![t.val / 32 * 4 + t.val % 4, t.val / 4 % 8] := by
  decide +kernel

section
variable (σ : Valuation τ sig (Elt Ideal))

theorem host_q (n : Fin 16384) (l : Fin 1024) (b : Fin 8) (i : Fin 2048) (h : Fin 16) (d : Fin 64) (hn : n.val = b.val * 2048 + i.val) (hl : l.val = h.val * 64 + d.val) :
    (StableHlo.after hostOps0 σ (Proc.devRef .tc main_v3) : Vec Ideal S16384x1024 .bf16) (ix2 n l)
      = @HMul.hMul EReal EReal EReal _ ((σ (Proc.devRef .tc main_arg0) : Vec Ideal S8x2048x16x64 .f32) (ix4 b i h d)) (Ideal.ofBits .f32 0x3E000000#32) := by
  entry_read
  pointwise
  congr 2
  congr 1 <;> exact Fin.ext (by simp only; omega)

theorem host_k (b : Fin 8) (l : Fin 1024) (j : Fin 2048) (h : Fin 16) (d : Fin 64) (hl : l.val = h.val * 64 + d.val) :
    (StableHlo.after hostOps0 σ (Proc.devRef .tc main_v6) : Vec Ideal S8x1024x2048 .bf16) (ix3 b l j)
      = (σ (Proc.devRef .tc main_arg1) : Vec Ideal S8x2048x16x64 .f32) (ix4 b j h d) := by
  entry_read
  pointwise
  congr 2 <;> exact Fin.ext (by simp only; omega)

theorem host_v (n : Fin 16384) (l : Fin 1024) (b : Fin 8) (i : Fin 2048) (h : Fin 16) (d : Fin 64) (hn : n.val = b.val * 2048 + i.val) (hl : l.val = h.val * 64 + d.val) :
    (StableHlo.after hostOps0 σ (Proc.devRef .tc main_v8) : Vec Ideal S16384x1024 .bf16) (ix2 n l)
      = (σ (Proc.devRef .tc main_arg2) : Vec Ideal S8x2048x16x64 .f32) (ix4 b i h d) := by
  entry_read
  pointwise
  congr 2 <;> exact Fin.ext (by simp only; omega)

theorem host_c (n : Fin 16384) (b : Fin 8) (i : Fin 2048) (h : Fin 16) (hn : n.val = b.val * 2048 + i.val) :
    (StableHlo.after hostOps0 σ (Proc.devRef .tc main_v9) : Vec Ideal S16384x16 .f32) (ix2 n h)
      = (σ (Proc.devRef .tc main_arg3) : Vec Ideal S8x2048x16 .f32) (ix3 b i h) := by
  entry_read
  pointwise
  congr 2 <;> exact Fin.ext (by simp only; omega)

theorem host_g (b : Fin 8) (o : Fin 8) (p : Fin 2) (j : Fin 2048) (h : Fin 16) (hh : h.val = 2 * o.val + p.val) :
    (StableHlo.after hostOps0 σ (Proc.devRef .tc main_v11) : Vec Ideal S8x8x2x2048 .f32) (ix4 b o p j)
      = (σ (Proc.devRef .tc main_arg3) : Vec Ideal S8x2048x16 .f32) (ix3 b j h) := by
  entry_read
  pointwise
  congr 2 <;> exact Fin.ext (by simp only; omega)

end

end Cert.Kernel4Ideal.Gen
end
-- ==== Proof.FoxVal.lean ====
module

public import proofs.«01_k».proof.Proof.FoxRun
public import proofs.«01_k».proof.Proof.FoxHost

@[expose] public section

set_option maxRecDepth 16384

noncomputable section

namespace Cert.Kernel4Ideal.Gen

open Idealize.ShloMosaic Idealize.ShloMosaic.TcCoe Cert.Layer

/-- A load of a whole buffer's part reads the part. -/
theorem rd {S : Shape} {e : EltTy} (a : Memref sig .tc .vmem S e) (h : a.IsWhole) (X : S.Idx → Elt Ideal e) (off size : Fin S.rank → ℕ) (inb)
    (x : (Rect.unit off size inb).shape.Idx) (i : S.Idx) (hi : ∀ d, (i d : ℕ) = off d + x d) :
    View.readAt (Elt Ideal) a.view (Rect.unit off size inb).toLoadRect (h.unread X) x = X i := by
  show View.ld (a.view.read (Elt Ideal) (h.unread X)) (Rect.unit off size inb) x = _
  rw [h.read_unread]
  exact View.ld_unit_apply_of X off size inb x i hi

theorem at3 {off : Fin 3 → ℕ} {o w : ℕ} (ho : off = ![0, 0, o]) (l : Fin 128) (j : Fin w) (h : o + j.val < 2048) :
    ∀ d : Fin 3, (ix3 (0 : Fin 1) l (⟨o + j.val, h⟩ : Fin 2048) d : ℕ) = off d + (ix3 (0 : Fin 1) l j d : ℕ) := by
  subst ho
  intro d
  fin_cases d
  · rfl
  · exact (Nat.zero_add _).symm
  · rfl
theorem at4 {off : Fin 4 → ℕ} {o w : ℕ} (ho : off = ![0, 0, 0, o]) (p : Fin 2) (j : Fin w) (h : o + j.val < 2048) :
    ∀ d : Fin 4, (ix4 (0 : Fin 1) (0 : Fin 1) p (⟨o + j.val, h⟩ : Fin 2048) d : ℕ) = off d + (ix4 (0 : Fin 1) (0 : Fin 1) p j d : ℕ) := by
  subst ho
  intro d
  fin_cases d
  · rfl
  · rfl
  · exact (Nat.zero_add _).symm
  · rfl
theorem at2 {off : Fin 2 → ℕ} {o w : ℕ} (ho : off = ![o, 0]) (j : Fin w) (l : Fin 128) (h : o + j.val < 2048) :
    ∀ d : Fin 2, (ix2 (⟨o + j.val, h⟩ : Fin 2048) l d : ℕ) = off d + (ix2 j l d : ℕ) := by
  subst ho
  intro d
  fin_cases d
  · rfl
  · exact (Nat.zero_add _).symm

/-- The head and the lane within it of one lane of a pair of heads. -/
abbrev headOf (o : Fin 8) (l : Fin 128) : Fin 16 := ⟨2 * o.val + l.val / 64, by omega⟩
abbrev laneOf (l : Fin 128) : Fin 64 := ⟨l.val % 64, by omega⟩
abbrev rowHead (o : Fin 8) (R : Fin 1024) : Fin 16 := ⟨2 * o.val + R.val / 512, by omega⟩
abbrev rowPos (i : Fin 4) (R : Fin 1024) : Fin 2048 := ⟨512 * i.val + R.val % 512, by omega⟩

/-- What one grid point's blocks hold. -/
structure Tile (A : FoxArgs) (b o : Fin 8) (i : Fin 4) (x0 : Vec Ideal S512x128 .bf16) (x1 : Vec Ideal S1x128x2048 .bf16) (x2 : Vec Ideal S2048x128 .bf16)
    (x3 : Vec Ideal S512x16 .f32) (x4 : Vec Ideal S1x1x2x2048 .f32) : Prop where
  q : ∀ (r : Fin 512) l, x0 (ix2 r l) = ((A.q b ⟨512 * i.val + r.val, by omega⟩ (headOf o l) (laneOf l) * 0.125 : ℝ) : EReal)
  k : ∀ l j, x1 (ix3 0 l j) = (A.k b j (headOf o l) (laneOf l) : EReal)
  v : ∀ j l, x2 (ix2 j l) = (A.w b j (headOf o l) (laneOf l) : EReal)
  cq : ∀ (r : Fin 512) h, x3 (ix2 r h) = (A.c b ⟨512 * i.val + r.val, by omega⟩ h : EReal)
  ck : ∀ (p : Fin 2) j, x4 (ix4 0 0 p j) = (A.c b j ⟨2 * o.val + p.val, by omega⟩ : EReal)

section
variable {A : FoxArgs} {b o : Fin 8} {i : Fin 4} {x0 : Vec Ideal S512x128 .bf16} {x1 : Vec Ideal S1x128x2048 .bf16} {x2 : Vec Ideal S2048x128 .bf16}
  {x3 : Vec Ideal S512x16 .f32} {x4 : Vec Ideal S1x1x2x2048 .f32} (T : Tile A b o i x0 x1 x2 x3 x4)
include T

theorem Tile.score (g : grid0.Coords) (hg : (g 1).val = o.val) (R : Fin 1024) (j : Fin 2048) (kt : Fin 128 → EReal) (hk : ∀ l, kt l = x1 (ix3 0 l j)) (ck : EReal)
    (hc : ck = x4 (ix4 0 0 ⟨R.val / 512, by omega⟩ j)) :
    ∑ l, k0_pay17 (F := Ideal) x0 (ix2 R l) * kt l + (k0_pay16 (F := Ideal) g x3 (ix2 R 0) - ck) = (A.score b (rowHead o R) (rowPos i R) j : EReal) := by
  have e : (⟨2 * (g 1).val + R.val / 512, by have h : (g 1).val < 8 := (g 1).isLt; omega⟩ : Fin 16) = rowHead o R := Fin.ext (by show 2 * (g 1).val + R.val / 512 = 2 * o.val + R.val / 512; omega)
  rw [gate, hc, T.ck, T.cq, e]
  simp only [stack, hk, T.q, T.k]
  refine tile_score ⟨R.val / 512, by omega⟩ (fun l => A.q b (rowPos i R) (headOf o l) (laneOf l) * 0.125) (fun l => A.k b j (headOf o l) (laneOf l))
    (fun d => A.q b (rowPos i R) (rowHead o R) d) (fun d => A.k b j (rowHead o R) d) _ _ (fun d l h => ?_) (fun d l h => ?_)
  all_goals
    have h : l.val = R.val / 512 * 64 + d.val := h
    have e1 : headOf o l = rowHead o R := Fin.ext (by show 2 * o.val + l.val / 64 = 2 * o.val + R.val / 512; omega)
    have e2 : laneOf l = d := Fin.ext (by show l.val % 64 = d.val; omega)
    beta_reduce
    rw [e1, e2]

theorem Tile.block_A (c : Dev nD) (t : Fin cfg0.N) (ho : o.val = t.val / 4 % 8) (hi : i.val = t.val % 4)
    (arg3 : Memref sig .tc .vmem S512x128 .bf16) (harg3 : arg3.IsWhole)
    (arg4 : Memref sig .tc .vmem S1x128x2048 .bf16) (harg4 : arg4.IsWhole)
    (arg5 : Memref sig .tc .vmem S2048x128 .bf16) (harg5 : arg5.IsWhole)
    (arg6 : Memref sig .tc .vmem S512x16 .f32) (harg6 : arg6.IsWhole)
    (arg7 : Memref sig .tc .vmem S1x1x2x2048 .f32) (harg7 : arg7.IsWhole)
    (arg8 : Memref sig .tc .vmem S512x128 .bf16) (harg8 : arg8.IsWhole)
    (arg9 : Memref sig .tc .vmem S1024x128 .f32) (harg9 : arg9.IsWhole)
    (arg10 : Memref sig .tc .vmem S1024x128 .f32) (harg10 : arg10.IsWhole)
    (arg11 : Memref sig .tc .vmem S1024x128 .f32) (harg11 : arg11.IsWhole)
    (hc0 : ¬cond0_0 (grid0.coords t)) (M' : ℝ) (r : Fin 512) (l : Fin 128) :
    out0_A_5 c (grid0.coords t) arg3 harg3 arg4 harg4 arg5 harg5 arg6 harg6 arg7 harg7 arg8 harg8 arg9 harg9 arg10 harg10 arg11 harg11 hc0 x0 x1 x2 x3 x4 (ix2 r l)
      = (A.out b (headOf o l) ⟨512 * i.val + r.val, by omega⟩ M' (laneOf l) : EReal) := by
  obtain ⟨h2, h1, hg, o10, o11, o12⟩ := offs t
  have oW := offsW t
  have hpar : t.val % 2 = 0 := by have := mt (hcond0_0 t).mpr hc0; omega
  have hg : (grid0.coords t 1).val = o.val := hg.trans ho.symm
  rw [← hi] at h1 o10 o11 o12
  have hi4 := i.isLt
  have hq : ∀ R (d : Fin 128), k0_pay16 (F := Ideal) (grid0.coords t) x3 (ix2 R d) = k0_pay16 (F := Ideal) (grid0.coords t) x3 (ix2 R 0) := fun R d => by rw [gate, gate]
  let V : ℕ → Fin 128 → ℝ := fun j d => if h : j < 2048 then A.w b ⟨j, h⟩ (headOf o d) (laneOf d) else 0
  have hV : ∀ (j : ℕ) (h : j < 2048) d, V j d = A.w b ⟨j, h⟩ (headOf o d) (laneOf d) := fun j h d => dif_pos h
  have hS : ∀ R (j : ℕ) (h : j ≤ (rowPos i R).val), A.seen b (rowHead o R) (rowPos i R) j = (A.score b (rowHead o R) (rowPos i R) ⟨j, by have := (rowPos i R).isLt; omega⟩ : EReal) := fun R j h => dif_pos h
  have key := out_A c (grid0.coords t) arg3 harg3 arg4 harg4 arg5 harg5 arg6 harg6 arg7 harg7 arg8 harg8 arg9 harg9 arg10 harg10 arg11 harg11 x0 x1 x2 x3 x4 hc0 h2 (e := fun R j => A.seen b (rowHead o R) (rowPos i R) j) (V := V)
    (fun R j => A.seen_ne_top b _ _ j) (fun R => A.seen_real b _ _ (Nat.zero_le _))
    (fun k R => A.seen_real b _ _ (by show 1024 * k.val ≤ 512 * i.val + R.val % 512; have := k.isLt; omega))
    (fun k R j => by
      have := k.isLt
      have hj : 1024 * k.val + j.val < 2048 := by omega
      rw [score8 _ _ _ _ _ hq, hS R _ (by show 1024 * k.val + j.val ≤ 512 * i.val + R.val % 512; omega)]
      exact T.score _ hg R ⟨1024 * k.val + j.val, hj⟩ _ (fun l => rd arg4 harg4 x1 _ _ _ _ _ (at3 (oW k).1 l j hj)) _ (rd arg7 harg7 x4 _ _ _ _ _ (at4 (oW k).2.1 _ j hj)))
    (fun k j d => by
      have := k.isLt
      have hj : 1024 * k.val + j.val < 2048 := by omega
      rw [hV _ hj]
      exact (rd arg5 harg5 x2 _ _ _ _ _ (at2 (oW k).2.2 j d hj)).trans (T.v _ d))
    (fun R => A.seen_real b _ _ (by show 1024 * (k0_t1_loop (grid0.coords t)).trips ≤ 512 * i.val + R.val % 512; omega))
    (fun R j => by
      have hj : 512 * i.val + j.val < 2048 := by omega
      have ej : 1024 * (k0_t1_loop (grid0.coords t)).trips + j.val = 512 * i.val + j.val := by omega
      rw [scoreM _ _ _ _ _ hq, ej]
      by_cases hm : j.val ≤ R.val % 512
      · rw [if_pos hm, hS R _ (by show 512 * i.val + j.val ≤ 512 * i.val + R.val % 512; omega)]
        exact T.score _ hg R ⟨512 * i.val + j.val, hj⟩ _ (fun l => rd arg4 harg4 x1 _ _ _ _ _ (at3 o10 l j hj)) _ (rd arg7 harg7 x4 _ _ _ _ _ (at4 o11 _ j hj))
      · rw [if_neg hm]
        exact (A.seen_bot b _ _ (by show 512 * i.val + R.val % 512 < 512 * i.val + j.val; omega)).symm)
    (fun j d => by
      have hj : 512 * i.val + j.val < 2048 := by omega
      have ej : 1024 * (k0_t1_loop (grid0.coords t)).trips + j.val = 512 * i.val + j.val := by omega
      rw [ej, hV _ hj]
      exact (rd arg5 harg5 x2 _ _ _ _ _ (at2 o12 j d hj)).trans (T.v _ d))
    (by omega) (fun R j hj => A.seen_bot b _ _ (by show 512 * i.val + R.val % 512 < j; omega)) (fun _ => M') r l ⟨l.val / 64 * 512 + r.val, by omega⟩ rfl
  refine key.trans (congrArg (fun x : ℝ => (x : EReal)) ?_)
  have e1 : rowHead o ⟨l.val / 64 * 512 + r.val, by omega⟩ = headOf o l := Fin.ext (by show 2 * o.val + (l.val / 64 * 512 + r.val) / 512 = 2 * o.val + l.val / 64; omega)
  have e2 : rowPos i ⟨l.val / 64 * 512 + r.val, by omega⟩ = ⟨512 * i.val + r.val, by omega⟩ := Fin.ext (by show 512 * i.val + (l.val / 64 * 512 + r.val) % 512 = 512 * i.val + r.val; omega)
  unfold FoxArgs.out
  rw [e1, e2]
  exact Finset.sum_congr rfl fun j _ => by rw [hV _ j.isLt]

theorem Tile.block_B (c : Dev nD) (t : Fin cfg0.N) (ho : o.val = t.val / 4 % 8) (hi : i.val = t.val % 4)
    (arg3 : Memref sig .tc .vmem S512x128 .bf16) (harg3 : arg3.IsWhole)
    (arg4 : Memref sig .tc .vmem S1x128x2048 .bf16) (harg4 : arg4.IsWhole)
    (arg5 : Memref sig .tc .vmem S2048x128 .bf16) (harg5 : arg5.IsWhole)
    (arg6 : Memref sig .tc .vmem S512x16 .f32) (harg6 : arg6.IsWhole)
    (arg7 : Memref sig .tc .vmem S1x1x2x2048 .f32) (harg7 : arg7.IsWhole)
    (arg8 : Memref sig .tc .vmem S512x128 .bf16) (harg8 : arg8.IsWhole)
    (arg9 : Memref sig .tc .vmem S1024x128 .f32) (harg9 : arg9.IsWhole)
    (arg10 : Memref sig .tc .vmem S1024x128 .f32) (harg10 : arg10.IsWhole)
    (arg11 : Memref sig .tc .vmem S1024x128 .f32) (harg11 : arg11.IsWhole)
    (hc0 : cond0_0 (grid0.coords t)) (hodd : t.val % 2 = 1) (M' : ℝ) (r : Fin 512) (l : Fin 128) :
    out0_B_5 c (grid0.coords t) arg3 harg3 arg4 harg4 arg5 harg5 arg6 harg6 arg7 harg7 arg8 harg8 arg9 harg9 arg10 harg10 arg11 harg11 hc0 x0 x1 x2 x3 x4 (ix2 r l)
      = (A.out b (headOf o l) ⟨512 * i.val + r.val, by omega⟩ M' (laneOf l) : EReal) := by
  obtain ⟨h2, h1, hg, o10, o11, o12⟩ := offs t
  have oW := offsW t
  obtain ⟨o7, o8, o9⟩ := offsP t hodd
  have hg : (grid0.coords t 1).val = o.val := hg.trans ho.symm
  rw [← hi] at h1 o10 o11 o12 o7 o8 o9
  have hi4 := i.isLt
  have hq : ∀ R (d : Fin 128), k0_pay16 (F := Ideal) (grid0.coords t) x3 (ix2 R d) = k0_pay16 (F := Ideal) (grid0.coords t) x3 (ix2 R 0) := fun R d => by rw [gate, gate]
  let V : ℕ → Fin 128 → ℝ := fun j d => if h : j < 2048 then A.w b ⟨j, h⟩ (headOf o d) (laneOf d) else 0
  have hV : ∀ (j : ℕ) (h : j < 2048) d, V j d = A.w b ⟨j, h⟩ (headOf o d) (laneOf d) := fun j h d => dif_pos h
  have hS : ∀ R (j : ℕ) (h : j ≤ (rowPos i R).val), A.seen b (rowHead o R) (rowPos i R) j = (A.score b (rowHead o R) (rowPos i R) ⟨j, by have := (rowPos i R).isLt; omega⟩ : EReal) := fun R j h => dif_pos h
  have key := out_B c (grid0.coords t) arg3 harg3 arg4 harg4 arg5 harg5 arg6 harg6 arg7 harg7 arg8 harg8 arg9 harg9 arg10 harg10 arg11 harg11 x0 x1 x2 x3 x4 hc0 h2 (e := fun R j => A.seen b (rowHead o R) (rowPos i R) j) (V := V)
    (fun R j => A.seen_ne_top b _ _ j) (fun R => A.seen_real b _ _ (Nat.zero_le _))
    (fun k R => A.seen_real b _ _ (by show 1024 * k.val ≤ 512 * i.val + R.val % 512; have := k.isLt; omega))
    (fun k R j => by
      have := k.isLt
      have hj : 1024 * k.val + j.val < 2048 := by omega
      rw [score8 _ _ _ _ _ hq, hS R _ (by show 1024 * k.val + j.val ≤ 512 * i.val + R.val % 512; omega)]
      exact T.score _ hg R ⟨1024 * k.val + j.val, hj⟩ _ (fun l => rd arg4 harg4 x1 _ _ _ _ _ (at3 (oW k).1 l j hj)) _ (rd arg7 harg7 x4 _ _ _ _ _ (at4 (oW k).2.1 _ j hj)))
    (fun k j d => by
      have := k.isLt
      have hj : 1024 * k.val + j.val < 2048 := by omega
      rw [hV _ hj]
      exact (rd arg5 harg5 x2 _ _ _ _ _ (at2 (oW k).2.2 j d hj)).trans (T.v _ d))
    (fun R => A.seen_real b _ _ (by show 1024 * (k0_t1_loop (grid0.coords t)).trips ≤ 512 * i.val + R.val % 512; omega))
    (fun R j => by
      have hj : 512 * (i.val - 1) + j.val < 2048 := by omega
      have ej : 1024 * (k0_t1_loop (grid0.coords t)).trips + j.val = 512 * (i.val - 1) + j.val := by omega
      rw [score4 _ _ _ _ _ hq, ej, hS R _ (by show 512 * (i.val - 1) + j.val ≤ 512 * i.val + R.val % 512; omega)]
      exact T.score _ hg R ⟨512 * (i.val - 1) + j.val, hj⟩ _ (fun l => rd arg4 harg4 x1 _ _ _ _ _ (at3 o7 l j hj)) _ (rd arg7 harg7 x4 _ _ _ _ _ (at4 o8 _ j hj)))
    (fun j d => by
      have hj : 512 * (i.val - 1) + j.val < 2048 := by omega
      have ej : 1024 * (k0_t1_loop (grid0.coords t)).trips + j.val = 512 * (i.val - 1) + j.val := by omega
      rw [ej, hV _ hj]
      exact (rd arg5 harg5 x2 _ _ _ _ _ (at2 o9 j d hj)).trans (T.v _ d))
    (fun R => A.seen_real b _ _ (by show 1024 * (k0_t1_loop (grid0.coords t)).trips + 512 ≤ 512 * i.val + R.val % 512; omega))
    (fun R j => by
      have hj : 512 * i.val + j.val < 2048 := by omega
      have ej : 1024 * (k0_t1_loop (grid0.coords t)).trips + 512 + j.val = 512 * i.val + j.val := by omega
      rw [scoreM _ _ _ _ _ hq, ej]
      by_cases hm : j.val ≤ R.val % 512
      · rw [if_pos hm, hS R _ (by show 512 * i.val + j.val ≤ 512 * i.val + R.val % 512; omega)]
        exact T.score _ hg R ⟨512 * i.val + j.val, hj⟩ _ (fun l => rd arg4 harg4 x1 _ _ _ _ _ (at3 o10 l j hj)) _ (rd arg7 harg7 x4 _ _ _ _ _ (at4 o11 _ j hj))
      · rw [if_neg hm]
        exact (A.seen_bot b _ _ (by show 512 * i.val + R.val % 512 < 512 * i.val + j.val; omega)).symm)
    (fun j d => by
      have hj : 512 * i.val + j.val < 2048 := by omega
      have ej : 1024 * (k0_t1_loop (grid0.coords t)).trips + 512 + j.val = 512 * i.val + j.val := by omega
      rw [ej, hV _ hj]
      exact (rd arg5 harg5 x2 _ _ _ _ _ (at2 o12 j d hj)).trans (T.v _ d))
    (by omega) (fun R j hj => A.seen_bot b _ _ (by show 512 * i.val + R.val % 512 < j; omega)) (fun _ => M') r l ⟨l.val / 64 * 512 + r.val, by omega⟩ rfl
  refine key.trans (congrArg (fun x : ℝ => (x : EReal)) ?_)
  have e1 : rowHead o ⟨l.val / 64 * 512 + r.val, by omega⟩ = headOf o l := Fin.ext (by show 2 * o.val + (l.val / 64 * 512 + r.val) / 512 = 2 * o.val + l.val / 64; omega)
  have e2 : rowPos i ⟨l.val / 64 * 512 + r.val, by omega⟩ = ⟨512 * i.val + r.val, by omega⟩ := Fin.ext (by show 512 * i.val + (l.val / 64 * 512 + r.val) % 512 = 512 * i.val + r.val; omega)
  unfold FoxArgs.out
  rw [e1, e2]
  exact Finset.sum_congr rfl fun j _ => by rw [hV _ j.isLt]

end

end Cert.Kernel4Ideal.Gen
end
-- ==== Proof.FoxArr.lean ====
module

public import proofs.«01_k».proof.Proof.FoxVal

@[expose] public section

set_option maxRecDepth 16384

noncomputable section

namespace Cert.Kernel4Ideal.Gen

open Idealize.ShloMosaic Idealize.ShloMosaic.TcCoe Cert.Layer Idealize.SL.Sem

/-- The word of one eighth, the factor of the queries. -/
theorem eighth : Ideal.ofBits .f32 0x3E000000#32 = ((0.125 : ℝ) : EReal) := by
  simp [Ideal.ofBits, Ideal.ieee, -EReal.coe_mul]; norm_num

/-- The four arrays hold reals: the queries, keys, values and gates `A`. -/
structure FoxData (A : FoxArgs) (q k w : Vec Ideal S8x2048x16x64 .f32) (c : Vec Ideal S8x2048x16 .f32) : Prop where
  q : ∀ b i h d, q (ix4 b i h d) = (A.q b i h d : EReal)
  k : ∀ b i h d, k (ix4 b i h d) = (A.k b i h d : EReal)
  w : ∀ b i h d, w (ix4 b i h d) = (A.w b i h d : EReal)
  c : ∀ b i h, c (ix3 b i h) = (A.c b i h : EReal)

/-- One entry of the output: the row is the token, the lane the head and its element. -/
def foxAt (A : FoxArgs) (M : Fin 8 → Fin 16 → Fin 2048 → ℝ) (n : Fin 16384) (d : Fin 1024) : ℝ :=
  A.out ⟨n.val / 2048, by omega⟩ ⟨d.val / 64, by omega⟩ ⟨n.val % 2048, by omega⟩ (M ⟨n.val / 2048, by omega⟩ ⟨d.val / 64, by omega⟩ ⟨n.val % 2048, by omega⟩) ⟨d.val % 64, by omega⟩

/-- The heads and gates in the memory of one device. -/
abbrev Data (m : (ℓ : Loc nD τ sig) → Buf (Elt Ideal) ℓ) (c : Dev nD) (A : FoxArgs) : Prop :=
  FoxData A (m ((c.tc : Thread nD τ).loc main_arg0)) (m ((c.tc : Thread nD τ).loc main_arg1)) (m ((c.tc : Thread nD τ).loc main_arg2)) (m ((c.tc : Thread nD τ).loc main_arg3))

section
variable (m : (ℓ : Loc nD τ sig) → Buf (Elt Ideal) ℓ) (c : Dev nD)

abbrev a0 : Vec Ideal S16384x1024 .bf16 := V m c (Pipeline.arrRef spec0 0)
abbrev a1 : Vec Ideal S8x1024x2048 .bf16 := V m c (Pipeline.arrRef spec0 1)
abbrev a2 : Vec Ideal S16384x1024 .bf16 := V m c (Pipeline.arrRef spec0 2)
abbrev a3 : Vec Ideal S16384x16 .f32 := V m c (Pipeline.arrRef spec0 3)
abbrev a4 : Vec Ideal S8x8x2x2048 .f32 := V m c (Pipeline.arrRef spec0 4)

theorem blk0 (t : Fin cfg0.N) (r : Fin 512) (l : Fin 128) (n : Fin 16384) (d : Fin 1024) (hn : n.val = (t.val / 32 * 4 + t.val % 4) * 512 + r.val)
    (hd : d.val = t.val / 4 % 8 * 128 + l.val) : iblk m c 0 t (ix2 r l) = a0 m c (ix2 n d) := by
  have e := (index0 t).1
  blk_ext [iblk, e]

theorem blk1 (t : Fin cfg0.N) (l : Fin 128) (j : Fin 2048) (b : Fin 8) (d : Fin 1024) (hb : b.val = t.val / 32)
    (hd : d.val = t.val / 4 % 8 * 128 + l.val) : iblk m c 1 t (ix3 0 l j) = a1 m c (ix3 b d j) := by
  have e := (index0 t).2.1
  blk_ext [iblk, e]

theorem blk2 (t : Fin cfg0.N) (j : Fin 2048) (l : Fin 128) (n : Fin 16384) (d : Fin 1024) (hn : n.val = t.val / 32 * 2048 + j.val)
    (hd : d.val = t.val / 4 % 8 * 128 + l.val) : iblk m c 2 t (ix2 j l) = a2 m c (ix2 n d) := by
  have e := (index0 t).2.2.1
  blk_ext [iblk, e]

theorem blk3 (t : Fin cfg0.N) (r : Fin 512) (h : Fin 16) (n : Fin 16384) (hn : n.val = (t.val / 32 * 4 + t.val % 4) * 512 + r.val) :
    iblk m c 3 t (ix2 r h) = a3 m c (ix2 n h) := by
  have e := (index0 t).2.2.2.1
  blk_ext [iblk, e]

theorem blk4 (t : Fin cfg0.N) (p : Fin 2) (j : Fin 2048) (b o : Fin 8) (hb : b.val = t.val / 32) (ho : o.val = t.val / 4 % 8) :
    iblk m c 4 t (ix4 0 0 p j) = a4 m c (ix4 b o p j) := by
  have e := (index0 t).2.2.2.2.1
  blk_ext [iblk, e]

variable {m c} {A : FoxArgs} (D : Data m c A)
include D

theorem tile (t : Fin cfg0.N) (b o : Fin 8) (i : Fin 4) (hb : b.val = t.val / 32) (ho : o.val = t.val / 4 % 8) (hi : i.val = t.val % 4) :
    Tile A b o i (iblk m c 0 t) (iblk m c 1 t) (iblk m c 2 t) (iblk m c 3 t) (iblk m c 4 t) where
  q r l := by
    have := l.isLt; have := r.isLt; have := i.isLt; have := b.isLt; have := o.isLt
    rw [blk0 m c t r l ⟨b.val * 2048 + (512 * i.val + r.val), by omega⟩ ⟨o.val * 128 + l.val, by omega⟩ (by show b.val * 2048 + (512 * i.val + r.val) = _; omega) (by show o.val * 128 + l.val = _; omega)]
    refine (host_q _ _ _ b ⟨512 * i.val + r.val, by omega⟩ (headOf o l) (laneOf l) rfl (by show o.val * 128 + l.val = (2 * o.val + l.val / 64) * 64 + l.val % 64; omega)).trans ?_
    rw [eighth, EReal.coe_mul]
    exact congrArg (fun x : EReal => x * ((0.125 : ℝ) : EReal)) (D.q b _ _ _)
  k l j := by
    have := l.isLt; have := o.isLt
    rw [blk1 m c t l j b ⟨o.val * 128 + l.val, by omega⟩ hb (by show o.val * 128 + l.val = _; omega)]
    exact (host_k _ b _ j (headOf o l) (laneOf l) (by show o.val * 128 + l.val = (2 * o.val + l.val / 64) * 64 + l.val % 64; omega)).trans (D.k b _ _ _)
  v j l := by
    have := l.isLt; have := j.isLt; have := b.isLt; have := o.isLt
    rw [blk2 m c t j l ⟨b.val * 2048 + j.val, by omega⟩ ⟨o.val * 128 + l.val, by omega⟩ (by show b.val * 2048 + j.val = _; omega) (by show o.val * 128 + l.val = _; omega)]
    exact (host_v _ _ _ b j (headOf o l) (laneOf l) rfl (by show o.val * 128 + l.val = (2 * o.val + l.val / 64) * 64 + l.val % 64; omega)).trans (D.w b _ _ _)
  cq r h := by
    have := r.isLt; have := i.isLt; have := b.isLt
    rw [blk3 m c t r h ⟨b.val * 2048 + (512 * i.val + r.val), by omega⟩ (by show b.val * 2048 + (512 * i.val + r.val) = _; omega)]
    exact (host_c _ _ b ⟨512 * i.val + r.val, by omega⟩ h rfl).trans (D.c b _ _)
  ck p j := by
    rw [blk4 m c t p j b o hb ho]
    exact (host_g _ b o p j ⟨2 * o.val + p.val, by have := o.isLt; have := p.isLt; omega⟩ rfl).trans (D.c b _ _)

theorem block (M : ℝ) (t : Fin cfg0.N) (b o : Fin 8) (i : Fin 4) (hb : b.val = t.val / 32) (ho : o.val = t.val / 4 % 8) (hi : i.val = t.val % 4) (r : Fin 512) (l : Fin 128) :
    outsAt0 m c t.val t.isLt (ix2 r l) = (A.out b (headOf o l) ⟨512 * i.val + r.val, by omega⟩ M (laneOf l) : EReal) := by
  by_cases h : t.val % 2 = 1
  · rw [outsAt0_B m c t h]
    exact (tile D t b o i hb ho hi).block_B c t ho hi _ _ _ _ _ _ _ _ _ _ _ _ _ _ _ _ _ _ _ h M r l
  · rw [outsAt0_A m c t h]
    exact (tile D t b o i hb ho hi).block_A c t ho hi _ _ _ _ _ _ _ _ _ _ _ _ _ _ _ _ _ _ _ M r l

/-- The whole result. -/
theorem arr (M : Fin 8 → Fin 16 → Fin 2048 → ℝ) : (dats m 0 c).arrAt 5 cfg0.N = fun i => (foxAt A M (i 0) (i 1) : EReal) := by
  refine (dats m 0 c).arrAt_eq_of_covers 5 _ (by decide +kernel) fun t hf y => ?_
  have e := (index0 t).2.2.2.2.2
  have ht : t.val < 256 := t.isLt
  have e0 : (((cfg0.win 5).blk t).view.emb y 0 : ℕ) = (t.val / 32 * 4 + t.val % 4) * 512 + (y 0).val := by blk_simp [e]
  have e1 : (((cfg0.win 5).blk t).view.emb y 1 : ℕ) = t.val / 4 % 8 * 128 + (y 1).val := by blk_simp [e]
  dsimp only
  generalize ((cfg0.win 5).blk t).view.emb y 0 = n at e0 ⊢
  generalize ((cfg0.win 5).blk t).view.emb y 1 = d at e1 ⊢
  blk_simp
  rw [after0_5]
  idx_vars y
  have hn : (n : ℕ) = (t.val / 32 * 4 + t.val % 4) * 512 + y0.val := e0
  have hd : (d : ℕ) = t.val / 4 % 8 * 128 + y1.val := e1
  have h0 := y0.isLt
  have h1 := y1.isLt
  refine (block D (M ⟨n.val / 2048, by omega⟩ ⟨d.val / 64, by omega⟩ ⟨n.val % 2048, by omega⟩) t ⟨t.val / 32, by omega⟩ ⟨t.val / 4 % 8, by omega⟩ ⟨t.val % 4, by omega⟩ rfl rfl rfl y0 y1).trans (congrArg (fun x : ℝ => (x : EReal)) ?_)
  unfold foxAt
  congr 1 <;> first | rfl | exact Fin.ext (by simp only [headOf, laneOf]; omega)

end

/-- The run of the kernel, its result named. -/
theorem fox_run (m : (ℓ : Loc nD τ sig) → Buf (Elt Ideal) ℓ) (ρ : Dev nD → PrngReg) : θ_run defs (onTc (τ := τ) (main (F := Ideal))) ⟨m, fun _ => 0, ρ⟩ (fun r => ∀ c : Dev nD,
      r.2.mem ((c.tc : Thread nD τ).loc main_v12) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h.2 c).1 5, h.1.1 c⟩) (θ_run_and (frame m ρ) (run_main m ρ))

end Cert.Kernel4Ideal.Gen
end
-- ==== Proof.FoxRef.lean ====
module

public import proofs.«01_k».proof.Proof.FoxArr
public import proofs.«01_k».proof.Proof.Gen.Reference4Ideal.Read
public import proofs.«01_k».proof.Proof.Gen.Reference4Ideal.Run

@[expose] public section

set_option maxRecDepth 16384

noncomputable section

namespace Cert.Reference4Ideal.Read

open Idealize.ShloMosaic Idealize.ShloMosaic.TcCoe Cert.Layer
open Cert.Kernel4Ideal.Gen (FoxData eighth foxAt)

/-- The comparison of two positions. -/
theorem le_pos (i j : Fin 2048) : IntOp.cmpi .sle (BitVec.ofNat 32 j.val) (BitVec.ofNat 32 i.val) = if j.val ≤ i.val then 1#1 else 0#1 := by
  have a : (BitVec.ofNat 32 j.val).toInt = j.val := by
    rw [BitVec.toInt_eq_toNat_of_lt (by simp only [BitVec.toNat_ofNat]; omega), BitVec.toNat_ofNat]; omega
  have b : (BitVec.ofNat 32 i.val).toInt = i.val := by
    rw [BitVec.toInt_eq_toNat_of_lt (by simp only [BitVec.toNat_ofNat]; omega), BitVec.toNat_ofNat]; omega
  simp only [IntOp.cmpi, BitVec.sle, a, b, Int.ofNat_le, Nat.cast_le]
  by_cases h : j.val ≤ i.val
  · rw [if_pos h, decide_eq_true h]; rfl
  · rw [if_neg h, decide_eq_false h]; rfl

/-- The greatest of some scores of which one is a real. -/
theorem top_of {ι : Type} (s : Finset ι) (x : ι → EReal) (hx : ∀ i, x i ≠ ⊤) (i : ι) (hi : i ∈ s) (hr : IsReal (x i)) : IsReal (Finset.fold max ⊥ x s) := by
  have h1 : Finset.fold max ⊥ x s ≠ ⊤ := ((Finset.fold_max_lt _).mpr ⟨bot_lt_top, fun j _ => lt_top_iff_ne_top.mpr (hx j)⟩).ne
  have h2 : Finset.fold max ⊥ x s ≠ ⊥ := by
    obtain ⟨r, hr⟩ := hr
    exact ((Finset.lt_fold_max _).mpr (.inr ⟨i, hi, by rw [hr]; exact EReal.bot_lt_coe r⟩)).ne'
  exact ⟨_, (EReal.coe_toReal h1 h2).symm⟩

theorem drop_last (b : Fin 8) (h : Fin 16) (i j : Fin 2048) : Gen.reducesTo_S8x16x2048x2048_S8x16x2048_d3.drop (ix4 b h i j) = ix3 b h i := by
  funext a
  fin_cases a
  · exact Fin.ext (Shape.ReducesTo.drop_apply_val_of_eq Gen.reducesTo_S8x16x2048x2048_S8x16x2048_d3 (ix4 b h i j) 0 0)
  · exact Fin.ext (Shape.ReducesTo.drop_apply_val_of_eq Gen.reducesTo_S8x16x2048x2048_S8x16x2048_d3 (ix4 b h i j) 1 1)
  · exact Fin.ext (Shape.ReducesTo.drop_apply_val_of_eq Gen.reducesTo_S8x16x2048x2048_S8x16x2048_d3 (ix4 b h i j) 2 2)

section
variable (A : FoxArgs) {x0 x1 x2 : Vec Ideal S8x2048x16x64 .f32} {x3 : Vec Ideal S8x2048x16 .f32} (D : FoxData A x0 x1 x2 x3)
include D

theorem ref_score (b : Fin 8) (h : Fin 16) (i j : Fin 2048) : (val_main_v11 (F := Ideal) x0 x1 x3 (ix4 b h i j) : EReal) = (A.score b h i j : EReal) := by
  have e0 : ∀ k, (x0 (lidx_main_v1 (ix4 b h i j) k) : EReal) = (A.q b i h k : EReal) := fun k => (congrArg x0 (funext fun a => by fin_cases a <;> rfl)).trans (D.q b i h k)
  have e1 : ∀ k, (x1 (ridx_main_v1 (ix4 b h i j) k) : EReal) = (A.k b j h k : EReal) := fun k => (congrArg x1 (funext fun a => by fin_cases a <;> rfl)).trans (D.k b j h k)
  have e2 : (val_main_v6 (F := Ideal) x3 (ix4 b h i j) : EReal) = (A.c b i h : EReal) := by
    rw [val_main_v6_apply, val_main_v5_apply, val_main_v4_apply]
    exact (congrArg x3 (funext fun a => by fin_cases a <;> rfl)).trans (D.c b i h)
  have e3 : (val_main_v10 (F := Ideal) x3 (ix4 b h i j) : EReal) = (A.c b j h : EReal) := by
    rw [val_main_v10_apply, val_main_v9_apply, val_main_v8_apply]
    exact (congrArg x3 (funext fun a => by fin_cases a <;> rfl)).trans (D.c b j h)
  have e4 : (val_main_v2 (F := Ideal) (ix4 b h i j) : EReal) = ((0.125 : ℝ) : EReal) := by
    rw [val_main_v2_apply, val_main_cst_apply]; exact eighth
  have e5 : (val_main_v1 (F := Ideal) x0 x1 (ix4 b h i j) : EReal) = ((∑ d, A.q b i h d * A.k b j h d : ℝ) : EReal) := by
    rw [val_main_v1_apply, coe_sum_real]
    exact Finset.sum_congr rfl fun k _ => by rw [e0, e1, EReal.coe_mul]
  rw [val_main_v11_apply, val_main_v7_apply, val_main_v3_apply]
  show (val_main_v1 (F := Ideal) x0 x1 (ix4 b h i j) : EReal) * (val_main_v2 (F := Ideal) (ix4 b h i j) : EReal) + (val_main_v6 (F := Ideal) x3 (ix4 b h i j) : EReal) - (val_main_v10 (F := Ideal) x3 (ix4 b h i j) : EReal) = _
  rw [e2, e3, e4, e5, ← EReal.coe_mul, ← EReal.coe_add, ← EReal.coe_sub]
  exact congrArg _ (add_sub_assoc _ _ _)

theorem ref_seen (b : Fin 8) (h : Fin 16) (i j : Fin 2048) : (val_main_v17 (F := Ideal) x0 x1 x3 (ix4 b h i j) : EReal) = A.seen b h i j.val := by
  have e : val_main_call0_v1 (F := Ideal) (ix4 b h i j) = if j.val ≤ i.val then 1#1 else 0#1 := by
    rw [val_main_call0_v1_apply, val_main_v16_apply, val_main_v14_apply, val_main_v12_apply, val_main_v15_apply, val_main_v13_apply, val_main_v0_apply, val_main_v0_apply]
    exact le_pos i j
  have eb : (val_main_call0_v2 (F := Ideal) (ix4 b h i j) : EReal) = ⊥ := by
    rw [val_main_call0_v2_apply, val_main_call0_v0_apply, val_main_cst_0_apply]
    exact negInf_eq
  rw [val_main_v17_apply, e, eb, ref_score A D]
  unfold FoxArgs.seen
  by_cases hj : j.val ≤ i.val
  · rw [if_pos hj, dif_pos hj]; rfl
  · rw [if_neg hj, dif_neg hj]; rfl

/-- The greatest score of one query is a real. -/
theorem ref_top (b : Fin 8) (h : Fin 16) (i : Fin 2048) : IsReal (val_main_v18 (F := Ideal) x0 x1 x3 (ix3 b h i) : EReal) := by
  have key : IsReal (Finset.fold max ⊥ (fun i => (val_main_v17 (F := Ideal) x0 x1 x3 i : EReal))
      (Finset.univ.filter fun x => Gen.reducesTo_S8x16x2048x2048_S8x16x2048_d3.drop x = ix3 b h i)) := by
    refine top_of _ _ (fun x => ?_) (ix4 b h i 0) (Finset.mem_filter.mpr ⟨Finset.mem_univ _, drop_last b h i 0⟩) ?_
    · obtain ⟨a, g, p, j, rfl⟩ : ∃ (a : Fin 8) (g : Fin 16) (p j : Fin 2048), x = ix4 a g p j := ⟨x 0, x 1, x 2, x 3, eq_ix4 x⟩
      exact (ref_seen A D a g p j).trans_ne (A.seen_ne_top _ _ _ _)
    · exact (congrArg IsReal (ref_seen A D b h i 0)).mpr (A.seen_real b h i (Nat.zero_le _))
  have e : val_main_v18 (F := Ideal) x0 x1 x3 (ix3 b h i) = Finset.fold max negInf (fun i => (val_main_v17 (F := Ideal) x0 x1 x3 i : EReal))
      (Finset.univ.filter fun x => Gen.reducesTo_S8x16x2048x2048_S8x16x2048_d3.drop x = ix3 b h i) := by
    unfold val_main_v18
    generalize val_main_v17 (F := Ideal) x0 x1 x3 = y
    exact Host.reduce_eq_fold (FloatOps.maximumf (F := Ideal) (φ := .f32)) y _ Gen.reducesTo_S8x16x2048x2048_S8x16x2048_d3 Gen.h_S_ (ix3 b h i)
  rw [e, negInf_eq]
  exact key

theorem ref_out (b : Fin 8) (h : Fin 16) (i : Fin 2048) : ∃ M : ℝ, ∀ d : Fin 64,
    (val_main_v29 (F := Ideal) x0 x1 x2 x3 (ix4 b h d i) : EReal) = (A.out b h i M d : EReal) := by
  obtain ⟨M, hM⟩ := ref_top A D b h i
  refine ⟨M, fun d => ?_⟩
  have e22 : ∀ j, (val_main_v22 (F := Ideal) x0 x1 x3 (ix4 b h i j) : EReal) = (M : EReal) := fun j => by
    rw [val_main_v22_apply, val_main_v21_apply, val_main_v20_apply, val_main_v19_apply, val_main_cst_2_apply]
    refine (congrArg₂ (max : EReal → EReal → EReal) negInf_eq ((congrArg (val_main_v18 (F := Ideal) x0 x1 x3) (funext fun a => by fin_cases a <;> rfl)).trans hM)).trans ?_
    exact max_eq_right bot_le
  have e24 : ∀ j, (val_main_v24 (F := Ideal) x0 x1 x3 (ix4 b h i j) : EReal) = (wt (A.seen b h i j.val) M : EReal) := fun j => by
    rw [val_main_v24_apply, val_main_v23_apply, e22, ref_seen A D]
    exact exp_score (A.seen_ne_top b h i j.val) M
  have e25 : (val_main_v25 (F := Ideal) x0 x1 x3 (ix3 b h i) : EReal) = ((∑ l : Fin 2048, wt (A.seen b h i l.val) M : ℝ) : EReal) := by
    rw [val_main_v25_apply, val_main_cst_3_apply, coe_sum_real]
    refine (congrArg₂ (fun a b : EReal => a + b) (show (FloatOps.ofBits .f32 0x00000000#32 : Ideal .f32) = (0 : EReal) from Ideal.ofBits_zero .f32) (Finset.sum_congr rfl fun k _ => ?_)).trans (zero_add _)
    exact (congrArg (val_main_v24 (F := Ideal) x0 x1 x3) (funext fun a => by fin_cases a <;> rfl)).trans (e24 k)
  have e28 : ∀ j, (val_main_v28 (F := Ideal) x0 x1 x3 (ix4 b h i j) : EReal) = ((wt (A.seen b h i j.val) M / ∑ l : Fin 2048, wt (A.seen b h i l.val) M : ℝ) : EReal) := fun j => by
    rw [val_main_v28_apply, val_main_v27_apply, val_main_v26_apply, e24]
    refine (congrArg (fun x : EReal => Ideal.div ((wt (A.seen b h i j.val) M : ℝ) : EReal) x) ((congrArg (val_main_v25 (F := Ideal) x0 x1 x3) (funext fun a => by fin_cases a <;> rfl)).trans e25)).trans ?_
    exact div_real _ _ (Finset.sum_pos' (f := fun l : Fin 2048 => wt (A.seen b h i l.val) M) (fun l _ => wt_nonneg _ _) ⟨(0 : Fin 2048), Finset.mem_univ _, wt_pos (A.seen_real b h i (Nat.zero_le _)) M⟩).ne'
  rw [val_main_v29_apply]
  unfold FoxArgs.out
  rw [coe_sum_real]
  refine Finset.sum_congr rfl fun j _ => ?_
  rw [EReal.coe_mul]
  refine (mul_comm _ _).trans (congrArg₂ (fun a b : EReal => a * b) ?_ ?_)
  · exact (congrArg (val_main_v28 (F := Ideal) x0 x1 x3) (funext fun a => by fin_cases a <;> rfl)).trans (e28 j)
  · exact (congrArg x2 (funext fun a => by fin_cases a <;> rfl)).trans (D.w b j h d)

theorem ref_value : ∃ M : Fin 8 → Fin 16 → Fin 2048 → ℝ, ∀ i : S16384x1024.Idx,
    (val_main_v33 (F := Ideal) x0 x1 x2 x3 i : EReal) = (foxAt A M (i 0) (i 1) : EReal) := by
  choose M hM using fun b h i => ref_out A D b h i
  refine ⟨M, fun i => ?_⟩
  rw [val_main_v33_apply]
  show (val_main_v32 (F := Ideal) x0 x1 x2 x3 i : EReal) = _
  rw [val_main_v32_apply, val_main_v31_apply, val_main_v30_apply]
  unfold foxAt
  rw [← hM]
  refine congrArg (val_main_v29 (F := Ideal) x0 x1 x2 x3) (funext fun a => ?_)
  have h0 : (i 0).val < 16384 := (i 0).isLt
  have h1 : (i 1).val < 1024 := (i 1).isLt
  fin_cases a
  all_goals
    refine Fin.ext ?_
    simp
    omega

end

end Cert.Reference4Ideal.Read
end
-- ==== Proof.FoxJoin.lean ====
module

public import proofs.«01_k».proof.Defs
public import proofs.«01_k».proof.Proof.FirstJoin
public import proofs.«01_k».proof.Proof.Gen.Kernel4
public import proofs.«01_k».proof.Proof.FoxRef
public import Idealize.ShloMosaic.Lib.Pipeline.Regions

@[expose] public section

set_option maxRecDepth 16384

noncomputable section

namespace Cert.Proof

open Idealize.ShloMosaic Idealize.ShloMosaic.TcCoe Idealize.SL.Sem Cert.Layer
open Cert.Kernel4Ideal.Gen (FoxData foxAt)

/-- Finite arrays hold reals. -/
theorem fox_data [Cert.Pre_finite_heads.Facts] (m : (ℓ : Loc Cert.Kernel4Ideal.nD Cert.Kernel4Ideal.τ Cert.Kernel4Ideal.sig) → Buf (Elt Ideal) ℓ)
    (h : Pre_Kernel4Ideal_finite_heads m) (c : Dev Cert.Kernel4Ideal.nD) : ∃ A, Cert.Kernel4Ideal.Gen.Data m c A := by
  obtain ⟨h0, h1, h2, h3⟩ := h c
  have r (x : Vec Ideal Cert.Kernel4Ideal.S8x2048x16x64 .f32) (hx : ∀ i, IsReal (x i : EReal)) : ∃ f : Fin 8 → Fin 2048 → Fin 16 → Fin 64 → ℝ, ∀ b i h d, x (ix4 b i h d) = (f b i h d : EReal) :=
    ⟨fun b i h d => (hx (ix4 b i h d)).choose, fun b i h d => (hx (ix4 b i h d)).choose_spec⟩
  obtain ⟨q, hq⟩ := r (m ((c.tc : Thread Cert.Kernel4Ideal.nD Cert.Kernel4Ideal.τ).loc Cert.Kernel4Ideal.main_arg0)) fun i => real_of_abs _ (congrFun h0 i)
  obtain ⟨w, hw⟩ := r (m ((c.tc : Thread Cert.Kernel4Ideal.nD Cert.Kernel4Ideal.τ).loc Cert.Kernel4Ideal.main_arg1)) fun i => real_of_abs _ (congrFun h1 i)
  obtain ⟨v, hv⟩ := r (m ((c.tc : Thread Cert.Kernel4Ideal.nD Cert.Kernel4Ideal.τ).loc Cert.Kernel4Ideal.main_arg2)) fun i => real_of_abs _ (congrFun h2 i)
  have g (i) : IsReal (m ((c.tc : Thread Cert.Kernel4Ideal.nD Cert.Kernel4Ideal.τ).loc Cert.Kernel4Ideal.main_arg3) i : EReal) := real_of_abs _ (congrFun h3 i)
  exact ⟨⟨q, w, v, fun b i h => (g (ix3 b i h)).choose⟩, hq, hw, hv, fun b i h => (g (ix3 b i h)).choose_spec⟩

theorem ref4_frame : quiescent_Reference4Ideal (hReference4Ideal := Cert.Reference4Ideal.Gen.facts) :=
  fun m g _ => (θ_run _ _ _).mono (fun _ h => ⟨fun c => (h c).2, sem_eq_zero_of_no_sems (by decide) _⟩)
    (Cert.Reference4Ideal.Value.run (F := Ideal) m g)

theorem ref4_frame_finite [hp : Cert.Pre_finite_heads.Facts] :
    quiescent_Reference4Ideal_pre_finite_heads (hReference4Ideal := Cert.Reference4Ideal.Gen.facts) (hPre_finite_heads := hp) :=
  fun m g _ => (θ_run _ _ _).mono (fun _ h => ⟨fun c => (h c).2, sem_eq_zero_of_no_sems (by decide) _⟩)
    (Cert.Reference4Ideal.Value.run (F := Ideal) m g)

/-- A name read as the word it stands for. -/
@[instance_reducible] def words : Named Bits where
  named _ _ {φ} b := FloatOps.ofBits φ b

/-- What the frame of the kernel of floats says, of the idealized kernel's text with the name read as its word. -/
def foxFrame [hKernel4Ideal : Cert.Kernel4Ideal.Facts] : Prop :=
  letI := words
  ∀ (m : (ℓ : Loc Cert.Kernel4Ideal.nD Cert.Kernel4Ideal.τ Cert.Kernel4Ideal.sig) → Buf (Elt Bits) ℓ) (g : Dev Cert.Kernel4Ideal.nD → PrngReg), True →
    θ_run (Cert.Kernel4Ideal.defs (F := Bits)) (onTc (τ := Cert.Kernel4Ideal.τ) (Cert.Kernel4Ideal.main (F := Bits))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

theorem same_fox : foxFrame (hKernel4Ideal := Cert.Kernel4Ideal.Gen.facts) = quiescent_Kernel4 (hKernel4 := Cert.Kernel4.Gen.facts) := by chain_rfl

/-- The kernel of floats has the text of the idealized one, with its word for the name. -/
theorem kernel4_frame : quiescent_Kernel4 (hKernel4 := Cert.Kernel4.Gen.facts) :=
  same_fox ▸ fun m g _ => letI := words; Cert.Kernel4Ideal.Gen.frame (F := Bits) m g

/-- The mask's name stands for the bottom. -/
theorem mask_named : preserves_Kernel4_Kernel4Ideal :=
  IdealRules.named_const.statement Cert.Kernel4Ideal.κ "mask" .f32 0xF149F2CA#32 ⊥ rfl

theorem value4 [hp : Cert.Pre_finite_heads.Facts] :
    algebraic_Kernel4Ideal_Reference4Ideal_pre_finite_heads (hKernel4Ideal := Cert.Kernel4Ideal.Gen.facts) (hReference4Ideal := Cert.Reference4Ideal.Gen.facts) (hPre_finite_heads := hp) := by
  intro m g m' g' hpre hagree
  refine ⟨fun c => (Cert.Kernel4Ideal.Gen.dats m 0 c).arrAt 5 Cert.Kernel4Ideal.cfg0.N, Cert.Kernel4Ideal.Gen.fox_run m g, ?_⟩
  refine (θ_run _ _ _).mono (fun r h c => ?_) (Cert.Reference4Ideal.Value.run (F := Ideal) m' g')
  obtain ⟨A, D⟩ := fox_data m hpre c
  obtain ⟨e, hr⟩ := h c
  obtain ⟨h0, h1, h2, h3⟩ := hagree c
  have D' : FoxData A (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1))
      (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) := by
    rw [h0, h1, h2, h3]; exact D
  obtain ⟨M, hM⟩ := Cert.Reference4Ideal.Read.ref_value A D'
  exact ⟨(e.trans (Cert.Reference4Ideal.Read.val_main_v33_eq m' c)).trans ((funext hM).trans (Cert.Kernel4Ideal.Gen.arr D M).symm), hr⟩

end Cert.Proof
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_inputs
public import proofs.«01_k».proof.Proof.Join
public import proofs.«01_k».proof.Proof.Gen.Kernel2
public import proofs.«01_k».proof.Proof.Gen.Kernel2Ideal
public import proofs.«01_k».proof.Proof.Gen.Reference2Ideal
public import proofs.«01_k».proof.Proof.Gen.Pre_finite_weights
public import proofs.«01_k».proof.Proof.ProjJoin
public import proofs.«01_k».proof.Proof.FirstJoin
public import proofs.«01_k».proof.Proof.FoxJoin
public import proofs.«01_k».proof.Proof.Gen.Kernel4
public import proofs.«01_k».proof.Proof.Gen.Kernel4Ideal
public import proofs.«01_k».proof.Proof.Gen.Kernel4Ideal.Skeleton
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_finite_heads
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_finite_weights0
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Pre_finite_inputs.Gen.facts, Cert.Pre_finite_weights.Gen.facts, Cert.Pre_finite_weights0.Gen.facts, Cert.Pre_finite_heads.Gen.facts,
  fun m g _ => Cert.Kernel.Gen.frame m g,
  fun m g _ => Cert.KernelIdeal.Gen.frame m g,
  fun m g _ => Cert.KernelIdeal.Gen.frame m g,
  ref_frame,
  ref_frame_finite,
  kernel2_frame,
  fun m g _ => Cert.Kernel2Ideal.Gen.frame m g,
  fun m g _ => Cert.Kernel2Ideal.Gen.frame m g,
  ref2_frame,
  letI := Cert.Pre_finite_weights.Gen.facts; ref2_frame_finite,
  kernel3_frame,
  fun m g _ => Cert.Kernel3Ideal.Gen.frame m g,
  fun m g _ => Cert.Kernel3Ideal.Gen.frame m g,
  ref3_frame,
  letI := Cert.Pre_finite_weights0.Gen.facts; ref3_frame_finite,
  kernel4_frame,
  fun m g _ => Cert.Kernel4Ideal.Gen.frame m g,
  fun m g _ => Cert.Kernel4Ideal.Gen.frame m g,
  ref4_frame,
  letI := Cert.Pre_finite_heads.Gen.facts; ref4_frame_finite,
  trivial,
  value,
  trivial,
  letI := Cert.Pre_finite_weights.Gen.facts; value2,
  trivial,
  letI := Cert.Pre_finite_weights0.Gen.facts; value3,
  mask_named,
  letI := Cert.Pre_finite_heads.Gen.facts; value4⟩

end Cert.Proof

end
